-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13)
      ∧ r.2.mem ((c.tc : Thread Cert.Kernel5.nD Cert.Kernel5.τ).loc Cert.Kernel5.main_arg14) = m ((c.tc : Thread Cert.Kernel5.nD Cert.Kernel5.τ).loc Cert.Kernel5.main_arg14)
      ∧ r.2.mem ((c.tc : Thread Cert.Kernel5.nD Cert.Kernel5.τ).loc Cert.Kernel5.main_arg15) = m ((c.tc : Thread Cert.Kernel5.nD Cert.Kernel5.τ).loc Cert.Kernel5.main_arg15)
      ∧ r.2.mem ((c.tc : Thread Cert.Kernel5.nD Cert.Kernel5.τ).loc Cert.Kernel5.main_arg16) = m ((c.tc : Thread Cert.Kernel5.nD Cert.Kernel5.τ).loc Cert.Kernel5.main_arg16)
      ∧ r.2.mem ((c.tc : Thread Cert.Kernel5.nD Cert.Kernel5.τ).loc Cert.Kernel5.main_arg17) = m ((c.tc : Thread Cert.Kernel5.nD Cert.Kernel5.τ).loc Cert.Kernel5.main_arg17)
      ∧ r.2.mem ((c.tc : Thread Cert.Kernel5.nD Cert.Kernel5.τ).loc Cert.Kernel5.main_arg18) = m ((c.tc : Thread Cert.Kernel5.nD Cert.Kernel5.τ).loc Cert.Kernel5.main_arg18)
      ∧ r.2.mem ((c.tc : Thread Cert.Kernel5.nD Cert.Kernel5.τ).loc Cert.Kernel5.main_arg19) = m ((c.tc : Thread Cert.Kernel5.nD Cert.Kernel5.τ).loc Cert.Kernel5.main_arg19)
      ∧ r.2.mem ((c.tc : Thread Cert.Kernel5.nD Cert.Kernel5.τ).loc Cert.Kernel5.main_arg20) = m ((c.tc : Thread Cert.Kernel5.nD Cert.Kernel5.τ).loc Cert.Kernel5.main_arg20)
      ∧ r.2.mem ((c.tc : Thread Cert.Kernel5.nD Cert.Kernel5.τ).loc Cert.Kernel5.main_arg21) = m ((c.tc : Thread Cert.Kernel5.nD Cert.Kernel5.τ).loc Cert.Kernel5.main_arg21)
      ∧ r.2.mem ((c.tc : Thread Cert.Kernel5.nD Cert.Kernel5.τ).loc Cert.Kernel5.main_arg22) = m ((c.tc : Thread Cert.Kernel5.nD Cert.Kernel5.τ).loc Cert.Kernel5.main_arg22)
      ∧ r.2.mem ((c.tc : Thread Cert.Kernel5.nD Cert.Kernel5.τ).loc Cert.Kernel5.main_arg23) = m ((c.tc : Thread Cert.Kernel5.nD Cert.Kernel5.τ).loc Cert.Kernel5.main_arg23))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
      ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
      ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16)
      ∧ r.2.mem ((c.tc : Thread Cert.Kernel5Ideal.nD Cert.Kernel5Ideal.τ).loc Cert.Kernel5Ideal.main_arg17) = m ((c.tc : Thread Cert.Kernel5Ideal.nD Cert.Kernel5Ideal.τ).loc Cert.Kernel5Ideal.main_arg17)
      ∧ r.2.mem ((c.tc : Thread Cert.Kernel5Ideal.nD Cert.Kernel5Ideal.τ).loc Cert.Kernel5Ideal.main_arg18) = m ((c.tc : Thread Cert.Kernel5Ideal.nD Cert.Kernel5Ideal.τ).loc Cert.Kernel5Ideal.main_arg18)
      ∧ r.2.mem ((c.tc : Thread Cert.Kernel5Ideal.nD Cert.Kernel5Ideal.τ).loc Cert.Kernel5Ideal.main_arg19) = m ((c.tc : Thread Cert.Kernel5Ideal.nD Cert.Kernel5Ideal.τ).loc Cert.Kernel5Ideal.main_arg19)
      ∧ r.2.mem ((c.tc : Thread Cert.Kernel5Ideal.nD Cert.Kernel5Ideal.τ).loc Cert.Kernel5Ideal.main_arg20) = m ((c.tc : Thread Cert.Kernel5Ideal.nD Cert.Kernel5Ideal.τ).loc Cert.Kernel5Ideal.main_arg20)
      ∧ r.2.mem ((c.tc : Thread Cert.Kernel5Ideal.nD Cert.Kernel5Ideal.τ).loc Cert.Kernel5Ideal.main_arg21) = m ((c.tc : Thread Cert.Kernel5Ideal.nD Cert.Kernel5Ideal.τ).loc Cert.Kernel5Ideal.main_arg21)
      ∧ r.2.mem ((c.tc : Thread Cert.Kernel5Ideal.nD Cert.Kernel5Ideal.τ).loc Cert.Kernel5Ideal.main_arg22) = m ((c.tc : Thread Cert.Kernel5Ideal.nD Cert.Kernel5Ideal.τ).loc Cert.Kernel5Ideal.main_arg22)
      ∧ r.2.mem ((c.tc : Thread Cert.Kernel5Ideal.nD Cert.Kernel5Ideal.τ).loc Cert.Kernel5Ideal.main_arg23) = m ((c.tc : Thread Cert.Kernel5Ideal.nD Cert.Kernel5Ideal.τ).loc Cert.Kernel5Ideal.main_arg23))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14)
      ∧ r.2.mem ((c.tc : Thread Cert.Reference5Ideal.nD Cert.Reference5Ideal.τ).loc Cert.Reference5Ideal.main_arg15) = m ((c.tc : Thread Cert.Reference5Ideal.nD Cert.Reference5Ideal.τ).loc Cert.Reference5Ideal.main_arg15)
      ∧ r.2.mem ((c.tc : Thread Cert.Reference5Ideal.nD Cert.Reference5Ideal.τ).loc Cert.Reference5Ideal.main_arg16) = m ((c.tc : Thread Cert.Reference5Ideal.nD Cert.Reference5Ideal.τ).loc Cert.Reference5Ideal.main_arg16)
      ∧ r.2.mem ((c.tc : Thread Cert.Reference5Ideal.nD Cert.Reference5Ideal.τ).loc Cert.Reference5Ideal.main_arg17) = m ((c.tc : Thread Cert.Reference5Ideal.nD Cert.Reference5Ideal.τ).loc Cert.Reference5Ideal.main_arg17)
      ∧ r.2.mem ((c.tc : Thread Cert.Reference5Ideal.nD Cert.Reference5Ideal.τ).loc Cert.Reference5Ideal.main_arg18) = m ((c.tc : Thread Cert.Reference5Ideal.nD Cert.Reference5Ideal.τ).loc Cert.Reference5Ideal.main_arg18)
      ∧ r.2.mem ((c.tc : Thread Cert.Reference5Ideal.nD Cert.Reference5Ideal.τ).loc Cert.Reference5Ideal.main_arg19) = m ((c.tc : Thread Cert.Reference5Ideal.nD Cert.Reference5Ideal.τ).loc Cert.Reference5Ideal.main_arg19)
      ∧ r.2.mem ((c.tc : Thread Cert.Reference5Ideal.nD Cert.Reference5Ideal.τ).loc Cert.Reference5Ideal.main_arg20) = m ((c.tc : Thread Cert.Reference5Ideal.nD Cert.Reference5Ideal.τ).loc Cert.Reference5Ideal.main_arg20)
      ∧ r.2.mem ((c.tc : Thread Cert.Reference5Ideal.nD Cert.Reference5Ideal.τ).loc Cert.Reference5Ideal.main_arg21) = m ((c.tc : Thread Cert.Reference5Ideal.nD Cert.Reference5Ideal.τ).loc Cert.Reference5Ideal.main_arg21)
      ∧ r.2.mem ((c.tc : Thread Cert.Reference5Ideal.nD Cert.Reference5Ideal.τ).loc Cert.Reference5Ideal.main_arg22) = m ((c.tc : Thread Cert.Reference5Ideal.nD Cert.Reference5Ideal.τ).loc Cert.Reference5Ideal.main_arg22)
      ∧ r.2.mem ((c.tc : Thread Cert.Reference5Ideal.nD Cert.Reference5Ideal.τ).loc Cert.Reference5Ideal.main_arg23) = m ((c.tc : Thread Cert.Reference5Ideal.nD Cert.Reference5Ideal.τ).loc Cert.Reference5Ideal.main_arg23))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_v120) = v1 c
          ∧ r.2.mem ((c.tc : Thread Cert.ReferenceIdeal.nD Cert.ReferenceIdeal.τ).loc Cert.ReferenceIdeal.main_v98) = v2 c
          ∧ r.2.mem ((c.tc : Thread Cert.ReferenceIdeal.nD Cert.ReferenceIdeal.τ).loc Cert.ReferenceIdeal.main_v141) = v3 c
          ∧ r.2.mem ((c.tc : Thread Cert.ReferenceIdeal.nD Cert.ReferenceIdeal.τ).loc Cert.ReferenceIdeal.main_v119) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)) (v2 : (c : Dev Cert.Kernel2Ideal.nD) → Buf (Elt Ideal) ((c.tc : Thread Cert.Kernel2Ideal.nD Cert.Kernel2Ideal.τ).loc Cert.Kernel2Ideal.main_v6_0)) (v3 : (c : Dev Cert.Kernel2Ideal.nD) → Buf (Elt Ideal) ((c.tc : Thread Cert.Kernel2Ideal.nD Cert.Kernel2Ideal.τ).loc Cert.Kernel2Ideal.main_v6_1)) (v4 : (c : Dev Cert.Kernel2Ideal.nD) → Buf (Elt Ideal) ((c.tc : Thread Cert.Kernel2Ideal.nD Cert.Kernel2Ideal.τ).loc Cert.Kernel2Ideal.main_v7_0)) (v5 : (c : Dev Cert.Kernel2Ideal.nD) → Buf (Elt Ideal) ((c.tc : Thread Cert.Kernel2Ideal.nD Cert.Kernel2Ideal.τ).loc Cert.Kernel2Ideal.main_v7_1)) (v6 : (c : Dev Cert.Kernel2Ideal.nD) → Buf (Elt Ideal) ((c.tc : Thread Cert.Kernel2Ideal.nD Cert.Kernel2Ideal.τ).loc Cert.Kernel2Ideal.main_v9_2)) (v7 : (c : Dev Cert.Kernel2Ideal.nD) → Buf (Elt Ideal) ((c.tc : Thread Cert.Kernel2Ideal.nD Cert.Kernel2Ideal.τ).loc Cert.Kernel2Ideal.main_v9_0)) (v8 : (c : Dev Cert.Kernel2Ideal.nD) → Buf (Elt Ideal) ((c.tc : Thread Cert.Kernel2Ideal.nD Cert.Kernel2Ideal.τ).loc Cert.Kernel2Ideal.main_v10_0)) (v9 : (c : Dev Cert.Kernel2Ideal.nD) → Buf (Elt Ideal) ((c.tc : Thread Cert.Kernel2Ideal.nD Cert.Kernel2Ideal.τ).loc Cert.Kernel2Ideal.main_v10_1)) (v10 : (c : Dev Cert.Kernel2Ideal.nD) → Buf (Elt Ideal) ((c.tc : Thread Cert.Kernel2Ideal.nD Cert.Kernel2Ideal.τ).loc Cert.Kernel2Ideal.main_v13_0)) (v11 : (c : Dev Cert.Kernel2Ideal.nD) → Buf (Elt Ideal) ((c.tc : Thread Cert.Kernel2Ideal.nD Cert.Kernel2Ideal.τ).loc Cert.Kernel2Ideal.main_v13_1)) (v12 : (c : Dev Cert.Kernel2Ideal.nD) → Buf (Elt Ideal) ((c.tc : Thread Cert.Kernel2Ideal.nD Cert.Kernel2Ideal.τ).loc Cert.Kernel2Ideal.main_v14_0)) (v13 : (c : Dev Cert.Kernel2Ideal.nD) → Buf (Elt Ideal) ((c.tc : Thread Cert.Kernel2Ideal.nD Cert.Kernel2Ideal.τ).loc Cert.Kernel2Ideal.main_v14_1)) (v14 : (c : Dev Cert.Kernel2Ideal.nD) → Buf (Elt Ideal) ((c.tc : Thread Cert.Kernel2Ideal.nD Cert.Kernel2Ideal.τ).loc Cert.Kernel2Ideal.main_v15_0)) (v15 : (c : Dev Cert.Kernel2Ideal.nD) → Buf (Elt Ideal) ((c.tc : Thread Cert.Kernel2Ideal.nD Cert.Kernel2Ideal.τ).loc Cert.Kernel2Ideal.main_v15_1)) (v16 : (c : Dev Cert.Kernel2Ideal.nD) → Buf (Elt Ideal) ((c.tc : Thread Cert.Kernel2Ideal.nD Cert.Kernel2Ideal.τ).loc Cert.Kernel2Ideal.main_v12_2)) (v17 : (c : Dev Cert.Kernel2Ideal.nD) → Buf (Elt Ideal) ((c.tc : Thread Cert.Kernel2Ideal.nD Cert.Kernel2Ideal.τ).loc Cert.Kernel2Ideal.main_v12_4)) (v18 : (c : Dev Cert.Kernel2Ideal.nD) → Buf (Elt Ideal) ((c.tc : Thread Cert.Kernel2Ideal.nD Cert.Kernel2Ideal.τ).loc Cert.Kernel2Ideal.main_v12_6)) (v19 : (c : Dev Cert.Kernel2Ideal.nD) → Buf (Elt Ideal) ((c.tc : Thread Cert.Kernel2Ideal.nD Cert.Kernel2Ideal.τ).loc Cert.Kernel2Ideal.main_v12_0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_v6_0) = v2 c
          ∧ r.2.mem ((c.tc : Thread Cert.Kernel2Ideal.nD Cert.Kernel2Ideal.τ).loc Cert.Kernel2Ideal.main_v6_1) = v3 c
          ∧ r.2.mem ((c.tc : Thread Cert.Kernel2Ideal.nD Cert.Kernel2Ideal.τ).loc Cert.Kernel2Ideal.main_v7_0) = v4 c
          ∧ r.2.mem ((c.tc : Thread Cert.Kernel2Ideal.nD Cert.Kernel2Ideal.τ).loc Cert.Kernel2Ideal.main_v7_1) = v5 c
          ∧ r.2.mem ((c.tc : Thread Cert.Kernel2Ideal.nD Cert.Kernel2Ideal.τ).loc Cert.Kernel2Ideal.main_v9_2) = v6 c
          ∧ r.2.mem ((c.tc : Thread Cert.Kernel2Ideal.nD Cert.Kernel2Ideal.τ).loc Cert.Kernel2Ideal.main_v9_0) = v7 c
          ∧ r.2.mem ((c.tc : Thread Cert.Kernel2Ideal.nD Cert.Kernel2Ideal.τ).loc Cert.Kernel2Ideal.main_v10_0) = v8 c
          ∧ r.2.mem ((c.tc : Thread Cert.Kernel2Ideal.nD Cert.Kernel2Ideal.τ).loc Cert.Kernel2Ideal.main_v10_1) = v9 c
          ∧ r.2.mem ((c.tc : Thread Cert.Kernel2Ideal.nD Cert.Kernel2Ideal.τ).loc Cert.Kernel2Ideal.main_v13_0) = v10 c
          ∧ r.2.mem ((c.tc : Thread Cert.Kernel2Ideal.nD Cert.Kernel2Ideal.τ).loc Cert.Kernel2Ideal.main_v13_1) = v11 c
          ∧ r.2.mem ((c.tc : Thread Cert.Kernel2Ideal.nD Cert.Kernel2Ideal.τ).loc Cert.Kernel2Ideal.main_v14_0) = v12 c
          ∧ r.2.mem ((c.tc : Thread Cert.Kernel2Ideal.nD Cert.Kernel2Ideal.τ).loc Cert.Kernel2Ideal.main_v14_1) = v13 c
          ∧ r.2.mem ((c.tc : Thread Cert.Kernel2Ideal.nD Cert.Kernel2Ideal.τ).loc Cert.Kernel2Ideal.main_v15_0) = v14 c
          ∧ r.2.mem ((c.tc : Thread Cert.Kernel2Ideal.nD Cert.Kernel2Ideal.τ).loc Cert.Kernel2Ideal.main_v15_1) = v15 c
          ∧ r.2.mem ((c.tc : Thread Cert.Kernel2Ideal.nD Cert.Kernel2Ideal.τ).loc Cert.Kernel2Ideal.main_v12_2) = v16 c
          ∧ r.2.mem ((c.tc : Thread Cert.Kernel2Ideal.nD Cert.Kernel2Ideal.τ).loc Cert.Kernel2Ideal.main_v12_4) = v17 c
          ∧ r.2.mem ((c.tc : Thread Cert.Kernel2Ideal.nD Cert.Kernel2Ideal.τ).loc Cert.Kernel2Ideal.main_v12_6) = v18 c
          ∧ r.2.mem ((c.tc : Thread Cert.Kernel2Ideal.nD Cert.Kernel2Ideal.τ).loc Cert.Kernel2Ideal.main_v12_0) = v19 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v78) = v0 c
          ∧ r.2.mem ((c.tc : Thread Cert.Reference2Ideal.nD Cert.Reference2Ideal.τ).loc Cert.Reference2Ideal.main_v131) = v1 c
          ∧ r.2.mem ((c.tc : Thread Cert.Reference2Ideal.nD Cert.Reference2Ideal.τ).loc Cert.Reference2Ideal.main_v132) = v2 c
          ∧ r.2.mem ((c.tc : Thread Cert.Reference2Ideal.nD Cert.Reference2Ideal.τ).loc Cert.Reference2Ideal.main_v133) = v3 c
          ∧ r.2.mem ((c.tc : Thread Cert.Reference2Ideal.nD Cert.Reference2Ideal.τ).loc Cert.Reference2Ideal.main_v134) = v4 c
          ∧ r.2.mem ((c.tc : Thread Cert.Reference2Ideal.nD Cert.Reference2Ideal.τ).loc Cert.Reference2Ideal.main_v135) = v5 c
          ∧ r.2.mem ((c.tc : Thread Cert.Reference2Ideal.nD Cert.Reference2Ideal.τ).loc Cert.Reference2Ideal.main_v108) = v6 c
          ∧ r.2.mem ((c.tc : Thread Cert.Reference2Ideal.nD Cert.Reference2Ideal.τ).loc Cert.Reference2Ideal.main_v107) = v7 c
          ∧ r.2.mem ((c.tc : Thread Cert.Reference2Ideal.nD Cert.Reference2Ideal.τ).loc Cert.Reference2Ideal.main_v110) = v8 c
          ∧ r.2.mem ((c.tc : Thread Cert.Reference2Ideal.nD Cert.Reference2Ideal.τ).loc Cert.Reference2Ideal.main_v136) = v9 c
          ∧ r.2.mem ((c.tc : Thread Cert.Reference2Ideal.nD Cert.Reference2Ideal.τ).loc Cert.Reference2Ideal.main_v127) = v10 c
          ∧ r.2.mem ((c.tc : Thread Cert.Reference2Ideal.nD Cert.Reference2Ideal.τ).loc Cert.Reference2Ideal.main_v137) = v11 c
          ∧ r.2.mem ((c.tc : Thread Cert.Reference2Ideal.nD Cert.Reference2Ideal.τ).loc Cert.Reference2Ideal.main_v121) = v12 c
          ∧ r.2.mem ((c.tc : Thread Cert.Reference2Ideal.nD Cert.Reference2Ideal.τ).loc Cert.Reference2Ideal.main_v138) = v13 c
          ∧ r.2.mem ((c.tc : Thread Cert.Reference2Ideal.nD Cert.Reference2Ideal.τ).loc Cert.Reference2Ideal.main_v115) = v14 c
          ∧ r.2.mem ((c.tc : Thread Cert.Reference2Ideal.nD Cert.Reference2Ideal.τ).loc Cert.Reference2Ideal.main_v139) = v15 c
          ∧ r.2.mem ((c.tc : Thread Cert.Reference2Ideal.nD Cert.Reference2Ideal.τ).loc Cert.Reference2Ideal.main_v128) = v16 c
          ∧ r.2.mem ((c.tc : Thread Cert.Reference2Ideal.nD Cert.Reference2Ideal.τ).loc Cert.Reference2Ideal.main_v122) = v17 c
          ∧ r.2.mem ((c.tc : Thread Cert.Reference2Ideal.nD Cert.Reference2Ideal.τ).loc Cert.Reference2Ideal.main_v116) = v18 c
          ∧ r.2.mem ((c.tc : Thread Cert.Reference2Ideal.nD Cert.Reference2Ideal.τ).loc Cert.Reference2Ideal.main_v140) = v19 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v1)) (v1 : (c : Dev Cert.Kernel4Ideal.nD) → Buf (Elt Ideal) ((c.tc : Thread Cert.Kernel4Ideal.nD Cert.Kernel4Ideal.τ).loc Cert.Kernel4Ideal.main_v2_0)) (v2 : (c : Dev Cert.Kernel4Ideal.nD) → Buf (Elt Ideal) ((c.tc : Thread Cert.Kernel4Ideal.nD Cert.Kernel4Ideal.τ).loc Cert.Kernel4Ideal.main_v2_1)) (v3 : (c : Dev Cert.Kernel4Ideal.nD) → Buf (Elt Ideal) ((c.tc : Thread Cert.Kernel4Ideal.nD Cert.Kernel4Ideal.τ).loc Cert.Kernel4Ideal.main_v3_0)) (v4 : (c : Dev Cert.Kernel4Ideal.nD) → Buf (Elt Ideal) ((c.tc : Thread Cert.Kernel4Ideal.nD Cert.Kernel4Ideal.τ).loc Cert.Kernel4Ideal.main_v3_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_v2_0) = v1 c
          ∧ r.2.mem ((c.tc : Thread Cert.Kernel4Ideal.nD Cert.Kernel4Ideal.τ).loc Cert.Kernel4Ideal.main_v2_1) = v2 c
          ∧ r.2.mem ((c.tc : Thread Cert.Kernel4Ideal.nD Cert.Kernel4Ideal.τ).loc Cert.Kernel4Ideal.main_v3_0) = v3 c
          ∧ r.2.mem ((c.tc : Thread Cert.Kernel4Ideal.nD Cert.Kernel4Ideal.τ).loc Cert.Kernel4Ideal.main_v3_1) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v43) = v0 c
          ∧ r.2.mem ((c.tc : Thread Cert.Reference4Ideal.nD Cert.Reference4Ideal.τ).loc Cert.Reference4Ideal.main_v21) = v1 c
          ∧ r.2.mem ((c.tc : Thread Cert.Reference4Ideal.nD Cert.Reference4Ideal.τ).loc Cert.Reference4Ideal.main_v44) = v2 c
          ∧ r.2.mem ((c.tc : Thread Cert.Reference4Ideal.nD Cert.Reference4Ideal.τ).loc Cert.Reference4Ideal.main_v45) = v3 c
          ∧ r.2.mem ((c.tc : Thread Cert.Reference4Ideal.nD Cert.Reference4Ideal.τ).loc Cert.Reference4Ideal.main_v42) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)
      ∧ m' ((c.tc : Thread Cert.Reference5Ideal.nD Cert.Reference5Ideal.τ).loc Cert.Reference5Ideal.main_arg14) = m ((c.tc : Thread Cert.Kernel5Ideal.nD Cert.Kernel5Ideal.τ).loc Cert.Kernel5Ideal.main_arg14)
      ∧ m' ((c.tc : Thread Cert.Reference5Ideal.nD Cert.Reference5Ideal.τ).loc Cert.Reference5Ideal.main_arg15) = m ((c.tc : Thread Cert.Kernel5Ideal.nD Cert.Kernel5Ideal.τ).loc Cert.Kernel5Ideal.main_arg15)
      ∧ m' ((c.tc : Thread Cert.Reference5Ideal.nD Cert.Reference5Ideal.τ).loc Cert.Reference5Ideal.main_arg16) = m ((c.tc : Thread Cert.Kernel5Ideal.nD Cert.Kernel5Ideal.τ).loc Cert.Kernel5Ideal.main_arg16)
      ∧ m' ((c.tc : Thread Cert.Reference5Ideal.nD Cert.Reference5Ideal.τ).loc Cert.Reference5Ideal.main_arg17) = m ((c.tc : Thread Cert.Kernel5Ideal.nD Cert.Kernel5Ideal.τ).loc Cert.Kernel5Ideal.main_arg17)
      ∧ m' ((c.tc : Thread Cert.Reference5Ideal.nD Cert.Reference5Ideal.τ).loc Cert.Reference5Ideal.main_arg18) = m ((c.tc : Thread Cert.Kernel5Ideal.nD Cert.Kernel5Ideal.τ).loc Cert.Kernel5Ideal.main_arg18)
      ∧ m' ((c.tc : Thread Cert.Reference5Ideal.nD Cert.Reference5Ideal.τ).loc Cert.Reference5Ideal.main_arg19) = m ((c.tc : Thread Cert.Kernel5Ideal.nD Cert.Kernel5Ideal.τ).loc Cert.Kernel5Ideal.main_arg19)
      ∧ m' ((c.tc : Thread Cert.Reference5Ideal.nD Cert.Reference5Ideal.τ).loc Cert.Reference5Ideal.main_arg20) = m ((c.tc : Thread Cert.Kernel5Ideal.nD Cert.Kernel5Ideal.τ).loc Cert.Kernel5Ideal.main_arg20)
      ∧ m' ((c.tc : Thread Cert.Reference5Ideal.nD Cert.Reference5Ideal.τ).loc Cert.Reference5Ideal.main_arg21) = m ((c.tc : Thread Cert.Kernel5Ideal.nD Cert.Kernel5Ideal.τ).loc Cert.Kernel5Ideal.main_arg21)
      ∧ m' ((c.tc : Thread Cert.Reference5Ideal.nD Cert.Reference5Ideal.τ).loc Cert.Reference5Ideal.main_arg22) = m ((c.tc : Thread Cert.Kernel5Ideal.nD Cert.Kernel5Ideal.τ).loc Cert.Kernel5Ideal.main_arg22)
      ∧ m' ((c.tc : Thread Cert.Reference5Ideal.nD Cert.Reference5Ideal.τ).loc Cert.Reference5Ideal.main_arg23) = m ((c.tc : Thread Cert.Kernel5Ideal.nD Cert.Kernel5Ideal.τ).loc Cert.Kernel5Ideal.main_arg23)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)) (v4 : (c : Dev Cert.Kernel5Ideal.nD) → Buf (Elt Ideal) ((c.tc : Thread Cert.Kernel5Ideal.nD Cert.Kernel5Ideal.τ).loc Cert.Kernel5Ideal.main_v1_0)) (v5 : (c : Dev Cert.Kernel5Ideal.nD) → Buf (Elt Ideal) ((c.tc : Thread Cert.Kernel5Ideal.nD Cert.Kernel5Ideal.τ).loc Cert.Kernel5Ideal.main_v1_1)) (v6 : (c : Dev Cert.Kernel5Ideal.nD) → Buf (Elt Ideal) ((c.tc : Thread Cert.Kernel5Ideal.nD Cert.Kernel5Ideal.τ).loc Cert.Kernel5Ideal.main_v1_2)) (v7 : (c : Dev Cert.Kernel5Ideal.nD) → Buf (Elt Ideal) ((c.tc : Thread Cert.Kernel5Ideal.nD Cert.Kernel5Ideal.τ).loc Cert.Kernel5Ideal.main_v1_3)) (v8 : (c : Dev Cert.Kernel5Ideal.nD) → Buf (Elt Ideal) ((c.tc : Thread Cert.Kernel5Ideal.nD Cert.Kernel5Ideal.τ).loc Cert.Kernel5Ideal.main_v2_0)) (v9 : (c : Dev Cert.Kernel5Ideal.nD) → Buf (Elt Ideal) ((c.tc : Thread Cert.Kernel5Ideal.nD Cert.Kernel5Ideal.τ).loc Cert.Kernel5Ideal.main_v2_1)) (v10 : (c : Dev Cert.Kernel5Ideal.nD) → Buf (Elt Ideal) ((c.tc : Thread Cert.Kernel5Ideal.nD Cert.Kernel5Ideal.τ).loc Cert.Kernel5Ideal.main_v2_2)) (v11 : (c : Dev Cert.Kernel5Ideal.nD) → Buf (Elt Ideal) ((c.tc : Thread Cert.Kernel5Ideal.nD Cert.Kernel5Ideal.τ).loc Cert.Kernel5Ideal.main_v2_3)) (v12 : (c : Dev Cert.Kernel5Ideal.nD) → Buf (Elt Ideal) ((c.tc : Thread Cert.Kernel5Ideal.nD Cert.Kernel5Ideal.τ).loc Cert.Kernel5Ideal.main_v3_0)) (v13 : (c : Dev Cert.Kernel5Ideal.nD) → Buf (Elt Ideal) ((c.tc : Thread Cert.Kernel5Ideal.nD Cert.Kernel5Ideal.τ).loc Cert.Kernel5Ideal.main_v3_1)) (v14 : (c : Dev Cert.Kernel5Ideal.nD) → Buf (Elt Ideal) ((c.tc : Thread Cert.Kernel5Ideal.nD Cert.Kernel5Ideal.τ).loc Cert.Kernel5Ideal.main_v3_2)) (v15 : (c : Dev Cert.Kernel5Ideal.nD) → Buf (Elt Ideal) ((c.tc : Thread Cert.Kernel5Ideal.nD Cert.Kernel5Ideal.τ).loc Cert.Kernel5Ideal.main_v3_3)) (v16 : (c : Dev Cert.Kernel5Ideal.nD) → Buf (Elt Ideal) ((c.tc : Thread Cert.Kernel5Ideal.nD Cert.Kernel5Ideal.τ).loc Cert.Kernel5Ideal.main_v4_0)) (v17 : (c : Dev Cert.Kernel5Ideal.nD) → Buf (Elt Ideal) ((c.tc : Thread Cert.Kernel5Ideal.nD Cert.Kernel5Ideal.τ).loc Cert.Kernel5Ideal.main_v4_1)) (v18 : (c : Dev Cert.Kernel5Ideal.nD) → Buf (Elt Ideal) ((c.tc : Thread Cert.Kernel5Ideal.nD Cert.Kernel5Ideal.τ).loc Cert.Kernel5Ideal.main_v4_2)) (v19 : (c : Dev Cert.Kernel5Ideal.nD) → Buf (Elt Ideal) ((c.tc : Thread Cert.Kernel5Ideal.nD Cert.Kernel5Ideal.τ).loc Cert.Kernel5Ideal.main_v4_3)) (v20 : (c : Dev Cert.Kernel5Ideal.nD) → Buf (Elt Ideal) ((c.tc : Thread Cert.Kernel5Ideal.nD Cert.Kernel5Ideal.τ).loc Cert.Kernel5Ideal.main_v5_0)) (v21 : (c : Dev Cert.Kernel5Ideal.nD) → Buf (Elt Ideal) ((c.tc : Thread Cert.Kernel5Ideal.nD Cert.Kernel5Ideal.τ).loc Cert.Kernel5Ideal.main_v5_1)) (v22 : (c : Dev Cert.Kernel5Ideal.nD) → Buf (Elt Ideal) ((c.tc : Thread Cert.Kernel5Ideal.nD Cert.Kernel5Ideal.τ).loc Cert.Kernel5Ideal.main_v5_2)) (v23 : (c : Dev Cert.Kernel5Ideal.nD) → Buf (Elt Ideal) ((c.tc : Thread Cert.Kernel5Ideal.nD Cert.Kernel5Ideal.τ).loc Cert.Kernel5Ideal.main_v5_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_v1_0) = v4 c
          ∧ r.2.mem ((c.tc : Thread Cert.Kernel5Ideal.nD Cert.Kernel5Ideal.τ).loc Cert.Kernel5Ideal.main_v1_1) = v5 c
          ∧ r.2.mem ((c.tc : Thread Cert.Kernel5Ideal.nD Cert.Kernel5Ideal.τ).loc Cert.Kernel5Ideal.main_v1_2) = v6 c
          ∧ r.2.mem ((c.tc : Thread Cert.Kernel5Ideal.nD Cert.Kernel5Ideal.τ).loc Cert.Kernel5Ideal.main_v1_3) = v7 c
          ∧ r.2.mem ((c.tc : Thread Cert.Kernel5Ideal.nD Cert.Kernel5Ideal.τ).loc Cert.Kernel5Ideal.main_v2_0) = v8 c
          ∧ r.2.mem ((c.tc : Thread Cert.Kernel5Ideal.nD Cert.Kernel5Ideal.τ).loc Cert.Kernel5Ideal.main_v2_1) = v9 c
          ∧ r.2.mem ((c.tc : Thread Cert.Kernel5Ideal.nD Cert.Kernel5Ideal.τ).loc Cert.Kernel5Ideal.main_v2_2) = v10 c
          ∧ r.2.mem ((c.tc : Thread Cert.Kernel5Ideal.nD Cert.Kernel5Ideal.τ).loc Cert.Kernel5Ideal.main_v2_3) = v11 c
          ∧ r.2.mem ((c.tc : Thread Cert.Kernel5Ideal.nD Cert.Kernel5Ideal.τ).loc Cert.Kernel5Ideal.main_v3_0) = v12 c
          ∧ r.2.mem ((c.tc : Thread Cert.Kernel5Ideal.nD Cert.Kernel5Ideal.τ).loc Cert.Kernel5Ideal.main_v3_1) = v13 c
          ∧ r.2.mem ((c.tc : Thread Cert.Kernel5Ideal.nD Cert.Kernel5Ideal.τ).loc Cert.Kernel5Ideal.main_v3_2) = v14 c
          ∧ r.2.mem ((c.tc : Thread Cert.Kernel5Ideal.nD Cert.Kernel5Ideal.τ).loc Cert.Kernel5Ideal.main_v3_3) = v15 c
          ∧ r.2.mem ((c.tc : Thread Cert.Kernel5Ideal.nD Cert.Kernel5Ideal.τ).loc Cert.Kernel5Ideal.main_v4_0) = v16 c
          ∧ r.2.mem ((c.tc : Thread Cert.Kernel5Ideal.nD Cert.Kernel5Ideal.τ).loc Cert.Kernel5Ideal.main_v4_1) = v17 c
          ∧ r.2.mem ((c.tc : Thread Cert.Kernel5Ideal.nD Cert.Kernel5Ideal.τ).loc Cert.Kernel5Ideal.main_v4_2) = v18 c
          ∧ r.2.mem ((c.tc : Thread Cert.Kernel5Ideal.nD Cert.Kernel5Ideal.τ).loc Cert.Kernel5Ideal.main_v4_3) = v19 c
          ∧ r.2.mem ((c.tc : Thread Cert.Kernel5Ideal.nD Cert.Kernel5Ideal.τ).loc Cert.Kernel5Ideal.main_v5_0) = v20 c
          ∧ r.2.mem ((c.tc : Thread Cert.Kernel5Ideal.nD Cert.Kernel5Ideal.τ).loc Cert.Kernel5Ideal.main_v5_1) = v21 c
          ∧ r.2.mem ((c.tc : Thread Cert.Kernel5Ideal.nD Cert.Kernel5Ideal.τ).loc Cert.Kernel5Ideal.main_v5_2) = v22 c
          ∧ r.2.mem ((c.tc : Thread Cert.Kernel5Ideal.nD Cert.Kernel5Ideal.τ).loc Cert.Kernel5Ideal.main_v5_3) = v23 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
          ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
          ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
          ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16)
          ∧ r.2.mem ((c.tc : Thread Cert.Kernel5Ideal.nD Cert.Kernel5Ideal.τ).loc Cert.Kernel5Ideal.main_arg17) = m ((c.tc : Thread Cert.Kernel5Ideal.nD Cert.Kernel5Ideal.τ).loc Cert.Kernel5Ideal.main_arg17)
          ∧ r.2.mem ((c.tc : Thread Cert.Kernel5Ideal.nD Cert.Kernel5Ideal.τ).loc Cert.Kernel5Ideal.main_arg18) = m ((c.tc : Thread Cert.Kernel5Ideal.nD Cert.Kernel5Ideal.τ).loc Cert.Kernel5Ideal.main_arg18)
          ∧ r.2.mem ((c.tc : Thread Cert.Kernel5Ideal.nD Cert.Kernel5Ideal.τ).loc Cert.Kernel5Ideal.main_arg19) = m ((c.tc : Thread Cert.Kernel5Ideal.nD Cert.Kernel5Ideal.τ).loc Cert.Kernel5Ideal.main_arg19)
          ∧ r.2.mem ((c.tc : Thread Cert.Kernel5Ideal.nD Cert.Kernel5Ideal.τ).loc Cert.Kernel5Ideal.main_arg20) = m ((c.tc : Thread Cert.Kernel5Ideal.nD Cert.Kernel5Ideal.τ).loc Cert.Kernel5Ideal.main_arg20)
          ∧ r.2.mem ((c.tc : Thread Cert.Kernel5Ideal.nD Cert.Kernel5Ideal.τ).loc Cert.Kernel5Ideal.main_arg21) = m ((c.tc : Thread Cert.Kernel5Ideal.nD Cert.Kernel5Ideal.τ).loc Cert.Kernel5Ideal.main_arg21)
          ∧ r.2.mem ((c.tc : Thread Cert.Kernel5Ideal.nD Cert.Kernel5Ideal.τ).loc Cert.Kernel5Ideal.main_arg22) = m ((c.tc : Thread Cert.Kernel5Ideal.nD Cert.Kernel5Ideal.τ).loc Cert.Kernel5Ideal.main_arg22)
          ∧ r.2.mem ((c.tc : Thread Cert.Kernel5Ideal.nD Cert.Kernel5Ideal.τ).loc Cert.Kernel5Ideal.main_arg23) = m ((c.tc : Thread Cert.Kernel5Ideal.nD Cert.Kernel5Ideal.τ).loc Cert.Kernel5Ideal.main_arg23))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_v4) = v1 c
          ∧ r.2.mem ((c.tc : Thread Cert.Reference5Ideal.nD Cert.Reference5Ideal.τ).loc Cert.Reference5Ideal.main_v10) = v2 c
          ∧ r.2.mem ((c.tc : Thread Cert.Reference5Ideal.nD Cert.Reference5Ideal.τ).loc Cert.Reference5Ideal.main_arg1) = v3 c
          ∧ r.2.mem ((c.tc : Thread Cert.Reference5Ideal.nD Cert.Reference5Ideal.τ).loc Cert.Reference5Ideal.main_v47) = v4 c
          ∧ r.2.mem ((c.tc : Thread Cert.Reference5Ideal.nD Cert.Reference5Ideal.τ).loc Cert.Reference5Ideal.main_v28) = v5 c
          ∧ r.2.mem ((c.tc : Thread Cert.Reference5Ideal.nD Cert.Reference5Ideal.τ).loc Cert.Reference5Ideal.main_v34) = v6 c
          ∧ r.2.mem ((c.tc : Thread Cert.Reference5Ideal.nD Cert.Reference5Ideal.τ).loc Cert.Reference5Ideal.main_arg5) = v7 c
          ∧ r.2.mem ((c.tc : Thread Cert.Reference5Ideal.nD Cert.Reference5Ideal.τ).loc Cert.Reference5Ideal.main_v71) = v8 c
          ∧ r.2.mem ((c.tc : Thread Cert.Reference5Ideal.nD Cert.Reference5Ideal.τ).loc Cert.Reference5Ideal.main_v52) = v9 c
          ∧ r.2.mem ((c.tc : Thread Cert.Reference5Ideal.nD Cert.Reference5Ideal.τ).loc Cert.Reference5Ideal.main_v58) = v10 c
          ∧ r.2.mem ((c.tc : Thread Cert.Reference5Ideal.nD Cert.Reference5Ideal.τ).loc Cert.Reference5Ideal.main_arg9) = v11 c
          ∧ r.2.mem ((c.tc : Thread Cert.Reference5Ideal.nD Cert.Reference5Ideal.τ).loc Cert.Reference5Ideal.main_v95) = v12 c
          ∧ r.2.mem ((c.tc : Thread Cert.Reference5Ideal.nD Cert.Reference5Ideal.τ).loc Cert.Reference5Ideal.main_v76) = v13 c
          ∧ r.2.mem ((c.tc : Thread Cert.Reference5Ideal.nD Cert.Reference5Ideal.τ).loc Cert.Reference5Ideal.main_v82) = v14 c
          ∧ r.2.mem ((c.tc : Thread Cert.Reference5Ideal.nD Cert.Reference5Ideal.τ).loc Cert.Reference5Ideal.main_arg13) = v15 c
          ∧ r.2.mem ((c.tc : Thread Cert.Reference5Ideal.nD Cert.Reference5Ideal.τ).loc Cert.Reference5Ideal.main_v119) = v16 c
          ∧ r.2.mem ((c.tc : Thread Cert.Reference5Ideal.nD Cert.Reference5Ideal.τ).loc Cert.Reference5Ideal.main_v100) = v17 c
          ∧ r.2.mem ((c.tc : Thread Cert.Reference5Ideal.nD Cert.Reference5Ideal.τ).loc Cert.Reference5Ideal.main_v106) = v18 c
          ∧ r.2.mem ((c.tc : Thread Cert.Reference5Ideal.nD Cert.Reference5Ideal.τ).loc Cert.Reference5Ideal.main_arg17) = v19 c
          ∧ r.2.mem ((c.tc : Thread Cert.Reference5Ideal.nD Cert.Reference5Ideal.τ).loc Cert.Reference5Ideal.main_v143) = v20 c
          ∧ r.2.mem ((c.tc : Thread Cert.Reference5Ideal.nD Cert.Reference5Ideal.τ).loc Cert.Reference5Ideal.main_v124) = v21 c
          ∧ r.2.mem ((c.tc : Thread Cert.Reference5Ideal.nD Cert.Reference5Ideal.τ).loc Cert.Reference5Ideal.main_v130) = v22 c
          ∧ r.2.mem ((c.tc : Thread Cert.Reference5Ideal.nD Cert.Reference5Ideal.τ).loc Cert.Reference5Ideal.main_arg21) = v23 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13)
          ∧ r.2.mem ((c.tc : Thread Cert.Reference5Ideal.nD Cert.Reference5Ideal.τ).loc Cert.Reference5Ideal.main_arg14) = m' ((c.tc : Thread Cert.Reference5Ideal.nD Cert.Reference5Ideal.τ).loc Cert.Reference5Ideal.main_arg14)
          ∧ r.2.mem ((c.tc : Thread Cert.Reference5Ideal.nD Cert.Reference5Ideal.τ).loc Cert.Reference5Ideal.main_arg15) = m' ((c.tc : Thread Cert.Reference5Ideal.nD Cert.Reference5Ideal.τ).loc Cert.Reference5Ideal.main_arg15)
          ∧ r.2.mem ((c.tc : Thread Cert.Reference5Ideal.nD Cert.Reference5Ideal.τ).loc Cert.Reference5Ideal.main_arg16) = m' ((c.tc : Thread Cert.Reference5Ideal.nD Cert.Reference5Ideal.τ).loc Cert.Reference5Ideal.main_arg16)
          ∧ r.2.mem ((c.tc : Thread Cert.Reference5Ideal.nD Cert.Reference5Ideal.τ).loc Cert.Reference5Ideal.main_arg17) = m' ((c.tc : Thread Cert.Reference5Ideal.nD Cert.Reference5Ideal.τ).loc Cert.Reference5Ideal.main_arg17)
          ∧ r.2.mem ((c.tc : Thread Cert.Reference5Ideal.nD Cert.Reference5Ideal.τ).loc Cert.Reference5Ideal.main_arg18) = m' ((c.tc : Thread Cert.Reference5Ideal.nD Cert.Reference5Ideal.τ).loc Cert.Reference5Ideal.main_arg18)
          ∧ r.2.mem ((c.tc : Thread Cert.Reference5Ideal.nD Cert.Reference5Ideal.τ).loc Cert.Reference5Ideal.main_arg19) = m' ((c.tc : Thread Cert.Reference5Ideal.nD Cert.Reference5Ideal.τ).loc Cert.Reference5Ideal.main_arg19)
          ∧ r.2.mem ((c.tc : Thread Cert.Reference5Ideal.nD Cert.Reference5Ideal.τ).loc Cert.Reference5Ideal.main_arg20) = m' ((c.tc : Thread Cert.Reference5Ideal.nD Cert.Reference5Ideal.τ).loc Cert.Reference5Ideal.main_arg20)
          ∧ r.2.mem ((c.tc : Thread Cert.Reference5Ideal.nD Cert.Reference5Ideal.τ).loc Cert.Reference5Ideal.main_arg21) = m' ((c.tc : Thread Cert.Reference5Ideal.nD Cert.Reference5Ideal.τ).loc Cert.Reference5Ideal.main_arg21)
          ∧ r.2.mem ((c.tc : Thread Cert.Reference5Ideal.nD Cert.Reference5Ideal.τ).loc Cert.Reference5Ideal.main_arg22) = m' ((c.tc : Thread Cert.Reference5Ideal.nD Cert.Reference5Ideal.τ).loc Cert.Reference5Ideal.main_arg22)
          ∧ r.2.mem ((c.tc : Thread Cert.Reference5Ideal.nD Cert.Reference5Ideal.τ).loc Cert.Reference5Ideal.main_arg23) = m' ((c.tc : Thread Cert.Reference5Ideal.nD Cert.Reference5Ideal.τ).loc Cert.Reference5Ideal.main_arg23))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v37) = v0 c
          ∧ r.2.mem ((c.tc : Thread Cert.Reference6Ideal.nD Cert.Reference6Ideal.τ).loc Cert.Reference6Ideal.main_v39) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S4096x512 : Shape := ⟨2, ![4096, 512]⟩
abbrev S4096x13312 : Shape := ⟨2, ![4096, 13312]⟩
abbrev S256x1024 : Shape := ⟨2, ![256, 1024]⟩
abbrev S1x128 : Shape := ⟨2, ![1, 128]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bitsLt_bf16_f32 : FTy.bits .bf16 < FTy.bits .f32
  bcast_S_S4096x13312 : S_.BroadcastsInDim S4096x13312 (![] : Fin 0 → Fin S4096x13312.rank)
  reducesTo_S4096x13312_S_d0_1 : S4096x13312.ReducesTo [0, 1] S_
  bcast_S_S256x1024 : S_.BroadcastsInDim S256x1024 (![] : Fin 0 → Fin S256x1024.rank)
  reducesTo_S256x1024_S_d0_1 : S256x1024.ReducesTo [0, 1] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_arg4 : FVec F S1x128 .f32) (main_v14 : IVec S_ 1) (main_v15 : FVec F S1x128 .f32) (main_v16 : FVec F S1x128 .f32) : IVec S_ 1 :=
  let main_v17 : IVec S1x128 1 := cmpf .olt main_v15 main_v16
  let main_c_5 : IVec S_ 1 := constantI S_ 1 1#1
  let main_v18 : IVec S_ 1 := (fun x v => Host.reduce IntOp.andi x v reducesTo_S1x128_S_d0_1 h_S_) main_v17 main_c_5
  let main_v19 : IVec S_ 1 := andi main_v14 main_v18
  let main_v20 : FVec F S1x128 .f32 := Host.absf main_arg4
  let main_cst_6 : FVec F S_ .f32 := constant S_ .f32 0x7F800000#32
  let main_v21 : FVec F S1x128 .f32 := broadcastInDim S1x128 ![] bcast_S_S1x128 main_cst_6
  let main_v22 : IVec S1x128 1 := cmpf .olt main_v20 main_v21
  let main_c_7 : IVec S_ 1 := constantI S_ 1 1#1
  let main_v23 : IVec S_ 1 := (fun x v => Host.reduce IntOp.andi x v reducesTo_S1x128_S_d0_1 h_S_) main_v22 main_c_7
  let main_v24 : IVec S_ 1 := andi main_v19 main_v23
  main_v24

def fn {F : FTy → Type} [FloatOps F] (main_arg0 : FVec F S4096x512 .f32) (main_arg1 : FVec F S4096x13312 .bf16) (main_arg2 : FVec F S256x1024 .f32) (main_arg3 : FVec F S1x128 .f32) (main_arg4 : FVec F S1x128 .f32) (main_arg5 : FVec F S4096x13312 .bf16) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x13312 .f32 := (extf .f32 · bitsLt_bf16_f32) main_arg1
  let main_v5 : FVec F S4096x13312 .f32 := Host.absf main_v4
  let main_cst_0 : FVec F S_ .f32 := constant S_ .f32 0x7F800000#32
  let main_v6 : FVec F S4096x13312 .f32 := broadcastInDim S4096x13312 ![] bcast_S_S4096x13312 main_cst_0
  let main_v7 : IVec S4096x13312 1 := cmpf .olt main_v5 main_v6
  let main_c_1 : IVec S_ 1 := constantI S_ 1 1#1
  let main_v8 : IVec S_ 1 := (fun x v => Host.reduce IntOp.andi x v reducesTo_S4096x13312_S_d0_1 h_S_) main_v7 main_c_1
  let main_v9 : IVec S_ 1 := andi main_v3 main_v8
  let main_v10 : FVec F S256x1024 .f32 := Host.absf main_arg2
  let main_cst_2 : FVec F S_ .f32 := constant S_ .f32 0x7F800000#32
  let main_v11 : FVec F S256x1024 .f32 := broadcastInDim S256x1024 ![] bcast_S_S256x1024 main_cst_2
  let main_v12 : IVec S256x1024 1 := cmpf .olt main_v10 main_v11
  let main_c_3 : IVec S_ 1 := constantI S_ 1 1#1
  let main_v13 : IVec S_ 1 := (fun x v => Host.reduce IntOp.andi x v reducesTo_S256x1024_S_d0_1 h_S_) main_v12 main_c_3
  let main_v14 : IVec S_ 1 := andi main_v9 main_v13
  let main_v15 : FVec F S1x128 .f32 := Host.absf main_arg3
  let main_cst_4 : FVec F S_ .f32 := constant S_ .f32 0x7F800000#32
  let main_v16 : FVec F S1x128 .f32 := broadcastInDim S1x128 ![] bcast_S_S1x128 main_cst_4
  fn_part1 (F := F) main_arg4 main_v14 main_v15 main_v16
-- ==== Pre_finite2.lean ====
abbrev S4096x1024 : Shape := ⟨2, ![4096, 1024]⟩
abbrev S4096x512 : Shape := ⟨2, ![4096, 512]⟩
abbrev S4096x13312 : Shape := ⟨2, ![4096, 13312]⟩
abbrev S1024x1024 : Shape := ⟨2, ![1024, 1024]⟩
abbrev S512x1024 : Shape := ⟨2, ![512, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S4096x13312 : S_.BroadcastsInDim S4096x13312 (![] : Fin 0 → Fin S4096x13312.rank)
  reducesTo_S4096x13312_S_d0_1 : S4096x13312.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S512x1024 : S_.BroadcastsInDim S512x1024 (![] : Fin 0 → Fin S512x1024.rank)
  reducesTo_S512x1024_S_d0_1 : S512x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part4 {F : FTy → Type} [FloatOps F] (main_v68 : IVec S_ 1) (main_v69 : FVec F S4096x1024 .f32) (main_v70 : FVec F S4096x1024 .f32) : IVec S_ 1 :=
  let main_v71 : IVec S4096x1024 1 := cmpf .olt main_v69 main_v70
  let main_c_23 : IVec S_ 1 := constantI S_ 1 1#1
  let main_v72 : IVec S_ 1 := (fun x v => Host.reduce IntOp.andi x v reducesTo_S4096x1024_S_d0_1 h_S_) main_v71 main_c_23
  let main_v73 : IVec S_ 1 := andi main_v68 main_v72
  main_v73

def fn_part3 {F : FTy → Type} [FloatOps F] (main_arg10 : FVec F S1024x5632 .bf16) (main_arg11 : FVec F S2816x1024 .bf16) (main_arg12 : FVec F S4096x1024 .f32) (main_v51 : IVec S_ 1) (main_v52 : FVec F S1x1024 .f32) (main_cst_16 : FVec F S_ .f32) : IVec S_ 1 :=
  let main_v53 : FVec F S1x1024 .f32 := broadcastInDim S1x1024 ![] bcast_S_S1x1024 main_cst_16
  let main_v54 : IVec S1x1024 1 := cmpf .olt main_v52 main_v53
  let main_c_17 : IVec S_ 1 := constantI S_ 1 1#1
  let main_v55 : IVec S_ 1 := (fun x v => Host.reduce IntOp.andi x v reducesTo_S1x1024_S_d0_1 h_S_) main_v54 main_c_17
  let main_v56 : IVec S_ 1 := andi main_v51 main_v55
  let main_v57 : FVec F S1024x5632 .f32 := (extf .f32 · bitsLt_bf16_f32) main_arg10
  let main_v58 : FVec F S1024x5632 .f32 := Host.absf main_v57
  let main_cst_18 : FVec F S_ .f32 := constant S_ .f32 0x7F800000#32
  let main_v59 : FVec F S1024x5632 .f32 := broadcastInDim S1024x5632 ![] bcast_S_S1024x5632 main_cst_18
  let main_v60 : IVec S1024x5632 1 := cmpf .olt main_v58 main_v59
  let main_c_19 : IVec S_ 1 := constantI S_ 1 1#1
  let main_v61 : IVec S_ 1 := (fun x v => Host.reduce IntOp.andi x v reducesTo_S1024x5632_S_d0_1 h_S_) main_v60 main_c_19
  let main_v62 : IVec S_ 1 := andi main_v56 main_v61
  let main_v63 : FVec F S2816x1024 .f32 := (extf .f32 · bitsLt_bf16_f32) main_arg11
  let main_v64 : FVec F S2816x1024 .f32 := Host.absf main_v63
  let main_cst_20 : FVec F S_ .f32 := constant S_ .f32 0x7F800000#32
  let main_v65 : FVec F S2816x1024 .f32 := broadcastInDim S2816x1024 ![] bcast_S_S2816x1024 main_cst_20
  let main_v66 : IVec S2816x1024 1 := cmpf .olt main_v64 main_v65
  let main_c_21 : IVec S_ 1 := constantI S_ 1 1#1
  let main_v67 : IVec S_ 1 := (fun x v => Host.reduce IntOp.andi x v reducesTo_S2816x1024_S_d0_1 h_S_) main_v66 main_c_21
  let main_v68 : IVec S_ 1 := andi main_v62 main_v67
  let main_v69 : FVec F S4096x1024 .f32 := Host.absf main_arg12
  let main_cst_22 : FVec F S_ .f32 := constant S_ .f32 0x7F800000#32
  let main_v70 : FVec F S4096x1024 .f32 := broadcastInDim S4096x1024 ![] bcast_S_S4096x1024 main_cst_22
  fn_part4 (F := F) main_v68 main_v69 main_v70

def fn_part2 {F : FTy → Type} [FloatOps F] (main_arg7 : FVec F S1024x1024 .bf16) (main_arg8 : FVec F S4096x1024 .f32) (main_arg9 : FVec F S1x1024 .f32) (main_arg10 : FVec F S1024x5632 .bf16) (main_arg11 : FVec F S2816x1024 .bf16) (main_arg12 : FVec F S4096x1024 .f32) (main_v34 : IVec S_ 1) (main_v35 : FVec F S512x1024 .f32) : IVec S_ 1 :=
  let main_v36 : FVec F S512x1024 .f32 := Host.absf main_v35
  let main_cst_10 : FVec F S_ .f32 := constant S_ .f32 0x7F800000#32
  let main_v37 : FVec F S512x1024 .f32 := broadcastInDim S512x1024 ![] bcast_S_S512x1024 main_cst_10
  let main_v38 : IVec S512x1024 1 := cmpf .olt main_v36 main_v37
  let main_c_11 : IVec S_ 1 := constantI S_ 1 1#1
  let main_v39 : IVec S_ 1 := (fun x v => Host.reduce IntOp.andi x v reducesTo_S512x1024_S_d0_1 h_S_) main_v38 main_c_11
  let main_v40 : IVec S_ 1 := andi main_v34 main_v39
  let main_v41 : FVec F S1024x1024 .f32 := (extf .f32 · bitsLt_bf16_f32) main_arg7
  let main_v42 : FVec F S1024x1024 .f32 := Host.absf main_v41
  let main_cst_12 : FVec F S_ .f32 := constant S_ .f32 0x7F800000#32
  let main_v43 : FVec F S1024x1024 .f32 := broadcastInDim S1024x1024 ![] bcast_S_S1024x1024 main_cst_12
  let main_v44 : IVec S1024x1024 1 := cmpf .olt main_v42 main_v43
  let main_c_13 : IVec S_ 1 := constantI S_ 1 1#1
  let main_v45 : IVec S_ 1 := (fun x v => Host.reduce IntOp.andi x v reducesTo_S1024x1024_S_d0_1 h_S_) main_v44 main_c_13
  let main_v46 : IVec S_ 1 := andi main_v40 main_v45
  let main_v47 : FVec F S4096x1024 .f32 := Host.absf main_arg8
  let main_cst_14 : FVec F S_ .f32 := constant S_ .f32 0x7F800000#32
  let main_v48 : FVec F S4096x1024 .f32 := broadcastInDim S4096x1024 ![] bcast_S_S4096x1024 main_cst_14
  let main_v49 : IVec S4096x1024 1 := cmpf .olt main_v47 main_v48
  let main_c_15 : IVec S_ 1 := constantI S_ 1 1#1
  let main_v50 : IVec S_ 1 := (fun x v => Host.reduce IntOp.andi x v reducesTo_S4096x1024_S_d0_1 h_S_) main_v49 main_c_15
  let main_v51 : IVec S_ 1 := andi main_v46 main_v50
  let main_v52 : FVec F S1x1024 .f32 := Host.absf main_arg9
  let main_cst_16 : FVec F S_ .f32 := constant S_ .f32 0x7F800000#32
  fn_part3 (F := F) main_arg10 main_arg11 main_arg12 main_v51 main_v52 main_cst_16

def fn_part1 {F : FTy → Type} [FloatOps F] (main_arg4 : FVec F S1024x1024 .bf16) (main_arg5 : FVec F S512x1024 .bf16) (main_arg6 : FVec F S512x1024 .bf16) (main_arg7 : FVec F S1024x1024 .bf16) (main_arg8 : FVec F S4096x1024 .f32) (main_arg9 : FVec F S1x1024 .f32) (main_arg10 : FVec F S1024x5632 .bf16) (main_arg11 : FVec F S2816x1024 .bf16) (main_arg12 : FVec F S4096x1024 .f32) (main_v16 : IVec S_ 1) (main_v17 : FVec F S4096x13312 .f32) : IVec S_ 1 :=
  let main_v18 : FVec F S4096x13312 .f32 := Host.absf main_v17
  let main_cst_4 : FVec F S_ .f32 := constant S_ .f32 0x7F800000#32
  let main_v19 : FVec F S4096x13312 .f32 := broadcastInDim S4096x13312 ![] bcast_S_S4096x13312 main_cst_4
  let main_v20 : IVec S4096x13312 1 := cmpf .olt main_v18 main_v19
  let main_c_5 : IVec S_ 1 := constantI S_ 1 1#1
  let main_v21 : IVec S_ 1 := (fun x v => Host.reduce IntOp.andi x v reducesTo_S4096x13312_S_d0_1 h_S_) main_v20 main_c_5
  let main_v22 : IVec S_ 1 := andi main_v16 main_v21
  let main_v23 : FVec F S1024x1024 .f32 := (extf .f32 · bitsLt_bf16_f32) main_arg4
  let main_v24 : FVec F S1024x1024 .f32 := Host.absf main_v23
  let main_cst_6 : FVec F S_ .f32 := constant S_ .f32 0x7F800000#32
  let main_v25 : FVec F S1024x1024 .f32 := broadcastInDim S1024x1024 ![] bcast_S_S1024x1024 main_cst_6
  let main_v26 : IVec S1024x1024 1 := cmpf .olt main_v24 main_v25
  let main_c_7 : IVec S_ 1 := constantI S_ 1 1#1
  let main_v27 : IVec S_ 1 := (fun x v => Host.reduce IntOp.andi x v reducesTo_S1024x1024_S_d0_1 h_S_) main_v26 main_c_7
  let main_v28 : IVec S_ 1 := andi main_v22 main_v27
  let main_v29 : FVec F S512x1024 .f32 := (extf .f32 · bitsLt_bf16_f32) main_arg5
  let main_v30 : FVec F S512x1024 .f32 := Host.absf main_v29
  let main_cst_8 : FVec F S_ .f32 := constant S_ .f32 0x7F800000#32
  let main_v31 : FVec F S512x1024 .f32 := broadcastInDim S512x1024 ![] bcast_S_S512x1024 main_cst_8
  let main_v32 : IVec S512x1024 1 := cmpf .olt main_v30 main_v31
  let main_c_9 : IVec S_ 1 := constantI S_ 1 1#1
  let main_v33 : IVec S_ 1 := (fun x v => Host.reduce IntOp.andi x v reducesTo_S512x1024_S_d0_1 h_S_) main_v32 main_c_9
  let main_v34 : IVec S_ 1 := andi main_v28 main_v33
  let main_v35 : FVec F S512x1024 .f32 := (extf .f32 · bitsLt_bf16_f32) main_arg6
  fn_part2 (F := F) main_arg7 main_arg8 main_arg9 main_arg10 main_arg11 main_arg12 main_v34 main_v35

def fn {F : FTy → Type} [FloatOps F] (main_arg0 : FVec F S4096x1024 .bf16) (main_arg1 : FVec F S4096x512 .bf16) (main_arg2 : FVec F S4096x512 .bf16) (main_arg3 : FVec F S4096x13312 .bf16) (main_arg4 : FVec F S1024x1024 .bf16) (main_arg5 : FVec F S512x1024 .bf16) (main_arg6 : FVec F S512x1024 .bf16) (main_arg7 : FVec F S1024x1024 .bf16) (main_arg8 : FVec F S4096x1024 .f32) (main_arg9 : FVec F S1x1024 .f32) (main_arg10 : FVec F S1024x5632 .bf16) (main_arg11 : FVec F S2816x1024 .bf16) (main_arg12 : FVec F S4096x1024 .f32) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S4096x512 .f32 := (extf .f32 · bitsLt_bf16_f32) main_arg1
  let main_v6 : FVec F S4096x512 .f32 := Host.absf main_v5
  let main_cst_0 : FVec F S_ .f32 := constant S_ .f32 0x7F800000#32
  let main_v7 : FVec F S4096x512 .f32 := broadcastInDim S4096x512 ![] bcast_S_S4096x512 main_cst_0
  let main_v8 : IVec S4096x512 1 := cmpf .olt main_v6 main_v7
  let main_c_1 : IVec S_ 1 := constantI S_ 1 1#1
  let main_v9 : IVec S_ 1 := (fun x v => Host.reduce IntOp.andi x v reducesTo_S4096x512_S_d0_1 h_S_) main_v8 main_c_1
  let main_v10 : IVec S_ 1 := andi main_v4 main_v9
  let main_v11 : FVec F S4096x512 .f32 := (extf .f32 · bitsLt_bf16_f32) main_arg2
  let main_v12 : FVec F S4096x512 .f32 := Host.absf main_v11
  let main_cst_2 : FVec F S_ .f32 := constant S_ .f32 0x7F800000#32
  let main_v13 : FVec F S4096x512 .f32 := broadcastInDim S4096x512 ![] bcast_S_S4096x512 main_cst_2
  let main_v14 : IVec S4096x512 1 := cmpf .olt main_v12 main_v13
  let main_c_3 : IVec S_ 1 := constantI S_ 1 1#1
  let main_v15 : IVec S_ 1 := (fun x v => Host.reduce IntOp.andi x v reducesTo_S4096x512_S_d0_1 h_S_) main_v14 main_c_3
  let main_v16 : IVec S_ 1 := andi main_v10 main_v15
  let main_v17 : FVec F S4096x13312 .f32 := (extf .f32 · bitsLt_bf16_f32) main_arg3
  fn_part1 (F := F) main_arg4 main_arg5 main_arg6 main_arg7 main_arg8 main_arg9 main_arg10 main_arg11 main_arg12 main_v16 main_v17
-- ==== Kernel.lean ====
abbrev S4096x512 : Shape := ⟨2, ![4096, 512]⟩
abbrev S4096x13312 : Shape := ⟨2, ![4096, 13312]⟩
abbrev S256x1024 : Shape := ⟨2, ![256, 1024]⟩
abbrev S1x128 : Shape := ⟨2, ![1, 128]⟩
abbrev S256x512 : Shape := ⟨2, ![256, 512]⟩
abbrev S1024x128 : Shape := ⟨2, ![1024, 128]⟩
abbrev S256x128 : Shape := ⟨2, ![256, 128]⟩
abbrev S128x128 : Shape := ⟨2, ![128, 128]⟩
abbrev S1024x256 : Shape := ⟨2, ![1024, 256]⟩
abbrev S1024 : Shape := ⟨1, ![1024]⟩
abbrev S1024x1 : Shape := ⟨2, ![1024, 1]⟩
abbrev S128 : Shape := ⟨1, ![128]⟩

abbrev nBuf : Space → Nat
  | .hbm => 11
  | .vmem => 19
  | .smem => 0
  | _ => 0

abbrev bufTy : (tb : Table) → Fin (tcTables nBuf tb) → BufTy
  | .hbm, ⟨0, _⟩ => ⟨S4096x512, .f32⟩
  | .hbm, ⟨1, _⟩ => ⟨S4096x13312, .bf16⟩
  | .hbm, ⟨2, _⟩ => ⟨S256x1024, .f32⟩
  | .hbm, ⟨3, _⟩ => ⟨S1x128, .f32⟩
  | .hbm, ⟨4, _⟩ => ⟨S1x128, .f32⟩
  | .hbm, ⟨5, _⟩ => ⟨S4096x13312, .bf16⟩
  | .hbm, ⟨6, _⟩ => ⟨S4096x13312, .bf16⟩
  | .hbm, ⟨7, _⟩ => ⟨S256x512, .f32⟩
  | .hbm, ⟨8, _⟩ => ⟨S256x512, .f32⟩
  | .hbm, ⟨9, _⟩ => ⟨S1x128, .f32⟩
  | .hbm, ⟨10, _⟩ => ⟨S1x128, .f32⟩
  | .local _ .vmem, ⟨0, _⟩ => ⟨S1024x128, .f32⟩
  | .local _ .vmem, ⟨1, _⟩ => ⟨S1024x128, .f32⟩
  | .local _ .vmem, ⟨2, _⟩ => ⟨S1024x128, .bf16⟩
  | .local _ .vmem, ⟨3, _⟩ => ⟨S1024x128, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S1x128, .f32⟩
  | .local _ .vmem, ⟨9, _⟩ => ⟨S1x128, .f32⟩
  | .local _ .vmem, ⟨10, _⟩ => ⟨S1024x128, .bf16⟩
  | .local _ .vmem, ⟨11, _⟩ => ⟨S1024x128, .bf16⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S1x128, .f32⟩
  | .local _ .vmem, ⟨17, _⟩ => ⟨S1x128, .f32⟩
  | .local _ .vmem, ⟨18, _⟩ => ⟨S256x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v135 : BitVec 1 := Scalar.cmpi .eq arg1 c3_i32
  let v136 : BitVec 32 := Scalar.extui v135
  let c0_i32_56 : BitVec 32 := 0#32
  let v137 : BitVec 1 := Scalar.cmpi .ne v136 c0_i32_56
  v137

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c76_i32 : BitVec 32 := 76#32
  let v0 : BitVec 32 := Scalar.addi c76_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c76_i32 : BitVec 32 := 76#32
  let v0 : BitVec 32 := Scalar.addi c76_i32 arg0
  let c0_i32 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== ReferenceIdeal.lean ====
abbrev S4096x512 : Shape := ⟨2, ![4096, 512]⟩
abbrev S4096x13312 : Shape := ⟨2, ![4096, 13312]⟩
abbrev S256x1024 : Shape := ⟨2, ![256, 1024]⟩
abbrev S1x128 : Shape := ⟨2, ![1, 128]⟩
abbrev S256x512 : Shape := ⟨2, ![256, 512]⟩
abbrev S4096x4x128 : Shape := ⟨3, ![4096, 4, 128]⟩
abbrev S128 : Shape := ⟨1, ![128]⟩
abbrev S_ : Shape := ⟨0, ![]⟩
abbrev S4096x4 : Shape := ⟨2, ![4096, 4]⟩
abbrev S4096x4x1 : Shape := ⟨3, ![4096, 4, 1]⟩
abbrev S1x1x128 : Shape := ⟨3, ![1, 1, 128]⟩
abbrev S256x4x128 : Shape := ⟨3, ![256, 4, 128]⟩
abbrev S256x4 : Shape := ⟨2, ![256, 4]⟩
abbrev S256x4x1 : Shape := ⟨3, ![256, 4, 1]⟩
abbrev S4x4096x256 : Shape := ⟨3, ![4, 4096, 256]⟩
abbrev S4x4096 : Shape := ⟨2, ![4, 4096]⟩
abbrev S4x4096x1 : Shape := ⟨3, ![4, 4096, 1]⟩
abbrev S4x128x4096 : Shape := ⟨3, ![4, 128, 4096]⟩
abbrev S4x128x256 : Shape := ⟨3, ![4, 128, 256]⟩
abbrev S4x256x128 : Shape := ⟨3, ![4, 256, 128]⟩
abbrev S4x4096x128 : Shape := ⟨3, ![4, 4096, 128]⟩
abbrev S1 : Shape := ⟨1, ![1]⟩

abbrev nBuf : Space → Nat
  | .hbm => 185
  | .vmem => 0
  | .smem => 0
  | _ => 0

abbrev hbmTy0_0 (i : Nat) : BufTy := match i % 128 with
  | 0 => ⟨S4096x512, .f32⟩
  | 1 => ⟨S4096x13312, .bf16⟩
  | 2 => ⟨S256x1024, .f32⟩
  | 3 => ⟨S1x128, .f32⟩
  | 4 => ⟨S1x128, .f32⟩
  | 5 => ⟨S4096x13312, .bf16⟩
  | 6 => ⟨S4096x512, .bf16⟩
  | 7 => ⟨S4096x512, .f32⟩
  | 8 => ⟨S256x512, .f32⟩
  | 9 => ⟨S256x512, .f32⟩
  | 10 => ⟨S4096x4x128, .f32⟩
  | 11 => ⟨S128, .f32⟩
  | 12 => ⟨S4096x4x128, .f32⟩
  | 13 => ⟨S_, .f32⟩
  | 14 => ⟨S4096x4, .f32⟩
  | 15 => ⟨S4096x4x1, .f32⟩
  | 16 => ⟨S_, .f32⟩
  | 17 => ⟨S4096x4x1, .f32⟩
  | 18 => ⟨S4096x4x1, .f32⟩
  | 19 => ⟨S_, .f32⟩
  | 20 => ⟨S4096x4x1, .f32⟩
  | 21 => ⟨S4096x4x1, .f32⟩
  | 22 => ⟨S4096x4x1, .f32⟩
  | 23 => ⟨S4096x4x1, .f32⟩
  | 24 => ⟨S_, .f32⟩
  | 25 => ⟨S4096x4x1, .f32⟩
  | 26 => ⟨S4096x4x1, .f32⟩
  | 27 => ⟨S4096x4x128, .f32⟩
  | 28 => ⟨S4096x4x128, .f32⟩
  | 29 => ⟨S1x1x128, .f32⟩
  | 30 => ⟨S4096x4x128, .f32⟩
  | 31 => ⟨S4096x4x128, .f32⟩
  | 32 => ⟨S256x4x128, .f32⟩
  | 33 => ⟨S128, .f32⟩
  | 34 => ⟨S256x4x128, .f32⟩
  | 35 => ⟨S_, .f32⟩
  | 36 => ⟨S256x4, .f32⟩
  | 37 => ⟨S256x4x1, .f32⟩
  | 38 => ⟨S_, .f32⟩
  | 39 => ⟨S256x4x1, .f32⟩
  | 40 => ⟨S256x4x1, .f32⟩
  | 41 => ⟨S_, .f32⟩
  | 42 => ⟨S256x4x1, .f32⟩
  | 43 => ⟨S256x4x1, .f32⟩
  | 44 => ⟨S256x4x1, .f32⟩
  | 45 => ⟨S256x4x1, .f32⟩
  | 46 => ⟨S_, .f32⟩
  | 47 => ⟨S256x4x1, .f32⟩
  | 48 => ⟨S256x4x1, .f32⟩
  | 49 => ⟨S256x4x128, .f32⟩
  | 50 => ⟨S256x4x128, .f32⟩
  | 51 => ⟨S1x1x128, .f32⟩
  | 52 => ⟨S256x4x128, .f32⟩
  | 53 => ⟨S256x4x128, .f32⟩
  | 54 => ⟨S256x4x128, .f32⟩
  | 55 => ⟨S4x4096x256, .f32⟩
  | 56 => ⟨S_, .f32⟩
  | 57 => ⟨S4x4096x256, .f32⟩
  | 58 => ⟨S4x4096x256, .f32⟩
  | 59 => ⟨S_, .f32⟩
  | 60 => ⟨S4x4096, .f32⟩
  | 61 => ⟨S4x4096x1, .f32⟩
  | 62 => ⟨S4x4096x256, .f32⟩
  | 63 => ⟨S4x4096x256, .i1⟩
  | 64 => ⟨S4x4096x256, .f32⟩
  | 65 => ⟨S_, .f32⟩
  | 66 => ⟨S4x4096, .f32⟩
  | 67 => ⟨S_, .f32⟩
  | 68 => ⟨S4x4096, .f32⟩
  | 69 => ⟨S4x4096, .f32⟩
  | 70 => ⟨S_, .f32⟩
  | 71 => ⟨S4x4096, .f32⟩
  | 72 => ⟨S4x4096, .i1⟩
  | 73 => ⟨S_, .f32⟩
  | 74 => ⟨S4x4096, .f32⟩
  | 75 => ⟨S4x4096, .i1⟩
  | 76 => ⟨S_, .f32⟩
  | 77 => ⟨S4x4096, .f32⟩
  | 78 => ⟨S_, .f32⟩
  | 79 => ⟨S4x4096, .f32⟩
  | 80 => ⟨S_, .f32⟩
  | 81 => ⟨S4x4096, .f32⟩
  | 82 => ⟨S4x4096, .f32⟩
  | 83 => ⟨S4x4096, .f32⟩
  | 84 => ⟨S4x4096x1, .f32⟩
  | 85 => ⟨S4x4096x256, .f32⟩
  | 86 => ⟨S4x4096x256, .f32⟩
  | 87 => ⟨S4x4096x256, .f32⟩
  | 88 => ⟨S_, .f32⟩
  | 89 => ⟨S4x4096, .f32⟩
  | 90 => ⟨S4x4096x1, .f32⟩
  | 91 => ⟨S4x4096x256, .f32⟩
  | 92 => ⟨S4x4096x256, .f32⟩
  | 93 => ⟨S4x4096x1, .f32⟩
  | 94 => ⟨S_, .f32⟩
  | 95 => ⟨S4x4096x1, .f32⟩
  | 96 => ⟨S4x4096x1, .f32⟩
  | 97 => ⟨S4x128x4096, .f32⟩
  | 98 => ⟨S4096x4x128, .f32⟩
  | 99 => ⟨S4096x512, .f32⟩
  | 100 => ⟨S4096x4x128, .f32⟩
  | 101 => ⟨S4x128x4096, .f32⟩
  | 102 => ⟨S4x4096x256, .f32⟩
  | 103 => ⟨S4x128x256, .f32⟩
  | 104 => ⟨S256x4x128, .f32⟩
  | 105 => ⟨S4x4096x256, .f32⟩
  | 106 => ⟨S4x4096x256, .f32⟩
  | 107 => ⟨S4x4096x256, .f32⟩
  | 108 => ⟨S_, .f32⟩
  | 109 => ⟨S4x4096, .f32⟩
  | 110 => ⟨S4x4096x1, .f32⟩
  | 111 => ⟨S4x4096x1, .f32⟩
  | 112 => ⟨S4x4096x256, .f32⟩
  | 113 => ⟨S4x4096x256, .f32⟩
  | 114 => ⟨S_, .f32⟩
  | 115 => ⟨S4x4096, .f32⟩
  | 116 => ⟨S4x4096x256, .f32⟩
  | 117 => ⟨S4x4096x256, .f32⟩
  | 118 => ⟨S4x4096x256, .f32⟩
  | 119 => ⟨S_, .f32⟩
  | 120 => ⟨S4x4096x256, .f32⟩
  | 121 => ⟨S4x4096x256, .f32⟩
  | 122 => ⟨S4x256x128, .f32⟩
  | 123 => ⟨S256x4x128, .f32⟩
  | 124 => ⟨S4x4096x128, .f32⟩
  | 125 => ⟨S4096x4x128, .f32⟩
  | 126 => ⟨S256x512, .f32⟩
  | 127 => ⟨S256x4x128, .f32⟩
  | _ => ⟨S4096x512, .f32⟩

abbrev hbmTy0_1 (i : Nat) : BufTy := match i % 128 with
  | 0 => ⟨S_, .f32⟩
  | 1 => ⟨S128, .f32⟩
  | 2 => ⟨S1x1x128, .f32⟩
  | 3 => ⟨S256x4x128, .f32⟩
  | 4 => ⟨S256x4x128, .f32⟩
  | 5 => ⟨S_, .f32⟩
  | 6 => ⟨S128, .f32⟩
  | 7 => ⟨S256x4x128, .f32⟩
  | 8 => ⟨S_, .f32⟩
  | 9 => ⟨S256x4, .f32⟩
  | 10 => ⟨S256x4x1, .f32⟩
  | 11 => ⟨S256x4x128, .f32⟩
  | 12 => ⟨S256x4x128, .f32⟩
  | 13 => ⟨S256x4x1, .f32⟩
  | 14 => ⟨S_, .f32⟩
  | 15 => ⟨S256x4x1, .f32⟩
  | 16 => ⟨S256x4x1, .f32⟩
  | 17 => ⟨S_, .f32⟩
  | 18 => ⟨S256x4, .f32⟩
  | 19 => ⟨S256x4x128, .f32⟩
  | 20 => ⟨S256x4x128, .f32⟩
  | 21 => ⟨S256x4x128, .f32⟩
  | 22 => ⟨S256x4x128, .f32⟩
  | 23 => ⟨S256x4x128, .f32⟩
  | 24 => ⟨S1x128, .f32⟩
  | 25 => ⟨S256x512, .f32⟩
  | 26 => ⟨S4096x4x128, .f32⟩
  | 27 => ⟨S_, .f32⟩
  | 28 => ⟨S128, .f32⟩
  | 29 => ⟨S1x1x128, .f32⟩
  | 30 => ⟨S4096x4x128, .f32⟩
  | 31 => ⟨S4096x4x128, .f32⟩
  | 32 => ⟨S_, .f32⟩
  | 33 => ⟨S128, .f32⟩
  | 34 => ⟨S4096x4x128, .f32⟩
  | 35 => ⟨S_, .f32⟩
  | 36 => ⟨S4096x4, .f32⟩
  | 37 => ⟨S4096x4x1, .f32⟩
  | 38 => ⟨S4096x4x128, .f32⟩
  | 39 => ⟨S4096x4x128, .f32⟩
  | 40 => ⟨S4096x4x1, .f32⟩
  | 41 => ⟨S_, .f32⟩
  | 42 => ⟨S4096x4x1, .f32⟩
  | 43 => ⟨S4096x4x1, .f32⟩
  | 44 => ⟨S_, .f32⟩
  | 45 => ⟨S4096x4, .f32⟩
  | 46 => ⟨S4096x4x128, .f32⟩
  | 47 => ⟨S4096x4x128, .f32⟩
  | 48 => ⟨S4096x4x128, .f32⟩
  | 49 => ⟨S4096x4x128, .f32⟩
  | 50 => ⟨S4096x4x128, .f32⟩
  | 51 => ⟨S1x128, .f32⟩
  | 52 => ⟨S4096x512, .f32⟩
  | 53 => ⟨S4096x512, .bf16⟩
  | 54 => ⟨S_, .i32⟩
  | 55 => ⟨S1, .i32⟩
  | 56 => ⟨S4096x13312, .bf16⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_9 : Ref sig .tc := ⟨.hbm, 65, rfl⟩
abbrev main_v49 : Ref sig .tc := ⟨.hbm, 66, rfl⟩
abbrev main_cst_10 : Ref sig .tc := ⟨.hbm, 67, rfl⟩
abbrev main_v50 : Ref sig .tc := ⟨.hbm, 68, rfl⟩
abbrev main_v51 : Ref sig .tc := ⟨.hbm, 69, rfl⟩
abbrev main_cst_11 : Ref sig .tc := ⟨.hbm, 70, rfl⟩
abbrev main_v52 : Ref sig .tc := ⟨.hbm, 71, rfl⟩
abbrev main_v53 : Ref sig .tc := ⟨.hbm, 72, rfl⟩
abbrev main_cst_12 : Ref sig .tc := ⟨.hbm, 73, rfl⟩
abbrev main_v54 : Ref sig .tc := ⟨.hbm, 74, rfl⟩
abbrev main_v55 : Ref sig .tc := ⟨.hbm, 75, rfl⟩
abbrev main_cst_13 : Ref sig .tc := ⟨.hbm, 76, rfl⟩
abbrev main_v56 : Ref sig .tc := ⟨.hbm, 77, rfl⟩
abbrev main_cst_14 : Ref sig .tc := ⟨.hbm, 78, rfl⟩
abbrev main_v57 : Ref sig .tc := ⟨.hbm, 79, rfl⟩
abbrev main_cst_15 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_16 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_17 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_18 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_19 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_cst_20 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_cst_21 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_cst_22 : Ref sig .tc := ⟨.hbm, 133, rfl⟩
abbrev main_v104 : Ref sig .tc := ⟨.hbm, 134, rfl⟩
abbrev main_v105 : Ref sig .tc := ⟨.hbm, 135, rfl⟩
abbrev main_cst_23 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_cst_24 : Ref sig .tc := ⟨.hbm, 142, rfl⟩
abbrev main_v111 : Ref sig .tc := ⟨.hbm, 143, rfl⟩
abbrev main_v112 : Ref sig .tc := ⟨.hbm, 144, rfl⟩
abbrev main_cst_25 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_cst_26 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_cst_27 : Ref sig .tc := ⟨.hbm, 160, rfl⟩
abbrev main_v126 : Ref sig .tc := ⟨.hbm, 161, rfl⟩
abbrev main_v127 : Ref sig .tc := ⟨.hbm, 162, rfl⟩
abbrev main_cst_28 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_cst_29 : Ref sig .tc := ⟨.hbm, 169, rfl⟩
abbrev main_v133 : Ref sig .tc := ⟨.hbm, 170, rfl⟩
abbrev main_v134 : Ref sig .tc := ⟨.hbm, 171, rfl⟩
abbrev main_cst_30 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_c : Ref sig .tc := ⟨.hbm, 182, rfl⟩
abbrev main_v144 : Ref sig .tc := ⟨.hbm, 183, rfl⟩
abbrev main_v145 : Ref sig .tc := ⟨.hbm, 184, rfl⟩

abbrev nD : Nat := 1
abbrev τ : Topo := Topo.v7x

variable {F : FTy → Type} [FloatOps F]
-- ==== Kernel2.lean ====
abbrev S4096x1024 : Shape := ⟨2, ![4096, 1024]⟩
abbrev S4096x512 : Shape := ⟨2, ![4096, 512]⟩
abbrev S4096x13312 : Shape := ⟨2, ![4096, 13312]⟩
abbrev S1024x1024 : Shape := ⟨2, ![1024, 1024]⟩
abbrev S512x1024 : Shape := ⟨2, ![512, 1024]⟩
abbrev S1x1024 : Shape := ⟨2, ![1, 1024]⟩
abbrev S1024x5632 : Shape := ⟨2, ![1024, 5632]⟩
abbrev S2816x1024 : Shape := ⟨2, ![2816, 1024]⟩
abbrev S512x512 : Shape := ⟨2, ![512, 512]⟩
abbrev S512 : Shape := ⟨1, ![512]⟩
abbrev S512x1 : Shape := ⟨2, ![512, 1]⟩
abbrev S4096x2816 : Shape := ⟨2, ![4096, 2816]⟩
abbrev S2048x1024 : Shape := ⟨2, ![2048, 1024]⟩
abbrev S1024x256 : Shape := ⟨2, ![1024, 256]⟩
abbrev S2048x256 : Shape := ⟨2, ![2048, 256]⟩
abbrev S4096x256 : Shape := ⟨2, ![4096, 256]⟩
abbrev S256x1024 : Shape := ⟨2, ![256, 1024]⟩
abbrev S1024x2816 : Shape := ⟨2, ![1024, 2816]⟩
abbrev S256x2816 : Shape := ⟨2, ![256, 2816]⟩
abbrev S1024 : Shape := ⟨1, ![1024]⟩
abbrev S4096x3072 : Shape := ⟨2, ![4096, 3072]⟩
abbrev S256x512 : Shape := ⟨2, ![256, 512]⟩
abbrev S256x3072 : Shape := ⟨2, ![256, 3072]⟩

abbrev nBuf : Space → Nat
  | .hbm => 48
  | .vmem => 159
  | .smem => 0
  | _ => 0

abbrev vmemTy0_0 (i : Nat) : BufTy := match i % 128 with
  | 0 => ⟨S512x1024, .bf16⟩
  | 1 => ⟨S512x1024, .bf16⟩
  | 2 => ⟨S512x512, .bf16⟩
  | 3 => ⟨S512x512, .bf16⟩
  | 4 => ⟨S512x512, .bf16⟩
  | 5 => ⟨S512x512, .bf16⟩
  | 6 => ⟨S512x1024, .bf16⟩
  | 7 => ⟨S512x1024, .bf16⟩
  | 8 => ⟨S512x1024, .bf16⟩
  | 9 => ⟨S512x1024, .bf16⟩
  | 10 => ⟨S512x1024, .bf16⟩
  | 11 => ⟨S512x1024, .bf16⟩
  | 12 => ⟨S1024x1024, .bf16⟩
  | 13 => ⟨S512x1024, .bf16⟩
  | 14 => ⟨S512x1024, .bf16⟩
  | 15 => ⟨S512x1024, .bf16⟩
  | 16 => ⟨S512x1024, .bf16⟩
  | 17 => ⟨S512x1024, .bf16⟩
  | 18 => ⟨S512x1024, .bf16⟩
  | 19 => ⟨S1024x1024, .bf16⟩
  | 20 => ⟨S512x1024, .f32⟩
  | 21 => ⟨S512x1024, .f32⟩
  | 22 => ⟨S1x1024, .f32⟩
  | 23 => ⟨S512x1024, .f32⟩
  | 24 => ⟨S512x1024, .f32⟩
  | 25 => ⟨S512x1024, .bf16⟩
  | 26 => ⟨S512x1024, .bf16⟩
  | 27 => ⟨S2048x1024, .bf16⟩
  | 28 => ⟨S2048x1024, .bf16⟩
  | 29 => ⟨S1024x256, .bf16⟩
  | 30 => ⟨S1024x256, .bf16⟩
  | 31 => ⟨S1024x256, .bf16⟩
  | 32 => ⟨S1024x256, .bf16⟩
  | 33 => ⟨S2048x256, .bf16⟩
  | 34 => ⟨S2048x256, .bf16⟩
  | 35 => ⟨S2048x256, .bf16⟩
  | 36 => ⟨S2048x256, .bf16⟩
  | 37 => ⟨S2048x256, .bf16⟩
  | 38 => ⟨S2048x256, .bf16⟩
  | 39 => ⟨S4096x256, .bf16⟩
  | 40 => ⟨S4096x256, .bf16⟩
  | 41 => ⟨S4096x1024, .bf16⟩
  | 42 => ⟨S256x1024, .f32⟩
  | 43 => ⟨S256x1024, .f32⟩
  | 44 => ⟨S256x1024, .bf16⟩
  | 45 => ⟨S256x1024, .bf16⟩
  | 46 => ⟨S2048x1024, .bf16⟩
  | 47 => ⟨S2048x1024, .bf16⟩
  | 48 => ⟨S256x1024, .bf16⟩
  | 49 => ⟨S256x1024, .bf16⟩
  | 50 => ⟨S2048x256, .bf16⟩
  | 51 => ⟨S2048x256, .bf16⟩
  | 52 => ⟨S2048x256, .bf16⟩
  | 53 => ⟨S2048x256, .bf16⟩
  | 54 => ⟨S2048x256, .bf16⟩
  | 55 => ⟨S2048x256, .bf16⟩
  | 56 => ⟨S2048x256, .bf16⟩
  | 57 => ⟨S2048x256, .bf16⟩
  | 58 => ⟨S4096x1024, .bf16⟩
  | 59 => ⟨S4096x256, .bf16⟩
  | 60 => ⟨S4096x256, .bf16⟩
  | 61 => ⟨S1024x256, .f32⟩
  | 62 => ⟨S1024x256, .f32⟩
  | 63 => ⟨S1024x256, .bf16⟩
  | 64 => ⟨S1024x256, .bf16⟩
  | 65 => ⟨S4096x1024, .bf16⟩
  | 66 => ⟨S4096x256, .bf16⟩
  | 67 => ⟨S4096x256, .bf16⟩
  | 68 => ⟨S1024x256, .f32⟩
  | 69 => ⟨S1024x256, .f32⟩
  | 70 => ⟨S1024x256, .bf16⟩
  | 71 => ⟨S1024x256, .bf16⟩
  | 72 => ⟨S256x2816, .bf16⟩
  | 73 => ⟨S256x2816, .bf16⟩
  | 74 => ⟨S256x2816, .bf16⟩
  | 75 => ⟨S256x2816, .bf16⟩
  | 76 => ⟨S1024x2816, .bf16⟩
  | 77 => ⟨S1024x2816, .bf16⟩
  | 78 => ⟨S256x1024, .f32⟩
  | 79 => ⟨S256x1024, .f32⟩
  | 80 => ⟨S512x1024, .f32⟩
  | 81 => ⟨S512x1024, .f32⟩
  | 82 => ⟨S512x1024, .f32⟩
  | 83 => ⟨S512x1024, .f32⟩
  | 84 => ⟨S1x1024, .f32⟩
  | 85 => ⟨S512x1024, .f32⟩
  | 86 => ⟨S512x1024, .f32⟩
  | 87 => ⟨S512x1024, .f32⟩
  | 88 => ⟨S512x1024, .f32⟩
  | 89 => ⟨S512x1024, .bf16⟩
  | 90 => ⟨S512x1024, .bf16⟩
  | 91 => ⟨S1x1024, .f32⟩
  | 92 => ⟨S4096x512, .bf16⟩
  | 93 => ⟨S4096x512, .bf16⟩
  | 94 => ⟨S4096x512, .bf16⟩
  | 95 => ⟨S4096x512, .bf16⟩
  | 96 => ⟨S512x512, .f32⟩
  | 97 => ⟨S512x512, .f32⟩
  | 98 => ⟨S512x512, .bf16⟩
  | 99 => ⟨S512x512, .bf16⟩
  | 100 => ⟨S512x1024, .bf16⟩
  | 101 => ⟨S512x1024, .bf16⟩
  | 102 => ⟨S512x1024, .bf16⟩
  | 103 => ⟨S512x1024, .bf16⟩
  | 104 => ⟨S512x512, .f32⟩
  | 105 => ⟨S512x512, .f32⟩
  | 106 => ⟨S256x1024, .f32⟩
  | 107 => ⟨S256x1024, .f32⟩
  | 108 => ⟨S256x1024, .bf16⟩
  | 109 => ⟨S256x1024, .bf16⟩
  | 110 => ⟨S256x512, .bf16⟩
  | 111 => ⟨S256x512, .bf16⟩
  | 112 => ⟨S256x512, .bf16⟩
  | 113 => ⟨S256x512, .bf16⟩
  | 114 => ⟨S256x1024, .bf16⟩
  | 115 => ⟨S256x1024, .bf16⟩
  | 116 => ⟨S256x1024, .bf16⟩
  | 117 => ⟨S256x1024, .bf16⟩
  | 118 => ⟨S256x1024, .bf16⟩
  | 119 => ⟨S256x1024, .bf16⟩
  | 120 => ⟨S1024x1024, .bf16⟩
  | 121 => ⟨S512x1024, .bf16⟩
  | 122 => ⟨S512x1024, .bf16⟩
  | 123 => ⟨S256x3072, .bf16⟩
  | 124 => ⟨S256x3072, .bf16⟩
  | 125 => ⟨S256x1024, .bf16⟩
  | 126 => ⟨S256x1024, .bf16⟩
  | 127 => ⟨S256x1024, .f32⟩
  | _ => ⟨S4096x1024, .bf16⟩

abbrev vmemTy0_1 (i : Nat) : BufTy := match i % 128 with
  | 0 => ⟨S256x1024, .f32⟩
  | 1 => ⟨S256x1024, .bf16⟩
  | 2 => ⟨S256x1024, .bf16⟩
  | 3 => ⟨S256x512, .f32⟩
  | 4 => ⟨S256x512, .f32⟩
  | 5 => ⟨S256x1024, .bf16⟩
  | 6 => ⟨S256x1024, .bf16⟩
  | 7 => ⟨S256x512, .f32⟩
  | 8 => ⟨S256x512, .f32⟩
  | 9 => ⟨S4096x512, .bf16⟩
  | 10 => ⟨S4096x512, .bf16⟩
  | 11 => ⟨S4096x512, .bf16⟩
  | 12 => ⟨S4096x512, .bf16⟩
  | 13 => ⟨S512x512, .f32⟩
  | 14 => ⟨S512x512, .f32⟩
  | 15 => ⟨S512x512, .bf16⟩
  | 16 => ⟨S512x512, .bf16⟩
  | 17 => ⟨S4096x512, .bf16⟩
  | 18 => ⟨S4096x512, .bf16⟩
  | 19 => ⟨S4096x512, .bf16⟩
  | 20 => ⟨S512x512, .f32⟩
  | 21 => ⟨S512x512, .f32⟩
  | 22 => ⟨S512x512, .bf16⟩
  | 23 => ⟨S512x512, .bf16⟩
  | 24 => ⟨S4096x512, .bf16⟩
  | 25 => ⟨S4096x512, .bf16⟩
  | 26 => ⟨S4096x512, .bf16⟩
  | 27 => ⟨S512x512, .f32⟩
  | 28 => ⟨S512x512, .f32⟩
  | 29 => ⟨S512x512, .bf16⟩
  | 30 => ⟨S512x512, .bf16⟩
  | _ => ⟨S4096x1024, .bf16⟩

abbrev vmemTy (i : Nat) : BufTy := match i / 128 with
  | 0 => vmemTy0_0 i
  | 1 => vmemTy0_1 i
  | _ => ⟨S4096x1024, .bf16⟩

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x512, .bf16⟩
  | .hbm, ⟨3, _⟩ => ⟨S4096x13312, .bf16⟩
  | .hbm, ⟨4, _⟩ => ⟨S1024x1024, .bf16⟩
  | .hbm, ⟨5, _⟩ => ⟨S512x1024, .bf16⟩
  | .hbm, ⟨6, _⟩ => ⟨S512x1024, .bf16⟩
  | .hbm, ⟨7, _⟩ => ⟨S1024x1024, .bf16⟩
  | .hbm, ⟨8, _⟩ => ⟨S4096x1024, .f32⟩
  | .hbm, ⟨9, _⟩ => ⟨S1x1024, .f32⟩
  | .hbm, ⟨10, _⟩ => ⟨S1024x5632, .bf16⟩
  | .hbm, ⟨11, _⟩ => ⟨S2816x1024, .bf16⟩
  | .hbm, ⟨12, _⟩ => ⟨S4096x1024, .f32⟩
  | .hbm, ⟨13, _⟩ => ⟨S4096x1024, .bf16⟩
  | .hbm, ⟨14, _⟩ => ⟨S4096x1024, .f32⟩
  | .hbm, ⟨15, _⟩ => ⟨S4096x1024, .bf16⟩
  | .hbm, ⟨16, _⟩ => ⟨S4096x2816, .bf16⟩
  | .hbm, ⟨17, _⟩ => ⟨S4096x2816, .bf16⟩
  | .hbm, ⟨18, _⟩ => ⟨S4096x2816, .bf16⟩
  | .hbm, ⟨19, _⟩ => ⟨S4096x1024, .bf16⟩
  | .hbm, ⟨20, _⟩ => ⟨S2816x1024, .f32⟩
  | .hbm, ⟨21, _⟩ => ⟨S2816x1024, .bf16⟩
  | .hbm, ⟨22, _⟩ => ⟨S4096x2816, .bf16⟩
  | .hbm, ⟨23, _⟩ => ⟨S4096x2816, .bf16⟩
  | .hbm, ⟨24, _⟩ => ⟨S1024x2816, .f32⟩
  | .hbm, ⟨25, _⟩ => ⟨S1024x2816, .bf16⟩
  | .hbm, ⟨26, _⟩ => ⟨S1024x2816, .f32⟩
  | .hbm, ⟨27, _⟩ => ⟨S1024x2816, .bf16⟩
  | .hbm, ⟨28, _⟩ => ⟨S4096x1024, .f32⟩
  | .hbm, ⟨29, _⟩ => ⟨S4096x1024, .f32⟩
  | .hbm, ⟨30, _⟩ => ⟨S4096x1024, .bf16⟩
  | .hbm, ⟨31, _⟩ => ⟨S1x1024, .f32⟩
  | .hbm, ⟨32, _⟩ => ⟨S1024x1024, .f32⟩
  | .hbm, ⟨33, _⟩ => ⟨S1024x1024, .bf16⟩
  | .hbm, ⟨34, _⟩ => ⟨S4096x1024, .f32⟩
  | .hbm, ⟨35, _⟩ => ⟨S4096x3072, .bf16⟩
  | .hbm, ⟨36, _⟩ => ⟨S4096x1024, .bf16⟩
  | .hbm, ⟨37, _⟩ => ⟨S4096x1024, .f32⟩
  | .hbm, ⟨38, _⟩ => ⟨S4096x1024, .bf16⟩
  | .hbm, ⟨39, _⟩ => ⟨S4096x512, .f32⟩
  | .hbm, ⟨40, _⟩ => ⟨S4096x1024, .bf16⟩
  | .hbm, ⟨41, _⟩ => ⟨S4096x512, .f32⟩
  | .hbm, ⟨42, _⟩ => ⟨S1024x1024, .f32⟩
  | .hbm, ⟨43, _⟩ => ⟨S1024x1024, .bf16⟩
  | .hbm, ⟨44, _⟩ => ⟨S512x1024, .f32⟩
  | .hbm, ⟨45, _⟩ => ⟨S512x1024, .bf16⟩
  | .hbm, ⟨46, _⟩ => ⟨S512x1024, .f32⟩
  | .hbm, ⟨47, _⟩ => ⟨S512x1024, .bf16⟩
  | .local _ .vmem, ⟨i, _⟩ => vmemTy i
  | _, _ => ⟨S4096x1024, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 159 → Bool
  | ⟨i, _⟩ => dmaSemScopedAt i

abbrev sig : RefSig :=
  ofTc nBuf bufTy 0 159 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1_0 : Ref sig .tc := ⟨.hbm, 14, rfl⟩
abbrev main_v1_1 : Ref sig .tc := ⟨.hbm, 15, rfl⟩
abbrev main_v2_0 : Ref sig .tc := ⟨.hbm, 16, rfl⟩
abbrev main_v2_1 : Ref sig .tc := ⟨.hbm, 17, rfl⟩
abbrev main_v2_2 : Ref sig .tc := ⟨.hbm, 18, rfl⟩
abbrev main_v3 : Ref sig .tc := ⟨.hbm, 19, rfl⟩
abbrev main_v4_0 : Ref sig .tc := ⟨.hbm, 20, rfl⟩
abbrev main_v4_1 : Ref sig .tc := ⟨.hbm, 21, rfl⟩
abbrev main_v5_0 : Ref sig .tc := ⟨.hbm, 22, rfl⟩
abbrev main_v5_1 : Ref sig .tc := ⟨.hbm, 23, rfl⟩
abbrev main_v6_0 : Ref sig .tc := ⟨.hbm, 24, rfl⟩
abbrev main_v6_1 : Ref sig .tc := ⟨.hbm, 25, rfl⟩
abbrev main_v7_0 : Ref sig .tc := ⟨.hbm, 26, rfl⟩
abbrev main_v7_1 : Ref sig .tc := ⟨.hbm, 27, rfl⟩
abbrev main_v8 : Ref sig .tc := ⟨.hbm, 28, rfl⟩
abbrev main_v9_0 : Ref sig .tc := ⟨.hbm, 29, rfl⟩
abbrev main_v9_1 : Ref sig .tc := ⟨.hbm, 30, rfl⟩
abbrev main_v9_2 : Ref sig .tc := ⟨.hbm, 31, rfl⟩
abbrev main_v10_0 : Ref sig .tc := ⟨.hbm, 32, rfl⟩
abbrev main_v10_1 : Ref sig .tc := ⟨.hbm, 33, rfl⟩
abbrev main_v11 : Ref sig .tc := ⟨.hbm, 34, rfl⟩
abbrev main_v12_0 : Ref sig .tc := ⟨.hbm, 35, rfl⟩
abbrev main_v12_1 : Ref sig .tc := ⟨.hbm, 36, rfl⟩
abbrev main_v12_2 : Ref sig .tc := ⟨.hbm, 37, rfl⟩
abbrev main_v12_3 : Ref sig .tc := ⟨.hbm, 38, rfl⟩
abbrev main_v12_4 : Ref sig .tc := ⟨.hbm, 39, rfl⟩
abbrev main_v12_5 : Ref sig .tc := ⟨.hbm, 40, rfl⟩
abbrev main_v12_6 : Ref sig .tc := ⟨.hbm, 41, rfl⟩
abbrev main_v13_0 : Ref sig .tc := ⟨.hbm, 42, rfl⟩
abbrev main_v13_1 : Ref sig .tc := ⟨.hbm, 43, rfl⟩
abbrev main_v14_0 : Ref sig .tc := ⟨.hbm, 44, rfl⟩
abbrev main_v14_1 : Ref sig .tc := ⟨.hbm, 45, rfl⟩
abbrev main_v15_0 : Ref sig .tc := ⟨.hbm, 46, rfl⟩
abbrev main_v15_1 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg5_1 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg1_1 : Ref sig .tc := ⟨.vmem, 30, rfl⟩
abbrev cc2_stg2_0 : Ref sig .tc := ⟨.vmem, 31, rfl⟩
abbrev cc2_stg2_1 : Ref sig .tc := ⟨.vmem, 32, rfl⟩
abbrev cc2_stg3_0 : Ref sig .tc := ⟨.vmem, 33, rfl⟩
abbrev cc2_stg3_1 : Ref sig .tc := ⟨.vmem, 34, rfl⟩
abbrev cc2_stg4_0 : Ref sig .tc := ⟨.vmem, 35, rfl⟩
abbrev cc2_stg4_1 : Ref sig .tc := ⟨.vmem, 36, rfl⟩
abbrev cc2_stg5_0 : Ref sig .tc := ⟨.vmem, 37, rfl⟩
abbrev cc2_stg5_1 : Ref sig .tc := ⟨.vmem, 38, rfl⟩
abbrev cc3_stg0_0 : Ref sig .tc := ⟨.vmem, 39, rfl⟩
abbrev cc3_stg0_1 : Ref sig .tc := ⟨.vmem, 40, rfl⟩
abbrev cc3_stg1_0 : Ref sig .tc := ⟨.vmem, 41, rfl⟩
abbrev cc3_stg2_0 : Ref sig .tc := ⟨.vmem, 42, rfl⟩
abbrev cc3_stg2_1 : Ref sig .tc := ⟨.vmem, 43, rfl⟩
abbrev cc3_stg3_0 : Ref sig .tc := ⟨.vmem, 44, rfl⟩
abbrev cc3_stg3_1 : Ref sig .tc := ⟨.vmem, 45, rfl⟩
abbrev cc4_stg0_0 : Ref sig .tc := ⟨.vmem, 46, rfl⟩
abbrev cc4_stg0_1 : Ref sig .tc := ⟨.vmem, 47, rfl⟩
abbrev cc4_stg1_0 : Ref sig .tc := ⟨.vmem, 48, rfl⟩
abbrev cc4_stg1_1 : Ref sig .tc := ⟨.vmem, 49, rfl⟩
abbrev cc4_stg2_0 : Ref sig .tc := ⟨.vmem, 50, rfl⟩
abbrev cc4_stg2_1 : Ref sig .tc := ⟨.vmem, 51, rfl⟩
abbrev cc4_stg3_0 : Ref sig .tc := ⟨.vmem, 52, rfl⟩
abbrev cc4_stg3_1 : Ref sig .tc := ⟨.vmem, 53, rfl⟩
abbrev cc4_stg4_0 : Ref sig .tc := ⟨.vmem, 54, rfl⟩
abbrev cc4_stg4_1 : Ref sig .tc := ⟨.vmem, 55, rfl⟩
abbrev cc4_stg5_0 : Ref sig .tc := ⟨.vmem, 56, rfl⟩
abbrev cc4_stg5_1 : Ref sig .tc := ⟨.vmem, 57, rfl⟩
abbrev cc5_stg0_0 : Ref sig .tc := ⟨.vmem, 58, rfl⟩
abbrev cc5_stg1_0 : Ref sig .tc := ⟨.vmem, 59, rfl⟩
abbrev cc5_stg1_1 : Ref sig .tc := ⟨.vmem, 60, rfl⟩
abbrev cc5_stg2_0 : Ref sig .tc := ⟨.vmem, 61, rfl⟩
abbrev cc5_stg2_1 : Ref sig .tc := ⟨.vmem, 62, rfl⟩
abbrev cc5_stg3_0 : Ref sig .tc := ⟨.vmem, 63, rfl⟩
abbrev cc5_stg3_1 : Ref sig .tc := ⟨.vmem, 64, rfl⟩
abbrev cc6_stg0_0 : Ref sig .tc := ⟨.vmem, 65, rfl⟩
abbrev cc6_stg1_0 : Ref sig .tc := ⟨.vmem, 66, rfl⟩
abbrev cc6_stg1_1 : Ref sig .tc := ⟨.vmem, 67, rfl⟩
abbrev cc6_stg2_0 : Ref sig .tc := ⟨.vmem, 68, rfl⟩
abbrev cc6_stg2_1 : Ref sig .tc := ⟨.vmem, 69, rfl⟩
abbrev cc6_stg3_0 : Ref sig .tc := ⟨.vmem, 70, rfl⟩
abbrev cc6_stg3_1 : Ref sig .tc := ⟨.vmem, 71, rfl⟩
abbrev cc7_stg0_0 : Ref sig .tc := ⟨.vmem, 72, rfl⟩
abbrev cc7_stg0_1 : Ref sig .tc := ⟨.vmem, 73, rfl⟩
abbrev cc7_stg1_0 : Ref sig .tc := ⟨.vmem, 74, rfl⟩
abbrev cc7_stg1_1 : Ref sig .tc := ⟨.vmem, 75, rfl⟩
abbrev cc7_stg2_0 : Ref sig .tc := ⟨.vmem, 76, rfl⟩
abbrev cc7_stg3_0 : Ref sig .tc := ⟨.vmem, 77, rfl⟩
abbrev cc7_stg4_0 : Ref sig .tc := ⟨.vmem, 78, rfl⟩
abbrev cc7_stg4_1 : Ref sig .tc := ⟨.vmem, 79, rfl⟩
abbrev cc8_stg0_0 : Ref sig .tc := ⟨.vmem, 80, rfl⟩
abbrev cc8_stg0_1 : Ref sig .tc := ⟨.vmem, 81, rfl⟩
abbrev cc8_stg1_0 : Ref sig .tc := ⟨.vmem, 82, rfl⟩
abbrev cc8_stg1_1 : Ref sig .tc := ⟨.vmem, 83, rfl⟩
abbrev cc8_stg2_0 : Ref sig .tc := ⟨.vmem, 84, rfl⟩
abbrev cc8_stg3_0 : Ref sig .tc := ⟨.vmem, 85, rfl⟩
abbrev cc8_stg3_1 : Ref sig .tc := ⟨.vmem, 86, rfl⟩
abbrev cc8_stg4_0 : Ref sig .tc := ⟨.vmem, 87, rfl⟩
abbrev cc8_stg4_1 : Ref sig .tc := ⟨.vmem, 88, rfl⟩
abbrev cc8_stg5_0 : Ref sig .tc := ⟨.vmem, 89, rfl⟩
abbrev cc8_stg5_1 : Ref sig .tc := ⟨.vmem, 90, rfl⟩
abbrev cc8_stg6_0 : Ref sig .tc := ⟨.vmem, 91, rfl⟩
abbrev cc9_stg0_0 : Ref sig .tc := ⟨.vmem, 92, rfl⟩
abbrev cc9_stg0_1 : Ref sig .tc := ⟨.vmem, 93, rfl⟩
abbrev cc9_stg1_0 : Ref sig .tc := ⟨.vmem, 94, rfl⟩
abbrev cc9_stg1_1 : Ref sig .tc := ⟨.vmem, 95, rfl⟩
abbrev cc9_stg2_0 : Ref sig .tc := ⟨.vmem, 96, rfl⟩
abbrev cc9_stg2_1 : Ref sig .tc := ⟨.vmem, 97, rfl⟩
abbrev cc9_stg3_0 : Ref sig .tc := ⟨.vmem, 98, rfl⟩
abbrev cc9_stg3_1 : Ref sig .tc := ⟨.vmem, 99, rfl⟩
abbrev cc10_stg0_0 : Ref sig .tc := ⟨.vmem, 100, rfl⟩
abbrev cc10_stg0_1 : Ref sig .tc := ⟨.vmem, 101, rfl⟩
abbrev cc10_stg1_0 : Ref sig .tc := ⟨.vmem, 102, rfl⟩
abbrev cc10_stg1_1 : Ref sig .tc := ⟨.vmem, 103, rfl⟩
abbrev cc10_stg2_0 : Ref sig .tc := ⟨.vmem, 104, rfl⟩
abbrev cc10_stg2_1 : Ref sig .tc := ⟨.vmem, 105, rfl⟩
abbrev cc11_stg0_0 : Ref sig .tc := ⟨.vmem, 106, rfl⟩
abbrev cc11_stg0_1 : Ref sig .tc := ⟨.vmem, 107, rfl⟩
abbrev cc11_stg1_0 : Ref sig .tc := ⟨.vmem, 108, rfl⟩
abbrev cc11_stg1_1 : Ref sig .tc := ⟨.vmem, 109, rfl⟩
abbrev cc11_stg2_0 : Ref sig .tc := ⟨.vmem, 110, rfl⟩
abbrev cc11_stg2_1 : Ref sig .tc := ⟨.vmem, 111, rfl⟩
abbrev cc11_stg3_0 : Ref sig .tc := ⟨.vmem, 112, rfl⟩
abbrev cc11_stg3_1 : Ref sig .tc := ⟨.vmem, 113, rfl⟩
abbrev cc11_stg4_0 : Ref sig .tc := ⟨.vmem, 114, rfl⟩
abbrev cc11_stg4_1 : Ref sig .tc := ⟨.vmem, 115, rfl⟩
abbrev cc11_stg5_0 : Ref sig .tc := ⟨.vmem, 116, rfl⟩
abbrev cc11_stg5_1 : Ref sig .tc := ⟨.vmem, 117, rfl⟩
abbrev cc11_stg6_0 : Ref sig .tc := ⟨.vmem, 118, rfl⟩
abbrev cc11_stg6_1 : Ref sig .tc := ⟨.vmem, 119, rfl⟩
abbrev cc11_stg7_0 : Ref sig .tc := ⟨.vmem, 120, rfl⟩
abbrev cc11_stg8_0 : Ref sig .tc := ⟨.vmem, 121, rfl⟩
abbrev cc11_stg9_0 : Ref sig .tc := ⟨.vmem, 122, rfl⟩
abbrev cc11_stg10_0 : Ref sig .tc := ⟨.vmem, 123, rfl⟩
abbrev cc11_stg10_1 : Ref sig .tc := ⟨.vmem, 124, rfl⟩
abbrev cc11_stg11_0 : Ref sig .tc := ⟨.vmem, 125, rfl⟩
abbrev cc11_stg11_1 : Ref sig .tc := ⟨.vmem, 126, rfl⟩
abbrev cc11_stg12_0 : Ref sig .tc := ⟨.vmem, 127, rfl⟩
abbrev cc11_stg12_1 : Ref sig .tc := ⟨.vmem, 128, rfl⟩
abbrev cc11_stg13_0 : Ref sig .tc := ⟨.vmem, 129, rfl⟩
abbrev cc11_stg13_1 : Ref sig .tc := ⟨.vmem, 130, rfl⟩
abbrev cc11_stg14_0 : Ref sig .tc := ⟨.vmem, 131, rfl⟩
abbrev cc11_stg14_1 : Ref sig .tc := ⟨.vmem, 132, rfl⟩
abbrev cc11_stg15_0 : Ref sig .tc := ⟨.vmem, 133, rfl⟩
abbrev cc11_stg15_1 : Ref sig .tc := ⟨.vmem, 134, rfl⟩
abbrev cc11_stg16_0 : Ref sig .tc := ⟨.vmem, 135, rfl⟩
abbrev cc11_stg16_1 : Ref sig .tc := ⟨.vmem, 136, rfl⟩
abbrev cc12_stg0_0 : Ref sig .tc := ⟨.vmem, 137, rfl⟩
abbrev cc12_stg0_1 : Ref sig .tc := ⟨.vmem, 138, rfl⟩
abbrev cc12_stg1_0 : Ref sig .tc := ⟨.vmem, 139, rfl⟩
abbrev cc12_stg1_1 : Ref sig .tc := ⟨.vmem, 140, rfl⟩
abbrev cc12_stg2_0 : Ref sig .tc := ⟨.vmem, 141, rfl⟩
abbrev cc12_stg2_1 : Ref sig .tc := ⟨.vmem, 142, rfl⟩
abbrev cc12_stg3_0 : Ref sig .tc := ⟨.vmem, 143, rfl⟩
abbrev cc12_stg3_1 : Ref sig .tc := ⟨.vmem, 144, rfl⟩
abbrev cc13_stg0_0 : Ref sig .tc := ⟨.vmem, 145, rfl⟩
abbrev cc13_stg1_0 : Ref sig .tc := ⟨.vmem, 146, rfl⟩
abbrev cc13_stg1_1 : Ref sig .tc := ⟨.vmem, 147, rfl⟩
abbrev cc13_stg2_0 : Ref sig .tc := ⟨.vmem, 148, rfl⟩
abbrev cc13_stg2_1 : Ref sig .tc := ⟨.vmem, 149, rfl⟩
abbrev cc13_stg3_0 : Ref sig .tc := ⟨.vmem, 150, rfl⟩
abbrev cc13_stg3_1 : Ref sig .tc := ⟨.vmem, 151, rfl⟩
abbrev cc14_stg0_0 : Ref sig .tc := ⟨.vmem, 152, rfl⟩
abbrev cc14_stg1_0 : Ref sig .tc := ⟨.vmem, 153, rfl⟩
abbrev cc14_stg1_1 : Ref sig .tc := ⟨.vmem, 154, rfl⟩
abbrev cc14_stg2_0 : Ref sig .tc := ⟨.vmem, 155, rfl⟩
abbrev cc14_stg2_1 : Ref sig .tc := ⟨.vmem, 156, rfl⟩
abbrev cc14_stg3_0 : Ref sig .tc := ⟨.vmem, 157, rfl⟩
abbrev cc14_stg3_1 : Ref sig .tc := ⟨.vmem, 158, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc1_sem0_0 : DmaSem sig := 17
abbrev cc1_sem0_1 : DmaSem sig := 18
abbrev cc1_sem1_0 : DmaSem sig := 19
abbrev cc1_sem2_0 : DmaSem sig := 20
abbrev cc1_sem2_1 : DmaSem sig := 21
abbrev cc1_sem3_0 : DmaSem sig := 22
abbrev cc1_sem4_0 : DmaSem sig := 23
abbrev cc1_sem4_1 : DmaSem sig := 24
abbrev cc1_sem5_0 : DmaSem sig := 25
abbrev cc1_sem5_1 : DmaSem sig := 26
abbrev cc2_sem0_0 : DmaSem sig := 27
abbrev cc2_sem0_1 : DmaSem sig := 28
abbrev cc2_sem1_0 : DmaSem sig := 29
abbrev cc2_sem1_1 : DmaSem sig := 30
abbrev cc2_sem2_0 : DmaSem sig := 31
abbrev cc2_sem2_1 : DmaSem sig := 32
abbrev cc2_sem3_0 : DmaSem sig := 33
abbrev cc2_sem3_1 : DmaSem sig := 34
abbrev cc2_sem4_0 : DmaSem sig := 35
abbrev cc2_sem4_1 : DmaSem sig := 36
abbrev cc2_sem5_0 : DmaSem sig := 37
abbrev cc2_sem5_1 : DmaSem sig := 38
abbrev cc3_sem0_0 : DmaSem sig := 39
abbrev cc3_sem0_1 : DmaSem sig := 40
abbrev cc3_sem1_0 : DmaSem sig := 41
abbrev cc3_sem2_0 : DmaSem sig := 42
abbrev cc3_sem2_1 : DmaSem sig := 43
abbrev cc3_sem3_0 : DmaSem sig := 44
abbrev cc3_sem3_1 : DmaSem sig := 45
abbrev cc4_sem0_0 : DmaSem sig := 46
abbrev cc4_sem0_1 : DmaSem sig := 47
abbrev cc4_sem1_0 : DmaSem sig := 48
abbrev cc4_sem1_1 : DmaSem sig := 49
abbrev cc4_sem2_0 : DmaSem sig := 50
abbrev cc4_sem2_1 : DmaSem sig := 51
abbrev cc4_sem3_0 : DmaSem sig := 52
abbrev cc4_sem3_1 : DmaSem sig := 53
abbrev cc4_sem4_0 : DmaSem sig := 54
abbrev cc4_sem4_1 : DmaSem sig := 55
abbrev cc4_sem5_0 : DmaSem sig := 56
abbrev cc4_sem5_1 : DmaSem sig := 57
abbrev cc5_sem0_0 : DmaSem sig := 58
abbrev cc5_sem1_0 : DmaSem sig := 59
abbrev cc5_sem1_1 : DmaSem sig := 60
abbrev cc5_sem2_0 : DmaSem sig := 61
abbrev cc5_sem2_1 : DmaSem sig := 62
abbrev cc5_sem3_0 : DmaSem sig := 63
abbrev cc5_sem3_1 : DmaSem sig := 64
abbrev cc6_sem0_0 : DmaSem sig := 65
abbrev cc6_sem1_0 : DmaSem sig := 66
abbrev cc6_sem1_1 : DmaSem sig := 67
abbrev cc6_sem2_0 : DmaSem sig := 68
abbrev cc6_sem2_1 : DmaSem sig := 69
abbrev cc6_sem3_0 : DmaSem sig := 70
abbrev cc6_sem3_1 : DmaSem sig := 71
abbrev cc7_sem0_0 : DmaSem sig := 72
abbrev cc7_sem0_1 : DmaSem sig := 73
abbrev cc7_sem1_0 : DmaSem sig := 74
abbrev cc7_sem1_1 : DmaSem sig := 75
abbrev cc7_sem2_0 : DmaSem sig := 76
abbrev cc7_sem3_0 : DmaSem sig := 77
abbrev cc7_sem4_0 : DmaSem sig := 78
abbrev cc7_sem4_1 : DmaSem sig := 79
abbrev cc8_sem0_0 : DmaSem sig := 80
abbrev cc8_sem0_1 : DmaSem sig := 81
abbrev cc8_sem1_0 : DmaSem sig := 82
abbrev cc8_sem1_1 : DmaSem sig := 83
abbrev cc8_sem2_0 : DmaSem sig := 84
abbrev cc8_sem3_0 : DmaSem sig := 85
abbrev cc8_sem3_1 : DmaSem sig := 86
abbrev cc8_sem4_0 : DmaSem sig := 87
abbrev cc8_sem4_1 : DmaSem sig := 88
abbrev cc8_sem5_0 : DmaSem sig := 89
abbrev cc8_sem5_1 : DmaSem sig := 90
abbrev cc8_sem6_0 : DmaSem sig := 91
abbrev cc9_sem0_0 : DmaSem sig := 92
abbrev cc9_sem0_1 : DmaSem sig := 93
abbrev cc9_sem1_0 : DmaSem sig := 94
abbrev cc9_sem1_1 : DmaSem sig := 95
abbrev cc9_sem2_0 : DmaSem sig := 96
abbrev cc9_sem2_1 : DmaSem sig := 97
abbrev cc9_sem3_0 : DmaSem sig := 98
abbrev cc9_sem3_1 : DmaSem sig := 99
abbrev cc10_sem0_0 : DmaSem sig := 100
abbrev cc10_sem0_1 : DmaSem sig := 101
abbrev cc10_sem1_0 : DmaSem sig := 102
abbrev cc10_sem1_1 : DmaSem sig := 103
abbrev cc10_sem2_0 : DmaSem sig := 104
abbrev cc10_sem2_1 : DmaSem sig := 105
abbrev cc11_sem0_0 : DmaSem sig := 106
abbrev cc11_sem0_1 : DmaSem sig := 107
abbrev cc11_sem1_0 : DmaSem sig := 108
abbrev cc11_sem1_1 : DmaSem sig := 109
abbrev cc11_sem2_0 : DmaSem sig := 110
abbrev cc11_sem2_1 : DmaSem sig := 111
abbrev cc11_sem3_0 : DmaSem sig := 112
abbrev cc11_sem3_1 : DmaSem sig := 113
abbrev cc11_sem4_0 : DmaSem sig := 114
abbrev cc11_sem4_1 : DmaSem sig := 115
abbrev cc11_sem5_0 : DmaSem sig := 116
abbrev cc11_sem5_1 : DmaSem sig := 117
abbrev cc11_sem6_0 : DmaSem sig := 118
abbrev cc11_sem6_1 : DmaSem sig := 119
abbrev cc11_sem7_0 : DmaSem sig := 120
abbrev cc11_sem8_0 : DmaSem sig := 121
abbrev cc11_sem9_0 : DmaSem sig := 122
abbrev cc11_sem10_0 : DmaSem sig := 123
abbrev cc11_sem10_1 : DmaSem sig := 124
abbrev cc11_sem11_0 : DmaSem sig := 125
abbrev cc11_sem11_1 : DmaSem sig := 126
abbrev cc11_sem12_0 : DmaSem sig := 127
abbrev cc11_sem12_1 : DmaSem sig := 128
abbrev cc11_sem13_0 : DmaSem sig := 129
abbrev cc11_sem13_1 : DmaSem sig := 130
abbrev cc11_sem14_0 : DmaSem sig := 131
abbrev cc11_sem14_1 : DmaSem sig := 132
abbrev cc11_sem15_0 : DmaSem sig := 133
abbrev cc11_sem15_1 : DmaSem sig := 134
abbrev cc11_sem16_0 : DmaSem sig := 135
abbrev cc11_sem16_1 : DmaSem sig := 136
abbrev cc12_sem0_0 : DmaSem sig := 137
abbrev cc12_sem0_1 : DmaSem sig := 138
abbrev cc12_sem1_0 : DmaSem sig := 139
abbrev cc12_sem1_1 : DmaSem sig := 140
abbrev cc12_sem2_0 : DmaSem sig := 141
abbrev cc12_sem2_1 : DmaSem sig := 142
abbrev cc12_sem3_0 : DmaSem sig := 143
abbrev cc12_sem3_1 : DmaSem sig := 144
abbrev cc13_sem0_0 : DmaSem sig := 145
abbrev cc13_sem1_0 : DmaSem sig := 146
abbrev cc13_sem1_1 : DmaSem sig := 147
abbrev cc13_sem2_0 : DmaSem sig := 148
abbrev cc13_sem2_1 : DmaSem sig := 149
abbrev cc13_sem3_0 : DmaSem sig := 150
abbrev cc13_sem3_1 : DmaSem sig := 151
abbrev cc14_sem0_0 : DmaSem sig := 152
abbrev cc14_sem1_0 : DmaSem sig := 153
abbrev cc14_sem1_1 : DmaSem sig := 154
abbrev cc14_sem2_0 : DmaSem sig := 155
abbrev cc14_sem2_1 : DmaSem sig := 156
abbrev cc14_sem3_0 : DmaSem sig := 157
abbrev cc14_sem3_1 : DmaSem sig := 158

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_4 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_5 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![2, 11], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S2048x256 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S2048x256 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S2048x256 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev grid3 : Pipeline.Grid := ⟨3, ![11, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S4096x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S4096x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S256x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S256x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨2, ![2, 11], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S2048x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S256x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S2048x256 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S2048x256 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev stage4_4 : Fin 2 → Memref sig .tc .vmem S2048x256 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev stage4_5 : Fin 2 → Memref sig .tc .vmem S2048x256 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true]

abbrev grid5 : Pipeline.Grid := ⟨3, ![1, 11, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc5_transform_3 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 1 → Memref sig .tc .vmem S4096x1024 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false, true]

abbrev stage5_1 : Fin 2 → Memref sig .tc .vmem S4096x256 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev stage5_3 : Fin 2 → Memref sig .tc .vmem S1024x256 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true, false]

abbrev grid6 : Pipeline.Grid := ⟨3, ![1, 11, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc6_transform_3 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 1 → Memref sig .tc .vmem S4096x1024 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true, false, true]

abbrev stage6_1 : Fin 2 → Memref sig .tc .vmem S4096x256 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S1024x256 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev stage6_3 : Fin 2 → Memref sig .tc .vmem S1024x256 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true, false]

abbrev grid7 : Pipeline.Grid := ⟨3, ![16, 1, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc7_transform_3 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg2
  let c0_i32 : BitVec 32 := 0#32
  ![arg1.toNat, v0.toNat]

def cc7_transform_4 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S256x2816 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S256x2816 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, false, true]

abbrev stage7_2 : Fin 1 → Memref sig .tc .vmem S1024x2816 .bf16 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false, true, true]

abbrev stage7_3 : Fin 1 → Memref sig .tc .vmem S1024x2816 .bf16 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false, true, true]

abbrev stage7_4 : Fin 2 → Memref sig .tc .vmem S256x1024 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true, true, false]

abbrev grid8 : Pipeline.Grid := ⟨1, ![8], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S512x1024 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S512x1024 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S1x1024 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S512x1024 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S512x1024 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev stage8_5 : Fin 2 → Memref sig .tc .vmem S512x1024 .bf16 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 1 → Memref sig .tc .vmem S1x1024 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev grid9 : Pipeline.Grid := ⟨3, ![2, 2, 1], ![false, false, false]⟩

def cc9_transform_0 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc9_transform_1 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc9_transform_2 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc9_transform_3 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage9_0 : Fin 2 → Memref sig .tc .vmem S4096x512 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false, true]

abbrev stage9_1 : Fin 2 → Memref sig .tc .vmem S4096x512 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true, true]

abbrev stage9_2 : Fin 2 → Memref sig .tc .vmem S512x512 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true, false]

abbrev stage9_3 : Fin 2 → Memref sig .tc .vmem S512x512 .bf16 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true, true, false]

abbrev grid10 : Pipeline.Grid := ⟨3, ![8, 2, 1], ![false, false, false]⟩

def cc10_transform_0 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc10_transform_1 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc10_transform_2 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage10_0 : Fin 2 → Memref sig .tc .vmem S512x1024 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false, true]

abbrev stage10_1 : Fin 2 → Memref sig .tc .vmem S512x1024 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true, true]

abbrev stage10_2 : Fin 2 → Memref sig .tc .vmem S512x512 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true, false]

abbrev grid11 : Pipeline.Grid := ⟨1, ![16], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_4 (i : grid11.Coords) : Fin 2 → Nat :=
  let arg0 : BitVec 32 := BitVec.ofNat 32 (i 0).val
  let c10_i32 : BitVec 32 := 10#32
  let c0_i32 : BitVec 32 := 0#32
  ![arg0.toNat, c10_i32.toNat]

def cc11_transform_5 (i : grid11.Coords) : Fin 2 → Nat :=
  let arg0 : BitVec 32 := BitVec.ofNat 32 (i 0).val
  let c11_i32 : BitVec 32 := 11#32
  let c0_i32 : BitVec 32 := 0#32
  ![arg0.toNat, c11_i32.toNat]

def cc11_transform_6 (i : grid11.Coords) : Fin 2 → Nat :=
  let arg0 : BitVec 32 := BitVec.ofNat 32 (i 0).val
  let c12_i32 : BitVec 32 := 12#32
  let c0_i32 : BitVec 32 := 0#32
  ![arg0.toNat, c12_i32.toNat]

def cc11_transform_7 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_8 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_9 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_10 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_11 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_12 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_13 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_14 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_15 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_16 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S256x1024 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S256x1024 .bf16 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S256x512 .bf16 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 2 → Memref sig .tc .vmem S256x512 .bf16 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev stage11_4 : Fin 2 → Memref sig .tc .vmem S256x1024 .bf16 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]

abbrev stage11_5 : Fin 2 → Memref sig .tc .vmem S256x1024 .bf16 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev stage11_6 : Fin 2 → Memref sig .tc .vmem S256x1024 .bf16 := fun | 0 => Memref.whole cc11_stg6_0 | 1 => Memref.whole cc11_stg6_1 | ⟨_ + 2, h⟩ => absurd h (Nat.not_lt.2 (Nat.le_add_left _ _))
abbrev sem11_6 : Fin 2 → DmaSem sig := fun | 0 => cc11_sem6_0 | 1 => cc11_sem6_1 | ⟨_ + 2, h⟩ => absurd h (Nat.not_lt.2 (Nat.le_add_left _ _))
abbrev reads11_6 : Fin grid11.rank → Bool := ![true]

abbrev stage11_7 : Fin 1 → Memref sig .tc .vmem S1024x1024 .bf16 := fun | 0 => Memref.whole cc11_stg7_0 | ⟨_ + 1, h⟩ => absurd h (Nat.not_lt.2 (Nat.le_add_left _ _))
abbrev sem11_7 : Fin 1 → DmaSem sig := fun | 0 => cc11_sem7_0 | ⟨_ + 1, h⟩ => absurd h (Nat.not_lt.2 (Nat.le_add_left _ _))
abbrev reads11_7 : Fin grid11.rank → Bool := ![false]

abbrev stage11_8 : Fin 1 → Memref sig .tc .vmem S512x1024 .bf16 := fun | 0 => Memref.whole cc11_stg8_0 | ⟨_ + 1, h⟩ => absurd h (Nat.not_lt.2 (Nat.le_add_left _ _))
abbrev sem11_8 : Fin 1 → DmaSem sig := fun | 0 => cc11_sem8_0 | ⟨_ + 1, h⟩ => absurd h (Nat.not_lt.2 (Nat.le_add_left _ _))
abbrev reads11_8 : Fin grid11.rank → Bool := ![false]

abbrev stage11_9 : Fin 1 → Memref sig .tc .vmem S512x1024 .bf16 := fun | 0 => Memref.whole cc11_stg9_0 | ⟨_ + 1, h⟩ => absurd h (Nat.not_lt.2 (Nat.le_add_left _ _))
abbrev sem11_9 : Fin 1 → DmaSem sig := fun | 0 => cc11_sem9_0 | ⟨_ + 1, h⟩ => absurd h (Nat.not_lt.2 (Nat.le_add_left _ _))
abbrev reads11_9 : Fin grid11.rank → Bool := ![false]

abbrev stage11_10 : Fin 2 → Memref sig .tc .vmem S256x3072 .bf16 := fun | 0 => Memref.whole cc11_stg10_0 | 1 => Memref.whole cc11_stg10_1 | ⟨_ + 2, h⟩ => absurd h (Nat.not_lt.2 (Nat.le_add_left _ _))
abbrev sem11_10 : Fin 2 → DmaSem sig := fun | 0 => cc11_sem10_0 | 1 => cc11_sem10_1 | ⟨_ + 2, h⟩ => absurd h (Nat.not_lt.2 (Nat.le_add_left _ _))
abbrev reads11_10 : Fin grid11.rank → Bool := ![true]

abbrev stage11_11 : Fin 2 → Memref sig .tc .vmem S256x1024 .bf16 := fun | 0 => Memref.whole cc11_stg11_0 | 1 => Memref.whole cc11_stg11_1 | ⟨_ + 2, h⟩ => absurd h (Nat.not_lt.2 (Nat.le_add_left _ _))
abbrev sem11_11 : Fin 2 → DmaSem sig := fun | 0 => cc11_sem11_0 | 1 => cc11_sem11_1 | ⟨_ + 2, h⟩ => absurd h (Nat.not_lt.2 (Nat.le_add_left _ _))
abbrev reads11_11 : Fin grid11.rank → Bool := ![true]

abbrev stage11_12 : Fin 2 → Memref sig .tc .vmem S256x1024 .f32 := fun | 0 => Memref.whole cc11_stg12_0 | 1 => Memref.whole cc11_stg12_1 | ⟨_ + 2, h⟩ => absurd h (Nat.not_lt.2 (Nat.le_add_left _ _))
abbrev sem11_12 : Fin 2 → DmaSem sig := fun | 0 => cc11_sem12_0 | 1 => cc11_sem12_1 | ⟨_ + 2, h⟩ => absurd h (Nat.not_lt.2 (Nat.le_add_left _ _))
abbrev reads11_12 : Fin grid11.rank → Bool := ![true]

abbrev stage11_13 : Fin 2 → Memref sig .tc .vmem S256x1024 .bf16 := fun | 0 => Memref.whole cc11_stg13_0 | 1 => Memref.whole cc11_stg13_1 | ⟨_ + 2, h⟩ => absurd h (Nat.not_lt.2 (Nat.le_add_left _ _))
abbrev sem11_13 : Fin 2 → DmaSem sig := fun | 0 => cc11_sem13_0 | 1 => cc11_sem13_1 | ⟨_ + 2, h⟩ => absurd h (Nat.not_lt.2 (Nat.le_add_left _ _))
abbrev reads11_13 : Fin grid11.rank → Bool := ![true]

abbrev stage11_14 : Fin 2 → Memref sig .tc .vmem S256x512 .f32 := fun | 0 => Memref.whole cc11_stg14_0 | 1 => Memref.whole cc11_stg14_1 | ⟨_ + 2, h⟩ => absurd h (Nat.not_lt.2 (Nat.le_add_left _ _))
abbrev sem11_14 : Fin 2 → DmaSem sig := fun | 0 => cc11_sem14_0 | 1 => cc11_sem14_1 | ⟨_ + 2, h⟩ => absurd h (Nat.not_lt.2 (Nat.le_add_left _ _))
abbrev reads11_14 : Fin grid11.rank → Bool := ![true]

abbrev stage11_15 : Fin 2 → Memref sig .tc .vmem S256x1024 .bf16 := fun | 0 => Memref.whole cc11_stg15_0 | 1 => Memref.whole cc11_stg15_1 | ⟨_ + 2, h⟩ => absurd h (Nat.not_lt.2 (Nat.le_add_left _ _))
abbrev sem11_15 : Fin 2 → DmaSem sig := fun | 0 => cc11_sem15_0 | 1 => cc11_sem15_1 | ⟨_ + 2, h⟩ => absurd h (Nat.not_lt.2 (Nat.le_add_left _ _))
abbrev reads11_15 : Fin grid11.rank → Bool := ![true]

abbrev stage11_16 : Fin 2 → Memref sig .tc .vmem S256x512 .f32 := fun | 0 => Memref.whole cc11_stg16_0 | 1 => Memref.whole cc11_stg16_1 | ⟨_ + 2, h⟩ => absurd h (Nat.not_lt.2 (Nat.le_add_left _ _))
abbrev sem11_16 : Fin 2 → DmaSem sig := fun | 0 => cc11_sem16_0 | 1 => cc11_sem16_1 | ⟨_ + 2, h⟩ => absurd h (Nat.not_lt.2 (Nat.le_add_left _ _))
abbrev reads11_16 : Fin grid11.rank → Bool := ![true]

abbrev grid12 : Pipeline.Grid := ⟨3, ![2, 2, 1], ![false, false, false]⟩

def cc12_transform_0 (i : grid12.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc12_transform_1 (i : grid12.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc12_transform_2 (i : grid12.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc12_transform_3 (i : grid12.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage12_0 : Fin 2 → Memref sig .tc .vmem S4096x512 .bf16 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true, false, true]

abbrev stage12_1 : Fin 2 → Memref sig .tc .vmem S4096x512 .bf16 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![false, true, true]

abbrev stage12_2 : Fin 2 → Memref sig .tc .vmem S512x512 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true, true, false]

abbrev stage12_3 : Fin 2 → Memref sig .tc .vmem S512x512 .bf16 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true, true, false]

abbrev grid13 : Pipeline.Grid := ⟨3, ![1, 2, 1], ![false, false, false]⟩

def cc13_transform_0 (i : grid13.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc13_transform_1 (i : grid13.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc13_transform_2 (i : grid13.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc13_transform_3 (i : grid13.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage13_0 : Fin 1 → Memref sig .tc .vmem S4096x512 .bf16 := fun | 0 => Memref.whole cc13_stg0_0 | ⟨_ + 1, h⟩ => absurd h (Nat.not_lt.2 (Nat.le_add_left _ _))
abbrev sem13_0 : Fin 1 → DmaSem sig := fun | 0 => cc13_sem0_0 | ⟨_ + 1, h⟩ => absurd h (Nat.not_lt.2 (Nat.le_add_left _ _))
abbrev reads13_0 : Fin grid13.rank → Bool := ![true, false, true]

abbrev stage13_1 : Fin 2 → Memref sig .tc .vmem S4096x512 .bf16 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![false, true, true]

abbrev stage13_2 : Fin 2 → Memref sig .tc .vmem S512x512 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true, true, false]

abbrev stage13_3 : Fin 2 → Memref sig .tc .vmem S512x512 .bf16 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true, true, false]

abbrev grid14 : Pipeline.Grid := ⟨3, ![1, 2, 1], ![false, false, false]⟩

def cc14_transform_0 (i : grid14.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc14_transform_1 (i : grid14.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc14_transform_2 (i : grid14.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc14_transform_3 (i : grid14.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage14_0 : Fin 1 → Memref sig .tc .vmem S4096x512 .bf16 := fun | 0 => Memref.whole cc14_stg0_0 | ⟨_ + 1, h⟩ => absurd h (Nat.not_lt.2 (Nat.le_add_left _ _))
abbrev sem14_0 : Fin 1 → DmaSem sig := fun | 0 => cc14_sem0_0 | ⟨_ + 1, h⟩ => absurd h (Nat.not_lt.2 (Nat.le_add_left _ _))
abbrev reads14_0 : Fin grid14.rank → Bool := ![true, false, true]

abbrev stage14_1 : Fin 2 → Memref sig .tc .vmem S4096x512 .bf16 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![false, true, true]

abbrev stage14_2 : Fin 2 → Memref sig .tc .vmem S512x512 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true, true, false]

abbrev stage14_3 : Fin 2 → Memref sig .tc .vmem S512x512 .bf16 := fun | 0 => Memref.whole cc14_stg3_0 | 1 => Memref.whole cc14_stg3_1 | ⟨_ + 2, h⟩ => absurd h (Nat.not_lt.2 (Nat.le_add_left _ _))
abbrev sem14_3 : Fin 2 → DmaSem sig := fun | 0 => cc14_sem3_0 | 1 => cc14_sem3_1 | ⟨_ + 2, h⟩ => absurd h (Nat.not_lt.2 (Nat.le_add_left _ _))
abbrev reads14_3 : Fin grid14.rank → Bool := ![true, true, false]
-- ==== Reference2Ideal.lean ====
abbrev S4096x1024 : Shape := ⟨2, ![4096, 1024]⟩
abbrev S4096x512 : Shape := ⟨2, ![4096, 512]⟩
abbrev S4096x13312 : Shape := ⟨2, ![4096, 13312]⟩
abbrev S1024x1024 : Shape := ⟨2, ![1024, 1024]⟩
abbrev S512x1024 : Shape := ⟨2, ![512, 1024]⟩
abbrev S1x1024 : Shape := ⟨2, ![1, 1024]⟩
abbrev S1024x5632 : Shape := ⟨2, ![1024, 5632]⟩
abbrev S2816x1024 : Shape := ⟨2, ![2816, 1024]⟩
abbrev S4096x3072 : Shape := ⟨2, ![4096, 3072]⟩
abbrev S_ : Shape := ⟨0, ![]⟩
abbrev S1024 : Shape := ⟨1, ![1024]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S1024x2816 : Shape := ⟨2, ![1024, 2816]⟩
abbrev S5632x1024 : Shape := ⟨2, ![5632, 1024]⟩
abbrev S1024x512 : Shape := ⟨2, ![1024, 512]⟩

abbrev nBuf : Space → Nat
  | .hbm => 187
  | .vmem => 0
  | .smem => 0
  | _ => 0

abbrev hbmTy0_0 (i : Nat) : BufTy := match i % 128 with
  | 0 => ⟨S4096x1024, .bf16⟩
  | 1 => ⟨S4096x512, .bf16⟩
  | 2 => ⟨S4096x512, .bf16⟩
  | 3 => ⟨S4096x13312, .bf16⟩
  | 4 => ⟨S1024x1024, .bf16⟩
  | 5 => ⟨S512x1024, .bf16⟩
  | 6 => ⟨S512x1024, .bf16⟩
  | 7 => ⟨S1024x1024, .bf16⟩
  | 8 => ⟨S4096x1024, .f32⟩
  | 9 => ⟨S1x1024, .f32⟩
  | 10 => ⟨S1024x5632, .bf16⟩
  | 11 => ⟨S2816x1024, .bf16⟩
  | 12 => ⟨S4096x1024, .f32⟩
  | 13 => ⟨S4096x1024, .f32⟩
  | 14 => ⟨S4096x512, .f32⟩
  | 15 => ⟨S4096x512, .f32⟩
  | 16 => ⟨S4096x3072, .bf16⟩
  | 17 => ⟨S4096x3072, .f32⟩
  | 18 => ⟨S1024x1024, .f32⟩
  | 19 => ⟨S512x1024, .f32⟩
  | 20 => ⟨S512x1024, .f32⟩
  | 21 => ⟨S1024x1024, .f32⟩
  | 22 => ⟨S1024x5632, .f32⟩
  | 23 => ⟨S2816x1024, .f32⟩
  | 24 => ⟨S4096x1024, .f32⟩
  | 25 => ⟨S4096x1024, .f32⟩
  | 26 => ⟨S4096x1024, .f32⟩
  | 27 => ⟨S4096x1024, .f32⟩
  | 28 => ⟨S4096x1024, .f32⟩
  | 29 => ⟨S_, .f32⟩
  | 30 => ⟨S4096x1024, .f32⟩
  | 31 => ⟨S4096x1024, .f32⟩
  | 32 => ⟨S_, .f32⟩
  | 33 => ⟨S4096x1024, .f32⟩
  | 34 => ⟨S4096x1024, .f32⟩
  | 35 => ⟨S_, .f32⟩
  | 36 => ⟨S4096x1024, .f32⟩
  | 37 => ⟨S4096x1024, .f32⟩
  | 38 => ⟨S4096x1024, .f32⟩
  | 39 => ⟨S4096x1024, .f32⟩
  | 40 => ⟨S4096x1024, .f32⟩
  | 41 => ⟨S4096x1024, .f32⟩
  | 42 => ⟨S4096x1024, .f32⟩
  | 43 => ⟨S_, .f32⟩
  | 44 => ⟨S4096x1024, .f32⟩
  | 45 => ⟨S4096x1024, .f32⟩
  | 46 => ⟨S_, .f32⟩
  | 47 => ⟨S4096x1024, .f32⟩
  | 48 => ⟨S4096x1024, .f32⟩
  | 49 => ⟨S_, .f32⟩
  | 50 => ⟨S4096x1024, .f32⟩
  | 51 => ⟨S4096x1024, .f32⟩
  | 52 => ⟨S4096x1024, .f32⟩
  | 53 => ⟨S4096x1024, .f32⟩
  | 54 => ⟨S4096x1024, .f32⟩
  | 55 => ⟨S4096x1024, .f32⟩
  | 56 => ⟨S4096x1024, .f32⟩
  | 57 => ⟨S4096x1024, .f32⟩
  | 58 => ⟨S_, .f32⟩
  | 59 => ⟨S4096x1024, .f32⟩
  | 60 => ⟨S4096x1024, .f32⟩
  | 61 => ⟨S_, .f32⟩
  | 62 => ⟨S4096x1024, .f32⟩
  | 63 => ⟨S4096x1024, .f32⟩
  | 64 => ⟨S_, .f32⟩
  | 65 => ⟨S4096x1024, .f32⟩
  | 66 => ⟨S4096x1024, .f32⟩
  | 67 => ⟨S4096x1024, .f32⟩
  | 68 => ⟨S4096x1024, .f32⟩
  | 69 => ⟨S4096x1024, .f32⟩
  | 70 => ⟨S4096x1024, .f32⟩
  | 71 => ⟨S4096x1024, .f32⟩
  | 72 => ⟨S4096x1024, .f32⟩
  | 73 => ⟨S1024, .f32⟩
  | 74 => ⟨S4096x1024, .f32⟩
  | 75 => ⟨S_, .f32⟩
  | 76 => ⟨S4096, .f32⟩
  | 77 => ⟨S4096x1, .f32⟩
  | 78 => ⟨S_, .f32⟩
  | 79 => ⟨S4096x1, .f32⟩
  | 80 => ⟨S4096x1, .f32⟩
  | 81 => ⟨S_, .f32⟩
  | 82 => ⟨S4096x1, .f32⟩
  | 83 => ⟨S4096x1, .f32⟩
  | 84 => ⟨S4096x1, .f32⟩
  | 85 => ⟨S4096x1, .f32⟩
  | 86 => ⟨S_, .f32⟩
  | 87 => ⟨S4096x1, .f32⟩
  | 88 => ⟨S4096x1, .f32⟩
  | 89 => ⟨S4096x1024, .f32⟩
  | 90 => ⟨S4096x1024, .f32⟩
  | 91 => ⟨S1x1024, .f32⟩
  | 92 => ⟨S4096x1024, .f32⟩
  | 93 => ⟨S4096x1024, .f32⟩
  | 94 => ⟨S4096x5632, .f32⟩
  | 95 => ⟨S4096x2816, .f32⟩
  | 96 => ⟨S4096x2816, .f32⟩
  | 97 => ⟨S4096x2816, .f32⟩
  | 98 => ⟨S4096x2816, .f32⟩
  | 99 => ⟨S_, .f32⟩
  | 100 => ⟨S4096x2816, .f32⟩
  | 101 => ⟨S4096x2816, .f32⟩
  | 102 => ⟨S_, .f32⟩
  | 103 => ⟨S4096x2816, .f32⟩
  | 104 => ⟨S4096x2816, .f32⟩
  | 105 => ⟨S_, .f32⟩
  | 106 => ⟨S4096x2816, .f32⟩
  | 107 => ⟨S4096x2816, .f32⟩
  | 108 => ⟨S4096x2816, .f32⟩
  | 109 => ⟨S4096x2816, .f32⟩
  | 110 => ⟨S4096x2816, .f32⟩
  | 111 => ⟨S4096x1024, .f32⟩
  | 112 => ⟨S4096x1024, .f32⟩
  | 113 => ⟨S4096x1024, .f32⟩
  | 114 => ⟨S4096x1024, .f32⟩
  | 115 => ⟨S1024x2816, .f32⟩
  | 116 => ⟨S2816x1024, .f32⟩
  | 117 => ⟨S4096x2816, .f32⟩
  | 118 => ⟨S4096x2816, .f32⟩
  | 119 => ⟨S4096x2816, .f32⟩
  | 120 => ⟨S4096x2816, .f32⟩
  | 121 => ⟨S4096x2816, .f32⟩
  | 122 => ⟨S4096x2816, .f32⟩
  | 123 => ⟨S4096x2816, .f32⟩
  | 124 => ⟨S4096x5632, .f32⟩
  | 125 => ⟨S5632x1024, .f32⟩
  | 126 => ⟨S1024x5632, .f32⟩
  | 127 => ⟨S4096x1024, .f32⟩
  | _ => ⟨S4096x1024, .bf16⟩

abbrev hbmTy0_1 (i : Nat) : BufTy := match i % 128 with
  | 0 => ⟨S4096x1024, .f32⟩
  | 1 => ⟨S_, .f32⟩
  | 2 => ⟨S1024, .f32⟩
  | 3 => ⟨S1x1024, .f32⟩
  | 4 => ⟨S4096x1024, .f32⟩
  | 5 => ⟨S4096x1024, .f32⟩
  | 6 => ⟨S_, .f32⟩
  | 7 => ⟨S1024, .f32⟩
  | 8 => ⟨S4096x1024, .f32⟩
  | 9 => ⟨S_, .f32⟩
  | 10 => ⟨S4096, .f32⟩
  | 11 => ⟨S4096x1, .f32⟩
  | 12 => ⟨S4096x1024, .f32⟩
  | 13 => ⟨S4096x1024, .f32⟩
  | 14 => ⟨S4096x1024, .f32⟩
  | 15 => ⟨S4096x1, .f32⟩
  | 16 => ⟨S_, .f32⟩
  | 17 => ⟨S4096x1, .f32⟩
  | 18 => ⟨S4096x1, .f32⟩
  | 19 => ⟨S_, .f32⟩
  | 20 => ⟨S4096, .f32⟩
  | 21 => ⟨S4096x1024, .f32⟩
  | 22 => ⟨S4096x1024, .f32⟩
  | 23 => ⟨S4096x1024, .f32⟩
  | 24 => ⟨S4096x1024, .f32⟩
  | 25 => ⟨S4096x1024, .f32⟩
  | 26 => ⟨S1x1024, .f32⟩
  | 27 => ⟨S1024x1024, .f32⟩
  | 28 => ⟨S1024x1024, .f32⟩
  | 29 => ⟨S4096x1024, .f32⟩
  | 30 => ⟨S4096x1024, .f32⟩
  | 31 => ⟨S4096x1024, .f32⟩
  | 32 => ⟨S1024x512, .f32⟩
  | 33 => ⟨S512x1024, .f32⟩
  | 34 => ⟨S4096x512, .f32⟩
  | 35 => ⟨S4096x1024, .f32⟩
  | 36 => ⟨S4096x1024, .f32⟩
  | 37 => ⟨S4096x1024, .f32⟩
  | 38 => ⟨S1024x512, .f32⟩
  | 39 => ⟨S512x1024, .f32⟩
  | 40 => ⟨S4096x512, .f32⟩
  | 41 => ⟨S4096x1024, .f32⟩
  | 42 => ⟨S4096x1024, .f32⟩
  | 43 => ⟨S4096x1024, .f32⟩
  | 44 => ⟨S1024x1024, .f32⟩
  | 45 => ⟨S1024x1024, .f32⟩
  | 46 => ⟨S4096x1024, .f32⟩
  | 47 => ⟨S4096x1024, .f32⟩
  | 48 => ⟨S4096x3072, .f32⟩
  | 49 => ⟨S2816x1024, .bf16⟩
  | 50 => ⟨S1024x2816, .f32⟩
  | 51 => ⟨S1024x2816, .bf16⟩
  | 52 => ⟨S1024x2816, .f32⟩
  | 53 => ⟨S1024x2816, .bf16⟩
  | 54 => ⟨S1024x1024, .bf16⟩
  | 55 => ⟨S1024x1024, .bf16⟩
  | 56 => ⟨S512x1024, .bf16⟩
  | 57 => ⟨S512x1024, .bf16⟩
  | 58 => ⟨S4096x3072, .bf16⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_cst_0 : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_2 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_5 : Ref sig .tc := ⟨.hbm, 58, rfl⟩
abbrev main_v39 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_v42 : Ref sig .tc := ⟨.hbm, 63, rfl⟩
abbrev main_cst_7 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_8 : Ref sig .tc := ⟨.hbm, 75, rfl⟩
abbrev main_v53 : Ref sig .tc := ⟨.hbm, 76, rfl⟩
abbrev main_v54 : Ref sig .tc := ⟨.hbm, 77, rfl⟩
abbrev main_cst_9 : Ref sig .tc := ⟨.hbm, 78, rfl⟩
abbrev main_v55 : Ref sig .tc := ⟨.hbm, 79, rfl⟩
abbrev main_v56 : Ref sig .tc := ⟨.hbm, 80, rfl⟩
abbrev main_cst_10 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_11 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_call0_v0 : Ref sig .tc := ⟨.hbm, 97, rfl⟩
abbrev main_call0_v1 : Ref sig .tc := ⟨.hbm, 98, rfl⟩
abbrev main_call0_cst : Ref sig .tc := ⟨.hbm, 99, rfl⟩
abbrev main_call0_v2 : Ref sig .tc := ⟨.hbm, 100, rfl⟩
abbrev main_call0_v3 : Ref sig .tc := ⟨.hbm, 101, rfl⟩
abbrev main_call0_cst_0 : Ref sig .tc := ⟨.hbm, 102, rfl⟩
abbrev main_call0_v4 : Ref sig .tc := ⟨.hbm, 103, rfl⟩
abbrev main_v71_2 : Ref sig .tc := ⟨.hbm, 104, rfl⟩
abbrev main_call0_cst_1 : Ref sig .tc := ⟨.hbm, 105, rfl⟩
abbrev main_call0_v6 : Ref sig .tc := ⟨.hbm, 106, rfl⟩
abbrev main_call0_v7 : Ref sig .tc := ⟨.hbm, 107, rfl⟩
abbrev main_v71_1 : Ref sig .tc := ⟨.hbm, 108, rfl⟩
abbrev main_v71_0 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_call1_v0 : Ref sig .tc := ⟨.hbm, 120, rfl⟩
abbrev main_call1_v1 : Ref sig .tc := ⟨.hbm, 121, rfl⟩
abbrev main_call1_v2 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_cst_12 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_cst_13 : Ref sig .tc := ⟨.hbm, 134, rfl⟩
abbrev main_v92 : Ref sig .tc := ⟨.hbm, 135, rfl⟩
abbrev main_v93 : Ref sig .tc := ⟨.hbm, 136, rfl⟩
abbrev main_cst_14 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_cst_15 : Ref sig .tc := ⟨.hbm, 144, rfl⟩
abbrev main_v100 : Ref sig .tc := ⟨.hbm, 145, rfl⟩
abbrev main_v101 : Ref sig .tc := ⟨.hbm, 146, rfl⟩
abbrev main_cst_16 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩

abbrev nD : Nat := 1
abbrev τ : Topo := Topo.v7x

variable {F : FTy → Type} [FloatOps F]
-- ==== Kernel3.lean ====
abbrev S4096x13312 : Shape := ⟨2, ![4096, 13312]⟩
abbrev S1024x13312 : Shape := ⟨2, ![1024, 13312]⟩
abbrev S4096x1024 : Shape := ⟨2, ![4096, 1024]⟩
abbrev S1024x1664 : Shape := ⟨2, ![1024, 1664]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x13312, .bf16⟩
  | .hbm, ⟨1, _⟩ => ⟨S1024x13312, .bf16⟩
  | .hbm, ⟨2, _⟩ => ⟨S4096x1024, .f32⟩
  | .local _ .vmem, ⟨0, _⟩ => ⟨S1024x1664, .bf16⟩
  | .local _ .vmem, ⟨1, _⟩ => ⟨S1024x1664, .bf16⟩
  | .local _ .vmem, ⟨2, _⟩ => ⟨S1024x1664, .bf16⟩
  | .local _ .vmem, ⟨3, _⟩ => ⟨S1024x1664, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x13312, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x13312 : Shape := ⟨2, ![4096, 13312]⟩
abbrev S1024x13312 : Shape := ⟨2, ![1024, 13312]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x13312, .bf16⟩
  | .hbm, ⟨1, _⟩ => ⟨S1024x13312, .bf16⟩
  | .hbm, ⟨2, _⟩ => ⟨S1024x13312, .f32⟩
  | .hbm, ⟨3, _⟩ => ⟨S_, .f32⟩
  | .hbm, ⟨4, _⟩ => ⟨S4096x1024, .f32⟩
  | .hbm, ⟨5, _⟩ => ⟨S4096x13312, .f32⟩
  | .hbm, ⟨6, _⟩ => ⟨S4096x13312, .f32⟩
  | .hbm, ⟨7, _⟩ => ⟨S4096x1024, .f32⟩
  | _, _ => ⟨S4096x13312, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S4096x1024 : Shape := ⟨2, ![4096, 1024]⟩
abbrev S1x1024 : Shape := ⟨2, ![1, 1024]⟩
abbrev S1024x13312 : Shape := ⟨2, ![1024, 13312]⟩
abbrev S4096x13312 : Shape := ⟨2, ![4096, 13312]⟩
abbrev S1024x1024 : Shape := ⟨2, ![1024, 1024]⟩
abbrev S1024 : Shape := ⟨1, ![1024]⟩
abbrev S1024x1 : Shape := ⟨2, ![1024, 1]⟩
abbrev S4096x512 : Shape := ⟨2, ![4096, 512]⟩
abbrev S1024x512 : Shape := ⟨2, ![1024, 512]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 28
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x13312, .bf16⟩
  | .hbm, ⟨3, _⟩ => ⟨S4096x13312, .bf16⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S4096x13312, .bf16⟩
  | .hbm, ⟨8, _⟩ => ⟨S1024x13312, .f32⟩
  | .hbm, ⟨9, _⟩ => ⟨S1024x13312, .bf16⟩
  | .hbm, ⟨10, _⟩ => ⟨S4096x1024, .f32⟩
  | .hbm, ⟨11, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S4096x1024, .bf16⟩
  | .local _ .vmem, ⟨12, _⟩ => ⟨S4096x512, .bf16⟩
  | .local _ .vmem, ⟨13, _⟩ => ⟨S4096x512, .bf16⟩
  | .local _ .vmem, ⟨14, _⟩ => ⟨S1024x512, .f32⟩
  | .local _ .vmem, ⟨15, _⟩ => ⟨S1024x512, .f32⟩
  | .local _ .vmem, ⟨16, _⟩ => ⟨S1024x512, .bf16⟩
  | .local _ .vmem, ⟨17, _⟩ => ⟨S1024x512, .bf16⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S1x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc3_stg4_0 : Ref sig .tc := ⟨.vmem, 25, rfl⟩
abbrev cc3_stg4_1 : Ref sig .tc := ⟨.vmem, 26, rfl⟩
abbrev cc3_stg5_0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem3_0 : DmaSem sig := 23
abbrev cc3_sem3_1 : DmaSem sig := 24
abbrev cc3_sem4_0 : DmaSem sig := 25
abbrev cc3_sem4_1 : DmaSem sig := 26
abbrev cc3_sem5_0 : DmaSem sig := 27

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![4, 13, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 26, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S4096x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 2 → Memref sig .tc .vmem S4096x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1024x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S512x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S512x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S1x1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]
-- ==== Reference4Ideal.lean ====
abbrev S4096x1024 : Shape := ⟨2, ![4096, 1024]⟩
abbrev S1x1024 : Shape := ⟨2, ![1, 1024]⟩
abbrev S1024x13312 : Shape := ⟨2, ![1024, 13312]⟩
abbrev S4096x13312 : Shape := ⟨2, ![4096, 13312]⟩
abbrev S1024 : Shape := ⟨1, ![1024]⟩
abbrev S_ : Shape := ⟨0, ![]⟩
abbrev S4096 : Shape := ⟨1, ![4096]⟩
abbrev S4096x1 : Shape := ⟨2, ![4096, 1]⟩
abbrev S13312x1024 : Shape := ⟨2, ![13312, 1024]⟩

abbrev nBuf : Space → Nat
  | .hbm => 61
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x13312, .bf16⟩
  | .hbm, ⟨3, _⟩ => ⟨S4096x13312, .bf16⟩
  | .hbm, ⟨4, _⟩ => ⟨S4096x1024, .f32⟩
  | .hbm, ⟨5, _⟩ => ⟨S4096x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S1024x13312, .f32⟩
  | .hbm, ⟨28, _⟩ => ⟨S4096x13312, .f32⟩
  | .hbm, ⟨29, _⟩ => ⟨S4096x13312, .f32⟩
  | .hbm, ⟨30, _⟩ => ⟨S13312x1024, .f32⟩
  | .hbm, ⟨31, _⟩ => ⟨S1024x13312, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S1x1024, .f32⟩
  | .hbm, ⟨58, _⟩ => ⟨S4096x13312, .bf16⟩
  | .hbm, ⟨59, _⟩ => ⟨S1024x13312, .bf16⟩
  | .hbm, ⟨60, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== Kernel5.lean ====
abbrev S1024x3328 : Shape := ⟨2, ![1024, 3328]⟩
abbrev S256x1024 : Shape := ⟨2, ![256, 1024]⟩
abbrev S512x256 : Shape := ⟨2, ![512, 256]⟩
abbrev S1024x1408 : Shape := ⟨2, ![1024, 1408]⟩
abbrev S704x1024 : Shape := ⟨2, ![704, 1024]⟩
abbrev S8x1024 : Shape := ⟨2, ![8, 1024]⟩
abbrev S64x3328 : Shape := ⟨2, ![64, 3328]⟩
abbrev S128x1408 : Shape := ⟨2, ![128, 1408]⟩
abbrev S176x1024 : Shape := ⟨2, ![176, 1024]⟩

abbrev nBuf : Space → Nat
  | .hbm => 48
  | .vmem => 72
  | .smem => 0
  | _ => 0

abbrev bufTy : (tb : Table) → Fin (tcTables nBuf tb) → BufTy
  | .hbm, ⟨0, _⟩ => ⟨S1024x3328, .f32⟩
  | .hbm, ⟨1, _⟩ => ⟨S1024x3328, .f32⟩
  | .hbm, ⟨2, _⟩ => ⟨S1024x3328, .f32⟩
  | .hbm, ⟨3, _⟩ => ⟨S1024x3328, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S512x256, .f32⟩
  | .hbm, ⟨9, _⟩ => ⟨S512x256, .f32⟩
  | .hbm, ⟨10, _⟩ => ⟨S512x256, .f32⟩
  | .hbm, ⟨11, _⟩ => ⟨S512x256, .f32⟩
  | .hbm, ⟨12, _⟩ => ⟨S1024x1408, .f32⟩
  | .hbm, ⟨13, _⟩ => ⟨S1024x1408, .f32⟩
  | .hbm, ⟨14, _⟩ => ⟨S1024x1408, .f32⟩
  | .hbm, ⟨15, _⟩ => ⟨S1024x1408, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S704x1024, .f32⟩
  | .hbm, ⟨20, _⟩ => ⟨S8x1024, .f32⟩
  | .hbm, ⟨21, _⟩ => ⟨S8x1024, .f32⟩
  | .hbm, ⟨22, _⟩ => ⟨S8x1024, .f32⟩
  | .hbm, ⟨23, _⟩ => ⟨S8x1024, .f32⟩
  | .hbm, ⟨24, _⟩ => ⟨S1024x3328, .f32⟩
  | .hbm, ⟨25, _⟩ => ⟨S1024x3328, .f32⟩
  | .hbm, ⟨26, _⟩ => ⟨S1024x3328, .f32⟩
  | .hbm, ⟨27, _⟩ => ⟨S1024x3328, .f32⟩
  | .hbm, ⟨28, _⟩ => ⟨S256x1024, .f32⟩
  | .hbm, ⟨29, _⟩ => ⟨S256x1024, .f32⟩
  | .hbm, ⟨30, _⟩ => ⟨S256x1024, .f32⟩
  | .hbm, ⟨31, _⟩ => ⟨S256x1024, .f32⟩
  | .hbm, ⟨32, _⟩ => ⟨S512x256, .f32⟩
  | .hbm, ⟨33, _⟩ => ⟨S512x256, .f32⟩
  | .hbm, ⟨34, _⟩ => ⟨S512x256, .f32⟩
  | .hbm, ⟨35, _⟩ => ⟨S512x256, .f32⟩
  | .hbm, ⟨36, _⟩ => ⟨S1024x1408, .f32⟩
  | .hbm, ⟨37, _⟩ => ⟨S1024x1408, .f32⟩
  | .hbm, ⟨38, _⟩ => ⟨S1024x1408, .f32⟩
  | .hbm, ⟨39, _⟩ => ⟨S1024x1408, .f32⟩
  | .hbm, ⟨40, _⟩ => ⟨S704x1024, .f32⟩
  | .hbm, ⟨41, _⟩ => ⟨S704x1024, .f32⟩
  | .hbm, ⟨42, _⟩ => ⟨S704x1024, .f32⟩
  | .hbm, ⟨43, _⟩ => ⟨S704x1024, .f32⟩
  | .hbm, ⟨44, _⟩ => ⟨S8x1024, .f32⟩
  | .hbm, ⟨45, _⟩ => ⟨S8x1024, .f32⟩
  | .hbm, ⟨46, _⟩ => ⟨S8x1024, .f32⟩
  | .hbm, ⟨47, _⟩ => ⟨S8x1024, .f32⟩
  | .local _ .vmem, ⟨0, _⟩ => ⟨S64x3328, .f32⟩
  | .local _ .vmem, ⟨1, _⟩ => ⟨S64x3328, .f32⟩
  | .local _ .vmem, ⟨2, _⟩ => ⟨S64x3328, .f32⟩
  | .local _ .vmem, ⟨3, _⟩ => ⟨S64x3328, .f32⟩
  | .local _ .vmem, ⟨4, _⟩ => ⟨S64x3328, .f32⟩
  | .local _ .vmem, ⟨5, _⟩ => ⟨S64x3328, .f32⟩
  | .local _ .vmem, ⟨6, _⟩ => ⟨S64x3328, .f32⟩
  | .local _ .vmem, ⟨7, _⟩ => ⟨S64x3328, .f32⟩
  | .local _ .vmem, ⟨8, _⟩ => ⟨S64x3328, .f32⟩
  | .local _ .vmem, ⟨9, _⟩ => ⟨S64x3328, .f32⟩
  | .local _ .vmem, ⟨10, _⟩ => ⟨S64x3328, .f32⟩
  | .local _ .vmem, ⟨11, _⟩ => ⟨S64x3328, .f32⟩
  | .local _ .vmem, ⟨12, _⟩ => ⟨S64x3328, .f32⟩
  | .local _ .vmem, ⟨13, _⟩ => ⟨S64x3328, .f32⟩
  | .local _ .vmem, ⟨14, _⟩ => ⟨S64x3328, .f32⟩
  | .local _ .vmem, ⟨15, _⟩ => ⟨S64x3328, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S512x256, .f32⟩
  | .local _ .vmem, ⟨25, _⟩ => ⟨S512x256, .f32⟩
  | .local _ .vmem, ⟨26, _⟩ => ⟨S512x256, .f32⟩
  | .local _ .vmem, ⟨27, _⟩ => ⟨S512x256, .f32⟩
  | .local _ .vmem, ⟨28, _⟩ => ⟨S512x256, .f32⟩
  | .local _ .vmem, ⟨29, _⟩ => ⟨S512x256, .f32⟩
  | .local _ .vmem, ⟨30, _⟩ => ⟨S512x256, .f32⟩
  | .local _ .vmem, ⟨31, _⟩ => ⟨S512x256, .f32⟩
  | .local _ .vmem, ⟨32, _⟩ => ⟨S128x1408, .f32⟩
  | .local _ .vmem, ⟨33, _⟩ => ⟨S128x1408, .f32⟩
  | .local _ .vmem, ⟨34, _⟩ => ⟨S128x1408, .f32⟩
  | .local _ .vmem, ⟨35, _⟩ => ⟨S128x1408, .f32⟩
  | .local _ .vmem, ⟨36, _⟩ => ⟨S128x1408, .f32⟩
  | .local _ .vmem, ⟨37, _⟩ => ⟨S128x1408, .f32⟩
  | .local _ .vmem, ⟨38, _⟩ => ⟨S128x1408, .f32⟩
  | .local _ .vmem, ⟨39, _⟩ => ⟨S128x1408, .f32⟩
  | .local _ .vmem, ⟨40, _⟩ => ⟨S128x1408, .f32⟩
  | .local _ .vmem, ⟨41, _⟩ => ⟨S128x1408, .f32⟩
  | .local _ .vmem, ⟨42, _⟩ => ⟨S128x1408, .f32⟩
  | .local _ .vmem, ⟨43, _⟩ => ⟨S128x1408, .f32⟩
  | .local _ .vmem, ⟨44, _⟩ => ⟨S128x1408, .f32⟩
  | .local _ .vmem, ⟨45, _⟩ => ⟨S128x1408, .f32⟩
  | .local _ .vmem, ⟨46, _⟩ => ⟨S128x1408, .f32⟩
  | .local _ .vmem, ⟨47, _⟩ => ⟨S128x1408, .f32⟩
  | .local _ .vmem, ⟨48, _⟩ => ⟨S176x1024, .f32⟩
  | .local _ .vmem, ⟨49, _⟩ => ⟨S176x1024, .f32⟩
  | .local _ .vmem, ⟨50, _⟩ => ⟨S176x1024, .f32⟩
  | .local _ .vmem, ⟨51, _⟩ => ⟨S176x1024, .f32⟩
  | .local _ .vmem, ⟨52, _⟩ => ⟨S176x1024, .f32⟩
  | .local _ .vmem, ⟨53, _⟩ => ⟨S176x1024, .f32⟩
  | .local _ .vmem, ⟨54, _⟩ => ⟨S176x1024, .f32⟩
  | .local _ .vmem, ⟨55, _⟩ => ⟨S176x1024, .f32⟩
  | .local _ .vmem, ⟨56, _⟩ => ⟨S176x1024, .f32⟩
  | .local _ .vmem, ⟨57, _⟩ => ⟨S176x1024, .f32⟩
  | .local _ .vmem, ⟨58, _⟩ => ⟨S176x1024, .f32⟩
  | .local _ .vmem, ⟨59, _⟩ => ⟨S176x1024, .f32⟩
  | .local _ .vmem, ⟨60, _⟩ => ⟨S176x1024, .f32⟩
  | .local _ .vmem, ⟨61, _⟩ => ⟨S176x1024, .f32⟩
  | .local _ .vmem, ⟨62, _⟩ => ⟨S176x1024, .f32⟩
  | .local _ .vmem, ⟨63, _⟩ => ⟨S176x1024, .f32⟩
  | .local _ .vmem, ⟨64, _⟩ => ⟨S8x1024, .f32⟩
  | .local _ .vmem, ⟨65, _⟩ => ⟨S8x1024, .f32⟩
  | .local _ .vmem, ⟨66, _⟩ => ⟨S8x1024, .f32⟩
  | .local _ .vmem, ⟨67, _⟩ => ⟨S8x1024, .f32⟩
  | .local _ .vmem, ⟨68, _⟩ => ⟨S8x1024, .f32⟩
  | .local _ .vmem, ⟨69, _⟩ => ⟨S8x1024, .f32⟩
  | .local _ .vmem, ⟨70, _⟩ => ⟨S8x1024, .f32⟩
  | .local _ .vmem, ⟨71, _⟩ => ⟨S8x1024, .f32⟩
  | _, _ => ⟨S1024x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0_0 : Ref sig .tc := ⟨.hbm, 24, rfl⟩
abbrev main_v0_1 : Ref sig .tc := ⟨.hbm, 25, rfl⟩
abbrev main_v0_2 : Ref sig .tc := ⟨.hbm, 26, rfl⟩
abbrev main_v0_3 : Ref sig .tc := ⟨.hbm, 27, rfl⟩
abbrev main_v1_0 : Ref sig .tc := ⟨.hbm, 28, rfl⟩
abbrev main_v1_1 : Ref sig .tc := ⟨.hbm, 29, rfl⟩
abbrev main_v1_2 : Ref sig .tc := ⟨.hbm, 30, rfl⟩
abbrev main_v1_3 : Ref sig .tc := ⟨.hbm, 31, rfl⟩
abbrev main_v2_0 : Ref sig .tc := ⟨.hbm, 32, rfl⟩
abbrev main_v2_1 : Ref sig .tc := ⟨.hbm, 33, rfl⟩
abbrev main_v2_2 : Ref sig .tc := ⟨.hbm, 34, rfl⟩
abbrev main_v2_3 : Ref sig .tc := ⟨.hbm, 35, rfl⟩
abbrev main_v3_0 : Ref sig .tc := ⟨.hbm, 36, rfl⟩
abbrev main_v3_1 : Ref sig .tc := ⟨.hbm, 37, rfl⟩
abbrev main_v3_2 : Ref sig .tc := ⟨.hbm, 38, rfl⟩
abbrev main_v3_3 : Ref sig .tc := ⟨.hbm, 39, rfl⟩
abbrev main_v4_0 : Ref sig .tc := ⟨.hbm, 40, rfl⟩
abbrev main_v4_1 : Ref sig .tc := ⟨.hbm, 41, rfl⟩
abbrev main_v4_2 : Ref sig .tc := ⟨.hbm, 42, rfl⟩
abbrev main_v4_3 : Ref sig .tc := ⟨.hbm, 43, rfl⟩
abbrev main_v5_0 : Ref sig .tc := ⟨.hbm, 44, rfl⟩
abbrev main_v5_1 : Ref sig .tc := ⟨.hbm, 45, rfl⟩
abbrev main_v5_2 : Ref sig .tc := ⟨.hbm, 46, rfl⟩
abbrev main_v5_3 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc2_stg0_0 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg2_1 : Ref sig .tc := ⟨.vmem, 37, rfl⟩
abbrev cc3_stg3_0 : Ref sig .tc := ⟨.vmem, 38, rfl⟩
abbrev cc3_stg3_1 : Ref sig .tc := ⟨.vmem, 39, rfl⟩
abbrev cc3_stg4_0 : Ref sig .tc := ⟨.vmem, 40, rfl⟩
abbrev cc3_stg4_1 : Ref sig .tc := ⟨.vmem, 41, rfl⟩
abbrev cc3_stg5_0 : Ref sig .tc := ⟨.vmem, 42, rfl⟩
abbrev cc3_stg5_1 : Ref sig .tc := ⟨.vmem, 43, rfl⟩
abbrev cc3_stg6_0 : Ref sig .tc := ⟨.vmem, 44, rfl⟩
abbrev cc3_stg6_1 : Ref sig .tc := ⟨.vmem, 45, rfl⟩
abbrev cc3_stg7_0 : Ref sig .tc := ⟨.vmem, 46, rfl⟩
abbrev cc3_stg7_1 : Ref sig .tc := ⟨.vmem, 47, rfl⟩
abbrev cc4_stg0_0 : Ref sig .tc := ⟨.vmem, 48, rfl⟩
abbrev cc4_stg0_1 : Ref sig .tc := ⟨.vmem, 49, rfl⟩
abbrev cc4_stg1_0 : Ref sig .tc := ⟨.vmem, 50, rfl⟩
abbrev cc4_stg1_1 : Ref sig .tc := ⟨.vmem, 51, rfl⟩
abbrev cc4_stg2_0 : Ref sig .tc := ⟨.vmem, 52, rfl⟩
abbrev cc4_stg2_1 : Ref sig .tc := ⟨.vmem, 53, rfl⟩
abbrev cc4_stg3_0 : Ref sig .tc := ⟨.vmem, 54, rfl⟩
abbrev cc4_stg3_1 : Ref sig .tc := ⟨.vmem, 55, rfl⟩
abbrev cc4_stg4_0 : Ref sig .tc := ⟨.vmem, 56, rfl⟩
abbrev cc4_stg4_1 : Ref sig .tc := ⟨.vmem, 57, rfl⟩
abbrev cc4_stg5_0 : Ref sig .tc := ⟨.vmem, 58, rfl⟩
abbrev cc4_stg5_1 : Ref sig .tc := ⟨.vmem, 59, rfl⟩
abbrev cc4_stg6_0 : Ref sig .tc := ⟨.vmem, 60, rfl⟩
abbrev cc4_stg6_1 : Ref sig .tc := ⟨.vmem, 61, rfl⟩
abbrev cc4_stg7_0 : Ref sig .tc := ⟨.vmem, 62, rfl⟩
abbrev cc4_stg7_1 : Ref sig .tc := ⟨.vmem, 63, rfl⟩
abbrev cc5_stg0_0 : Ref sig .tc := ⟨.vmem, 64, rfl⟩
abbrev cc5_stg1_0 : Ref sig .tc := ⟨.vmem, 65, rfl⟩
abbrev cc5_stg2_0 : Ref sig .tc := ⟨.vmem, 66, rfl⟩
abbrev cc5_stg3_0 : Ref sig .tc := ⟨.vmem, 67, rfl⟩
abbrev cc5_stg4_0 : Ref sig .tc := ⟨.vmem, 68, rfl⟩
abbrev cc5_stg5_0 : Ref sig .tc := ⟨.vmem, 69, rfl⟩
abbrev cc5_stg6_0 : Ref sig .tc := ⟨.vmem, 70, rfl⟩
abbrev cc5_stg7_0 : Ref sig .tc := ⟨.vmem, 71, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc2_sem0_0 : DmaSem sig := 24
abbrev cc2_sem1_0 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem2_1 : DmaSem sig := 37
abbrev cc3_sem3_0 : DmaSem sig := 38
abbrev cc3_sem3_1 : DmaSem sig := 39
abbrev cc3_sem4_0 : DmaSem sig := 40
abbrev cc3_sem4_1 : DmaSem sig := 41
abbrev cc3_sem5_0 : DmaSem sig := 42
abbrev cc3_sem5_1 : DmaSem sig := 43
abbrev cc3_sem6_0 : DmaSem sig := 44
abbrev cc3_sem6_1 : DmaSem sig := 45
abbrev cc3_sem7_0 : DmaSem sig := 46
abbrev cc3_sem7_1 : DmaSem sig := 47
abbrev cc4_sem0_0 : DmaSem sig := 48
abbrev cc4_sem0_1 : DmaSem sig := 49
abbrev cc4_sem1_0 : DmaSem sig := 50
abbrev cc4_sem1_1 : DmaSem sig := 51
abbrev cc4_sem2_0 : DmaSem sig := 52
abbrev cc4_sem2_1 : DmaSem sig := 53
abbrev cc4_sem3_0 : DmaSem sig := 54
abbrev cc4_sem3_1 : DmaSem sig := 55
abbrev cc4_sem4_0 : DmaSem sig := 56
abbrev cc4_sem4_1 : DmaSem sig := 57
abbrev cc4_sem5_0 : DmaSem sig := 58
abbrev cc4_sem5_1 : DmaSem sig := 59
abbrev cc4_sem6_0 : DmaSem sig := 60
abbrev cc4_sem6_1 : DmaSem sig := 61
abbrev cc4_sem7_0 : DmaSem sig := 62
abbrev cc4_sem7_1 : DmaSem sig := 63
abbrev cc5_sem0_0 : DmaSem sig := 64
abbrev cc5_sem1_0 : DmaSem sig := 65
abbrev cc5_sem2_0 : DmaSem sig := 66
abbrev cc5_sem3_0 : DmaSem sig := 67
abbrev cc5_sem4_0 : DmaSem sig := 68
abbrev cc5_sem5_0 : DmaSem sig := 69
abbrev cc5_sem6_0 : DmaSem sig := 70
abbrev cc5_sem7_0 : DmaSem sig := 71

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x3328 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x3328 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x3328 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x3328 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x3328 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x3328 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x3328 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x3328 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S256x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S256x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S256x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S256x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S256x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S256x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S256x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S256x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S512x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S512x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S512x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev stage2_3 : Fin 1 → Memref sig .tc .vmem S512x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

abbrev stage2_4 : Fin 1 → Memref sig .tc .vmem S512x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![true]

abbrev stage2_5 : Fin 1 → Memref sig .tc .vmem S512x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true]

abbrev stage2_6 : Fin 1 → Memref sig .tc .vmem S512x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![true]

abbrev stage2_7 : Fin 1 → Memref sig .tc .vmem S512x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S128x1408 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S128x1408 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S128x1408 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S128x1408 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S128x1408 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S128x1408 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S128x1408 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S128x1408 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S176x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S176x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S176x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S176x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S176x1024 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S176x1024 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S176x1024 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S176x1024 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S8x1024 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S8x1024 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true]

abbrev stage5_2 : Fin 1 → Memref sig .tc .vmem S8x1024 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true]

abbrev stage5_3 : Fin 1 → Memref sig .tc .vmem S8x1024 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![true]

abbrev stage5_4 : Fin 1 → Memref sig .tc .vmem S8x1024 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![true]

abbrev stage5_5 : Fin 1 → Memref sig .tc .vmem S8x1024 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![true]

abbrev stage5_6 : Fin 1 → Memref sig .tc .vmem S8x1024 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![true]

abbrev stage5_7 : Fin 1 → Memref sig .tc .vmem S8x1024 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![true]
-- ==== Reference5Ideal.lean ====
abbrev S1024x3328 : Shape := ⟨2, ![1024, 3328]⟩
abbrev S256x1024 : Shape := ⟨2, ![256, 1024]⟩
abbrev S512x256 : Shape := ⟨2, ![512, 256]⟩
abbrev S1024x1408 : Shape := ⟨2, ![1024, 1408]⟩
abbrev S704x1024 : Shape := ⟨2, ![704, 1024]⟩
abbrev S8x1024 : Shape := ⟨2, ![8, 1024]⟩
abbrev S_ : Shape := ⟨0, ![]⟩

abbrev nBuf : Space → Nat
  | .hbm => 222
  | .vmem => 0
  | .smem => 0
  | _ => 0

abbrev hbmTy0_0 (i : Nat) : BufTy := match i % 128 with
  | 0 => ⟨S1024x3328, .f32⟩
  | 1 => ⟨S1024x3328, .f32⟩
  | 2 => ⟨S1024x3328, .f32⟩
  | 3 => ⟨S1024x3328, .f32⟩
  | 4 => ⟨S256x1024, .f32⟩
  | 5 => ⟨S256x1024, .f32⟩
  | 6 => ⟨S256x1024, .f32⟩
  | 7 => ⟨S256x1024, .f32⟩
  | 8 => ⟨S512x256, .f32⟩
  | 9 => ⟨S512x256, .f32⟩
  | 10 => ⟨S512x256, .f32⟩
  | 11 => ⟨S512x256, .f32⟩
  | 12 => ⟨S1024x1408, .f32⟩
  | 13 => ⟨S1024x1408, .f32⟩
  | 14 => ⟨S1024x1408, .f32⟩
  | 15 => ⟨S1024x1408, .f32⟩
  | 16 => ⟨S704x1024, .f32⟩
  | 17 => ⟨S704x1024, .f32⟩
  | 18 => ⟨S704x1024, .f32⟩
  | 19 => ⟨S704x1024, .f32⟩
  | 20 => ⟨S8x1024, .f32⟩
  | 21 => ⟨S8x1024, .f32⟩
  | 22 => ⟨S8x1024, .f32⟩
  | 23 => ⟨S8x1024, .f32⟩
  | 24 => ⟨S_, .f32⟩
  | 25 => ⟨S1024x3328, .f32⟩
  | 26 => ⟨S1024x3328, .f32⟩
  | 27 => ⟨S_, .f32⟩
  | 28 => ⟨S1024x3328, .f32⟩
  | 29 => ⟨S1024x3328, .f32⟩
  | 30 => ⟨S1024x3328, .f32⟩
  | 31 => ⟨S_, .f32⟩
  | 32 => ⟨S1024x3328, .f32⟩
  | 33 => ⟨S1024x3328, .f32⟩
  | 34 => ⟨S1024x3328, .f32⟩
  | 35 => ⟨S_, .f32⟩
  | 36 => ⟨S1024x3328, .f32⟩
  | 37 => ⟨S1024x3328, .f32⟩
  | 38 => ⟨S1024x3328, .f32⟩
  | 39 => ⟨S_, .f32⟩
  | 40 => ⟨S1024x3328, .f32⟩
  | 41 => ⟨S1024x3328, .f32⟩
  | 42 => ⟨S_, .f32⟩
  | 43 => ⟨S1024x3328, .f32⟩
  | 44 => ⟨S1024x3328, .f32⟩
  | 45 => ⟨S1024x3328, .f32⟩
  | 46 => ⟨S_, .f32⟩
  | 47 => ⟨S1024x3328, .f32⟩
  | 48 => ⟨S1024x3328, .f32⟩
  | 49 => ⟨S1024x3328, .f32⟩
  | 50 => ⟨S_, .f32⟩
  | 51 => ⟨S1024x3328, .f32⟩
  | 52 => ⟨S1024x3328, .f32⟩
  | 53 => ⟨S1024x3328, .f32⟩
  | 54 => ⟨S_, .f32⟩
  | 55 => ⟨S1024x3328, .f32⟩
  | 56 => ⟨S1024x3328, .f32⟩
  | 57 => ⟨S_, .f32⟩
  | 58 => ⟨S256x1024, .f32⟩
  | 59 => ⟨S256x1024, .f32⟩
  | 60 => ⟨S_, .f32⟩
  | 61 => ⟨S256x1024, .f32⟩
  | 62 => ⟨S256x1024, .f32⟩
  | 63 => ⟨S256x1024, .f32⟩
  | 64 => ⟨S_, .f32⟩
  | 65 => ⟨S256x1024, .f32⟩
  | 66 => ⟨S256x1024, .f32⟩
  | 67 => ⟨S256x1024, .f32⟩
  | 68 => ⟨S_, .f32⟩
  | 69 => ⟨S256x1024, .f32⟩
  | 70 => ⟨S256x1024, .f32⟩
  | 71 => ⟨S256x1024, .f32⟩
  | 72 => ⟨S_, .f32⟩
  | 73 => ⟨S256x1024, .f32⟩
  | 74 => ⟨S256x1024, .f32⟩
  | 75 => ⟨S_, .f32⟩
  | 76 => ⟨S256x1024, .f32⟩
  | 77 => ⟨S256x1024, .f32⟩
  | 78 => ⟨S256x1024, .f32⟩
  | 79 => ⟨S_, .f32⟩
  | 80 => ⟨S256x1024, .f32⟩
  | 81 => ⟨S256x1024, .f32⟩
  | 82 => ⟨S256x1024, .f32⟩
  | 83 => ⟨S_, .f32⟩
  | 84 => ⟨S256x1024, .f32⟩
  | 85 => ⟨S256x1024, .f32⟩
  | 86 => ⟨S256x1024, .f32⟩
  | 87 => ⟨S_, .f32⟩
  | 88 => ⟨S256x1024, .f32⟩
  | 89 => ⟨S256x1024, .f32⟩
  | 90 => ⟨S_, .f32⟩
  | 91 => ⟨S512x256, .f32⟩
  | 92 => ⟨S512x256, .f32⟩
  | 93 => ⟨S_, .f32⟩
  | 94 => ⟨S512x256, .f32⟩
  | 95 => ⟨S512x256, .f32⟩
  | 96 => ⟨S512x256, .f32⟩
  | 97 => ⟨S_, .f32⟩
  | 98 => ⟨S512x256, .f32⟩
  | 99 => ⟨S512x256, .f32⟩
  | 100 => ⟨S512x256, .f32⟩
  | 101 => ⟨S_, .f32⟩
  | 102 => ⟨S512x256, .f32⟩
  | 103 => ⟨S512x256, .f32⟩
  | 104 => ⟨S512x256, .f32⟩
  | 105 => ⟨S_, .f32⟩
  | 106 => ⟨S512x256, .f32⟩
  | 107 => ⟨S512x256, .f32⟩
  | 108 => ⟨S_, .f32⟩
  | 109 => ⟨S512x256, .f32⟩
  | 110 => ⟨S512x256, .f32⟩
  | 111 => ⟨S512x256, .f32⟩
  | 112 => ⟨S_, .f32⟩
  | 113 => ⟨S512x256, .f32⟩
  | 114 => ⟨S512x256, .f32⟩
  | 115 => ⟨S512x256, .f32⟩
  | 116 => ⟨S_, .f32⟩
  | 117 => ⟨S512x256, .f32⟩
  | 118 => ⟨S512x256, .f32⟩
  | 119 => ⟨S512x256, .f32⟩
  | 120 => ⟨S_, .f32⟩
  | 121 => ⟨S512x256, .f32⟩
  | 122 => ⟨S512x256, .f32⟩
  | 123 => ⟨S_, .f32⟩
  | 124 => ⟨S1024x1408, .f32⟩
  | 125 => ⟨S1024x1408, .f32⟩
  | 126 => ⟨S_, .f32⟩
  | 127 => ⟨S1024x1408, .f32⟩
  | _ => ⟨S1024x3328, .f32⟩

abbrev hbmTy0_1 (i : Nat) : BufTy := match i % 128 with
  | 0 => ⟨S1024x1408, .f32⟩
  | 1 => ⟨S1024x1408, .f32⟩
  | 2 => ⟨S_, .f32⟩
  | 3 => ⟨S1024x1408, .f32⟩
  | 4 => ⟨S1024x1408, .f32⟩
  | 5 => ⟨S1024x1408, .f32⟩
  | 6 => ⟨S_, .f32⟩
  | 7 => ⟨S1024x1408, .f32⟩
  | 8 => ⟨S1024x1408, .f32⟩
  | 9 => ⟨S1024x1408, .f32⟩
  | 10 => ⟨S_, .f32⟩
  | 11 => ⟨S1024x1408, .f32⟩
  | 12 => ⟨S1024x1408, .f32⟩
  | 13 => ⟨S_, .f32⟩
  | 14 => ⟨S1024x1408, .f32⟩
  | 15 => ⟨S1024x1408, .f32⟩
  | 16 => ⟨S1024x1408, .f32⟩
  | 17 => ⟨S_, .f32⟩
  | 18 => ⟨S1024x1408, .f32⟩
  | 19 => ⟨S1024x1408, .f32⟩
  | 20 => ⟨S1024x1408, .f32⟩
  | 21 => ⟨S_, .f32⟩
  | 22 => ⟨S1024x1408, .f32⟩
  | 23 => ⟨S1024x1408, .f32⟩
  | 24 => ⟨S1024x1408, .f32⟩
  | 25 => ⟨S_, .f32⟩
  | 26 => ⟨S1024x1408, .f32⟩
  | 27 => ⟨S1024x1408, .f32⟩
  | 28 => ⟨S_, .f32⟩
  | 29 => ⟨S704x1024, .f32⟩
  | 30 => ⟨S704x1024, .f32⟩
  | 31 => ⟨S_, .f32⟩
  | 32 => ⟨S704x1024, .f32⟩
  | 33 => ⟨S704x1024, .f32⟩
  | 34 => ⟨S704x1024, .f32⟩
  | 35 => ⟨S_, .f32⟩
  | 36 => ⟨S704x1024, .f32⟩
  | 37 => ⟨S704x1024, .f32⟩
  | 38 => ⟨S704x1024, .f32⟩
  | 39 => ⟨S_, .f32⟩
  | 40 => ⟨S704x1024, .f32⟩
  | 41 => ⟨S704x1024, .f32⟩
  | 42 => ⟨S704x1024, .f32⟩
  | 43 => ⟨S_, .f32⟩
  | 44 => ⟨S704x1024, .f32⟩
  | 45 => ⟨S704x1024, .f32⟩
  | 46 => ⟨S_, .f32⟩
  | 47 => ⟨S704x1024, .f32⟩
  | 48 => ⟨S704x1024, .f32⟩
  | 49 => ⟨S704x1024, .f32⟩
  | 50 => ⟨S_, .f32⟩
  | 51 => ⟨S704x1024, .f32⟩
  | 52 => ⟨S704x1024, .f32⟩
  | 53 => ⟨S704x1024, .f32⟩
  | 54 => ⟨S_, .f32⟩
  | 55 => ⟨S704x1024, .f32⟩
  | 56 => ⟨S704x1024, .f32⟩
  | 57 => ⟨S704x1024, .f32⟩
  | 58 => ⟨S_, .f32⟩
  | 59 => ⟨S704x1024, .f32⟩
  | 60 => ⟨S704x1024, .f32⟩
  | 61 => ⟨S_, .f32⟩
  | 62 => ⟨S8x1024, .f32⟩
  | 63 => ⟨S8x1024, .f32⟩
  | 64 => ⟨S_, .f32⟩
  | 65 => ⟨S8x1024, .f32⟩
  | 66 => ⟨S8x1024, .f32⟩
  | 67 => ⟨S8x1024, .f32⟩
  | 68 => ⟨S_, .f32⟩
  | 69 => ⟨S8x1024, .f32⟩
  | 70 => ⟨S8x1024, .f32⟩
  | 71 => ⟨S8x1024, .f32⟩
  | 72 => ⟨S_, .f32⟩
  | 73 => ⟨S8x1024, .f32⟩
  | 74 => ⟨S8x1024, .f32⟩
  | 75 => ⟨S8x1024, .f32⟩
  | 76 => ⟨S_, .f32⟩
  | 77 => ⟨S8x1024, .f32⟩
  | 78 => ⟨S8x1024, .f32⟩
  | 79 => ⟨S_, .f32⟩
  | 80 => ⟨S8x1024, .f32⟩
  | 81 => ⟨S8x1024, .f32⟩
  | 82 => ⟨S8x1024, .f32⟩
  | 83 => ⟨S_, .f32⟩
  | 84 => ⟨S8x1024, .f32⟩
  | 85 => ⟨S8x1024, .f32⟩
  | 86 => ⟨S8x1024, .f32⟩
  | 87 => ⟨S_, .f32⟩
  | 88 => ⟨S8x1024, .f32⟩
  | 89 => ⟨S8x1024, .f32⟩
  | 90 => ⟨S8x1024, .f32⟩
  | 91 => ⟨S_, .f32⟩
  | 92 => ⟨S8x1024, .f32⟩
  | 93 => ⟨S8x1024, .f32⟩
  | _ => ⟨S1024x3328, .f32⟩

abbrev hbmTy (i : Nat) : BufTy := match i / 128 with
  | 0 => hbmTy0_0 i
  | 1 => hbmTy0_1 i
  | _ => ⟨S1024x3328, .f32⟩

abbrev bufTy : (tb : Table) → Fin (tcTables nBuf tb) → BufTy
  | .hbm, ⟨i, _⟩ => hbmTy i
  | _, _ => ⟨S1024x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_cst : Ref sig .tc := ⟨.hbm, 24, rfl⟩
abbrev main_v0 : Ref sig .tc := ⟨.hbm, 25, rfl⟩
abbrev main_v1 : Ref sig .tc := ⟨.hbm, 26, rfl⟩
abbrev main_cst_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_cst_1 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_2 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst_3 : Ref sig .tc := ⟨.hbm, 39, rfl⟩
abbrev main_v11 : Ref sig .tc := ⟨.hbm, 40, rfl⟩
abbrev main_v12 : Ref sig .tc := ⟨.hbm, 41, rfl⟩
abbrev main_cst_4 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_cst_5 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst_6 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_cst_7 : Ref sig .tc := ⟨.hbm, 54, rfl⟩
abbrev main_v22 : Ref sig .tc := ⟨.hbm, 55, rfl⟩
abbrev main_v23 : Ref sig .tc := ⟨.hbm, 56, rfl⟩
abbrev main_cst_8 : Ref sig .tc := ⟨.hbm, 57, rfl⟩
abbrev main_v24 : Ref sig .tc := ⟨.hbm, 58, rfl⟩
abbrev main_v25 : Ref sig .tc := ⟨.hbm, 59, rfl⟩
abbrev main_cst_9 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_cst_10 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_11 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_12 : Ref sig .tc := ⟨.hbm, 72, rfl⟩
abbrev main_v35 : Ref sig .tc := ⟨.hbm, 73, rfl⟩
abbrev main_v36 : Ref sig .tc := ⟨.hbm, 74, rfl⟩
abbrev main_cst_13 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_cst_14 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_cst_15 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_cst_16 : Ref sig .tc := ⟨.hbm, 87, rfl⟩
abbrev main_v46 : Ref sig .tc := ⟨.hbm, 88, rfl⟩
abbrev main_v47 : Ref sig .tc := ⟨.hbm, 89, rfl⟩
abbrev main_cst_17 : Ref sig .tc := ⟨.hbm, 90, rfl⟩
abbrev main_v48 : Ref sig .tc := ⟨.hbm, 91, rfl⟩
abbrev main_v49 : Ref sig .tc := ⟨.hbm, 92, rfl⟩
abbrev main_cst_18 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_cst_19 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_cst_20 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_cst_21 : Ref sig .tc := ⟨.hbm, 105, rfl⟩
abbrev main_v59 : Ref sig .tc := ⟨.hbm, 106, rfl⟩
abbrev main_v60 : Ref sig .tc := ⟨.hbm, 107, rfl⟩
abbrev main_cst_22 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_cst_23 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_cst_24 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_cst_25 : Ref sig .tc := ⟨.hbm, 120, rfl⟩
abbrev main_v70 : Ref sig .tc := ⟨.hbm, 121, rfl⟩
abbrev main_v71 : Ref sig .tc := ⟨.hbm, 122, rfl⟩
abbrev main_cst_26 : Ref sig .tc := ⟨.hbm, 123, rfl⟩
abbrev main_v72 : Ref sig .tc := ⟨.hbm, 124, rfl⟩
abbrev main_v73 : Ref sig .tc := ⟨.hbm, 125, rfl⟩
abbrev main_cst_27 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_cst_28 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_cst_29 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_cst_30 : Ref sig .tc := ⟨.hbm, 138, rfl⟩
abbrev main_v83 : Ref sig .tc := ⟨.hbm, 139, rfl⟩
abbrev main_v84 : Ref sig .tc := ⟨.hbm, 140, rfl⟩
abbrev main_cst_31 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_cst_32 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_cst_33 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_cst_34 : Ref sig .tc := ⟨.hbm, 153, rfl⟩
abbrev main_v94 : Ref sig .tc := ⟨.hbm, 154, rfl⟩
abbrev main_v95 : Ref sig .tc := ⟨.hbm, 155, rfl⟩
abbrev main_cst_35 : Ref sig .tc := ⟨.hbm, 156, rfl⟩
abbrev main_v96 : Ref sig .tc := ⟨.hbm, 157, rfl⟩
abbrev main_v97 : Ref sig .tc := ⟨.hbm, 158, rfl⟩
abbrev main_cst_36 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_cst_37 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_cst_38 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_cst_39 : Ref sig .tc := ⟨.hbm, 171, rfl⟩
abbrev main_v107 : Ref sig .tc := ⟨.hbm, 172, rfl⟩
abbrev main_v108 : Ref sig .tc := ⟨.hbm, 173, rfl⟩
abbrev main_cst_40 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_cst_41 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_cst_42 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_cst_43 : Ref sig .tc := ⟨.hbm, 186, rfl⟩
abbrev main_v118 : Ref sig .tc := ⟨.hbm, 187, rfl⟩
abbrev main_v119 : Ref sig .tc := ⟨.hbm, 188, rfl⟩
abbrev main_cst_44 : Ref sig .tc := ⟨.hbm, 189, rfl⟩
abbrev main_v120 : Ref sig .tc := ⟨.hbm, 190, rfl⟩
abbrev main_v121 : Ref sig .tc := ⟨.hbm, 191, rfl⟩
abbrev main_cst_45 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_cst_46 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_cst_47 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_cst_48 : Ref sig .tc := ⟨.hbm, 204, rfl⟩
abbrev main_v131 : Ref sig .tc := ⟨.hbm, 205, rfl⟩
abbrev main_v132 : Ref sig .tc := ⟨.hbm, 206, rfl⟩
abbrev main_cst_49 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_cst_50 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_cst_51 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_cst_52 : Ref sig .tc := ⟨.hbm, 219, rfl⟩
abbrev main_v142 : Ref sig .tc := ⟨.hbm, 220, rfl⟩
abbrev main_v143 : Ref sig .tc := ⟨.hbm, 221, rfl⟩

abbrev nD : Nat := 1
abbrev τ : Topo := Topo.v7x

variable {F : FTy → Type} [FloatOps F]
-- ==== Kernel6.lean ====
abbrev S4096x13312 : Shape := ⟨2, ![4096, 13312]⟩
abbrev S1x1024 : Shape := ⟨2, ![1, 1024]⟩
abbrev S256x256 : Shape := ⟨2, ![256, 256]⟩
abbrev S4096x1024 : Shape := ⟨2, ![4096, 1024]⟩
abbrev S8x64x128x128 : Shape := ⟨4, ![8, 64, 128, 128]⟩
abbrev S256x1024 : Shape := ⟨2, ![256, 1024]⟩
abbrev S8x4x128x128 : Shape := ⟨4, ![8, 4, 128, 128]⟩
abbrev S8x128x128 : Shape := ⟨3, ![8, 128, 128]⟩
abbrev S256x128 : Shape := ⟨2, ![256, 128]⟩
abbrev S1x128 : Shape := ⟨2, ![1, 128]⟩
abbrev S64x128 : Shape := ⟨2, ![64, 128]⟩
abbrev S128x128 : Shape := ⟨2, ![128, 128]⟩
abbrev S1x128x128 : Shape := ⟨3, ![1, 128, 128]⟩
abbrev S1x1x128x128 : Shape := ⟨4, ![1, 1, 128, 128]⟩

abbrev nBuf : Space → Nat
  | .hbm => 5
  | .vmem => 13
  | .smem => 0
  | _ => 0

abbrev bufTy : (tb : Table) → Fin (tcTables nBuf tb) → BufTy
  | .hbm, ⟨0, _⟩ => ⟨S4096x13312, .bf16⟩
  | .hbm, ⟨1, _⟩ => ⟨S1x1024, .f32⟩
  | .hbm, ⟨2, _⟩ => ⟨S256x256, .f32⟩
  | .hbm, ⟨3, _⟩ => ⟨S4096x1024, .f32⟩
  | .hbm, ⟨4, _⟩ => ⟨S8x64x128x128, .f32⟩
  | .local _ .vmem, ⟨0, _⟩ => ⟨S256x256, .f32⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S8x4x128x128, .f32⟩
  | .local _ .vmem, ⟨11, _⟩ => ⟨S8x4x128x128, .f32⟩
  | .local _ .vmem, ⟨12, _⟩ => ⟨S8x128x128, .f32⟩
  | _, _ => ⟨S4096x13312, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6Ideal.lean ====
abbrev S4096x13312 : Shape := ⟨2, ![4096, 13312]⟩
abbrev S1x1024 : Shape := ⟨2, ![1, 1024]⟩
abbrev S4096x1024 : Shape := ⟨2, ![4096, 1024]⟩
abbrev S_ : Shape := ⟨0, ![]⟩
abbrev S64x64x8x128 : Shape := ⟨4, ![64, 64, 8, 128]⟩
abbrev S64x8x64x128 : Shape := ⟨4, ![64, 8, 64, 128]⟩
abbrev S64x64 : Shape := ⟨2, ![64, 64]⟩
abbrev S8x128x128 : Shape := ⟨3, ![8, 128, 128]⟩
abbrev S64x8x128x128 : Shape := ⟨4, ![64, 8, 128, 128]⟩
abbrev S1x8x64x128 : Shape := ⟨4, ![1, 8, 64, 128]⟩
abbrev S8x64x128 : Shape := ⟨3, ![8, 64, 128]⟩
abbrev S8x1x128 : Shape := ⟨3, ![8, 1, 128]⟩
abbrev S8x64x64 : Shape := ⟨3, ![8, 64, 64]⟩
abbrev S8x128 : Shape := ⟨2, ![8, 128]⟩
abbrev S8x128x1 : Shape := ⟨3, ![8, 128, 1]⟩
abbrev S1x8x128x128 : Shape := ⟨4, ![1, 8, 128, 128]⟩
abbrev S8x64x128x128 : Shape := ⟨4, ![8, 64, 128, 128]⟩

abbrev nBuf : Space → Nat
  | .hbm => 139
  | .vmem => 0
  | .smem => 0
  | _ => 0

abbrev hbmTy0_0 (i : Nat) : BufTy := match i % 128 with
  | 0 => ⟨S4096x13312, .bf16⟩
  | 1 => ⟨S1x1024, .f32⟩
  | 2 => ⟨S4096x13312, .f32⟩
  | 3 => ⟨S4096x1024, .f32⟩
  | 4 => ⟨S4096x1024, .f32⟩
  | 5 => ⟨S4096x1024, .f32⟩
  | 6 => ⟨S_, .f32⟩
  | 7 => ⟨S1x1024, .f32⟩
  | 8 => ⟨S1x1024, .f32⟩
  | 9 => ⟨S4096x1024, .f32⟩
  | 10 => ⟨S4096x1024, .f32⟩
  | 11 => ⟨S_, .f32⟩
  | 12 => ⟨S4096x1024, .f32⟩
  | 13 => ⟨S4096x1024, .f32⟩
  | 14 => ⟨S_, .f32⟩
  | 15 => ⟨S4096x1024, .f32⟩
  | 16 => ⟨S4096x1024, .f32⟩
  | 17 => ⟨S4096x1024, .f32⟩
  | 18 => ⟨S4096x1024, .f32⟩
  | 19 => ⟨S4096x1024, .f32⟩
  | 20 => ⟨S4096x1024, .f32⟩
  | 21 => ⟨S4096x1024, .f32⟩
  | 22 => ⟨S4096x1024, .f32⟩
  | 23 => ⟨S_, .f32⟩
  | 24 => ⟨S4096x1024, .f32⟩
  | 25 => ⟨S4096x1024, .f32⟩
  | 26 => ⟨S_, .f32⟩
  | 27 => ⟨S4096x1024, .f32⟩
  | 28 => ⟨S4096x1024, .f32⟩
  | 29 => ⟨S4096x1024, .f32⟩
  | 30 => ⟨S64x64x8x128, .f32⟩
  | 31 => ⟨S64x8x64x128, .f32⟩
  | 32 => ⟨S_, .f32⟩
  | 33 => ⟨S64x8x64x128, .f32⟩
  | 34 => ⟨S64x8x64x128, .f32⟩
  | 35 => ⟨S_, .f32⟩
  | 36 => ⟨S4096x1024, .f32⟩
  | 37 => ⟨S4096x1024, .f32⟩
  | 38 => ⟨S64x64x8x128, .f32⟩
  | 39 => ⟨S64x8x64x128, .f32⟩
  | 40 => ⟨S4096x1024, .f32⟩
  | 41 => ⟨S64x64x8x128, .f32⟩
  | 42 => ⟨S64x8x64x128, .f32⟩
  | 43 => ⟨S64x64x8x128, .f32⟩
  | 44 => ⟨S64x8x64x128, .f32⟩
  | 45 => ⟨S_, .i1⟩
  | 46 => ⟨S64x64, .i1⟩
  | 47 => ⟨S64x64, .i32⟩
  | 48 => ⟨S_, .i32⟩
  | 49 => ⟨S64x64, .i32⟩
  | 50 => ⟨S64x64, .i32⟩
  | 51 => ⟨S64x64, .i32⟩
  | 52 => ⟨S64x64, .i1⟩
  | 53 => ⟨S_, .i1⟩
  | 54 => ⟨S64x64, .i1⟩
  | 55 => ⟨S64x64, .i1⟩
  | 56 => ⟨S_, .f32⟩
  | 57 => ⟨S8x128x128, .f32⟩
  | 58 => ⟨S_, .f32⟩
  | 59 => ⟨S64x8x64x128, .f32⟩
  | 60 => ⟨S_, .f32⟩
  | 61 => ⟨S64x8x128x128, .f32⟩
  | 62 => ⟨S_, .i32⟩
  | 63 => ⟨S64x8x64x128, .f32⟩
  | 64 => ⟨S64x8x64x128, .f32⟩
  | 65 => ⟨S64x8x64x128, .f32⟩
  | 66 => ⟨S64x8x64x128, .f32⟩
  | 67 => ⟨S64x64, .i1⟩
  | 68 => ⟨S_, .i32⟩
  | 69 => ⟨S8x128x128, .f32⟩
  | 70 => ⟨S64x8x64x128, .f32⟩
  | 71 => ⟨S64x8x128x128, .f32⟩
  | 72 => ⟨S_, .i32⟩
  | 73 => ⟨S_, .i1⟩
  | 74 => ⟨S_, .i32⟩
  | 75 => ⟨S_, .i32⟩
  | 76 => ⟨S_, .i32⟩
  | 77 => ⟨S1x8x64x128, .f32⟩
  | 78 => ⟨S8x64x128, .f32⟩
  | 79 => ⟨S_, .i32⟩
  | 80 => ⟨S_, .i32⟩
  | 81 => ⟨S_, .i32⟩
  | 82 => ⟨S1x8x64x128, .f32⟩
  | 83 => ⟨S8x64x128, .f32⟩
  | 84 => ⟨S_, .i32⟩
  | 85 => ⟨S_, .i32⟩
  | 86 => ⟨S_, .i32⟩
  | 87 => ⟨S1x8x64x128, .f32⟩
  | 88 => ⟨S8x64x128, .f32⟩
  | 89 => ⟨S_, .i32⟩
  | 90 => ⟨S_, .i32⟩
  | 91 => ⟨S_, .i32⟩
  | 92 => ⟨S1x8x64x128, .f32⟩
  | 93 => ⟨S8x64x128, .f32⟩
  | 94 => ⟨S_, .f32⟩
  | 95 => ⟨S_, .f32⟩
  | 96 => ⟨S8x64x128, .f32⟩
  | 97 => ⟨S8x1x128, .f32⟩
  | 98 => ⟨S8x64x128, .f32⟩
  | 99 => ⟨S8x64x128, .f32⟩
  | 100 => ⟨S8x64x128, .f32⟩
  | 101 => ⟨S8x64x128, .f32⟩
  | 102 => ⟨S8x64x128, .f32⟩
  | 103 => ⟨S8x64x128, .f32⟩
  | 104 => ⟨S8x64x128, .f32⟩
  | 105 => ⟨S8x64x128, .f32⟩
  | 106 => ⟨S8x64x128, .f32⟩
  | 107 => ⟨S8x64x64, .f32⟩
  | 108 => ⟨S_, .f32⟩
  | 109 => ⟨S_, .f32⟩
  | 110 => ⟨S8x64x64, .i1⟩
  | 111 => ⟨S8x64x64, .f32⟩
  | 112 => ⟨S8x64x64, .f32⟩
  | 113 => ⟨S8x64x128, .f32⟩
  | 114 => ⟨S8x64x128, .f32⟩
  | 115 => ⟨S8x64x128, .f32⟩
  | 116 => ⟨S8x128, .f32⟩
  | 117 => ⟨S8x128, .f32⟩
  | 118 => ⟨S8x128x1, .f32⟩
  | 119 => ⟨S8x128x128, .f32⟩
  | 120 => ⟨S8x128x128, .f32⟩
  | 121 => ⟨S8x128x128, .f32⟩
  | 122 => ⟨S8x128x128, .f32⟩
  | 123 => ⟨S1x8x64x128, .f32⟩
  | 124 => ⟨S_, .i32⟩
  | 125 => ⟨S_, .i32⟩
  | 126 => ⟨S_, .i32⟩
  | 127 => ⟨S64x8x64x128, .f32⟩
  | _ => ⟨S4096x13312, .bf16⟩

abbrev hbmTy0_1 (i : Nat) : BufTy := match i % 128 with
  | 0 => ⟨S1x8x128x128, .f32⟩
  | 1 => ⟨S_, .i32⟩
  | 2 => ⟨S_, .i32⟩
  | 3 => ⟨S_, .i32⟩
  | 4 => ⟨S64x8x128x128, .f32⟩
  | 5 => ⟨S_, .i32⟩
  | 6 => ⟨S_, .i32⟩
  | 7 => ⟨S64x64x8x128, .f32⟩
  | 8 => ⟨S4096x1024, .f32⟩
  | 9 => ⟨S8x64x128x128, .f32⟩
  | 10 => ⟨S8x64x128x128, .f32⟩
  | _ => ⟨S4096x13312, .bf16⟩

abbrev hbmTy (i : Nat) : BufTy := match i / 128 with
  | 0 => hbmTy0_0 i
  | 1 => hbmTy0_1 i
  | _ => ⟨S4096x13312, .bf16⟩

abbrev bufTy : (tb : Table) → Fin (tcTables nBuf tb) → BufTy
  | .hbm, ⟨i, _⟩ => hbmTy i
  | _, _ => ⟨S4096x13312, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c : Ref sig .tc := ⟨.hbm, 45, rfl⟩
abbrev main_v30 : Ref sig .tc := ⟨.hbm, 46, rfl⟩
abbrev main_call1_v0 : Ref sig .tc := ⟨.hbm, 47, rfl⟩
abbrev main_call1_c : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_c_0 : Ref sig .tc := ⟨.hbm, 53, rfl⟩
abbrev main_call1_v5 : Ref sig .tc := ⟨.hbm, 54, rfl⟩
abbrev main_v31 : Ref sig .tc := ⟨.hbm, 55, rfl⟩
abbrev main_cst_4 : Ref sig .tc := ⟨.hbm, 56, rfl⟩
abbrev main_v32 : Ref sig .tc := ⟨.hbm, 57, rfl⟩
abbrev main_cst_5 : Ref sig .tc := ⟨.hbm, 58, rfl⟩
abbrev main_v33 : Ref sig .tc := ⟨.hbm, 59, rfl⟩
abbrev main_cst_6 : Ref sig .tc := ⟨.hbm, 60, rfl⟩
abbrev main_v34 : Ref sig .tc := ⟨.hbm, 61, rfl⟩
abbrev main_c_7 : Ref sig .tc := ⟨.hbm, 62, rfl⟩
abbrev main_v35_0 : Ref sig .tc := ⟨.hbm, 63, rfl⟩
abbrev main_v35_1 : Ref sig .tc := ⟨.hbm, 64, rfl⟩
abbrev main_v35_2 : Ref sig .tc := ⟨.hbm, 65, rfl⟩
abbrev main_v35_3 : Ref sig .tc := ⟨.hbm, 66, rfl⟩
abbrev main_v35_4 : Ref sig .tc := ⟨.hbm, 67, rfl⟩
abbrev main_v35_5 : Ref sig .tc := ⟨.hbm, 68, rfl⟩
abbrev main_v35_6 : Ref sig .tc := ⟨.hbm, 69, rfl⟩
abbrev main_v35_7 : Ref sig .tc := ⟨.hbm, 70, rfl⟩
abbrev main_v35_8 : Ref sig .tc := ⟨.hbm, 71, rfl⟩
abbrev main_while0c_c_16 : Ref sig .tc := ⟨.hbm, 72, rfl⟩
abbrev main_while0c_v40 : Ref sig .tc := ⟨.hbm, 73, rfl⟩
abbrev main_while0b_call2_c : Ref sig .tc := ⟨.hbm, 74, rfl⟩
abbrev main_while0b_call2_c_0 : Ref sig .tc := ⟨.hbm, 75, rfl⟩
abbrev main_while0b_call2_c_1 : Ref sig .tc := ⟨.hbm, 76, rfl⟩
abbrev main_while0b_call2_v0 : Ref sig .tc := ⟨.hbm, 77, rfl⟩
abbrev main_while0b_v40 : Ref sig .tc := ⟨.hbm, 78, rfl⟩
abbrev main_while0b_call3_c : Ref sig .tc := ⟨.hbm, 79, rfl⟩
abbrev main_while0b_call3_c_0 : Ref sig .tc := ⟨.hbm, 80, rfl⟩
abbrev main_while0b_call3_c_1 : Ref sig .tc := ⟨.hbm, 81, rfl⟩
abbrev main_while0b_call3_v0 : Ref sig .tc := ⟨.hbm, 82, rfl⟩
abbrev main_while0b_v41 : Ref sig .tc := ⟨.hbm, 83, rfl⟩
abbrev main_while0b_call4_c : Ref sig .tc := ⟨.hbm, 84, rfl⟩
abbrev main_while0b_call4_c_0 : Ref sig .tc := ⟨.hbm, 85, rfl⟩
abbrev main_while0b_call4_c_1 : Ref sig .tc := ⟨.hbm, 86, rfl⟩
abbrev main_while0b_call4_v0 : Ref sig .tc := ⟨.hbm, 87, rfl⟩
abbrev main_while0b_v42 : Ref sig .tc := ⟨.hbm, 88, rfl⟩
abbrev main_while0b_call5_c : Ref sig .tc := ⟨.hbm, 89, rfl⟩
abbrev main_while0b_call5_c_0 : Ref sig .tc := ⟨.hbm, 90, rfl⟩
abbrev main_while0b_call5_c_1 : Ref sig .tc := ⟨.hbm, 91, rfl⟩
abbrev main_while0b_call5_v0 : Ref sig .tc := ⟨.hbm, 92, rfl⟩
abbrev main_while0b_v43 : Ref sig .tc := ⟨.hbm, 93, rfl⟩
abbrev main_while0b_call6_call0_cst : Ref sig .tc := ⟨.hbm, 94, rfl⟩
abbrev main_while0b_call6_call0_v0 : Ref sig .tc := ⟨.hbm, 95, rfl⟩
abbrev main_while0b_v44 : Ref sig .tc := ⟨.hbm, 96, rfl⟩
abbrev main_while0b_v45 : Ref sig .tc := ⟨.hbm, 97, rfl⟩
abbrev main_while0b_v46 : Ref sig .tc := ⟨.hbm, 98, rfl⟩
abbrev main_while0b_v47 : Ref sig .tc := ⟨.hbm, 99, rfl⟩
abbrev main_while0b_v48 : Ref sig .tc := ⟨.hbm, 100, rfl⟩
abbrev main_while0b_v49 : Ref sig .tc := ⟨.hbm, 101, rfl⟩
abbrev main_while0b_v50 : Ref sig .tc := ⟨.hbm, 102, rfl⟩
abbrev main_while0b_v51 : Ref sig .tc := ⟨.hbm, 103, rfl⟩
abbrev main_while0b_v52 : Ref sig .tc := ⟨.hbm, 104, rfl⟩
abbrev main_while0b_v53 : Ref sig .tc := ⟨.hbm, 105, rfl⟩
abbrev main_while0b_v54 : Ref sig .tc := ⟨.hbm, 106, rfl⟩
abbrev main_while0b_v55 : Ref sig .tc := ⟨.hbm, 107, rfl⟩
abbrev main_while0b_cst_16 : Ref sig .tc := ⟨.hbm, 108, rfl⟩
abbrev main_while0b_call7_v0 : Ref sig .tc := ⟨.hbm, 109, rfl⟩
abbrev main_while0b_call7_v1 : Ref sig .tc := ⟨.hbm, 110, rfl⟩
abbrev main_while0b_call7_v2 : Ref sig .tc := ⟨.hbm, 111, rfl⟩
abbrev main_while0b_v56 : Ref sig .tc := ⟨.hbm, 112, rfl⟩
abbrev main_while0b_v57 : Ref sig .tc := ⟨.hbm, 113, rfl⟩
abbrev main_while0b_v58 : Ref sig .tc := ⟨.hbm, 114, rfl⟩
abbrev main_while0b_v59 : Ref sig .tc := ⟨.hbm, 115, rfl⟩
abbrev main_while0b_v60 : Ref sig .tc := ⟨.hbm, 116, rfl⟩
abbrev main_while0b_v61 : Ref sig .tc := ⟨.hbm, 117, rfl⟩
abbrev main_while0b_v62 : Ref sig .tc := ⟨.hbm, 118, rfl⟩
abbrev main_while0b_v63 : Ref sig .tc := ⟨.hbm, 119, rfl⟩
abbrev main_while0b_v64 : Ref sig .tc := ⟨.hbm, 120, rfl⟩
abbrev main_while0b_v65 : Ref sig .tc := ⟨.hbm, 121, rfl⟩
abbrev main_while0b_v66 : Ref sig .tc := ⟨.hbm, 122, rfl⟩
abbrev main_while0b_call8_v0 : Ref sig .tc := ⟨.hbm, 123, rfl⟩
abbrev main_while0b_call8_c : Ref sig .tc := ⟨.hbm, 124, rfl⟩
abbrev main_while0b_call8_c_0 : Ref sig .tc := ⟨.hbm, 125, rfl⟩
abbrev main_while0b_call8_c_1 : Ref sig .tc := ⟨.hbm, 126, rfl⟩
abbrev main_while0b_v67 : Ref sig .tc := ⟨.hbm, 127, rfl⟩
abbrev main_while0b_call9_v0 : Ref sig .tc := ⟨.hbm, 128, rfl⟩
abbrev main_while0b_call9_c : Ref sig .tc := ⟨.hbm, 129, rfl⟩
abbrev main_while0b_call9_c_0 : Ref sig .tc := ⟨.hbm, 130, rfl⟩
abbrev main_while0b_call9_c_1 : Ref sig .tc := ⟨.hbm, 131, rfl⟩
abbrev main_while0b_v68 : Ref sig .tc := ⟨.hbm, 132, rfl⟩
abbrev main_while0b_c_17 : Ref sig .tc := ⟨.hbm, 133, rfl⟩
abbrev main_while0b_v69 : Ref sig .tc := ⟨.hbm, 134, rfl⟩
abbrev main_v36 : Ref sig .tc := ⟨.hbm, 135, rfl⟩
abbrev main_v37 : Ref sig .tc := ⟨.hbm, 136, rfl⟩
abbrev main_v38 : Ref sig .tc := ⟨.hbm, 137, rfl⟩
abbrev main_v39 : Ref sig .tc := ⟨.hbm, 138, rfl⟩

abbrev nD : Nat := 1
abbrev τ : Topo := Topo.v7x

variable {F : FTy → Type} [FloatOps F]

abbrev main_while0_count : Scf.Loop 32 := ⟨0#32, 64#32, 1#32⟩
-- ==== Proof.Lift.lean ====
/- Real numbers inside the extended reals: how sums, products, exponentials, quotients, square roots and maxima of
   real values read, and the values of the constants the programs spell by their bits. -/
module

public import Idealize.ShloMosaic.Lib.Pipeline.ValueKit
public import Mathlib.Data.EReal.Inv
public import Mathlib.Analysis.SpecialFunctions.Exp

@[expose] public section

set_option maxRecDepth 16384

noncomputable section

open Idealize.ShloMosaic

namespace Cert.Lift

/-- The rounded 10⁻⁶ under the square root. -/
def eps : ℝ := 8796093 / 2 ^ 43
/-- The rounded 128^(-1/2) that scales the scores. -/
def sc : ℝ := 11863283 / 2 ^ 27

theorem eps_pos : 0 < eps := by unfold eps; norm_num

theorem bits_eps : Ideal.ofBits FTy.f32 897988541#32 = ((eps : ℝ) : EReal) := by
  simp [Ideal.ofBits, Ideal.ieee, -EReal.coe_mul, eps]; norm_num
theorem bits_sc : Ideal.ofBits FTy.f32 1035273459#32 = ((sc : ℝ) : EReal) := by
  simp [Ideal.ofBits, Ideal.ieee, -EReal.coe_mul, sc]; norm_num
theorem bits_inv128 : Ideal.ofBits FTy.f32 1006632960#32 = ((1 / 128 : ℝ) : EReal) := by
  simp [Ideal.ofBits, Ideal.ieee, -EReal.coe_mul]; norm_num
theorem bits_128 : Ideal.ofBits FTy.f32 1124073472#32 = ((128 : ℝ) : EReal) := by
  simp [Ideal.ofBits, Ideal.ieee, -EReal.coe_mul]; norm_num
theorem bits_bot : Ideal.ofBits FTy.f32 4286578688#32 = ⊥ := by
  simp [Ideal.ofBits, Ideal.ieee, -EReal.coe_mul]
theorem bits_top : Ideal.ofBits FTy.f32 2139095040#32 = ⊤ := by
  simp [Ideal.ofBits, Ideal.ieee, -EReal.coe_mul]

theorem word_one : ∀ x : Fin 128, BitVec.setWidth 32 (IntOp.cmpi CmpIPredicate.sge (BitVec.ofNat 32 ↑x) 0#32) = 1#32 := by
  decide +kernel

theorem one_word (x : Fin 128) :
    FloatOps.sitofp (F := Ideal) FTy.f32 (BitVec.setWidth 32 (IntOp.cmpi CmpIPredicate.sge (BitVec.ofNat 32 ↑x) 0#32)) = (1 : EReal) := by
  rw [word_one]
  show (((1#32).toInt : ℝ) : EReal) = 1
  norm_num

theorem sum_coe {ι : Type} [Fintype ι] (f : ι → ℝ) : ∑ i, ((f i : ℝ) : EReal) = ((∑ i, f i : ℝ) : EReal) := by
  classical
  induction (Finset.univ : Finset ι) using Finset.induction_on with
  | empty => simp
  | insert a s ha ih => rw [Finset.sum_insert ha, Finset.sum_insert ha, ih, EReal.coe_add]

theorem exp_coe (x : ℝ) : Ideal.exp ((x : ℝ) : EReal) = ((Real.exp x : ℝ) : EReal) := rfl

theorem rsqrt_coe {x : ℝ} (hx : 0 < x) : Ideal.rsqrt ((x : ℝ) : EReal) = (((√x)⁻¹ : ℝ) : EReal) := by
  show (if x < 0 then (⊥ : EReal) else if x = 0 then ⊤ else ((√x)⁻¹ : ℝ)) = _
  rw [if_neg (not_lt.mpr hx.le), if_neg hx.ne']

theorem div_coe {x y : ℝ} (hy : y ≠ 0) : Ideal.div ((x : ℝ) : EReal) ((y : ℝ) : EReal) = ((x / y : ℝ) : EReal) := by
  unfold Ideal.div
  rw [if_neg (by exact_mod_cast hy), div_eq_mul_inv, EReal.coe_mul, EReal.coe_inv]

/-- The largest of finitely many reals. -/
def mx {n : ℕ} (f : Fin (n + 1) → ℝ) : ℝ := Finset.univ.sup' ⟨0, Finset.mem_univ _⟩ f

theorem fold_max_coe {n : ℕ} (f : Fin (n + 1) → ℝ) :
    Finset.fold max (⊥ : EReal) (fun i => ((f i : ℝ) : EReal)) Finset.univ = ((mx f : ℝ) : EReal) := by
  have h1 : Finset.fold max (⊥ : EReal) (fun i => ((f i : ℝ) : EReal)) Finset.univ = Finset.univ.sup (fun i => ((f i : ℝ) : EReal)) := rfl
  rw [h1, ← Finset.sup'_eq_sup ⟨0, Finset.mem_univ _⟩]
  exact (Finset.comp_sup'_eq_sup'_comp (g := fun x : ℝ => (x : EReal)) ⟨0, Finset.mem_univ _⟩ (fun x y => EReal.coe_strictMono.monotone.map_max)).symm

theorem coe_of_finite {x : EReal} (h1 : x ≠ ⊤) (h2 : x ≠ ⊥) : x = ((x.toReal : ℝ) : EReal) := (EReal.coe_toReal h1 h2).symm

end Cert.Lift

end
-- ==== Proof.MemMath.lean ====
/- The mathematics of one head of the memory attention over the reals, row by row, and its gradient.

   A row `x` of 128 lanes is normalised to `hat x` (divided by the root of its mean square plus `eps`) and scaled by a
   gain. `sco u w` are the scaled scores of a query row against the 256 key rows, `smx` their softmax, `dsm` the gradient
   of the softmax, `bwd` the gradient of the normalisation. -/
module

public import proofs.«01_k».proof.Proof.Lift

@[expose] public section

noncomputable section

namespace Cert.Mem
open Cert.Lift

/-- One row of 128 lanes. -/
abbrev Row := Fin 128 → ℝ
/-- The 256 rows of the memory. -/
abbrev Rows := Fin 256 → Row

/-- The mean square of a row, plus `eps`. -/
def msq (x : Row) : ℝ := (∑ d, x d * x d) * (1 / 128) + eps
/-- The reciprocal root of the mean square. -/
def rr (x : Row) : ℝ := (√(msq x))⁻¹
/-- The normalised row. -/
def hat (x : Row) : Row := fun d => x d * rr x
/-- The normalised row times its gain. -/
def nrm (g x : Row) : Row := fun d => hat x d * g d
/-- The scaled scores of the query row `u` against the key rows `w`. -/
def sco (u : Row) (w : Rows) : Fin 256 → ℝ := fun j => (∑ d, u d * w j d) * sc
/-- The softmax of a row of scores. -/
def smx (s : Fin 256 → ℝ) : Fin 256 → ℝ := fun j => Real.exp (s j - mx s) / ∑ i, Real.exp (s i - mx s)
/-- The products of a row with the value rows: the gradient of the probabilities. -/
def dpr (o : Row) (v : Rows) : Fin 256 → ℝ := fun j => ∑ d, o d * v j d
/-- The gradient of the scores from the probabilities `p` and their gradient `a`. -/
def dsm (p a : Fin 256 → ℝ) : Fin 256 → ℝ := fun j => p j * (a j - ∑ i, p i * a i)
/-- The gradient of a row before normalisation, `y` the gradient of the normalised and scaled row. -/
def bwd (g x y : Row) : Row := fun d => rr x * (y d * g d - hat x d * ((∑ e, y e * g e * hat x e) * (1 / 128)))

/-- The probabilities of a query row `q`. -/
def prob (gq gk q : Row) (k : Rows) : Fin 256 → ℝ := smx (sco (nrm gq q) fun j => nrm gk (k j))
/-- The gradient of the scores of a query row `q` under the output gradient `o`. -/
def grad (gq gk q : Row) (k : Rows) (o : Row) (v : Rows) : Fin 256 → ℝ := dsm (prob gq gk q k) (dpr o v)
/-- The gradient of the normalised query row. -/
def dqn (gq gk q : Row) (k : Rows) (o : Row) (v : Rows) : Row := fun d => (∑ j, grad gq gk q k o v j * nrm gk (k j) d) * sc

theorem msq_pos (x : Row) : 0 < msq x := by
  have h : 0 ≤ ∑ d, x d * x d := Finset.sum_nonneg fun d _ => mul_self_nonneg _
  have := eps_pos
  unfold msq
  positivity

theorem den_pos (s : Fin 256 → ℝ) : 0 < ∑ i, Real.exp (s i - mx s) :=
  Finset.sum_pos (fun _ _ => Real.exp_pos _) ⟨0, Finset.mem_univ _⟩

end Cert.Mem

end
-- ==== Proof.MemPay.lean ====
/- The values of the kernel's vector expressions over real blocks. -/
module

public import proofs.«01_k».proof.Proof.Gen.KernelIdeal.Skeleton
public import proofs.«01_k».proof.Proof.MemMath

@[expose] public section

set_option maxRecDepth 16384

noncomputable section

open Idealize.ShloMosaic

namespace Cert.KernelIdeal.Mem
open Cert.KernelIdeal Cert.KernelIdeal.Gen Cert.Lift Cert.Mem

/-- The block `x` holds the real matrix `X`. -/
def Is {a b : ℕ} {φ : FTy} (x : FVec Ideal ⟨2, ![a, b]⟩ φ) (X : Fin a → Fin b → ℝ) : Prop :=
  ∀ r l, x (ix2 r l) = ((X r l : ℝ) : EReal)

section
variable {q : FVec Ideal S1024x128 .bf16} {Q : Fin 1024 → Row} (hq : Is q Q)
include hq

theorem pay10 (r l) : k0_pay10 (F := Ideal) q (ix2 r l) = ((rr (Q r) : ℝ) : EReal) := by
  pointwise [k0_pay10, k0_pay9]
  simp only [one_word, hq r, mul_one, ← EReal.coe_mul, ← EReal.coe_sub, sub_self, sum_coe, bits_inv128, bits_eps, ← EReal.coe_add, Finset.sum_const_zero, add_zero]
  exact rsqrt_coe (msq_pos (Q r))
theorem pay11 : Is (k0_pay11 (F := Ideal) q) (fun r => hat (Q r)) := fun r l => by
  have h := pay10 hq r l
  pointwise [k0_pay11, k0_pay9]
  rw [h, hq r l, ← EReal.coe_mul]; rfl
end

section
variable {k : FVec Ideal S256x128 .f32} {K : Rows} (hk : Is k K)
include hk
theorem pay16 : Is (k0_pay16 (F := Ideal) k0_pay13 (k0_pay14 k) (k0_pay15 k)) (fun j _ => rr (K j)) := fun r l => by
  pointwise [k0_pay16, k0_pay13, k0_pay14, k0_pay15, k0_pay12]
  simp only [one_word, hk r, mul_one, ← EReal.coe_mul, ← EReal.coe_sub, sub_self, sum_coe, bits_inv128, bits_eps, ← EReal.coe_add, Finset.sum_const_zero, add_zero]
  exact rsqrt_coe (msq_pos (K r))
theorem pay17 : Is (k0_pay17 (F := Ideal) k k0_pay13 (k0_pay14 k) (k0_pay15 k)) (fun j => hat (K j)) := fun r l => by
  have h := pay16 hk r l
  pointwise [k0_pay17]
  rw [h, hk r l, ← EReal.coe_mul]; rfl
theorem pay19 {g : FVec Ideal S1x128 .f32} {G : Row} (hg : Is g fun _ => G) :
    Is (k0_pay19 (F := Ideal) k k0_pay13 (k0_pay14 k) (k0_pay15 k) g) (fun j => nrm G (K j)) := fun r l => by
  have h := pay17 hk r l
  pointwise [k0_pay19]
  rw [h, hg, ← EReal.coe_mul]; rfl
end

theorem pay18 {x : FVec Ideal S1024x128 .f32} {X : Fin 1024 → Row} (hx : Is x X) {g : FVec Ideal S1x128 .f32} {G : Row} (hg : Is g fun _ => G) :
    Is (k0_pay18 (F := Ideal) x g) (fun r d => X r d * G d) := fun r l => by
  pointwise [k0_pay18]
  rw [hx, hg, ← EReal.coe_mul]

section
variable {q : FVec Ideal S1024x128 .bf16} {Q : Fin 1024 → Row} (hq : Is q Q)
  {k : FVec Ideal S256x128 .f32} {K : Rows} (hk : Is k K)
  {gq gk : FVec Ideal S1x128 .f32} {GQ GK : Row} (hgq : Is gq fun _ => GQ) (hgk : Is gk fun _ => GK)
include hq hk hgq hgk

theorem pay20 : Is (k0_pay20 (F := Ideal) (k0_pay11 q) k k0_pay13 (k0_pay14 k) (k0_pay15 k) gq gk)
    (fun r => prob GQ GK (Q r) K) := fun r l => by
  have h1 := pay18 (pay11 hq) hgq
  have h2 := pay19 hk hgk
  pointwise [k0_pay20]
  simp only [h1 r, h2 _ _, ← EReal.coe_mul, sum_coe, bits_sc, bits_bot, fold_max_coe, ← EReal.coe_sub, exp_coe]
  exact div_coe (den_pos _).ne'

variable {o : FVec Ideal S1024x128 .f32} {O : Fin 1024 → Row} (ho : Is o O)
  {v : FVec Ideal S256x128 .f32} {V : Rows} (hv : Is v V)
include ho hv

theorem pay21 : Is (k0_pay21 (F := Ideal) (k0_pay11 q) k k0_pay13 (k0_pay14 k) (k0_pay15 k) gq gk o v)
    (fun r => grad GQ GK (Q r) K (O r) V) := fun r l => by
  have h1 := pay20 hq hk hgq hgk
  pointwise [k0_pay21]
  simp only [h1 r, ho r, hv _ _, ← EReal.coe_mul, sum_coe, ← EReal.coe_sub]
  rfl

theorem pay24 : Is (k0_pay24 (F := Ideal) (k0_pay19 k k0_pay13 (k0_pay14 k) (k0_pay15 k) gk)
    (k0_pay21 (k0_pay11 q) k k0_pay13 (k0_pay14 k) (k0_pay15 k) gq gk o v))
    (fun r => dqn GQ GK (Q r) K (O r) V) := fun r l => by
  have h1 := pay21 hq hk hgq hgk ho hv
  have h2 := pay19 hk hgk
  pointwise [k0_pay24]
  simp only [h1 r, h2 _ _, ← EReal.coe_mul, sum_coe, bits_sc]
  rfl

theorem pay25 : Is (k0_pay25 (F := Ideal) (k0_pay19 k k0_pay13 (k0_pay14 k) (k0_pay15 k) gk)
    (k0_pay21 (k0_pay11 q) k k0_pay13 (k0_pay14 k) (k0_pay15 k) gq gk o v) gq)
    (fun r d => dqn GQ GK (Q r) K (O r) V d * GQ d) := fun r l => by
  have h1 := pay24 hq hk hgq hgk ho hv
  pointwise [k0_pay25]
  rw [h1, hgq, ← EReal.coe_mul]

/-- The gradient of the query rows. -/
theorem pay1 : Is (k0_pay1 (F := Ideal) (k0_pay10 q) (k0_pay11 q)
      (k0_pay25 (k0_pay19 k k0_pay13 (k0_pay14 k) (k0_pay15 k) gk)
        (k0_pay21 (k0_pay11 q) k k0_pay13 (k0_pay14 k) (k0_pay15 k) gq gk o v) gq)
      (k0_pay26 (k0_pay11 q) (k0_pay19 k k0_pay13 (k0_pay14 k) (k0_pay15 k) gk)
        (k0_pay21 (k0_pay11 q) k k0_pay13 (k0_pay14 k) (k0_pay15 k) gq gk o v) gq)
      k0_pay27) (fun r => bwd GQ (Q r) (dqn GQ GK (Q r) K (O r) V)) := fun r l => by
  have h1 := pay25 hq hk hgq hgk ho hv
  have h2 := pay11 hq
  have h3 := pay10 hq
  pointwise [k0_pay1, k0_pay26, k0_pay27]
  simp only [h1 r, h2 r, h3 r, one_word, mul_one, ← EReal.coe_mul, ← EReal.coe_sub, sub_self, sum_coe, bits_inv128, ← EReal.coe_add, Finset.sum_const_zero, add_zero]
  rfl

omit hv in
/-- One block's part of the gradient of the values. -/
theorem pay22 (acc : FVec Ideal S256x128 .f32) (j d) :
    k0_pay22 (F := Ideal) (k0_pay20 (k0_pay11 q) k k0_pay13 (k0_pay14 k) (k0_pay15 k) gq gk) o acc (ix2 j d)
      = acc (ix2 j d) + ((∑ r, prob GQ GK (Q r) K j * O r d : ℝ) : EReal) := by
  have h1 := pay20 hq hk hgq hgk
  pointwise [k0_pay22]
  simp only [h1 _ _, ho _ _, ← EReal.coe_mul, sum_coe]

/-- One block's part of the gradient of the normalised keys. -/
theorem pay23 (acc : FVec Ideal S256x128 .f32) (j d) :
    k0_pay23 (F := Ideal) (k0_pay18 (k0_pay11 q) gq) (k0_pay21 (k0_pay11 q) k k0_pay13 (k0_pay14 k) (k0_pay15 k) gq gk o v) acc (ix2 j d)
      = acc (ix2 j d) + (((∑ r, grad GQ GK (Q r) K (O r) V j * nrm GQ (Q r) d) * sc : ℝ) : EReal) := by
  have h1 := pay21 hq hk hgq hgk ho hv
  have h2 := pay18 (pay11 hq) hgq
  pointwise [k0_pay23]
  simp only [h1 _ _, h2 _ _, ← EReal.coe_mul, sum_coe, bits_sc]
  rfl

/-- One block's part of the gradient of the query gain. -/
theorem pay2 (acc : FVec Ideal S1x128 .f32) (a d) :
    k0_pay2 (F := Ideal) (k0_pay11 q) (k0_pay24 (k0_pay19 k k0_pay13 (k0_pay14 k) (k0_pay15 k) gk)
        (k0_pay21 (k0_pay11 q) k k0_pay13 (k0_pay14 k) (k0_pay15 k) gq gk o v)) acc (ix2 a d)
      = acc (ix2 a d) + ((∑ r, dqn GQ GK (Q r) K (O r) V d * hat (Q r) d : ℝ) : EReal) := by
  have h1 := pay24 hq hk hgq hgk ho hv
  have h2 := pay11 hq
  pointwise [k0_pay2]
  simp only [h1 _ _, h2 _ _, ← EReal.coe_mul, sum_coe]
end

section
variable {k : FVec Ideal S256x128 .f32} {K : Rows} (hk : Is k K) {gk : FVec Ideal S1x128 .f32} {GK : Row} (hgk : Is gk fun _ => GK)
  {y : FVec Ideal S256x128 .f32} {Y : Rows} (hy : Is y Y)
include hk hy

/-- The gradient of the key rows. -/
theorem pay3 (hgk : Is gk fun _ => GK) : Is (k0_pay3 (F := Ideal) (k0_pay16 k0_pay13 (k0_pay14 k) (k0_pay15 k)) (k0_pay17 k k0_pay13 (k0_pay14 k) (k0_pay15 k)) y gk)
    (fun j => bwd GK (K j) (Y j)) := fun j d => by
  have h1 := pay16 hk
  have h2 := pay17 hk
  pointwise [k0_pay3]
  simp only [h1 j, h2 j, hy j, hgk _ _, one_word, mul_one, ← EReal.coe_mul, ← EReal.coe_sub, sub_self, sum_coe, bits_inv128, ← EReal.coe_add, Finset.sum_const_zero, add_zero]
  rfl

/-- One head's part of the gradient of the key gain. -/
theorem pay4 (acc : FVec Ideal S1x128 .f32) (a d) :
    k0_pay4 (F := Ideal) (k0_pay17 k k0_pay13 (k0_pay14 k) (k0_pay15 k)) y acc (ix2 a d)
      = acc (ix2 a d) + ((∑ j, Y j d * hat (K j) d : ℝ) : EReal) := by
  have h2 := pay17 hk
  pointwise [k0_pay4]
  simp only [h2 _ _, hy _ _, ← EReal.coe_mul, sum_coe]
end

theorem pay5 (j) : k0_pay5 (F := Ideal) j = 0 := by pointwise [k0_pay5]
theorem pay6 (j) : k0_pay6 (F := Ideal) j = 0 := by pointwise [k0_pay6]
theorem pay7 (j) : k0_pay7 (F := Ideal) j = 0 := by pointwise [k0_pay7]
theorem pay8 (j) : k0_pay8 (F := Ideal) j = 0 := by pointwise [k0_pay8]

end Cert.KernelIdeal.Mem

end
-- ==== Proof.MemState.lean ====
/- What the kernel's blocks hold after each grid point, over the reals: point `t` is head `t / 4`, row block `t % 4`. -/
module

public import proofs.«01_k».proof.Proof.Gen.KernelIdeal.Frame
public import proofs.«01_k».proof.Proof.MemPay
public import Idealize.ShloMosaic.Lib.Pipeline.ReadBack

@[expose] public section

set_option maxRecDepth 16384

noncomputable section

open Idealize.ShloMosaic Idealize.ShloMosaic.TcCoe Idealize.SL.Sem

namespace Cert.Mem
open Cert.Lift

/-- The real numbers the arguments hold: output gradient, projection, memory keys and values, and the two gains. -/
structure Reals where
  DO : ℕ → ℕ → ℝ
  PR : ℕ → ℕ → ℝ
  KV : ℕ → ℕ → ℝ
  GQ : Row
  GK : Row

namespace Reals
variable (A : Reals)
/-- Row `l` of the queries of head `h`. -/
def Q (h l : ℕ) : Row := fun d => A.PR l (9728 + h * 128 + d)
/-- The keys of head `h`. -/
def K (h : ℕ) : Rows := fun j d => A.KV j (h * 128 + d)
/-- The values of head `h`. -/
def V (h : ℕ) : Rows := fun j d => A.KV j (512 + h * 128 + d)
/-- Row `l` of the output gradient of head `h`. -/
def O (h l : ℕ) : Row := fun d => A.DO l (h * 128 + d)
/-- The probabilities of row `l`, head `h`. -/
def P (h l : ℕ) : Fin 256 → ℝ := prob A.GQ A.GK (A.Q h l) (A.K h)
/-- The gradient of the scores of row `l`, head `h`. -/
def S (h l : ℕ) : Fin 256 → ℝ := grad A.GQ A.GK (A.Q h l) (A.K h) (A.O h l) (A.V h)
/-- The gradient of the normalised query row `l`, head `h`. -/
def DQN (h l : ℕ) : Row := dqn A.GQ A.GK (A.Q h l) (A.K h) (A.O h l) (A.V h)
/-- The part of row block `b` in the gradient of the values of head `h`. -/
def dvT (h b : ℕ) : Rows := fun j d => ∑ r : Fin 1024, A.P h (b * 1024 + r) j * A.O h (b * 1024 + r) d
/-- The part of row block `b` in the gradient of the normalised keys of head `h`. -/
def dknT (h b : ℕ) : Rows := fun j d => (∑ r : Fin 1024, A.S h (b * 1024 + r) j * nrm A.GQ (A.Q h (b * 1024 + r)) d) * sc
/-- The part of row block `b` and head `h` in the gradient of the query gain. -/
def gqT (h b : ℕ) : Row := fun d => ∑ r : Fin 1024, A.DQN h (b * 1024 + r) d * hat (A.Q h (b * 1024 + r)) d
/-- The gradient of the normalised keys of head `h`. -/
def DKN (h : ℕ) : Rows := fun j d => ∑ b : Fin 4, A.dknT h b j d
/-- The gradient of the values of head `h`. -/
def DV (h : ℕ) : Rows := fun j d => ∑ b : Fin 4, A.dvT h b j d
end Reals

end Cert.Mem

namespace Cert.KernelIdeal.Mem
open Cert.KernelIdeal Cert.KernelIdeal.Gen Cert.Lift Cert.Mem

variable (m : (ℓ : Loc nD τ sig) → Buf (Elt Ideal) ℓ) (c : Dev nD) (A : Reals)

/-- The five arguments hold the reals `A`. -/
structure Holds : Prop where
  hDO : ∀ i : S4096x512.Idx, m ((c : Thread nD τ).loc main_arg0) i = ((A.DO (i 0) (i 1) : ℝ) : EReal)
  hPR : ∀ i : S4096x13312.Idx, m ((c : Thread nD τ).loc main_arg1) i = ((A.PR (i 0) (i 1) : ℝ) : EReal)
  hKV : ∀ i : S256x1024.Idx, m ((c : Thread nD τ).loc main_arg2) i = ((A.KV (i 0) (i 1) : ℝ) : EReal)
  hGQ : ∀ i : S1x128.Idx, m ((c : Thread nD τ).loc main_arg3) i = ((A.GQ (i 1) : ℝ) : EReal)
  hGK : ∀ i : S1x128.Idx, m ((c : Thread nD τ).loc main_arg4) i = ((A.GK (i 1) : ℝ) : EReal)

theorem idx : ∀ t : Fin cfg0.N, win0_0.index t = ![t.val % 4, t.val / 4] ∧ win0_1.index t = ![t.val % 4, 76 + t.val / 4]
    ∧ win0_2.index t = ![0, t.val / 4] ∧ win0_3.index t = ![0, 4 + t.val / 4] ∧ win0_4.index t = ![0, 0] ∧ win0_5.index t = ![0, 0]
    ∧ win0_6.index t = ![t.val % 4, 76 + t.val / 4] ∧ win0_7.index t = ![0, t.val / 4] ∧ win0_8.index t = ![0, t.val / 4]
    ∧ win0_9.index t = ![0, 0] ∧ win0_10.index t = ![0, 0] ∧ t.val / 4 < 4 :=
  (by decide +kernel : ∀ t : Fin grid0.N, _)

variable {m c A} (H : Holds m c A)
include H

theorem blk0 (t : Fin cfg0.N) : Is (a := 1024) (b := 128) (φ := .f32) (iblk m c 0 t) (fun r => A.O (t.val / 4) (t.val % 4 * 1024 + r)) := fun r l => by
  have hh : t.val / 4 < 4 := (idx t).2.2.2.2.2.2.2.2.2.2.2
  have e : (show FVec Ideal S1024x128 .f32 from iblk m c 0 t) (ix2 r l)
      = (show FVec Ideal S4096x512 .f32 from m ((c : Thread nD τ).loc main_arg0)) (ix2 ⟨t.val % 4 * 1024 + r, by omega⟩ ⟨t.val / 4 * 128 + l, by omega⟩) := by
    blk_ext [iblk, V, idx t]
  exact e.trans (H.hDO _)
theorem blk1 (t : Fin cfg0.N) : Is (a := 1024) (b := 128) (φ := .bf16) (iblk m c 1 t) (fun r => A.Q (t.val / 4) (t.val % 4 * 1024 + r)) := fun r l => by
  have hh : t.val / 4 < 4 := (idx t).2.2.2.2.2.2.2.2.2.2.2
  have e : (show FVec Ideal S1024x128 .bf16 from iblk m c 1 t) (ix2 r l)
      = (show FVec Ideal S4096x13312 .bf16 from m ((c : Thread nD τ).loc main_arg1)) (ix2 ⟨t.val % 4 * 1024 + r, by omega⟩ ⟨9728 + t.val / 4 * 128 + l, by omega⟩) := by
    blk_ext [iblk, V, idx t]
  exact e.trans (H.hPR _)
theorem blk2 (t : Fin cfg0.N) : Is (a := 256) (b := 128) (φ := .f32) (iblk m c 2 t) (A.K (t.val / 4)) := fun r l => by
  have hh : t.val / 4 < 4 := (idx t).2.2.2.2.2.2.2.2.2.2.2
  have e : (show FVec Ideal S256x128 .f32 from iblk m c 2 t) (ix2 r l)
      = (show FVec Ideal S256x1024 .f32 from m ((c : Thread nD τ).loc main_arg2)) (ix2 ⟨r.val, by omega⟩ ⟨t.val / 4 * 128 + l, by omega⟩) := by
    blk_ext [iblk, V, idx t]
  exact e.trans (H.hKV _)
theorem blk3 (t : Fin cfg0.N) : Is (a := 256) (b := 128) (φ := .f32) (iblk m c 3 t) (A.V (t.val / 4)) := fun r l => by
  have hh : t.val / 4 < 4 := (idx t).2.2.2.2.2.2.2.2.2.2.2
  have e : (show FVec Ideal S256x128 .f32 from iblk m c 3 t) (ix2 r l)
      = (show FVec Ideal S256x1024 .f32 from m ((c : Thread nD τ).loc main_arg2)) (ix2 ⟨r.val, by omega⟩ ⟨512 + t.val / 4 * 128 + l, by omega⟩) := by
    blk_ext [iblk, V, idx t]
  exact e.trans (H.hKV _)
theorem blk4 (t : Fin cfg0.N) : Is (a := 1) (b := 128) (φ := .f32) (iblk m c 4 t) (fun _ => A.GQ) := fun r l => by
  have hh : t.val / 4 < 4 := (idx t).2.2.2.2.2.2.2.2.2.2.2
  have e : (show FVec Ideal S1x128 .f32 from iblk m c 4 t) (ix2 r l)
      = (show FVec Ideal S1x128 .f32 from m ((c : Thread nD τ).loc main_arg3)) (ix2 ⟨r.val, by omega⟩ ⟨l.val, by omega⟩) := by
    blk_ext [iblk, V, idx t]
  exact e.trans (H.hGQ _)
theorem blk5 (t : Fin cfg0.N) : Is (a := 1) (b := 128) (φ := .f32) (iblk m c 5 t) (fun _ => A.GK) := fun r l => by
  have hh : t.val / 4 < 4 := (idx t).2.2.2.2.2.2.2.2.2.2.2
  have e : (show FVec Ideal S1x128 .f32 from iblk m c 5 t) (ix2 r l)
      = (show FVec Ideal S1x128 .f32 from m ((c : Thread nD τ).loc main_arg4)) (ix2 ⟨r.val, by omega⟩ ⟨l.val, by omega⟩) := by
    blk_ext [iblk, V, idx t]
  exact e.trans (H.hGK _)

theorem dq_state (t : Fin cfg0.N) : Is (a := 1024) (b := 128) (φ := .bf16) (outsAt0 m c t.val t.isLt).1
    (fun r => bwd A.GQ (A.Q (t.val / 4) (t.val % 4 * 1024 + r)) (A.DQN (t.val / 4) (t.val % 4 * 1024 + r))) := fun r l => by
  have key := pay1 (blk1 H t) (blk2 H t) (blk4 H t) (blk5 H t) (blk0 H t) (blk3 H t) r l
  by_cases h0 : t.val % 16 = 0
  · rw [outsAt0_A m c t h0 (by omega) (by omega)]; frame_out; exact key
  by_cases h1 : t.val % 4 = 0
  · rw [outsAt0_D m c t h0 h1 (by omega)]; frame_out; exact key
  by_cases h2 : t.val % 4 = 3
  · rw [outsAt0_C m c t h0 h1 h2]; frame_out; exact key
  · rw [outsAt0_B m c t h0 h1 h2]; frame_out; exact key

theorem dv_reset (t : Fin cfg0.N) (h : t.val % 4 = 0) (i : S256x128.Idx) : (outsAt0 m c t.val t.isLt).2.2.1 i
    = 0 + ((A.dvT (t.val / 4) (t.val % 4) (i 0) (i 1) : ℝ) : EReal) := by
  have key := pay22 (blk1 H t) (blk2 H t) (blk4 H t) (blk5 H t) (blk0 H t)
  idx_vars i
  by_cases h0 : t.val % 16 = 0
  · rw [outsAt0_A m c t h0 (by omega) (by omega)]; frame_out; rw [key, pay8]; rfl
  · rw [outsAt0_D m c t h0 h (by omega)]; frame_out; rw [key, pay8]; rfl

theorem dv_step (t : Fin cfg0.N) (h : ¬ t.val % 4 = 0) (i : S256x128.Idx) : (outsAt0 m c t.val t.isLt).2.2.1 i
    = (outsAt0 m c (t.val - 1) (Nat.lt_of_le_of_lt (Nat.sub_le _ _) t.isLt)).2.2.1 i + ((A.dvT (t.val / 4) (t.val % 4) (i 0) (i 1) : ℝ) : EReal) := by
  have key := pay22 (blk1 H t) (blk2 H t) (blk4 H t) (blk5 H t) (blk0 H t)
  idx_vars i
  by_cases h2 : t.val % 4 = 3
  · rw [outsAt0_C m c t (by omega) h h2]; frame_out; rw [key]; rfl
  · rw [outsAt0_B m c t (by omega) h h2]; frame_out; rw [key]; rfl

theorem dkn_reset (t : Fin cfg0.N) (h : t.val % 4 = 0) (i : S256x128.Idx) : (outsAt0 m c t.val t.isLt).2.2.2.2.2 i
    = 0 + ((A.dknT (t.val / 4) (t.val % 4) (i 0) (i 1) : ℝ) : EReal) := by
  have key := pay23 (blk1 H t) (blk2 H t) (blk4 H t) (blk5 H t) (blk0 H t) (blk3 H t)
  idx_vars i
  by_cases h0 : t.val % 16 = 0
  · rw [outsAt0_A m c t h0 (by omega) (by omega)]; frame_out; rw [key, pay7]; rfl
  · rw [outsAt0_D m c t h0 h (by omega)]; frame_out; rw [key, pay7]; rfl

theorem dkn_step (t : Fin cfg0.N) (h : ¬ t.val % 4 = 0) (i : S256x128.Idx) : (outsAt0 m c t.val t.isLt).2.2.2.2.2 i
    = (outsAt0 m c (t.val - 1) (Nat.lt_of_le_of_lt (Nat.sub_le _ _) t.isLt)).2.2.2.2.2 i + ((A.dknT (t.val / 4) (t.val % 4) (i 0) (i 1) : ℝ) : EReal) := by
  have key := pay23 (blk1 H t) (blk2 H t) (blk4 H t) (blk5 H t) (blk0 H t) (blk3 H t)
  idx_vars i
  by_cases h2 : t.val % 4 = 3
  · rw [outsAt0_C m c t (by omega) h h2]; frame_out; rw [key, read_unread_whole]; rfl
  · rw [outsAt0_B m c t (by omega) h h2]; frame_out; rw [key, read_unread_whole]; rfl

theorem gq_reset (t : Fin cfg0.N) (h : t.val % 16 = 0) (i : S1x128.Idx) : (outsAt0 m c t.val t.isLt).2.2.2.1 i
    = 0 + ((A.gqT (t.val / 4) (t.val % 4) (i 1) : ℝ) : EReal) := by
  have key := pay2 (blk1 H t) (blk2 H t) (blk4 H t) (blk5 H t) (blk0 H t) (blk3 H t)
  idx_vars i
  rw [outsAt0_A m c t h (by omega) (by omega)]; frame_out; rw [key]
  first | rw [pay5] | rw [pay6]
  rfl

theorem gq_step (t : Fin cfg0.N) (h : ¬ t.val % 16 = 0) (i : S1x128.Idx) : (outsAt0 m c t.val t.isLt).2.2.2.1 i
    = (outsAt0 m c (t.val - 1) (Nat.lt_of_le_of_lt (Nat.sub_le _ _) t.isLt)).2.2.2.1 i + ((A.gqT (t.val / 4) (t.val % 4) (i 1) : ℝ) : EReal) := by
  have key := pay2 (blk1 H t) (blk2 H t) (blk4 H t) (blk5 H t) (blk0 H t) (blk3 H t)
  idx_vars i
  by_cases h1 : t.val % 4 = 0
  · rw [outsAt0_D m c t h h1 (by omega)]; frame_out; rw [key]; rfl
  by_cases h2 : t.val % 4 = 3
  · rw [outsAt0_C m c t h h1 h2]; frame_out; rw [key]; rfl
  · rw [outsAt0_B m c t h h1 h2]; frame_out; rw [key]; rfl

/-- The gradient of the normalised keys of a head, at the head's last point. -/
theorem dkn_state (t : Fin cfg0.N) (h : t.val % 4 = 3) : Is (a := 256) (b := 128) (φ := .f32) (outsAt0 m c t.val t.isLt).2.2.2.2.2 (A.DKN (t.val / 4)) := fun j d => by
  have key := Pipeline.eq_sum_fin_of_reset_step_apply_of_flush (M := EReal) (ι := S256x128.Idx) (N := cfg0.N) (fun n h => (outsAt0 m c n h).2.2.2.2.2) 4 (fun _ => (0 : EReal))
    (fun t i => ((A.dknT (t.val / 4) (t.val % 4) (i 0) (i 1) : ℝ) : EReal)) (dkn_reset H) (dkn_step H) t h (ix2 j d)
  rw [zero_add, sum_coe] at key
  refine key.trans (congrArg (fun x : ℝ => (x : EReal)) ?_)
  unfold Reals.DKN
  refine Finset.sum_congr rfl fun b _ => ?_
  have e1 : (4 * (t.val / 4) + b.val) / 4 = t.val / 4 := by omega
  have e2 : (4 * (t.val / 4) + b.val) % 4 = b.val := by omega
  show A.dknT ((4 * (t.val / 4) + b.val) / 4) ((4 * (t.val / 4) + b.val) % 4) j d = _
  rw [e1, e2]

theorem dv_state (t : Fin cfg0.N) (h : t.val % 4 = 3) : Is (a := 256) (b := 128) (φ := .f32) (outsAt0 m c t.val t.isLt).2.2.1
    (A.DV (t.val / 4)) := fun j d => by
  have key := Pipeline.eq_sum_fin_of_reset_step_apply_of_flush (M := EReal) (ι := S256x128.Idx) (N := cfg0.N) (fun n h => (outsAt0 m c n h).2.2.1) 4 (fun _ => (0 : EReal))
    (fun t i => ((A.dvT (t.val / 4) (t.val % 4) (i 0) (i 1) : ℝ) : EReal)) (dv_reset H) (dv_step H) t h (ix2 j d)
  rw [zero_add, sum_coe] at key
  refine key.trans (congrArg (fun x : ℝ => (x : EReal)) ?_)
  unfold Reals.DV
  refine Finset.sum_congr rfl fun b _ => ?_
  have e1 : (4 * (t.val / 4) + b.val) / 4 = t.val / 4 := by omega
  have e2 : (4 * (t.val / 4) + b.val) % 4 = b.val := by omega
  show A.dvT ((4 * (t.val / 4) + b.val) / 4) ((4 * (t.val / 4) + b.val) % 4) j d = _
  rw [e1, e2]

theorem dk_state (t : Fin cfg0.N) (h : t.val % 4 = 3) : Is (a := 256) (b := 128) (φ := .f32) (outsAt0 m c t.val t.isLt).2.1
    (fun j => bwd A.GK (A.K (t.val / 4) j) (A.DKN (t.val / 4) j)) := fun j d => by
  have hs := dkn_state H t h
  rw [outsAt0_C m c t (by omega) (by omega) h] at hs ⊢
  have hs' : Is (a := 256) (b := 128) (φ := .f32) _ _ := fun j d => by
    have := hs j d
    revert this; frame_out; exact id
  frame_out
  exact pay3 (blk2 H t) hs' (blk5 H t) j d

/-- What a point adds to the gradient of the key gain. -/
def gkTerm (A : Reals) (t : Fin cfg0.N) (i : S1x128.Idx) : EReal :=
  if t.val % 4 = 3 then ((∑ j : Fin 256, A.DKN (t.val / 4) j (i 1) * hat (A.K (t.val / 4) j) (i 1) : ℝ) : EReal) else 0

theorem gk_reset (t : Fin cfg0.N) (h : t.val % 16 = 0) (i : S1x128.Idx) : (outsAt0 m c t.val t.isLt).2.2.2.2.1 i = 0 + gkTerm A t i := by
  idx_vars i
  rw [outsAt0_A m c t h (by omega) (by omega)]; frame_out
  unfold gkTerm
  rw [if_neg (by omega), add_zero]
  first | rw [pay5] | rw [pay6]

theorem gk_step (t : Fin cfg0.N) (h : ¬ t.val % 16 = 0) (i : S1x128.Idx) : (outsAt0 m c t.val t.isLt).2.2.2.2.1 i
    = (outsAt0 m c (t.val - 1) (Nat.lt_of_le_of_lt (Nat.sub_le _ _) t.isLt)).2.2.2.2.1 i + gkTerm A t i := by
  idx_vars i
  unfold gkTerm
  by_cases h1 : t.val % 4 = 0
  · rw [outsAt0_D m c t h h1 (by omega), if_neg (by omega), add_zero]; rfl
  by_cases h2 : t.val % 4 = 3
  · have hs := dkn_state H t h2
    rw [outsAt0_C m c t h h1 h2] at hs ⊢
    have hs' : Is (a := 256) (b := 128) (φ := .f32) _ _ := fun j d => by
      have := hs j d
      revert this; frame_out; exact id
    rw [if_pos h2]
    frame_out
    exact pay4 (blk2 H t) hs' _ _ _
  · rw [outsAt0_B m c t h h1 h2, if_neg h2, add_zero]; rfl

end Cert.KernelIdeal.Mem

end
-- ==== Proof.MemFinal.lean ====
/- The five result arrays of the kernel, over the reals. -/
module

public import proofs.«01_k».proof.Proof.MemState

@[expose] public section

set_option maxRecDepth 16384

noncomputable section

open Idealize.ShloMosaic Idealize.ShloMosaic.TcCoe Idealize.SL.Sem

namespace Cert.Mem
open Cert.Lift

/-- Four heads of 128 lanes side by side: column `b` is lane `b % 128` of head `b / 128`. -/
def cols {n : ℕ} (f : ℕ → Fin n → Row) (a b : ℕ) : ℝ :=
  if h : a < n then f (b / 128) ⟨a, h⟩ ⟨b % 128, Nat.mod_lt _ (by norm_num)⟩ else 0

theorem cols_at {n : ℕ} (f : ℕ → Fin n → Row) (h : ℕ) (j : Fin n) (d : Fin 128) : cols f j (h * 128 + d) = f h j d := by
  have e1 : (h * 128 + d.val) / 128 = h := by omega
  have e2 : (h * 128 + d.val) % 128 = d.val := by omega
  unfold cols
  rw [dif_pos j.isLt]
  simp only [e1, e2]

namespace Reals
variable (A : Reals)
/-- The gradient of the query row `l` of head `h`. -/
def DQ (h : ℕ) (l : Fin 4096) : Row := bwd A.GQ (A.Q h l) (A.DQN h l)
/-- The gradient of the keys of head `h`. -/
def DK (h : ℕ) : Rows := fun j => bwd A.GK (A.K h j) (A.DKN h j)
/-- The gradient of the query gain. -/
def DGQ : Row := fun d => ∑ h : Fin 4, ∑ b : Fin 4, A.gqT h b d
/-- The gradient of the key gain. -/
def DGK : Row := fun d => ∑ h : Fin 4, ∑ j : Fin 256, A.DKN h j d * hat (A.K h j) d
end Reals

end Cert.Mem

namespace Cert.KernelIdeal.Mem
open Cert.KernelIdeal Cert.KernelIdeal.Gen Cert.Lift Cert.Mem

theorem idx7 (t : Fin cfg0.N) : win0_7.index t = ![0, t.val / 4] := (idx t).2.2.2.2.2.2.2.1
theorem idx8 (t : Fin cfg0.N) : win0_8.index t = ![0, t.val / 4] := (idx t).2.2.2.2.2.2.2.2.1
theorem idx6 (t : Fin cfg0.N) : win0_6.index t = ![t.val % 4, 76 + t.val / 4] := (idx t).2.2.2.2.2.2.1
theorem lt4 (t : Fin cfg0.N) : t.val / 4 < 4 := (idx t).2.2.2.2.2.2.2.2.2.2.2

variable {m : (ℓ : Loc nD τ sig) → Buf (Elt Ideal) ℓ} {c : Dev nD} {A : Reals} (H : Holds m c A)
include H

theorem final7 : (dats m 0 c).arrAt 7 (cfgs 0).N = fun i => ((cols A.DK (i 0).val (i 1).val : ℝ) : EReal) := by
  refine (dats m 0 c).arrAt_eq_of_covers 7 _ (by decide +kernel) fun t hf y => ?_
  blk_simp
  rw [after0_7]
  have ht := (flush0_7 t).mp hf
  have key : ∀ y : S256x128.Idx, (outsAt0 m c t.val t.isLt).2.1 y = ((A.DK (t.val / 4) (y 0) (y 1) : ℝ) : EReal) := fun y => by
    idx_vars y
    exact dk_state H t ht _ _
  refine (key y).trans (congrArg (fun x : ℝ => (x : EReal)) ?_)
  have h0 : win0_7.index t 0 = 0 := by rw [idx7 t]; rfl
  have h1 : win0_7.index t 1 = t.val / 4 := by rw [idx7 t]; rfl
  rw [h0, h1, Nat.zero_mul, Nat.zero_add]
  exact (cols_at A.DK (t.val / 4) (y 0) (y 1)).symm

theorem final8 : (dats m 0 c).arrAt 8 (cfgs 0).N = fun i => ((cols A.DV (i 0).val (i 1).val : ℝ) : EReal) := by
  refine (dats m 0 c).arrAt_eq_of_covers 8 _ (by decide +kernel) fun t hf y => ?_
  blk_simp
  rw [after0_8]
  have ht := (flush0_8 t).mp hf
  have key : ∀ y : S256x128.Idx, (outsAt0 m c t.val t.isLt).2.2.1 y = ((A.DV (t.val / 4) (y 0) (y 1) : ℝ) : EReal) := fun y => by
    idx_vars y
    exact dv_state H t ht _ _
  refine (key y).trans (congrArg (fun x : ℝ => (x : EReal)) ?_)
  have h0 : win0_8.index t 0 = 0 := by rw [idx8 t]; rfl
  have h1 : win0_8.index t 1 = t.val / 4 := by rw [idx8 t]; rfl
  rw [h0, h1, Nat.zero_mul, Nat.zero_add]
  exact (cols_at A.DV (t.val / 4) (y 0) (y 1)).symm

theorem gq_state (t : Fin cfg0.N) (h : t.val % 16 = 15) (i : S1x128.Idx) : (outsAt0 m c t.val t.isLt).2.2.2.1 i = ((A.DGQ (i 1) : ℝ) : EReal) := by
  have hN : cfg0.N = 16 := N_0
  have key := Pipeline.eq_sum_fin_of_reset_step_apply_last (M := EReal) (ι := S1x128.Idx) (N := cfg0.N) (fun n h => (outsAt0 m c n h).2.2.2.1) 16 (fun _ => (0 : EReal))
    (fun t i => ((A.gqT (t.val / 4) (t.val % 4) (i 1) : ℝ) : EReal)) (gq_reset H) (gq_step H) (le_of_eq N_0) t (by have := t.isLt; omega) i
  rw [zero_add, sum_coe] at key
  refine key.trans (congrArg (fun x : ℝ => (x : EReal)) ?_)
  unfold Reals.DGQ
  exact Fin.sum_divmod_congr fun t h b => rfl

theorem gk_state (t : Fin cfg0.N) (h : t.val % 16 = 15) (i : S1x128.Idx) : (outsAt0 m c t.val t.isLt).2.2.2.2.1 i = ((A.DGK (i 1) : ℝ) : EReal) := by
  have hN : cfg0.N = 16 := N_0
  have key := Pipeline.eq_sum_fin_of_reset_step_apply_last (M := EReal) (ι := S1x128.Idx) (N := cfg0.N) (fun n h => (outsAt0 m c n h).2.2.2.2.1) 16 (fun _ => (0 : EReal))
    (gkTerm A) (gk_reset H) (gk_step H) (le_of_eq N_0) t (by have := t.isLt; omega) i
  rw [zero_add] at key
  refine key.trans ?_
  unfold Reals.DGK
  rw [← sum_coe]
  have e : ∀ h : Fin 4, ((∑ j : Fin 256, A.DKN h j (i 1) * hat (A.K h j) (i 1) : ℝ) : EReal)
      = ∑ s : Fin 4, if s.val = 3 then ((∑ j : Fin 256, A.DKN h j (i 1) * hat (A.K h j) (i 1) : ℝ) : EReal) else 0 := fun h => by
    rw [Fin.sum_univ_four, if_neg (by decide), if_neg (by decide), if_neg (by decide), if_pos (by decide), add_zero, add_zero, zero_add]
  rw [Finset.sum_congr rfl fun h _ => e h]
  exact Fin.sum_divmod_congr fun t h b => rfl

theorem final9 : (dats m 0 c).arrAt 9 (cfgs 0).N = fun i => ((A.DGQ (i 1) : ℝ) : EReal) := by
  refine (dats m 0 c).arrAt_eq_of_covers 9 _ (by decide +kernel) fun t hf y => ?_
  blk_simp
  rw [after0_9]
  refine (gq_state H t ((flush0_9 t).mp hf) y).trans ?_
  congr 2
  apply Fin.ext
  blk_simp [idx t] <;> (try omega)

theorem final10 : (dats m 0 c).arrAt 10 (cfgs 0).N = fun i => ((A.DGK (i 1) : ℝ) : EReal) := by
  refine (dats m 0 c).arrAt_eq_of_covers 10 _ (by decide +kernel) fun t hf y => ?_
  blk_simp
  rw [after0_10]
  refine (gk_state H t ((flush0_10 t).mp hf) y).trans ?_
  congr 2
  apply Fin.ext
  blk_simp [idx t] <;> (try omega)

/-- Inside the query columns the first result is the gradient of the queries, outside them it is the array it was given. -/
theorem final6 : (dats m 0 c).arrAt 6 (cfgs 0).N = fun i => if 9728 ≤ (i 1).val ∧ (i 1).val < 10240 then ((cols A.DQ (i 0).val ((i 1).val - 9728) : ℝ) : EReal)
    else m ((c : Thread nD τ).loc main_arg5) i := by
  refine (dats m 0 c).arrAt_eq_of_coversWhere_of_agree 6 _ (fun β => 76 ≤ β 1 ∧ β 1 < 80) (by decide +kernel) (fun t hf y => ?_) (fun j hj => ?_)
  · blk_simp
    rw [after0_6]
    have key : ∀ y : S1024x128.Idx, (outsAt0 m c t.val t.isLt).1 y = ((bwd A.GQ (A.Q (t.val / 4) (t.val % 4 * 1024 + (y 0).val)) (A.DQN (t.val / 4) (t.val % 4 * 1024 + (y 0).val)) (y 1) : ℝ) : EReal) := fun y => by
      idx_vars y
      exact dq_state H t _ _
    have h0 : win0_6.index t 0 = t.val % 4 := by rw [idx6 t]; rfl
    have h1 : win0_6.index t 1 = 76 + t.val / 4 := by rw [idx6 t]; rfl
    have h4 := lt4 t
    rw [h0, h1]
    have hy : (y 1).val < 128 := (y 1).isLt
    have hr : t.val % 4 * 1024 + (y 0).val < 4096 := by
      have h0 : (y 0).val < 1024 := (y 0).isLt
      omega
    rw [if_pos (by omega)]
    refine (key y).trans (congrArg (fun x : ℝ => (x : EReal)) ?_)
    have e : (76 + t.val / 4) * 128 + (y 1).val - 9728 = t.val / 4 * 128 + (y 1).val := by omega
    rw [e]
    exact (cols_at A.DQ (t.val / 4) ⟨t.val % 4 * 1024 + (y 0).val, hr⟩ (y 1)).symm
  · blk_simp [Pipeline.Window.cell_apply] at hj
    have hn : ¬ (9728 ≤ (j 1).val ∧ (j 1).val < 10240) := by omega
    refine Eq.trans ?_ (if_neg hn).symm
    exact congrFun (V_main_arg5 m c) j

end Cert.KernelIdeal.Mem

end
-- ==== Proof.MemRef.lean ====
/- The stages of the reference over the real numbers the arguments hold. -/
module

public import proofs.«01_k».proof.Proof.Gen.ReferenceIdeal.Read
public import proofs.«01_k».proof.Proof.MemFinal

@[expose] public section

set_option maxRecDepth 16384

noncomputable section

open Idealize.ShloMosaic Idealize.ShloMosaic.TcCoe Idealize.SL.Sem

namespace Cert.Lift

theorem bits_neg_half : Ideal.ofBits FTy.f32 3204448256#32 = ((-(1 / 2) : ℝ) : EReal) := by
  simp [Ideal.ofBits, Ideal.ieee, -EReal.coe_mul]; norm_num

/-- A sum over the first two of three axes. -/
theorem sum_first_two {a b n : ℕ} (h : (⟨3, ![a, b, n]⟩ : Shape).ReducesTo [0, 1] ⟨1, ![n]⟩) (x : (⟨3, ![a, b, n]⟩ : Shape).Idx → EReal)
    (z : EReal) (d : Fin n) : Ideal.hostReduceAdd h x z (ix1 d) = z + ∑ p : Fin a, ∑ q : Fin b, x (ix3 p q d) := by
  refine congrArg (z + ·) ?_
  rw [← Finset.sum_product', Finset.sum_filter_eq_sum_of_fiber (fun i => h.drop i = ix1 d) (fun p : Fin a × Fin b => ix3 p.1 p.2 d)
    (fun p q e => Prod.ext (congrFun e 0) (congrFun e 1)) (fun i => ?_) x]
  · rfl
  · constructor
    · intro e
      refine ⟨(i 0, i 1), funext fun k => ?_⟩
      have e2 : i 2 = d := by
        have := congrFun e 0
        exact Fin.ext ((h.drop_apply_val_of_eq i 0 2 Nat.zero_lt_one rfl).symm.trans (congrArg Fin.val this))
      match k with
      | ⟨0, _⟩ => rfl
      | ⟨1, _⟩ => rfl
      | ⟨2, _⟩ => exact e2.symm
    · rintro ⟨p, rfl⟩
      funext k
      match k with
      | ⟨0, _⟩ => exact Fin.ext (h.drop_apply_val_of_eq _ 0 2 Nat.zero_lt_one rfl)

end Cert.Lift

namespace Cert.ReferenceIdeal.Mem
open Cert.ReferenceIdeal Cert.ReferenceIdeal.Gen Cert.ReferenceIdeal.Read Cert.Lift Cert.Mem

/-- The five arguments hold the reals `A`. -/
structure Holds (x0 : (⟨S4096x512, .f32⟩ : BufTy).Contents (Elt Ideal)) (x1 : (⟨S4096x13312, .bf16⟩ : BufTy).Contents (Elt Ideal))
    (x2 : (⟨S256x1024, .f32⟩ : BufTy).Contents (Elt Ideal)) (x3 x4 : (⟨S1x128, .f32⟩ : BufTy).Contents (Elt Ideal)) (A : Reals) : Prop where
  hDO : ∀ i, x0 i = ((A.DO (i 0) (i 1) : ℝ) : EReal)
  hPR : ∀ i, x1 i = ((A.PR (i 0) (i 1) : ℝ) : EReal)
  hKV : ∀ i, x2 i = ((A.KV (i 0) (i 1) : ℝ) : EReal)
  hGQ : ∀ i, x3 i = ((A.GQ (i 1) : ℝ) : EReal)
  hGK : ∀ i, x4 i = ((A.GK (i 1) : ℝ) : EReal)

variable {x0 : (⟨S4096x512, .f32⟩ : BufTy).Contents (Elt Ideal)} {x1 : (⟨S4096x13312, .bf16⟩ : BufTy).Contents (Elt Ideal)}
  {x2 : (⟨S256x1024, .f32⟩ : BufTy).Contents (Elt Ideal)} {x3 x4 : (⟨S1x128, .f32⟩ : BufTy).Contents (Elt Ideal)} {A : Reals}
  (H : Holds x0 x1 x2 x3 x4 A)
include H

theorem v4 (l : Fin 4096) (h : Fin 4) (d : Fin 128) : val_main_v4 (F := Ideal) x1 (ix3 l h d) = ((A.Q h l d : ℝ) : EReal) := by
  have e : val_main_v4 (F := Ideal) x1 (ix3 l h d) = x1 (ix2 l ⟨9728 + (h.val * 128 + d.val), by omega⟩) := by
    pointwise [val_main_v4, val_main_v1, val_main_v0]
  rw [e, H.hPR]
  show ((A.PR l.val (9728 + (h.val * 128 + d.val)) : ℝ) : EReal) = ((A.PR l.val (9728 + h.val * 128 + d.val) : ℝ) : EReal)
  rw [add_assoc]

theorem v22 (j : Fin 256) (h : Fin 4) (d : Fin 128) : val_main_v22 (F := Ideal) x2 (ix3 j h d) = ((A.K h j d : ℝ) : EReal) := by
  have e : val_main_v22 (F := Ideal) x2 (ix3 j h d) = x2 (ix2 j ⟨h.val * 128 + d.val, by omega⟩) := by
    pointwise [val_main_v22, val_main_v2]
  rw [e, H.hKV]
  rfl

theorem v40 (j : Fin 256) (h : Fin 4) (d : Fin 128) : val_main_v40 (F := Ideal) x2 (ix3 j h d) = ((A.V h j d : ℝ) : EReal) := by
  have e : val_main_v40 (F := Ideal) x2 (ix3 j h d) = x2 (ix2 j ⟨512 + (h.val * 128 + d.val), by omega⟩) := by
    pointwise [val_main_v40, val_main_v3]
  rw [e, H.hKV]
  show ((A.KV j.val (512 + (h.val * 128 + d.val)) : ℝ) : EReal) = ((A.KV j.val (512 + h.val * 128 + d.val) : ℝ) : EReal)
  rw [add_assoc]

theorem v75 (l : Fin 4096) (h : Fin 4) (d : Fin 128) : val_main_v75 (F := Ideal) x0 (ix3 l h d) = ((A.O h l d : ℝ) : EReal) := by
  have e : val_main_v75 (F := Ideal) x0 (ix3 l h d) = x0 (ix2 l ⟨h.val * 128 + d.val, by omega⟩) := by
    pointwise [val_main_v75]
  rw [e, H.hDO]
  rfl

theorem v5 (d : Fin 128) : val_main_v5 (F := Ideal) x3 (ix1 d) = ((A.GQ d : ℝ) : EReal) := by
  have e : val_main_v5 (F := Ideal) x3 (ix1 d) = x3 (ix2 0 d) := by
    pointwise [val_main_v5]
  rw [e, H.hGQ]
  rfl

theorem v23 (d : Fin 128) : val_main_v23 (F := Ideal) x4 (ix1 d) = ((A.GK d : ℝ) : EReal) := by
  have e : val_main_v23 (F := Ideal) x4 (ix1 d) = x4 (ix2 0 d) := by
    pointwise [val_main_v23]
  rw [e, H.hGK]
  rfl

theorem v12 (l : Fin 4096) (h : Fin 4) (k : Fin 1) : val_main_v12 (F := Ideal) x1 (ix3 l h k) = ((msq (A.Q h l) : ℝ) : EReal) := by
  pointwise [val_main_v12, val_main_v11, val_main_v10, val_main_v9, val_main_v8, val_main_v7, val_main_v6, val_main_cst, val_main_cst_0, val_main_cst_1]
  simp only [v4 H, bits_eps, bits_128, ← EReal.coe_mul, sum_coe, div_coe (show (128 : ℝ) ≠ 0 by norm_num), ← EReal.coe_add]
  rw [div_eq_mul_one_div]
  rfl

theorem v30 (j : Fin 256) (h : Fin 4) (k : Fin 1) : val_main_v30 (F := Ideal) x2 (ix3 j h k) = ((msq (A.K h j) : ℝ) : EReal) := by
  pointwise [val_main_v30, val_main_v29, val_main_v28, val_main_v27, val_main_v26, val_main_v25, val_main_v24, val_main_cst_3, val_main_cst_4, val_main_cst_5]
  simp only [v22 H, bits_eps, bits_128, ← EReal.coe_mul, sum_coe, div_coe (show (128 : ℝ) ≠ 0 by norm_num), ← EReal.coe_add]
  rw [div_eq_mul_one_div]
  rfl

theorem v13 (l : Fin 4096) (h : Fin 4) (k : Fin 1) : val_main_v13 (F := Ideal) x1 (ix3 l h k) = ((rr (A.Q h l) : ℝ) : EReal) := by
  pointwise [val_main_v13]
  rw [v12 H, rsqrt_coe (msq_pos _)]
  rfl

theorem v31 (j : Fin 256) (h : Fin 4) (k : Fin 1) : val_main_v31 (F := Ideal) x2 (ix3 j h k) = ((rr (A.K h j) : ℝ) : EReal) := by
  pointwise [val_main_v31]
  rw [v30 H, rsqrt_coe (msq_pos _)]
  rfl

theorem v16 (l : Fin 4096) (h : Fin 4) (k : Fin 1) : val_main_v16 (F := Ideal) x1 (ix3 l h k) = ((-(1 / 2) * (rr (A.Q h l) / msq (A.Q h l)) : ℝ) : EReal) := by
  pointwise [val_main_v16, val_main_v15, val_main_v14, val_main_cst_2]
  rw [v12 H, v13 H, bits_neg_half, div_coe (msq_pos _).ne', ← EReal.coe_mul]

theorem v34 (j : Fin 256) (h : Fin 4) (k : Fin 1) : val_main_v34 (F := Ideal) x2 (ix3 j h k) = ((-(1 / 2) * (rr (A.K h j) / msq (A.K h j)) : ℝ) : EReal) := by
  pointwise [val_main_v34, val_main_v33, val_main_v32, val_main_cst_6]
  rw [v30 H, v31 H, bits_neg_half, div_coe (msq_pos _).ne', ← EReal.coe_mul]

theorem v18 (l : Fin 4096) (h : Fin 4) (d : Fin 128) : val_main_v18 (F := Ideal) x1 (ix3 l h d) = ((hat (A.Q h l) d : ℝ) : EReal) := by
  pointwise [val_main_v18, val_main_v17]
  rw [v4 H, v13 H, ← EReal.coe_mul]
  rfl

theorem v36 (j : Fin 256) (h : Fin 4) (d : Fin 128) : val_main_v36 (F := Ideal) x2 (ix3 j h d) = ((hat (A.K h j) d : ℝ) : EReal) := by
  pointwise [val_main_v36, val_main_v35]
  rw [v22 H, v31 H, ← EReal.coe_mul]
  rfl

theorem v21 (l : Fin 4096) (h : Fin 4) (d : Fin 128) : val_main_v21 (F := Ideal) x1 x3 (ix3 l h d) = ((nrm A.GQ (A.Q h l) d : ℝ) : EReal) := by
  pointwise [val_main_v21, val_main_v20, val_main_v19]
  rw [v18 H, v5 H, ← EReal.coe_mul]
  rfl

theorem v39 (j : Fin 256) (h : Fin 4) (d : Fin 128) : val_main_v39 (F := Ideal) x2 x4 (ix3 j h d) = ((nrm A.GK (A.K h j) d : ℝ) : EReal) := by
  pointwise [val_main_v39, val_main_v38, val_main_v37]
  rw [v36 H, v23 H, ← EReal.coe_mul]
  rfl

theorem v43 (h : Fin 4) (l : Fin 4096) (j : Fin 256) : val_main_v43 (F := Ideal) x1 x2 x3 x4 (ix3 h l j)
    = ((sco (nrm A.GQ (A.Q h l)) (fun j => nrm A.GK (A.K h j)) j : ℝ) : EReal) := by
  pointwise [val_main_v43, val_main_v42, val_main_v41, val_main_cst_7]
  simp only [v21 H, v39 H, bits_sc, ← EReal.coe_mul, sum_coe]
  rfl

/-- The scores of row `l` of head `h`. -/
abbrev scs (A : Reals) (h l : ℕ) : Fin 256 → ℝ := sco (nrm A.GQ (A.Q h l)) fun j => nrm A.GK (A.K h j)

theorem v44 (h : Fin 4) (l : Fin 4096) : val_main_v44 (F := Ideal) x1 x2 x3 x4 (ix2 h l) = ((mx (scs A h l) : ℝ) : EReal) := by
  have e : val_main_v44 (F := Ideal) x1 x2 x3 x4 (ix2 h l) = Finset.fold max (⊥ : EReal) (fun j => val_main_v43 (F := Ideal) x1 x2 x3 x4 (ix3 h l j)) Finset.univ := by
    unfold val_main_v44
    generalize val_main_v43 (F := Ideal) x1 x2 x3 x4 = y
    pointwise [val_main_cst_8]
    rw [bits_bot]
  rw [e]
  simp only [v43 H]
  exact fold_max_coe _

theorem v51 (h : Fin 4) (l : Fin 4096) : val_main_v51 (F := Ideal) x1 x2 x3 x4 (ix2 h l) = ((mx (scs A h l) : ℝ) : EReal) := by
  rw [val_main_v51_apply, v44 H, val_main_v50_apply, val_main_cst_10_apply]
  have e : ∀ x : EReal, FloatOps.maximumf (F := Ideal) (φ := .f32) (Ideal.ofBits FTy.f32 4286578688#32) x = x := fun x => by
    rw [bits_bot]
    exact max_eq_right bot_le
  exact e _

theorem v64 (h : Fin 4) (l : Fin 4096) (j : Fin 256) : val_main_v64 (F := Ideal) x1 x2 x3 x4 (ix3 h l j)
    = ((Real.exp (scs A h l j - mx (scs A h l)) : ℝ) : EReal) := by
  pointwise [val_main_v64, val_main_v63, val_main_v62, val_main_v61]
  rw [v43 H, v51 H, ← EReal.coe_sub, exp_coe]

theorem v65 (h : Fin 4) (l : Fin 4096) : val_main_v65 (F := Ideal) x1 x2 x3 x4 (ix2 h l)
    = ((∑ j, Real.exp (scs A h l j - mx (scs A h l)) : ℝ) : EReal) := by
  pointwise [val_main_v65, val_main_cst_16]
  simp only [v64 H, sum_coe]

theorem v68 (h : Fin 4) (l : Fin 4096) (j : Fin 256) : val_main_v68 (F := Ideal) x1 x2 x3 x4 (ix3 h l j) = ((A.P h l j : ℝ) : EReal) := by
  pointwise [val_main_v68, val_main_v67, val_main_v66]
  rw [v64 H, v65 H, div_coe (den_pos _).ne']
  rfl

theorem v77 (h : Fin 4) (l : Fin 4096) (j : Fin 256) : val_main_v77 (F := Ideal) x0 x2 (ix3 h l j) = ((dpr (A.O h l) (A.V h) j : ℝ) : EReal) := by
  pointwise [val_main_v77, val_main_v76]
  simp only [v75 H, v40 H, ← EReal.coe_mul, sum_coe]
  rfl

theorem v93 (h : Fin 4) (l : Fin 4096) (j : Fin 256) : val_main_v93 (F := Ideal) x0 x1 x2 x3 x4 (ix3 h l j) = ((A.S h l j * sc : ℝ) : EReal) := by
  pointwise [val_main_v93, val_main_v92, val_main_v91, val_main_v90, val_main_v89, val_main_v88, val_main_v87, val_main_v86, val_main_v85, val_main_v84,
    val_main_v83, val_main_v82, val_main_v81, val_main_v80, val_main_v71, val_main_v70, val_main_v69, val_main_v66, val_main_cst_17, val_main_cst_18,
    val_main_cst_19, val_main_cst_20]
  have hz := den_pos (scs A h l)
  simp only [v77 H, v64 H, v65 H, bits_sc, ← EReal.coe_mul, div_coe hz.ne']
  rw [show (1 : EReal) = ((1 : ℝ) : EReal) from rfl]
  simp only [div_coe (mul_pos hz hz).ne', ← EReal.coe_mul, sum_coe, ← EReal.coe_neg, ← EReal.coe_add]
  refine congrArg (fun x : ℝ => (x : EReal)) ?_
  unfold Reals.S grad dsm prob smx
  simp only [Finset.univ_unique, Finset.sum_singleton]
  rw [show (∑ i, Real.exp (scs A h l i - mx (scs A h l)) / (∑ i, Real.exp (scs A h l i - mx (scs A h l))) * dpr (A.O h l) (A.V h) i)
    = (∑ i, dpr (A.O h l) (A.V h) i * (1 / ((∑ i, Real.exp (scs A h l i - mx (scs A h l))) * ∑ i, Real.exp (scs A h l i - mx (scs A h l))))
      * Real.exp (scs A h l i - mx (scs A h l))) * ∑ i, Real.exp (scs A h l i - mx (scs A h l)) from by
    rw [Finset.sum_mul]
    refine Finset.sum_congr rfl fun i _ => ?_
    field_simp]
  field_simp
  ring

end Cert.ReferenceIdeal.Mem

end
-- ==== Proof.MemOut.lean ====
/- The five results of the reference over the real numbers the arguments hold. -/
module

public import proofs.«01_k».proof.Proof.MemRef
public import Idealize.ShloMosaic.Lib.Routing.OpsSet
public import Idealize.ShloMosaic.Lib.Routing.OpsPair

@[expose] public section

set_option maxRecDepth 16384

noncomputable section

open Idealize.ShloMosaic Idealize.ShloMosaic.TcCoe Idealize.SL.Sem

namespace Cert.Mem
open Cert.Lift

/-- A sum over `p * q` rows, block by block. -/
theorem sum_blocks (p q : ℕ) (f : ℕ → ℝ) : ∑ l : Fin (p * q), f l = ∑ b : Fin p, ∑ r : Fin q, f (b * q + r) := by
  rw [← Finset.sum_product', Finset.univ_product_univ]
  refine (Fintype.sum_equiv finProdFinEquiv _ _ fun x => ?_).symm
  refine congrArg f ?_
  show x.1.val * q + x.2.val = x.2.val + q * x.1.val
  ring

theorem cols_mk {n : ℕ} (f : ℕ → Fin n → Row) (p : Fin n) (b : ℕ) (hb : b % 128 < 128) : f (b / 128) p ⟨b % 128, hb⟩ = cols f p.val b := by
  unfold cols
  rw [dif_pos p.isLt]

theorem rr_mul (x : Row) : rr x / msq x = rr x * rr x * rr x := by
  have h : rr x * rr x = (msq x)⁻¹ := by
    unfold rr
    rw [← mul_inv, Real.mul_self_sqrt (msq_pos x).le]
  rw [h, div_eq_mul_inv, mul_comm]

/-- The gradient of the normalisation, spelled through the derivative of the reciprocal root. -/
theorem bwd_eq (g x y : Row) (d : Fin 128) (c : ℝ) (hc : c = (∑ e, x e * (y e * g e)) * (-(1 / 2) * (rr x / msq x)) / 128) :
    y d * g d * rr x + x d * c + c * x d = bwd g x y d := by
  unfold bwd
  have e : ∑ e, y e * g e * hat x e = (∑ e, x e * (y e * g e)) * rr x := by
    rw [Finset.sum_mul]
    refine Finset.sum_congr rfl fun e _ => ?_
    unfold hat
    ring
  rw [e, hc, rr_mul]
  unfold hat
  ring

end Cert.Mem

namespace Cert.ReferenceIdeal.Mem
open Cert.ReferenceIdeal Cert.ReferenceIdeal.Gen Cert.ReferenceIdeal.Read Cert.Lift Cert.Mem

variable {x0 : (⟨S4096x512, .f32⟩ : BufTy).Contents (Elt Ideal)} {x1 : (⟨S4096x13312, .bf16⟩ : BufTy).Contents (Elt Ideal)}
  {x2 : (⟨S256x1024, .f32⟩ : BufTy).Contents (Elt Ideal)} {x3 x4 : (⟨S1x128, .f32⟩ : BufTy).Contents (Elt Ideal)} {A : Reals}
  (H : Holds x0 x1 x2 x3 x4 A)
include H

theorem v79 (j : Fin 256) (h : Fin 4) (d : Fin 128) : val_main_v79 (F := Ideal) x0 x1 x2 x3 x4 (ix3 j h d) = ((A.DV h j d : ℝ) : EReal) := by
  pointwise [val_main_v79, val_main_v78, val_main_v76]
  simp only [v75 H, v68 H, ← EReal.coe_mul, sum_coe]
  refine congrArg (fun x : ℝ => (x : EReal)) ?_
  refine (sum_blocks 4 1024 fun l => A.O h l d * A.P h l j).trans ?_
  unfold Reals.DV Reals.dvT
  simp only [mul_comm (A.O _ _ _)]

theorem v95 (j : Fin 256) (h : Fin 4) (d : Fin 128) : val_main_v95 (F := Ideal) x0 x1 x2 x3 x4 (ix3 j h d) = ((A.DKN h j d : ℝ) : EReal) := by
  pointwise [val_main_v95, val_main_v94]
  simp only [v93 H, v21 H, ← EReal.coe_mul, sum_coe]
  refine congrArg (fun x : ℝ => (x : EReal)) ?_
  refine (sum_blocks 4 1024 fun l => A.S h l j * sc * nrm A.GQ (A.Q h l) d).trans ?_
  unfold Reals.DKN Reals.dknT
  simp only [Finset.sum_mul, mul_right_comm _ sc]

theorem v97 (l : Fin 4096) (h : Fin 4) (d : Fin 128) : val_main_v97 (F := Ideal) x0 x1 x2 x3 x4 (ix3 l h d) = ((A.DQN h l d : ℝ) : EReal) := by
  pointwise [val_main_v97, val_main_v96]
  simp only [v93 H, v39 H, ← EReal.coe_mul, sum_coe]
  refine congrArg (fun x : ℝ => (x : EReal)) ?_
  unfold Reals.DQN dqn
  simp only [Finset.sum_mul, mul_right_comm _ sc]
  rfl

theorem v103 (j : Fin 256) (h : Fin 4) (d : Fin 128) : val_main_v103 (F := Ideal) x0 x1 x2 x3 x4 (ix3 j h d) = ((A.DKN h j d * A.GK d : ℝ) : EReal) := by
  pointwise [val_main_v103, val_main_v102, val_main_v37]
  rw [v95 H, v23 H, ← EReal.coe_mul]

theorem v125 (l : Fin 4096) (h : Fin 4) (d : Fin 128) : val_main_v125 (F := Ideal) x0 x1 x2 x3 x4 (ix3 l h d) = ((A.DQN h l d * A.GQ d : ℝ) : EReal) := by
  pointwise [val_main_v125, val_main_v124, val_main_v19]
  rw [v97 H, v5 H, ← EReal.coe_mul]

theorem v118 (j : Fin 256) (h : Fin 4) (d : Fin 128) : val_main_v118 (F := Ideal) x0 x1 x2 x3 x4 (ix3 j h d) = ((A.DK h j d : ℝ) : EReal) := by
  pointwise [val_main_v118, val_main_v117, val_main_v116, val_main_v115, val_main_v114, val_main_v113, val_main_v112, val_main_v111, val_main_v110,
    val_main_v109, val_main_v108, val_main_v107, val_main_v106, val_main_v105, val_main_cst_23, val_main_cst_24, val_main_cst_25]
  simp only [v103 H, v22 H, v31 H, v34 H, bits_128, ← EReal.coe_mul, sum_coe, div_coe (show (128 : ℝ) ≠ 0 by norm_num), ← EReal.coe_add,
    Finset.univ_unique, Finset.sum_singleton]
  exact congrArg (fun x : ℝ => (x : EReal)) (bwd_eq _ _ _ _ _ rfl)

theorem v140 (l : Fin 4096) (h : Fin 4) (d : Fin 128) : val_main_v140 (F := Ideal) x0 x1 x2 x3 x4 (ix3 l h d) = ((A.DQ h l d : ℝ) : EReal) := by
  pointwise [val_main_v140, val_main_v139, val_main_v138, val_main_v137, val_main_v136, val_main_v135, val_main_v134, val_main_v133, val_main_v132,
    val_main_v131, val_main_v130, val_main_v129, val_main_v128, val_main_v127, val_main_cst_28, val_main_cst_29, val_main_cst_30]
  simp only [v125 H, v4 H, v13 H, v16 H, bits_128, ← EReal.coe_mul, sum_coe, div_coe (show (128 : ℝ) ≠ 0 by norm_num), ← EReal.coe_add,
    Finset.univ_unique, Finset.sum_singleton]
  exact congrArg (fun x : ℝ => (x : EReal)) (bwd_eq _ _ _ _ _ rfl)

theorem v100 (d : Fin 128) : val_main_v100 (F := Ideal) x0 x1 x2 x3 x4 (ix1 d) = ((A.DGK d : ℝ) : EReal) := by
  have e := sum_first_two reducesTo_S256x4x128_S128_d0_1 (val_main_v99 (F := Ideal) x0 x1 x2 x3 x4) (Ideal.ofBits .f32 0x00000000#32) d
  refine Eq.trans e ?_
  have e1 : ∀ (p : Fin 256) (q : Fin 4), val_main_v99 (F := Ideal) x0 x1 x2 x3 x4 (ix3 p q d) = ((A.DKN q p d * hat (A.K q p) d : ℝ) : EReal) := fun p q => by
    pointwise [val_main_v99]
    rw [v36 H, v95 H, ← EReal.coe_mul, mul_comm]
  simp only [e1, sum_coe, Ideal.ofBits_zero_f32, zero_add]
  refine congrArg (fun x : ℝ => (x : EReal)) ?_
  rw [Finset.sum_comm]
  rfl

theorem v122 (d : Fin 128) : val_main_v122 (F := Ideal) x0 x1 x2 x3 x4 (ix1 d) = ((A.DGQ d : ℝ) : EReal) := by
  have e := sum_first_two reducesTo_S4096x4x128_S128_d0_1 (val_main_v121 (F := Ideal) x0 x1 x2 x3 x4) (Ideal.ofBits .f32 0x00000000#32) d
  refine Eq.trans e ?_
  have e1 : ∀ (p : Fin 4096) (q : Fin 4), val_main_v121 (F := Ideal) x0 x1 x2 x3 x4 (ix3 p q d) = ((A.DQN q p d * hat (A.Q q p) d : ℝ) : EReal) := fun p q => by
    pointwise [val_main_v121]
    rw [v18 H, v97 H, ← EReal.coe_mul, mul_comm]
  simp only [e1, sum_coe, Ideal.ofBits_zero_f32, zero_add]
  refine congrArg (fun x : ℝ => (x : EReal)) ?_
  rw [Finset.sum_comm]
  exact Finset.sum_congr rfl fun q _ => sum_blocks 4 1024 fun l => A.DQN q l d * hat (A.Q q l) d

theorem v104 (d : Fin 128) : val_main_v104 (F := Ideal) x0 x1 x2 x3 x4 (ix1 d) = ((A.DGK d : ℝ) : EReal) := by
  have e := sum_first_two reducesTo_S1x1x128_S128_d0_1 (val_main_v101 (F := Ideal) x0 x1 x2 x3 x4) (Ideal.ofBits .f32 0x00000000#32) d
  refine Eq.trans e ?_
  have e1 : ∀ (p : Fin 1) (q : Fin 1), val_main_v101 (F := Ideal) x0 x1 x2 x3 x4 (ix3 p q d) = ((A.DGK d : ℝ) : EReal) := fun p q => by
    refine Eq.trans ?_ (v100 H d)
    unfold val_main_v101
    generalize val_main_v100 (F := Ideal) x0 x1 x2 x3 x4 = y
    pointwise []
  simp only [e1, Ideal.ofBits_zero_f32, zero_add, Finset.univ_unique, Finset.sum_singleton]

theorem v126 (d : Fin 128) : val_main_v126 (F := Ideal) x0 x1 x2 x3 x4 (ix1 d) = ((A.DGQ d : ℝ) : EReal) := by
  have e := sum_first_two reducesTo_S1x1x128_S128_d0_1 (val_main_v123 (F := Ideal) x0 x1 x2 x3 x4) (Ideal.ofBits .f32 0x00000000#32) d
  refine Eq.trans e ?_
  have e1 : ∀ (p : Fin 1) (q : Fin 1), val_main_v123 (F := Ideal) x0 x1 x2 x3 x4 (ix3 p q d) = ((A.DGQ d : ℝ) : EReal) := fun p q => by
    refine Eq.trans ?_ (v122 H d)
    unfold val_main_v123
    generalize val_main_v122 (F := Ideal) x0 x1 x2 x3 x4 = y
    pointwise []
  simp only [e1, Ideal.ofBits_zero_f32, zero_add, Finset.univ_unique, Finset.sum_singleton]

/-- The gradient of the key gain. -/
theorem out119 : val_main_v119 (F := Ideal) x0 x1 x2 x3 x4 = fun i => ((A.DGK (i 1) : ℝ) : EReal) := by
  funext i
  idx_vars i
  refine Eq.trans ?_ (v104 H _)
  unfold val_main_v119
  generalize val_main_v104 (F := Ideal) x0 x1 x2 x3 x4 = y
  pointwise []

/-- The gradient of the query gain. -/
theorem out141 : val_main_v141 (F := Ideal) x0 x1 x2 x3 x4 = fun i => ((A.DGQ (i 1) : ℝ) : EReal) := by
  funext i
  idx_vars i
  refine Eq.trans ?_ (v126 H _)
  unfold val_main_v141
  generalize val_main_v126 (F := Ideal) x0 x1 x2 x3 x4 = y
  pointwise []

/-- The gradient of the values. -/
theorem out98 : val_main_v98 (F := Ideal) x0 x1 x2 x3 x4 = fun i => ((cols A.DV (i 0).val (i 1).val : ℝ) : EReal) := by
  funext i
  obtain ⟨p, q, rfl⟩ : ∃ (p : Fin 256) (q : Fin 512), i = ix2 p q := ⟨i 0, i 1, eq_ix2 i⟩
  have e : val_main_v98 (F := Ideal) x0 x1 x2 x3 x4 (ix2 p q) = val_main_v79 (F := Ideal) x0 x1 x2 x3 x4 (ix3 p ⟨q.val / 128, by omega⟩ ⟨q.val % 128, by omega⟩) := by
    unfold val_main_v98
    generalize val_main_v79 (F := Ideal) x0 x1 x2 x3 x4 = y
    pointwise []
  rw [e, v79 H]
  exact congrArg (fun x : ℝ => (x : EReal)) (cols_mk _ p q.val _)

/-- The gradient of the keys. -/
theorem out120 : val_main_v120 (F := Ideal) x0 x1 x2 x3 x4 = fun i => ((cols A.DK (i 0).val (i 1).val : ℝ) : EReal) := by
  funext i
  obtain ⟨p, q, rfl⟩ : ∃ (p : Fin 256) (q : Fin 512), i = ix2 p q := ⟨i 0, i 1, eq_ix2 i⟩
  have e : val_main_v120 (F := Ideal) x0 x1 x2 x3 x4 (ix2 p q) = val_main_v118 (F := Ideal) x0 x1 x2 x3 x4 (ix3 p ⟨q.val / 128, by omega⟩ ⟨q.val % 128, by omega⟩) := by
    unfold val_main_v120
    generalize val_main_v118 (F := Ideal) x0 x1 x2 x3 x4 = y
    pointwise []
  rw [e, v118 H]
  exact congrArg (fun x : ℝ => (x : EReal)) (cols_mk _ p q.val _)

theorem v143 (p : Fin 4096) (q : Fin 512) : val_main_v143 (F := Ideal) x0 x1 x2 x3 x4 (ix2 p q) = ((cols A.DQ p.val q.val : ℝ) : EReal) := by
  have e : val_main_v143 (F := Ideal) x0 x1 x2 x3 x4 (ix2 p q) = val_main_v140 (F := Ideal) x0 x1 x2 x3 x4 (ix3 p ⟨q.val / 128, by omega⟩ ⟨q.val % 128, by omega⟩) := by
    unfold val_main_v143 val_main_v142
    generalize val_main_v140 (F := Ideal) x0 x1 x2 x3 x4 = y
    pointwise []
  rw [e, v140 H]
  exact congrArg (fun x : ℝ => (x : EReal)) (cols_mk _ p q.val _)

omit H in
/-- Where an update of the projection's gradient lands: its row, and its column moved to the queries' columns. -/
theorem lands (p : Fin 4096) (q : Fin 512) : scatter_S4096x13312_S1_S4096x512_01_n_1_0.resultIdx? (ix2 p q) (val_main_v144 (F := Ideal))
    = some (ix2 p ⟨9728 + q.val, by omega⟩) := by
  have h0 : scatter_S4096x13312_S1_S4096x512_01_n_1_0.start (ix2 p q) (val_main_v144 (F := Ideal)) 0 = 0 := rfl
  have h1 : scatter_S4096x13312_S1_S4096x512_01_n_1_0.start (ix2 p q) (val_main_v144 (F := Ideal)) 1 = 9728 := rfl
  have w0 : scatter_S4096x13312_S1_S4096x512_01_n_1_0.window (ix2 p q) 0 = p.val := rfl
  have w1 : scatter_S4096x13312_S1_S4096x512_01_n_1_0.window (ix2 p q) 1 = q.val := rfl
  refine (Routing.resultIdx?_eq_some _ _ _ _).2 fun a => ?_
  match a with
  | ⟨0, _⟩ =>
    refine (congrArg₂ (fun (x : Int) (y : ℕ) => x + (y : Int)) h0 w0).trans ?_
    show (0 : Int) + (p.val : Int) = (p.val : Int)
    ring
  | ⟨1, _⟩ =>
    refine (congrArg₂ (fun (x : Int) (y : ℕ) => x + (y : Int)) h1 w1).trans ?_
    show (9728 : Int) + (q.val : Int) = ((9728 + q.val : ℕ) : Int)
    push_cast
    ring

/-- The gradient of the projection: the queries' columns replaced. -/
theorem out145 (x5 : (⟨S4096x13312, .bf16⟩ : BufTy).Contents (Elt Ideal)) (i : S4096x13312.Idx) : val_main_v145 (F := Ideal) x0 x1 x2 x3 x4 x5 i
    = if 9728 ≤ (i 1).val ∧ (i 1).val < 10240 then ((cols A.DQ (i 0).val ((i 1).val - 9728) : ℝ) : EReal) else x5 i := by
  obtain ⟨p, q, rfl⟩ : ∃ (p : Fin 4096) (q : Fin 13312), i = ix2 p q := ⟨i 0, i 1, eq_ix2 i⟩
  have land : ∀ k : S4096x512.Idx, scatter_S4096x13312_S1_S4096x512_01_n_1_0.resultIdx? k (val_main_v144 (F := Ideal))
      = some (ix2 (k 0) ⟨9728 + (k 1).val, by have := (k 1).isLt; show _ < 13312; change _ < 512 at this; omega⟩) := fun k => by
    obtain ⟨a, b, rfl⟩ : ∃ (a : Fin 4096) (b : Fin 512), k = ix2 a b := ⟨k 0, k 1, eq_ix2 k⟩
    exact lands a b
  unfold val_main_v145
  by_cases h : 9728 ≤ q.val ∧ q.val < 10240
  · refine Eq.trans ?_ (if_pos h).symm
    refine Routing.scatter_set_hit _ _ _ _ _ _ (fun k hk => ?_) (ix2 p ⟨q.val - 9728, by omega⟩) ?_
    · rw [land k] at hk
      have hk := Option.some.inj hk
      have k0 : (k 0).val = p.val := congrArg Fin.val (congrFun hk 0)
      have k1 : 9728 + (k 1).val = q.val := congrArg Fin.val (congrFun hk 1)
      obtain ⟨a, b, rfl⟩ : ∃ (a : Fin 4096) (b : Fin 512), k = ix2 a b := ⟨k 0, k 1, eq_ix2 k⟩
      rw [v143 H]
      change a.val = p.val at k0
      change 9728 + b.val = q.val at k1
      show ((cols A.DQ a.val b.val : ℝ) : EReal) = ((cols A.DQ p.val (q.val - 9728) : ℝ) : EReal)
      rw [k0, ← k1, Nat.add_sub_cancel_left]
    · rw [lands]
      refine congrArg some (congrArg (ix2 p) (Fin.ext ?_))
      show 9728 + (q.val - 9728) = q.val
      omega
  · refine Eq.trans ?_ (if_neg h).symm
    refine Routing.scatter_set_miss _ _ _ _ _ fun k hk => h ?_
    rw [land k] at hk
    have k1 : 9728 + (k 1).val = q.val := congrArg Fin.val (congrFun (Option.some.inj hk) 1)
    have := (k 1).isLt
    change (k 1).val < 512 at this
    omega

end Cert.ReferenceIdeal.Mem

end
-- ==== Proof.MemClaim.lean ====
/- The kernel's five results are the reference's, at arguments that are real numbers. -/
module

public import proofs.«01_k».proof.Defs
public import proofs.«01_k».proof.Proof.Gen.KernelIdeal.Value
public import proofs.«01_k».proof.Proof.Gen.Pre_finite
public import proofs.«01_k».proof.Proof.MemOut
public import Idealize.ShloMosaic.Lib.ReduceAll

@[expose] public section

set_option maxRecDepth 16384

noncomputable section

open Idealize.ShloMosaic Idealize.ShloMosaic.TcCoe Idealize.SL.Sem

namespace Cert.Lift

/-- An extended real whose absolute value is below infinity is a real number. -/
theorem real_of_lt {x : EReal} (h : Ideal.cmp .olt (max x (-x)) (Ideal.ofBits .f32 0x7F800000#32) = 1#1) : x = ((x.toReal : ℝ) : EReal) := by
  have h' : max x (-x) < ⊤ := by
    by_contra hn
    rw [bits_top] at h
    unfold Ideal.cmp at h
    simp [hn] at h
  refine coe_of_finite (fun e => ?_) fun e => ?_
  · exact absurd (le_max_left x (-x)) (by rw [e] at h' ⊢; exact not_le.mpr h')
  · refine absurd (le_max_right x (-x)) ?_
    rw [e] at h' ⊢
    exact not_le.mpr (by simpa using h')

/-- The real at row `a`, column `b` of an array. -/
def real2 {p q : ℕ} (x : (⟨2, ![p, q]⟩ : Shape).Idx → EReal) (a b : ℕ) : ℝ :=
  if h : a < p ∧ b < q then (x (ix2 ⟨a, h.1⟩ ⟨b, h.2⟩)).toReal else 0

theorem real2_eq {p q : ℕ} (x : (⟨2, ![p, q]⟩ : Shape).Idx → EReal) (h : ∀ i, x i = (((x i).toReal : ℝ) : EReal)) (i : (⟨2, ![p, q]⟩ : Shape).Idx) :
    x i = ((real2 x (i 0).val (i 1).val : ℝ) : EReal) := by
  have e : real2 x (i 0).val (i 1).val = (x i).toReal := by
    unfold real2
    rw [dif_pos ⟨(i 0).isLt, (i 1).isLt⟩]
    exact congrArg (fun j => (x j).toReal) (eq_ix2 i).symm
  rw [e]
  exact h i

end Cert.Lift

namespace Cert.Mem
open Cert.Lift

theorem reals_of_pre (x0 : FVec Ideal Cert.Pre_finite.S4096x512 .f32) (x1 : FVec Ideal Cert.Pre_finite.S4096x13312 .bf16)
    (x2 : FVec Ideal Cert.Pre_finite.S256x1024 .f32) (x3 x4 : FVec Ideal Cert.Pre_finite.S1x128 .f32) (x5 : FVec Ideal Cert.Pre_finite.S4096x13312 .bf16)
    (h : Cert.Pre_finite.fn (F := Ideal) x0 x1 x2 x3 x4 x5 = fun _ => 1#1) :
    (∀ i, x0 i = (((x0 i).toReal : ℝ) : EReal)) ∧ (∀ i, x1 i = (((x1 i).toReal : ℝ) : EReal)) ∧ (∀ i, x2 i = (((x2 i).toReal : ℝ) : EReal))
      ∧ (∀ i, x3 i = (((x3 i).toReal : ℝ) : EReal)) ∧ (∀ i, x4 i = (((x4 i).toReal : ℝ) : EReal)) := by
  have h := congrFun h (fun a => a.elim0)
  unfold Cert.Pre_finite.fn Cert.Pre_finite.fn_part1 at h
  obtain ⟨h, h4⟩ := IntOp.andi_eq_one.mp h
  obtain ⟨h, h3⟩ := IntOp.andi_eq_one.mp h
  obtain ⟨h, h2⟩ := IntOp.andi_eq_one.mp h
  obtain ⟨h0, h1⟩ := IntOp.andi_eq_one.mp h
  haveI : Subsingleton Cert.Pre_finite.S_.Idx := ⟨fun a b => funext fun k => k.elim0⟩
  exact ⟨fun i => real_of_lt (Host.reduce_andi_all _ _ _ _ _ h0 i), fun i => real_of_lt (Host.reduce_andi_all _ _ _ _ _ h1 i),
    fun i => real_of_lt (Host.reduce_andi_all _ _ _ _ _ h2 i), fun i => real_of_lt (Host.reduce_andi_all _ _ _ _ _ h3 i),
    fun i => real_of_lt (Host.reduce_andi_all _ _ _ _ _ h4 i)⟩

end Cert.Mem

namespace Cert.Proof.Mem
open Cert.Lift Cert.Mem

/-- The reals of the five arguments. -/
def reals (x0 : FVec Ideal Cert.Pre_finite.S4096x512 .f32) (x1 : FVec Ideal Cert.Pre_finite.S4096x13312 .bf16)
    (x2 : FVec Ideal Cert.Pre_finite.S256x1024 .f32) (x3 x4 : FVec Ideal Cert.Pre_finite.S1x128 .f32) : Reals where
  DO := real2 x0
  PR := real2 x1
  KV := real2 x2
  GQ := fun d => (x3 (ix2 0 d)).toReal
  GK := fun d => (x4 (ix2 0 d)).toReal

theorem row_eq (x : FVec Ideal Cert.Pre_finite.S1x128 .f32) (h : ∀ i, x i = (((x i).toReal : ℝ) : EReal)) (i : Cert.Pre_finite.S1x128.Idx) :
    x i = (((fun d : Fin 128 => (x (ix2 0 d)).toReal) (i 1) : ℝ) : EReal) := by
  obtain ⟨a, b, rfl⟩ : ∃ (a : Fin 1) (b : Fin 128), i = ix2 a b := ⟨i 0, i 1, eq_ix2 i⟩
  obtain rfl : a = 0 := Subsingleton.elim _ _
  exact h _

theorem algebraic : Cert.algebraic_KernelIdeal_ReferenceIdeal_pre_finite := by
  intro m g m' g' hpre hag
  have R : ∀ c : Dev Cert.KernelIdeal.nD, _ := fun c => reals_of_pre _ _ _ _ _ _ (hpre c)
  let A : Dev Cert.KernelIdeal.nD → Reals := fun c => reals (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
  have HK : ∀ c, Cert.KernelIdeal.Mem.Holds m c (A c) := fun c =>
    ⟨real2_eq _ (R c).1, real2_eq _ (R c).2.1, real2_eq _ (R c).2.2.1, row_eq _ (R c).2.2.2.1, row_eq _ (R c).2.2.2.2⟩
  have HR : ∀ c : Dev Cert.ReferenceIdeal.nD, Cert.ReferenceIdeal.Mem.Holds (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) (A c) := fun c => by
    obtain ⟨h0, h1, h2, h3, h4, _⟩ := hag c
    rw [h0, h1, h2, h3, h4]
    exact ⟨(HK c).hDO, (HK c).hPR, (HK c).hKV, (HK c).hGQ, (HK c).hGK⟩
  refine ⟨_, _, _, _, _, Cert.KernelIdeal.Value.run_blocks m g, ?_⟩
  refine (θ_run _ _ _).mono (fun r h c => ?_) (Cert.ReferenceIdeal.Value.run m' g')
  obtain ⟨e0, e1, e2, e3, e4, k⟩ := h c
  refine ⟨e0.trans ?_, e1.trans ?_, e2.trans ?_, e3.trans ?_, e4.trans ?_, k⟩
  · rw [Cert.ReferenceIdeal.Read.val_main_v145_eq]
    refine Eq.trans (funext fun i => ?_) (Cert.KernelIdeal.Mem.final6 (HK c)).symm
    refine (Cert.ReferenceIdeal.Mem.out145 (HR c) _ i).trans ?_
    rw [(hag c).2.2.2.2.2]
  · rw [Cert.ReferenceIdeal.Read.val_main_v120_eq]
    exact (Cert.ReferenceIdeal.Mem.out120 (HR c)).trans (Cert.KernelIdeal.Mem.final7 (HK c)).symm
  · rw [Cert.ReferenceIdeal.Read.val_main_v98_eq]
    exact (Cert.ReferenceIdeal.Mem.out98 (HR c)).trans (Cert.KernelIdeal.Mem.final8 (HK c)).symm
  · rw [Cert.ReferenceIdeal.Read.val_main_v141_eq]
    exact (Cert.ReferenceIdeal.Mem.out141 (HR c)).trans (Cert.KernelIdeal.Mem.final9 (HK c)).symm
  · rw [Cert.ReferenceIdeal.Read.val_main_v119_eq]
    exact (Cert.ReferenceIdeal.Mem.out119 (HR c)).trans (Cert.KernelIdeal.Mem.final10 (HK c)).symm

end Cert.Proof.Mem

end
-- ==== Proof.TailRun.lean ====
/- The run of the tail of the layer, every result read at the end of the run.

   The launch follows the generated frame certificate; the conclusion adds the results to the arguments. -/
module

public import proofs.«01_k».proof.Proof.Gen.Kernel2Ideal.Frame

@[expose] public section

set_option maxRecDepth 16384

noncomputable section

namespace Cert.Kernel2Ideal.Run

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] (m : (ℓ : Loc nD τ sig) → Buf (Elt F) ℓ) (ρ : Dev nD → PrngReg)

set_option backward.isDefEq.respectTransparency.types false in
/-- Every execution ends with each result at the contents of the last boundary and each argument as launched. -/
theorem run_results : θ_run defs (onTc (τ := τ) (main (F := F))) ⟨m, fun _ => 0, ρ⟩ (fun r => ∀ c : Dev nD,
      r.2.mem ((c.tc : Thread nD τ).loc main_v4_0) = W16 m ρ c (Proc.devRef .tc main_v4_0)
      ∧ r.2.mem ((c.tc : Thread nD τ).loc main_v4_1) = W16 m ρ c (Proc.devRef .tc main_v4_1)
      ∧ r.2.mem ((c.tc : Thread nD τ).loc main_v6_0) = W16 m ρ c (Proc.devRef .tc main_v6_0)
      ∧ r.2.mem ((c.tc : Thread nD τ).loc main_v6_1) = W16 m ρ c (Proc.devRef .tc main_v6_1)
      ∧ r.2.mem ((c.tc : Thread nD τ).loc main_v7_0) = W16 m ρ c (Proc.devRef .tc main_v7_0)
      ∧ r.2.mem ((c.tc : Thread nD τ).loc main_v7_1) = W16 m ρ c (Proc.devRef .tc main_v7_1)
      ∧ r.2.mem ((c.tc : Thread nD τ).loc main_v9_2) = W16 m ρ c (Proc.devRef .tc main_v9_2)
      ∧ r.2.mem ((c.tc : Thread nD τ).loc main_v9_0) = W16 m ρ c (Proc.devRef .tc main_v9_0)
      ∧ r.2.mem ((c.tc : Thread nD τ).loc main_v10_0) = W16 m ρ c (Proc.devRef .tc main_v10_0)
      ∧ r.2.mem ((c.tc : Thread nD τ).loc main_v10_1) = W16 m ρ c (Proc.devRef .tc main_v10_1)
      ∧ r.2.mem ((c.tc : Thread nD τ).loc main_v13_0) = W16 m ρ c (Proc.devRef .tc main_v13_0)
      ∧ r.2.mem ((c.tc : Thread nD τ).loc main_v13_1) = W16 m ρ c (Proc.devRef .tc main_v13_1)
      ∧ r.2.mem ((c.tc : Thread nD τ).loc main_v14_0) = W16 m ρ c (Proc.devRef .tc main_v14_0)
      ∧ r.2.mem ((c.tc : Thread nD τ).loc main_v14_1) = W16 m ρ c (Proc.devRef .tc main_v14_1)
      ∧ r.2.mem ((c.tc : Thread nD τ).loc main_v15_0) = W16 m ρ c (Proc.devRef .tc main_v15_0)
      ∧ r.2.mem ((c.tc : Thread nD τ).loc main_v15_1) = W16 m ρ c (Proc.devRef .tc main_v15_1)
      ∧ r.2.mem ((c.tc : Thread nD τ).loc main_v12_2) = W16 m ρ c (Proc.devRef .tc main_v12_2)
      ∧ r.2.mem ((c.tc : Thread nD τ).loc main_v12_4) = W16 m ρ c (Proc.devRef .tc main_v12_4)
      ∧ r.2.mem ((c.tc : Thread nD τ).loc main_v12_6) = W16 m ρ c (Proc.devRef .tc main_v12_6)
      ∧ r.2.mem ((c.tc : Thread nD τ).loc main_v12_0) = W16 m ρ c (Proc.devRef .tc main_v12_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h hz => fun c =>
      ⟨h c _ (mem_uc main_v4_0 (by decide)),
       h c _ (mem_uc main_v4_1 (by decide)),
       h c _ (mem_uc main_v6_0 (by decide)),
       h c _ (mem_uc main_v6_1 (by decide)),
       h c _ (mem_uc main_v7_0 (by decide)),
       h c _ (mem_uc main_v7_1 (by decide)),
       h c _ (mem_uc main_v9_2 (by decide)),
       h c _ (mem_uc main_v9_0 (by decide)),
       h c _ (mem_uc main_v10_0 (by decide)),
       h c _ (mem_uc main_v10_1 (by decide)),
       h c _ (mem_uc main_v13_0 (by decide)),
       h c _ (mem_uc main_v13_1 (by decide)),
       h c _ (mem_uc main_v14_0 (by decide)),
       h c _ (mem_uc main_v14_1 (by decide)),
       h c _ (mem_uc main_v15_0 (by decide)),
       h c _ (mem_uc main_v15_1 (by decide)),
       h c _ (mem_uc main_v12_2 (by decide)),
       h c _ (mem_uc main_v12_4 (by decide)),
       h c _ (mem_uc main_v12_6 (by decide)),
       h c _ (mem_uc main_v12_0 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c)⟩)

end Cert.Kernel2Ideal.Run

end
-- ==== Proof.TailMath.lean ====
/- Matrices of real numbers, the products and row operations the layer's gradient is made of. A matrix is a function of
   two natural numbers, so a block of it is the same function with its arguments moved. -/
module

public import proofs.«01_k».proof.Proof.Lift
public import Idealize.ShloMosaic.Lib.Pointwise

@[expose] public section

noncomputable section

open Idealize.ShloMosaic

namespace Cert.Tail
open Cert.Lift

/-- A matrix of reals. -/
abbrev Mat := ℕ → ℕ → ℝ

/-- The array `x` holds the real matrix `M`. -/
def Hm {a b : ℕ} {φ : FTy} (x : FVec Ideal ⟨2, ![a, b]⟩ φ) (M : Mat) : Prop := ∀ r l, x (ix2 r l) = ((M r l : ℝ) : EReal)

/-- The logistic function. -/
def sg (x : ℝ) : ℝ := 1 / (1 + Real.exp (-x))
/-- The product of `A` and `B`, over `K` columns of `A`. -/
def nn (K : ℕ) (A B : Mat) : Mat := fun r c => ∑ k : Fin K, A r k * B k c
/-- The product of `A` and the transpose of `B`. -/
def nt (K : ℕ) (A B : Mat) : Mat := fun r c => ∑ k : Fin K, A r k * B c k
/-- The product of the transpose of `A` and `B`. -/
def tn (K : ℕ) (A B : Mat) : Mat := fun r c => ∑ k : Fin K, A k r * B k c
/-- The matrix `M` from its column `o` on. -/
def sh (o : ℕ) (M : Mat) : Mat := fun r c => M r (o + c)

/-- The gradient of a branch's product, `D` the gradient of the merged branches and `G` the branch's gate. -/
def dz (D G : Mat) : Mat := fun r c => D r c * sg (G r c)
/-- The gradient of a branch's gate, `Z` the branch's product. -/
def dgate (D Z G : Mat) : Mat := fun r c => D r c * Z r c * sg (G r c) * (1 - sg (G r c))
/-- Three matrices of 1024 columns side by side. -/
def three (A B C : Mat) : Mat := fun r c => if c < 1024 then A r c else if c < 2048 then B r (c - 1024) else C r (c - 2048)

theorem three_0 (A B C : Mat) (r q : ℕ) (h : q < 1024) : three A B C r q = A r q := by
  simp [three, h]
theorem three_1 (A B C : Mat) (r q : ℕ) (h : q < 1024) : three A B C r (1024 + q) = B r q := by
  have h1 : ¬ 1024 + q < 1024 := by omega
  have h2 : 1024 + q < 2048 := by omega
  simp [three, h2]
theorem three_2 (A B C : Mat) (r q : ℕ) (h : q < 1024) : three A B C r (2048 + q) = C r q := by
  have h1 : ¬ 2048 + q < 1024 := by omega
  simp [three, h1]

/-- The mean square of the rows of 1024 of `X`, plus `eps`. -/
def msq (X : Mat) (r : ℕ) : ℝ := (∑ k : Fin 1024, X r k * X r k) / 1024 + eps
/-- The reciprocal root of the mean square of row `r`. -/
def rr (X : Mat) (r : ℕ) : ℝ := (√(msq X r))⁻¹
/-- The normalised rows. -/
def hat (X : Mat) : Mat := fun r c => X r c * rr X r
/-- The normalised rows times the gain, row 0 of `G`. -/
def nrm (X G : Mat) : Mat := fun r c => hat X r c * G 0 c
/-- The gradient of the rows before normalisation, `D` the gradient of the normalised and scaled rows. -/
def bwd (X G D : Mat) : Mat := fun r c => rr X r * (D r c * G 0 c - hat X r c * ((∑ k : Fin 1024, D r k * G 0 k * hat X r k) / 1024))

theorem msq_pos (X : Mat) (r : ℕ) : 0 < msq X r := by
  have h : 0 ≤ ∑ k : Fin 1024, X r k * X r k := Finset.sum_nonneg fun k _ => mul_self_nonneg _
  have := eps_pos
  unfold msq
  positivity

theorem bits_1024 : Ideal.ofBits FTy.f32 1149239296#32 = ((1024 : ℝ) : EReal) := by
  simp [Ideal.ofBits, Ideal.ieee, -EReal.coe_mul]; norm_num
theorem bits_1 : Ideal.ofBits FTy.f32 1065353216#32 = ((1 : ℝ) : EReal) := by
  simp [Ideal.ofBits, Ideal.ieee, -EReal.coe_mul]; norm_num

theorem den_pos (x : ℝ) : 0 < 1 + Real.exp (-x) := by positivity

theorem logistic_coe (x : ℝ) : Ideal.logistic ((x : ℝ) : EReal) = ((sg x : ℝ) : EReal) := by
  have h := div_coe (x := 1) (den_pos x).ne'
  exact h

end Cert.Tail

end
-- ==== Proof.TailModel.lean ====
/- The layer after its three branches and its gradient, over the reals: the thirteen arguments are the matrices `A 0` to
   `A 12`, in the order the programs take them (three branches, the projected input, the three branches' weights, the
   output weights, the residual input, the gain, the two weights of the feed-forward part, the gradient of the result). -/
module

public import proofs.«01_k».proof.Proof.TailMath

@[expose] public section

noncomputable section

namespace Cert.Tail
open Cert.Lift

variable (A : ℕ → Mat)

/-- The merged branches. -/
def mg : Mat := fun r c => sg (A 3 r (10240 + c)) * nn 1024 (A 0) (A 4) r c + sg (A 3 r (11264 + c)) * nn 512 (A 1) (A 5) r c
  + sg (A 3 r (12288 + c)) * nn 512 (A 2) (A 6) r c
/-- The residual stream after the output product. -/
def xr : Mat := fun r c => A 8 r c + nn 1024 (mg A) (A 7) r c
/-- Its normalised and scaled rows. -/
def hn : Mat := nrm (xr A) (A 9)
/-- The two halves of the first product of the feed-forward part, and what enters the second product. -/
def fa : Mat := nn 1024 (hn A) (A 10)
def fb : Mat := nn 1024 (hn A) (sh 2816 (A 10))
def fu : Mat := fun r c => fa A r c * sg (fa A r c) * fb A r c
/-- The gradients of `fa` and `fb`. -/
def da : Mat := fun r c => nt 1024 (A 12) (A 11) r c * fb A r c * sg (fa A r c) * (1 + fa A r c * (1 - sg (fa A r c)))
def db : Mat := fun r c => nt 1024 (A 12) (A 11) r c * fa A r c * sg (fa A r c)
/-- The gradients of the feed-forward weights. -/
def gfo : Mat := tn 4096 (fu A) (A 12)
def gfa : Mat := tn 4096 (hn A) (da A)
def gfb : Mat := tn 4096 (hn A) (db A)
/-- The gradient of the normalised rows, of the gain and of the residual stream. -/
def dh : Mat := fun r c => nt 2816 (da A) (A 10) r c + nt 2816 (db A) (sh 2816 (A 10)) r c
def gg : Mat := fun _ c => ∑ b : Fin 8, ∑ r : Fin 512, dh A (b * 512 + r) c * hat (xr A) (b * 512 + r) c
def dx : Mat := fun r c => bwd (xr A) (A 9) (dh A) r c + A 12 r c
/-- The gradients of the output weights and of the merged branches. -/
def go : Mat := tn 4096 (mg A) (dx A)
def dm : Mat := nt 1024 (dx A) (A 7)
/-- The gradients of the branches' products, of the gates, of the branches and of their weights. -/
def zh : Mat := dz (dm A) (sh 10240 (A 3))
def zd : Mat := dz (dm A) (sh 11264 (A 3))
def zm : Mat := dz (dm A) (sh 12288 (A 3))
def dg : Mat := three (dgate (dm A) (nn 1024 (A 0) (A 4)) (sh 10240 (A 3))) (dgate (dm A) (nn 512 (A 1) (A 5)) (sh 11264 (A 3)))
  (dgate (dm A) (nn 512 (A 2) (A 6)) (sh 12288 (A 3)))
def oh : Mat := nt 1024 (zh A) (A 4)
def od : Mat := nt 1024 (zd A) (A 5)
def om : Mat := nt 1024 (zm A) (A 6)
def ph : Mat := tn 4096 (A 0) (zh A)
def pd : Mat := tn 4096 (A 1) (zd A)
def pm : Mat := tn 4096 (A 2) (zm A)

/-- Two matrices side by side, the first of `n` columns. -/
def two (n : ℕ) (P Q : Mat) : Mat := fun r c => if c < n then P r c else Q r (c - n)
theorem two_lo {n : ℕ} (P Q : Mat) (r c : ℕ) (h : c < n) : two n P Q r c = P r c := if_pos h
theorem two_hi {n : ℕ} (P Q : Mat) (r c : ℕ) : two n P Q r (n + c) = Q r c := by
  have h : ¬ n + c < n := by omega
  simp [two, h]

theorem sum_halves (f : ℕ → ℝ) : ∑ q : Fin 5632, f q = (∑ q : Fin 2816, f q) + ∑ q : Fin 2816, f (2816 + q) := by
  rw [Fin.sum_univ_eq_sum_range f, Fin.sum_univ_eq_sum_range f, Fin.sum_univ_eq_sum_range (fun q => f (2816 + q)), ← Finset.sum_range_add]

theorem nt_two (P Q W : Mat) (r c : ℕ) : nt 5632 (two 2816 P Q) W r c = nt 2816 P W r c + nt 2816 Q (sh 2816 W) r c := by
  unfold nt
  rw [sum_halves (fun q => two 2816 P Q r q * W c q)]
  refine congrArg₂ (· + ·) (Finset.sum_congr rfl fun q _ => ?_) (Finset.sum_congr rfl fun q _ => ?_)
  · rw [two_lo _ _ _ _ q.isLt]
  · rw [two_hi]; rfl

/-- The rows of the gain's gradient, gathered in eight blocks of 512. -/
theorem sum_blocks (f : ℕ → ℝ) : ∑ r : Fin 4096, f r = ∑ b : Fin 8, ∑ r : Fin 512, f (b * 512 + r) := by
  exact (Fin.sum_univ_univ_mul_add 8 512 f).symm

theorem rr_cube (X : Mat) (r : ℕ) : rr X r / msq X r = rr X r * rr X r * rr X r := by
  have h := msq_pos X r
  have e : rr X r * rr X r = (msq X r)⁻¹ := by
    unfold rr
    rw [← mul_inv, Real.mul_self_sqrt h.le]
  rw [e, div_eq_mul_inv, mul_comm]

/-- The gradient of the rows before normalisation as the derivative of the normalisation gives it. -/
theorem bwd_eq (X G D : Mat) (r c : ℕ) :
    D r c * G 0 c * rr X r + X r c * ((∑ k : Fin 1024, X r k * (D r k * G 0 k)) * (-(1 / 2) * (rr X r / msq X r)) / 1024)
      + (∑ k : Fin 1024, X r k * (D r k * G 0 k)) * (-(1 / 2) * (rr X r / msq X r)) / 1024 * X r c = bwd X G D r c := by
  have e : (∑ k : Fin 1024, D r k * G 0 k * hat X r k) = (∑ k : Fin 1024, X r k * (D r k * G 0 k)) * rr X r := by
    rw [Finset.sum_mul]
    refine Finset.sum_congr rfl fun k _ => ?_
    unfold hat
    ring
  unfold bwd
  rw [rr_cube, e]
  unfold hat
  ring

end Cert.Tail

end
-- ==== Proof.TailFwd.lean ====
/- What the forward calls leave in their result arrays, over the reals. -/
module

public import proofs.«01_k».proof.Proof.Gen.Kernel2Ideal.Frame.Region0
public import proofs.«01_k».proof.Proof.Gen.Kernel2Ideal.Frame.Region1
public import proofs.«01_k».proof.Proof.Gen.Kernel2Ideal.Frame.Region2
public import proofs.«01_k».proof.Proof.TailMath
public import Idealize.ShloMosaic.Lib.Pipeline.ReadBack

@[expose] public section

set_option maxRecDepth 16384

noncomputable section

open Idealize.ShloMosaic Idealize.ShloMosaic.TcCoe Idealize.SL.Sem

namespace Cert.Kernel2Ideal.Tail
open Cert.Kernel2Ideal Cert.Kernel2Ideal.Gen Cert.Lift Cert.Tail

/-! ## The merge of the three branches -/

theorem k0_idx : ∀ t : Fin cfg0.N, win0_0.index t = ![t.val, 0]
    ∧ win0_1.index t = ![t.val, 0]
    ∧ win0_2.index t = ![t.val, 0]
    ∧ win0_3.index t = ![t.val, 10]
    ∧ win0_4.index t = ![t.val, 11]
    ∧ win0_5.index t = ![t.val, 12]
    ∧ win0_6.index t = ![0, 0]
    ∧ win0_7.index t = ![0, 0]
    ∧ win0_8.index t = ![0, 0]
    ∧ win0_9.index t = ![t.val, 0] ∧ t.val < 8 :=
  (by decide +kernel : ∀ t : Fin grid0.N, _)
theorem k0_lt (t : Fin cfg0.N) : t.val < 8 := lt_of_lt_of_eq t.isLt N_0

theorem k0_p1 {a : FVec Ideal S512x1024 .bf16} {A : Mat} (ha : Hm a A) {b : FVec Ideal S512x512 .bf16} {B : Mat} (hb : Hm b B)
    {c : FVec Ideal S512x512 .bf16} {C : Mat} (hc : Hm c C) {ga gb gc : FVec Ideal S512x1024 .bf16} {GA GB GC : Mat} (hga : Hm ga GA) (hgb : Hm gb GB)
    (hgc : Hm gc GC) {wa : FVec Ideal S1024x1024 .bf16} {wb wc : FVec Ideal S512x1024 .bf16} {WA WB WC : Mat} (hwa : Hm wa WA) (hwb : Hm wb WB) (hwc : Hm wc WC) :
    Hm (k0_pay1 (F := Ideal) ga a wa gb b wb gc c wc) (fun r l => sg (GA r l) * nn 1024 A WA r l + sg (GB r l) * nn 512 B WB r l + sg (GC r l) * nn 512 C WC r l) := fun r l => by
  pointwise [k0_pay1]
  simp only [ha _ _, hb _ _, hc _ _, hga _ _, hgb _ _, hgc _ _, hwa _ _, hwb _ _, hwc _ _, logistic_coe, ← EReal.coe_mul, sum_coe, ← EReal.coe_add]
  rfl

section
variable {V : (c : Dev nD) → (b : Ref sig .tc) → Buf (Elt Ideal) ((c : Thread nD τ).loc b)} {c : Dev nD}
theorem k0_b0 {M : Mat} (h : Hm (a := 4096) (b := 1024) (φ := .bf16) (V c (Pipeline.arrRef spec0 0)) M) (t : Fin cfg0.N) :
    Hm (a := 512) (b := 1024) (φ := .bf16) (iblk0 V c 0 t) (fun r l => M (t.val * 512 + r) (l)) := fun r l => by
  have ht := k0_lt t
  have e : (show FVec Ideal S512x1024 .bf16 from iblk0 V c 0 t) (ix2 r l)
      = (show FVec Ideal S4096x1024 .bf16 from V c (Pipeline.arrRef spec0 0)) (ix2 ⟨t.val * 512 + r.val, by omega⟩ ⟨l.val, by omega⟩) := by
    blk_ext [iblk0, k0_idx t]
  exact e.trans (h _ _)
theorem k0_b1 {M : Mat} (h : Hm (a := 4096) (b := 512) (φ := .bf16) (V c (Pipeline.arrRef spec0 1)) M) (t : Fin cfg0.N) :
    Hm (a := 512) (b := 512) (φ := .bf16) (iblk0 V c 1 t) (fun r l => M (t.val * 512 + r) (l)) := fun r l => by
  have ht := k0_lt t
  have e : (show FVec Ideal S512x512 .bf16 from iblk0 V c 1 t) (ix2 r l)
      = (show FVec Ideal S4096x512 .bf16 from V c (Pipeline.arrRef spec0 1)) (ix2 ⟨t.val * 512 + r.val, by omega⟩ ⟨l.val, by omega⟩) := by
    blk_ext [iblk0, k0_idx t]
  exact e.trans (h _ _)
theorem k0_b2 {M : Mat} (h : Hm (a := 4096) (b := 512) (φ := .bf16) (V c (Pipeline.arrRef spec0 2)) M) (t : Fin cfg0.N) :
    Hm (a := 512) (b := 512) (φ := .bf16) (iblk0 V c 2 t) (fun r l => M (t.val * 512 + r) (l)) := fun r l => by
  have ht := k0_lt t
  have e : (show FVec Ideal S512x512 .bf16 from iblk0 V c 2 t) (ix2 r l)
      = (show FVec Ideal S4096x512 .bf16 from V c (Pipeline.arrRef spec0 2)) (ix2 ⟨t.val * 512 + r.val, by omega⟩ ⟨l.val, by omega⟩) := by
    blk_ext [iblk0, k0_idx t]
  exact e.trans (h _ _)
theorem k0_b3 {M : Mat} (h : Hm (a := 4096) (b := 13312) (φ := .bf16) (V c (Pipeline.arrRef spec0 3)) M) (t : Fin cfg0.N) :
    Hm (a := 512) (b := 1024) (φ := .bf16) (iblk0 V c 3 t) (fun r l => M (t.val * 512 + r) (10240 + l)) := fun r l => by
  have ht := k0_lt t
  have e : (show FVec Ideal S512x1024 .bf16 from iblk0 V c 3 t) (ix2 r l)
      = (show FVec Ideal S4096x13312 .bf16 from V c (Pipeline.arrRef spec0 3)) (ix2 ⟨t.val * 512 + r.val, by omega⟩ ⟨10240 + l.val, by omega⟩) := by
    blk_ext [iblk0, k0_idx t]
  exact e.trans (h _ _)
theorem k0_b4 {M : Mat} (h : Hm (a := 4096) (b := 13312) (φ := .bf16) (V c (Pipeline.arrRef spec0 4)) M) (t : Fin cfg0.N) :
    Hm (a := 512) (b := 1024) (φ := .bf16) (iblk0 V c 4 t) (fun r l => M (t.val * 512 + r) (11264 + l)) := fun r l => by
  have ht := k0_lt t
  have e : (show FVec Ideal S512x1024 .bf16 from iblk0 V c 4 t) (ix2 r l)
      = (show FVec Ideal S4096x13312 .bf16 from V c (Pipeline.arrRef spec0 4)) (ix2 ⟨t.val * 512 + r.val, by omega⟩ ⟨11264 + l.val, by omega⟩) := by
    blk_ext [iblk0, k0_idx t]
  exact e.trans (h _ _)
theorem k0_b5 {M : Mat} (h : Hm (a := 4096) (b := 13312) (φ := .bf16) (V c (Pipeline.arrRef spec0 5)) M) (t : Fin cfg0.N) :
    Hm (a := 512) (b := 1024) (φ := .bf16) (iblk0 V c 5 t) (fun r l => M (t.val * 512 + r) (12288 + l)) := fun r l => by
  have ht := k0_lt t
  have e : (show FVec Ideal S512x1024 .bf16 from iblk0 V c 5 t) (ix2 r l)
      = (show FVec Ideal S4096x13312 .bf16 from V c (Pipeline.arrRef spec0 5)) (ix2 ⟨t.val * 512 + r.val, by omega⟩ ⟨12288 + l.val, by omega⟩) := by
    blk_ext [iblk0, k0_idx t]
  exact e.trans (h _ _)
theorem k0_b6 {M : Mat} (h : Hm (a := 1024) (b := 1024) (φ := .bf16) (V c (Pipeline.arrRef spec0 6)) M) (t : Fin cfg0.N) :
    Hm (a := 1024) (b := 1024) (φ := .bf16) (iblk0 V c 6 t) (fun r l => M (r) (l)) := fun r l => by
  have ht := k0_lt t
  have e : (show FVec Ideal S1024x1024 .bf16 from iblk0 V c 6 t) (ix2 r l)
      = (show FVec Ideal S1024x1024 .bf16 from V c (Pipeline.arrRef spec0 6)) (ix2 ⟨r.val, by omega⟩ ⟨l.val, by omega⟩) := by
    blk_ext [iblk0, k0_idx t]
  exact e.trans (h _ _)
theorem k0_b7 {M : Mat} (h : Hm (a := 512) (b := 1024) (φ := .bf16) (V c (Pipeline.arrRef spec0 7)) M) (t : Fin cfg0.N) :
    Hm (a := 512) (b := 1024) (φ := .bf16) (iblk0 V c 7 t) (fun r l => M (r) (l)) := fun r l => by
  have ht := k0_lt t
  have e : (show FVec Ideal S512x1024 .bf16 from iblk0 V c 7 t) (ix2 r l)
      = (show FVec Ideal S512x1024 .bf16 from V c (Pipeline.arrRef spec0 7)) (ix2 ⟨r.val, by omega⟩ ⟨l.val, by omega⟩) := by
    blk_ext [iblk0, k0_idx t]
  exact e.trans (h _ _)
theorem k0_b8 {M : Mat} (h : Hm (a := 512) (b := 1024) (φ := .bf16) (V c (Pipeline.arrRef spec0 8)) M) (t : Fin cfg0.N) :
    Hm (a := 512) (b := 1024) (φ := .bf16) (iblk0 V c 8 t) (fun r l => M (r) (l)) := fun r l => by
  have ht := k0_lt t
  have e : (show FVec Ideal S512x1024 .bf16 from iblk0 V c 8 t) (ix2 r l)
      = (show FVec Ideal S512x1024 .bf16 from V c (Pipeline.arrRef spec0 8)) (ix2 ⟨r.val, by omega⟩ ⟨l.val, by omega⟩) := by
    blk_ext [iblk0, k0_idx t]
  exact e.trans (h _ _)

variable {M0 M1 M2 M3 M4 M5 M6 M7 M8 : Mat}
  (h0 : Hm (a := 4096) (b := 1024) (φ := .bf16) (V c (Pipeline.arrRef spec0 0)) M0)
  (h1 : Hm (a := 4096) (b := 512) (φ := .bf16) (V c (Pipeline.arrRef spec0 1)) M1)
  (h2 : Hm (a := 4096) (b := 512) (φ := .bf16) (V c (Pipeline.arrRef spec0 2)) M2)
  (h3 : Hm (a := 4096) (b := 13312) (φ := .bf16) (V c (Pipeline.arrRef spec0 3)) M3)
  (h4 : Hm (a := 4096) (b := 13312) (φ := .bf16) (V c (Pipeline.arrRef spec0 4)) M4)
  (h5 : Hm (a := 4096) (b := 13312) (φ := .bf16) (V c (Pipeline.arrRef spec0 5)) M5)
  (h6 : Hm (a := 1024) (b := 1024) (φ := .bf16) (V c (Pipeline.arrRef spec0 6)) M6)
  (h7 : Hm (a := 512) (b := 1024) (φ := .bf16) (V c (Pipeline.arrRef spec0 7)) M7)
  (h8 : Hm (a := 512) (b := 1024) (φ := .bf16) (V c (Pipeline.arrRef spec0 8)) M8)

include h0 h1 h2 h3 h4 h5 h6 h7 h8 in
theorem k0_o9 : Hm (a := 4096) (b := 1024) (φ := .bf16) ((dat0 V c).arrAt 9 cfg0.N) (fun r c => sg (M3 r (10240 + c)) * nn 1024 M0 M6 r c + sg (M4 r (11264 + c)) * nn 512 M1 M7 r c + sg (M5 r (12288 + c)) * nn 512 M2 M8 r c) := by
  have e : (dat0 V c).arrAt 9 cfg0.N = fun i => (((fun r c => sg (M3 r (10240 + c)) * nn 1024 M0 M6 r c + sg (M4 r (11264 + c)) * nn 512 M1 M7 r c + sg (M5 r (12288 + c)) * nn 512 M2 M8 r c) (i 0).val (i 1).val : ℝ) : EReal) := by
    refine (dat0 V c).arrAt_eq_of_covers 9 _ (by decide +kernel) fun t hf y => ?_
    blk_simp
    rw [after0_9]
    idx_vars y
    unfold out0_9
    frame_out
    refine (k0_p1 (k0_b0 h0 t) (k0_b1 h1 t) (k0_b2 h2 t) (k0_b3 h3 t) (k0_b4 h4 t) (k0_b5 h5 t) (k0_b6 h6 t) (k0_b7 h7 t) (k0_b8 h8 t) _ _).trans (congrArg (fun x : ℝ => (x : EReal)) ?_)
    blk_simp [k0_idx t]
    rfl
  exact fun r l => congrFun e (ix2 r l)
end

/-! ## The residual sum after the mixer and its normalisation -/

theorem k1_idx : ∀ t : Fin cfg1.N, win1_0.index t = ![t.val, 0]
    ∧ win1_1.index t = ![0, 0]
    ∧ win1_2.index t = ![t.val, 0]
    ∧ win1_3.index t = ![0, 0]
    ∧ win1_4.index t = ![t.val, 0]
    ∧ win1_5.index t = ![t.val, 0] ∧ t.val < 8 :=
  (by decide +kernel : ∀ t : Fin grid1.N, _)
theorem k1_lt (t : Fin cfg1.N) : t.val < 8 := lt_of_lt_of_eq t.isLt N_1

section
variable {x : FVec Ideal S512x1024 .f32} {X : Mat} (hx : Hm x X) {a : FVec Ideal S512x1024 .bf16} {A : Mat} (ha : Hm a A)
  {w : FVec Ideal S1024x1024 .bf16} {W : Mat} (hw : Hm w W)
include hx ha hw
theorem k1_p1 : Hm (k1_pay1 (F := Ideal) x a w) (fun r l => X r l + nn 1024 A W r l) := fun r l => by
  pointwise [k1_pay1]
  simp only [hx _ _, ha _ _, hw _ _, ← EReal.coe_mul, sum_coe, ← EReal.coe_add]
  rfl
theorem k1_p2 {g : FVec Ideal S1x1024 .f32} {G : Mat} (hg : Hm g G) :
    Hm (k1_pay2 (F := Ideal) x a w g) (nrm (fun r l => X r l + nn 1024 A W r l) G) := fun r l => by
  have h1 := k1_p1 hx ha hw
  pointwise [k1_pay2]
  simp only [h1 _ _, hg _ _, ← EReal.coe_mul, sum_coe, bits_1024, bits_eps, div_coe (show (1024 : ℝ) ≠ 0 by norm_num), ← EReal.coe_add, Finset.sum_const_zero, add_zero, zero_add]
  have h2 := rsqrt_coe (msq_pos (fun r l => X r l + nn 1024 A W r l) r.val)
  unfold msq at h2
  rw [h2, ← EReal.coe_mul, ← EReal.coe_mul]
  rfl
end

section
variable {V : (c : Dev nD) → (b : Ref sig .tc) → Buf (Elt Ideal) ((c : Thread nD τ).loc b)} {c : Dev nD}
theorem k1_b0 {M : Mat} (h : Hm (a := 4096) (b := 1024) (φ := .bf16) (V c (Pipeline.arrRef spec1 0)) M) (t : Fin cfg1.N) :
    Hm (a := 512) (b := 1024) (φ := .bf16) (iblk1 V c 0 t) (fun r l => M (t.val * 512 + r) (l)) := fun r l => by
  have ht := k1_lt t
  have e : (show FVec Ideal S512x1024 .bf16 from iblk1 V c 0 t) (ix2 r l)
      = (show FVec Ideal S4096x1024 .bf16 from V c (Pipeline.arrRef spec1 0)) (ix2 ⟨t.val * 512 + r.val, by omega⟩ ⟨l.val, by omega⟩) := by
    blk_ext [iblk1, k1_idx t]
  exact e.trans (h _ _)
theorem k1_b1 {M : Mat} (h : Hm (a := 1024) (b := 1024) (φ := .bf16) (V c (Pipeline.arrRef spec1 1)) M) (t : Fin cfg1.N) :
    Hm (a := 1024) (b := 1024) (φ := .bf16) (iblk1 V c 1 t) (fun r l => M (r) (l)) := fun r l => by
  have ht := k1_lt t
  have e : (show FVec Ideal S1024x1024 .bf16 from iblk1 V c 1 t) (ix2 r l)
      = (show FVec Ideal S1024x1024 .bf16 from V c (Pipeline.arrRef spec1 1)) (ix2 ⟨r.val, by omega⟩ ⟨l.val, by omega⟩) := by
    blk_ext [iblk1, k1_idx t]
  exact e.trans (h _ _)
theorem k1_b2 {M : Mat} (h : Hm (a := 4096) (b := 1024) (φ := .f32) (V c (Pipeline.arrRef spec1 2)) M) (t : Fin cfg1.N) :
    Hm (a := 512) (b := 1024) (φ := .f32) (iblk1 V c 2 t) (fun r l => M (t.val * 512 + r) (l)) := fun r l => by
  have ht := k1_lt t
  have e : (show FVec Ideal S512x1024 .f32 from iblk1 V c 2 t) (ix2 r l)
      = (show FVec Ideal S4096x1024 .f32 from V c (Pipeline.arrRef spec1 2)) (ix2 ⟨t.val * 512 + r.val, by omega⟩ ⟨l.val, by omega⟩) := by
    blk_ext [iblk1, k1_idx t]
  exact e.trans (h _ _)
theorem k1_b3 {M : Mat} (h : Hm (a := 1) (b := 1024) (φ := .f32) (V c (Pipeline.arrRef spec1 3)) M) (t : Fin cfg1.N) :
    Hm (a := 1) (b := 1024) (φ := .f32) (iblk1 V c 3 t) (fun r l => M (r) (l)) := fun r l => by
  have ht := k1_lt t
  have e : (show FVec Ideal S1x1024 .f32 from iblk1 V c 3 t) (ix2 r l)
      = (show FVec Ideal S1x1024 .f32 from V c (Pipeline.arrRef spec1 3)) (ix2 ⟨r.val, by omega⟩ ⟨l.val, by omega⟩) := by
    blk_ext [iblk1, k1_idx t]
  exact e.trans (h _ _)

variable {M0 M1 M2 M3 : Mat}
  (h0 : Hm (a := 4096) (b := 1024) (φ := .bf16) (V c (Pipeline.arrRef spec1 0)) M0)
  (h1 : Hm (a := 1024) (b := 1024) (φ := .bf16) (V c (Pipeline.arrRef spec1 1)) M1)
  (h2 : Hm (a := 4096) (b := 1024) (φ := .f32) (V c (Pipeline.arrRef spec1 2)) M2)
  (h3 : Hm (a := 1) (b := 1024) (φ := .f32) (V c (Pipeline.arrRef spec1 3)) M3)

include h0 h1 h2 in
theorem k1_o4 : Hm (a := 4096) (b := 1024) (φ := .f32) ((dat1 V c).arrAt 4 cfg1.N) (fun r c => M2 r c + nn 1024 M0 M1 r c) := by
  have e : (dat1 V c).arrAt 4 cfg1.N = fun i => (((fun r c => M2 r c + nn 1024 M0 M1 r c) (i 0).val (i 1).val : ℝ) : EReal) := by
    refine (dat1 V c).arrAt_eq_of_covers 4 _ (by decide +kernel) fun t hf y => ?_
    blk_simp
    rw [after1_4]
    idx_vars y
    unfold out1_4
    frame_out
    refine (k1_p1 (k1_b2 h2 t) (k1_b0 h0 t) (k1_b1 h1 t) _ _).trans (congrArg (fun x : ℝ => (x : EReal)) ?_)
    blk_simp [k1_idx t]
    rfl
  exact fun r l => congrFun e (ix2 r l)

include h0 h1 h2 h3 in
theorem k1_o5 : Hm (a := 4096) (b := 1024) (φ := .bf16) ((dat1 V c).arrAt 5 cfg1.N) (nrm (fun r c => M2 r c + nn 1024 M0 M1 r c) M3) := by
  have e : (dat1 V c).arrAt 5 cfg1.N = fun i => (((nrm (fun r c => M2 r c + nn 1024 M0 M1 r c) M3) (i 0).val (i 1).val : ℝ) : EReal) := by
    refine (dat1 V c).arrAt_eq_of_covers 5 _ (by decide +kernel) fun t hf y => ?_
    blk_simp
    rw [after1_5]
    idx_vars y
    unfold out1_5
    frame_out
    refine (k1_p2 (k1_b2 h2 t) (k1_b0 h0 t) (k1_b1 h1 t) (k1_b3 h3 t) _ _).trans (congrArg (fun x : ℝ => (x : EReal)) ?_)
    blk_simp [k1_idx t]
    rfl
  exact fun r l => congrFun e (ix2 r l)
end

/-! ## The two products into the feed-forward layer and their gated unit -/

theorem k2_idx : ∀ t : Fin cfg2.N, win2_0.index t = ![t.val / 11, 0]
    ∧ win2_1.index t = ![0, t.val % 11]
    ∧ win2_2.index t = ![0, 11 + t.val % 11]
    ∧ win2_3.index t = ![t.val / 11, t.val % 11]
    ∧ win2_4.index t = ![t.val / 11, t.val % 11]
    ∧ win2_5.index t = ![t.val / 11, t.val % 11] ∧ t.val < 22 :=
  (by decide +kernel : ∀ t : Fin grid2.N, _)
theorem k2_lt (t : Fin cfg2.N) : t.val < 22 := lt_of_lt_of_eq t.isLt N_2

section
variable {x : FVec Ideal S2048x1024 .bf16} {X : Mat} (hx : Hm x X) {wa : FVec Ideal S1024x256 .bf16} {WA : Mat} (ha : Hm wa WA)
  {wb : FVec Ideal S1024x256 .bf16} {WB : Mat} (hb : Hm wb WB)
include hx ha
theorem k2_p1 : Hm (k2_pay1 (F := Ideal) x wa) (nn 1024 X WA) := fun r l => by
  pointwise [k2_pay1]
  simp only [hx r, ha _ _, ← EReal.coe_mul, sum_coe]
  rfl
theorem k2_p3 : Hm (k2_pay3 (F := Ideal) x wa) (nn 1024 X WA) := fun r l => by
  pointwise [k2_pay3]
  exact k2_p1 hx ha r l
omit ha
include hb
theorem k2_p2 : Hm (k2_pay2 (F := Ideal) x wb) (nn 1024 X WB) := fun r l => by
  pointwise [k2_pay2]
  simp only [hx r, hb _ _, ← EReal.coe_mul, sum_coe]
  rfl
theorem k2_p4 : Hm (k2_pay4 (F := Ideal) x wb) (nn 1024 X WB) := fun r l => by
  pointwise [k2_pay4]
  exact k2_p2 hx hb r l
include ha
theorem k2_p5 : Hm (k2_pay5 (F := Ideal) x wa x wb) (fun r l => nn 1024 X WA r l * sg (nn 1024 X WA r l) * nn 1024 X WB r l) := fun r l => by
  pointwise [k2_pay5]
  rw [k2_p1 hx ha, k2_p2 hx hb, logistic_coe, ← EReal.coe_mul, ← EReal.coe_mul]
end

section
variable {V : (c : Dev nD) → (b : Ref sig .tc) → Buf (Elt Ideal) ((c : Thread nD τ).loc b)} {c : Dev nD}
theorem k2_b0 {M : Mat} (h : Hm (a := 4096) (b := 1024) (φ := .bf16) (V c (Pipeline.arrRef spec2 0)) M) (t : Fin cfg2.N) :
    Hm (a := 2048) (b := 1024) (φ := .bf16) (iblk2 V c 0 t) (fun r l => M (t.val / 11 * 2048 + r) (l)) := fun r l => by
  have ht := k2_lt t
  have e : (show FVec Ideal S2048x1024 .bf16 from iblk2 V c 0 t) (ix2 r l)
      = (show FVec Ideal S4096x1024 .bf16 from V c (Pipeline.arrRef spec2 0)) (ix2 ⟨t.val / 11 * 2048 + r.val, by omega⟩ ⟨l.val, by omega⟩) := by
    blk_ext [iblk2, k2_idx t]
  exact e.trans (h _ _)
theorem k2_b1 {M : Mat} (h : Hm (a := 1024) (b := 5632) (φ := .bf16) (V c (Pipeline.arrRef spec2 1)) M) (t : Fin cfg2.N) :
    Hm (a := 1024) (b := 256) (φ := .bf16) (iblk2 V c 1 t) (fun r l => M (r) (t.val % 11 * 256 + l)) := fun r l => by
  have ht := k2_lt t
  have e : (show FVec Ideal S1024x256 .bf16 from iblk2 V c 1 t) (ix2 r l)
      = (show FVec Ideal S1024x5632 .bf16 from V c (Pipeline.arrRef spec2 1)) (ix2 ⟨r.val, by omega⟩ ⟨t.val % 11 * 256 + l.val, by omega⟩) := by
    blk_ext [iblk2, k2_idx t]
  exact e.trans (h _ _)
theorem k2_b2 {M : Mat} (h : Hm (a := 1024) (b := 5632) (φ := .bf16) (V c (Pipeline.arrRef spec2 2)) M) (t : Fin cfg2.N) :
    Hm (a := 1024) (b := 256) (φ := .bf16) (iblk2 V c 2 t) (fun r l => M (r) ((11 + t.val % 11) * 256 + l)) := fun r l => by
  have ht := k2_lt t
  have e : (show FVec Ideal S1024x256 .bf16 from iblk2 V c 2 t) (ix2 r l)
      = (show FVec Ideal S1024x5632 .bf16 from V c (Pipeline.arrRef spec2 2)) (ix2 ⟨r.val, by omega⟩ ⟨(11 + t.val % 11) * 256 + l.val, by omega⟩) := by
    blk_ext [iblk2, k2_idx t]
  exact e.trans (h _ _)
theorem k2_b2' {M : Mat} (h : Hm (a := 1024) (b := 5632) (φ := .bf16) (V c (Pipeline.arrRef spec2 2)) M) (t : Fin cfg2.N) :
    Hm (a := 1024) (b := 256) (φ := .bf16) (iblk2 V c 2 t) (fun r l => sh 2816 M r (t.val % 11 * 256 + l)) := fun r l => by
  have e : (11 + t.val % 11) * 256 + l.val = 2816 + (t.val % 11 * 256 + l.val) := by omega
  refine (k2_b2 h t r l).trans (congrArg (fun x : ℝ => (x : EReal)) ?_)
  beta_reduce
  rw [e]
  rfl

variable {M0 M1 M2 : Mat}
  (h0 : Hm (a := 4096) (b := 1024) (φ := .bf16) (V c (Pipeline.arrRef spec2 0)) M0)
  (h1 : Hm (a := 1024) (b := 5632) (φ := .bf16) (V c (Pipeline.arrRef spec2 1)) M1)
  (h2 : Hm (a := 1024) (b := 5632) (φ := .bf16) (V c (Pipeline.arrRef spec2 2)) M2)

include h0 h1 in
theorem k2_o3 : Hm (a := 4096) (b := 2816) (φ := .bf16) ((dat2 V c).arrAt 3 cfg2.N) (nn 1024 M0 M1) := by
  have e : (dat2 V c).arrAt 3 cfg2.N = fun i => (((nn 1024 M0 M1) (i 0).val (i 1).val : ℝ) : EReal) := by
    refine (dat2 V c).arrAt_eq_of_covers 3 _ (by decide +kernel) fun t hf y => ?_
    blk_simp
    rw [after2_3]
    idx_vars y
    unfold out2_3
    frame_out
    refine (k2_p3 (k2_b0 h0 t) (k2_b1 h1 t) _ _).trans (congrArg (fun x : ℝ => (x : EReal)) ?_)
    blk_simp [k2_idx t]
    rfl
  exact fun r l => congrFun e (ix2 r l)

include h0 h2 in
theorem k2_o4 : Hm (a := 4096) (b := 2816) (φ := .bf16) ((dat2 V c).arrAt 4 cfg2.N) (nn 1024 M0 (sh 2816 M2)) := by
  have e : (dat2 V c).arrAt 4 cfg2.N = fun i => (((nn 1024 M0 (sh 2816 M2)) (i 0).val (i 1).val : ℝ) : EReal) := by
    refine (dat2 V c).arrAt_eq_of_covers 4 _ (by decide +kernel) fun t hf y => ?_
    blk_simp
    rw [after2_4]
    idx_vars y
    unfold out2_4
    frame_out
    refine (k2_p4 (k2_b0 h0 t) (k2_b2' h2 t) _ _).trans (congrArg (fun x : ℝ => (x : EReal)) ?_)
    blk_simp [k2_idx t]
    rfl
  exact fun r l => congrFun e (ix2 r l)

include h0 h1 h2 in
theorem k2_o5 : Hm (a := 4096) (b := 2816) (φ := .bf16) ((dat2 V c).arrAt 5 cfg2.N) (fun r c => nn 1024 M0 M1 r c * sg (nn 1024 M0 M1 r c) * nn 1024 M0 (sh 2816 M2) r c) := by
  have e : (dat2 V c).arrAt 5 cfg2.N = fun i => (((fun r c => nn 1024 M0 M1 r c * sg (nn 1024 M0 M1 r c) * nn 1024 M0 (sh 2816 M2) r c) (i 0).val (i 1).val : ℝ) : EReal) := by
    refine (dat2 V c).arrAt_eq_of_covers 5 _ (by decide +kernel) fun t hf y => ?_
    blk_simp
    rw [after2_5]
    idx_vars y
    unfold out2_5
    frame_out
    refine (k2_p5 (k2_b0 h0 t) (k2_b1 h1 t) (k2_b2' h2 t) _ _).trans (congrArg (fun x : ℝ => (x : EReal)) ?_)
    blk_simp [k2_idx t]
    rfl
  exact fun r l => congrFun e (ix2 r l)
end

end Cert.Kernel2Ideal.Tail

end
-- ==== Proof.TailFfn.lean ====
/- What the feed-forward layer's backward calls leave in their result arrays, over the reals. -/
module

public import proofs.«01_k».proof.Proof.Gen.Kernel2Ideal.Frame.Region3
public import proofs.«01_k».proof.Proof.Gen.Kernel2Ideal.Frame.Region4
public import proofs.«01_k».proof.Proof.Gen.Kernel2Ideal.Frame.Region5
public import proofs.«01_k».proof.Proof.Gen.Kernel2Ideal.Frame.Region6
public import proofs.«01_k».proof.Proof.Gen.Kernel2Ideal.Frame.Region7
public import proofs.«01_k».proof.Proof.TailMath
public import Idealize.ShloMosaic.Lib.Pipeline.ReadBack

@[expose] public section

set_option maxRecDepth 16384

noncomputable section

open Idealize.ShloMosaic Idealize.ShloMosaic.TcCoe Idealize.SL.Sem

namespace Cert.Kernel2Ideal.Tail
open Cert.Kernel2Ideal Cert.Kernel2Ideal.Gen Cert.Lift Cert.Tail

/-! ## The gradient of the weights out of the feed-forward layer -/

theorem k3_idx : ∀ t : Fin cfg3.N, win3_0.index t = ![0, t.val]
    ∧ win3_1.index t = ![0, 0]
    ∧ win3_2.index t = ![t.val, 0]
    ∧ win3_3.index t = ![t.val, 0] ∧ t.val < 11 :=
  (by decide +kernel : ∀ t : Fin grid3.N, _)
theorem k3_lt (t : Fin cfg3.N) : t.val < 11 := lt_of_lt_of_eq t.isLt N_3

section
variable {x : FVec Ideal S4096x256 .bf16} {X : Mat} (hx : Hm x X) {w : FVec Ideal S4096x1024 .bf16} {W : Mat} (hw : Hm w W)
include hx hw
theorem k3_p1 : Hm (k3_pay1 (F := Ideal) x w) (tn 4096 X W) := fun r l => by
  pointwise [k3_pay1]
  simp only [hx _ _, hw _ _, ← EReal.coe_mul, sum_coe]
  rfl
theorem k3_p2 : Hm (k3_pay2 (F := Ideal) x w) (tn 4096 X W) := fun r l => by
  pointwise [k3_pay2]
  exact k3_p1 hx hw r l
end

section
variable {V : (c : Dev nD) → (b : Ref sig .tc) → Buf (Elt Ideal) ((c : Thread nD τ).loc b)} {c : Dev nD}
theorem k3_b0 {M : Mat} (h : Hm (a := 4096) (b := 2816) (φ := .bf16) (V c (Pipeline.arrRef spec3 0)) M) (t : Fin cfg3.N) :
    Hm (a := 4096) (b := 256) (φ := .bf16) (iblk3 V c 0 t) (fun r l => M (r) (t.val * 256 + l)) := fun r l => by
  have ht := k3_lt t
  have e : (show FVec Ideal S4096x256 .bf16 from iblk3 V c 0 t) (ix2 r l)
      = (show FVec Ideal S4096x2816 .bf16 from V c (Pipeline.arrRef spec3 0)) (ix2 ⟨r.val, by omega⟩ ⟨t.val * 256 + l.val, by omega⟩) := by
    blk_ext [iblk3, k3_idx t]
  exact e.trans (h _ _)
theorem k3_b1 {M : Mat} (h : Hm (a := 4096) (b := 1024) (φ := .bf16) (V c (Pipeline.arrRef spec3 1)) M) (t : Fin cfg3.N) :
    Hm (a := 4096) (b := 1024) (φ := .bf16) (iblk3 V c 1 t) (fun r l => M (r) (l)) := fun r l => by
  have ht := k3_lt t
  have e : (show FVec Ideal S4096x1024 .bf16 from iblk3 V c 1 t) (ix2 r l)
      = (show FVec Ideal S4096x1024 .bf16 from V c (Pipeline.arrRef spec3 1)) (ix2 ⟨r.val, by omega⟩ ⟨l.val, by omega⟩) := by
    blk_ext [iblk3, k3_idx t]
  exact e.trans (h _ _)

variable {M0 M1 : Mat}
  (h0 : Hm (a := 4096) (b := 2816) (φ := .bf16) (V c (Pipeline.arrRef spec3 0)) M0)
  (h1 : Hm (a := 4096) (b := 1024) (φ := .bf16) (V c (Pipeline.arrRef spec3 1)) M1)

include h0 h1 in
theorem k3_o2 : Hm (a := 2816) (b := 1024) (φ := .f32) ((dat3 V c).arrAt 2 cfg3.N) (tn 4096 M0 M1) := by
  have e : (dat3 V c).arrAt 2 cfg3.N = fun i => (((tn 4096 M0 M1) (i 0).val (i 1).val : ℝ) : EReal) := by
    refine (dat3 V c).arrAt_eq_of_covers 2 _ (by decide +kernel) fun t hf y => ?_
    blk_simp
    rw [after3_2]
    idx_vars y
    unfold out3_2
    frame_out
    refine (k3_p1 (k3_b0 h0 t) (k3_b1 h1 t) _ _).trans (congrArg (fun x : ℝ => (x : EReal)) ?_)
    blk_simp [k3_idx t]
    rfl
  exact fun r l => congrFun e (ix2 r l)

include h0 h1 in
theorem k3_o3 : Hm (a := 2816) (b := 1024) (φ := .bf16) ((dat3 V c).arrAt 3 cfg3.N) (tn 4096 M0 M1) := by
  have e : (dat3 V c).arrAt 3 cfg3.N = fun i => (((tn 4096 M0 M1) (i 0).val (i 1).val : ℝ) : EReal) := by
    refine (dat3 V c).arrAt_eq_of_covers 3 _ (by decide +kernel) fun t hf y => ?_
    blk_simp
    rw [after3_3]
    idx_vars y
    unfold out3_3
    frame_out
    refine (k3_p2 (k3_b0 h0 t) (k3_b1 h1 t) _ _).trans (congrArg (fun x : ℝ => (x : EReal)) ?_)
    blk_simp [k3_idx t]
    rfl
  exact fun r l => congrFun e (ix2 r l)
end

/-! ## The gradients of the two products into the feed-forward layer -/

theorem k4_idx : ∀ t : Fin cfg4.N, win4_0.index t = ![t.val / 11, 0]
    ∧ win4_1.index t = ![t.val % 11, 0]
    ∧ win4_2.index t = ![t.val / 11, t.val % 11]
    ∧ win4_3.index t = ![t.val / 11, t.val % 11]
    ∧ win4_4.index t = ![t.val / 11, t.val % 11]
    ∧ win4_5.index t = ![t.val / 11, t.val % 11] ∧ t.val < 22 :=
  (by decide +kernel : ∀ t : Fin grid4.N, _)
theorem k4_lt (t : Fin cfg4.N) : t.val < 22 := lt_of_lt_of_eq t.isLt N_4

section
variable {x : FVec Ideal S2048x1024 .bf16} {X : Mat} (hx : Hm x X) {w : FVec Ideal S256x1024 .bf16} {W : Mat} (hw : Hm w W)
  {a : FVec Ideal S2048x256 .bf16} {A : Mat} (ha : Hm a A)
include hx hw
theorem k4_p1 : Hm (k4_pay1 (F := Ideal) x w) (nt 1024 X W) := fun r l => by
  pointwise [k4_pay1]
  simp only [hx _ _, hw _ _, ← EReal.coe_mul, sum_coe]
  rfl
omit hx hw
include ha
theorem k4_p2 : Hm (k4_pay2 (F := Ideal) a) A := fun r l => by
  pointwise [k4_pay2]
  exact ha r l
theorem k4_p3 : Hm (k4_pay3 (F := Ideal) a) (fun r l => sg (A r l)) := fun r l => by
  have h := k4_p2 ha r l
  pointwise [k4_pay3]
  rw [h, logistic_coe]
include hx hw
theorem k4_p4 {b : FVec Ideal S2048x256 .bf16} {B : Mat} (hb : Hm b B) : Hm (k4_pay4 (F := Ideal) x w a b)
    (fun r l => nt 1024 X W r l * B r l * sg (A r l) * (1 + A r l * (1 - sg (A r l)))) := fun r l => by
  have h1 := k4_p1 hx hw
  have h2 := k4_p2 ha
  have h3 := k4_p3 ha
  pointwise [k4_pay4]
  simp only [h1 _ _, h2 _ _, h3 _ _, hb _ _, ← EReal.coe_one, ← EReal.coe_mul, ← EReal.coe_sub, ← EReal.coe_add]
theorem k4_p5 : Hm (k4_pay5 (F := Ideal) x w a) (fun r l => nt 1024 X W r l * A r l * sg (A r l)) := fun r l => by
  have h1 := k4_p1 hx hw
  have h2 := k4_p2 ha
  have h3 := k4_p3 ha
  pointwise [k4_pay5]
  simp only [h1 _ _, h2 _ _, h3 _ _, ← EReal.coe_mul]
end

section
variable {V : (c : Dev nD) → (b : Ref sig .tc) → Buf (Elt Ideal) ((c : Thread nD τ).loc b)} {c : Dev nD}
theorem k4_b0 {M : Mat} (h : Hm (a := 4096) (b := 1024) (φ := .bf16) (V c (Pipeline.arrRef spec4 0)) M) (t : Fin cfg4.N) :
    Hm (a := 2048) (b := 1024) (φ := .bf16) (iblk4 V c 0 t) (fun r l => M (t.val / 11 * 2048 + r) (l)) := fun r l => by
  have ht := k4_lt t
  have e : (show FVec Ideal S2048x1024 .bf16 from iblk4 V c 0 t) (ix2 r l)
      = (show FVec Ideal S4096x1024 .bf16 from V c (Pipeline.arrRef spec4 0)) (ix2 ⟨t.val / 11 * 2048 + r.val, by omega⟩ ⟨l.val, by omega⟩) := by
    blk_ext [iblk4, k4_idx t]
  exact e.trans (h _ _)
theorem k4_b1 {M : Mat} (h : Hm (a := 2816) (b := 1024) (φ := .bf16) (V c (Pipeline.arrRef spec4 1)) M) (t : Fin cfg4.N) :
    Hm (a := 256) (b := 1024) (φ := .bf16) (iblk4 V c 1 t) (fun r l => M (t.val % 11 * 256 + r) (l)) := fun r l => by
  have ht := k4_lt t
  have e : (show FVec Ideal S256x1024 .bf16 from iblk4 V c 1 t) (ix2 r l)
      = (show FVec Ideal S2816x1024 .bf16 from V c (Pipeline.arrRef spec4 1)) (ix2 ⟨t.val % 11 * 256 + r.val, by omega⟩ ⟨l.val, by omega⟩) := by
    blk_ext [iblk4, k4_idx t]
  exact e.trans (h _ _)
theorem k4_b2 {M : Mat} (h : Hm (a := 4096) (b := 2816) (φ := .bf16) (V c (Pipeline.arrRef spec4 2)) M) (t : Fin cfg4.N) :
    Hm (a := 2048) (b := 256) (φ := .bf16) (iblk4 V c 2 t) (fun r l => M (t.val / 11 * 2048 + r) (t.val % 11 * 256 + l)) := fun r l => by
  have ht := k4_lt t
  have e : (show FVec Ideal S2048x256 .bf16 from iblk4 V c 2 t) (ix2 r l)
      = (show FVec Ideal S4096x2816 .bf16 from V c (Pipeline.arrRef spec4 2)) (ix2 ⟨t.val / 11 * 2048 + r.val, by omega⟩ ⟨t.val % 11 * 256 + l.val, by omega⟩) := by
    blk_ext [iblk4, k4_idx t]
  exact e.trans (h _ _)
theorem k4_b3 {M : Mat} (h : Hm (a := 4096) (b := 2816) (φ := .bf16) (V c (Pipeline.arrRef spec4 3)) M) (t : Fin cfg4.N) :
    Hm (a := 2048) (b := 256) (φ := .bf16) (iblk4 V c 3 t) (fun r l => M (t.val / 11 * 2048 + r) (t.val % 11 * 256 + l)) := fun r l => by
  have ht := k4_lt t
  have e : (show FVec Ideal S2048x256 .bf16 from iblk4 V c 3 t) (ix2 r l)
      = (show FVec Ideal S4096x2816 .bf16 from V c (Pipeline.arrRef spec4 3)) (ix2 ⟨t.val / 11 * 2048 + r.val, by omega⟩ ⟨t.val % 11 * 256 + l.val, by omega⟩) := by
    blk_ext [iblk4, k4_idx t]
  exact e.trans (h _ _)

variable {M0 M1 M2 M3 : Mat}
  (h0 : Hm (a := 4096) (b := 1024) (φ := .bf16) (V c (Pipeline.arrRef spec4 0)) M0)
  (h1 : Hm (a := 2816) (b := 1024) (φ := .bf16) (V c (Pipeline.arrRef spec4 1)) M1)
  (h2 : Hm (a := 4096) (b := 2816) (φ := .bf16) (V c (Pipeline.arrRef spec4 2)) M2)
  (h3 : Hm (a := 4096) (b := 2816) (φ := .bf16) (V c (Pipeline.arrRef spec4 3)) M3)

include h0 h1 h2 h3 in
theorem k4_o4 : Hm (a := 4096) (b := 2816) (φ := .bf16) ((dat4 V c).arrAt 4 cfg4.N) (fun r c => nt 1024 M0 M1 r c * M3 r c * sg (M2 r c) * (1 + M2 r c * (1 - sg (M2 r c)))) := by
  have e : (dat4 V c).arrAt 4 cfg4.N = fun i => (((fun r c => nt 1024 M0 M1 r c * M3 r c * sg (M2 r c) * (1 + M2 r c * (1 - sg (M2 r c)))) (i 0).val (i 1).val : ℝ) : EReal) := by
    refine (dat4 V c).arrAt_eq_of_covers 4 _ (by decide +kernel) fun t hf y => ?_
    blk_simp
    rw [after4_4]
    idx_vars y
    unfold out4_4
    frame_out
    refine (k4_p4 (k4_b0 h0 t) (k4_b1 h1 t) (k4_b2 h2 t) (k4_b3 h3 t) _ _).trans (congrArg (fun x : ℝ => (x : EReal)) ?_)
    blk_simp [k4_idx t]
    rfl
  exact fun r l => congrFun e (ix2 r l)

include h0 h1 h2 in
theorem k4_o5 : Hm (a := 4096) (b := 2816) (φ := .bf16) ((dat4 V c).arrAt 5 cfg4.N) (fun r c => nt 1024 M0 M1 r c * M2 r c * sg (M2 r c)) := by
  have e : (dat4 V c).arrAt 5 cfg4.N = fun i => (((fun r c => nt 1024 M0 M1 r c * M2 r c * sg (M2 r c)) (i 0).val (i 1).val : ℝ) : EReal) := by
    refine (dat4 V c).arrAt_eq_of_covers 5 _ (by decide +kernel) fun t hf y => ?_
    blk_simp
    rw [after4_5]
    idx_vars y
    unfold out4_5
    frame_out
    refine (k4_p5 (k4_b0 h0 t) (k4_b1 h1 t) (k4_b2 h2 t) _ _).trans (congrArg (fun x : ℝ => (x : EReal)) ?_)
    blk_simp [k4_idx t]
    rfl
  exact fun r l => congrFun e (ix2 r l)
end

/-! ## The gradient of the first weights into the feed-forward layer -/

theorem k5_idx : ∀ t : Fin cfg5.N, win5_0.index t = ![0, 0]
    ∧ win5_1.index t = ![0, t.val]
    ∧ win5_2.index t = ![0, t.val]
    ∧ win5_3.index t = ![0, t.val] ∧ t.val < 11 :=
  (by decide +kernel : ∀ t : Fin grid5.N, _)
theorem k5_lt (t : Fin cfg5.N) : t.val < 11 := lt_of_lt_of_eq t.isLt N_5

section
variable {x : FVec Ideal S4096x1024 .bf16} {X : Mat} (hx : Hm x X) {w : FVec Ideal S4096x256 .bf16} {W : Mat} (hw : Hm w W)
include hx hw
theorem k5_p1 : Hm (k5_pay1 (F := Ideal) x w) (tn 4096 X W) := fun r l => by
  pointwise [k5_pay1]
  simp only [hx _ _, hw _ _, ← EReal.coe_mul, sum_coe]
  rfl
theorem k5_p2 : Hm (k5_pay2 (F := Ideal) x w) (tn 4096 X W) := fun r l => by
  pointwise [k5_pay2]
  exact k5_p1 hx hw r l
end

section
variable {V : (c : Dev nD) → (b : Ref sig .tc) → Buf (Elt Ideal) ((c : Thread nD τ).loc b)} {c : Dev nD}
theorem k5_b0 {M : Mat} (h : Hm (a := 4096) (b := 1024) (φ := .bf16) (V c (Pipeline.arrRef spec5 0)) M) (t : Fin cfg5.N) :
    Hm (a := 4096) (b := 1024) (φ := .bf16) (iblk5 V c 0 t) (fun r l => M (r) (l)) := fun r l => by
  have ht := k5_lt t
  have e : (show FVec Ideal S4096x1024 .bf16 from iblk5 V c 0 t) (ix2 r l)
      = (show FVec Ideal S4096x1024 .bf16 from V c (Pipeline.arrRef spec5 0)) (ix2 ⟨r.val, by omega⟩ ⟨l.val, by omega⟩) := by
    blk_ext [iblk5, k5_idx t]
  exact e.trans (h _ _)
theorem k5_b1 {M : Mat} (h : Hm (a := 4096) (b := 2816) (φ := .bf16) (V c (Pipeline.arrRef spec5 1)) M) (t : Fin cfg5.N) :
    Hm (a := 4096) (b := 256) (φ := .bf16) (iblk5 V c 1 t) (fun r l => M (r) (t.val * 256 + l)) := fun r l => by
  have ht := k5_lt t
  have e : (show FVec Ideal S4096x256 .bf16 from iblk5 V c 1 t) (ix2 r l)
      = (show FVec Ideal S4096x2816 .bf16 from V c (Pipeline.arrRef spec5 1)) (ix2 ⟨r.val, by omega⟩ ⟨t.val * 256 + l.val, by omega⟩) := by
    blk_ext [iblk5, k5_idx t]
  exact e.trans (h _ _)

variable {M0 M1 : Mat}
  (h0 : Hm (a := 4096) (b := 1024) (φ := .bf16) (V c (Pipeline.arrRef spec5 0)) M0)
  (h1 : Hm (a := 4096) (b := 2816) (φ := .bf16) (V c (Pipeline.arrRef spec5 1)) M1)

include h0 h1 in
theorem k5_o2 : Hm (a := 1024) (b := 2816) (φ := .f32) ((dat5 V c).arrAt 2 cfg5.N) (tn 4096 M0 M1) := by
  have e : (dat5 V c).arrAt 2 cfg5.N = fun i => (((tn 4096 M0 M1) (i 0).val (i 1).val : ℝ) : EReal) := by
    refine (dat5 V c).arrAt_eq_of_covers 2 _ (by decide +kernel) fun t hf y => ?_
    blk_simp
    rw [after5_2]
    idx_vars y
    unfold out5_2
    frame_out
    refine (k5_p1 (k5_b0 h0 t) (k5_b1 h1 t) _ _).trans (congrArg (fun x : ℝ => (x : EReal)) ?_)
    blk_simp [k5_idx t]
    rfl
  exact fun r l => congrFun e (ix2 r l)

include h0 h1 in
theorem k5_o3 : Hm (a := 1024) (b := 2816) (φ := .bf16) ((dat5 V c).arrAt 3 cfg5.N) (tn 4096 M0 M1) := by
  have e : (dat5 V c).arrAt 3 cfg5.N = fun i => (((tn 4096 M0 M1) (i 0).val (i 1).val : ℝ) : EReal) := by
    refine (dat5 V c).arrAt_eq_of_covers 3 _ (by decide +kernel) fun t hf y => ?_
    blk_simp
    rw [after5_3]
    idx_vars y
    unfold out5_3
    frame_out
    refine (k5_p2 (k5_b0 h0 t) (k5_b1 h1 t) _ _).trans (congrArg (fun x : ℝ => (x : EReal)) ?_)
    blk_simp [k5_idx t]
    rfl
  exact fun r l => congrFun e (ix2 r l)
end

/-! ## The gradient of the second weights into the feed-forward layer -/

theorem k6_idx : ∀ t : Fin cfg6.N, win6_0.index t = ![0, 0]
    ∧ win6_1.index t = ![0, t.val]
    ∧ win6_2.index t = ![0, t.val]
    ∧ win6_3.index t = ![0, t.val] ∧ t.val < 11 :=
  (by decide +kernel : ∀ t : Fin grid6.N, _)
theorem k6_lt (t : Fin cfg6.N) : t.val < 11 := lt_of_lt_of_eq t.isLt N_6

section
variable {x : FVec Ideal S4096x1024 .bf16} {X : Mat} (hx : Hm x X) {w : FVec Ideal S4096x256 .bf16} {W : Mat} (hw : Hm w W)
include hx hw
theorem k6_p1 : Hm (k6_pay1 (F := Ideal) x w) (tn 4096 X W) := fun r l => by
  pointwise [k6_pay1]
  simp only [hx _ _, hw _ _, ← EReal.coe_mul, sum_coe]
  rfl
theorem k6_p2 : Hm (k6_pay2 (F := Ideal) x w) (tn 4096 X W) := fun r l => by
  pointwise [k6_pay2]
  exact k6_p1 hx hw r l
end

section
variable {V : (c : Dev nD) → (b : Ref sig .tc) → Buf (Elt Ideal) ((c : Thread nD τ).loc b)} {c : Dev nD}
theorem k6_b0 {M : Mat} (h : Hm (a := 4096) (b := 1024) (φ := .bf16) (V c (Pipeline.arrRef spec6 0)) M) (t : Fin cfg6.N) :
    Hm (a := 4096) (b := 1024) (φ := .bf16) (iblk6 V c 0 t) (fun r l => M (r) (l)) := fun r l => by
  have ht := k6_lt t
  have e : (show FVec Ideal S4096x1024 .bf16 from iblk6 V c 0 t) (ix2 r l)
      = (show FVec Ideal S4096x1024 .bf16 from V c (Pipeline.arrRef spec6 0)) (ix2 ⟨r.val, by omega⟩ ⟨l.val, by omega⟩) := by
    blk_ext [iblk6, k6_idx t]
  exact e.trans (h _ _)
theorem k6_b1 {M : Mat} (h : Hm (a := 4096) (b := 2816) (φ := .bf16) (V c (Pipeline.arrRef spec6 1)) M) (t : Fin cfg6.N) :
    Hm (a := 4096) (b := 256) (φ := .bf16) (iblk6 V c 1 t) (fun r l => M (r) (t.val * 256 + l)) := fun r l => by
  have ht := k6_lt t
  have e : (show FVec Ideal S4096x256 .bf16 from iblk6 V c 1 t) (ix2 r l)
      = (show FVec Ideal S4096x2816 .bf16 from V c (Pipeline.arrRef spec6 1)) (ix2 ⟨r.val, by omega⟩ ⟨t.val * 256 + l.val, by omega⟩) := by
    blk_ext [iblk6, k6_idx t]
  exact e.trans (h _ _)

variable {M0 M1 : Mat}
  (h0 : Hm (a := 4096) (b := 1024) (φ := .bf16) (V c (Pipeline.arrRef spec6 0)) M0)
  (h1 : Hm (a := 4096) (b := 2816) (φ := .bf16) (V c (Pipeline.arrRef spec6 1)) M1)

include h0 h1 in
theorem k6_o2 : Hm (a := 1024) (b := 2816) (φ := .f32) ((dat6 V c).arrAt 2 cfg6.N) (tn 4096 M0 M1) := by
  have e : (dat6 V c).arrAt 2 cfg6.N = fun i => (((tn 4096 M0 M1) (i 0).val (i 1).val : ℝ) : EReal) := by
    refine (dat6 V c).arrAt_eq_of_covers 2 _ (by decide +kernel) fun t hf y => ?_
    blk_simp
    rw [after6_2]
    idx_vars y
    unfold out6_2
    frame_out
    refine (k6_p1 (k6_b0 h0 t) (k6_b1 h1 t) _ _).trans (congrArg (fun x : ℝ => (x : EReal)) ?_)
    blk_simp [k6_idx t]
    rfl
  exact fun r l => congrFun e (ix2 r l)

include h0 h1 in
theorem k6_o3 : Hm (a := 1024) (b := 2816) (φ := .bf16) ((dat6 V c).arrAt 3 cfg6.N) (tn 4096 M0 M1) := by
  have e : (dat6 V c).arrAt 3 cfg6.N = fun i => (((tn 4096 M0 M1) (i 0).val (i 1).val : ℝ) : EReal) := by
    refine (dat6 V c).arrAt_eq_of_covers 3 _ (by decide +kernel) fun t hf y => ?_
    blk_simp
    rw [after6_3]
    idx_vars y
    unfold out6_3
    frame_out
    refine (k6_p2 (k6_b0 h0 t) (k6_b1 h1 t) _ _).trans (congrArg (fun x : ℝ => (x : EReal)) ?_)
    blk_simp [k6_idx t]
    rfl
  exact fun r l => congrFun e (ix2 r l)
end

/-! ## The gradient of the normalised rows -/

theorem k7_idx : ∀ t : Fin cfg7.N, win7_0.index t = ![t.val, 0]
    ∧ win7_1.index t = ![t.val, 0]
    ∧ win7_2.index t = ![0, 0]
    ∧ win7_3.index t = ![0, 1]
    ∧ win7_4.index t = ![t.val, 0] ∧ t.val < 16 :=
  (by decide +kernel : ∀ t : Fin grid7.N, _)
theorem k7_lt (t : Fin cfg7.N) : t.val < 16 := lt_of_lt_of_eq t.isLt N_7

theorem k7_p1 {x y : FVec Ideal S256x2816 .bf16} {X Y : Mat} (hx : Hm x X) (hy : Hm y Y) {w z : FVec Ideal S1024x2816 .bf16} {W Z : Mat} (hw : Hm w W) (hz : Hm z Z) :
    Hm (k7_pay1 (F := Ideal) x w y z) (fun r l => nt 2816 X W r l + nt 2816 Y Z r l) := fun r l => by
  pointwise [k7_pay1]
  simp only [hx _ _, hy _ _, hw _ _, hz _ _, ← EReal.coe_mul, sum_coe, ← EReal.coe_add]
  rfl

section
variable {V : (c : Dev nD) → (b : Ref sig .tc) → Buf (Elt Ideal) ((c : Thread nD τ).loc b)} {c : Dev nD}
theorem k7_b0 {M : Mat} (h : Hm (a := 4096) (b := 2816) (φ := .bf16) (V c (Pipeline.arrRef spec7 0)) M) (t : Fin cfg7.N) :
    Hm (a := 256) (b := 2816) (φ := .bf16) (iblk7 V c 0 t) (fun r l => M (t.val * 256 + r) (l)) := fun r l => by
  have ht := k7_lt t
  have e : (show FVec Ideal S256x2816 .bf16 from iblk7 V c 0 t) (ix2 r l)
      = (show FVec Ideal S4096x2816 .bf16 from V c (Pipeline.arrRef spec7 0)) (ix2 ⟨t.val * 256 + r.val, by omega⟩ ⟨l.val, by omega⟩) := by
    blk_ext [iblk7, k7_idx t]
  exact e.trans (h _ _)
theorem k7_b1 {M : Mat} (h : Hm (a := 4096) (b := 2816) (φ := .bf16) (V c (Pipeline.arrRef spec7 1)) M) (t : Fin cfg7.N) :
    Hm (a := 256) (b := 2816) (φ := .bf16) (iblk7 V c 1 t) (fun r l => M (t.val * 256 + r) (l)) := fun r l => by
  have ht := k7_lt t
  have e : (show FVec Ideal S256x2816 .bf16 from iblk7 V c 1 t) (ix2 r l)
      = (show FVec Ideal S4096x2816 .bf16 from V c (Pipeline.arrRef spec7 1)) (ix2 ⟨t.val * 256 + r.val, by omega⟩ ⟨l.val, by omega⟩) := by
    blk_ext [iblk7, k7_idx t]
  exact e.trans (h _ _)
theorem k7_b2 {M : Mat} (h : Hm (a := 1024) (b := 5632) (φ := .bf16) (V c (Pipeline.arrRef spec7 2)) M) (t : Fin cfg7.N) :
    Hm (a := 1024) (b := 2816) (φ := .bf16) (iblk7 V c 2 t) (fun r l => M (r) (l)) := fun r l => by
  have ht := k7_lt t
  have e : (show FVec Ideal S1024x2816 .bf16 from iblk7 V c 2 t) (ix2 r l)
      = (show FVec Ideal S1024x5632 .bf16 from V c (Pipeline.arrRef spec7 2)) (ix2 ⟨r.val, by omega⟩ ⟨l.val, by omega⟩) := by
    blk_ext [iblk7, k7_idx t]
  exact e.trans (h _ _)
theorem k7_b3 {M : Mat} (h : Hm (a := 1024) (b := 5632) (φ := .bf16) (V c (Pipeline.arrRef spec7 3)) M) (t : Fin cfg7.N) :
    Hm (a := 1024) (b := 2816) (φ := .bf16) (iblk7 V c 3 t) (fun r l => M (r) (2816 + l)) := fun r l => by
  have ht := k7_lt t
  have e : (show FVec Ideal S1024x2816 .bf16 from iblk7 V c 3 t) (ix2 r l)
      = (show FVec Ideal S1024x5632 .bf16 from V c (Pipeline.arrRef spec7 3)) (ix2 ⟨r.val, by omega⟩ ⟨2816 + l.val, by omega⟩) := by
    blk_ext [iblk7, k7_idx t]
  exact e.trans (h _ _)

variable {M0 M1 M2 M3 : Mat}
  (h0 : Hm (a := 4096) (b := 2816) (φ := .bf16) (V c (Pipeline.arrRef spec7 0)) M0)
  (h1 : Hm (a := 4096) (b := 2816) (φ := .bf16) (V c (Pipeline.arrRef spec7 1)) M1)
  (h2 : Hm (a := 1024) (b := 5632) (φ := .bf16) (V c (Pipeline.arrRef spec7 2)) M2)
  (h3 : Hm (a := 1024) (b := 5632) (φ := .bf16) (V c (Pipeline.arrRef spec7 3)) M3)

include h0 h1 h2 h3 in
theorem k7_o4 : Hm (a := 4096) (b := 1024) (φ := .f32) ((dat7 V c).arrAt 4 cfg7.N) (fun r c => nt 2816 M0 M2 r c + nt 2816 M1 (sh 2816 M3) r c) := by
  have e : (dat7 V c).arrAt 4 cfg7.N = fun i => (((fun r c => nt 2816 M0 M2 r c + nt 2816 M1 (sh 2816 M3) r c) (i 0).val (i 1).val : ℝ) : EReal) := by
    refine (dat7 V c).arrAt_eq_of_covers 4 _ (by decide +kernel) fun t hf y => ?_
    blk_simp
    rw [after7_4]
    idx_vars y
    unfold out7_4
    frame_out
    refine (k7_p1 (k7_b0 h0 t) (k7_b1 h1 t) (k7_b2 h2 t) (k7_b3 h3 t) _ _).trans (congrArg (fun x : ℝ => (x : EReal)) ?_)
    blk_simp [k7_idx t]
    rfl
  exact fun r l => congrFun e (ix2 r l)
end

end Cert.Kernel2Ideal.Tail

end
-- ==== Proof.TailNorm.lean ====
/- What the backward call of the normalisation leaves in its result arrays, over the reals. -/
module

public import proofs.«01_k».proof.Proof.Gen.Kernel2Ideal.Frame.Region8
public import proofs.«01_k».proof.Proof.TailMath
public import Idealize.ShloMosaic.Lib.Pipeline.ReadBack

@[expose] public section

set_option maxRecDepth 16384

noncomputable section

open Idealize.ShloMosaic Idealize.ShloMosaic.TcCoe Idealize.SL.Sem

namespace Cert.Kernel2Ideal.Tail
open Cert.Kernel2Ideal Cert.Kernel2Ideal.Gen Cert.Lift Cert.Tail

/-! ## The gradient of the normalisation -/

theorem k8_idx : ∀ t : Fin cfg8.N, win8_0.index t = ![t.val, 0]
    ∧ win8_1.index t = ![t.val, 0]
    ∧ win8_2.index t = ![0, 0]
    ∧ win8_3.index t = ![t.val, 0] ∧ win8_4.index t = ![t.val, 0]
    ∧ win8_5.index t = ![t.val, 0] ∧ win8_6.index t = ![0, 0] ∧ t.val < 8 :=
  (by decide +kernel : ∀ t : Fin grid8.N, _)
theorem k8_lt (t : Fin cfg8.N) : t.val < 8 := lt_of_lt_of_eq t.isLt N_8

section
variable {x : FVec Ideal S512x1024 .f32} {X : Mat} (hx : Hm x X) {d : FVec Ideal S512x1024 .f32} {D : Mat} (hd : Hm d D)
include hx
theorem k8_p3 (r l) : k8_pay3 (F := Ideal) x (ix2 r l) = ((rr X r : ℝ) : EReal) := by
  pointwise [k8_pay3, k8_pay2]
  simp only [hx _ _, ← EReal.coe_mul, sum_coe, bits_1024, bits_eps, div_coe (show (1024 : ℝ) ≠ 0 by norm_num), ← EReal.coe_add, Finset.sum_const_zero, add_zero, zero_add]
  exact rsqrt_coe (msq_pos X r.val)
theorem k8_p4 : Hm (k8_pay4 (F := Ideal) x) (hat X) := fun r l => by
  have h := k8_p3 hx
  pointwise [k8_pay4, k8_pay2]
  rw [h, hx _ _, ← EReal.coe_mul]
  rfl
include hd
theorem k8_p6 : Hm (k8_pay6 (F := Ideal) x d) (fun r l => D r l * hat X r l) := fun r l => by
  have h := k8_p4 hx
  pointwise [k8_pay6, k8_pay5]
  rw [h, hd _ _, ← EReal.coe_mul]
theorem k8_p7 {g : FVec Ideal S1x1024 .f32} {G : Mat} (hg : Hm g G) {e : FVec Ideal S512x1024 .f32} {E : Mat} (he : Hm e E) :
    Hm (k8_pay7 (F := Ideal) x d g e) (fun r l => bwd X G D r l + E r l) := fun r l => by
  have h := k8_p4 hx
  have h3 := k8_p3 hx
  pointwise [k8_pay7, k8_pay5]
  simp only [h _ _, h3 _ _, hd _ _, hg _ _, he _ _, ← EReal.coe_mul, sum_coe, bits_1024, div_coe (show (1024 : ℝ) ≠ 0 by norm_num), ← EReal.coe_sub, ← EReal.coe_add, Finset.sum_const_zero, add_zero, zero_add]
  rfl
theorem k8_p8 {g : FVec Ideal S1x1024 .f32} {G : Mat} (hg : Hm g G) {e : FVec Ideal S512x1024 .f32} {E : Mat} (he : Hm e E) :
    Hm (k8_pay8 (F := Ideal) x d g e) (fun r l => bwd X G D r l + E r l) := fun r l => by
  have h := k8_p7 hx hd hg he
  pointwise [k8_pay8]
  exact h r l
theorem k8_p1 (a : FVec Ideal S1x1024 .f32) (i : S1x1024.Idx) : k8_pay1 (F := Ideal) (k8_pay6 x d) a i
    = a i + ((∑ r : Fin 512, D r (i 1).val * hat X r (i 1).val : ℝ) : EReal) := by
  have h := k8_p6 hx hd
  idx_vars i
  pointwise [k8_pay1]
  simp only [h _ _, sum_coe]
end
theorem k8_p9 (i : S1x1024.Idx) : k8_pay9 (F := Ideal) i = 0 := by
  idx_vars i
  pointwise [k8_pay9]

section
variable {V : (c : Dev nD) → (b : Ref sig .tc) → Buf (Elt Ideal) ((c : Thread nD τ).loc b)} {c : Dev nD}
theorem k8_b0 {M : Mat} (h : Hm (a := 4096) (b := 1024) (φ := .f32) (V c (Pipeline.arrRef spec8 0)) M) (t : Fin cfg8.N) :
    Hm (a := 512) (b := 1024) (φ := .f32) (iblk8 V c 0 t) (fun r l => M (t.val * 512 + r) (l)) := fun r l => by
  have ht := k8_lt t
  have e : (show FVec Ideal S512x1024 .f32 from iblk8 V c 0 t) (ix2 r l)
      = (show FVec Ideal S4096x1024 .f32 from V c (Pipeline.arrRef spec8 0)) (ix2 ⟨t.val * 512 + r.val, by omega⟩ ⟨l.val, by omega⟩) := by
    blk_ext [iblk8, k8_idx t]
  exact e.trans (h _ _)
theorem k8_b1 {M : Mat} (h : Hm (a := 4096) (b := 1024) (φ := .f32) (V c (Pipeline.arrRef spec8 1)) M) (t : Fin cfg8.N) :
    Hm (a := 512) (b := 1024) (φ := .f32) (iblk8 V c 1 t) (fun r l => M (t.val * 512 + r) (l)) := fun r l => by
  have ht := k8_lt t
  have e : (show FVec Ideal S512x1024 .f32 from iblk8 V c 1 t) (ix2 r l)
      = (show FVec Ideal S4096x1024 .f32 from V c (Pipeline.arrRef spec8 1)) (ix2 ⟨t.val * 512 + r.val, by omega⟩ ⟨l.val, by omega⟩) := by
    blk_ext [iblk8, k8_idx t]
  exact e.trans (h _ _)
theorem k8_b2 {M : Mat} (h : Hm (a := 1) (b := 1024) (φ := .f32) (V c (Pipeline.arrRef spec8 2)) M) (t : Fin cfg8.N) :
    Hm (a := 1) (b := 1024) (φ := .f32) (iblk8 V c 2 t) (fun r l => M (r) (l)) := fun r l => by
  have ht := k8_lt t
  have e : (show FVec Ideal S1x1024 .f32 from iblk8 V c 2 t) (ix2 r l)
      = (show FVec Ideal S1x1024 .f32 from V c (Pipeline.arrRef spec8 2)) (ix2 ⟨r.val, by omega⟩ ⟨l.val, by omega⟩) := by
    blk_ext [iblk8, k8_idx t]
  exact e.trans (h _ _)
theorem k8_b3 {M : Mat} (h : Hm (a := 4096) (b := 1024) (φ := .f32) (V c (Pipeline.arrRef spec8 3)) M) (t : Fin cfg8.N) :
    Hm (a := 512) (b := 1024) (φ := .f32) (iblk8 V c 3 t) (fun r l => M (t.val * 512 + r) (l)) := fun r l => by
  have ht := k8_lt t
  have e : (show FVec Ideal S512x1024 .f32 from iblk8 V c 3 t) (ix2 r l)
      = (show FVec Ideal S4096x1024 .f32 from V c (Pipeline.arrRef spec8 3)) (ix2 ⟨t.val * 512 + r.val, by omega⟩ ⟨l.val, by omega⟩) := by
    blk_ext [iblk8, k8_idx t]
  exact e.trans (h _ _)

variable {M0 M1 M2 M3 : Mat}
  (h0 : Hm (a := 4096) (b := 1024) (φ := .f32) (V c (Pipeline.arrRef spec8 0)) M0)
  (h1 : Hm (a := 4096) (b := 1024) (φ := .f32) (V c (Pipeline.arrRef spec8 1)) M1)
  (h2 : Hm (a := 1) (b := 1024) (φ := .f32) (V c (Pipeline.arrRef spec8 2)) M2)
  (h3 : Hm (a := 4096) (b := 1024) (φ := .f32) (V c (Pipeline.arrRef spec8 3)) M3)

include h0 h1 h2 h3 in
theorem k8_s4 (t : Fin cfg8.N) : Hm (a := 512) (b := 1024) (φ := .f32) (outsAt8 V c t.val t.isLt).1
    (fun r l => bwd M1 M2 M0 (t.val * 512 + r) l + M3 (t.val * 512 + r) l) := fun r l => by
  have key := k8_p7 (k8_b1 h1 t) (k8_b0 h0 t) (k8_b2 h2 t) (k8_b3 h3 t) r l
  by_cases h : t.val % 8 = 0
  · rw [outsAt8_A V c t h]; frame_out; exact key
  · rw [outsAt8_B V c t h]; frame_out; exact key
include h0 h1 h2 h3 in
theorem k8_s5 (t : Fin cfg8.N) : Hm (a := 512) (b := 1024) (φ := .bf16) (outsAt8 V c t.val t.isLt).2.1
    (fun r l => bwd M1 M2 M0 (t.val * 512 + r) l + M3 (t.val * 512 + r) l) := fun r l => by
  have key := k8_p8 (k8_b1 h1 t) (k8_b0 h0 t) (k8_b2 h2 t) (k8_b3 h3 t) r l
  by_cases h : t.val % 8 = 0
  · rw [outsAt8_A V c t h]; frame_out; exact key
  · rw [outsAt8_B V c t h]; frame_out; exact key

include h0 h1 in
theorem k8_reset (t : Fin cfg8.N) (h : t.val % 8 = 0) (i : S1x1024.Idx) : (outsAt8 V c t.val t.isLt).2.2 i
    = 0 + ((∑ r : Fin 512, M0 (t.val * 512 + r) (i 1).val * hat M1 (t.val * 512 + r) (i 1).val : ℝ) : EReal) := by
  have key := k8_p1 (k8_b1 h1 t) (k8_b0 h0 t)
  idx_vars i
  rw [outsAt8_A V c t h]; frame_out; rw [key, k8_p9]; rfl
include h0 h1 in
theorem k8_step (t : Fin cfg8.N) (h : ¬ t.val % 8 = 0) (i : S1x1024.Idx) : (outsAt8 V c t.val t.isLt).2.2 i
    = (outsAt8 V c (t.val - 1) (Nat.lt_of_le_of_lt (Nat.sub_le _ _) t.isLt)).2.2 i
      + ((∑ r : Fin 512, M0 (t.val * 512 + r) (i 1).val * hat M1 (t.val * 512 + r) (i 1).val : ℝ) : EReal) := by
  have key := k8_p1 (k8_b1 h1 t) (k8_b0 h0 t)
  idx_vars i
  rw [outsAt8_B V c t h]; frame_out; rw [key]; rfl

include h0 h1 in
theorem k8_s6 (t : Fin cfg8.N) (h : t.val % 8 = 7) (i : S1x1024.Idx) : (outsAt8 V c t.val t.isLt).2.2 i
    = ((∑ b : Fin 8, ∑ r : Fin 512, M0 (b * 512 + r) (i 1).val * hat M1 (b * 512 + r) (i 1).val : ℝ) : EReal) := by
  have hN : cfg8.N = 8 := N_8
  have key := Pipeline.eq_sum_fin_of_reset_step_apply_last (M := EReal) (ι := S1x1024.Idx) (N := cfg8.N) (fun n h => (outsAt8 V c n h).2.2) 8 (fun _ => (0 : EReal))
    (fun t i => ((∑ r : Fin 512, M0 (t * 512 + r) (i 1).val * hat M1 (t * 512 + r) (i 1).val : ℝ) : EReal)) (k8_reset h0 h1) (k8_step h0 h1) (le_of_eq N_8) t (by have := t.isLt; omega) i
  rw [zero_add, sum_coe] at key
  exact key

include h0 h1 h2 h3 in
theorem k8_o4 : Hm (a := 4096) (b := 1024) (φ := .f32) ((dat8 V c).arrAt 4 cfg8.N) (fun r c => bwd M1 M2 M0 r c + M3 r c) := by
  have e : (dat8 V c).arrAt 4 cfg8.N = fun i => (((fun r c => bwd M1 M2 M0 r c + M3 r c) (i 0).val (i 1).val : ℝ) : EReal) := by
    refine (dat8 V c).arrAt_eq_of_covers 4 _ (by decide +kernel) fun t hf y => ?_
    blk_simp
    rw [after8_4]
    idx_vars y
    refine (k8_s4 h0 h1 h2 h3 t _ _).trans (congrArg (fun x : ℝ => (x : EReal)) ?_)
    blk_simp [k8_idx t]
  exact fun r l => congrFun e (ix2 r l)

include h0 h1 h2 h3 in
theorem k8_o5 : Hm (a := 4096) (b := 1024) (φ := .bf16) ((dat8 V c).arrAt 5 cfg8.N) (fun r c => bwd M1 M2 M0 r c + M3 r c) := by
  have e : (dat8 V c).arrAt 5 cfg8.N = fun i => (((fun r c => bwd M1 M2 M0 r c + M3 r c) (i 0).val (i 1).val : ℝ) : EReal) := by
    refine (dat8 V c).arrAt_eq_of_covers 5 _ (by decide +kernel) fun t hf y => ?_
    blk_simp
    rw [after8_5]
    idx_vars y
    refine (k8_s5 h0 h1 h2 h3 t _ _).trans (congrArg (fun x : ℝ => (x : EReal)) ?_)
    blk_simp [k8_idx t]
  exact fun r l => congrFun e (ix2 r l)

include h0 h1 in
theorem k8_o6 : Hm (a := 1) (b := 1024) (φ := .f32) ((dat8 V c).arrAt 6 cfg8.N)
    (fun _ c => ∑ b : Fin 8, ∑ r : Fin 512, M0 (b * 512 + r) c * hat M1 (b * 512 + r) c) := by
  have e : (dat8 V c).arrAt 6 cfg8.N = fun i => ((∑ b : Fin 8, ∑ r : Fin 512, M0 (b * 512 + r) (i 1).val * hat M1 (b * 512 + r) (i 1).val : ℝ) : EReal) := by
    refine (dat8 V c).arrAt_eq_of_covers 6 _ (by decide +kernel) fun t hf y => ?_
    blk_simp
    rw [after8_6]
    refine (k8_s6 h0 h1 t ((flush8_6 t).mp hf) y).trans (congrArg (fun x : ℝ => (x : EReal)) ?_)
    have e1 : win8_6.index t 1 = 0 := by rw [(k8_idx t).2.2.2.2.2.2.1]; rfl
    rw [e1, Nat.zero_mul, Nat.zero_add]
  exact fun r l => congrFun e (ix2 r l)
end

end Cert.Kernel2Ideal.Tail

end
-- ==== Proof.TailMix.lean ====
/- What the mixer's matrix products leave in their result arrays, over the reals. -/
module

public import proofs.«01_k».proof.Proof.Gen.Kernel2Ideal.Frame.Region9
public import proofs.«01_k».proof.Proof.Gen.Kernel2Ideal.Frame.Region10
public import proofs.«01_k».proof.Proof.Gen.Kernel2Ideal.Frame.Region12
public import proofs.«01_k».proof.Proof.Gen.Kernel2Ideal.Frame.Region13
public import proofs.«01_k».proof.Proof.Gen.Kernel2Ideal.Frame.Region14
public import proofs.«01_k».proof.Proof.TailMath
public import Idealize.ShloMosaic.Lib.Pipeline.ReadBack

@[expose] public section

set_option maxRecDepth 16384

noncomputable section

open Idealize.ShloMosaic Idealize.ShloMosaic.TcCoe Idealize.SL.Sem

namespace Cert.Kernel2Ideal.Tail
open Cert.Kernel2Ideal Cert.Kernel2Ideal.Gen Cert.Lift Cert.Tail

/-! ## The gradient of the weights out of the mixer -/

theorem k9_idx : ∀ t : Fin cfg9.N, win9_0.index t = ![0, t.val / 2]
    ∧ win9_1.index t = ![0, t.val % 2]
    ∧ win9_2.index t = ![t.val / 2, t.val % 2]
    ∧ win9_3.index t = ![t.val / 2, t.val % 2] ∧ t.val < 4 :=
  (by decide +kernel : ∀ t : Fin grid9.N, _)
theorem k9_lt (t : Fin cfg9.N) : t.val < 4 := lt_of_lt_of_eq t.isLt N_9

section
variable {x : FVec Ideal S4096x512 .bf16} {X : Mat} (hx : Hm x X) {w : FVec Ideal S4096x512 .bf16} {W : Mat} (hw : Hm w W)
include hx hw
theorem k9_p1 : Hm (k9_pay1 (F := Ideal) x w) (tn 4096 X W) := fun r l => by
  pointwise [k9_pay1]
  simp only [hx _ _, hw _ _, ← EReal.coe_mul, sum_coe]
  rfl
theorem k9_p2 : Hm (k9_pay2 (F := Ideal) x w) (tn 4096 X W) := fun r l => by
  pointwise [k9_pay2]
  exact k9_p1 hx hw r l
end

section
variable {V : (c : Dev nD) → (b : Ref sig .tc) → Buf (Elt Ideal) ((c : Thread nD τ).loc b)} {c : Dev nD}
theorem k9_b0 {M : Mat} (h : Hm (a := 4096) (b := 1024) (φ := .bf16) (V c (Pipeline.arrRef spec9 0)) M) (t : Fin cfg9.N) :
    Hm (a := 4096) (b := 512) (φ := .bf16) (iblk9 V c 0 t) (fun r l => M (r) (t.val / 2 * 512 + l)) := fun r l => by
  have ht := k9_lt t
  have e : (show FVec Ideal S4096x512 .bf16 from iblk9 V c 0 t) (ix2 r l)
      = (show FVec Ideal S4096x1024 .bf16 from V c (Pipeline.arrRef spec9 0)) (ix2 ⟨r.val, by omega⟩ ⟨t.val / 2 * 512 + l.val, by omega⟩) := by
    blk_ext [iblk9, k9_idx t]
  exact e.trans (h _ _)
theorem k9_b1 {M : Mat} (h : Hm (a := 4096) (b := 1024) (φ := .bf16) (V c (Pipeline.arrRef spec9 1)) M) (t : Fin cfg9.N) :
    Hm (a := 4096) (b := 512) (φ := .bf16) (iblk9 V c 1 t) (fun r l => M (r) (t.val % 2 * 512 + l)) := fun r l => by
  have ht := k9_lt t
  have e : (show FVec Ideal S4096x512 .bf16 from iblk9 V c 1 t) (ix2 r l)
      = (show FVec Ideal S4096x1024 .bf16 from V c (Pipeline.arrRef spec9 1)) (ix2 ⟨r.val, by omega⟩ ⟨t.val % 2 * 512 + l.val, by omega⟩) := by
    blk_ext [iblk9, k9_idx t]
  exact e.trans (h _ _)

variable {M0 M1 : Mat}
  (h0 : Hm (a := 4096) (b := 1024) (φ := .bf16) (V c (Pipeline.arrRef spec9 0)) M0)
  (h1 : Hm (a := 4096) (b := 1024) (φ := .bf16) (V c (Pipeline.arrRef spec9 1)) M1)

include h0 h1 in
theorem k9_o2 : Hm (a := 1024) (b := 1024) (φ := .f32) ((dat9 V c).arrAt 2 cfg9.N) (tn 4096 M0 M1) := by
  have e : (dat9 V c).arrAt 2 cfg9.N = fun i => (((tn 4096 M0 M1) (i 0).val (i 1).val : ℝ) : EReal) := by
    refine (dat9 V c).arrAt_eq_of_covers 2 _ (by decide +kernel) fun t hf y => ?_
    blk_simp
    rw [after9_2]
    idx_vars y
    unfold out9_2
    frame_out
    refine (k9_p1 (k9_b0 h0 t) (k9_b1 h1 t) _ _).trans (congrArg (fun x : ℝ => (x : EReal)) ?_)
    blk_simp [k9_idx t]
    rfl
  exact fun r l => congrFun e (ix2 r l)

include h0 h1 in
theorem k9_o3 : Hm (a := 1024) (b := 1024) (φ := .bf16) ((dat9 V c).arrAt 3 cfg9.N) (tn 4096 M0 M1) := by
  have e : (dat9 V c).arrAt 3 cfg9.N = fun i => (((tn 4096 M0 M1) (i 0).val (i 1).val : ℝ) : EReal) := by
    refine (dat9 V c).arrAt_eq_of_covers 3 _ (by decide +kernel) fun t hf y => ?_
    blk_simp
    rw [after9_3]
    idx_vars y
    unfold out9_3
    frame_out
    refine (k9_p2 (k9_b0 h0 t) (k9_b1 h1 t) _ _).trans (congrArg (fun x : ℝ => (x : EReal)) ?_)
    blk_simp [k9_idx t]
    rfl
  exact fun r l => congrFun e (ix2 r l)
end

/-! ## The gradient of the merged branches -/

theorem k10_idx : ∀ t : Fin cfg10.N, win10_0.index t = ![t.val / 2, 0]
    ∧ win10_1.index t = ![t.val % 2, 0]
    ∧ win10_2.index t = ![t.val / 2, t.val % 2] ∧ t.val < 16 :=
  (by decide +kernel : ∀ t : Fin grid10.N, _)
theorem k10_lt (t : Fin cfg10.N) : t.val < 16 := lt_of_lt_of_eq t.isLt N_10

section
variable {x : FVec Ideal S512x1024 .bf16} {X : Mat} (hx : Hm x X) {w : FVec Ideal S512x1024 .bf16} {W : Mat} (hw : Hm w W)
include hx hw
theorem k10_p1 : Hm (k10_pay1 (F := Ideal) x w) (nt 1024 X W) := fun r l => by
  pointwise [k10_pay1]
  simp only [hx _ _, hw _ _, ← EReal.coe_mul, sum_coe]
  rfl
end

section
variable {V : (c : Dev nD) → (b : Ref sig .tc) → Buf (Elt Ideal) ((c : Thread nD τ).loc b)} {c : Dev nD}
theorem k10_b0 {M : Mat} (h : Hm (a := 4096) (b := 1024) (φ := .bf16) (V c (Pipeline.arrRef spec10 0)) M) (t : Fin cfg10.N) :
    Hm (a := 512) (b := 1024) (φ := .bf16) (iblk10 V c 0 t) (fun r l => M (t.val / 2 * 512 + r) (l)) := fun r l => by
  have ht := k10_lt t
  have e : (show FVec Ideal S512x1024 .bf16 from iblk10 V c 0 t) (ix2 r l)
      = (show FVec Ideal S4096x1024 .bf16 from V c (Pipeline.arrRef spec10 0)) (ix2 ⟨t.val / 2 * 512 + r.val, by omega⟩ ⟨l.val, by omega⟩) := by
    blk_ext [iblk10, k10_idx t]
  exact e.trans (h _ _)
theorem k10_b1 {M : Mat} (h : Hm (a := 1024) (b := 1024) (φ := .bf16) (V c (Pipeline.arrRef spec10 1)) M) (t : Fin cfg10.N) :
    Hm (a := 512) (b := 1024) (φ := .bf16) (iblk10 V c 1 t) (fun r l => M (t.val % 2 * 512 + r) (l)) := fun r l => by
  have ht := k10_lt t
  have e : (show FVec Ideal S512x1024 .bf16 from iblk10 V c 1 t) (ix2 r l)
      = (show FVec Ideal S1024x1024 .bf16 from V c (Pipeline.arrRef spec10 1)) (ix2 ⟨t.val % 2 * 512 + r.val, by omega⟩ ⟨l.val, by omega⟩) := by
    blk_ext [iblk10, k10_idx t]
  exact e.trans (h _ _)

variable {M0 M1 : Mat}
  (h0 : Hm (a := 4096) (b := 1024) (φ := .bf16) (V c (Pipeline.arrRef spec10 0)) M0)
  (h1 : Hm (a := 1024) (b := 1024) (φ := .bf16) (V c (Pipeline.arrRef spec10 1)) M1)

include h0 h1 in
theorem k10_o2 : Hm (a := 4096) (b := 1024) (φ := .f32) ((dat10 V c).arrAt 2 cfg10.N) (nt 1024 M0 M1) := by
  have e : (dat10 V c).arrAt 2 cfg10.N = fun i => (((nt 1024 M0 M1) (i 0).val (i 1).val : ℝ) : EReal) := by
    refine (dat10 V c).arrAt_eq_of_covers 2 _ (by decide +kernel) fun t hf y => ?_
    blk_simp
    rw [after10_2]
    idx_vars y
    unfold out10_2
    frame_out
    refine (k10_p1 (k10_b0 h0 t) (k10_b1 h1 t) _ _).trans (congrArg (fun x : ℝ => (x : EReal)) ?_)
    blk_simp [k10_idx t]
    rfl
  exact fun r l => congrFun e (ix2 r l)
end

/-! ## The gradient of the first branch's weights -/

theorem k12_idx : ∀ t : Fin cfg12.N, win12_0.index t = ![0, t.val / 2]
    ∧ win12_1.index t = ![0, t.val % 2]
    ∧ win12_2.index t = ![t.val / 2, t.val % 2]
    ∧ win12_3.index t = ![t.val / 2, t.val % 2] ∧ t.val < 4 :=
  (by decide +kernel : ∀ t : Fin grid12.N, _)
theorem k12_lt (t : Fin cfg12.N) : t.val < 4 := lt_of_lt_of_eq t.isLt N_12

section
variable {x : FVec Ideal S4096x512 .bf16} {X : Mat} (hx : Hm x X) {w : FVec Ideal S4096x512 .bf16} {W : Mat} (hw : Hm w W)
include hx hw
theorem k12_p1 : Hm (k12_pay1 (F := Ideal) x w) (tn 4096 X W) := fun r l => by
  pointwise [k12_pay1]
  simp only [hx _ _, hw _ _, ← EReal.coe_mul, sum_coe]
  rfl
theorem k12_p2 : Hm (k12_pay2 (F := Ideal) x w) (tn 4096 X W) := fun r l => by
  pointwise [k12_pay2]
  exact k12_p1 hx hw r l
end

section
variable {V : (c : Dev nD) → (b : Ref sig .tc) → Buf (Elt Ideal) ((c : Thread nD τ).loc b)} {c : Dev nD}
theorem k12_b0 {M : Mat} (h : Hm (a := 4096) (b := 1024) (φ := .bf16) (V c (Pipeline.arrRef spec12 0)) M) (t : Fin cfg12.N) :
    Hm (a := 4096) (b := 512) (φ := .bf16) (iblk12 V c 0 t) (fun r l => M (r) (t.val / 2 * 512 + l)) := fun r l => by
  have ht := k12_lt t
  have e : (show FVec Ideal S4096x512 .bf16 from iblk12 V c 0 t) (ix2 r l)
      = (show FVec Ideal S4096x1024 .bf16 from V c (Pipeline.arrRef spec12 0)) (ix2 ⟨r.val, by omega⟩ ⟨t.val / 2 * 512 + l.val, by omega⟩) := by
    blk_ext [iblk12, k12_idx t]
  exact e.trans (h _ _)
theorem k12_b1 {M : Mat} (h : Hm (a := 4096) (b := 1024) (φ := .bf16) (V c (Pipeline.arrRef spec12 1)) M) (t : Fin cfg12.N) :
    Hm (a := 4096) (b := 512) (φ := .bf16) (iblk12 V c 1 t) (fun r l => M (r) (t.val % 2 * 512 + l)) := fun r l => by
  have ht := k12_lt t
  have e : (show FVec Ideal S4096x512 .bf16 from iblk12 V c 1 t) (ix2 r l)
      = (show FVec Ideal S4096x1024 .bf16 from V c (Pipeline.arrRef spec12 1)) (ix2 ⟨r.val, by omega⟩ ⟨t.val % 2 * 512 + l.val, by omega⟩) := by
    blk_ext [iblk12, k12_idx t]
  exact e.trans (h _ _)

variable {M0 M1 : Mat}
  (h0 : Hm (a := 4096) (b := 1024) (φ := .bf16) (V c (Pipeline.arrRef spec12 0)) M0)
  (h1 : Hm (a := 4096) (b := 1024) (φ := .bf16) (V c (Pipeline.arrRef spec12 1)) M1)

include h0 h1 in
theorem k12_o2 : Hm (a := 1024) (b := 1024) (φ := .f32) ((dat12 V c).arrAt 2 cfg12.N) (tn 4096 M0 M1) := by
  have e : (dat12 V c).arrAt 2 cfg12.N = fun i => (((tn 4096 M0 M1) (i 0).val (i 1).val : ℝ) : EReal) := by
    refine (dat12 V c).arrAt_eq_of_covers 2 _ (by decide +kernel) fun t hf y => ?_
    blk_simp
    rw [after12_2]
    idx_vars y
    unfold out12_2
    frame_out
    refine (k12_p1 (k12_b0 h0 t) (k12_b1 h1 t) _ _).trans (congrArg (fun x : ℝ => (x : EReal)) ?_)
    blk_simp [k12_idx t]
    rfl
  exact fun r l => congrFun e (ix2 r l)

include h0 h1 in
theorem k12_o3 : Hm (a := 1024) (b := 1024) (φ := .bf16) ((dat12 V c).arrAt 3 cfg12.N) (tn 4096 M0 M1) := by
  have e : (dat12 V c).arrAt 3 cfg12.N = fun i => (((tn 4096 M0 M1) (i 0).val (i 1).val : ℝ) : EReal) := by
    refine (dat12 V c).arrAt_eq_of_covers 3 _ (by decide +kernel) fun t hf y => ?_
    blk_simp
    rw [after12_3]
    idx_vars y
    unfold out12_3
    frame_out
    refine (k12_p2 (k12_b0 h0 t) (k12_b1 h1 t) _ _).trans (congrArg (fun x : ℝ => (x : EReal)) ?_)
    blk_simp [k12_idx t]
    rfl
  exact fun r l => congrFun e (ix2 r l)
end

/-! ## The gradient of the second branch's weights -/

theorem k13_idx : ∀ t : Fin cfg13.N, win13_0.index t = ![0, 0]
    ∧ win13_1.index t = ![0, t.val]
    ∧ win13_2.index t = ![0, t.val]
    ∧ win13_3.index t = ![0, t.val] ∧ t.val < 2 :=
  (by decide +kernel : ∀ t : Fin grid13.N, _)
theorem k13_lt (t : Fin cfg13.N) : t.val < 2 := lt_of_lt_of_eq t.isLt N_13

section
variable {x : FVec Ideal S4096x512 .bf16} {X : Mat} (hx : Hm x X) {w : FVec Ideal S4096x512 .bf16} {W : Mat} (hw : Hm w W)
include hx hw
theorem k13_p1 : Hm (k13_pay1 (F := Ideal) x w) (tn 4096 X W) := fun r l => by
  pointwise [k13_pay1]
  simp only [hx _ _, hw _ _, ← EReal.coe_mul, sum_coe]
  rfl
theorem k13_p2 : Hm (k13_pay2 (F := Ideal) x w) (tn 4096 X W) := fun r l => by
  pointwise [k13_pay2]
  exact k13_p1 hx hw r l
end

section
variable {V : (c : Dev nD) → (b : Ref sig .tc) → Buf (Elt Ideal) ((c : Thread nD τ).loc b)} {c : Dev nD}
theorem k13_b0 {M : Mat} (h : Hm (a := 4096) (b := 512) (φ := .bf16) (V c (Pipeline.arrRef spec13 0)) M) (t : Fin cfg13.N) :
    Hm (a := 4096) (b := 512) (φ := .bf16) (iblk13 V c 0 t) (fun r l => M (r) (l)) := fun r l => by
  have ht := k13_lt t
  have e : (show FVec Ideal S4096x512 .bf16 from iblk13 V c 0 t) (ix2 r l)
      = (show FVec Ideal S4096x512 .bf16 from V c (Pipeline.arrRef spec13 0)) (ix2 ⟨r.val, by omega⟩ ⟨l.val, by omega⟩) := by
    blk_ext [iblk13, k13_idx t]
  exact e.trans (h _ _)
theorem k13_b1 {M : Mat} (h : Hm (a := 4096) (b := 1024) (φ := .bf16) (V c (Pipeline.arrRef spec13 1)) M) (t : Fin cfg13.N) :
    Hm (a := 4096) (b := 512) (φ := .bf16) (iblk13 V c 1 t) (fun r l => M (r) (t.val * 512 + l)) := fun r l => by
  have ht := k13_lt t
  have e : (show FVec Ideal S4096x512 .bf16 from iblk13 V c 1 t) (ix2 r l)
      = (show FVec Ideal S4096x1024 .bf16 from V c (Pipeline.arrRef spec13 1)) (ix2 ⟨r.val, by omega⟩ ⟨t.val * 512 + l.val, by omega⟩) := by
    blk_ext [iblk13, k13_idx t]
  exact e.trans (h _ _)

variable {M0 M1 : Mat}
  (h0 : Hm (a := 4096) (b := 512) (φ := .bf16) (V c (Pipeline.arrRef spec13 0)) M0)
  (h1 : Hm (a := 4096) (b := 1024) (φ := .bf16) (V c (Pipeline.arrRef spec13 1)) M1)

include h0 h1 in
theorem k13_o2 : Hm (a := 512) (b := 1024) (φ := .f32) ((dat13 V c).arrAt 2 cfg13.N) (tn 4096 M0 M1) := by
  have e : (dat13 V c).arrAt 2 cfg13.N = fun i => (((tn 4096 M0 M1) (i 0).val (i 1).val : ℝ) : EReal) := by
    refine (dat13 V c).arrAt_eq_of_covers 2 _ (by decide +kernel) fun t hf y => ?_
    blk_simp
    rw [after13_2]
    idx_vars y
    unfold out13_2
    frame_out
    refine (k13_p1 (k13_b0 h0 t) (k13_b1 h1 t) _ _).trans (congrArg (fun x : ℝ => (x : EReal)) ?_)
    blk_simp [k13_idx t]
    rfl
  exact fun r l => congrFun e (ix2 r l)

include h0 h1 in
theorem k13_o3 : Hm (a := 512) (b := 1024) (φ := .bf16) ((dat13 V c).arrAt 3 cfg13.N) (tn 4096 M0 M1) := by
  have e : (dat13 V c).arrAt 3 cfg13.N = fun i => (((tn 4096 M0 M1) (i 0).val (i 1).val : ℝ) : EReal) := by
    refine (dat13 V c).arrAt_eq_of_covers 3 _ (by decide +kernel) fun t hf y => ?_
    blk_simp
    rw [after13_3]
    idx_vars y
    unfold out13_3
    frame_out
    refine (k13_p2 (k13_b0 h0 t) (k13_b1 h1 t) _ _).trans (congrArg (fun x : ℝ => (x : EReal)) ?_)
    blk_simp [k13_idx t]
    rfl
  exact fun r l => congrFun e (ix2 r l)
end

/-! ## The gradient of the third branch's weights -/

theorem k14_idx : ∀ t : Fin cfg14.N, win14_0.index t = ![0, 0]
    ∧ win14_1.index t = ![0, t.val]
    ∧ win14_2.index t = ![0, t.val]
    ∧ win14_3.index t = ![0, t.val] ∧ t.val < 2 :=
  (by decide +kernel : ∀ t : Fin grid14.N, _)
theorem k14_lt (t : Fin cfg14.N) : t.val < 2 := lt_of_lt_of_eq t.isLt N_14

section
variable {x : FVec Ideal S4096x512 .bf16} {X : Mat} (hx : Hm x X) {w : FVec Ideal S4096x512 .bf16} {W : Mat} (hw : Hm w W)
include hx hw
theorem k14_p1 : Hm (k14_pay1 (F := Ideal) x w) (tn 4096 X W) := fun r l => by
  pointwise [k14_pay1]
  simp only [hx _ _, hw _ _, ← EReal.coe_mul, sum_coe]
  rfl
theorem k14_p2 : Hm (k14_pay2 (F := Ideal) x w) (tn 4096 X W) := fun r l => by
  pointwise [k14_pay2]
  exact k14_p1 hx hw r l
end

section
variable {V : (c : Dev nD) → (b : Ref sig .tc) → Buf (Elt Ideal) ((c : Thread nD τ).loc b)} {c : Dev nD}
theorem k14_b0 {M : Mat} (h : Hm (a := 4096) (b := 512) (φ := .bf16) (V c (Pipeline.arrRef spec14 0)) M) (t : Fin cfg14.N) :
    Hm (a := 4096) (b := 512) (φ := .bf16) (iblk14 V c 0 t) (fun r l => M (r) (l)) := fun r l => by
  have ht := k14_lt t
  have e : (show FVec Ideal S4096x512 .bf16 from iblk14 V c 0 t) (ix2 r l)
      = (show FVec Ideal S4096x512 .bf16 from V c (Pipeline.arrRef spec14 0)) (ix2 ⟨r.val, by omega⟩ ⟨l.val, by omega⟩) := by
    blk_ext [iblk14, k14_idx t]
  exact e.trans (h _ _)
theorem k14_b1 {M : Mat} (h : Hm (a := 4096) (b := 1024) (φ := .bf16) (V c (Pipeline.arrRef spec14 1)) M) (t : Fin cfg14.N) :
    Hm (a := 4096) (b := 512) (φ := .bf16) (iblk14 V c 1 t) (fun r l => M (r) (t.val * 512 + l)) := fun r l => by
  have ht := k14_lt t
  have e : (show FVec Ideal S4096x512 .bf16 from iblk14 V c 1 t) (ix2 r l)
      = (show FVec Ideal S4096x1024 .bf16 from V c (Pipeline.arrRef spec14 1)) (ix2 ⟨r.val, by omega⟩ ⟨t.val * 512 + l.val, by omega⟩) := by
    blk_ext [iblk14, k14_idx t]
  exact e.trans (h _ _)

variable {M0 M1 : Mat}
  (h0 : Hm (a := 4096) (b := 512) (φ := .bf16) (V c (Pipeline.arrRef spec14 0)) M0)
  (h1 : Hm (a := 4096) (b := 1024) (φ := .bf16) (V c (Pipeline.arrRef spec14 1)) M1)

include h0 h1 in
theorem k14_o2 : Hm (a := 512) (b := 1024) (φ := .f32) ((dat14 V c).arrAt 2 cfg14.N) (tn 4096 M0 M1) := by
  have e : (dat14 V c).arrAt 2 cfg14.N = fun i => (((tn 4096 M0 M1) (i 0).val (i 1).val : ℝ) : EReal) := by
    refine (dat14 V c).arrAt_eq_of_covers 2 _ (by decide +kernel) fun t hf y => ?_
    blk_simp
    rw [after14_2]
    idx_vars y
    unfold out14_2
    frame_out
    refine (k14_p1 (k14_b0 h0 t) (k14_b1 h1 t) _ _).trans (congrArg (fun x : ℝ => (x : EReal)) ?_)
    blk_simp [k14_idx t]
    rfl
  exact fun r l => congrFun e (ix2 r l)

include h0 h1 in
theorem k14_o3 : Hm (a := 512) (b := 1024) (φ := .bf16) ((dat14 V c).arrAt 3 cfg14.N) (tn 4096 M0 M1) := by
  have e : (dat14 V c).arrAt 3 cfg14.N = fun i => (((tn 4096 M0 M1) (i 0).val (i 1).val : ℝ) : EReal) := by
    refine (dat14 V c).arrAt_eq_of_covers 3 _ (by decide +kernel) fun t hf y => ?_
    blk_simp
    rw [after14_3]
    idx_vars y
    unfold out14_3
    frame_out
    refine (k14_p2 (k14_b0 h0 t) (k14_b1 h1 t) _ _).trans (congrArg (fun x : ℝ => (x : EReal)) ?_)
    blk_simp [k14_idx t]
    rfl
  exact fun r l => congrFun e (ix2 r l)
end

end Cert.Kernel2Ideal.Tail

end
-- ==== Proof.TailGate.lean ====
/- What the backward call of the merge of the branches leaves in its result arrays, over the reals. -/
module

public import proofs.«01_k».proof.Proof.Gen.Kernel2Ideal.Frame.Region11
public import proofs.«01_k».proof.Proof.TailMath
public import Idealize.ShloMosaic.Lib.Pipeline.ReadBack

@[expose] public section

set_option maxRecDepth 16384

noncomputable section

open Idealize.ShloMosaic Idealize.ShloMosaic.TcCoe Idealize.SL.Sem

namespace Cert.Kernel2Ideal.Tail
open Cert.Kernel2Ideal Cert.Kernel2Ideal.Gen Cert.Lift Cert.Tail

/-! ## The backward pass of the merge of the three branches -/

theorem k11_idx : ∀ t : Fin cfg11.N, win11_0.index t = ![t.val, 0]
    ∧ win11_1.index t = ![t.val, 0]
    ∧ win11_2.index t = ![t.val, 0]
    ∧ win11_3.index t = ![t.val, 0]
    ∧ win11_4.index t = ![t.val, 10]
    ∧ win11_5.index t = ![t.val, 11]
    ∧ win11_6.index t = ![t.val, 12]
    ∧ win11_7.index t = ![0, 0]
    ∧ win11_8.index t = ![0, 0]
    ∧ win11_9.index t = ![0, 0]
    ∧ win11_10.index t = ![t.val, 0]
    ∧ win11_11.index t = ![t.val, 0]
    ∧ win11_12.index t = ![t.val, 0]
    ∧ win11_13.index t = ![t.val, 0]
    ∧ win11_14.index t = ![t.val, 0]
    ∧ win11_15.index t = ![t.val, 0]
    ∧ win11_16.index t = ![t.val, 0] ∧ t.val < 16 :=
  (by decide +kernel : ∀ t : Fin grid11.N, _)
theorem k11_lt (t : Fin cfg11.N) : t.val < 16 := lt_of_lt_of_eq t.isLt N_11

section
variable {d : FVec Ideal S256x1024 .f32} {D : Mat} (hd : Hm d D)
include hd
theorem k11_p1 : Hm (k11_pay1 (F := Ideal) d) D := fun r l => by
  pointwise [k11_pay1]
  exact hd r l
omit hd
variable {g : FVec Ideal S256x1024 .bf16} {G : Mat} (hg : Hm g G)
include hg
theorem k11_p2 : Hm (k11_pay2 (F := Ideal) g) (fun r l => sg (G r l)) := fun r l => by
  pointwise [k11_pay2]
  rw [hg, logistic_coe]
theorem k11_p6 : Hm (k11_pay6 (F := Ideal) g) (fun r l => sg (G r l)) := fun r l => by
  pointwise [k11_pay6]
  rw [hg, logistic_coe]
theorem k11_p11 : Hm (k11_pay11 (F := Ideal) g) (fun r l => sg (G r l)) := fun r l => by
  pointwise [k11_pay11]
  rw [hg, logistic_coe]
include hd
theorem k11_p3 : Hm (k11_pay3 (F := Ideal) d g) (dz D G) := fun r l => by
  have h1 := k11_p1 hd
  have h2 := k11_p2 hg
  pointwise [k11_pay3]
  rw [h1, h2, ← EReal.coe_mul]; rfl
theorem k11_p7 : Hm (k11_pay7 (F := Ideal) d g) (dz D G) := fun r l => by
  have h1 := k11_p1 hd
  have h2 := k11_p6 hg
  pointwise [k11_pay7]
  rw [h1, h2, ← EReal.coe_mul]; rfl
theorem k11_p12 : Hm (k11_pay12 (F := Ideal) d g) (dz D G) := fun r l => by
  have h2 := k11_p11 hg
  pointwise [k11_pay12]
  rw [hd, h2, ← EReal.coe_mul]; rfl
theorem k11_p4 {a : FVec Ideal S256x1024 .bf16} {A : Mat} (ha : Hm a A) {w : FVec Ideal S1024x1024 .bf16} {W : Mat} (hw : Hm w W) :
    Hm (k11_pay4 (F := Ideal) d a w g) (dgate D (nn 1024 A W) G) := fun r l => by
  have h1 := k11_p1 hd
  have h2 := k11_p2 hg
  pointwise [k11_pay4]
  simp only [h1 _ _, h2 _ _, ha _ _, hw _ _, ← EReal.coe_one, ← EReal.coe_mul, sum_coe, ← EReal.coe_sub]
  rfl
theorem k11_p5 {w : FVec Ideal S1024x1024 .bf16} {W : Mat} (hw : Hm w W) : Hm (k11_pay5 (F := Ideal) d g w) (nt 1024 (dz D G) W) := fun r l => by
  have h := k11_p3 hd hg
  pointwise [k11_pay5]
  simp only [h _ _, hw _ _, ← EReal.coe_mul, sum_coe]
  rfl
theorem k11_p9 {a : FVec Ideal S256x512 .bf16} {A : Mat} (ha : Hm a A) {w : FVec Ideal S512x1024 .bf16} {W : Mat} (hw : Hm w W) :
    Hm (k11_pay9 (F := Ideal) (k11_pay6 g) (k11_pay8 d a w)) (dgate D (nn 512 A W) G) := fun r l => by
  have h1 := k11_p1 hd
  have h2 := k11_p6 hg
  pointwise [k11_pay9, k11_pay8]
  simp only [h1 _ _, h2 _ _, ha _ _, hw _ _, ← EReal.coe_one, ← EReal.coe_mul, sum_coe, ← EReal.coe_sub]
  rfl
theorem k11_p13 {a : FVec Ideal S256x512 .bf16} {A : Mat} (ha : Hm a A) {w : FVec Ideal S512x1024 .bf16} {W : Mat} (hw : Hm w W) :
    Hm (k11_pay13 (F := Ideal) d a w g) (dgate D (nn 512 A W) G) := fun r l => by
  have h2 := k11_p11 hg
  pointwise [k11_pay13]
  simp only [hd _ _, h2 _ _, ha _ _, hw _ _, ← EReal.coe_one, ← EReal.coe_mul, sum_coe, ← EReal.coe_sub]
  rfl
theorem k11_p14 {w : FVec Ideal S512x1024 .bf16} {W : Mat} (hw : Hm w W) : Hm (k11_pay14 (F := Ideal) d g w) (nt 1024 (dz D G) W) := fun r l => by
  have h := k11_p12 hd hg
  pointwise [k11_pay14]
  simp only [h _ _, hw _ _, ← EReal.coe_mul, sum_coe]
  rfl
omit hd hg
theorem k11_p10 {z : FVec Ideal S256x1024 .bf16} {Z : Mat} (hz : Hm z Z) {w : FVec Ideal S512x1024 .bf16} {W : Mat} (hw : Hm w W) :
    Hm (k11_pay10 (F := Ideal) z w) (nt 1024 Z W) := fun r l => by
  pointwise [k11_pay10]
  simp only [hz _ _, hw _ _, ← EReal.coe_mul, sum_coe]
  rfl
end

section
variable {V : (c : Dev nD) → (b : Ref sig .tc) → Buf (Elt Ideal) ((c : Thread nD τ).loc b)} {c : Dev nD}
theorem k11_b0 {M : Mat} (h : Hm (a := 4096) (b := 1024) (φ := .f32) (V c (Pipeline.arrRef spec11 0)) M) (t : Fin cfg11.N) :
    Hm (a := 256) (b := 1024) (φ := .f32) (iblk11 V c 0 t) (fun r l => M (t.val * 256 + r) (l)) := fun r l => by
  have ht := k11_lt t
  have e : (show FVec Ideal S256x1024 .f32 from iblk11 V c 0 t) (ix2 r l)
      = (show FVec Ideal S4096x1024 .f32 from V c (Pipeline.arrRef spec11 0)) (ix2 ⟨t.val * 256 + r.val, by omega⟩ ⟨l.val, by omega⟩) := by
    blk_ext [iblk11, k11_idx t]
  exact e.trans (h _ _)
theorem k11_b1 {M : Mat} (h : Hm (a := 4096) (b := 1024) (φ := .bf16) (V c (Pipeline.arrRef spec11 1)) M) (t : Fin cfg11.N) :
    Hm (a := 256) (b := 1024) (φ := .bf16) (iblk11 V c 1 t) (fun r l => M (t.val * 256 + r) (l)) := fun r l => by
  have ht := k11_lt t
  have e : (show FVec Ideal S256x1024 .bf16 from iblk11 V c 1 t) (ix2 r l)
      = (show FVec Ideal S4096x1024 .bf16 from V c (Pipeline.arrRef spec11 1)) (ix2 ⟨t.val * 256 + r.val, by omega⟩ ⟨l.val, by omega⟩) := by
    blk_ext [iblk11, k11_idx t]
  exact e.trans (h _ _)
theorem k11_b2 {M : Mat} (h : Hm (a := 4096) (b := 512) (φ := .bf16) (V c (Pipeline.arrRef spec11 2)) M) (t : Fin cfg11.N) :
    Hm (a := 256) (b := 512) (φ := .bf16) (iblk11 V c 2 t) (fun r l => M (t.val * 256 + r) (l)) := fun r l => by
  have ht := k11_lt t
  have e : (show FVec Ideal S256x512 .bf16 from iblk11 V c 2 t) (ix2 r l)
      = (show FVec Ideal S4096x512 .bf16 from V c (Pipeline.arrRef spec11 2)) (ix2 ⟨t.val * 256 + r.val, by omega⟩ ⟨l.val, by omega⟩) := by
    blk_ext [iblk11, k11_idx t]
  exact e.trans (h _ _)
theorem k11_b3 {M : Mat} (h : Hm (a := 4096) (b := 512) (φ := .bf16) (V c (Pipeline.arrRef spec11 3)) M) (t : Fin cfg11.N) :
    Hm (a := 256) (b := 512) (φ := .bf16) (iblk11 V c 3 t) (fun r l => M (t.val * 256 + r) (l)) := fun r l => by
  have ht := k11_lt t
  have e : (show FVec Ideal S256x512 .bf16 from iblk11 V c 3 t) (ix2 r l)
      = (show FVec Ideal S4096x512 .bf16 from V c (Pipeline.arrRef spec11 3)) (ix2 ⟨t.val * 256 + r.val, by omega⟩ ⟨l.val, by omega⟩) := by
    blk_ext [iblk11, k11_idx t]
  exact e.trans (h _ _)
theorem k11_b4 {M : Mat} (h : Hm (a := 4096) (b := 13312) (φ := .bf16) (V c (Pipeline.arrRef spec11 4)) M) (t : Fin cfg11.N) :
    Hm (a := 256) (b := 1024) (φ := .bf16) (iblk11 V c 4 t) (fun r l => M (t.val * 256 + r) (10240 + l)) := fun r l => by
  have ht := k11_lt t
  have e : (show FVec Ideal S256x1024 .bf16 from iblk11 V c 4 t) (ix2 r l)
      = (show FVec Ideal S4096x13312 .bf16 from V c (Pipeline.arrRef spec11 4)) (ix2 ⟨t.val * 256 + r.val, by omega⟩ ⟨10240 + l.val, by omega⟩) := by
    blk_ext [iblk11, k11_idx t]
  exact e.trans (h _ _)
theorem k11_b5 {M : Mat} (h : Hm (a := 4096) (b := 13312) (φ := .bf16) (V c (Pipeline.arrRef spec11 5)) M) (t : Fin cfg11.N) :
    Hm (a := 256) (b := 1024) (φ := .bf16) (iblk11 V c 5 t) (fun r l => M (t.val * 256 + r) (11264 + l)) := fun r l => by
  have ht := k11_lt t
  have e : (show FVec Ideal S256x1024 .bf16 from iblk11 V c 5 t) (ix2 r l)
      = (show FVec Ideal S4096x13312 .bf16 from V c (Pipeline.arrRef spec11 5)) (ix2 ⟨t.val * 256 + r.val, by omega⟩ ⟨11264 + l.val, by omega⟩) := by
    blk_ext [iblk11, k11_idx t]
  exact e.trans (h _ _)
theorem k11_b6 {M : Mat} (h : Hm (a := 4096) (b := 13312) (φ := .bf16) (V c (Pipeline.arrRef spec11 6)) M) (t : Fin cfg11.N) :
    Hm (a := 256) (b := 1024) (φ := .bf16) (iblk11 V c 6 t) (fun r l => M (t.val * 256 + r) (12288 + l)) := fun r l => by
  have ht := k11_lt t
  have e : (show FVec Ideal S256x1024 .bf16 from iblk11 V c 6 t) (ix2 r l)
      = (show FVec Ideal S4096x13312 .bf16 from V c (Pipeline.arrRef spec11 6)) (ix2 ⟨t.val * 256 + r.val, by omega⟩ ⟨12288 + l.val, by omega⟩) := by
    blk_ext [iblk11, k11_idx t]
  exact e.trans (h _ _)
theorem k11_b7 {M : Mat} (h : Hm (a := 1024) (b := 1024) (φ := .bf16) (V c (Pipeline.arrRef spec11 7)) M) (t : Fin cfg11.N) :
    Hm (a := 1024) (b := 1024) (φ := .bf16) (iblk11 V c 7 t) (fun r l => M (r) (l)) := fun r l => by
  have ht := k11_lt t
  have e : (show FVec Ideal S1024x1024 .bf16 from iblk11 V c 7 t) (ix2 r l)
      = (show FVec Ideal S1024x1024 .bf16 from V c (Pipeline.arrRef spec11 7)) (ix2 ⟨r.val, by omega⟩ ⟨l.val, by omega⟩) := by
    blk_ext [iblk11, k11_idx t]
  exact e.trans (h _ _)
theorem k11_b8 {M : Mat} (h : Hm (a := 512) (b := 1024) (φ := .bf16) (V c (Pipeline.arrRef spec11 8)) M) (t : Fin cfg11.N) :
    Hm (a := 512) (b := 1024) (φ := .bf16) (iblk11 V c 8 t) (fun r l => M (r) (l)) := fun r l => by
  have ht := k11_lt t
  have e : (show FVec Ideal S512x1024 .bf16 from iblk11 V c 8 t) (ix2 r l)
      = (show FVec Ideal S512x1024 .bf16 from V c (Pipeline.arrRef spec11 8)) (ix2 ⟨r.val, by omega⟩ ⟨l.val, by omega⟩) := by
    blk_ext [iblk11, k11_idx t]
  exact e.trans (h _ _)
theorem k11_b9 {M : Mat} (h : Hm (a := 512) (b := 1024) (φ := .bf16) (V c (Pipeline.arrRef spec11 9)) M) (t : Fin cfg11.N) :
    Hm (a := 512) (b := 1024) (φ := .bf16) (iblk11 V c 9 t) (fun r l => M (r) (l)) := fun r l => by
  have ht := k11_lt t
  have e : (show FVec Ideal S512x1024 .bf16 from iblk11 V c 9 t) (ix2 r l)
      = (show FVec Ideal S512x1024 .bf16 from V c (Pipeline.arrRef spec11 9)) (ix2 ⟨r.val, by omega⟩ ⟨l.val, by omega⟩) := by
    blk_ext [iblk11, k11_idx t]
  exact e.trans (h _ _)

variable {M0 M1 M2 M3 M4 M5 M6 M7 M8 M9 : Mat}
  (h0 : Hm (a := 4096) (b := 1024) (φ := .f32) (V c (Pipeline.arrRef spec11 0)) M0)
  (h1 : Hm (a := 4096) (b := 1024) (φ := .bf16) (V c (Pipeline.arrRef spec11 1)) M1)
  (h2 : Hm (a := 4096) (b := 512) (φ := .bf16) (V c (Pipeline.arrRef spec11 2)) M2)
  (h3 : Hm (a := 4096) (b := 512) (φ := .bf16) (V c (Pipeline.arrRef spec11 3)) M3)
  (h4 : Hm (a := 4096) (b := 13312) (φ := .bf16) (V c (Pipeline.arrRef spec11 4)) M4)
  (h5 : Hm (a := 4096) (b := 13312) (φ := .bf16) (V c (Pipeline.arrRef spec11 5)) M5)
  (h6 : Hm (a := 4096) (b := 13312) (φ := .bf16) (V c (Pipeline.arrRef spec11 6)) M6)
  (h7 : Hm (a := 1024) (b := 1024) (φ := .bf16) (V c (Pipeline.arrRef spec11 7)) M7)
  (h8 : Hm (a := 512) (b := 1024) (φ := .bf16) (V c (Pipeline.arrRef spec11 8)) M8)
  (h9 : Hm (a := 512) (b := 1024) (φ := .bf16) (V c (Pipeline.arrRef spec11 9)) M9)

include h0 h1 h2 h3 h4 h5 h6 h7 h8 h9 in
theorem k11_s10 (t : Fin cfg11.N) : Hm (a := 256) (b := 3072) (φ := .bf16) (out11_10 (F := Ideal) (iblk11 V c 0 t) (iblk11 V c 1 t) (iblk11 V c 2 t)
      (iblk11 V c 3 t) (iblk11 V c 4 t) (iblk11 V c 5 t) (iblk11 V c 6 t) (iblk11 V c 7 t) (iblk11 V c 8 t) (iblk11 V c 9 t))
    (fun r l => (three (dgate M0 (nn 1024 M1 M7) (sh 10240 M4)) (dgate M0 (nn 512 M2 M8) (sh 11264 M5)) (dgate M0 (nn 512 M3 M9) (sh 12288 M6))) (t.val * 256 + r) l) := fun r l => by
  unfold_out out11_10
  have g0 := h0
  have g1 := h1
  have g2 := h2
  have g3 := h3
  have g4 := h4
  have g5 := h5
  have g6 := h6
  have g7 := h7
  have g8 := h8
  have g9 := h9
  clear h0 h1 h2 h3 h4 h5 h6 h7 h8 h9
  canon_tiles x h using cover11_10 (F := Ideal) ..
  all_goals frame_out
  · obtain ⟨p, q, rfl⟩ : ∃ (p : Fin 256) (q : Fin 1024), x = ix2 p q := ⟨x 0, x 1, eq_ix2 x⟩
    have hr : r.val = p.val := h0
    have hl : l.val = 2048 + q.val := h1
    rw [hr, hl, three_2 _ _ _ _ _ q.isLt]
    exact k11_p13 (k11_p1 (k11_b0 g0 t)) (k11_b6 g6 t) (k11_b3 g3 t) (k11_b9 g9 t) p q
  · obtain ⟨p, q, rfl⟩ : ∃ (p : Fin 256) (q : Fin 1024), x = ix2 p q := ⟨x 0, x 1, eq_ix2 x⟩
    have hr : r.val = p.val := h0
    have hl : l.val = 1024 + q.val := h1
    rw [hr, hl, three_1 _ _ _ _ _ q.isLt]
    exact k11_p9 (k11_b0 g0 t) (k11_b5 g5 t) (k11_b2 g2 t) (k11_b8 g8 t) p q
  · obtain ⟨p, q, rfl⟩ : ∃ (p : Fin 256) (q : Fin 1024), x = ix2 p q := ⟨x 0, x 1, eq_ix2 x⟩
    have hr : r.val = p.val := h0
    have hl : l.val = q.val := h1
    rw [hr, hl, three_0 _ _ _ _ _ q.isLt]
    exact k11_p4 (k11_b0 g0 t) (k11_b4 g4 t) (k11_b1 g1 t) (k11_b7 g7 t) p q
include h0 h1 h2 h3 h4 h5 h6 h7 h8 h9 in
theorem k11_o10 : Hm (a := 4096) (b := 3072) (φ := .bf16) ((dat11 V c).arrAt 10 cfg11.N) (three (dgate M0 (nn 1024 M1 M7) (sh 10240 M4)) (dgate M0 (nn 512 M2 M8) (sh 11264 M5)) (dgate M0 (nn 512 M3 M9) (sh 12288 M6))) := by
  have e : (dat11 V c).arrAt 10 cfg11.N = fun i => (((three (dgate M0 (nn 1024 M1 M7) (sh 10240 M4)) (dgate M0 (nn 512 M2 M8) (sh 11264 M5)) (dgate M0 (nn 512 M3 M9) (sh 12288 M6))) (i 0).val (i 1).val : ℝ) : EReal) := by
    refine (dat11 V c).arrAt_eq_of_covers 10 _ (by decide +kernel) fun t hf y => ?_
    blk_simp
    rw [after11_10]
    idx_vars y
    refine (k11_s10 h0 h1 h2 h3 h4 h5 h6 h7 h8 h9 t _ _).trans (congrArg (fun x : ℝ => (x : EReal)) ?_)
    blk_simp [k11_idx t]
  exact fun r l => congrFun e (ix2 r l)

include h0 h4 in
theorem k11_o11 : Hm (a := 4096) (b := 1024) (φ := .bf16) ((dat11 V c).arrAt 11 cfg11.N) (dz M0 (sh 10240 M4)) := by
  have e : (dat11 V c).arrAt 11 cfg11.N = fun i => (((dz M0 (sh 10240 M4)) (i 0).val (i 1).val : ℝ) : EReal) := by
    refine (dat11 V c).arrAt_eq_of_covers 11 _ (by decide +kernel) fun t hf y => ?_
    blk_simp
    rw [after11_11]
    idx_vars y
    unfold_out out11_11
    frame_out
    refine (k11_p3 (k11_b0 h0 t) (k11_b4 h4 t) _ _).trans (congrArg (fun x : ℝ => (x : EReal)) ?_)
    blk_simp [k11_idx t]
    rfl
  exact fun r l => congrFun e (ix2 r l)

include h0 h4 h7 in
theorem k11_o12 : Hm (a := 4096) (b := 1024) (φ := .f32) ((dat11 V c).arrAt 12 cfg11.N) (nt 1024 (dz M0 (sh 10240 M4)) M7) := by
  have e : (dat11 V c).arrAt 12 cfg11.N = fun i => (((nt 1024 (dz M0 (sh 10240 M4)) M7) (i 0).val (i 1).val : ℝ) : EReal) := by
    refine (dat11 V c).arrAt_eq_of_covers 12 _ (by decide +kernel) fun t hf y => ?_
    blk_simp
    rw [after11_12]
    idx_vars y
    unfold_out out11_12
    frame_out
    refine (k11_p5 (k11_b0 h0 t) (k11_b4 h4 t) (k11_b7 h7 t) _ _).trans (congrArg (fun x : ℝ => (x : EReal)) ?_)
    blk_simp [k11_idx t]
    rfl
  exact fun r l => congrFun e (ix2 r l)

include h0 h5 in
theorem k11_o13 : Hm (a := 4096) (b := 1024) (φ := .bf16) ((dat11 V c).arrAt 13 cfg11.N) (dz M0 (sh 11264 M5)) := by
  have e : (dat11 V c).arrAt 13 cfg11.N = fun i => (((dz M0 (sh 11264 M5)) (i 0).val (i 1).val : ℝ) : EReal) := by
    refine (dat11 V c).arrAt_eq_of_covers 13 _ (by decide +kernel) fun t hf y => ?_
    blk_simp
    rw [after11_13]
    idx_vars y
    unfold_out out11_13
    frame_out
    refine (k11_p7 (k11_b0 h0 t) (k11_b5 h5 t) _ _).trans (congrArg (fun x : ℝ => (x : EReal)) ?_)
    blk_simp [k11_idx t]
    rfl
  exact fun r l => congrFun e (ix2 r l)

include h0 h5 h8 in
theorem k11_o14 : Hm (a := 4096) (b := 512) (φ := .f32) ((dat11 V c).arrAt 14 cfg11.N) (nt 1024 (dz M0 (sh 11264 M5)) M8) := by
  have e : (dat11 V c).arrAt 14 cfg11.N = fun i => (((nt 1024 (dz M0 (sh 11264 M5)) M8) (i 0).val (i 1).val : ℝ) : EReal) := by
    refine (dat11 V c).arrAt_eq_of_covers 14 _ (by decide +kernel) fun t hf y => ?_
    blk_simp
    rw [after11_14]
    idx_vars y
    unfold_out out11_14
    frame_out
    refine (k11_p10 (k11_p7 (k11_b0 h0 t) (k11_b5 h5 t)) (k11_b8 h8 t) _ _).trans (congrArg (fun x : ℝ => (x : EReal)) ?_)
    blk_simp [k11_idx t]
    rfl
  exact fun r l => congrFun e (ix2 r l)

include h0 h6 in
theorem k11_o15 : Hm (a := 4096) (b := 1024) (φ := .bf16) ((dat11 V c).arrAt 15 cfg11.N) (dz M0 (sh 12288 M6)) := by
  have e : (dat11 V c).arrAt 15 cfg11.N = fun i => (((dz M0 (sh 12288 M6)) (i 0).val (i 1).val : ℝ) : EReal) := by
    refine (dat11 V c).arrAt_eq_of_covers 15 _ (by decide +kernel) fun t hf y => ?_
    blk_simp
    rw [after11_15]
    idx_vars y
    unfold_out out11_15
    frame_out
    refine (k11_p12 (k11_p1 (k11_b0 h0 t)) (k11_b6 h6 t) _ _).trans (congrArg (fun x : ℝ => (x : EReal)) ?_)
    blk_simp [k11_idx t]
    rfl
  exact fun r l => congrFun e (ix2 r l)

include h0 h6 h9 in
theorem k11_o16 : Hm (a := 4096) (b := 512) (φ := .f32) ((dat11 V c).arrAt 16 cfg11.N) (nt 1024 (dz M0 (sh 12288 M6)) M9) := by
  have e : (dat11 V c).arrAt 16 cfg11.N = fun i => (((nt 1024 (dz M0 (sh 12288 M6)) M9) (i 0).val (i 1).val : ℝ) : EReal) := by
    refine (dat11 V c).arrAt_eq_of_covers 16 _ (by decide +kernel) fun t hf y => ?_
    blk_simp
    rw [after11_16]
    idx_vars y
    unfold_out out11_16
    frame_out
    refine (k11_p14 (k11_p1 (k11_b0 h0 t)) (k11_b6 h6 t) (k11_b9 h9 t) _ _).trans (congrArg (fun x : ℝ => (x : EReal)) ?_)
    blk_simp [k11_idx t]
    rfl
  exact fun r l => congrFun e (ix2 r l)
end

end Cert.Kernel2Ideal.Tail

end
-- ==== Proof.TailChain.lean ====
/- What every array of the tail of the layer holds at the end of the run, over the reals: the calls in their order, each from
   what the calls before it left. -/
module

public import proofs.«01_k».proof.Proof.Gen.Kernel2Ideal.Frame.Fold0
public import proofs.«01_k».proof.Proof.TailModel
public import proofs.«01_k».proof.Proof.TailFwd
public import proofs.«01_k».proof.Proof.TailFfn
public import proofs.«01_k».proof.Proof.TailNorm
public import proofs.«01_k».proof.Proof.TailMix
public import proofs.«01_k».proof.Proof.TailGate

@[expose] public section

set_option maxRecDepth 16384

noncomputable section

open Idealize.ShloMosaic Idealize.ShloMosaic.TcCoe Idealize.SL.Sem

namespace Cert.Tail
theorem Hm.of_eq {a b : ℕ} {φ : FTy} {x y : FVec Ideal ⟨2, ![a, b]⟩ φ} {M : Mat} (e : x = y) (h : Hm y M) : Hm x M := e ▸ h
end Cert.Tail

namespace Cert.Kernel2Ideal.Chain
open Cert.Kernel2Ideal Cert.Kernel2Ideal.Gen Cert.Tail

variable (m : (ℓ : Loc nD τ sig) → Buf (Elt Ideal) ℓ) (ρ : Dev nD → PrngReg) (c : Dev nD) {A : ℕ → Mat}
  (h0 : Hm (a := 4096) (b := 1024) (φ := .bf16) (m ((c : Thread nD τ).loc main_arg0)) (A 0))
  (h1 : Hm (a := 4096) (b := 512) (φ := .bf16) (m ((c : Thread nD τ).loc main_arg1)) (A 1))
  (h2 : Hm (a := 4096) (b := 512) (φ := .bf16) (m ((c : Thread nD τ).loc main_arg2)) (A 2))
  (h3 : Hm (a := 4096) (b := 13312) (φ := .bf16) (m ((c : Thread nD τ).loc main_arg3)) (A 3))
  (h4 : Hm (a := 1024) (b := 1024) (φ := .bf16) (m ((c : Thread nD τ).loc main_arg4)) (A 4))
  (h5 : Hm (a := 512) (b := 1024) (φ := .bf16) (m ((c : Thread nD τ).loc main_arg5)) (A 5))
  (h6 : Hm (a := 512) (b := 1024) (φ := .bf16) (m ((c : Thread nD τ).loc main_arg6)) (A 6))
  (h7 : Hm (a := 1024) (b := 1024) (φ := .bf16) (m ((c : Thread nD τ).loc main_arg7)) (A 7))
  (h8 : Hm (a := 4096) (b := 1024) (φ := .f32) (m ((c : Thread nD τ).loc main_arg8)) (A 8))
  (h9 : Hm (a := 1) (b := 1024) (φ := .f32) (m ((c : Thread nD τ).loc main_arg9)) (A 9))
  (h10 : Hm (a := 1024) (b := 5632) (φ := .bf16) (m ((c : Thread nD τ).loc main_arg10)) (A 10))
  (h11 : Hm (a := 2816) (b := 1024) (φ := .bf16) (m ((c : Thread nD τ).loc main_arg11)) (A 11))
  (h12 : Hm (a := 4096) (b := 1024) (φ := .f32) (m ((c : Thread nD τ).loc main_arg12)) (A 12))
include h0 h1 h2 h3 h4 h5 h6 h7 h8 h9 h10 h11 h12

theorem q1_v0 : Hm (a := 4096) (b := 1024) (φ := .bf16) (W1 m ρ c (Proc.devRef .tc main_v0)) (mg A) :=
  Hm.of_eq (W1_arr m ρ c 9) (Tail.k0_o9 (V := V0 m ρ) (c := c)
    (Hm.of_eq (W0_args m ρ c main_arg0 (by decide)) h0)
    (Hm.of_eq (W0_args m ρ c main_arg1 (by decide)) h1)
    (Hm.of_eq (W0_args m ρ c main_arg2 (by decide)) h2)
    (Hm.of_eq (W0_args m ρ c main_arg3 (by decide)) h3)
    (Hm.of_eq (W0_args m ρ c main_arg3 (by decide)) h3)
    (Hm.of_eq (W0_args m ρ c main_arg3 (by decide)) h3)
    (Hm.of_eq (W0_args m ρ c main_arg4 (by decide)) h4)
    (Hm.of_eq (W0_args m ρ c main_arg5 (by decide)) h5)
    (Hm.of_eq (W0_args m ρ c main_arg6 (by decide)) h6))

theorem q2_v1_0 : Hm (a := 4096) (b := 1024) (φ := .f32) (W2 m ρ c (Proc.devRef .tc main_v1_0)) (xr A) :=
  Hm.of_eq (W2_arr m ρ c 4) (Tail.k1_o4 (V := V1 m ρ) (c := c)
    (q1_v0 m ρ c h0 h1 h2 h3 h4 h5 h6 h7 h8 h9 h10 h11 h12)
    (Hm.of_eq (W1_args m ρ c main_arg7 (by decide)) h7)
    (Hm.of_eq (W1_args m ρ c main_arg8 (by decide)) h8))

theorem q2_v1_1 : Hm (a := 4096) (b := 1024) (φ := .bf16) (W2 m ρ c (Proc.devRef .tc main_v1_1)) (hn A) :=
  Hm.of_eq (W2_arr m ρ c 5) (Tail.k1_o5 (V := V1 m ρ) (c := c)
    (q1_v0 m ρ c h0 h1 h2 h3 h4 h5 h6 h7 h8 h9 h10 h11 h12)
    (Hm.of_eq (W1_args m ρ c main_arg7 (by decide)) h7)
    (Hm.of_eq (W1_args m ρ c main_arg8 (by decide)) h8)
    (Hm.of_eq (W1_args m ρ c main_arg9 (by decide)) h9))

theorem q3_v2_0 : Hm (a := 4096) (b := 2816) (φ := .bf16) (W3 m ρ c (Proc.devRef .tc main_v2_0)) (fa A) :=
  Hm.of_eq (W3_arr m ρ c 3) (Tail.k2_o3 (V := V2 m ρ) (c := c)
    (q2_v1_1 m ρ c h0 h1 h2 h3 h4 h5 h6 h7 h8 h9 h10 h11 h12)
    (Hm.of_eq (W2_args m ρ c main_arg10 (by decide)) h10))

theorem q3_v2_1 : Hm (a := 4096) (b := 2816) (φ := .bf16) (W3 m ρ c (Proc.devRef .tc main_v2_1)) (fb A) :=
  Hm.of_eq (W3_arr m ρ c 4) (Tail.k2_o4 (V := V2 m ρ) (c := c)
    (q2_v1_1 m ρ c h0 h1 h2 h3 h4 h5 h6 h7 h8 h9 h10 h11 h12)
    (Hm.of_eq (W2_args m ρ c main_arg10 (by decide)) h10))

theorem q3_v2_2 : Hm (a := 4096) (b := 2816) (φ := .bf16) (W3 m ρ c (Proc.devRef .tc main_v2_2)) (fu A) :=
  Hm.of_eq (W3_arr m ρ c 5) (Tail.k2_o5 (V := V2 m ρ) (c := c)
    (q2_v1_1 m ρ c h0 h1 h2 h3 h4 h5 h6 h7 h8 h9 h10 h11 h12)
    (Hm.of_eq (W2_args m ρ c main_arg10 (by decide)) h10)
    (Hm.of_eq (W2_args m ρ c main_arg10 (by decide)) h10))

theorem q4_v3 : Hm (a := 4096) (b := 1024) (φ := .bf16) (W4 m ρ c (Proc.devRef .tc main_v3)) (A 12) := fun r l => by
  have e : (show FVec Ideal S4096x1024 .bf16 from W4 m ρ c (Proc.devRef .tc main_v3)) = truncf .bf16 (show FVec Ideal S4096x1024 .f32 from W3 m ρ c (Proc.devRef .tc main_arg12)) bitsLt_bf16_f32 := rfl
  have h := (Hm.of_eq (W3_args m ρ c main_arg12 (by decide)) h12)
  refine (congrFun e (ix2 r l)).trans ?_
  exact h r l

theorem q4_v2_2 : Hm (a := 4096) (b := 2816) (φ := .bf16) (W4 m ρ c (Proc.devRef .tc main_v2_2)) (fu A) :=
  Hm.of_eq (W4_of m ρ c main_v2_2 (by decide)) (q3_v2_2 m ρ c h0 h1 h2 h3 h4 h5 h6 h7 h8 h9 h10 h11 h12)

theorem q5_v4_0 : Hm (a := 2816) (b := 1024) (φ := .f32) (W5 m ρ c (Proc.devRef .tc main_v4_0)) (gfo A) :=
  Hm.of_eq (W5_arr m ρ c 2) (Tail.k3_o2 (V := V4 m ρ) (c := c)
    (q4_v2_2 m ρ c h0 h1 h2 h3 h4 h5 h6 h7 h8 h9 h10 h11 h12)
    (q4_v3 m ρ c h0 h1 h2 h3 h4 h5 h6 h7 h8 h9 h10 h11 h12))

theorem q5_v4_1 : Hm (a := 2816) (b := 1024) (φ := .bf16) (W5 m ρ c (Proc.devRef .tc main_v4_1)) (gfo A) :=
  Hm.of_eq (W5_arr m ρ c 3) (Tail.k3_o3 (V := V4 m ρ) (c := c)
    (q4_v2_2 m ρ c h0 h1 h2 h3 h4 h5 h6 h7 h8 h9 h10 h11 h12)
    (q4_v3 m ρ c h0 h1 h2 h3 h4 h5 h6 h7 h8 h9 h10 h11 h12))

theorem q5_v3 : Hm (a := 4096) (b := 1024) (φ := .bf16) (W5 m ρ c (Proc.devRef .tc main_v3)) (A 12) :=
  Hm.of_eq (W5_of m ρ c main_v3 (by decide +kernel)) (q4_v3 m ρ c h0 h1 h2 h3 h4 h5 h6 h7 h8 h9 h10 h11 h12)

theorem q4_v2_0 : Hm (a := 4096) (b := 2816) (φ := .bf16) (W4 m ρ c (Proc.devRef .tc main_v2_0)) (fa A) :=
  Hm.of_eq (W4_of m ρ c main_v2_0 (by decide)) (q3_v2_0 m ρ c h0 h1 h2 h3 h4 h5 h6 h7 h8 h9 h10 h11 h12)

theorem q5_v2_0 : Hm (a := 4096) (b := 2816) (φ := .bf16) (W5 m ρ c (Proc.devRef .tc main_v2_0)) (fa A) :=
  Hm.of_eq (W5_of m ρ c main_v2_0 (by decide +kernel)) (q4_v2_0 m ρ c h0 h1 h2 h3 h4 h5 h6 h7 h8 h9 h10 h11 h12)

theorem q4_v2_1 : Hm (a := 4096) (b := 2816) (φ := .bf16) (W4 m ρ c (Proc.devRef .tc main_v2_1)) (fb A) :=
  Hm.of_eq (W4_of m ρ c main_v2_1 (by decide)) (q3_v2_1 m ρ c h0 h1 h2 h3 h4 h5 h6 h7 h8 h9 h10 h11 h12)

theorem q5_v2_1 : Hm (a := 4096) (b := 2816) (φ := .bf16) (W5 m ρ c (Proc.devRef .tc main_v2_1)) (fb A) :=
  Hm.of_eq (W5_of m ρ c main_v2_1 (by decide +kernel)) (q4_v2_1 m ρ c h0 h1 h2 h3 h4 h5 h6 h7 h8 h9 h10 h11 h12)

theorem q6_v5_0 : Hm (a := 4096) (b := 2816) (φ := .bf16) (W6 m ρ c (Proc.devRef .tc main_v5_0)) (da A) :=
  Hm.of_eq (W6_arr m ρ c 4) (Tail.k4_o4 (V := V5 m ρ) (c := c)
    (q5_v3 m ρ c h0 h1 h2 h3 h4 h5 h6 h7 h8 h9 h10 h11 h12)
    (Hm.of_eq (W5_args m ρ c main_arg11 (by decide)) h11)
    (q5_v2_0 m ρ c h0 h1 h2 h3 h4 h5 h6 h7 h8 h9 h10 h11 h12)
    (q5_v2_1 m ρ c h0 h1 h2 h3 h4 h5 h6 h7 h8 h9 h10 h11 h12))

theorem q6_v5_1 : Hm (a := 4096) (b := 2816) (φ := .bf16) (W6 m ρ c (Proc.devRef .tc main_v5_1)) (db A) :=
  Hm.of_eq (W6_arr m ρ c 5) (Tail.k4_o5 (V := V5 m ρ) (c := c)
    (q5_v3 m ρ c h0 h1 h2 h3 h4 h5 h6 h7 h8 h9 h10 h11 h12)
    (Hm.of_eq (W5_args m ρ c main_arg11 (by decide)) h11)
    (q5_v2_0 m ρ c h0 h1 h2 h3 h4 h5 h6 h7 h8 h9 h10 h11 h12))

theorem q3_v1_1 : Hm (a := 4096) (b := 1024) (φ := .bf16) (W3 m ρ c (Proc.devRef .tc main_v1_1)) (hn A) :=
  Hm.of_eq (W3_of m ρ c main_v1_1 (by decide +kernel)) (q2_v1_1 m ρ c h0 h1 h2 h3 h4 h5 h6 h7 h8 h9 h10 h11 h12)

theorem q4_v1_1 : Hm (a := 4096) (b := 1024) (φ := .bf16) (W4 m ρ c (Proc.devRef .tc main_v1_1)) (hn A) :=
  Hm.of_eq (W4_of m ρ c main_v1_1 (by decide)) (q3_v1_1 m ρ c h0 h1 h2 h3 h4 h5 h6 h7 h8 h9 h10 h11 h12)

theorem q5_v1_1 : Hm (a := 4096) (b := 1024) (φ := .bf16) (W5 m ρ c (Proc.devRef .tc main_v1_1)) (hn A) :=
  Hm.of_eq (W5_of m ρ c main_v1_1 (by decide +kernel)) (q4_v1_1 m ρ c h0 h1 h2 h3 h4 h5 h6 h7 h8 h9 h10 h11 h12)

theorem q6_v1_1 : Hm (a := 4096) (b := 1024) (φ := .bf16) (W6 m ρ c (Proc.devRef .tc main_v1_1)) (hn A) :=
  Hm.of_eq (W6_of m ρ c main_v1_1 (by decide +kernel)) (q5_v1_1 m ρ c h0 h1 h2 h3 h4 h5 h6 h7 h8 h9 h10 h11 h12)

theorem q7_v6_0 : Hm (a := 1024) (b := 2816) (φ := .f32) (W7 m ρ c (Proc.devRef .tc main_v6_0)) (gfa A) :=
  Hm.of_eq (W7_arr m ρ c 2) (Tail.k5_o2 (V := V6 m ρ) (c := c)
    (q6_v1_1 m ρ c h0 h1 h2 h3 h4 h5 h6 h7 h8 h9 h10 h11 h12)
    (q6_v5_0 m ρ c h0 h1 h2 h3 h4 h5 h6 h7 h8 h9 h10 h11 h12))

theorem q7_v6_1 : Hm (a := 1024) (b := 2816) (φ := .bf16) (W7 m ρ c (Proc.devRef .tc main_v6_1)) (gfa A) :=
  Hm.of_eq (W7_arr m ρ c 3) (Tail.k5_o3 (V := V6 m ρ) (c := c)
    (q6_v1_1 m ρ c h0 h1 h2 h3 h4 h5 h6 h7 h8 h9 h10 h11 h12)
    (q6_v5_0 m ρ c h0 h1 h2 h3 h4 h5 h6 h7 h8 h9 h10 h11 h12))

theorem q7_v1_1 : Hm (a := 4096) (b := 1024) (φ := .bf16) (W7 m ρ c (Proc.devRef .tc main_v1_1)) (hn A) :=
  Hm.of_eq (W7_of m ρ c main_v1_1 (by decide +kernel)) (q6_v1_1 m ρ c h0 h1 h2 h3 h4 h5 h6 h7 h8 h9 h10 h11 h12)

theorem q7_v5_1 : Hm (a := 4096) (b := 2816) (φ := .bf16) (W7 m ρ c (Proc.devRef .tc main_v5_1)) (db A) :=
  Hm.of_eq (W7_of m ρ c main_v5_1 (by decide +kernel)) (q6_v5_1 m ρ c h0 h1 h2 h3 h4 h5 h6 h7 h8 h9 h10 h11 h12)

theorem q8_v7_0 : Hm (a := 1024) (b := 2816) (φ := .f32) (W8 m ρ c (Proc.devRef .tc main_v7_0)) (gfb A) :=
  Hm.of_eq (W8_arr m ρ c 2) (Tail.k6_o2 (V := V7 m ρ) (c := c)
    (q7_v1_1 m ρ c h0 h1 h2 h3 h4 h5 h6 h7 h8 h9 h10 h11 h12)
    (q7_v5_1 m ρ c h0 h1 h2 h3 h4 h5 h6 h7 h8 h9 h10 h11 h12))

theorem q8_v7_1 : Hm (a := 1024) (b := 2816) (φ := .bf16) (W8 m ρ c (Proc.devRef .tc main_v7_1)) (gfb A) :=
  Hm.of_eq (W8_arr m ρ c 3) (Tail.k6_o3 (V := V7 m ρ) (c := c)
    (q7_v1_1 m ρ c h0 h1 h2 h3 h4 h5 h6 h7 h8 h9 h10 h11 h12)
    (q7_v5_1 m ρ c h0 h1 h2 h3 h4 h5 h6 h7 h8 h9 h10 h11 h12))

theorem q7_v5_0 : Hm (a := 4096) (b := 2816) (φ := .bf16) (W7 m ρ c (Proc.devRef .tc main_v5_0)) (da A) :=
  Hm.of_eq (W7_of m ρ c main_v5_0 (by decide +kernel)) (q6_v5_0 m ρ c h0 h1 h2 h3 h4 h5 h6 h7 h8 h9 h10 h11 h12)

theorem q8_v5_0 : Hm (a := 4096) (b := 2816) (φ := .bf16) (W8 m ρ c (Proc.devRef .tc main_v5_0)) (da A) :=
  Hm.of_eq (W8_of m ρ c main_v5_0 (by decide +kernel)) (q7_v5_0 m ρ c h0 h1 h2 h3 h4 h5 h6 h7 h8 h9 h10 h11 h12)

theorem q8_v5_1 : Hm (a := 4096) (b := 2816) (φ := .bf16) (W8 m ρ c (Proc.devRef .tc main_v5_1)) (db A) :=
  Hm.of_eq (W8_of m ρ c main_v5_1 (by decide +kernel)) (q7_v5_1 m ρ c h0 h1 h2 h3 h4 h5 h6 h7 h8 h9 h10 h11 h12)

theorem q9_v8 : Hm (a := 4096) (b := 1024) (φ := .f32) (W9 m ρ c (Proc.devRef .tc main_v8)) (dh A) :=
  Hm.of_eq (W9_arr m ρ c 4) (Tail.k7_o4 (V := V8 m ρ) (c := c)
    (q8_v5_0 m ρ c h0 h1 h2 h3 h4 h5 h6 h7 h8 h9 h10 h11 h12)
    (q8_v5_1 m ρ c h0 h1 h2 h3 h4 h5 h6 h7 h8 h9 h10 h11 h12)
    (Hm.of_eq (W8_args m ρ c main_arg10 (by decide)) h10)
    (Hm.of_eq (W8_args m ρ c main_arg10 (by decide)) h10))

theorem q3_v1_0 : Hm (a := 4096) (b := 1024) (φ := .f32) (W3 m ρ c (Proc.devRef .tc main_v1_0)) (xr A) :=
  Hm.of_eq (W3_of m ρ c main_v1_0 (by decide +kernel)) (q2_v1_0 m ρ c h0 h1 h2 h3 h4 h5 h6 h7 h8 h9 h10 h11 h12)

theorem q4_v1_0 : Hm (a := 4096) (b := 1024) (φ := .f32) (W4 m ρ c (Proc.devRef .tc main_v1_0)) (xr A) :=
  Hm.of_eq (W4_of m ρ c main_v1_0 (by decide)) (q3_v1_0 m ρ c h0 h1 h2 h3 h4 h5 h6 h7 h8 h9 h10 h11 h12)

theorem q5_v1_0 : Hm (a := 4096) (b := 1024) (φ := .f32) (W5 m ρ c (Proc.devRef .tc main_v1_0)) (xr A) :=
  Hm.of_eq (W5_of m ρ c main_v1_0 (by decide +kernel)) (q4_v1_0 m ρ c h0 h1 h2 h3 h4 h5 h6 h7 h8 h9 h10 h11 h12)

theorem q6_v1_0 : Hm (a := 4096) (b := 1024) (φ := .f32) (W6 m ρ c (Proc.devRef .tc main_v1_0)) (xr A) :=
  Hm.of_eq (W6_of m ρ c main_v1_0 (by decide +kernel)) (q5_v1_0 m ρ c h0 h1 h2 h3 h4 h5 h6 h7 h8 h9 h10 h11 h12)

theorem q7_v1_0 : Hm (a := 4096) (b := 1024) (φ := .f32) (W7 m ρ c (Proc.devRef .tc main_v1_0)) (xr A) :=
  Hm.of_eq (W7_of m ρ c main_v1_0 (by decide +kernel)) (q6_v1_0 m ρ c h0 h1 h2 h3 h4 h5 h6 h7 h8 h9 h10 h11 h12)

theorem q8_v1_0 : Hm (a := 4096) (b := 1024) (φ := .f32) (W8 m ρ c (Proc.devRef .tc main_v1_0)) (xr A) :=
  Hm.of_eq (W8_of m ρ c main_v1_0 (by decide +kernel)) (q7_v1_0 m ρ c h0 h1 h2 h3 h4 h5 h6 h7 h8 h9 h10 h11 h12)

theorem q9_v1_0 : Hm (a := 4096) (b := 1024) (φ := .f32) (W9 m ρ c (Proc.devRef .tc main_v1_0)) (xr A) :=
  Hm.of_eq (W9_of m ρ c main_v1_0 (by decide +kernel)) (q8_v1_0 m ρ c h0 h1 h2 h3 h4 h5 h6 h7 h8 h9 h10 h11 h12)

theorem q10_v9_0 : Hm (a := 4096) (b := 1024) (φ := .f32) (W10 m ρ c (Proc.devRef .tc main_v9_0)) (dx A) :=
  Hm.of_eq (W10_arr m ρ c 4) (Tail.k8_o4 (V := V9 m ρ) (c := c)
    (q9_v8 m ρ c h0 h1 h2 h3 h4 h5 h6 h7 h8 h9 h10 h11 h12)
    (q9_v1_0 m ρ c h0 h1 h2 h3 h4 h5 h6 h7 h8 h9 h10 h11 h12)
    (Hm.of_eq (W9_args m ρ c main_arg9 (by decide)) h9)
    (Hm.of_eq (W9_args m ρ c main_arg12 (by decide)) h12))

theorem q10_v9_1 : Hm (a := 4096) (b := 1024) (φ := .bf16) (W10 m ρ c (Proc.devRef .tc main_v9_1)) (dx A) :=
  Hm.of_eq (W10_arr m ρ c 5) (Tail.k8_o5 (V := V9 m ρ) (c := c)
    (q9_v8 m ρ c h0 h1 h2 h3 h4 h5 h6 h7 h8 h9 h10 h11 h12)
    (q9_v1_0 m ρ c h0 h1 h2 h3 h4 h5 h6 h7 h8 h9 h10 h11 h12)
    (Hm.of_eq (W9_args m ρ c main_arg9 (by decide)) h9)
    (Hm.of_eq (W9_args m ρ c main_arg12 (by decide)) h12))

theorem q10_v9_2 : Hm (a := 1) (b := 1024) (φ := .f32) (W10 m ρ c (Proc.devRef .tc main_v9_2)) (gg A) :=
  Hm.of_eq (W10_arr m ρ c 6) (Tail.k8_o6 (V := V9 m ρ) (c := c)
    (q9_v8 m ρ c h0 h1 h2 h3 h4 h5 h6 h7 h8 h9 h10 h11 h12)
    (q9_v1_0 m ρ c h0 h1 h2 h3 h4 h5 h6 h7 h8 h9 h10 h11 h12))

theorem q2_v0 : Hm (a := 4096) (b := 1024) (φ := .bf16) (W2 m ρ c (Proc.devRef .tc main_v0)) (mg A) :=
  Hm.of_eq (W2_of m ρ c main_v0 (by decide +kernel)) (q1_v0 m ρ c h0 h1 h2 h3 h4 h5 h6 h7 h8 h9 h10 h11 h12)

theorem q3_v0 : Hm (a := 4096) (b := 1024) (φ := .bf16) (W3 m ρ c (Proc.devRef .tc main_v0)) (mg A) :=
  Hm.of_eq (W3_of m ρ c main_v0 (by decide +kernel)) (q2_v0 m ρ c h0 h1 h2 h3 h4 h5 h6 h7 h8 h9 h10 h11 h12)

theorem q4_v0 : Hm (a := 4096) (b := 1024) (φ := .bf16) (W4 m ρ c (Proc.devRef .tc main_v0)) (mg A) :=
  Hm.of_eq (W4_of m ρ c main_v0 (by decide)) (q3_v0 m ρ c h0 h1 h2 h3 h4 h5 h6 h7 h8 h9 h10 h11 h12)

theorem q5_v0 : Hm (a := 4096) (b := 1024) (φ := .bf16) (W5 m ρ c (Proc.devRef .tc main_v0)) (mg A) :=
  Hm.of_eq (W5_of m ρ c main_v0 (by decide +kernel)) (q4_v0 m ρ c h0 h1 h2 h3 h4 h5 h6 h7 h8 h9 h10 h11 h12)

theorem q6_v0 : Hm (a := 4096) (b := 1024) (φ := .bf16) (W6 m ρ c (Proc.devRef .tc main_v0)) (mg A) :=
  Hm.of_eq (W6_of m ρ c main_v0 (by decide +kernel)) (q5_v0 m ρ c h0 h1 h2 h3 h4 h5 h6 h7 h8 h9 h10 h11 h12)

theorem q7_v0 : Hm (a := 4096) (b := 1024) (φ := .bf16) (W7 m ρ c (Proc.devRef .tc main_v0)) (mg A) :=
  Hm.of_eq (W7_of m ρ c main_v0 (by decide +kernel)) (q6_v0 m ρ c h0 h1 h2 h3 h4 h5 h6 h7 h8 h9 h10 h11 h12)

theorem q8_v0 : Hm (a := 4096) (b := 1024) (φ := .bf16) (W8 m ρ c (Proc.devRef .tc main_v0)) (mg A) :=
  Hm.of_eq (W8_of m ρ c main_v0 (by decide +kernel)) (q7_v0 m ρ c h0 h1 h2 h3 h4 h5 h6 h7 h8 h9 h10 h11 h12)

theorem q9_v0 : Hm (a := 4096) (b := 1024) (φ := .bf16) (W9 m ρ c (Proc.devRef .tc main_v0)) (mg A) :=
  Hm.of_eq (W9_of m ρ c main_v0 (by decide +kernel)) (q8_v0 m ρ c h0 h1 h2 h3 h4 h5 h6 h7 h8 h9 h10 h11 h12)

theorem q10_v0 : Hm (a := 4096) (b := 1024) (φ := .bf16) (W10 m ρ c (Proc.devRef .tc main_v0)) (mg A) :=
  Hm.of_eq (W10_of m ρ c main_v0 (by decide +kernel)) (q9_v0 m ρ c h0 h1 h2 h3 h4 h5 h6 h7 h8 h9 h10 h11 h12)

theorem q11_v10_0 : Hm (a := 1024) (b := 1024) (φ := .f32) (W11 m ρ c (Proc.devRef .tc main_v10_0)) (go A) :=
  Hm.of_eq (W11_arr m ρ c 2) (Tail.k9_o2 (V := V10 m ρ) (c := c)
    (q10_v0 m ρ c h0 h1 h2 h3 h4 h5 h6 h7 h8 h9 h10 h11 h12)
    (q10_v9_1 m ρ c h0 h1 h2 h3 h4 h5 h6 h7 h8 h9 h10 h11 h12))

theorem q11_v10_1 : Hm (a := 1024) (b := 1024) (φ := .bf16) (W11 m ρ c (Proc.devRef .tc main_v10_1)) (go A) :=
  Hm.of_eq (W11_arr m ρ c 3) (Tail.k9_o3 (V := V10 m ρ) (c := c)
    (q10_v0 m ρ c h0 h1 h2 h3 h4 h5 h6 h7 h8 h9 h10 h11 h12)
    (q10_v9_1 m ρ c h0 h1 h2 h3 h4 h5 h6 h7 h8 h9 h10 h11 h12))

theorem q11_v9_1 : Hm (a := 4096) (b := 1024) (φ := .bf16) (W11 m ρ c (Proc.devRef .tc main_v9_1)) (dx A) :=
  Hm.of_eq (W11_of m ρ c main_v9_1 (by decide +kernel)) (q10_v9_1 m ρ c h0 h1 h2 h3 h4 h5 h6 h7 h8 h9 h10 h11 h12)

theorem q12_v11 : Hm (a := 4096) (b := 1024) (φ := .f32) (W12 m ρ c (Proc.devRef .tc main_v11)) (dm A) :=
  Hm.of_eq (W12_arr m ρ c 2) (Tail.k10_o2 (V := V11 m ρ) (c := c)
    (q11_v9_1 m ρ c h0 h1 h2 h3 h4 h5 h6 h7 h8 h9 h10 h11 h12)
    (Hm.of_eq (W11_args m ρ c main_arg7 (by decide)) h7))

theorem q13_v12_0 : Hm (a := 4096) (b := 3072) (φ := .bf16) (W13 m ρ c (Proc.devRef .tc main_v12_0)) (dg A) :=
  Hm.of_eq (W13_arr m ρ c 10) (Tail.k11_o10 (V := V12 m ρ) (c := c)
    (q12_v11 m ρ c h0 h1 h2 h3 h4 h5 h6 h7 h8 h9 h10 h11 h12)
    (Hm.of_eq (W12_args m ρ c main_arg0 (by decide)) h0)
    (Hm.of_eq (W12_args m ρ c main_arg1 (by decide)) h1)
    (Hm.of_eq (W12_args m ρ c main_arg2 (by decide)) h2)
    (Hm.of_eq (W12_args m ρ c main_arg3 (by decide)) h3)
    (Hm.of_eq (W12_args m ρ c main_arg3 (by decide)) h3)
    (Hm.of_eq (W12_args m ρ c main_arg3 (by decide)) h3)
    (Hm.of_eq (W12_args m ρ c main_arg4 (by decide)) h4)
    (Hm.of_eq (W12_args m ρ c main_arg5 (by decide)) h5)
    (Hm.of_eq (W12_args m ρ c main_arg6 (by decide)) h6))

theorem q13_v12_1 : Hm (a := 4096) (b := 1024) (φ := .bf16) (W13 m ρ c (Proc.devRef .tc main_v12_1)) (zh A) :=
  Hm.of_eq (W13_arr m ρ c 11) (Tail.k11_o11 (V := V12 m ρ) (c := c)
    (q12_v11 m ρ c h0 h1 h2 h3 h4 h5 h6 h7 h8 h9 h10 h11 h12)
    (Hm.of_eq (W12_args m ρ c main_arg3 (by decide)) h3))

theorem q13_v12_2 : Hm (a := 4096) (b := 1024) (φ := .f32) (W13 m ρ c (Proc.devRef .tc main_v12_2)) (oh A) :=
  Hm.of_eq (W13_arr m ρ c 12) (Tail.k11_o12 (V := V12 m ρ) (c := c)
    (q12_v11 m ρ c h0 h1 h2 h3 h4 h5 h6 h7 h8 h9 h10 h11 h12)
    (Hm.of_eq (W12_args m ρ c main_arg3 (by decide)) h3)
    (Hm.of_eq (W12_args m ρ c main_arg4 (by decide)) h4))

theorem q13_v12_3 : Hm (a := 4096) (b := 1024) (φ := .bf16) (W13 m ρ c (Proc.devRef .tc main_v12_3)) (zd A) :=
  Hm.of_eq (W13_arr m ρ c 13) (Tail.k11_o13 (V := V12 m ρ) (c := c)
    (q12_v11 m ρ c h0 h1 h2 h3 h4 h5 h6 h7 h8 h9 h10 h11 h12)
    (Hm.of_eq (W12_args m ρ c main_arg3 (by decide)) h3))

theorem q13_v12_4 : Hm (a := 4096) (b := 512) (φ := .f32) (W13 m ρ c (Proc.devRef .tc main_v12_4)) (od A) :=
  Hm.of_eq (W13_arr m ρ c 14) (Tail.k11_o14 (V := V12 m ρ) (c := c)
    (q12_v11 m ρ c h0 h1 h2 h3 h4 h5 h6 h7 h8 h9 h10 h11 h12)
    (Hm.of_eq (W12_args m ρ c main_arg3 (by decide)) h3)
    (Hm.of_eq (W12_args m ρ c main_arg5 (by decide)) h5))

theorem q13_v12_5 : Hm (a := 4096) (b := 1024) (φ := .bf16) (W13 m ρ c (Proc.devRef .tc main_v12_5)) (zm A) :=
  Hm.of_eq (W13_arr m ρ c 15) (Tail.k11_o15 (V := V12 m ρ) (c := c)
    (q12_v11 m ρ c h0 h1 h2 h3 h4 h5 h6 h7 h8 h9 h10 h11 h12)
    (Hm.of_eq (W12_args m ρ c main_arg3 (by decide)) h3))

theorem q13_v12_6 : Hm (a := 4096) (b := 512) (φ := .f32) (W13 m ρ c (Proc.devRef .tc main_v12_6)) (om A) :=
  Hm.of_eq (W13_arr m ρ c 16) (Tail.k11_o16 (V := V12 m ρ) (c := c)
    (q12_v11 m ρ c h0 h1 h2 h3 h4 h5 h6 h7 h8 h9 h10 h11 h12)
    (Hm.of_eq (W12_args m ρ c main_arg3 (by decide)) h3)
    (Hm.of_eq (W12_args m ρ c main_arg6 (by decide)) h6))

theorem q14_v13_0 : Hm (a := 1024) (b := 1024) (φ := .f32) (W14 m ρ c (Proc.devRef .tc main_v13_0)) (ph A) :=
  Hm.of_eq (W14_arr m ρ c 2) (Tail.k12_o2 (V := V13 m ρ) (c := c)
    (Hm.of_eq (W13_args m ρ c main_arg0 (by decide)) h0)
    (q13_v12_1 m ρ c h0 h1 h2 h3 h4 h5 h6 h7 h8 h9 h10 h11 h12))

theorem q14_v13_1 : Hm (a := 1024) (b := 1024) (φ := .bf16) (W14 m ρ c (Proc.devRef .tc main_v13_1)) (ph A) :=
  Hm.of_eq (W14_arr m ρ c 3) (Tail.k12_o3 (V := V13 m ρ) (c := c)
    (Hm.of_eq (W13_args m ρ c main_arg0 (by decide)) h0)
    (q13_v12_1 m ρ c h0 h1 h2 h3 h4 h5 h6 h7 h8 h9 h10 h11 h12))

theorem q14_v12_3 : Hm (a := 4096) (b := 1024) (φ := .bf16) (W14 m ρ c (Proc.devRef .tc main_v12_3)) (zd A) :=
  Hm.of_eq (W14_of m ρ c main_v12_3 (by decide +kernel)) (q13_v12_3 m ρ c h0 h1 h2 h3 h4 h5 h6 h7 h8 h9 h10 h11 h12)

theorem q15_v14_0 : Hm (a := 512) (b := 1024) (φ := .f32) (W15 m ρ c (Proc.devRef .tc main_v14_0)) (pd A) :=
  Hm.of_eq (W15_arr m ρ c 2) (Tail.k13_o2 (V := V14 m ρ) (c := c)
    (Hm.of_eq (W14_args m ρ c main_arg1 (by decide)) h1)
    (q14_v12_3 m ρ c h0 h1 h2 h3 h4 h5 h6 h7 h8 h9 h10 h11 h12))

theorem q15_v14_1 : Hm (a := 512) (b := 1024) (φ := .bf16) (W15 m ρ c (Proc.devRef .tc main_v14_1)) (pd A) :=
  Hm.of_eq (W15_arr m ρ c 3) (Tail.k13_o3 (V := V14 m ρ) (c := c)
    (Hm.of_eq (W14_args m ρ c main_arg1 (by decide)) h1)
    (q14_v12_3 m ρ c h0 h1 h2 h3 h4 h5 h6 h7 h8 h9 h10 h11 h12))

theorem q14_v12_5 : Hm (a := 4096) (b := 1024) (φ := .bf16) (W14 m ρ c (Proc.devRef .tc main_v12_5)) (zm A) :=
  Hm.of_eq (W14_of m ρ c main_v12_5 (by decide +kernel)) (q13_v12_5 m ρ c h0 h1 h2 h3 h4 h5 h6 h7 h8 h9 h10 h11 h12)

theorem q15_v12_5 : Hm (a := 4096) (b := 1024) (φ := .bf16) (W15 m ρ c (Proc.devRef .tc main_v12_5)) (zm A) :=
  Hm.of_eq (W15_of m ρ c main_v12_5 (by decide +kernel)) (q14_v12_5 m ρ c h0 h1 h2 h3 h4 h5 h6 h7 h8 h9 h10 h11 h12)

theorem q16_v15_0 : Hm (a := 512) (b := 1024) (φ := .f32) (W16 m ρ c (Proc.devRef .tc main_v15_0)) (pm A) :=
  Hm.of_eq (W16_arr m ρ c 2) (Tail.k14_o2 (V := V15 m ρ) (c := c)
    (Hm.of_eq (W15_args m ρ c main_arg2 (by decide)) h2)
    (q15_v12_5 m ρ c h0 h1 h2 h3 h4 h5 h6 h7 h8 h9 h10 h11 h12))

theorem q16_v15_1 : Hm (a := 512) (b := 1024) (φ := .bf16) (W16 m ρ c (Proc.devRef .tc main_v15_1)) (pm A) :=
  Hm.of_eq (W16_arr m ρ c 3) (Tail.k14_o3 (V := V15 m ρ) (c := c)
    (Hm.of_eq (W15_args m ρ c main_arg2 (by decide)) h2)
    (q15_v12_5 m ρ c h0 h1 h2 h3 h4 h5 h6 h7 h8 h9 h10 h11 h12))

theorem q6_v4_0 : Hm (a := 2816) (b := 1024) (φ := .f32) (W6 m ρ c (Proc.devRef .tc main_v4_0)) (gfo A) :=
  Hm.of_eq (W6_of m ρ c main_v4_0 (by decide +kernel)) (q5_v4_0 m ρ c h0 h1 h2 h3 h4 h5 h6 h7 h8 h9 h10 h11 h12)

theorem q7_v4_0 : Hm (a := 2816) (b := 1024) (φ := .f32) (W7 m ρ c (Proc.devRef .tc main_v4_0)) (gfo A) :=
  Hm.of_eq (W7_of m ρ c main_v4_0 (by decide +kernel)) (q6_v4_0 m ρ c h0 h1 h2 h3 h4 h5 h6 h7 h8 h9 h10 h11 h12)

theorem q8_v4_0 : Hm (a := 2816) (b := 1024) (φ := .f32) (W8 m ρ c (Proc.devRef .tc main_v4_0)) (gfo A) :=
  Hm.of_eq (W8_of m ρ c main_v4_0 (by decide +kernel)) (q7_v4_0 m ρ c h0 h1 h2 h3 h4 h5 h6 h7 h8 h9 h10 h11 h12)

theorem q9_v4_0 : Hm (a := 2816) (b := 1024) (φ := .f32) (W9 m ρ c (Proc.devRef .tc main_v4_0)) (gfo A) :=
  Hm.of_eq (W9_of m ρ c main_v4_0 (by decide +kernel)) (q8_v4_0 m ρ c h0 h1 h2 h3 h4 h5 h6 h7 h8 h9 h10 h11 h12)

theorem q10_v4_0 : Hm (a := 2816) (b := 1024) (φ := .f32) (W10 m ρ c (Proc.devRef .tc main_v4_0)) (gfo A) :=
  Hm.of_eq (W10_of m ρ c main_v4_0 (by decide +kernel)) (q9_v4_0 m ρ c h0 h1 h2 h3 h4 h5 h6 h7 h8 h9 h10 h11 h12)

theorem q11_v4_0 : Hm (a := 2816) (b := 1024) (φ := .f32) (W11 m ρ c (Proc.devRef .tc main_v4_0)) (gfo A) :=
  Hm.of_eq (W11_of m ρ c main_v4_0 (by decide +kernel)) (q10_v4_0 m ρ c h0 h1 h2 h3 h4 h5 h6 h7 h8 h9 h10 h11 h12)

theorem q12_v4_0 : Hm (a := 2816) (b := 1024) (φ := .f32) (W12 m ρ c (Proc.devRef .tc main_v4_0)) (gfo A) :=
  Hm.of_eq (W12_of m ρ c main_v4_0 (by decide +kernel)) (q11_v4_0 m ρ c h0 h1 h2 h3 h4 h5 h6 h7 h8 h9 h10 h11 h12)

theorem q13_v4_0 : Hm (a := 2816) (b := 1024) (φ := .f32) (W13 m ρ c (Proc.devRef .tc main_v4_0)) (gfo A) :=
  Hm.of_eq (W13_of m ρ c main_v4_0 (by decide +kernel)) (q12_v4_0 m ρ c h0 h1 h2 h3 h4 h5 h6 h7 h8 h9 h10 h11 h12)

theorem q14_v4_0 : Hm (a := 2816) (b := 1024) (φ := .f32) (W14 m ρ c (Proc.devRef .tc main_v4_0)) (gfo A) :=
  Hm.of_eq (W14_of m ρ c main_v4_0 (by decide +kernel)) (q13_v4_0 m ρ c h0 h1 h2 h3 h4 h5 h6 h7 h8 h9 h10 h11 h12)

theorem q15_v4_0 : Hm (a := 2816) (b := 1024) (φ := .f32) (W15 m ρ c (Proc.devRef .tc main_v4_0)) (gfo A) :=
  Hm.of_eq (W15_of m ρ c main_v4_0 (by decide +kernel)) (q14_v4_0 m ρ c h0 h1 h2 h3 h4 h5 h6 h7 h8 h9 h10 h11 h12)

theorem q16_v4_0 : Hm (a := 2816) (b := 1024) (φ := .f32) (W16 m ρ c (Proc.devRef .tc main_v4_0)) (gfo A) :=
  Hm.of_eq (W16_of m ρ c main_v4_0 (by decide +kernel)) (q15_v4_0 m ρ c h0 h1 h2 h3 h4 h5 h6 h7 h8 h9 h10 h11 h12)

theorem q6_v4_1 : Hm (a := 2816) (b := 1024) (φ := .bf16) (W6 m ρ c (Proc.devRef .tc main_v4_1)) (gfo A) :=
  Hm.of_eq (W6_of m ρ c main_v4_1 (by decide +kernel)) (q5_v4_1 m ρ c h0 h1 h2 h3 h4 h5 h6 h7 h8 h9 h10 h11 h12)

theorem q7_v4_1 : Hm (a := 2816) (b := 1024) (φ := .bf16) (W7 m ρ c (Proc.devRef .tc main_v4_1)) (gfo A) :=
  Hm.of_eq (W7_of m ρ c main_v4_1 (by decide +kernel)) (q6_v4_1 m ρ c h0 h1 h2 h3 h4 h5 h6 h7 h8 h9 h10 h11 h12)

theorem q8_v4_1 : Hm (a := 2816) (b := 1024) (φ := .bf16) (W8 m ρ c (Proc.devRef .tc main_v4_1)) (gfo A) :=
  Hm.of_eq (W8_of m ρ c main_v4_1 (by decide +kernel)) (q7_v4_1 m ρ c h0 h1 h2 h3 h4 h5 h6 h7 h8 h9 h10 h11 h12)

theorem q9_v4_1 : Hm (a := 2816) (b := 1024) (φ := .bf16) (W9 m ρ c (Proc.devRef .tc main_v4_1)) (gfo A) :=
  Hm.of_eq (W9_of m ρ c main_v4_1 (by decide +kernel)) (q8_v4_1 m ρ c h0 h1 h2 h3 h4 h5 h6 h7 h8 h9 h10 h11 h12)

theorem q10_v4_1 : Hm (a := 2816) (b := 1024) (φ := .bf16) (W10 m ρ c (Proc.devRef .tc main_v4_1)) (gfo A) :=
  Hm.of_eq (W10_of m ρ c main_v4_1 (by decide +kernel)) (q9_v4_1 m ρ c h0 h1 h2 h3 h4 h5 h6 h7 h8 h9 h10 h11 h12)

theorem q11_v4_1 : Hm (a := 2816) (b := 1024) (φ := .bf16) (W11 m ρ c (Proc.devRef .tc main_v4_1)) (gfo A) :=
  Hm.of_eq (W11_of m ρ c main_v4_1 (by decide +kernel)) (q10_v4_1 m ρ c h0 h1 h2 h3 h4 h5 h6 h7 h8 h9 h10 h11 h12)

theorem q12_v4_1 : Hm (a := 2816) (b := 1024) (φ := .bf16) (W12 m ρ c (Proc.devRef .tc main_v4_1)) (gfo A) :=
  Hm.of_eq (W12_of m ρ c main_v4_1 (by decide +kernel)) (q11_v4_1 m ρ c h0 h1 h2 h3 h4 h5 h6 h7 h8 h9 h10 h11 h12)

theorem q13_v4_1 : Hm (a := 2816) (b := 1024) (φ := .bf16) (W13 m ρ c (Proc.devRef .tc main_v4_1)) (gfo A) :=
  Hm.of_eq (W13_of m ρ c main_v4_1 (by decide +kernel)) (q12_v4_1 m ρ c h0 h1 h2 h3 h4 h5 h6 h7 h8 h9 h10 h11 h12)

theorem q14_v4_1 : Hm (a := 2816) (b := 1024) (φ := .bf16) (W14 m ρ c (Proc.devRef .tc main_v4_1)) (gfo A) :=
  Hm.of_eq (W14_of m ρ c main_v4_1 (by decide +kernel)) (q13_v4_1 m ρ c h0 h1 h2 h3 h4 h5 h6 h7 h8 h9 h10 h11 h12)

theorem q15_v4_1 : Hm (a := 2816) (b := 1024) (φ := .bf16) (W15 m ρ c (Proc.devRef .tc main_v4_1)) (gfo A) :=
  Hm.of_eq (W15_of m ρ c main_v4_1 (by decide +kernel)) (q14_v4_1 m ρ c h0 h1 h2 h3 h4 h5 h6 h7 h8 h9 h10 h11 h12)

theorem q16_v4_1 : Hm (a := 2816) (b := 1024) (φ := .bf16) (W16 m ρ c (Proc.devRef .tc main_v4_1)) (gfo A) :=
  Hm.of_eq (W16_of m ρ c main_v4_1 (by decide +kernel)) (q15_v4_1 m ρ c h0 h1 h2 h3 h4 h5 h6 h7 h8 h9 h10 h11 h12)

theorem q8_v6_0 : Hm (a := 1024) (b := 2816) (φ := .f32) (W8 m ρ c (Proc.devRef .tc main_v6_0)) (gfa A) :=
  Hm.of_eq (W8_of m ρ c main_v6_0 (by decide +kernel)) (q7_v6_0 m ρ c h0 h1 h2 h3 h4 h5 h6 h7 h8 h9 h10 h11 h12)

theorem q9_v6_0 : Hm (a := 1024) (b := 2816) (φ := .f32) (W9 m ρ c (Proc.devRef .tc main_v6_0)) (gfa A) :=
  Hm.of_eq (W9_of m ρ c main_v6_0 (by decide +kernel)) (q8_v6_0 m ρ c h0 h1 h2 h3 h4 h5 h6 h7 h8 h9 h10 h11 h12)

theorem q10_v6_0 : Hm (a := 1024) (b := 2816) (φ := .f32) (W10 m ρ c (Proc.devRef .tc main_v6_0)) (gfa A) :=
  Hm.of_eq (W10_of m ρ c main_v6_0 (by decide +kernel)) (q9_v6_0 m ρ c h0 h1 h2 h3 h4 h5 h6 h7 h8 h9 h10 h11 h12)

theorem q11_v6_0 : Hm (a := 1024) (b := 2816) (φ := .f32) (W11 m ρ c (Proc.devRef .tc main_v6_0)) (gfa A) :=
  Hm.of_eq (W11_of m ρ c main_v6_0 (by decide +kernel)) (q10_v6_0 m ρ c h0 h1 h2 h3 h4 h5 h6 h7 h8 h9 h10 h11 h12)

theorem q12_v6_0 : Hm (a := 1024) (b := 2816) (φ := .f32) (W12 m ρ c (Proc.devRef .tc main_v6_0)) (gfa A) :=
  Hm.of_eq (W12_of m ρ c main_v6_0 (by decide +kernel)) (q11_v6_0 m ρ c h0 h1 h2 h3 h4 h5 h6 h7 h8 h9 h10 h11 h12)

theorem q13_v6_0 : Hm (a := 1024) (b := 2816) (φ := .f32) (W13 m ρ c (Proc.devRef .tc main_v6_0)) (gfa A) :=
  Hm.of_eq (W13_of m ρ c main_v6_0 (by decide +kernel)) (q12_v6_0 m ρ c h0 h1 h2 h3 h4 h5 h6 h7 h8 h9 h10 h11 h12)

theorem q14_v6_0 : Hm (a := 1024) (b := 2816) (φ := .f32) (W14 m ρ c (Proc.devRef .tc main_v6_0)) (gfa A) :=
  Hm.of_eq (W14_of m ρ c main_v6_0 (by decide +kernel)) (q13_v6_0 m ρ c h0 h1 h2 h3 h4 h5 h6 h7 h8 h9 h10 h11 h12)

theorem q15_v6_0 : Hm (a := 1024) (b := 2816) (φ := .f32) (W15 m ρ c (Proc.devRef .tc main_v6_0)) (gfa A) :=
  Hm.of_eq (W15_of m ρ c main_v6_0 (by decide +kernel)) (q14_v6_0 m ρ c h0 h1 h2 h3 h4 h5 h6 h7 h8 h9 h10 h11 h12)

theorem q16_v6_0 : Hm (a := 1024) (b := 2816) (φ := .f32) (W16 m ρ c (Proc.devRef .tc main_v6_0)) (gfa A) :=
  Hm.of_eq (W16_of m ρ c main_v6_0 (by decide +kernel)) (q15_v6_0 m ρ c h0 h1 h2 h3 h4 h5 h6 h7 h8 h9 h10 h11 h12)

theorem q8_v6_1 : Hm (a := 1024) (b := 2816) (φ := .bf16) (W8 m ρ c (Proc.devRef .tc main_v6_1)) (gfa A) :=
  Hm.of_eq (W8_of m ρ c main_v6_1 (by decide +kernel)) (q7_v6_1 m ρ c h0 h1 h2 h3 h4 h5 h6 h7 h8 h9 h10 h11 h12)

theorem q9_v6_1 : Hm (a := 1024) (b := 2816) (φ := .bf16) (W9 m ρ c (Proc.devRef .tc main_v6_1)) (gfa A) :=
  Hm.of_eq (W9_of m ρ c main_v6_1 (by decide +kernel)) (q8_v6_1 m ρ c h0 h1 h2 h3 h4 h5 h6 h7 h8 h9 h10 h11 h12)

theorem q10_v6_1 : Hm (a := 1024) (b := 2816) (φ := .bf16) (W10 m ρ c (Proc.devRef .tc main_v6_1)) (gfa A) :=
  Hm.of_eq (W10_of m ρ c main_v6_1 (by decide +kernel)) (q9_v6_1 m ρ c h0 h1 h2 h3 h4 h5 h6 h7 h8 h9 h10 h11 h12)

theorem q11_v6_1 : Hm (a := 1024) (b := 2816) (φ := .bf16) (W11 m ρ c (Proc.devRef .tc main_v6_1)) (gfa A) :=
  Hm.of_eq (W11_of m ρ c main_v6_1 (by decide +kernel)) (q10_v6_1 m ρ c h0 h1 h2 h3 h4 h5 h6 h7 h8 h9 h10 h11 h12)

theorem q12_v6_1 : Hm (a := 1024) (b := 2816) (φ := .bf16) (W12 m ρ c (Proc.devRef .tc main_v6_1)) (gfa A) :=
  Hm.of_eq (W12_of m ρ c main_v6_1 (by decide +kernel)) (q11_v6_1 m ρ c h0 h1 h2 h3 h4 h5 h6 h7 h8 h9 h10 h11 h12)

theorem q13_v6_1 : Hm (a := 1024) (b := 2816) (φ := .bf16) (W13 m ρ c (Proc.devRef .tc main_v6_1)) (gfa A) :=
  Hm.of_eq (W13_of m ρ c main_v6_1 (by decide +kernel)) (q12_v6_1 m ρ c h0 h1 h2 h3 h4 h5 h6 h7 h8 h9 h10 h11 h12)

theorem q14_v6_1 : Hm (a := 1024) (b := 2816) (φ := .bf16) (W14 m ρ c (Proc.devRef .tc main_v6_1)) (gfa A) :=
  Hm.of_eq (W14_of m ρ c main_v6_1 (by decide +kernel)) (q13_v6_1 m ρ c h0 h1 h2 h3 h4 h5 h6 h7 h8 h9 h10 h11 h12)

theorem q15_v6_1 : Hm (a := 1024) (b := 2816) (φ := .bf16) (W15 m ρ c (Proc.devRef .tc main_v6_1)) (gfa A) :=
  Hm.of_eq (W15_of m ρ c main_v6_1 (by decide +kernel)) (q14_v6_1 m ρ c h0 h1 h2 h3 h4 h5 h6 h7 h8 h9 h10 h11 h12)

theorem q16_v6_1 : Hm (a := 1024) (b := 2816) (φ := .bf16) (W16 m ρ c (Proc.devRef .tc main_v6_1)) (gfa A) :=
  Hm.of_eq (W16_of m ρ c main_v6_1 (by decide +kernel)) (q15_v6_1 m ρ c h0 h1 h2 h3 h4 h5 h6 h7 h8 h9 h10 h11 h12)

theorem q9_v7_0 : Hm (a := 1024) (b := 2816) (φ := .f32) (W9 m ρ c (Proc.devRef .tc main_v7_0)) (gfb A) :=
  Hm.of_eq (W9_of m ρ c main_v7_0 (by decide +kernel)) (q8_v7_0 m ρ c h0 h1 h2 h3 h4 h5 h6 h7 h8 h9 h10 h11 h12)

theorem q10_v7_0 : Hm (a := 1024) (b := 2816) (φ := .f32) (W10 m ρ c (Proc.devRef .tc main_v7_0)) (gfb A) :=
  Hm.of_eq (W10_of m ρ c main_v7_0 (by decide +kernel)) (q9_v7_0 m ρ c h0 h1 h2 h3 h4 h5 h6 h7 h8 h9 h10 h11 h12)

theorem q11_v7_0 : Hm (a := 1024) (b := 2816) (φ := .f32) (W11 m ρ c (Proc.devRef .tc main_v7_0)) (gfb A) :=
  Hm.of_eq (W11_of m ρ c main_v7_0 (by decide +kernel)) (q10_v7_0 m ρ c h0 h1 h2 h3 h4 h5 h6 h7 h8 h9 h10 h11 h12)

theorem q12_v7_0 : Hm (a := 1024) (b := 2816) (φ := .f32) (W12 m ρ c (Proc.devRef .tc main_v7_0)) (gfb A) :=
  Hm.of_eq (W12_of m ρ c main_v7_0 (by decide +kernel)) (q11_v7_0 m ρ c h0 h1 h2 h3 h4 h5 h6 h7 h8 h9 h10 h11 h12)

theorem q13_v7_0 : Hm (a := 1024) (b := 2816) (φ := .f32) (W13 m ρ c (Proc.devRef .tc main_v7_0)) (gfb A) :=
  Hm.of_eq (W13_of m ρ c main_v7_0 (by decide +kernel)) (q12_v7_0 m ρ c h0 h1 h2 h3 h4 h5 h6 h7 h8 h9 h10 h11 h12)

theorem q14_v7_0 : Hm (a := 1024) (b := 2816) (φ := .f32) (W14 m ρ c (Proc.devRef .tc main_v7_0)) (gfb A) :=
  Hm.of_eq (W14_of m ρ c main_v7_0 (by decide +kernel)) (q13_v7_0 m ρ c h0 h1 h2 h3 h4 h5 h6 h7 h8 h9 h10 h11 h12)

theorem q15_v7_0 : Hm (a := 1024) (b := 2816) (φ := .f32) (W15 m ρ c (Proc.devRef .tc main_v7_0)) (gfb A) :=
  Hm.of_eq (W15_of m ρ c main_v7_0 (by decide +kernel)) (q14_v7_0 m ρ c h0 h1 h2 h3 h4 h5 h6 h7 h8 h9 h10 h11 h12)

theorem q16_v7_0 : Hm (a := 1024) (b := 2816) (φ := .f32) (W16 m ρ c (Proc.devRef .tc main_v7_0)) (gfb A) :=
  Hm.of_eq (W16_of m ρ c main_v7_0 (by decide +kernel)) (q15_v7_0 m ρ c h0 h1 h2 h3 h4 h5 h6 h7 h8 h9 h10 h11 h12)

theorem q9_v7_1 : Hm (a := 1024) (b := 2816) (φ := .bf16) (W9 m ρ c (Proc.devRef .tc main_v7_1)) (gfb A) :=
  Hm.of_eq (W9_of m ρ c main_v7_1 (by decide +kernel)) (q8_v7_1 m ρ c h0 h1 h2 h3 h4 h5 h6 h7 h8 h9 h10 h11 h12)

theorem q10_v7_1 : Hm (a := 1024) (b := 2816) (φ := .bf16) (W10 m ρ c (Proc.devRef .tc main_v7_1)) (gfb A) :=
  Hm.of_eq (W10_of m ρ c main_v7_1 (by decide +kernel)) (q9_v7_1 m ρ c h0 h1 h2 h3 h4 h5 h6 h7 h8 h9 h10 h11 h12)

theorem q11_v7_1 : Hm (a := 1024) (b := 2816) (φ := .bf16) (W11 m ρ c (Proc.devRef .tc main_v7_1)) (gfb A) :=
  Hm.of_eq (W11_of m ρ c main_v7_1 (by decide +kernel)) (q10_v7_1 m ρ c h0 h1 h2 h3 h4 h5 h6 h7 h8 h9 h10 h11 h12)

theorem q12_v7_1 : Hm (a := 1024) (b := 2816) (φ := .bf16) (W12 m ρ c (Proc.devRef .tc main_v7_1)) (gfb A) :=
  Hm.of_eq (W12_of m ρ c main_v7_1 (by decide +kernel)) (q11_v7_1 m ρ c h0 h1 h2 h3 h4 h5 h6 h7 h8 h9 h10 h11 h12)

theorem q13_v7_1 : Hm (a := 1024) (b := 2816) (φ := .bf16) (W13 m ρ c (Proc.devRef .tc main_v7_1)) (gfb A) :=
  Hm.of_eq (W13_of m ρ c main_v7_1 (by decide +kernel)) (q12_v7_1 m ρ c h0 h1 h2 h3 h4 h5 h6 h7 h8 h9 h10 h11 h12)

theorem q14_v7_1 : Hm (a := 1024) (b := 2816) (φ := .bf16) (W14 m ρ c (Proc.devRef .tc main_v7_1)) (gfb A) :=
  Hm.of_eq (W14_of m ρ c main_v7_1 (by decide +kernel)) (q13_v7_1 m ρ c h0 h1 h2 h3 h4 h5 h6 h7 h8 h9 h10 h11 h12)

theorem q15_v7_1 : Hm (a := 1024) (b := 2816) (φ := .bf16) (W15 m ρ c (Proc.devRef .tc main_v7_1)) (gfb A) :=
  Hm.of_eq (W15_of m ρ c main_v7_1 (by decide +kernel)) (q14_v7_1 m ρ c h0 h1 h2 h3 h4 h5 h6 h7 h8 h9 h10 h11 h12)

theorem q16_v7_1 : Hm (a := 1024) (b := 2816) (φ := .bf16) (W16 m ρ c (Proc.devRef .tc main_v7_1)) (gfb A) :=
  Hm.of_eq (W16_of m ρ c main_v7_1 (by decide +kernel)) (q15_v7_1 m ρ c h0 h1 h2 h3 h4 h5 h6 h7 h8 h9 h10 h11 h12)

theorem q11_v9_2 : Hm (a := 1) (b := 1024) (φ := .f32) (W11 m ρ c (Proc.devRef .tc main_v9_2)) (gg A) :=
  Hm.of_eq (W11_of m ρ c main_v9_2 (by decide +kernel)) (q10_v9_2 m ρ c h0 h1 h2 h3 h4 h5 h6 h7 h8 h9 h10 h11 h12)

theorem q12_v9_2 : Hm (a := 1) (b := 1024) (φ := .f32) (W12 m ρ c (Proc.devRef .tc main_v9_2)) (gg A) :=
  Hm.of_eq (W12_of m ρ c main_v9_2 (by decide +kernel)) (q11_v9_2 m ρ c h0 h1 h2 h3 h4 h5 h6 h7 h8 h9 h10 h11 h12)

theorem q13_v9_2 : Hm (a := 1) (b := 1024) (φ := .f32) (W13 m ρ c (Proc.devRef .tc main_v9_2)) (gg A) :=
  Hm.of_eq (W13_of m ρ c main_v9_2 (by decide +kernel)) (q12_v9_2 m ρ c h0 h1 h2 h3 h4 h5 h6 h7 h8 h9 h10 h11 h12)

theorem q14_v9_2 : Hm (a := 1) (b := 1024) (φ := .f32) (W14 m ρ c (Proc.devRef .tc main_v9_2)) (gg A) :=
  Hm.of_eq (W14_of m ρ c main_v9_2 (by decide +kernel)) (q13_v9_2 m ρ c h0 h1 h2 h3 h4 h5 h6 h7 h8 h9 h10 h11 h12)

theorem q15_v9_2 : Hm (a := 1) (b := 1024) (φ := .f32) (W15 m ρ c (Proc.devRef .tc main_v9_2)) (gg A) :=
  Hm.of_eq (W15_of m ρ c main_v9_2 (by decide +kernel)) (q14_v9_2 m ρ c h0 h1 h2 h3 h4 h5 h6 h7 h8 h9 h10 h11 h12)

theorem q16_v9_2 : Hm (a := 1) (b := 1024) (φ := .f32) (W16 m ρ c (Proc.devRef .tc main_v9_2)) (gg A) :=
  Hm.of_eq (W16_of m ρ c main_v9_2 (by decide +kernel)) (q15_v9_2 m ρ c h0 h1 h2 h3 h4 h5 h6 h7 h8 h9 h10 h11 h12)

theorem q11_v9_0 : Hm (a := 4096) (b := 1024) (φ := .f32) (W11 m ρ c (Proc.devRef .tc main_v9_0)) (dx A) :=
  Hm.of_eq (W11_of m ρ c main_v9_0 (by decide +kernel)) (q10_v9_0 m ρ c h0 h1 h2 h3 h4 h5 h6 h7 h8 h9 h10 h11 h12)

theorem q12_v9_0 : Hm (a := 4096) (b := 1024) (φ := .f32) (W12 m ρ c (Proc.devRef .tc main_v9_0)) (dx A) :=
  Hm.of_eq (W12_of m ρ c main_v9_0 (by decide +kernel)) (q11_v9_0 m ρ c h0 h1 h2 h3 h4 h5 h6 h7 h8 h9 h10 h11 h12)

theorem q13_v9_0 : Hm (a := 4096) (b := 1024) (φ := .f32) (W13 m ρ c (Proc.devRef .tc main_v9_0)) (dx A) :=
  Hm.of_eq (W13_of m ρ c main_v9_0 (by decide +kernel)) (q12_v9_0 m ρ c h0 h1 h2 h3 h4 h5 h6 h7 h8 h9 h10 h11 h12)

theorem q14_v9_0 : Hm (a := 4096) (b := 1024) (φ := .f32) (W14 m ρ c (Proc.devRef .tc main_v9_0)) (dx A) :=
  Hm.of_eq (W14_of m ρ c main_v9_0 (by decide +kernel)) (q13_v9_0 m ρ c h0 h1 h2 h3 h4 h5 h6 h7 h8 h9 h10 h11 h12)

theorem q15_v9_0 : Hm (a := 4096) (b := 1024) (φ := .f32) (W15 m ρ c (Proc.devRef .tc main_v9_0)) (dx A) :=
  Hm.of_eq (W15_of m ρ c main_v9_0 (by decide +kernel)) (q14_v9_0 m ρ c h0 h1 h2 h3 h4 h5 h6 h7 h8 h9 h10 h11 h12)

theorem q16_v9_0 : Hm (a := 4096) (b := 1024) (φ := .f32) (W16 m ρ c (Proc.devRef .tc main_v9_0)) (dx A) :=
  Hm.of_eq (W16_of m ρ c main_v9_0 (by decide +kernel)) (q15_v9_0 m ρ c h0 h1 h2 h3 h4 h5 h6 h7 h8 h9 h10 h11 h12)

theorem q12_v10_0 : Hm (a := 1024) (b := 1024) (φ := .f32) (W12 m ρ c (Proc.devRef .tc main_v10_0)) (go A) :=
  Hm.of_eq (W12_of m ρ c main_v10_0 (by decide +kernel)) (q11_v10_0 m ρ c h0 h1 h2 h3 h4 h5 h6 h7 h8 h9 h10 h11 h12)

theorem q13_v10_0 : Hm (a := 1024) (b := 1024) (φ := .f32) (W13 m ρ c (Proc.devRef .tc main_v10_0)) (go A) :=
  Hm.of_eq (W13_of m ρ c main_v10_0 (by decide +kernel)) (q12_v10_0 m ρ c h0 h1 h2 h3 h4 h5 h6 h7 h8 h9 h10 h11 h12)

theorem q14_v10_0 : Hm (a := 1024) (b := 1024) (φ := .f32) (W14 m ρ c (Proc.devRef .tc main_v10_0)) (go A) :=
  Hm.of_eq (W14_of m ρ c main_v10_0 (by decide +kernel)) (q13_v10_0 m ρ c h0 h1 h2 h3 h4 h5 h6 h7 h8 h9 h10 h11 h12)

theorem q15_v10_0 : Hm (a := 1024) (b := 1024) (φ := .f32) (W15 m ρ c (Proc.devRef .tc main_v10_0)) (go A) :=
  Hm.of_eq (W15_of m ρ c main_v10_0 (by decide +kernel)) (q14_v10_0 m ρ c h0 h1 h2 h3 h4 h5 h6 h7 h8 h9 h10 h11 h12)

theorem q16_v10_0 : Hm (a := 1024) (b := 1024) (φ := .f32) (W16 m ρ c (Proc.devRef .tc main_v10_0)) (go A) :=
  Hm.of_eq (W16_of m ρ c main_v10_0 (by decide +kernel)) (q15_v10_0 m ρ c h0 h1 h2 h3 h4 h5 h6 h7 h8 h9 h10 h11 h12)

theorem q12_v10_1 : Hm (a := 1024) (b := 1024) (φ := .bf16) (W12 m ρ c (Proc.devRef .tc main_v10_1)) (go A) :=
  Hm.of_eq (W12_of m ρ c main_v10_1 (by decide +kernel)) (q11_v10_1 m ρ c h0 h1 h2 h3 h4 h5 h6 h7 h8 h9 h10 h11 h12)

theorem q13_v10_1 : Hm (a := 1024) (b := 1024) (φ := .bf16) (W13 m ρ c (Proc.devRef .tc main_v10_1)) (go A) :=
  Hm.of_eq (W13_of m ρ c main_v10_1 (by decide +kernel)) (q12_v10_1 m ρ c h0 h1 h2 h3 h4 h5 h6 h7 h8 h9 h10 h11 h12)

theorem q14_v10_1 : Hm (a := 1024) (b := 1024) (φ := .bf16) (W14 m ρ c (Proc.devRef .tc main_v10_1)) (go A) :=
  Hm.of_eq (W14_of m ρ c main_v10_1 (by decide +kernel)) (q13_v10_1 m ρ c h0 h1 h2 h3 h4 h5 h6 h7 h8 h9 h10 h11 h12)

theorem q15_v10_1 : Hm (a := 1024) (b := 1024) (φ := .bf16) (W15 m ρ c (Proc.devRef .tc main_v10_1)) (go A) :=
  Hm.of_eq (W15_of m ρ c main_v10_1 (by decide +kernel)) (q14_v10_1 m ρ c h0 h1 h2 h3 h4 h5 h6 h7 h8 h9 h10 h11 h12)

theorem q16_v10_1 : Hm (a := 1024) (b := 1024) (φ := .bf16) (W16 m ρ c (Proc.devRef .tc main_v10_1)) (go A) :=
  Hm.of_eq (W16_of m ρ c main_v10_1 (by decide +kernel)) (q15_v10_1 m ρ c h0 h1 h2 h3 h4 h5 h6 h7 h8 h9 h10 h11 h12)

theorem q15_v13_0 : Hm (a := 1024) (b := 1024) (φ := .f32) (W15 m ρ c (Proc.devRef .tc main_v13_0)) (ph A) :=
  Hm.of_eq (W15_of m ρ c main_v13_0 (by decide +kernel)) (q14_v13_0 m ρ c h0 h1 h2 h3 h4 h5 h6 h7 h8 h9 h10 h11 h12)

theorem q16_v13_0 : Hm (a := 1024) (b := 1024) (φ := .f32) (W16 m ρ c (Proc.devRef .tc main_v13_0)) (ph A) :=
  Hm.of_eq (W16_of m ρ c main_v13_0 (by decide +kernel)) (q15_v13_0 m ρ c h0 h1 h2 h3 h4 h5 h6 h7 h8 h9 h10 h11 h12)

theorem q15_v13_1 : Hm (a := 1024) (b := 1024) (φ := .bf16) (W15 m ρ c (Proc.devRef .tc main_v13_1)) (ph A) :=
  Hm.of_eq (W15_of m ρ c main_v13_1 (by decide +kernel)) (q14_v13_1 m ρ c h0 h1 h2 h3 h4 h5 h6 h7 h8 h9 h10 h11 h12)

theorem q16_v13_1 : Hm (a := 1024) (b := 1024) (φ := .bf16) (W16 m ρ c (Proc.devRef .tc main_v13_1)) (ph A) :=
  Hm.of_eq (W16_of m ρ c main_v13_1 (by decide +kernel)) (q15_v13_1 m ρ c h0 h1 h2 h3 h4 h5 h6 h7 h8 h9 h10 h11 h12)

theorem q16_v14_0 : Hm (a := 512) (b := 1024) (φ := .f32) (W16 m ρ c (Proc.devRef .tc main_v14_0)) (pd A) :=
  Hm.of_eq (W16_of m ρ c main_v14_0 (by decide +kernel)) (q15_v14_0 m ρ c h0 h1 h2 h3 h4 h5 h6 h7 h8 h9 h10 h11 h12)

theorem q16_v14_1 : Hm (a := 512) (b := 1024) (φ := .bf16) (W16 m ρ c (Proc.devRef .tc main_v14_1)) (pd A) :=
  Hm.of_eq (W16_of m ρ c main_v14_1 (by decide +kernel)) (q15_v14_1 m ρ c h0 h1 h2 h3 h4 h5 h6 h7 h8 h9 h10 h11 h12)

theorem q14_v12_2 : Hm (a := 4096) (b := 1024) (φ := .f32) (W14 m ρ c (Proc.devRef .tc main_v12_2)) (oh A) :=
  Hm.of_eq (W14_of m ρ c main_v12_2 (by decide +kernel)) (q13_v12_2 m ρ c h0 h1 h2 h3 h4 h5 h6 h7 h8 h9 h10 h11 h12)

theorem q15_v12_2 : Hm (a := 4096) (b := 1024) (φ := .f32) (W15 m ρ c (Proc.devRef .tc main_v12_2)) (oh A) :=
  Hm.of_eq (W15_of m ρ c main_v12_2 (by decide +kernel)) (q14_v12_2 m ρ c h0 h1 h2 h3 h4 h5 h6 h7 h8 h9 h10 h11 h12)

theorem q16_v12_2 : Hm (a := 4096) (b := 1024) (φ := .f32) (W16 m ρ c (Proc.devRef .tc main_v12_2)) (oh A) :=
  Hm.of_eq (W16_of m ρ c main_v12_2 (by decide +kernel)) (q15_v12_2 m ρ c h0 h1 h2 h3 h4 h5 h6 h7 h8 h9 h10 h11 h12)

theorem q14_v12_4 : Hm (a := 4096) (b := 512) (φ := .f32) (W14 m ρ c (Proc.devRef .tc main_v12_4)) (od A) :=
  Hm.of_eq (W14_of m ρ c main_v12_4 (by decide +kernel)) (q13_v12_4 m ρ c h0 h1 h2 h3 h4 h5 h6 h7 h8 h9 h10 h11 h12)

theorem q15_v12_4 : Hm (a := 4096) (b := 512) (φ := .f32) (W15 m ρ c (Proc.devRef .tc main_v12_4)) (od A) :=
  Hm.of_eq (W15_of m ρ c main_v12_4 (by decide +kernel)) (q14_v12_4 m ρ c h0 h1 h2 h3 h4 h5 h6 h7 h8 h9 h10 h11 h12)

theorem q16_v12_4 : Hm (a := 4096) (b := 512) (φ := .f32) (W16 m ρ c (Proc.devRef .tc main_v12_4)) (od A) :=
  Hm.of_eq (W16_of m ρ c main_v12_4 (by decide +kernel)) (q15_v12_4 m ρ c h0 h1 h2 h3 h4 h5 h6 h7 h8 h9 h10 h11 h12)

theorem q14_v12_6 : Hm (a := 4096) (b := 512) (φ := .f32) (W14 m ρ c (Proc.devRef .tc main_v12_6)) (om A) :=
  Hm.of_eq (W14_of m ρ c main_v12_6 (by decide +kernel)) (q13_v12_6 m ρ c h0 h1 h2 h3 h4 h5 h6 h7 h8 h9 h10 h11 h12)

theorem q15_v12_6 : Hm (a := 4096) (b := 512) (φ := .f32) (W15 m ρ c (Proc.devRef .tc main_v12_6)) (om A) :=
  Hm.of_eq (W15_of m ρ c main_v12_6 (by decide +kernel)) (q14_v12_6 m ρ c h0 h1 h2 h3 h4 h5 h6 h7 h8 h9 h10 h11 h12)

theorem q16_v12_6 : Hm (a := 4096) (b := 512) (φ := .f32) (W16 m ρ c (Proc.devRef .tc main_v12_6)) (om A) :=
  Hm.of_eq (W16_of m ρ c main_v12_6 (by decide +kernel)) (q15_v12_6 m ρ c h0 h1 h2 h3 h4 h5 h6 h7 h8 h9 h10 h11 h12)

theorem q14_v12_0 : Hm (a := 4096) (b := 3072) (φ := .bf16) (W14 m ρ c (Proc.devRef .tc main_v12_0)) (dg A) :=
  Hm.of_eq (W14_of m ρ c main_v12_0 (by decide +kernel)) (q13_v12_0 m ρ c h0 h1 h2 h3 h4 h5 h6 h7 h8 h9 h10 h11 h12)

theorem q15_v12_0 : Hm (a := 4096) (b := 3072) (φ := .bf16) (W15 m ρ c (Proc.devRef .tc main_v12_0)) (dg A) :=
  Hm.of_eq (W15_of m ρ c main_v12_0 (by decide +kernel)) (q14_v12_0 m ρ c h0 h1 h2 h3 h4 h5 h6 h7 h8 h9 h10 h11 h12)

theorem q16_v12_0 : Hm (a := 4096) (b := 3072) (φ := .bf16) (W16 m ρ c (Proc.devRef .tc main_v12_0)) (dg A) :=
  Hm.of_eq (W16_of m ρ c main_v12_0 (by decide +kernel)) (q15_v12_0 m ρ c h0 h1 h2 h3 h4 h5 h6 h7 h8 h9 h10 h11 h12)

end Cert.Kernel2Ideal.Chain

end
-- ==== Proof.TailRef.lean ====
/- The stages of the reference for the tail of the layer, over the reals. -/
module

public import proofs.«01_k».proof.Proof.Gen.Reference2Ideal.Read
public import proofs.«01_k».proof.Proof.TailModel

@[expose] public section

set_option maxRecDepth 16384

noncomputable section

open Idealize.ShloMosaic Idealize.ShloMosaic.TcCoe Idealize.SL.Sem

namespace Cert.Reference2Ideal.Tail
open Cert.Reference2Ideal Cert.Reference2Ideal.Gen Cert.Reference2Ideal.Read Cert.Lift Cert.Tail

theorem bits_neg_half : Ideal.ofBits FTy.f32 3204448256#32 = ((-(1 / 2) : ℝ) : EReal) := by
  simp [Ideal.ofBits, Ideal.ieee, -EReal.coe_mul]; norm_num

variable {A : ℕ → Mat} {x0 : FVec Ideal ⟨2, ![4096, 1024]⟩ .bf16} {x1 : FVec Ideal ⟨2, ![4096, 512]⟩ .bf16} {x2 : FVec Ideal ⟨2, ![4096, 512]⟩ .bf16} {x3 : FVec Ideal ⟨2, ![4096, 13312]⟩ .bf16} {x4 : FVec Ideal ⟨2, ![1024, 1024]⟩ .bf16} {x5 : FVec Ideal ⟨2, ![512, 1024]⟩ .bf16} {x6 : FVec Ideal ⟨2, ![512, 1024]⟩ .bf16} {x7 : FVec Ideal ⟨2, ![1024, 1024]⟩ .bf16} {x8 : FVec Ideal ⟨2, ![4096, 1024]⟩ .f32} {x9 : FVec Ideal ⟨2, ![1, 1024]⟩ .f32} {x10 : FVec Ideal ⟨2, ![1024, 5632]⟩ .bf16} {x11 : FVec Ideal ⟨2, ![2816, 1024]⟩ .bf16} {x12 : FVec Ideal ⟨2, ![4096, 1024]⟩ .f32}
  (h0 : Hm x0 (A 0))
  (h1 : Hm x1 (A 1))
  (h2 : Hm x2 (A 2))
  (h3 : Hm x3 (A 3))
  (h4 : Hm x4 (A 4))
  (h5 : Hm x5 (A 5))
  (h6 : Hm x6 (A 6))
  (h7 : Hm x7 (A 7))
  (h8 : Hm x8 (A 8))
  (h9 : Hm x9 (A 9))
  (h10 : Hm x10 (A 10))
  (h11 : Hm x11 (A 11))
  (h12 : Hm x12 (A 12))
include h0 h1 h2 h3 h4 h5 h6 h7 h8 h9 h10 h11 h12

theorem r0 : Hm (a := 4096) (b := 1024) (φ := .f32) (val_main_v0 (F := Ideal) x0) (A 0) := fun r l => by
  pointwise [val_main_v0]
  exact h0 r l

theorem r1 : Hm (a := 4096) (b := 512) (φ := .f32) (val_main_v1 (F := Ideal) x1) (A 1) := fun r l => by
  pointwise [val_main_v1]
  exact h1 r l

theorem r2 : Hm (a := 4096) (b := 512) (φ := .f32) (val_main_v2 (F := Ideal) x2) (A 2) := fun r l => by
  pointwise [val_main_v2]
  exact h2 r l

theorem r5 : Hm (a := 1024) (b := 1024) (φ := .f32) (val_main_v5 (F := Ideal) x4) (A 4) := fun r l => by
  pointwise [val_main_v5]
  exact h4 r l

theorem r6 : Hm (a := 512) (b := 1024) (φ := .f32) (val_main_v6 (F := Ideal) x5) (A 5) := fun r l => by
  pointwise [val_main_v6]
  exact h5 r l

theorem r7 : Hm (a := 512) (b := 1024) (φ := .f32) (val_main_v7 (F := Ideal) x6) (A 6) := fun r l => by
  pointwise [val_main_v7]
  exact h6 r l

theorem r8 : Hm (a := 1024) (b := 1024) (φ := .f32) (val_main_v8 (F := Ideal) x7) (A 7) := fun r l => by
  pointwise [val_main_v8]
  exact h7 r l

theorem r9 : Hm (a := 1024) (b := 5632) (φ := .f32) (val_main_v9 (F := Ideal) x10) (A 10) := fun r l => by
  pointwise [val_main_v9]
  exact h10 r l

theorem r10 : Hm (a := 2816) (b := 1024) (φ := .f32) (val_main_v10 (F := Ideal) x11) (A 11) := fun r l => by
  pointwise [val_main_v10]
  exact h11 r l

theorem r11 : Hm (a := 4096) (b := 1024) (φ := .f32) (val_main_v11 (F := Ideal) x3) (sh 10240 (A 3)) := fun r l => by
  have e : (val_main_v11 (F := Ideal) x3) (ix2 r l) = x3 (ix2 r ⟨10240 + l.val, by omega⟩) := by
    pointwise [val_main_v11, val_main_v4, val_main_v3]
  rw [e, h3]
  rfl

theorem r12 : Hm (a := 4096) (b := 1024) (φ := .f32) (val_main_v12 (F := Ideal) x3) (sh 11264 (A 3)) := fun r l => by
  have e : (val_main_v12 (F := Ideal) x3) (ix2 r l) = x3 (ix2 r ⟨11264 + l.val, by omega⟩) := by
    pointwise [val_main_v12, val_main_v4, val_main_v3]
    refine congrArg x3 ?_
    refine congrArg (ix2 r) (Fin.ext ?_)
    simp only [Fin.val_mk]
    omega
  rw [e, h3]
  rfl

theorem r13 : Hm (a := 4096) (b := 1024) (φ := .f32) (val_main_v13 (F := Ideal) x3) (sh 12288 (A 3)) := fun r l => by
  have e : (val_main_v13 (F := Ideal) x3) (ix2 r l) = x3 (ix2 r ⟨12288 + l.val, by omega⟩) := by
    pointwise [val_main_v13, val_main_v4, val_main_v3]
    refine congrArg x3 ?_
    refine congrArg (ix2 r) (Fin.ext ?_)
    simp only [Fin.val_mk]
    omega
  rw [e, h3]
  rfl

theorem r19 : Hm (a := 4096) (b := 1024) (φ := .f32) (val_main_v19 (F := Ideal) x3) (fun r l => sg (sh 10240 (A 3) r l)) := fun r l => by
  have e := r11 h0 h1 h2 h3 h4 h5 h6 h7 h8 h9 h10 h11 h12
  pointwise [val_main_v19, val_main_v14, val_main_v15, val_main_cst, val_main_v16, val_main_v17, val_main_cst_0, val_main_v18]
  simp only [e _ _, ← EReal.coe_neg, exp_coe, ← EReal.coe_one, ← EReal.coe_add, div_coe (den_pos _).ne']
  rfl

theorem r30 : Hm (a := 4096) (b := 1024) (φ := .f32) (val_main_v30 (F := Ideal) x3) (fun r l => sg (sh 11264 (A 3) r l)) := fun r l => by
  have e := r12 h0 h1 h2 h3 h4 h5 h6 h7 h8 h9 h10 h11 h12
  pointwise [val_main_v30, val_main_v25, val_main_v26, val_main_cst_2, val_main_v27, val_main_v28, val_main_cst_3, val_main_v29]
  simp only [e _ _, ← EReal.coe_neg, exp_coe, ← EReal.coe_one, ← EReal.coe_add, div_coe (den_pos _).ne']
  rfl

theorem r42 : Hm (a := 4096) (b := 1024) (φ := .f32) (val_main_v42 (F := Ideal) x3) (fun r l => sg (sh 12288 (A 3) r l)) := fun r l => by
  have e := r13 h0 h1 h2 h3 h4 h5 h6 h7 h8 h9 h10 h11 h12
  pointwise [val_main_v42, val_main_v37, val_main_v38, val_main_cst_5, val_main_v39, val_main_v40, val_main_cst_6, val_main_v41]
  simp only [e _ _, ← EReal.coe_neg, exp_coe, ← EReal.coe_one, ← EReal.coe_add, div_coe (den_pos _).ne']
  rfl

theorem r22 : Hm (a := 4096) (b := 1024) (φ := .f32) (val_main_v22 (F := Ideal) x3) (fun r l => sg (sh 10240 (A 3) r l) * (1 - sg (sh 10240 (A 3) r l))) := fun r l => by
  have e19 := r19 h0 h1 h2 h3 h4 h5 h6 h7 h8 h9 h10 h11 h12
  pointwise [val_main_v22, val_main_cst_1, val_main_v20, val_main_v21]
  simp only [e19 _ _, ← EReal.coe_mul, sum_coe, ← EReal.coe_one, ← EReal.coe_sub]

theorem r33 : Hm (a := 4096) (b := 1024) (φ := .f32) (val_main_v33 (F := Ideal) x3) (fun r l => sg (sh 11264 (A 3) r l) * (1 - sg (sh 11264 (A 3) r l))) := fun r l => by
  have e30 := r30 h0 h1 h2 h3 h4 h5 h6 h7 h8 h9 h10 h11 h12
  pointwise [val_main_v33, val_main_cst_4, val_main_v31, val_main_v32]
  simp only [e30 _ _, ← EReal.coe_mul, sum_coe, ← EReal.coe_one, ← EReal.coe_sub]

theorem r45 : Hm (a := 4096) (b := 1024) (φ := .f32) (val_main_v45 (F := Ideal) x3) (fun r l => sg (sh 12288 (A 3) r l) * (1 - sg (sh 12288 (A 3) r l))) := fun r l => by
  have e42 := r42 h0 h1 h2 h3 h4 h5 h6 h7 h8 h9 h10 h11 h12
  pointwise [val_main_v45, val_main_cst_7, val_main_v43, val_main_v44]
  simp only [e42 _ _, ← EReal.coe_mul, sum_coe, ← EReal.coe_one, ← EReal.coe_sub]

theorem r23 : Hm (a := 4096) (b := 1024) (φ := .f32) (val_main_v23 (F := Ideal) x0 x4) (nn 1024 (A 0) (A 4)) := fun r l => by
  have e0 := r0 h0 h1 h2 h3 h4 h5 h6 h7 h8 h9 h10 h11 h12
  have e5 := r5 h0 h1 h2 h3 h4 h5 h6 h7 h8 h9 h10 h11 h12
  pointwise [val_main_v23]
  simp only [e0 _ _, e5 _ _, ← EReal.coe_mul, sum_coe]
  rfl

theorem r34 : Hm (a := 4096) (b := 1024) (φ := .f32) (val_main_v34 (F := Ideal) x1 x5) (nn 512 (A 1) (A 5)) := fun r l => by
  have e1 := r1 h0 h1 h2 h3 h4 h5 h6 h7 h8 h9 h10 h11 h12
  have e6 := r6 h0 h1 h2 h3 h4 h5 h6 h7 h8 h9 h10 h11 h12
  pointwise [val_main_v34]
  simp only [e1 _ _, e6 _ _, ← EReal.coe_mul, sum_coe]
  rfl

theorem r46 : Hm (a := 4096) (b := 1024) (φ := .f32) (val_main_v46 (F := Ideal) x2 x6) (nn 512 (A 2) (A 6)) := fun r l => by
  have e2 := r2 h0 h1 h2 h3 h4 h5 h6 h7 h8 h9 h10 h11 h12
  have e7 := r7 h0 h1 h2 h3 h4 h5 h6 h7 h8 h9 h10 h11 h12
  pointwise [val_main_v46]
  simp only [e2 _ _, e7 _ _, ← EReal.coe_mul, sum_coe]
  rfl

theorem r48 : Hm (a := 4096) (b := 1024) (φ := .f32) (val_main_v48 (F := Ideal) x0 x1 x2 x3 x4 x5 x6) (mg A) := fun r l => by
  have e19 := r19 h0 h1 h2 h3 h4 h5 h6 h7 h8 h9 h10 h11 h12
  have e23 := r23 h0 h1 h2 h3 h4 h5 h6 h7 h8 h9 h10 h11 h12
  have e30 := r30 h0 h1 h2 h3 h4 h5 h6 h7 h8 h9 h10 h11 h12
  have e34 := r34 h0 h1 h2 h3 h4 h5 h6 h7 h8 h9 h10 h11 h12
  have e42 := r42 h0 h1 h2 h3 h4 h5 h6 h7 h8 h9 h10 h11 h12
  have e46 := r46 h0 h1 h2 h3 h4 h5 h6 h7 h8 h9 h10 h11 h12
  pointwise [val_main_v48, val_main_v24, val_main_v35, val_main_v36, val_main_v47]
  simp only [e19 _ _, e23 _ _, e30 _ _, e34 _ _, e42 _ _, e46 _ _, ← EReal.coe_mul, sum_coe, ← EReal.coe_add]
  rfl

theorem r50 : Hm (a := 4096) (b := 1024) (φ := .f32) (val_main_v50 (F := Ideal) x0 x1 x2 x3 x4 x5 x6 x7 x8) (xr A) := fun r l => by
  have e48 := r48 h0 h1 h2 h3 h4 h5 h6 h7 h8 h9 h10 h11 h12
  have e8 := r8 h0 h1 h2 h3 h4 h5 h6 h7 h8 h9 h10 h11 h12
  pointwise [val_main_v50, val_main_v49]
  simp only [e48 _ _, e8 _ _, ← EReal.coe_mul, sum_coe, h8 _ _, ← EReal.coe_add]
  rfl

theorem r51 (l : Fin 1024) : (val_main_v51 (F := Ideal) x9) (ix1 l) = ((A 9 0 l : ℝ) : EReal) := by
  have e : (val_main_v51 (F := Ideal) x9) (ix1 l) = x9 (ix2 0 l) := by
    pointwise [val_main_v51]
  rw [e, h9]
  rfl

theorem r58 : Hm (a := 4096) (b := 1) (φ := .f32) (val_main_v58 (F := Ideal) x0 x1 x2 x3 x4 x5 x6 x7 x8) (fun r _ => msq (xr A) r) := fun r l => by
  have e := r50 h0 h1 h2 h3 h4 h5 h6 h7 h8 h9 h10 h11 h12
  pointwise [val_main_v58, val_main_v57, val_main_cst_10, val_main_v56, val_main_v55, val_main_cst_9, val_main_v54, val_main_v53, val_main_cst_8, val_main_v52]
  simp only [e _ _, bits_eps, bits_1024, ← EReal.coe_mul, sum_coe, div_coe (show (1024 : ℝ) ≠ 0 by norm_num), ← EReal.coe_add]
  rfl

theorem r59 : Hm (a := 4096) (b := 1) (φ := .f32) (val_main_v59 (F := Ideal) x0 x1 x2 x3 x4 x5 x6 x7 x8) (fun r _ => rr (xr A) r) := fun r l => by
  have e := r58 h0 h1 h2 h3 h4 h5 h6 h7 h8 h9 h10 h11 h12
  pointwise [val_main_v59]
  rw [e, rsqrt_coe (msq_pos _ _)]
  rfl

theorem r62 : Hm (a := 4096) (b := 1) (φ := .f32) (val_main_v62 (F := Ideal) x0 x1 x2 x3 x4 x5 x6 x7 x8) (fun r _ => -(1 / 2) * (rr (xr A) r / msq (xr A) r)) := fun r l => by
  have e := r58 h0 h1 h2 h3 h4 h5 h6 h7 h8 h9 h10 h11 h12
  have e' := r59 h0 h1 h2 h3 h4 h5 h6 h7 h8 h9 h10 h11 h12
  pointwise [val_main_v62, val_main_v61, val_main_v60, val_main_cst_11]
  rw [e, e', bits_neg_half, div_coe (msq_pos _ _).ne', ← EReal.coe_mul]

theorem r64 : Hm (a := 4096) (b := 1024) (φ := .f32) (val_main_v64 (F := Ideal) x0 x1 x2 x3 x4 x5 x6 x7 x8) (hat (xr A)) := fun r l => by
  have e50 := r50 h0 h1 h2 h3 h4 h5 h6 h7 h8 h9 h10 h11 h12
  have e59 := r59 h0 h1 h2 h3 h4 h5 h6 h7 h8 h9 h10 h11 h12
  pointwise [val_main_v64, val_main_v63]
  simp only [e50 _ _, e59 _ _, ← EReal.coe_mul, sum_coe]
  rfl

theorem r66 : Hm (a := 4096) (b := 1024) (φ := .f32) (val_main_v66 (F := Ideal) x9) (fun _ l => A 9 0 l) := fun r l => by
  have e := r51 h0 h1 h2 h3 h4 h5 h6 h7 h8 h9 h10 h11 h12
  pointwise [val_main_v66, val_main_v65]
  exact e l

theorem r67 : Hm (a := 4096) (b := 1024) (φ := .f32) (val_main_v67 (F := Ideal) x0 x1 x2 x3 x4 x5 x6 x7 x8 x9) (hn A) := fun r l => by
  have e64 := r64 h0 h1 h2 h3 h4 h5 h6 h7 h8 h9 h10 h11 h12
  have e66 := r66 h0 h1 h2 h3 h4 h5 h6 h7 h8 h9 h10 h11 h12
  pointwise [val_main_v67]
  simp only [e64 _ _, e66 _ _, ← EReal.coe_mul, sum_coe]
  rfl

theorem r68 : Hm (a := 4096) (b := 5632) (φ := .f32) (val_main_v68 (F := Ideal) x0 x1 x2 x3 x4 x5 x6 x7 x8 x9 x10) (nn 1024 (hn A) (A 10)) := fun r l => by
  have e67 := r67 h0 h1 h2 h3 h4 h5 h6 h7 h8 h9 h10 h11 h12
  have e9 := r9 h0 h1 h2 h3 h4 h5 h6 h7 h8 h9 h10 h11 h12
  pointwise [val_main_v68]
  simp only [e67 _ _, e9 _ _, ← EReal.coe_mul, sum_coe]
  rfl

theorem r69 : Hm (a := 4096) (b := 2816) (φ := .f32) (val_main_v69 (F := Ideal) x0 x1 x2 x3 x4 x5 x6 x7 x8 x9 x10) (fa A) := fun r l => by
  have e68 := r68 h0 h1 h2 h3 h4 h5 h6 h7 h8 h9 h10 h11 h12
  pointwise [val_main_v69]
  simp only [e68 _ _, ← EReal.coe_mul, sum_coe]
  rfl

theorem r70 : Hm (a := 4096) (b := 2816) (φ := .f32) (val_main_v70 (F := Ideal) x0 x1 x2 x3 x4 x5 x6 x7 x8 x9 x10) (fb A) := fun r l => by
  have e : (val_main_v70 (F := Ideal) x0 x1 x2 x3 x4 x5 x6 x7 x8 x9 x10) (ix2 r l) = (val_main_v68 (F := Ideal) x0 x1 x2 x3 x4 x5 x6 x7 x8 x9 x10) (ix2 r ⟨2816 + l.val, by omega⟩) := by
    unfold val_main_v70
    generalize val_main_v68 (F := Ideal) x0 x1 x2 x3 x4 x5 x6 x7 x8 x9 x10 = y
    pointwise []
  rw [e, r68 h0 h1 h2 h3 h4 h5 h6 h7 h8 h9 h10 h11 h12]
  rfl

theorem r71_2 : Hm (a := 4096) (b := 2816) (φ := .f32) (val_main_v71_2 (F := Ideal) x0 x1 x2 x3 x4 x5 x6 x7 x8 x9 x10) (fun r l => sg (fa A r l)) := fun r l => by
  have e := r69 h0 h1 h2 h3 h4 h5 h6 h7 h8 h9 h10 h11 h12
  pointwise [val_main_v71_2, val_main_call0_v0, val_main_call0_v1, val_main_call0_cst, val_main_call0_v2, val_main_call0_v3, val_main_call0_cst_0, val_main_call0_v4]
  simp only [e _ _, ← EReal.coe_neg, exp_coe, ← EReal.coe_one, ← EReal.coe_add, div_coe (den_pos _).ne']
  rfl

theorem r71_1 : Hm (a := 4096) (b := 2816) (φ := .f32) (val_main_v71_1 (F := Ideal) x0 x1 x2 x3 x4 x5 x6 x7 x8 x9 x10) (fun r l => sg (fa A r l) * (1 - sg (fa A r l))) := fun r l => by
  have e71_2 := r71_2 h0 h1 h2 h3 h4 h5 h6 h7 h8 h9 h10 h11 h12
  pointwise [val_main_v71_1, val_main_call0_v7, val_main_call0_v6, val_main_call0_cst_1]
  simp only [e71_2 _ _, ← EReal.coe_mul, sum_coe, ← EReal.coe_one, ← EReal.coe_sub]

theorem r71_0 : Hm (a := 4096) (b := 2816) (φ := .f32) (val_main_v71_0 (F := Ideal) x0 x1 x2 x3 x4 x5 x6 x7 x8 x9 x10) (fun r l => fa A r l * sg (fa A r l)) := fun r l => by
  have e69 := r69 h0 h1 h2 h3 h4 h5 h6 h7 h8 h9 h10 h11 h12
  have e71_2 := r71_2 h0 h1 h2 h3 h4 h5 h6 h7 h8 h9 h10 h11 h12
  pointwise [val_main_v71_0]
  simp only [e69 _ _, e71_2 _ _, ← EReal.coe_mul, sum_coe]

theorem r72 : Hm (a := 4096) (b := 2816) (φ := .f32) (val_main_v72 (F := Ideal) x0 x1 x2 x3 x4 x5 x6 x7 x8 x9 x10) (fu A) := fun r l => by
  have e71_0 := r71_0 h0 h1 h2 h3 h4 h5 h6 h7 h8 h9 h10 h11 h12
  have e70 := r70 h0 h1 h2 h3 h4 h5 h6 h7 h8 h9 h10 h11 h12
  pointwise [val_main_v72]
  simp only [e71_0 _ _, e70 _ _, ← EReal.coe_mul, sum_coe]
  rfl

theorem r76 : Hm (a := 4096) (b := 1024) (φ := .f32) (val_main_v76 (F := Ideal) x12) (A 12) := fun r l => by
  pointwise [val_main_v76]
  simp only [← EReal.coe_mul, sum_coe, h12 _ _]

theorem r75 : Hm (a := 4096) (b := 1024) (φ := .f32) (val_main_v75 (F := Ideal) x12) (A 12) := fun r l => by
  pointwise [val_main_v75]
  simp only [← EReal.coe_mul, sum_coe, h12 _ _]

theorem r77 : Hm (a := 1024) (b := 2816) (φ := .f32) (val_main_v77 (F := Ideal) x0 x1 x2 x3 x4 x5 x6 x7 x8 x9 x10 x12) (tn 4096 (A 12) (fu A)) := fun r l => by
  have e76 := r76 h0 h1 h2 h3 h4 h5 h6 h7 h8 h9 h10 h11 h12
  have e72 := r72 h0 h1 h2 h3 h4 h5 h6 h7 h8 h9 h10 h11 h12
  pointwise [val_main_v77]
  simp only [e76 _ _, e72 _ _, ← EReal.coe_mul, sum_coe]
  rfl

theorem r78 : Hm (a := 2816) (b := 1024) (φ := .f32) (val_main_v78 (F := Ideal) x0 x1 x2 x3 x4 x5 x6 x7 x8 x9 x10 x12) (gfo A) := fun r l => by
  have e77 := r77 h0 h1 h2 h3 h4 h5 h6 h7 h8 h9 h10 h11 h12
  pointwise [val_main_v78]
  simp only [e77 _ _, ← EReal.coe_mul, sum_coe]
  refine congrArg (fun x : ℝ => (x : EReal)) ?_
  exact Finset.sum_congr rfl fun k _ => mul_comm _ _

theorem r79 : Hm (a := 4096) (b := 2816) (φ := .f32) (val_main_v79 (F := Ideal) x11 x12) (nt 1024 (A 12) (A 11)) := fun r l => by
  have e76 := r76 h0 h1 h2 h3 h4 h5 h6 h7 h8 h9 h10 h11 h12
  have e10 := r10 h0 h1 h2 h3 h4 h5 h6 h7 h8 h9 h10 h11 h12
  pointwise [val_main_v79]
  simp only [e76 _ _, e10 _ _, ← EReal.coe_mul, sum_coe]
  rfl

theorem r80 : Hm (a := 4096) (b := 2816) (φ := .f32) (val_main_v80 (F := Ideal) x0 x1 x2 x3 x4 x5 x6 x7 x8 x9 x10 x11 x12) (db A) := fun r l => by
  have e71_0 := r71_0 h0 h1 h2 h3 h4 h5 h6 h7 h8 h9 h10 h11 h12
  have e79 := r79 h0 h1 h2 h3 h4 h5 h6 h7 h8 h9 h10 h11 h12
  pointwise [val_main_v80]
  simp only [e71_0 _ _, e79 _ _, ← EReal.coe_mul, sum_coe]
  refine congrArg (fun x : ℝ => (x : EReal)) ?_
  unfold db
  ring

theorem r82 : Hm (a := 4096) (b := 2816) (φ := .f32) (val_main_v82 (F := Ideal) x0 x1 x2 x3 x4 x5 x6 x7 x8 x9 x10 x11 x12) (da A) := fun r l => by
  have e79 := r79 h0 h1 h2 h3 h4 h5 h6 h7 h8 h9 h10 h11 h12
  have e70 := r70 h0 h1 h2 h3 h4 h5 h6 h7 h8 h9 h10 h11 h12
  have e69 := r69 h0 h1 h2 h3 h4 h5 h6 h7 h8 h9 h10 h11 h12
  have e71_2 := r71_2 h0 h1 h2 h3 h4 h5 h6 h7 h8 h9 h10 h11 h12
  have e71_1 := r71_1 h0 h1 h2 h3 h4 h5 h6 h7 h8 h9 h10 h11 h12
  pointwise [val_main_v82, val_main_v81, val_main_call1_v0, val_main_call1_v1, val_main_call1_v2]
  simp only [e79 _ _, e70 _ _, e69 _ _, e71_2 _ _, e71_1 _ _, ← EReal.coe_mul, sum_coe, ← EReal.coe_add]
  refine congrArg (fun x : ℝ => (x : EReal)) ?_
  unfold da
  ring

theorem r83 : Hm (a := 4096) (b := 5632) (φ := .f32) (val_main_v83 (F := Ideal) x0 x1 x2 x3 x4 x5 x6 x7 x8 x9 x10 x11 x12) (two 2816 (da A) (db A)) := fun r l => by
  have e := r82 h0 h1 h2 h3 h4 h5 h6 h7 h8 h9 h10 h11 h12
  have e' := r80 h0 h1 h2 h3 h4 h5 h6 h7 h8 h9 h10 h11 h12
  unfold val_main_v83
  generalize val_main_v82 (F := Ideal) x0 x1 x2 x3 x4 x5 x6 x7 x8 x9 x10 x11 x12 = y at e
  generalize val_main_v80 (F := Ideal) x0 x1 x2 x3 x4 x5 x6 x7 x8 x9 x10 x11 x12 = y' at e'
  pointwise []
  unfold two
  by_cases g : l.val < 2816
  · rw [dif_pos g, if_pos g]
    exact e _ _
  · rw [dif_neg g, if_neg g]
    exact e' _ _

theorem r84 : Hm (a := 5632) (b := 1024) (φ := .f32) (val_main_v84 (F := Ideal) x0 x1 x2 x3 x4 x5 x6 x7 x8 x9 x10 x11 x12) (tn 4096 (two 2816 (da A) (db A)) (hn A)) := fun r l => by
  have e83 := r83 h0 h1 h2 h3 h4 h5 h6 h7 h8 h9 h10 h11 h12
  have e67 := r67 h0 h1 h2 h3 h4 h5 h6 h7 h8 h9 h10 h11 h12
  pointwise [val_main_v84]
  simp only [e83 _ _, e67 _ _, ← EReal.coe_mul, sum_coe]
  rfl

theorem r85 : Hm (a := 1024) (b := 5632) (φ := .f32) (val_main_v85 (F := Ideal) x0 x1 x2 x3 x4 x5 x6 x7 x8 x9 x10 x11 x12) (tn 4096 (hn A) (two 2816 (da A) (db A))) := fun r l => by
  have e84 := r84 h0 h1 h2 h3 h4 h5 h6 h7 h8 h9 h10 h11 h12
  pointwise [val_main_v85]
  simp only [e84 _ _, ← EReal.coe_mul, sum_coe]
  refine congrArg (fun x : ℝ => (x : EReal)) ?_
  exact Finset.sum_congr rfl fun k _ => mul_comm _ _

theorem r132 : Hm (a := 1024) (b := 2816) (φ := .f32) (val_main_v132 (F := Ideal) x0 x1 x2 x3 x4 x5 x6 x7 x8 x9 x10 x11 x12) (gfa A) := fun r l => by
  have e := r85 h0 h1 h2 h3 h4 h5 h6 h7 h8 h9 h10 h11 h12
  unfold val_main_v132
  generalize val_main_v85 (F := Ideal) x0 x1 x2 x3 x4 x5 x6 x7 x8 x9 x10 x11 x12 = y at e
  pointwise []
  rw [e]
  refine congrArg (fun x : ℝ => (x : EReal)) ?_
  unfold gfa tn
  exact Finset.sum_congr rfl fun k _ => congrArg (hn A k r * ·) (two_lo _ _ _ _ l.isLt)

theorem r134 : Hm (a := 1024) (b := 2816) (φ := .f32) (val_main_v134 (F := Ideal) x0 x1 x2 x3 x4 x5 x6 x7 x8 x9 x10 x11 x12) (gfb A) := fun r l => by
  have e : (val_main_v134 (F := Ideal) x0 x1 x2 x3 x4 x5 x6 x7 x8 x9 x10 x11 x12) (ix2 r l) = (val_main_v85 (F := Ideal) x0 x1 x2 x3 x4 x5 x6 x7 x8 x9 x10 x11 x12) (ix2 r ⟨2816 + l.val, by omega⟩) := by
    unfold val_main_v134
    generalize val_main_v85 (F := Ideal) x0 x1 x2 x3 x4 x5 x6 x7 x8 x9 x10 x11 x12 = y
    pointwise []
  rw [e, r85 h0 h1 h2 h3 h4 h5 h6 h7 h8 h9 h10 h11 h12]
  refine congrArg (fun x : ℝ => (x : EReal)) ?_
  unfold gfb tn
  exact Finset.sum_congr rfl fun k _ => congrArg (hn A k r * ·) (two_hi _ _ _ _)

theorem r86 : Hm (a := 4096) (b := 1024) (φ := .f32) (val_main_v86 (F := Ideal) x0 x1 x2 x3 x4 x5 x6 x7 x8 x9 x10 x11 x12) (dh A) := fun r l => by
  have e83 := r83 h0 h1 h2 h3 h4 h5 h6 h7 h8 h9 h10 h11 h12
  have e9 := r9 h0 h1 h2 h3 h4 h5 h6 h7 h8 h9 h10 h11 h12
  pointwise [val_main_v86]
  simp only [e83 _ _, e9 _ _, ← EReal.coe_mul, sum_coe]
  refine congrArg (fun x : ℝ => (x : EReal)) ?_
  exact nt_two _ _ _ _ _

theorem r131 : Hm (a := 2816) (b := 1024) (φ := .bf16) (val_main_v131 (F := Ideal) x0 x1 x2 x3 x4 x5 x6 x7 x8 x9 x10 x12) (gfo A) := fun r l => by
  have e78 := r78 h0 h1 h2 h3 h4 h5 h6 h7 h8 h9 h10 h11 h12
  pointwise [val_main_v131]
  simp only [e78 _ _, ← EReal.coe_mul, sum_coe]

theorem r133 : Hm (a := 1024) (b := 2816) (φ := .bf16) (val_main_v133 (F := Ideal) x0 x1 x2 x3 x4 x5 x6 x7 x8 x9 x10 x11 x12) (gfa A) := fun r l => by
  have e132 := r132 h0 h1 h2 h3 h4 h5 h6 h7 h8 h9 h10 h11 h12
  pointwise [val_main_v133]
  simp only [e132 _ _, ← EReal.coe_mul, sum_coe]

theorem r135 : Hm (a := 1024) (b := 2816) (φ := .bf16) (val_main_v135 (F := Ideal) x0 x1 x2 x3 x4 x5 x6 x7 x8 x9 x10 x11 x12) (gfb A) := fun r l => by
  have e134 := r134 h0 h1 h2 h3 h4 h5 h6 h7 h8 h9 h10 h11 h12
  pointwise [val_main_v135]
  simp only [e134 _ _, ← EReal.coe_mul, sum_coe]

theorem r87 : Hm (a := 4096) (b := 1024) (φ := .f32) (val_main_v87 (F := Ideal) x0 x1 x2 x3 x4 x5 x6 x7 x8 x9 x10 x11 x12) (fun r l => hat (xr A) r l * dh A r l) := fun r l => by
  have e64 := r64 h0 h1 h2 h3 h4 h5 h6 h7 h8 h9 h10 h11 h12
  have e86 := r86 h0 h1 h2 h3 h4 h5 h6 h7 h8 h9 h10 h11 h12
  pointwise [val_main_v87]
  simp only [e64 _ _, e86 _ _, ← EReal.coe_mul, sum_coe]

theorem r108 : Hm (a := 1) (b := 1024) (φ := .f32) (val_main_v108 (F := Ideal) x0 x1 x2 x3 x4 x5 x6 x7 x8 x9 x10 x11 x12) (gg A) := fun r l => by
  have e := r87 h0 h1 h2 h3 h4 h5 h6 h7 h8 h9 h10 h11 h12
  pointwise [val_main_v108, val_main_v92, val_main_v89, val_main_v88, val_main_cst_12, val_main_cst_13]
  simp only [e _ _, sum_coe]
  refine congrArg (fun x : ℝ => (x : EReal)) ?_
  rw [Fin.sum_univ_one, sum_blocks (fun k => hat (xr A) k l * dh A k l)]
  exact Finset.sum_congr rfl fun _ _ => Finset.sum_congr rfl fun _ _ => mul_comm _ _

theorem r91 : Hm (a := 4096) (b := 1024) (φ := .f32) (val_main_v91 (F := Ideal) x0 x1 x2 x3 x4 x5 x6 x7 x8 x9 x10 x11 x12) (fun r l => dh A r l * A 9 0 l) := fun r l => by
  have e86 := r86 h0 h1 h2 h3 h4 h5 h6 h7 h8 h9 h10 h11 h12
  pointwise [val_main_v91, val_main_v90, val_main_v65]
  simp only [e86 _ _, ← EReal.coe_mul, sum_coe, r51 h0 h1 h2 h3 h4 h5 h6 h7 h8 h9 h10 h11 h12]

theorem r103 : Hm (a := 4096) (b := 1024) (φ := .f32) (val_main_v103 (F := Ideal) x0 x1 x2 x3 x4 x5 x6 x7 x8 x9 x10 x11 x12) (fun r _ => (∑ k : Fin 1024, xr A r k * (dh A r k * A 9 0 k)) * (-(1 / 2) * (rr (xr A) r / msq (xr A) r)) / 1024) := fun r l => by
  have e := r91 h0 h1 h2 h3 h4 h5 h6 h7 h8 h9 h10 h11 h12
  have e1 := r50 h0 h1 h2 h3 h4 h5 h6 h7 h8 h9 h10 h11 h12
  have e2 := r62 h0 h1 h2 h3 h4 h5 h6 h7 h8 h9 h10 h11 h12
  pointwise [val_main_v103, val_main_v102, val_main_cst_16, val_main_v101, val_main_v100, val_main_cst_15, val_main_v99, val_main_v95, val_main_v94, val_main_cst_14, val_main_v93]
  simp only [e _ _, e1 _ _, e2 _ _, bits_1024, ← EReal.coe_mul, sum_coe, div_coe (show (1024 : ℝ) ≠ 0 by norm_num)]
  simp

theorem r107 : Hm (a := 4096) (b := 1024) (φ := .f32) (val_main_v107 (F := Ideal) x0 x1 x2 x3 x4 x5 x6 x7 x8 x9 x10 x11 x12) (dx A) := fun r l => by
  have e91 := r91 h0 h1 h2 h3 h4 h5 h6 h7 h8 h9 h10 h11 h12
  have e59 := r59 h0 h1 h2 h3 h4 h5 h6 h7 h8 h9 h10 h11 h12
  have e75 := r75 h0 h1 h2 h3 h4 h5 h6 h7 h8 h9 h10 h11 h12
  have e50 := r50 h0 h1 h2 h3 h4 h5 h6 h7 h8 h9 h10 h11 h12
  have e103 := r103 h0 h1 h2 h3 h4 h5 h6 h7 h8 h9 h10 h11 h12
  pointwise [val_main_v107, val_main_v106, val_main_v105, val_main_v104, val_main_v98, val_main_v97, val_main_v96]
  simp only [e91 _ _, e59 _ _, e75 _ _, e50 _ _, e103 _ _, ← EReal.coe_mul, sum_coe, ← EReal.coe_add]
  refine congrArg (fun x : ℝ => (x : EReal)) ?_
  unfold dx
  rw [← bwd_eq]
  ring

theorem r109 : Hm (a := 1024) (b := 1024) (φ := .f32) (val_main_v109 (F := Ideal) x0 x1 x2 x3 x4 x5 x6 x7 x8 x9 x10 x11 x12) (tn 4096 (dx A) (mg A)) := fun r l => by
  have e107 := r107 h0 h1 h2 h3 h4 h5 h6 h7 h8 h9 h10 h11 h12
  have e48 := r48 h0 h1 h2 h3 h4 h5 h6 h7 h8 h9 h10 h11 h12
  pointwise [val_main_v109]
  simp only [e107 _ _, e48 _ _, ← EReal.coe_mul, sum_coe]
  rfl

theorem r110 : Hm (a := 1024) (b := 1024) (φ := .f32) (val_main_v110 (F := Ideal) x0 x1 x2 x3 x4 x5 x6 x7 x8 x9 x10 x11 x12) (go A) := fun r l => by
  have e109 := r109 h0 h1 h2 h3 h4 h5 h6 h7 h8 h9 h10 h11 h12
  pointwise [val_main_v110]
  simp only [e109 _ _, ← EReal.coe_mul, sum_coe]
  refine congrArg (fun x : ℝ => (x : EReal)) ?_
  exact Finset.sum_congr rfl fun k _ => mul_comm _ _

theorem r136 : Hm (a := 1024) (b := 1024) (φ := .bf16) (val_main_v136 (F := Ideal) x0 x1 x2 x3 x4 x5 x6 x7 x8 x9 x10 x11 x12) (go A) := fun r l => by
  have e110 := r110 h0 h1 h2 h3 h4 h5 h6 h7 h8 h9 h10 h11 h12
  pointwise [val_main_v136]
  simp only [e110 _ _, ← EReal.coe_mul, sum_coe]

theorem r111 : Hm (a := 4096) (b := 1024) (φ := .f32) (val_main_v111 (F := Ideal) x0 x1 x2 x3 x4 x5 x6 x7 x8 x9 x10 x11 x12) (dm A) := fun r l => by
  have e107 := r107 h0 h1 h2 h3 h4 h5 h6 h7 h8 h9 h10 h11 h12
  have e8 := r8 h0 h1 h2 h3 h4 h5 h6 h7 h8 h9 h10 h11 h12
  pointwise [val_main_v111]
  simp only [e107 _ _, e8 _ _, ← EReal.coe_mul, sum_coe]
  rfl

theorem r112 : Hm (a := 4096) (b := 1024) (φ := .f32) (val_main_v112 (F := Ideal) x0 x1 x2 x3 x4 x5 x6 x7 x8 x9 x10 x11 x12) (zm A) := fun r l => by
  have e42 := r42 h0 h1 h2 h3 h4 h5 h6 h7 h8 h9 h10 h11 h12
  have e111 := r111 h0 h1 h2 h3 h4 h5 h6 h7 h8 h9 h10 h11 h12
  pointwise [val_main_v112]
  simp only [e42 _ _, e111 _ _, ← EReal.coe_mul, sum_coe]
  refine congrArg (fun x : ℝ => (x : EReal)) ?_
  unfold zm dz
  ring

theorem r114 : Hm (a := 1024) (b := 512) (φ := .f32) (val_main_v114 (F := Ideal) x0 x1 x2 x3 x4 x5 x6 x7 x8 x9 x10 x11 x12) (tn 4096 (zm A) (A 2)) := fun r l => by
  have e112 := r112 h0 h1 h2 h3 h4 h5 h6 h7 h8 h9 h10 h11 h12
  have e2 := r2 h0 h1 h2 h3 h4 h5 h6 h7 h8 h9 h10 h11 h12
  pointwise [val_main_v114]
  simp only [e112 _ _, e2 _ _, ← EReal.coe_mul, sum_coe]
  rfl

theorem r115 : Hm (a := 512) (b := 1024) (φ := .f32) (val_main_v115 (F := Ideal) x0 x1 x2 x3 x4 x5 x6 x7 x8 x9 x10 x11 x12) (pm A) := fun r l => by
  have e114 := r114 h0 h1 h2 h3 h4 h5 h6 h7 h8 h9 h10 h11 h12
  pointwise [val_main_v115]
  simp only [e114 _ _, ← EReal.coe_mul, sum_coe]
  refine congrArg (fun x : ℝ => (x : EReal)) ?_
  exact Finset.sum_congr rfl fun k _ => mul_comm _ _

theorem r139 : Hm (a := 512) (b := 1024) (φ := .bf16) (val_main_v139 (F := Ideal) x0 x1 x2 x3 x4 x5 x6 x7 x8 x9 x10 x11 x12) (pm A) := fun r l => by
  have e115 := r115 h0 h1 h2 h3 h4 h5 h6 h7 h8 h9 h10 h11 h12
  pointwise [val_main_v139]
  simp only [e115 _ _, ← EReal.coe_mul, sum_coe]

theorem r116 : Hm (a := 4096) (b := 512) (φ := .f32) (val_main_v116 (F := Ideal) x0 x1 x2 x3 x4 x5 x6 x7 x8 x9 x10 x11 x12) (om A) := fun r l => by
  have e112 := r112 h0 h1 h2 h3 h4 h5 h6 h7 h8 h9 h10 h11 h12
  have e7 := r7 h0 h1 h2 h3 h4 h5 h6 h7 h8 h9 h10 h11 h12
  pointwise [val_main_v116]
  simp only [e112 _ _, e7 _ _, ← EReal.coe_mul, sum_coe]
  rfl

theorem r117 : Hm (a := 4096) (b := 1024) (φ := .f32) (val_main_v117 (F := Ideal) x0 x1 x2 x3 x4 x5 x6 x7 x8 x9 x10 x11 x12) (dgate (dm A) (nn 512 (A 2) (A 6)) (sh 12288 (A 3))) := fun r l => by
  have e111 := r111 h0 h1 h2 h3 h4 h5 h6 h7 h8 h9 h10 h11 h12
  have e46 := r46 h0 h1 h2 h3 h4 h5 h6 h7 h8 h9 h10 h11 h12
  have e45 := r45 h0 h1 h2 h3 h4 h5 h6 h7 h8 h9 h10 h11 h12
  pointwise [val_main_v117, val_main_v113]
  simp only [e111 _ _, e46 _ _, e45 _ _, ← EReal.coe_mul, sum_coe]
  refine congrArg (fun x : ℝ => (x : EReal)) ?_
  unfold dgate
  ring

theorem r118 : Hm (a := 4096) (b := 1024) (φ := .f32) (val_main_v118 (F := Ideal) x0 x1 x2 x3 x4 x5 x6 x7 x8 x9 x10 x11 x12) (zd A) := fun r l => by
  have e30 := r30 h0 h1 h2 h3 h4 h5 h6 h7 h8 h9 h10 h11 h12
  have e111 := r111 h0 h1 h2 h3 h4 h5 h6 h7 h8 h9 h10 h11 h12
  pointwise [val_main_v118]
  simp only [e30 _ _, e111 _ _, ← EReal.coe_mul, sum_coe]
  refine congrArg (fun x : ℝ => (x : EReal)) ?_
  unfold zd dz
  ring

theorem r120 : Hm (a := 1024) (b := 512) (φ := .f32) (val_main_v120 (F := Ideal) x0 x1 x2 x3 x4 x5 x6 x7 x8 x9 x10 x11 x12) (tn 4096 (zd A) (A 1)) := fun r l => by
  have e118 := r118 h0 h1 h2 h3 h4 h5 h6 h7 h8 h9 h10 h11 h12
  have e1 := r1 h0 h1 h2 h3 h4 h5 h6 h7 h8 h9 h10 h11 h12
  pointwise [val_main_v120]
  simp only [e118 _ _, e1 _ _, ← EReal.coe_mul, sum_coe]
  rfl

theorem r121 : Hm (a := 512) (b := 1024) (φ := .f32) (val_main_v121 (F := Ideal) x0 x1 x2 x3 x4 x5 x6 x7 x8 x9 x10 x11 x12) (pd A) := fun r l => by
  have e120 := r120 h0 h1 h2 h3 h4 h5 h6 h7 h8 h9 h10 h11 h12
  pointwise [val_main_v121]
  simp only [e120 _ _, ← EReal.coe_mul, sum_coe]
  refine congrArg (fun x : ℝ => (x : EReal)) ?_
  exact Finset.sum_congr rfl fun k _ => mul_comm _ _

theorem r138 : Hm (a := 512) (b := 1024) (φ := .bf16) (val_main_v138 (F := Ideal) x0 x1 x2 x3 x4 x5 x6 x7 x8 x9 x10 x11 x12) (pd A) := fun r l => by
  have e121 := r121 h0 h1 h2 h3 h4 h5 h6 h7 h8 h9 h10 h11 h12
  pointwise [val_main_v138]
  simp only [e121 _ _, ← EReal.coe_mul, sum_coe]

theorem r122 : Hm (a := 4096) (b := 512) (φ := .f32) (val_main_v122 (F := Ideal) x0 x1 x2 x3 x4 x5 x6 x7 x8 x9 x10 x11 x12) (od A) := fun r l => by
  have e118 := r118 h0 h1 h2 h3 h4 h5 h6 h7 h8 h9 h10 h11 h12
  have e6 := r6 h0 h1 h2 h3 h4 h5 h6 h7 h8 h9 h10 h11 h12
  pointwise [val_main_v122]
  simp only [e118 _ _, e6 _ _, ← EReal.coe_mul, sum_coe]
  rfl

theorem r123 : Hm (a := 4096) (b := 1024) (φ := .f32) (val_main_v123 (F := Ideal) x0 x1 x2 x3 x4 x5 x6 x7 x8 x9 x10 x11 x12) (dgate (dm A) (nn 512 (A 1) (A 5)) (sh 11264 (A 3))) := fun r l => by
  have e111 := r111 h0 h1 h2 h3 h4 h5 h6 h7 h8 h9 h10 h11 h12
  have e34 := r34 h0 h1 h2 h3 h4 h5 h6 h7 h8 h9 h10 h11 h12
  have e33 := r33 h0 h1 h2 h3 h4 h5 h6 h7 h8 h9 h10 h11 h12
  pointwise [val_main_v123, val_main_v119]
  simp only [e111 _ _, e34 _ _, e33 _ _, ← EReal.coe_mul, sum_coe]
  refine congrArg (fun x : ℝ => (x : EReal)) ?_
  unfold dgate
  ring

theorem r124 : Hm (a := 4096) (b := 1024) (φ := .f32) (val_main_v124 (F := Ideal) x0 x1 x2 x3 x4 x5 x6 x7 x8 x9 x10 x11 x12) (zh A) := fun r l => by
  have e19 := r19 h0 h1 h2 h3 h4 h5 h6 h7 h8 h9 h10 h11 h12
  have e111 := r111 h0 h1 h2 h3 h4 h5 h6 h7 h8 h9 h10 h11 h12
  pointwise [val_main_v124]
  simp only [e19 _ _, e111 _ _, ← EReal.coe_mul, sum_coe]
  refine congrArg (fun x : ℝ => (x : EReal)) ?_
  unfold zh dz
  ring

theorem r126 : Hm (a := 1024) (b := 1024) (φ := .f32) (val_main_v126 (F := Ideal) x0 x1 x2 x3 x4 x5 x6 x7 x8 x9 x10 x11 x12) (tn 4096 (zh A) (A 0)) := fun r l => by
  have e124 := r124 h0 h1 h2 h3 h4 h5 h6 h7 h8 h9 h10 h11 h12
  have e0 := r0 h0 h1 h2 h3 h4 h5 h6 h7 h8 h9 h10 h11 h12
  pointwise [val_main_v126]
  simp only [e124 _ _, e0 _ _, ← EReal.coe_mul, sum_coe]
  rfl

theorem r127 : Hm (a := 1024) (b := 1024) (φ := .f32) (val_main_v127 (F := Ideal) x0 x1 x2 x3 x4 x5 x6 x7 x8 x9 x10 x11 x12) (ph A) := fun r l => by
  have e126 := r126 h0 h1 h2 h3 h4 h5 h6 h7 h8 h9 h10 h11 h12
  pointwise [val_main_v127]
  simp only [e126 _ _, ← EReal.coe_mul, sum_coe]
  refine congrArg (fun x : ℝ => (x : EReal)) ?_
  exact Finset.sum_congr rfl fun k _ => mul_comm _ _

theorem r137 : Hm (a := 1024) (b := 1024) (φ := .bf16) (val_main_v137 (F := Ideal) x0 x1 x2 x3 x4 x5 x6 x7 x8 x9 x10 x11 x12) (ph A) := fun r l => by
  have e127 := r127 h0 h1 h2 h3 h4 h5 h6 h7 h8 h9 h10 h11 h12
  pointwise [val_main_v137]
  simp only [e127 _ _, ← EReal.coe_mul, sum_coe]

theorem r128 : Hm (a := 4096) (b := 1024) (φ := .f32) (val_main_v128 (F := Ideal) x0 x1 x2 x3 x4 x5 x6 x7 x8 x9 x10 x11 x12) (oh A) := fun r l => by
  have e124 := r124 h0 h1 h2 h3 h4 h5 h6 h7 h8 h9 h10 h11 h12
  have e5 := r5 h0 h1 h2 h3 h4 h5 h6 h7 h8 h9 h10 h11 h12
  pointwise [val_main_v128]
  simp only [e124 _ _, e5 _ _, ← EReal.coe_mul, sum_coe]
  rfl

theorem r129 : Hm (a := 4096) (b := 1024) (φ := .f32) (val_main_v129 (F := Ideal) x0 x1 x2 x3 x4 x5 x6 x7 x8 x9 x10 x11 x12) (dgate (dm A) (nn 1024 (A 0) (A 4)) (sh 10240 (A 3))) := fun r l => by
  have e111 := r111 h0 h1 h2 h3 h4 h5 h6 h7 h8 h9 h10 h11 h12
  have e23 := r23 h0 h1 h2 h3 h4 h5 h6 h7 h8 h9 h10 h11 h12
  have e22 := r22 h0 h1 h2 h3 h4 h5 h6 h7 h8 h9 h10 h11 h12
  pointwise [val_main_v129, val_main_v125]
  simp only [e111 _ _, e23 _ _, e22 _ _, ← EReal.coe_mul, sum_coe]
  refine congrArg (fun x : ℝ => (x : EReal)) ?_
  unfold dgate
  ring

theorem r140 : Hm (a := 4096) (b := 3072) (φ := .bf16) (val_main_v140 (F := Ideal) x0 x1 x2 x3 x4 x5 x6 x7 x8 x9 x10 x11 x12) (dg A) := fun r l => by
  have e := r129 h0 h1 h2 h3 h4 h5 h6 h7 h8 h9 h10 h11 h12
  have e' := r123 h0 h1 h2 h3 h4 h5 h6 h7 h8 h9 h10 h11 h12
  have e'' := r117 h0 h1 h2 h3 h4 h5 h6 h7 h8 h9 h10 h11 h12
  pointwise [val_main_v140]
  unfold val_main_v130
  generalize val_main_v129 (F := Ideal) x0 x1 x2 x3 x4 x5 x6 x7 x8 x9 x10 x11 x12 = y at e
  generalize val_main_v123 (F := Ideal) x0 x1 x2 x3 x4 x5 x6 x7 x8 x9 x10 x11 x12 = y' at e'
  generalize val_main_v117 (F := Ideal) x0 x1 x2 x3 x4 x5 x6 x7 x8 x9 x10 x11 x12 = y'' at e''
  pointwise []
  unfold dg three
  by_cases g : l.val < 1024
  · rw [dif_pos g, if_pos g]
    exact e _ _
  · rw [dif_neg g, if_neg g]
    by_cases g' : l.val < 2048
    · rw [dif_pos (by omega), if_pos g']
      exact e' _ _
    · rw [dif_neg (by omega), if_neg g']
      refine (e'' _ _).trans (congrArg (fun x : ℝ => (x : EReal)) (congrArg (dgate (dm A) (nn 512 (A 2) (A 6)) (sh 12288 (A 3)) r) ?_))
      simp only [Fin.val_mk]
      omega

end Cert.Reference2Ideal.Tail

end
-- ==== Proof.TailClaim.lean ====
/- The results of the tail of the layer are the reference's, at arguments that are real numbers. -/
module

public import proofs.«01_k».proof.Defs
public import proofs.«01_k».proof.Proof.Gen.Pre_finite2
public import proofs.«01_k».proof.Proof.MemClaim
public import proofs.«01_k».proof.Proof.TailRun
public import proofs.«01_k».proof.Proof.TailChain
public import proofs.«01_k».proof.Proof.TailRef
public import Idealize.ShloMosaic.Lib.ReduceAll

@[expose] public section

set_option maxRecDepth 16384

noncomputable section

open Idealize.ShloMosaic Idealize.ShloMosaic.TcCoe Idealize.SL.Sem

namespace Cert.Tail
open Cert.Lift

/-- Two arrays that hold one matrix are equal. -/
theorem Hm.ext {a b : ℕ} {φ : FTy} {x y : FVec Ideal ⟨2, ![a, b]⟩ φ} {M : Mat} (hx : Hm x M) (hy : Hm y M) : x = y := funext fun i => by
  obtain ⟨r, l, rfl⟩ : ∃ r l, i = ix2 r l := ⟨i 0, i 1, eq_ix2 i⟩
  exact (hx r l).trans (hy r l).symm

/-- An array of real numbers holds the matrix of its reals. -/
theorem Hm.reals {a b : ℕ} {φ : FTy} {x : FVec Ideal ⟨2, ![a, b]⟩ φ} (h : ∀ i, x i = (((x i).toReal : ℝ) : EReal)) : Hm x (real2 x) :=
  fun r l => real2_eq x h (ix2 r l)

theorem reals_of_pre (x0 : FVec Ideal Cert.Pre_finite2.S4096x1024 .bf16) (x1 : FVec Ideal Cert.Pre_finite2.S4096x512 .bf16) (x2 : FVec Ideal Cert.Pre_finite2.S4096x512 .bf16) (x3 : FVec Ideal Cert.Pre_finite2.S4096x13312 .bf16) (x4 : FVec Ideal Cert.Pre_finite2.S1024x1024 .bf16) (x5 : FVec Ideal Cert.Pre_finite2.S512x1024 .bf16) (x6 : FVec Ideal Cert.Pre_finite2.S512x1024 .bf16) (x7 : FVec Ideal Cert.Pre_finite2.S1024x1024 .bf16) (x8 : FVec Ideal Cert.Pre_finite2.S4096x1024 .f32) (x9 : FVec Ideal Cert.Pre_finite2.S1x1024 .f32) (x10 : FVec Ideal Cert.Pre_finite2.S1024x5632 .bf16) (x11 : FVec Ideal Cert.Pre_finite2.S2816x1024 .bf16) (x12 : FVec Ideal Cert.Pre_finite2.S4096x1024 .f32)
    (h : Cert.Pre_finite2.fn (F := Ideal) x0 x1 x2 x3 x4 x5 x6 x7 x8 x9 x10 x11 x12 = fun _ => 1#1) :
    (∀ i, x0 i = (((x0 i).toReal : ℝ) : EReal))
      ∧ (∀ i, x1 i = (((x1 i).toReal : ℝ) : EReal))
      ∧ (∀ i, x2 i = (((x2 i).toReal : ℝ) : EReal))
      ∧ (∀ i, x3 i = (((x3 i).toReal : ℝ) : EReal))
      ∧ (∀ i, x4 i = (((x4 i).toReal : ℝ) : EReal))
      ∧ (∀ i, x5 i = (((x5 i).toReal : ℝ) : EReal))
      ∧ (∀ i, x6 i = (((x6 i).toReal : ℝ) : EReal))
      ∧ (∀ i, x7 i = (((x7 i).toReal : ℝ) : EReal))
      ∧ (∀ i, x8 i = (((x8 i).toReal : ℝ) : EReal))
      ∧ (∀ i, x9 i = (((x9 i).toReal : ℝ) : EReal))
      ∧ (∀ i, x10 i = (((x10 i).toReal : ℝ) : EReal))
      ∧ (∀ i, x11 i = (((x11 i).toReal : ℝ) : EReal))
      ∧ (∀ i, x12 i = (((x12 i).toReal : ℝ) : EReal)) := by
  have h := congrFun h (fun a => a.elim0)
  unfold Cert.Pre_finite2.fn Cert.Pre_finite2.fn_part1 Cert.Pre_finite2.fn_part2 Cert.Pre_finite2.fn_part3 Cert.Pre_finite2.fn_part4 at h
  obtain ⟨h, h12⟩ := IntOp.andi_eq_one.mp h
  obtain ⟨h, h11⟩ := IntOp.andi_eq_one.mp h
  obtain ⟨h, h10⟩ := IntOp.andi_eq_one.mp h
  obtain ⟨h, h9⟩ := IntOp.andi_eq_one.mp h
  obtain ⟨h, h8⟩ := IntOp.andi_eq_one.mp h
  obtain ⟨h, h7⟩ := IntOp.andi_eq_one.mp h
  obtain ⟨h, h6⟩ := IntOp.andi_eq_one.mp h
  obtain ⟨h, h5⟩ := IntOp.andi_eq_one.mp h
  obtain ⟨h, h4⟩ := IntOp.andi_eq_one.mp h
  obtain ⟨h, h3⟩ := IntOp.andi_eq_one.mp h
  obtain ⟨h, h2⟩ := IntOp.andi_eq_one.mp h
  obtain ⟨h, h1⟩ := IntOp.andi_eq_one.mp h
  haveI : Subsingleton Cert.Pre_finite2.S_.Idx := ⟨fun a b => funext fun k => k.elim0⟩
  exact ⟨fun i => real_of_lt (Host.reduce_andi_all _ _ _ _ _ h i), fun i => real_of_lt (Host.reduce_andi_all _ _ _ _ _ h1 i), fun i => real_of_lt (Host.reduce_andi_all _ _ _ _ _ h2 i), fun i => real_of_lt (Host.reduce_andi_all _ _ _ _ _ h3 i), fun i => real_of_lt (Host.reduce_andi_all _ _ _ _ _ h4 i), fun i => real_of_lt (Host.reduce_andi_all _ _ _ _ _ h5 i), fun i => real_of_lt (Host.reduce_andi_all _ _ _ _ _ h6 i), fun i => real_of_lt (Host.reduce_andi_all _ _ _ _ _ h7 i), fun i => real_of_lt (Host.reduce_andi_all _ _ _ _ _ h8 i), fun i => real_of_lt (Host.reduce_andi_all _ _ _ _ _ h9 i), fun i => real_of_lt (Host.reduce_andi_all _ _ _ _ _ h10 i), fun i => real_of_lt (Host.reduce_andi_all _ _ _ _ _ h11 i), fun i => real_of_lt (Host.reduce_andi_all _ _ _ _ _ h12 i)⟩

/-- The arguments as real matrices. -/
def model (x0 : FVec Ideal Cert.Pre_finite2.S4096x1024 .bf16) (x1 : FVec Ideal Cert.Pre_finite2.S4096x512 .bf16) (x2 : FVec Ideal Cert.Pre_finite2.S4096x512 .bf16) (x3 : FVec Ideal Cert.Pre_finite2.S4096x13312 .bf16) (x4 : FVec Ideal Cert.Pre_finite2.S1024x1024 .bf16) (x5 : FVec Ideal Cert.Pre_finite2.S512x1024 .bf16) (x6 : FVec Ideal Cert.Pre_finite2.S512x1024 .bf16) (x7 : FVec Ideal Cert.Pre_finite2.S1024x1024 .bf16) (x8 : FVec Ideal Cert.Pre_finite2.S4096x1024 .f32) (x9 : FVec Ideal Cert.Pre_finite2.S1x1024 .f32) (x10 : FVec Ideal Cert.Pre_finite2.S1024x5632 .bf16) (x11 : FVec Ideal Cert.Pre_finite2.S2816x1024 .bf16) (x12 : FVec Ideal Cert.Pre_finite2.S4096x1024 .f32) : ℕ → Mat
  | 0 => real2 x0
  | 1 => real2 x1
  | 2 => real2 x2
  | 3 => real2 x3
  | 4 => real2 x4
  | 5 => real2 x5
  | 6 => real2 x6
  | 7 => real2 x7
  | 8 => real2 x8
  | 9 => real2 x9
  | 10 => real2 x10
  | 11 => real2 x11
  | 12 => real2 x12
  | _ => fun _ _ => 0

end Cert.Tail

namespace Cert.Proof.Tail
open Cert.Lift Cert.Tail

theorem algebraic : Cert.algebraic_Kernel2Ideal_Reference2Ideal_pre_finite2 := by
  intro m g m' g' hpre hag
  have R : ∀ c : Dev Cert.Kernel2Ideal.nD, _ := fun c => reals_of_pre _ _ _ _ _ _ _ _ _ _ _ _ _ (hpre c)
  refine ⟨_, _, _, _, _, _, _, _, _, _, _, _, _, _, _, _, _, _, _, _, Cert.Kernel2Ideal.Run.run_results m g, ?_⟩
  refine (θ_run _ _ _).mono (fun r h c => ?_) (Cert.Reference2Ideal.Value.run m' g')
  obtain ⟨a0, a1, a2, a3, a4, a5, a6, a7, a8, a9, a10, a11, a12⟩ := hag c
  let A : ℕ → Mat := model (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))
  have k0 : Hm (a := 4096) (b := 1024) (φ := .bf16) (m ((c.tc : Thread Cert.Kernel2Ideal.nD Cert.Kernel2Ideal.τ).loc Cert.Kernel2Ideal.main_arg0)) (A 0) := Hm.reals (R c).1
  have k1 : Hm (a := 4096) (b := 512) (φ := .bf16) (m ((c.tc : Thread Cert.Kernel2Ideal.nD Cert.Kernel2Ideal.τ).loc Cert.Kernel2Ideal.main_arg1)) (A 1) := Hm.reals (R c).2.1
  have k2 : Hm (a := 4096) (b := 512) (φ := .bf16) (m ((c.tc : Thread Cert.Kernel2Ideal.nD Cert.Kernel2Ideal.τ).loc Cert.Kernel2Ideal.main_arg2)) (A 2) := Hm.reals (R c).2.2.1
  have k3 : Hm (a := 4096) (b := 13312) (φ := .bf16) (m ((c.tc : Thread Cert.Kernel2Ideal.nD Cert.Kernel2Ideal.τ).loc Cert.Kernel2Ideal.main_arg3)) (A 3) := Hm.reals (R c).2.2.2.1
  have k4 : Hm (a := 1024) (b := 1024) (φ := .bf16) (m ((c.tc : Thread Cert.Kernel2Ideal.nD Cert.Kernel2Ideal.τ).loc Cert.Kernel2Ideal.main_arg4)) (A 4) := Hm.reals (R c).2.2.2.2.1
  have k5 : Hm (a := 512) (b := 1024) (φ := .bf16) (m ((c.tc : Thread Cert.Kernel2Ideal.nD Cert.Kernel2Ideal.τ).loc Cert.Kernel2Ideal.main_arg5)) (A 5) := Hm.reals (R c).2.2.2.2.2.1
  have k6 : Hm (a := 512) (b := 1024) (φ := .bf16) (m ((c.tc : Thread Cert.Kernel2Ideal.nD Cert.Kernel2Ideal.τ).loc Cert.Kernel2Ideal.main_arg6)) (A 6) := Hm.reals (R c).2.2.2.2.2.2.1
  have k7 : Hm (a := 1024) (b := 1024) (φ := .bf16) (m ((c.tc : Thread Cert.Kernel2Ideal.nD Cert.Kernel2Ideal.τ).loc Cert.Kernel2Ideal.main_arg7)) (A 7) := Hm.reals (R c).2.2.2.2.2.2.2.1
  have k8 : Hm (a := 4096) (b := 1024) (φ := .f32) (m ((c.tc : Thread Cert.Kernel2Ideal.nD Cert.Kernel2Ideal.τ).loc Cert.Kernel2Ideal.main_arg8)) (A 8) := Hm.reals (R c).2.2.2.2.2.2.2.2.1
  have k9 : Hm (a := 1) (b := 1024) (φ := .f32) (m ((c.tc : Thread Cert.Kernel2Ideal.nD Cert.Kernel2Ideal.τ).loc Cert.Kernel2Ideal.main_arg9)) (A 9) := Hm.reals (R c).2.2.2.2.2.2.2.2.2.1
  have k10 : Hm (a := 1024) (b := 5632) (φ := .bf16) (m ((c.tc : Thread Cert.Kernel2Ideal.nD Cert.Kernel2Ideal.τ).loc Cert.Kernel2Ideal.main_arg10)) (A 10) := Hm.reals (R c).2.2.2.2.2.2.2.2.2.2.1
  have k11 : Hm (a := 2816) (b := 1024) (φ := .bf16) (m ((c.tc : Thread Cert.Kernel2Ideal.nD Cert.Kernel2Ideal.τ).loc Cert.Kernel2Ideal.main_arg11)) (A 11) := Hm.reals (R c).2.2.2.2.2.2.2.2.2.2.2.1
  have k12 : Hm (a := 4096) (b := 1024) (φ := .f32) (m ((c.tc : Thread Cert.Kernel2Ideal.nD Cert.Kernel2Ideal.τ).loc Cert.Kernel2Ideal.main_arg12)) (A 12) := Hm.reals (R c).2.2.2.2.2.2.2.2.2.2.2.2
  have r0 : Hm (a := 4096) (b := 1024) (φ := .bf16) (m' ((c.tc : Thread Cert.Reference2Ideal.nD Cert.Reference2Ideal.τ).loc Cert.Reference2Ideal.main_arg0)) (A 0) := by rw [a0]; exact k0
  have r1 : Hm (a := 4096) (b := 512) (φ := .bf16) (m' ((c.tc : Thread Cert.Reference2Ideal.nD Cert.Reference2Ideal.τ).loc Cert.Reference2Ideal.main_arg1)) (A 1) := by rw [a1]; exact k1
  have r2 : Hm (a := 4096) (b := 512) (φ := .bf16) (m' ((c.tc : Thread Cert.Reference2Ideal.nD Cert.Reference2Ideal.τ).loc Cert.Reference2Ideal.main_arg2)) (A 2) := by rw [a2]; exact k2
  have r3 : Hm (a := 4096) (b := 13312) (φ := .bf16) (m' ((c.tc : Thread Cert.Reference2Ideal.nD Cert.Reference2Ideal.τ).loc Cert.Reference2Ideal.main_arg3)) (A 3) := by rw [a3]; exact k3
  have r4 : Hm (a := 1024) (b := 1024) (φ := .bf16) (m' ((c.tc : Thread Cert.Reference2Ideal.nD Cert.Reference2Ideal.τ).loc Cert.Reference2Ideal.main_arg4)) (A 4) := by rw [a4]; exact k4
  have r5 : Hm (a := 512) (b := 1024) (φ := .bf16) (m' ((c.tc : Thread Cert.Reference2Ideal.nD Cert.Reference2Ideal.τ).loc Cert.Reference2Ideal.main_arg5)) (A 5) := by rw [a5]; exact k5
  have r6 : Hm (a := 512) (b := 1024) (φ := .bf16) (m' ((c.tc : Thread Cert.Reference2Ideal.nD Cert.Reference2Ideal.τ).loc Cert.Reference2Ideal.main_arg6)) (A 6) := by rw [a6]; exact k6
  have r7 : Hm (a := 1024) (b := 1024) (φ := .bf16) (m' ((c.tc : Thread Cert.Reference2Ideal.nD Cert.Reference2Ideal.τ).loc Cert.Reference2Ideal.main_arg7)) (A 7) := by rw [a7]; exact k7
  have r8 : Hm (a := 4096) (b := 1024) (φ := .f32) (m' ((c.tc : Thread Cert.Reference2Ideal.nD Cert.Reference2Ideal.τ).loc Cert.Reference2Ideal.main_arg8)) (A 8) := by rw [a8]; exact k8
  have r9 : Hm (a := 1) (b := 1024) (φ := .f32) (m' ((c.tc : Thread Cert.Reference2Ideal.nD Cert.Reference2Ideal.τ).loc Cert.Reference2Ideal.main_arg9)) (A 9) := by rw [a9]; exact k9
  have r10 : Hm (a := 1024) (b := 5632) (φ := .bf16) (m' ((c.tc : Thread Cert.Reference2Ideal.nD Cert.Reference2Ideal.τ).loc Cert.Reference2Ideal.main_arg10)) (A 10) := by rw [a10]; exact k10
  have r11 : Hm (a := 2816) (b := 1024) (φ := .bf16) (m' ((c.tc : Thread Cert.Reference2Ideal.nD Cert.Reference2Ideal.τ).loc Cert.Reference2Ideal.main_arg11)) (A 11) := by rw [a11]; exact k11
  have r12 : Hm (a := 4096) (b := 1024) (φ := .f32) (m' ((c.tc : Thread Cert.Reference2Ideal.nD Cert.Reference2Ideal.τ).loc Cert.Reference2Ideal.main_arg12)) (A 12) := by rw [a12]; exact k12
  obtain ⟨e0, e1, e2, e3, e4, e5, e6, e7, e8, e9, e10, e11, e12, e13, e14, e15, e16, e17, e18, e19, k⟩ := h c
  refine ⟨e0.trans ?_, e1.trans ?_, e2.trans ?_, e3.trans ?_, e4.trans ?_, e5.trans ?_, e6.trans ?_, e7.trans ?_, e8.trans ?_, e9.trans ?_, e10.trans ?_, e11.trans ?_, e12.trans ?_, e13.trans ?_, e14.trans ?_, e15.trans ?_, e16.trans ?_, e17.trans ?_, e18.trans ?_, e19.trans ?_, k⟩
  · exact (Cert.Reference2Ideal.Read.val_main_v78_eq (F := Ideal) _).trans (Hm.ext (a := 2816) (b := 1024) (φ := .f32) (Cert.Reference2Ideal.Tail.r78 r0 r1 r2 r3 r4 r5 r6 r7 r8 r9 r10 r11 r12) (Cert.Kernel2Ideal.Chain.q16_v4_0 m g c k0 k1 k2 k3 k4 k5 k6 k7 k8 k9 k10 k11 k12))
  · exact (Cert.Reference2Ideal.Read.val_main_v131_eq (F := Ideal) _).trans (Hm.ext (a := 2816) (b := 1024) (φ := .bf16) (Cert.Reference2Ideal.Tail.r131 r0 r1 r2 r3 r4 r5 r6 r7 r8 r9 r10 r11 r12) (Cert.Kernel2Ideal.Chain.q16_v4_1 m g c k0 k1 k2 k3 k4 k5 k6 k7 k8 k9 k10 k11 k12))
  · exact (Cert.Reference2Ideal.Read.val_main_v132_eq (F := Ideal) _).trans (Hm.ext (a := 1024) (b := 2816) (φ := .f32) (Cert.Reference2Ideal.Tail.r132 r0 r1 r2 r3 r4 r5 r6 r7 r8 r9 r10 r11 r12) (Cert.Kernel2Ideal.Chain.q16_v6_0 m g c k0 k1 k2 k3 k4 k5 k6 k7 k8 k9 k10 k11 k12))
  · exact (Cert.Reference2Ideal.Read.val_main_v133_eq (F := Ideal) _).trans (Hm.ext (a := 1024) (b := 2816) (φ := .bf16) (Cert.Reference2Ideal.Tail.r133 r0 r1 r2 r3 r4 r5 r6 r7 r8 r9 r10 r11 r12) (Cert.Kernel2Ideal.Chain.q16_v6_1 m g c k0 k1 k2 k3 k4 k5 k6 k7 k8 k9 k10 k11 k12))
  · exact (Cert.Reference2Ideal.Read.val_main_v134_eq (F := Ideal) _).trans (Hm.ext (a := 1024) (b := 2816) (φ := .f32) (Cert.Reference2Ideal.Tail.r134 r0 r1 r2 r3 r4 r5 r6 r7 r8 r9 r10 r11 r12) (Cert.Kernel2Ideal.Chain.q16_v7_0 m g c k0 k1 k2 k3 k4 k5 k6 k7 k8 k9 k10 k11 k12))
  · exact (Cert.Reference2Ideal.Read.val_main_v135_eq (F := Ideal) _).trans (Hm.ext (a := 1024) (b := 2816) (φ := .bf16) (Cert.Reference2Ideal.Tail.r135 r0 r1 r2 r3 r4 r5 r6 r7 r8 r9 r10 r11 r12) (Cert.Kernel2Ideal.Chain.q16_v7_1 m g c k0 k1 k2 k3 k4 k5 k6 k7 k8 k9 k10 k11 k12))
  · exact (Cert.Reference2Ideal.Read.val_main_v108_eq (F := Ideal) _).trans (Hm.ext (a := 1) (b := 1024) (φ := .f32) (Cert.Reference2Ideal.Tail.r108 r0 r1 r2 r3 r4 r5 r6 r7 r8 r9 r10 r11 r12) (Cert.Kernel2Ideal.Chain.q16_v9_2 m g c k0 k1 k2 k3 k4 k5 k6 k7 k8 k9 k10 k11 k12))
  · exact (Cert.Reference2Ideal.Read.val_main_v107_eq (F := Ideal) _).trans (Hm.ext (a := 4096) (b := 1024) (φ := .f32) (Cert.Reference2Ideal.Tail.r107 r0 r1 r2 r3 r4 r5 r6 r7 r8 r9 r10 r11 r12) (Cert.Kernel2Ideal.Chain.q16_v9_0 m g c k0 k1 k2 k3 k4 k5 k6 k7 k8 k9 k10 k11 k12))
  · exact (Cert.Reference2Ideal.Read.val_main_v110_eq (F := Ideal) _).trans (Hm.ext (a := 1024) (b := 1024) (φ := .f32) (Cert.Reference2Ideal.Tail.r110 r0 r1 r2 r3 r4 r5 r6 r7 r8 r9 r10 r11 r12) (Cert.Kernel2Ideal.Chain.q16_v10_0 m g c k0 k1 k2 k3 k4 k5 k6 k7 k8 k9 k10 k11 k12))
  · exact (Cert.Reference2Ideal.Read.val_main_v136_eq (F := Ideal) _).trans (Hm.ext (a := 1024) (b := 1024) (φ := .bf16) (Cert.Reference2Ideal.Tail.r136 r0 r1 r2 r3 r4 r5 r6 r7 r8 r9 r10 r11 r12) (Cert.Kernel2Ideal.Chain.q16_v10_1 m g c k0 k1 k2 k3 k4 k5 k6 k7 k8 k9 k10 k11 k12))
  · exact (Cert.Reference2Ideal.Read.val_main_v127_eq (F := Ideal) _).trans (Hm.ext (a := 1024) (b := 1024) (φ := .f32) (Cert.Reference2Ideal.Tail.r127 r0 r1 r2 r3 r4 r5 r6 r7 r8 r9 r10 r11 r12) (Cert.Kernel2Ideal.Chain.q16_v13_0 m g c k0 k1 k2 k3 k4 k5 k6 k7 k8 k9 k10 k11 k12))
  · exact (Cert.Reference2Ideal.Read.val_main_v137_eq (F := Ideal) _).trans (Hm.ext (a := 1024) (b := 1024) (φ := .bf16) (Cert.Reference2Ideal.Tail.r137 r0 r1 r2 r3 r4 r5 r6 r7 r8 r9 r10 r11 r12) (Cert.Kernel2Ideal.Chain.q16_v13_1 m g c k0 k1 k2 k3 k4 k5 k6 k7 k8 k9 k10 k11 k12))
  · exact (Cert.Reference2Ideal.Read.val_main_v121_eq (F := Ideal) _).trans (Hm.ext (a := 512) (b := 1024) (φ := .f32) (Cert.Reference2Ideal.Tail.r121 r0 r1 r2 r3 r4 r5 r6 r7 r8 r9 r10 r11 r12) (Cert.Kernel2Ideal.Chain.q16_v14_0 m g c k0 k1 k2 k3 k4 k5 k6 k7 k8 k9 k10 k11 k12))
  · exact (Cert.Reference2Ideal.Read.val_main_v138_eq (F := Ideal) _).trans (Hm.ext (a := 512) (b := 1024) (φ := .bf16) (Cert.Reference2Ideal.Tail.r138 r0 r1 r2 r3 r4 r5 r6 r7 r8 r9 r10 r11 r12) (Cert.Kernel2Ideal.Chain.q16_v14_1 m g c k0 k1 k2 k3 k4 k5 k6 k7 k8 k9 k10 k11 k12))
  · exact (Cert.Reference2Ideal.Read.val_main_v115_eq (F := Ideal) _).trans (Hm.ext (a := 512) (b := 1024) (φ := .f32) (Cert.Reference2Ideal.Tail.r115 r0 r1 r2 r3 r4 r5 r6 r7 r8 r9 r10 r11 r12) (Cert.Kernel2Ideal.Chain.q16_v15_0 m g c k0 k1 k2 k3 k4 k5 k6 k7 k8 k9 k10 k11 k12))
  · exact (Cert.Reference2Ideal.Read.val_main_v139_eq (F := Ideal) _).trans (Hm.ext (a := 512) (b := 1024) (φ := .bf16) (Cert.Reference2Ideal.Tail.r139 r0 r1 r2 r3 r4 r5 r6 r7 r8 r9 r10 r11 r12) (Cert.Kernel2Ideal.Chain.q16_v15_1 m g c k0 k1 k2 k3 k4 k5 k6 k7 k8 k9 k10 k11 k12))
  · exact (Cert.Reference2Ideal.Read.val_main_v128_eq (F := Ideal) _).trans (Hm.ext (a := 4096) (b := 1024) (φ := .f32) (Cert.Reference2Ideal.Tail.r128 r0 r1 r2 r3 r4 r5 r6 r7 r8 r9 r10 r11 r12) (Cert.Kernel2Ideal.Chain.q16_v12_2 m g c k0 k1 k2 k3 k4 k5 k6 k7 k8 k9 k10 k11 k12))
  · exact (Cert.Reference2Ideal.Read.val_main_v122_eq (F := Ideal) _).trans (Hm.ext (a := 4096) (b := 512) (φ := .f32) (Cert.Reference2Ideal.Tail.r122 r0 r1 r2 r3 r4 r5 r6 r7 r8 r9 r10 r11 r12) (Cert.Kernel2Ideal.Chain.q16_v12_4 m g c k0 k1 k2 k3 k4 k5 k6 k7 k8 k9 k10 k11 k12))
  · exact (Cert.Reference2Ideal.Read.val_main_v116_eq (F := Ideal) _).trans (Hm.ext (a := 4096) (b := 512) (φ := .f32) (Cert.Reference2Ideal.Tail.r116 r0 r1 r2 r3 r4 r5 r6 r7 r8 r9 r10 r11 r12) (Cert.Kernel2Ideal.Chain.q16_v12_6 m g c k0 k1 k2 k3 k4 k5 k6 k7 k8 k9 k10 k11 k12))
  · exact (Cert.Reference2Ideal.Read.val_main_v140_eq (F := Ideal) _).trans (Hm.ext (a := 4096) (b := 3072) (φ := .bf16) (Cert.Reference2Ideal.Tail.r140 r0 r1 r2 r3 r4 r5 r6 r7 r8 r9 r10 r11 r12) (Cert.Kernel2Ideal.Chain.q16_v12_0 m g c k0 k1 k2 k3 k4 k5 k6 k7 k8 k9 k10 k11 k12))

end Cert.Proof.Tail

end
-- ==== Proof.InMath.lean ====
/- Matrices of extended reals, and the norm's gradient: as the kernel writes it, as a derivative writes it, and that the two
   are equal at every row, one with an infinite entry included. -/
module

public import proofs.«01_k».proof.Proof.TailMath

@[expose] public section

noncomputable section

open Idealize.ShloMosaic

namespace Cert.In
open Cert.Lift

/-- A matrix of extended reals. -/
abbrev EMat := ℕ → ℕ → EReal

/-- The array `x` holds the matrix `M`. -/
def He {a b : ℕ} {φ : FTy} (x : FVec Ideal ⟨2, ![a, b]⟩ φ) (M : EMat) : Prop := ∀ r l, x (ix2 r l) = M r l

theorem He.ext {a b : ℕ} {φ : FTy} {x y : FVec Ideal ⟨2, ![a, b]⟩ φ} {M : EMat} (hx : He x M) (hy : He y M) : x = y := funext fun i => by
  obtain ⟨r, l, rfl⟩ : ∃ r l, i = ix2 r l := ⟨i 0, i 1, eq_ix2 i⟩
  exact (hx r l).trans (hy r l).symm

theorem He.of_eq {a b : ℕ} {φ : FTy} {x y : FVec Ideal ⟨2, ![a, b]⟩ φ} {M : EMat} (e : x = y) (h : He y M) : He x M := e ▸ h

/-- The matrix an array holds. -/
def mat {a b : ℕ} {φ : FTy} (x : FVec Ideal ⟨2, ![a, b]⟩ φ) : EMat := fun r c =>
  if h : r < a ∧ c < b then x (ix2 ⟨r, h.1⟩ ⟨c, h.2⟩) else 0
theorem mat_at {a b : ℕ} {φ : FTy} (x : FVec Ideal ⟨2, ![a, b]⟩ φ) : He x (mat x) := fun r l => by
  unfold mat
  rw [dif_pos ⟨r.isLt, l.isLt⟩]

/-- The products of two matrices, one of them transposed or none, over `K` terms. -/
def nn (K : ℕ) (A B : EMat) : EMat := fun r c => ∑ k : Fin K, A r k * B k c
def nt (K : ℕ) (A B : EMat) : EMat := fun r c => ∑ k : Fin K, A r k * B c k
def tn (K : ℕ) (A B : EMat) : EMat := fun r c => ∑ k : Fin K, A k r * B k c

/-- The mean square of row `r` of `X` plus `eps`, and its reciprocal root. -/
def ms (X : EMat) (r : ℕ) : EReal := Ideal.div (∑ k : Fin 1024, X r k * X r k) ((1024 : ℝ) : EReal) + ((eps : ℝ) : EReal)
def ri (X : EMat) (r : ℕ) : EReal := Ideal.rsqrt (ms X r)
/-- The normalised rows, and the same times the gain, row 0 of `G`. -/
def xh (X : EMat) : EMat := fun r c => X r c * ri X r
def nm (X G : EMat) : EMat := fun r c => xh X r c * G 0 c
/-- The gradient of the rows before normalisation, as the kernel writes it. -/
def bw (X G D : EMat) : EMat := fun r c =>
  ri X r * (D r c * G 0 c - xh X r c * Ideal.div (∑ k : Fin 1024, D r k * G 0 k * xh X r k) ((1024 : ℝ) : EReal))
/-- The gradient of the mean square of row `r`, over its length. -/
def dm (X G D : EMat) (r : ℕ) : EReal :=
  Ideal.div ((∑ k : Fin 1024, X r k * (D r k * G 0 k)) * (((-(1 / 2) : ℝ) : EReal) * Ideal.div (ri X r) (ms X r))) ((1024 : ℝ) : EReal)
/-- The gradient of the rows before normalisation, as the derivative of the product with the reciprocal root. -/
def bd (X G D : EMat) : EMat := fun r c => D r c * G 0 c * ri X r + X r c * dm X G D r + dm X G D r * X r c
/-- The gradient of the gain. -/
def gg (X D : EMat) : EMat := fun _ c => ∑ b : Fin 8, ∑ r : Fin 512, D (b * 512 + r) c * xh X (b * 512 + r) c

theorem div_1024 (a : EReal) : Ideal.div a ((1024 : ℝ) : EReal) = a * ((1 / 1024 : ℝ) : EReal) := by
  unfold Ideal.div
  rw [if_neg (by norm_num), one_div, EReal.coe_inv]

theorem mul_sum {ι : Type} (s : Finset ι) {ρ : ℝ} (h : 0 ≤ ρ) (f : ι → EReal) : (ρ : EReal) * ∑ i ∈ s, f i = ∑ i ∈ s, (ρ : EReal) * f i := by
  classical
  induction s using Finset.induction_on with
  | empty => simp
  | insert a s ha ih =>
    rw [Finset.sum_insert ha, Finset.sum_insert ha, EReal.left_distrib_of_nonneg_of_ne_top (by exact_mod_cast h) (EReal.coe_ne_top _), ih]

/-- Twice a real multiple of an extended real. -/
theorem twice (c : ℝ) (S : EReal) : (c : EReal) * S + (c : EReal) * S = ((2 * c : ℝ) : EReal) * S := by
  induction S using EReal.rec with
  | coe s => norm_cast; ring
  | top =>
    rcases lt_trichotomy c 0 with h | h | h
    · rw [EReal.coe_mul_top_of_neg h, EReal.coe_mul_top_of_neg (by linarith)]; rfl
    · subst h; simp
    · rw [EReal.coe_mul_top_of_pos h, EReal.coe_mul_top_of_pos (by linarith)]; rfl
  | bot =>
    rcases lt_trichotomy c 0 with h | h | h
    · rw [EReal.coe_mul_bot_of_neg h, EReal.coe_mul_bot_of_neg (by linarith)]; rfl
    · subst h; simp
    · rw [EReal.coe_mul_bot_of_pos h, EReal.coe_mul_bot_of_pos (by linarith)]; rfl

theorem sq_nonneg' (x : EReal) : 0 ≤ x * x := by
  induction x using EReal.rec with
  | coe s => exact_mod_cast mul_self_nonneg s
  | top => simp
  | bot => simp

/-- At a row of reals the two are equal. -/
theorem bw_real (X G D : EMat) (r c : ℕ) (x : ℕ → ℝ) (hx : ∀ k : Fin 1024, X r k = ((x k : ℝ) : EReal)) (hc : X r c = ((x c : ℝ) : EReal)) :
    bw X G D r c = bd X G D r c := by
  obtain ⟨m, hm, em⟩ : ∃ m : ℝ, 0 < m ∧ ms X r = ((m : ℝ) : EReal) := by
    refine ⟨(∑ k : Fin 1024, x k * x k) / 1024 + eps, ?_, ?_⟩
    · have h : 0 ≤ ∑ k : Fin 1024, x k * x k := Finset.sum_nonneg fun k _ => mul_self_nonneg _
      have := eps_pos
      positivity
    · unfold ms
      simp only [hx, ← EReal.coe_mul, sum_coe, div_coe (show (1024 : ℝ) ≠ 0 by norm_num), ← EReal.coe_add]
  have er : ri X r = (((√m)⁻¹ : ℝ) : EReal) := by
    unfold ri
    rw [em, rsqrt_coe hm]
  have hρ : (√m)⁻¹ * (√m)⁻¹ = m⁻¹ := by
    rw [← mul_inv, Real.mul_self_sqrt hm.le]
  have hρ0 : 0 ≤ (√m)⁻¹ := by positivity
  generalize (√m)⁻¹ = ρ at er hρ hρ0
  have et : ∑ k : Fin 1024, D r k * G 0 k * xh X r k = (ρ : EReal) * ∑ k : Fin 1024, X r k * (D r k * G 0 k) := by
    rw [mul_sum _ hρ0]
    refine Finset.sum_congr rfl fun k _ => ?_
    unfold xh
    rw [er]
    ac_rfl
  unfold bw bd dm
  rw [et]
  unfold xh
  rw [er, em, hc, div_1024, div_1024, div_coe hm.ne']
  generalize (∑ k : Fin 1024, X r k * (D r k * G 0 k)) = S
  generalize D r c * G 0 c = e
  have d1 : (ρ : EReal) * (e - ↑(x c) * ↑ρ * (↑ρ * S * ((1 / 1024 : ℝ) : EReal))) = ↑ρ * e + ((2 * (-(1 / 2) * x c * (ρ / m) * (1 / 1024)) : ℝ) : EReal) * S := by
    rw [sub_eq_add_neg, EReal.left_distrib_of_nonneg_of_ne_top (by exact_mod_cast hρ0) (EReal.coe_ne_top _)]
    congr 1
    have c1 : (2 * (-(1 / 2) * x c * (ρ / m) * (1 / 1024)) : ℝ) = -(ρ * (x c * ρ * ρ * (1 / 1024))) := by
      rw [div_eq_mul_inv ρ m, ← hρ]
      ring
    rw [c1]
    have c2 : (↑(x c) * ↑ρ * (↑ρ * S * ((1 / 1024 : ℝ) : EReal)) : EReal) = ((x c * ρ * ρ * (1 / 1024) : ℝ) : EReal) * S := by
      simp only [EReal.coe_mul]
      ac_rfl
    rw [c2, EReal.coe_neg, neg_mul, mul_neg, EReal.coe_mul ρ]
    exact congrArg Neg.neg (mul_assoc _ _ _).symm
  have d2 : (((x c : ℝ) : EReal) * (S * (((-(1 / 2) : ℝ) : EReal) * ((ρ / m : ℝ) : EReal)) * ((1 / 1024 : ℝ) : EReal)))
      = ((-(1 / 2) * x c * (ρ / m) * (1 / 1024) : ℝ) : EReal) * S := by
    simp only [EReal.coe_mul]
    ac_rfl
  have d3 : ((S * (((-(1 / 2) : ℝ) : EReal) * ((ρ / m : ℝ) : EReal)) * ((1 / 1024 : ℝ) : EReal)) * ((x c : ℝ) : EReal))
      = ((-(1 / 2) * x c * (ρ / m) * (1 / 1024) : ℝ) : EReal) * S := (mul_comm _ _).trans d2
  rw [d1, d2, d3, add_assoc, twice, mul_comm e]

/-- A row with an infinite entry is normalised to zero. -/
theorem row_top (X : EMat) (r : ℕ) (k : Fin 1024) (h : X r k * X r k = ⊤) : ms X r = ⊤ ∧ ri X r = 0 := by
  have e : ∑ k : Fin 1024, X r k * X r k = ⊤ := by
    refine top_le_iff.mp ?_
    rw [← h]
    exact Finset.single_le_sum (f := fun k : Fin 1024 => X r k * X r k) (fun i _ => sq_nonneg' _) (Finset.mem_univ k)
  have em : ms X r = ⊤ := by
    unfold ms
    rw [e, div_1024, EReal.top_mul_coe_of_pos (by norm_num), EReal.top_add_coe]
  exact ⟨em, by unfold ri; rw [em]; rfl⟩

/-- The two forms of the gradient are equal. -/
theorem bw_eq (X G D : EMat) (r : ℕ) (c : Fin 1024) : bw X G D r c = bd X G D r c := by
  by_cases h : ∃ k : Fin 1024, X r k * X r k = ⊤
  · obtain ⟨k, hk⟩ := h
    obtain ⟨em, er⟩ := row_top X r k hk
    have ed : Ideal.div 0 ⊤ = 0 := by
      unfold Ideal.div
      rw [if_neg (by simp), zero_mul]
    unfold bw bd dm
    rw [er, em, ed]
    simp [div_1024]
  · have hx : ∀ k : Fin 1024, X r k = (((X r k).toReal : ℝ) : EReal) := fun k => by
      refine coe_of_finite (fun e => h ⟨k, ?_⟩) (fun e => h ⟨k, ?_⟩)
      · rw [e]; rfl
      · rw [e]; rfl
    exact bw_real X G D r c (fun k => (X r k).toReal) hx (hx c)

theorem sum_blocks (f : ℕ → EReal) : ∑ k : Fin 4096, f k = ∑ b : Fin 8, ∑ r : Fin 512, f (b * 512 + r) :=
  (Fin.sum_univ_univ_mul_add 8 512 f).symm

end Cert.In

end
-- ==== Proof.DhState.lean ====
/- What the product over the projection's columns leaves in its result array: point `t` is row block `t / 8`, column block
   `t % 8`, and the scratch holds the sum over the column blocks so far. -/
module

public import proofs.«01_k».proof.Proof.Gen.Kernel3Ideal.Frame
public import proofs.«01_k».proof.Proof.InMath
public import Idealize.ShloMosaic.Lib.Pipeline.ReadBack

@[expose] public section

set_option maxRecDepth 16384

noncomputable section

open Idealize.ShloMosaic Idealize.ShloMosaic.TcCoe Idealize.SL.Sem

namespace Cert.Kernel3Ideal.Dh
open Cert.Kernel3Ideal Cert.Kernel3Ideal.Gen Cert.Lift Cert.In

theorem idx : ∀ t : Fin cfg0.N, win0_0.index t = ![t.val / 8, t.val % 8] ∧ win0_1.index t = ![0, t.val % 8]
    ∧ win0_2.index t = ![t.val / 8, 0] ∧ t.val / 8 < 4 :=
  (by decide +kernel : ∀ t : Fin grid0.N, _)

section
variable {x w : FVec Ideal S1024x1664 .bf16} {X Y : EMat} (hx : He x X) (hw : He w Y)
include hx hw
theorem pay1 : He (k0_pay1 (F := Ideal) x w) (nt 1664 X Y) := fun r l => by
  pointwise [k0_pay1]
  simp only [hx _ _, hw _ _, zero_add]
  rfl
theorem pay2 : He (k0_pay2 (F := Ideal) x w) (nt 1664 X Y) := fun r l => by
  have e := pay1 hx hw
  pointwise [k0_pay2]
  exact e _ _
theorem pay3 (a : FVec Ideal S1024x1024 .f32) (r l : Fin 1024) : k0_pay3 (F := Ideal) x w a (ix2 r l) = a (ix2 r l) + nt 1664 X Y r l := by
  have e := pay1 hx hw
  pointwise [k0_pay3]
  rw [e _ _]
end

/-- Column block `b` of row `r`, column `l` of the product. -/
def term (X Y : EMat) (b r l : ℕ) : EReal := ∑ k : Fin 1664, X r (b * 1664 + k) * Y l (b * 1664 + k)

/-- The column blocks together are the whole product. -/
theorem sum_term (X Y : EMat) (r l : ℕ) : ∑ b : Fin 8, term X Y b r l = nt 13312 X Y r l :=
  Fin.sum_univ_univ_mul_add 8 1664 (fun k => X r k * Y l k)

variable {m : (ℓ : Loc nD τ sig) → Buf (Elt Ideal) ℓ} {c : Dev nD} {X Y : EMat}
  (h0 : He (a := 4096) (b := 13312) (φ := .bf16) (m ((c : Thread nD τ).loc main_arg0)) X)
  (h1 : He (a := 1024) (b := 13312) (φ := .bf16) (m ((c : Thread nD τ).loc main_arg1)) Y)

include h0 in
theorem blk0 (t : Fin cfg0.N) : He (a := 1024) (b := 1664) (φ := .bf16) (iblk m c 0 t) (fun r k => X (t.val / 8 * 1024 + r) (t.val % 8 * 1664 + k)) := fun r l => by
  have hh : t.val / 8 < 4 := (idx t).2.2.2
  have e : (show FVec Ideal S1024x1664 .bf16 from iblk m c 0 t) (ix2 r l)
      = (show FVec Ideal S4096x13312 .bf16 from m ((c : Thread nD τ).loc main_arg0)) (ix2 ⟨t.val / 8 * 1024 + r, by omega⟩ ⟨t.val % 8 * 1664 + l, by omega⟩) := by
    blk_ext [iblk, V, idx t]
  exact e.trans (h0 _ _)

include h1 in
theorem blk1 (t : Fin cfg0.N) : He (a := 1024) (b := 1664) (φ := .bf16) (iblk m c 1 t) (fun r k => Y r (t.val % 8 * 1664 + k)) := fun r l => by
  have e : (show FVec Ideal S1024x1664 .bf16 from iblk m c 1 t) (ix2 r l)
      = (show FVec Ideal S1024x13312 .bf16 from m ((c : Thread nD τ).loc main_arg1)) (ix2 ⟨r.val, by omega⟩ ⟨t.val % 8 * 1664 + l, by omega⟩) := by
    blk_ext [iblk, V, idx t]
  exact e.trans (h1 _ _)

include h0 h1

theorem reset (t : Fin cfg0.N) (h : t.val % 8 = 0) (i : S1024x1024.Idx) : (outsAt0 m c t.val t.isLt).2 i
    = 0 + term X Y (t.val % 8) (t.val / 8 * 1024 + (i 0).val) (i 1).val := by
  have key := pay2 (blk0 h0 t) (blk1 h1 t)
  idx_vars i
  rw [outsAt0_A m c t h (by omega) (by omega)]
  frame_out
  rw [key, zero_add]
  rfl

theorem step (t : Fin cfg0.N) (h : ¬ t.val % 8 = 0) (i : S1024x1024.Idx) : (outsAt0 m c t.val t.isLt).2 i
    = (outsAt0 m c (t.val - 1) (Nat.lt_of_le_of_lt (Nat.sub_le _ _) t.isLt)).2 i + term X Y (t.val % 8) (t.val / 8 * 1024 + (i 0).val) (i 1).val := by
  have key := pay3 (blk0 h0 t) (blk1 h1 t)
  idx_vars i
  by_cases h2 : t.val % 8 = 7
  · rw [outsAt0_C m c t h (by omega) h2]; frame_out; rw [key, read_unread_whole]; rfl
  · rw [outsAt0_B m c t h (by omega) h2]; frame_out; rw [key, read_unread_whole]; rfl

/-- At the last column block the scratch holds the whole product. -/
theorem state (t : Fin cfg0.N) (h : t.val % 8 = 7) (i : S1024x1024.Idx) : (outsAt0 m c t.val t.isLt).2 i
    = nt 13312 X Y (t.val / 8 * 1024 + (i 0).val) (i 1).val := by
  have key := Pipeline.eq_sum_fin_of_reset_step_apply_of_flush (M := EReal) (ι := S1024x1024.Idx) (N := cfg0.N) (fun n h => (outsAt0 m c n h).2) 8 (fun _ => (0 : EReal))
    (fun t i => term X Y (t.val % 8) (t.val / 8 * 1024 + (i 0).val) (i 1).val) (reset h0 h1) (step h0 h1) t h i
  rw [zero_add] at key
  rw [← sum_term]
  refine key.trans (Finset.sum_congr rfl fun b _ => ?_)
  have e1 : (8 * (t.val / 8) + b.val) / 8 = t.val / 8 := by omega
  have e2 : (8 * (t.val / 8) + b.val) % 8 = b.val := by omega
  show term X Y ((8 * (t.val / 8) + b.val) % 8) ((8 * (t.val / 8) + b.val) / 8 * 1024 + (i 0).val) (i 1).val = _
  rw [e1, e2]

/-- At the last column block the result's block is the scratch. -/
theorem out_eq (t : Fin cfg0.N) (h : t.val % 8 = 7) : (outsAt0 m c t.val t.isLt).1 = (outsAt0 m c t.val t.isLt).2 := by
  funext i
  idx_vars i
  rw [outsAt0_C m c t (by omega) (by omega) h]
  frame_out

theorem final : He (a := 4096) (b := 1024) (φ := .f32) ((dats m 0 c).arrAt 2 cfg0.N) (nt 13312 X Y) := by
  have e : (dats m 0 c).arrAt 2 cfg0.N = fun i => nt 13312 X Y (i 0).val (i 1).val := by
    refine (dats m 0 c).arrAt_eq_of_covers 2 _ (by decide +kernel) fun t hf y => ?_
    have ht := (flush0_2 t).mp hf
    blk_simp
    rw [after0_2, out_eq h0 h1 t ht]
    refine (state h0 h1 t ht y).trans ?_
    blk_simp [idx t]
  exact fun r l => congrFun e (ix2 r l)

end Cert.Kernel3Ideal.Dh

end
-- ==== Proof.DhClaim.lean ====
/- The gradient of the normalised rows is the reference's, at any arguments. -/
module

public import proofs.«01_k».proof.Defs
public import proofs.«01_k».proof.Proof.Gen.Kernel3Ideal.Value
public import proofs.«01_k».proof.Proof.Gen.Reference3Ideal.Read
public import proofs.«01_k».proof.Proof.DhState

@[expose] public section

set_option maxRecDepth 16384

noncomputable section

open Idealize.ShloMosaic Idealize.ShloMosaic.TcCoe Idealize.SL.Sem

namespace Cert.Reference3Ideal.Dh
open Cert.Reference3Ideal Cert.Reference3Ideal.Gen Cert.Reference3Ideal.Read Cert.Lift Cert.In

theorem value {x0 : FVec Ideal ⟨2, ![4096, 13312]⟩ .bf16} {x1 : FVec Ideal ⟨2, ![1024, 13312]⟩ .bf16} {X Y : EMat} (h0 : He x0 X) (h1 : He x1 Y) :
    He (a := 4096) (b := 1024) (φ := .f32) (val_main_v4 (F := Ideal) x0 x1) (nt 13312 X Y) := fun r l => by
  pointwise [val_main_v4, val_main_v3, val_main_v0]
  simp only [h0 _ _, h1 _ _]
  rfl

end Cert.Reference3Ideal.Dh

namespace Cert.Proof.Dh
open Cert.Lift Cert.In

theorem algebraic : Cert.algebraic_Kernel3Ideal_Reference3Ideal := by
  intro m g m' g' hpre hag
  refine ⟨_, Cert.Kernel3Ideal.Value.run_blocks m g, ?_⟩
  refine (θ_run _ _ _).mono (fun r h c => ?_) (Cert.Reference3Ideal.Value.run m' g')
  obtain ⟨a0, a1⟩ := hag c
  have k0 : He (a := 4096) (b := 13312) (φ := .bf16) (m ((c.tc : Thread Cert.Kernel3Ideal.nD Cert.Kernel3Ideal.τ).loc Cert.Kernel3Ideal.main_arg0)) _ := mat_at _
  have k1 : He (a := 1024) (b := 13312) (φ := .bf16) (m ((c.tc : Thread Cert.Kernel3Ideal.nD Cert.Kernel3Ideal.τ).loc Cert.Kernel3Ideal.main_arg1)) _ := mat_at _
  have r0 : He (a := 4096) (b := 13312) (φ := .bf16) (m' ((c.tc : Thread Cert.Reference3Ideal.nD Cert.Reference3Ideal.τ).loc Cert.Reference3Ideal.main_arg0)) (mat (φ := .bf16) (m ((c.tc : Thread Cert.Kernel3Ideal.nD Cert.Kernel3Ideal.τ).loc Cert.Kernel3Ideal.main_arg0))) := by rw [a0]; exact k0
  have r1 : He (a := 1024) (b := 13312) (φ := .bf16) (m' ((c.tc : Thread Cert.Reference3Ideal.nD Cert.Reference3Ideal.τ).loc Cert.Reference3Ideal.main_arg1)) (mat (φ := .bf16) (m ((c.tc : Thread Cert.Kernel3Ideal.nD Cert.Kernel3Ideal.τ).loc Cert.Kernel3Ideal.main_arg1))) := by rw [a1]; exact k1
  obtain ⟨e0, k⟩ := h c
  refine ⟨e0.trans ?_, k⟩
  exact (Cert.Reference3Ideal.Read.val_main_v4_eq (F := Ideal) _ _).trans
    (He.ext (a := 4096) (b := 1024) (φ := .f32) (Cert.Reference3Ideal.Dh.value r0 r1) (Cert.Kernel3Ideal.Dh.final k0 k1))

end Cert.Proof.Dh

end
-- ==== Proof.InRun.lean ====
/- The run of the projection and its gradient, every result read at the end of the run.

   The launch follows the generated frame certificate; the conclusion adds the results to the arguments. -/
module

public import proofs.«01_k».proof.Proof.Gen.Kernel4Ideal.Frame

@[expose] public section

set_option maxRecDepth 16384

noncomputable section

namespace Cert.Kernel4Ideal.Run

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] (m : (ℓ : Loc nD τ sig) → Buf (Elt F) ℓ) (ρ : Dev nD → PrngReg)

set_option backward.isDefEq.respectTransparency.types false in
/-- Every execution ends with each result at the contents of the last boundary and each argument as launched. -/
theorem run_results : θ_run defs (onTc (τ := τ) (main (F := F))) ⟨m, fun _ => 0, ρ⟩ (fun r => ∀ c : Dev nD,
      r.2.mem ((c.tc : Thread nD τ).loc main_v1) = W4 m ρ c (Proc.devRef .tc main_v1)
      ∧ r.2.mem ((c.tc : Thread nD τ).loc main_v2_0) = W4 m ρ c (Proc.devRef .tc main_v2_0)
      ∧ r.2.mem ((c.tc : Thread nD τ).loc main_v2_1) = W4 m ρ c (Proc.devRef .tc main_v2_1)
      ∧ r.2.mem ((c.tc : Thread nD τ).loc main_v3_0) = W4 m ρ c (Proc.devRef .tc main_v3_0)
      ∧ r.2.mem ((c.tc : Thread nD τ).loc main_v3_1) = W4 m ρ c (Proc.devRef .tc main_v3_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => fun c =>
      ⟨h c _ (mem_uc main_v1 (by decide)),
       h c _ (mem_uc main_v2_0 (by decide)),
       h c _ (mem_uc main_v2_1 (by decide)),
       h c _ (mem_uc main_v3_0 (by decide)),
       h c _ (mem_uc main_v3_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.Kernel4Ideal.Run

end
-- ==== Proof.InRegions.lean ====
/- What the norm, the two products and the backward call of the norm leave in their result arrays. -/
module

public import proofs.«01_k».proof.Proof.Gen.Kernel4Ideal.Frame
public import proofs.«01_k».proof.Proof.InMath
public import Idealize.ShloMosaic.Lib.Pipeline.ReadBack

@[expose] public section

set_option maxRecDepth 16384

noncomputable section

open Idealize.ShloMosaic Idealize.ShloMosaic.TcCoe Idealize.SL.Sem

namespace Cert.Kernel4Ideal.In
open Cert.Kernel4Ideal Cert.Kernel4Ideal.Gen Cert.Lift Cert.In
open Cert.Tail (bits_1024)

/-! ## The normalised rows -/

theorem k0_idx : ∀ t : Fin cfg0.N, win0_0.index t = ![t.val, 0]
    ∧ win0_1.index t = ![0, 0]
    ∧ win0_2.index t = ![t.val, 0] ∧ t.val < 4 :=
  (by decide +kernel : ∀ t : Fin grid0.N, _)
theorem k0_lt (t : Fin cfg0.N) : t.val < 4 := lt_of_lt_of_eq t.isLt N_0

section
variable {x : FVec Ideal S1024x1024 .f32} {X : EMat} (hx : He x X) {g : FVec Ideal S1x1024 .f32} {G : EMat} (hg : He g G)
include hx hg
theorem k0_p1 : He (k0_pay1 (F := Ideal) x g) (nm X G) := fun r l => by
  pointwise [k0_pay1]
  simp only [hx _ _, hg _ _, bits_1024, bits_eps, Finset.sum_const_zero, add_zero, zero_add]
  rfl
end

section
variable {V : (c : Dev nD) → (b : Ref sig .tc) → Buf (Elt Ideal) ((c : Thread nD τ).loc b)} {c : Dev nD}
theorem k0_b0 {M : EMat} (h : He (a := 4096) (b := 1024) (φ := .f32) (V c (Pipeline.arrRef spec0 0)) M) (t : Fin cfg0.N) :
    He (a := 1024) (b := 1024) (φ := .f32) (iblk0 V c 0 t) (fun r l => M (t.val * 1024 + r) (l)) := fun r l => by
  have ht := k0_lt t
  have e : (show FVec Ideal S1024x1024 .f32 from iblk0 V c 0 t) (ix2 r l)
      = (show FVec Ideal S4096x1024 .f32 from V c (Pipeline.arrRef spec0 0)) (ix2 ⟨t.val * 1024 + r.val, by omega⟩ ⟨l.val, by omega⟩) := by
    blk_ext [iblk0, k0_idx t]
  exact e.trans (h _ _)
theorem k0_b1 {M : EMat} (h : He (a := 1) (b := 1024) (φ := .f32) (V c (Pipeline.arrRef spec0 1)) M) (t : Fin cfg0.N) :
    He (a := 1) (b := 1024) (φ := .f32) (iblk0 V c 1 t) (fun r l => M (r) (l)) := fun r l => by
  have ht := k0_lt t
  have e : (show FVec Ideal S1x1024 .f32 from iblk0 V c 1 t) (ix2 r l)
      = (show FVec Ideal S1x1024 .f32 from V c (Pipeline.arrRef spec0 1)) (ix2 ⟨r.val, by omega⟩ ⟨l.val, by omega⟩) := by
    blk_ext [iblk0, k0_idx t]
  exact e.trans (h _ _)

variable {M0 M1 : EMat}
  (h0 : He (a := 4096) (b := 1024) (φ := .f32) (V c (Pipeline.arrRef spec0 0)) M0)
  (h1 : He (a := 1) (b := 1024) (φ := .f32) (V c (Pipeline.arrRef spec0 1)) M1)

include h0 h1 in
theorem k0_o2 : He (a := 4096) (b := 1024) (φ := .bf16) ((dat0 V c).arrAt 2 cfg0.N) (nm M0 M1) := by
  have e : (dat0 V c).arrAt 2 cfg0.N = fun i => (nm M0 M1) (i 0).val (i 1).val := by
    refine (dat0 V c).arrAt_eq_of_covers 2 _ (by decide +kernel) fun t hf y => ?_
    blk_simp
    rw [after0_2]
    idx_vars y
    unfold out0_2
    frame_out
    refine (k0_p1 (k0_b0 h0 t) (k0_b1 h1 t) _ _).trans ?_
    blk_simp [k0_idx t]
    rfl
  exact fun r l => congrFun e (ix2 r l)
end

/-! ## The projection -/

theorem k1_idx : ∀ t : Fin cfg1.N, win1_0.index t = ![t.val / 13, 0]
    ∧ win1_1.index t = ![0, t.val % 13]
    ∧ win1_2.index t = ![t.val / 13, t.val % 13] ∧ t.val < 52 :=
  (by decide +kernel : ∀ t : Fin grid1.N, _)
theorem k1_lt (t : Fin cfg1.N) : t.val < 52 := lt_of_lt_of_eq t.isLt N_1

section
variable {x : FVec Ideal S1024x1024 .bf16} {X : EMat} (hx : He x X) {w : FVec Ideal S1024x1024 .bf16} {W : EMat} (hw : He w W)
include hx hw
theorem k1_p1 : He (k1_pay1 (F := Ideal) x w) (nn 1024 X W) := fun r l => by
  pointwise [k1_pay1]
  simp only [hx _ _, hw _ _]
  rfl
end

section
variable {V : (c : Dev nD) → (b : Ref sig .tc) → Buf (Elt Ideal) ((c : Thread nD τ).loc b)} {c : Dev nD}
theorem k1_b0 {M : EMat} (h : He (a := 4096) (b := 1024) (φ := .bf16) (V c (Pipeline.arrRef spec1 0)) M) (t : Fin cfg1.N) :
    He (a := 1024) (b := 1024) (φ := .bf16) (iblk1 V c 0 t) (fun r l => M (t.val / 13 * 1024 + r) (l)) := fun r l => by
  have ht := k1_lt t
  have e : (show FVec Ideal S1024x1024 .bf16 from iblk1 V c 0 t) (ix2 r l)
      = (show FVec Ideal S4096x1024 .bf16 from V c (Pipeline.arrRef spec1 0)) (ix2 ⟨t.val / 13 * 1024 + r.val, by omega⟩ ⟨l.val, by omega⟩) := by
    blk_ext [iblk1, k1_idx t]
  exact e.trans (h _ _)
theorem k1_b1 {M : EMat} (h : He (a := 1024) (b := 13312) (φ := .bf16) (V c (Pipeline.arrRef spec1 1)) M) (t : Fin cfg1.N) :
    He (a := 1024) (b := 1024) (φ := .bf16) (iblk1 V c 1 t) (fun r l => M (r) (t.val % 13 * 1024 + l)) := fun r l => by
  have ht := k1_lt t
  have e : (show FVec Ideal S1024x1024 .bf16 from iblk1 V c 1 t) (ix2 r l)
      = (show FVec Ideal S1024x13312 .bf16 from V c (Pipeline.arrRef spec1 1)) (ix2 ⟨r.val, by omega⟩ ⟨t.val % 13 * 1024 + l.val, by omega⟩) := by
    blk_ext [iblk1, k1_idx t]
  exact e.trans (h _ _)

variable {M0 M1 : EMat}
  (h0 : He (a := 4096) (b := 1024) (φ := .bf16) (V c (Pipeline.arrRef spec1 0)) M0)
  (h1 : He (a := 1024) (b := 13312) (φ := .bf16) (V c (Pipeline.arrRef spec1 1)) M1)

include h0 h1 in
theorem k1_o2 : He (a := 4096) (b := 13312) (φ := .bf16) ((dat1 V c).arrAt 2 cfg1.N) (nn 1024 M0 M1) := by
  have e : (dat1 V c).arrAt 2 cfg1.N = fun i => (nn 1024 M0 M1) (i 0).val (i 1).val := by
    refine (dat1 V c).arrAt_eq_of_covers 2 _ (by decide +kernel) fun t hf y => ?_
    blk_simp
    rw [after1_2]
    idx_vars y
    unfold out1_2
    frame_out
    refine (k1_p1 (k1_b0 h0 t) (k1_b1 h1 t) _ _).trans ?_
    blk_simp [k1_idx t]
    rfl
  exact fun r l => congrFun e (ix2 r l)
end

/-! ## The gradient of the projection's weights -/

theorem k2_idx : ∀ t : Fin cfg2.N, win2_0.index t = ![0, 0]
    ∧ win2_1.index t = ![0, t.val]
    ∧ win2_2.index t = ![0, t.val]
    ∧ win2_3.index t = ![0, t.val] ∧ t.val < 26 :=
  (by decide +kernel : ∀ t : Fin grid2.N, _)
theorem k2_lt (t : Fin cfg2.N) : t.val < 26 := lt_of_lt_of_eq t.isLt N_2

section
variable {x : FVec Ideal S4096x1024 .bf16} {X : EMat} (hx : He x X) {w : FVec Ideal S4096x512 .bf16} {W : EMat} (hw : He w W)
include hx hw
theorem k2_p1 : He (k2_pay1 (F := Ideal) x w) (tn 4096 X W) := fun r l => by
  pointwise [k2_pay1]
  simp only [hx _ _, hw _ _]
  rfl
theorem k2_p2 : He (k2_pay2 (F := Ideal) x w) (tn 4096 X W) := fun r l => by
  pointwise [k2_pay2]
  exact k2_p1 hx hw r l
end

section
variable {V : (c : Dev nD) → (b : Ref sig .tc) → Buf (Elt Ideal) ((c : Thread nD τ).loc b)} {c : Dev nD}
theorem k2_b0 {M : EMat} (h : He (a := 4096) (b := 1024) (φ := .bf16) (V c (Pipeline.arrRef spec2 0)) M) (t : Fin cfg2.N) :
    He (a := 4096) (b := 1024) (φ := .bf16) (iblk2 V c 0 t) (fun r l => M (r) (l)) := fun r l => by
  have ht := k2_lt t
  have e : (show FVec Ideal S4096x1024 .bf16 from iblk2 V c 0 t) (ix2 r l)
      = (show FVec Ideal S4096x1024 .bf16 from V c (Pipeline.arrRef spec2 0)) (ix2 ⟨r.val, by omega⟩ ⟨l.val, by omega⟩) := by
    blk_ext [iblk2, k2_idx t]
  exact e.trans (h _ _)
theorem k2_b1 {M : EMat} (h : He (a := 4096) (b := 13312) (φ := .bf16) (V c (Pipeline.arrRef spec2 1)) M) (t : Fin cfg2.N) :
    He (a := 4096) (b := 512) (φ := .bf16) (iblk2 V c 1 t) (fun r l => M (r) (t.val * 512 + l)) := fun r l => by
  have ht := k2_lt t
  have e : (show FVec Ideal S4096x512 .bf16 from iblk2 V c 1 t) (ix2 r l)
      = (show FVec Ideal S4096x13312 .bf16 from V c (Pipeline.arrRef spec2 1)) (ix2 ⟨r.val, by omega⟩ ⟨t.val * 512 + l.val, by omega⟩) := by
    blk_ext [iblk2, k2_idx t]
  exact e.trans (h _ _)

variable {M0 M1 : EMat}
  (h0 : He (a := 4096) (b := 1024) (φ := .bf16) (V c (Pipeline.arrRef spec2 0)) M0)
  (h1 : He (a := 4096) (b := 13312) (φ := .bf16) (V c (Pipeline.arrRef spec2 1)) M1)

include h0 h1 in
theorem k2_o2 : He (a := 1024) (b := 13312) (φ := .f32) ((dat2 V c).arrAt 2 cfg2.N) (tn 4096 M0 M1) := by
  have e : (dat2 V c).arrAt 2 cfg2.N = fun i => (tn 4096 M0 M1) (i 0).val (i 1).val := by
    refine (dat2 V c).arrAt_eq_of_covers 2 _ (by decide +kernel) fun t hf y => ?_
    blk_simp
    rw [after2_2]
    idx_vars y
    unfold out2_2
    frame_out
    refine (k2_p1 (k2_b0 h0 t) (k2_b1 h1 t) _ _).trans ?_
    blk_simp [k2_idx t]
    rfl
  exact fun r l => congrFun e (ix2 r l)

include h0 h1 in
theorem k2_o3 : He (a := 1024) (b := 13312) (φ := .bf16) ((dat2 V c).arrAt 3 cfg2.N) (tn 4096 M0 M1) := by
  have e : (dat2 V c).arrAt 3 cfg2.N = fun i => (tn 4096 M0 M1) (i 0).val (i 1).val := by
    refine (dat2 V c).arrAt_eq_of_covers 3 _ (by decide +kernel) fun t hf y => ?_
    blk_simp
    rw [after2_3]
    idx_vars y
    unfold out2_3
    frame_out
    refine (k2_p2 (k2_b0 h0 t) (k2_b1 h1 t) _ _).trans ?_
    blk_simp [k2_idx t]
    rfl
  exact fun r l => congrFun e (ix2 r l)
end

/-! ## The gradient of the normalisation -/

theorem k3_idx : ∀ t : Fin cfg3.N, win3_0.index t = ![t.val, 0]
    ∧ win3_1.index t = ![t.val, 0]
    ∧ win3_2.index t = ![0, 0]
    ∧ win3_3.index t = ![t.val, 0] ∧ win3_4.index t = ![t.val, 0]
    ∧ win3_5.index t = ![0, 0] ∧ t.val < 8 :=
  (by decide +kernel : ∀ t : Fin grid3.N, _)
theorem k3_lt (t : Fin cfg3.N) : t.val < 8 := lt_of_lt_of_eq t.isLt N_3

section
variable {x : FVec Ideal S512x1024 .f32} {X : EMat} (hx : He x X) {d : FVec Ideal S512x1024 .f32} {D : EMat} (hd : He d D)
include hx
theorem k3_p1 (r l) : k3_pay1 (F := Ideal) x (ix2 r l) = ri X r := by
  pointwise [k3_pay1]
  simp only [hx _ _, bits_1024, bits_eps, Finset.sum_const_zero, add_zero, zero_add]
  rfl
theorem k3_p2 : He (k3_pay2 (F := Ideal) x) (xh X) := fun r l => by
  have h := k3_p1 hx
  pointwise [k3_pay2]
  rw [h, hx _ _]
  rfl
include hd
theorem k3_p3 {g : FVec Ideal S1x1024 .f32} {G : EMat} (hg : He g G) {e : FVec Ideal S512x1024 .f32} {E : EMat} (he : He e E) :
    He (k3_pay3 (F := Ideal) x d g e) (fun r l => bw X G D r l + E r l) := fun r l => by
  have h := k3_p2 hx
  have h1 := k3_p1 hx
  pointwise [k3_pay3]
  simp only [h _ _, h1 _ _, hd _ _, hg _ _, he _ _, bits_1024, Finset.sum_const_zero, add_zero, zero_add]
  rfl
theorem k3_p5 (a : FVec Ideal S1x1024 .f32) (i : S1x1024.Idx) : k3_pay5 (F := Ideal) x d a i
    = a i + ∑ r : Fin 512, D r (i 1).val * xh X r (i 1).val := by
  have h := k3_p2 hx
  idx_vars i
  pointwise [k3_pay5]
  simp only [h _ _, hd _ _]
end
theorem k3_p4 (i : S1x1024.Idx) : k3_pay4 (F := Ideal) i = 0 := by
  idx_vars i
  pointwise [k3_pay4]

section
variable {V : (c : Dev nD) → (b : Ref sig .tc) → Buf (Elt Ideal) ((c : Thread nD τ).loc b)} {c : Dev nD}
theorem k3_b0 {M : EMat} (h : He (a := 4096) (b := 1024) (φ := .f32) (V c (Pipeline.arrRef spec3 0)) M) (t : Fin cfg3.N) :
    He (a := 512) (b := 1024) (φ := .f32) (iblk3 V c 0 t) (fun r l => M (t.val * 512 + r) (l)) := fun r l => by
  have ht := k3_lt t
  have e : (show FVec Ideal S512x1024 .f32 from iblk3 V c 0 t) (ix2 r l)
      = (show FVec Ideal S4096x1024 .f32 from V c (Pipeline.arrRef spec3 0)) (ix2 ⟨t.val * 512 + r.val, by omega⟩ ⟨l.val, by omega⟩) := by
    blk_ext [iblk3, k3_idx t]
  exact e.trans (h _ _)
theorem k3_b1 {M : EMat} (h : He (a := 4096) (b := 1024) (φ := .f32) (V c (Pipeline.arrRef spec3 1)) M) (t : Fin cfg3.N) :
    He (a := 512) (b := 1024) (φ := .f32) (iblk3 V c 1 t) (fun r l => M (t.val * 512 + r) (l)) := fun r l => by
  have ht := k3_lt t
  have e : (show FVec Ideal S512x1024 .f32 from iblk3 V c 1 t) (ix2 r l)
      = (show FVec Ideal S4096x1024 .f32 from V c (Pipeline.arrRef spec3 1)) (ix2 ⟨t.val * 512 + r.val, by omega⟩ ⟨l.val, by omega⟩) := by
    blk_ext [iblk3, k3_idx t]
  exact e.trans (h _ _)
theorem k3_b2 {M : EMat} (h : He (a := 1) (b := 1024) (φ := .f32) (V c (Pipeline.arrRef spec3 2)) M) (t : Fin cfg3.N) :
    He (a := 1) (b := 1024) (φ := .f32) (iblk3 V c 2 t) (fun r l => M (r) (l)) := fun r l => by
  have ht := k3_lt t
  have e : (show FVec Ideal S1x1024 .f32 from iblk3 V c 2 t) (ix2 r l)
      = (show FVec Ideal S1x1024 .f32 from V c (Pipeline.arrRef spec3 2)) (ix2 ⟨r.val, by omega⟩ ⟨l.val, by omega⟩) := by
    blk_ext [iblk3, k3_idx t]
  exact e.trans (h _ _)
theorem k3_b3 {M : EMat} (h : He (a := 4096) (b := 1024) (φ := .f32) (V c (Pipeline.arrRef spec3 3)) M) (t : Fin cfg3.N) :
    He (a := 512) (b := 1024) (φ := .f32) (iblk3 V c 3 t) (fun r l => M (t.val * 512 + r) (l)) := fun r l => by
  have ht := k3_lt t
  have e : (show FVec Ideal S512x1024 .f32 from iblk3 V c 3 t) (ix2 r l)
      = (show FVec Ideal S4096x1024 .f32 from V c (Pipeline.arrRef spec3 3)) (ix2 ⟨t.val * 512 + r.val, by omega⟩ ⟨l.val, by omega⟩) := by
    blk_ext [iblk3, k3_idx t]
  exact e.trans (h _ _)

variable {M0 M1 M2 M3 : EMat}
  (h0 : He (a := 4096) (b := 1024) (φ := .f32) (V c (Pipeline.arrRef spec3 0)) M0)
  (h1 : He (a := 4096) (b := 1024) (φ := .f32) (V c (Pipeline.arrRef spec3 1)) M1)
  (h2 : He (a := 1) (b := 1024) (φ := .f32) (V c (Pipeline.arrRef spec3 2)) M2)
  (h3 : He (a := 4096) (b := 1024) (φ := .f32) (V c (Pipeline.arrRef spec3 3)) M3)

include h0 h1 h2 h3 in
theorem k3_s4 (t : Fin cfg3.N) : He (a := 512) (b := 1024) (φ := .f32) (outsAt3 V c t.val t.isLt).1
    (fun r l => bw M1 M2 M0 (t.val * 512 + r) l + M3 (t.val * 512 + r) l) := fun r l => by
  have key := k3_p3 (k3_b1 h1 t) (k3_b0 h0 t) (k3_b2 h2 t) (k3_b3 h3 t) r l
  by_cases h : t.val % 8 = 0
  · rw [outsAt3_A V c t h]; frame_out; exact key
  · rw [outsAt3_B V c t h]; frame_out; exact key
include h0 h1 in
theorem k3_reset (t : Fin cfg3.N) (h : t.val % 8 = 0) (i : S1x1024.Idx) : (outsAt3 V c t.val t.isLt).2 i
    = 0 + (∑ r : Fin 512, M0 (t.val * 512 + r) (i 1).val * xh M1 (t.val * 512 + r) (i 1).val) := by
  have key := k3_p5 (k3_b1 h1 t) (k3_b0 h0 t)
  idx_vars i
  rw [outsAt3_A V c t h]; frame_out; rw [key, k3_p4]; rfl
include h0 h1 in
theorem k3_step (t : Fin cfg3.N) (h : ¬ t.val % 8 = 0) (i : S1x1024.Idx) : (outsAt3 V c t.val t.isLt).2 i
    = (outsAt3 V c (t.val - 1) (Nat.lt_of_le_of_lt (Nat.sub_le _ _) t.isLt)).2 i
      + (∑ r : Fin 512, M0 (t.val * 512 + r) (i 1).val * xh M1 (t.val * 512 + r) (i 1).val) := by
  have key := k3_p5 (k3_b1 h1 t) (k3_b0 h0 t)
  idx_vars i
  rw [outsAt3_B V c t h]; frame_out; rw [key]; rfl

include h0 h1 in
theorem k3_s5 (t : Fin cfg3.N) (h : t.val % 8 = 7) (i : S1x1024.Idx) : (outsAt3 V c t.val t.isLt).2 i
    = (∑ b : Fin 8, ∑ r : Fin 512, M0 (b * 512 + r) (i 1).val * xh M1 (b * 512 + r) (i 1).val) := by
  have hN : cfg3.N = 8 := N_3
  have key := Pipeline.eq_sum_fin_of_reset_step_apply_last (M := EReal) (ι := S1x1024.Idx) (N := cfg3.N) (fun n h => (outsAt3 V c n h).2) 8 (fun _ => (0 : EReal))
    (fun t i => (∑ r : Fin 512, M0 (t * 512 + r) (i 1).val * xh M1 (t * 512 + r) (i 1).val)) (k3_reset h0 h1) (k3_step h0 h1) (le_of_eq N_3) t (by have := t.isLt; omega) i
  rw [zero_add] at key
  exact key

include h0 h1 h2 h3 in
theorem k3_o4 : He (a := 4096) (b := 1024) (φ := .f32) ((dat3 V c).arrAt 4 cfg3.N) (fun r c => bw M1 M2 M0 r c + M3 r c) := by
  have e : (dat3 V c).arrAt 4 cfg3.N = fun i => (fun r c => bw M1 M2 M0 r c + M3 r c) (i 0).val (i 1).val := by
    refine (dat3 V c).arrAt_eq_of_covers 4 _ (by decide +kernel) fun t hf y => ?_
    blk_simp
    rw [after3_4]
    idx_vars y
    refine (k3_s4 h0 h1 h2 h3 t _ _).trans ?_
    blk_simp [k3_idx t]
  exact fun r l => congrFun e (ix2 r l)

include h0 h1 in
theorem k3_o5 : He (a := 1) (b := 1024) (φ := .f32) ((dat3 V c).arrAt 5 cfg3.N)
    (fun _ c => ∑ b : Fin 8, ∑ r : Fin 512, M0 (b * 512 + r) c * xh M1 (b * 512 + r) c) := by
  have e : (dat3 V c).arrAt 5 cfg3.N = fun i => (∑ b : Fin 8, ∑ r : Fin 512, M0 (b * 512 + r) (i 1).val * xh M1 (b * 512 + r) (i 1).val) := by
    refine (dat3 V c).arrAt_eq_of_covers 5 _ (by decide +kernel) fun t hf y => ?_
    blk_simp
    rw [after3_5]
    refine (k3_s5 h0 h1 t ((flush3_5 t).mp hf) y).trans ?_
    have e1 : win3_5.index t 1 = 0 := by rw [(k3_idx t).2.2.2.2.2.1]; rfl
    rw [e1, Nat.zero_mul, Nat.zero_add]
  exact fun r l => congrFun e (ix2 r l)
end

end Cert.Kernel4Ideal.In

end
-- ==== Proof.InChain.lean ====
/- What every array of the projection and its gradient holds at the end of the run: the calls in their order, each from what
   the calls before it left. -/
module

public import proofs.«01_k».proof.Proof.InRegions

@[expose] public section

set_option maxRecDepth 16384

noncomputable section

open Idealize.ShloMosaic Idealize.ShloMosaic.TcCoe Idealize.SL.Sem

namespace Cert.Kernel4Ideal.Chain
open Cert.Kernel4Ideal Cert.Kernel4Ideal.Gen Cert.In

variable (m : (ℓ : Loc nD τ sig) → Buf (Elt Ideal) ℓ) (ρ : Dev nD → PrngReg) (c : Dev nD) {A : ℕ → EMat}
  (h0 : He (a := 4096) (b := 1024) (φ := .f32) (m ((c : Thread nD τ).loc main_arg0)) (A 0))
  (h1 : He (a := 1) (b := 1024) (φ := .f32) (m ((c : Thread nD τ).loc main_arg1)) (A 1))
  (h2 : He (a := 1024) (b := 13312) (φ := .bf16) (m ((c : Thread nD τ).loc main_arg2)) (A 2))
  (h3 : He (a := 4096) (b := 13312) (φ := .bf16) (m ((c : Thread nD τ).loc main_arg3)) (A 3))
  (h4 : He (a := 4096) (b := 1024) (φ := .f32) (m ((c : Thread nD τ).loc main_arg4)) (A 4))
  (h5 : He (a := 4096) (b := 1024) (φ := .f32) (m ((c : Thread nD τ).loc main_arg5)) (A 5))
include h0 h1 h2 h3 h4 h5

theorem q1_v0 : He (a := 4096) (b := 1024) (φ := .bf16) (W1 m ρ c (Proc.devRef .tc main_v0)) (nm (A 0) (A 1)) :=
  He.of_eq (W1_arr m ρ c 2) (In.k0_o2 (V := V0 m ρ) (c := c)
    (He.of_eq (W0_args m ρ c main_arg0 (by decide)) h0) (He.of_eq (W0_args m ρ c main_arg1 (by decide)) h1))

theorem q2_v1 : He (a := 4096) (b := 13312) (φ := .bf16) (W2 m ρ c (Proc.devRef .tc main_v1)) (nn 1024 (nm (A 0) (A 1)) (A 2)) :=
  He.of_eq (W2_arr m ρ c 2) (In.k1_o2 (V := V1 m ρ) (c := c)
    (q1_v0 m ρ c h0 h1 h2 h3 h4 h5) (He.of_eq (W1_args m ρ c main_arg2 (by decide)) h2))

theorem q2_v0 : He (a := 4096) (b := 1024) (φ := .bf16) (W2 m ρ c (Proc.devRef .tc main_v0)) (nm (A 0) (A 1)) :=
  He.of_eq (W2_of m ρ c main_v0 (by decide +kernel)) (q1_v0 m ρ c h0 h1 h2 h3 h4 h5)

theorem q3_v2_0 : He (a := 1024) (b := 13312) (φ := .f32) (W3 m ρ c (Proc.devRef .tc main_v2_0)) (tn 4096 (nm (A 0) (A 1)) (A 3)) :=
  He.of_eq (W3_arr m ρ c 2) (In.k2_o2 (V := V2 m ρ) (c := c)
    (q2_v0 m ρ c h0 h1 h2 h3 h4 h5) (He.of_eq (W2_args m ρ c main_arg3 (by decide)) h3))

theorem q3_v2_1 : He (a := 1024) (b := 13312) (φ := .bf16) (W3 m ρ c (Proc.devRef .tc main_v2_1)) (tn 4096 (nm (A 0) (A 1)) (A 3)) :=
  He.of_eq (W3_arr m ρ c 3) (In.k2_o3 (V := V2 m ρ) (c := c)
    (q2_v0 m ρ c h0 h1 h2 h3 h4 h5) (He.of_eq (W2_args m ρ c main_arg3 (by decide)) h3))

theorem q3_v1 : He (a := 4096) (b := 13312) (φ := .bf16) (W3 m ρ c (Proc.devRef .tc main_v1)) (nn 1024 (nm (A 0) (A 1)) (A 2)) :=
  He.of_eq (W3_of m ρ c main_v1 (by decide +kernel)) (q2_v1 m ρ c h0 h1 h2 h3 h4 h5)

theorem q4_v3_0 : He (a := 4096) (b := 1024) (φ := .f32) (W4 m ρ c (Proc.devRef .tc main_v3_0)) (fun r c => bw (A 0) (A 1) (A 4) r c + A 5 r c) :=
  He.of_eq (W4_arr m ρ c 4) (In.k3_o4 (V := V3 m ρ) (c := c)
    (He.of_eq (W3_args m ρ c main_arg4 (by decide)) h4) (He.of_eq (W3_args m ρ c main_arg0 (by decide)) h0) (He.of_eq (W3_args m ρ c main_arg1 (by decide)) h1) (He.of_eq (W3_args m ρ c main_arg5 (by decide)) h5))

theorem q4_v3_1 : He (a := 1) (b := 1024) (φ := .f32) (W4 m ρ c (Proc.devRef .tc main_v3_1)) (gg (A 0) (A 4)) :=
  He.of_eq (W4_arr m ρ c 5) (In.k3_o5 (V := V3 m ρ) (c := c)
    (He.of_eq (W3_args m ρ c main_arg4 (by decide)) h4) (He.of_eq (W3_args m ρ c main_arg0 (by decide)) h0))

theorem q4_v1 : He (a := 4096) (b := 13312) (φ := .bf16) (W4 m ρ c (Proc.devRef .tc main_v1)) (nn 1024 (nm (A 0) (A 1)) (A 2)) :=
  He.of_eq (W4_of m ρ c main_v1 (by decide +kernel)) (q3_v1 m ρ c h0 h1 h2 h3 h4 h5)

theorem q4_v2_0 : He (a := 1024) (b := 13312) (φ := .f32) (W4 m ρ c (Proc.devRef .tc main_v2_0)) (tn 4096 (nm (A 0) (A 1)) (A 3)) :=
  He.of_eq (W4_of m ρ c main_v2_0 (by decide +kernel)) (q3_v2_0 m ρ c h0 h1 h2 h3 h4 h5)

theorem q4_v2_1 : He (a := 1024) (b := 13312) (φ := .bf16) (W4 m ρ c (Proc.devRef .tc main_v2_1)) (tn 4096 (nm (A 0) (A 1)) (A 3)) :=
  He.of_eq (W4_of m ρ c main_v2_1 (by decide +kernel)) (q3_v2_1 m ρ c h0 h1 h2 h3 h4 h5)

end Cert.Kernel4Ideal.Chain

end
-- ==== Proof.InRef.lean ====
/- The stages of the reference for the projection, the norm before it and their gradients. -/
module

public import proofs.«01_k».proof.Proof.Gen.Reference4Ideal.Read
public import proofs.«01_k».proof.Proof.InMath

@[expose] public section

set_option maxRecDepth 16384

noncomputable section

open Idealize.ShloMosaic Idealize.ShloMosaic.TcCoe Idealize.SL.Sem

namespace Cert.Reference4Ideal.In
open Cert.Reference4Ideal Cert.Reference4Ideal.Gen Cert.Reference4Ideal.Read Cert.Lift Cert.In
open Cert.Tail (bits_1024)

theorem bits_neg_half : Ideal.ofBits FTy.f32 3204448256#32 = ((-(1 / 2) : ℝ) : EReal) := by
  simp [Ideal.ofBits, Ideal.ieee, -EReal.coe_mul]; norm_num

variable {A : ℕ → EMat} {x0 : FVec Ideal ⟨2, ![4096, 1024]⟩ .f32} {x1 : FVec Ideal ⟨2, ![1, 1024]⟩ .f32} {x2 : FVec Ideal ⟨2, ![1024, 13312]⟩ .bf16} {x3 : FVec Ideal ⟨2, ![4096, 13312]⟩ .bf16} {x4 : FVec Ideal ⟨2, ![4096, 1024]⟩ .f32} {x5 : FVec Ideal ⟨2, ![4096, 1024]⟩ .f32}
  (h0 : He x0 (A 0))
  (h1 : He x1 (A 1))
  (h2 : He x2 (A 2))
  (h3 : He x3 (A 3))
  (h4 : He x4 (A 4))
  (h5 : He x5 (A 5))
include h0 h1 h2 h3 h4 h5

theorem r7 : He (a := 4096) (b := 1) (φ := .f32) (val_main_v7 (F := Ideal) x0) (fun r _ => ms (A 0) r) := fun r l => by
  pointwise [val_main_v7, val_main_v6, val_main_cst_1, val_main_v5, val_main_v4, val_main_cst_0, val_main_v3, val_main_v2, val_main_v1, val_main_cst]
  simp only [h0 _ _, bits_1024, bits_eps, Finset.sum_const_zero, add_zero, zero_add]
  rfl

theorem r8 : He (a := 4096) (b := 1) (φ := .f32) (val_main_v8 (F := Ideal) x0) (fun r _ => ri (A 0) r) := fun r l => by
  have e7 := r7 h0 h1 h2 h3 h4 h5
  pointwise [val_main_v8]
  simp only [e7 _ _]
  rfl

theorem r13 : He (a := 4096) (b := 1024) (φ := .f32) (val_main_v13 (F := Ideal) x0) (xh (A 0)) := fun r l => by
  have e8 := r8 h0 h1 h2 h3 h4 h5
  pointwise [val_main_v13, val_main_v12]
  simp only [e8 _ _, h0 _ _]
  rfl

theorem r0 (l : Fin 1024) : (val_main_v0 (F := Ideal) x1) (ix1 l) = A 1 0 l := by
  have e : (val_main_v0 (F := Ideal) x1) (ix1 l) = x1 (ix2 0 l) := by
    pointwise [val_main_v0]
  rw [e, h1]
  rfl

theorem r16 : He (a := 4096) (b := 1024) (φ := .f32) (val_main_v16 (F := Ideal) x0 x1) (nm (A 0) (A 1)) := fun r l => by
  have e13 := r13 h0 h1 h2 h3 h4 h5
  have e0 := r0 h0 h1 h2 h3 h4 h5
  pointwise [val_main_v16, val_main_v15, val_main_v14]
  simp only [e13 _ _, e0 _]
  rfl

theorem r43 : He (a := 4096) (b := 13312) (φ := .bf16) (val_main_v43 (F := Ideal) x0 x1 x2) (nn 1024 (nm (A 0) (A 1)) (A 2)) := fun r l => by
  have e16 := r16 h0 h1 h2 h3 h4 h5
  pointwise [val_main_v43, val_main_v18, val_main_v17]
  simp only [e16 _ _, h2 _ _]
  rfl

theorem r21 : He (a := 1024) (b := 13312) (φ := .f32) (val_main_v21 (F := Ideal) x0 x1 x3) (tn 4096 (nm (A 0) (A 1)) (A 3)) := fun r l => by
  have e16 := r16 h0 h1 h2 h3 h4 h5
  pointwise [val_main_v21, val_main_v20, val_main_v19]
  simp only [e16 _ _, h3 _ _]
  exact Finset.sum_congr rfl fun k _ => mul_comm _ _

theorem r44 : He (a := 1024) (b := 13312) (φ := .bf16) (val_main_v44 (F := Ideal) x0 x1 x3) (tn 4096 (nm (A 0) (A 1)) (A 3)) := fun r l => by
  have e21 := r21 h0 h1 h2 h3 h4 h5
  pointwise [val_main_v44]
  simp only [e21 _ _]

theorem r22 : He (a := 4096) (b := 1024) (φ := .f32) (val_main_v22 (F := Ideal) x0 x4) (fun r l => xh (A 0) r l * A 4 r l) := fun r l => by
  have e13 := r13 h0 h1 h2 h3 h4 h5
  pointwise [val_main_v22]
  simp only [e13 _ _, h4 _ _]

theorem r42 : He (a := 1) (b := 1024) (φ := .f32) (val_main_v42 (F := Ideal) x0 x4) (gg (A 0) (A 4)) := fun r l => by
  have e := r22 h0 h1 h2 h3 h4 h5
  pointwise [val_main_v42, val_main_v27, val_main_v24, val_main_v23, val_main_cst_3, val_main_cst_4]
  simp only [e _ _]
  rw [Fin.sum_univ_one, sum_blocks (fun k => xh (A 0) k l * A 4 k l)]
  exact Finset.sum_congr rfl fun _ _ => Finset.sum_congr rfl fun _ _ => mul_comm _ _

theorem r26 : He (a := 4096) (b := 1024) (φ := .f32) (val_main_v26 (F := Ideal) x1 x4) (fun r l => A 4 r l * A 1 0 l) := fun r l => by
  have e0 := r0 h0 h1 h2 h3 h4 h5
  pointwise [val_main_v26, val_main_v25, val_main_v14]
  simp only [e0 _, h4 _ _]

theorem r36 (r : Fin 4096) : (val_main_v36 (F := Ideal) x0 x1 x4) (ix1 r) = dm (A 0) (A 1) (A 4) r := by
  have e := r26 h0 h1 h2 h3 h4 h5
  have e7 := r7 h0 h1 h2 h3 h4 h5
  have e8 := r8 h0 h1 h2 h3 h4 h5
  pointwise [val_main_v36, val_main_cst_7, val_main_v35, val_main_v34, val_main_cst_6, val_main_v33, val_main_v11, val_main_v10, val_main_cst_2, val_main_v9, val_main_v30, val_main_v29, val_main_cst_5, val_main_v28]
  simp only [e _ _, e7 _ _, e8 _ _, h0 _ _, bits_1024, bits_neg_half, Fin.sum_univ_one, Finset.sum_const_zero, add_zero, zero_add]
  rfl

theorem r45 : He (a := 4096) (b := 1024) (φ := .f32) (val_main_v45 (F := Ideal) x0 x1 x4 x5) (fun r c => bw (A 0) (A 1) (A 4) r c + A 5 r c) := fun r l => by
  have e26 := r26 h0 h1 h2 h3 h4 h5
  have e8 := r8 h0 h1 h2 h3 h4 h5
  have e36 := r36 h0 h1 h2 h3 h4 h5
  pointwise [val_main_v45, val_main_v41, val_main_v40, val_main_v39, val_main_v38, val_main_v37, val_main_v32, val_main_v31]
  simp only [e26 _ _, e8 _ _, e36 _, h0 _ _, h5 _ _]
  rw [bw_eq]
  rfl

end Cert.Reference4Ideal.In

end
-- ==== Proof.InClaim.lean ====
/- The results of the projection, the norm before it and their gradients are the reference's, at any arguments. -/
module

public import proofs.«01_k».proof.Defs
public import proofs.«01_k».proof.Proof.InRun
public import proofs.«01_k».proof.Proof.InChain
public import proofs.«01_k».proof.Proof.InRef

@[expose] public section

set_option maxRecDepth 16384

noncomputable section

open Idealize.ShloMosaic Idealize.ShloMosaic.TcCoe Idealize.SL.Sem

namespace Cert.In

/-- The arguments as matrices. -/
def model (x0 : FVec Ideal ⟨2, ![4096, 1024]⟩ .f32) (x1 : FVec Ideal ⟨2, ![1, 1024]⟩ .f32) (x2 : FVec Ideal ⟨2, ![1024, 13312]⟩ .bf16) (x3 : FVec Ideal ⟨2, ![4096, 13312]⟩ .bf16) (x4 : FVec Ideal ⟨2, ![4096, 1024]⟩ .f32) (x5 : FVec Ideal ⟨2, ![4096, 1024]⟩ .f32) : ℕ → EMat
  | 0 => mat x0
  | 1 => mat x1
  | 2 => mat x2
  | 3 => mat x3
  | 4 => mat x4
  | 5 => mat x5
  | _ => fun _ _ => 0

end Cert.In

namespace Cert.Proof.In
open Cert.Lift Cert.In

theorem algebraic : Cert.algebraic_Kernel4Ideal_Reference4Ideal := by
  intro m g m' g' hpre hag
  refine ⟨_, _, _, _, _, Cert.Kernel4Ideal.Run.run_results m g, ?_⟩
  refine (θ_run _ _ _).mono (fun r h c => ?_) (Cert.Reference4Ideal.Value.run m' g')
  obtain ⟨a0, a1, a2, a3, a4, a5⟩ := hag c
  let A : ℕ → EMat := model (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))
  have k0 : He (a := 4096) (b := 1024) (φ := .f32) (m ((c.tc : Thread Cert.Kernel4Ideal.nD Cert.Kernel4Ideal.τ).loc Cert.Kernel4Ideal.main_arg0)) (A 0) := mat_at _
  have k1 : He (a := 1) (b := 1024) (φ := .f32) (m ((c.tc : Thread Cert.Kernel4Ideal.nD Cert.Kernel4Ideal.τ).loc Cert.Kernel4Ideal.main_arg1)) (A 1) := mat_at _
  have k2 : He (a := 1024) (b := 13312) (φ := .bf16) (m ((c.tc : Thread Cert.Kernel4Ideal.nD Cert.Kernel4Ideal.τ).loc Cert.Kernel4Ideal.main_arg2)) (A 2) := mat_at _
  have k3 : He (a := 4096) (b := 13312) (φ := .bf16) (m ((c.tc : Thread Cert.Kernel4Ideal.nD Cert.Kernel4Ideal.τ).loc Cert.Kernel4Ideal.main_arg3)) (A 3) := mat_at _
  have k4 : He (a := 4096) (b := 1024) (φ := .f32) (m ((c.tc : Thread Cert.Kernel4Ideal.nD Cert.Kernel4Ideal.τ).loc Cert.Kernel4Ideal.main_arg4)) (A 4) := mat_at _
  have k5 : He (a := 4096) (b := 1024) (φ := .f32) (m ((c.tc : Thread Cert.Kernel4Ideal.nD Cert.Kernel4Ideal.τ).loc Cert.Kernel4Ideal.main_arg5)) (A 5) := mat_at _
  have r0 : He (a := 4096) (b := 1024) (φ := .f32) (m' ((c.tc : Thread Cert.Reference4Ideal.nD Cert.Reference4Ideal.τ).loc Cert.Reference4Ideal.main_arg0)) (A 0) := by rw [a0]; exact k0
  have r1 : He (a := 1) (b := 1024) (φ := .f32) (m' ((c.tc : Thread Cert.Reference4Ideal.nD Cert.Reference4Ideal.τ).loc Cert.Reference4Ideal.main_arg1)) (A 1) := by rw [a1]; exact k1
  have r2 : He (a := 1024) (b := 13312) (φ := .bf16) (m' ((c.tc : Thread Cert.Reference4Ideal.nD Cert.Reference4Ideal.τ).loc Cert.Reference4Ideal.main_arg2)) (A 2) := by rw [a2]; exact k2
  have r3 : He (a := 4096) (b := 13312) (φ := .bf16) (m' ((c.tc : Thread Cert.Reference4Ideal.nD Cert.Reference4Ideal.τ).loc Cert.Reference4Ideal.main_arg3)) (A 3) := by rw [a3]; exact k3
  have r4 : He (a := 4096) (b := 1024) (φ := .f32) (m' ((c.tc : Thread Cert.Reference4Ideal.nD Cert.Reference4Ideal.τ).loc Cert.Reference4Ideal.main_arg4)) (A 4) := by rw [a4]; exact k4
  have r5 : He (a := 4096) (b := 1024) (φ := .f32) (m' ((c.tc : Thread Cert.Reference4Ideal.nD Cert.Reference4Ideal.τ).loc Cert.Reference4Ideal.main_arg5)) (A 5) := by rw [a5]; exact k5
  obtain ⟨e0, e1, e2, e3, e4, k⟩ := h c
  refine ⟨e0.trans ?_, e1.trans ?_, e2.trans ?_, e3.trans ?_, e4.trans ?_, k⟩
  · exact (Cert.Reference4Ideal.Read.val_main_v43_eq (F := Ideal) _ _ _).trans (He.ext (a := 4096) (b := 13312) (φ := .bf16) (Cert.Reference4Ideal.In.r43 r0 r1 r2 r3 r4 r5) (Cert.Kernel4Ideal.Chain.q4_v1 m g c k0 k1 k2 k3 k4 k5))
  · exact (Cert.Reference4Ideal.Read.val_main_v21_eq (F := Ideal) _ _ _).trans (He.ext (a := 1024) (b := 13312) (φ := .f32) (Cert.Reference4Ideal.In.r21 r0 r1 r2 r3 r4 r5) (Cert.Kernel4Ideal.Chain.q4_v2_0 m g c k0 k1 k2 k3 k4 k5))
  · exact (Cert.Reference4Ideal.Read.val_main_v44_eq (F := Ideal) _ _ _).trans (He.ext (a := 1024) (b := 13312) (φ := .bf16) (Cert.Reference4Ideal.In.r44 r0 r1 r2 r3 r4 r5) (Cert.Kernel4Ideal.Chain.q4_v2_1 m g c k0 k1 k2 k3 k4 k5))
  · exact (Cert.Reference4Ideal.Read.val_main_v45_eq (F := Ideal) _ _).trans (He.ext (a := 4096) (b := 1024) (φ := .f32) (Cert.Reference4Ideal.In.r45 r0 r1 r2 r3 r4 r5) (Cert.Kernel4Ideal.Chain.q4_v3_0 m g c k0 k1 k2 k3 k4 k5))
  · exact (Cert.Reference4Ideal.Read.val_main_v42_eq (F := Ideal) _ _).trans (He.ext (a := 1) (b := 1024) (φ := .f32) (Cert.Reference4Ideal.In.r42 r0 r1 r2 r3 r4 r5) (Cert.Kernel4Ideal.Chain.q4_v3_1 m g c k0 k1 k2 k3 k4 k5))

end Cert.Proof.In

end
-- ==== Proof.OptRegions.lean ====
/- What the optimiser's calls leave in their result arrays: at each entry the update of that entry. -/
module

public import proofs.«01_k».proof.Proof.Gen.Kernel5Ideal.Frame
public import Idealize.ShloMosaic.Lib.Pipeline.ReadBack
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Opt

/-- The number that a word of 32 bits is. -/
abbrev lit (b : BitVec 32) : EReal := Ideal.ofBits FTy.f32 b

/-- The new first moment of an entry, from its gradient and its old moment. -/
def mom (g m : EReal) : EReal := lit 0x3F666666#32 * m + lit 0x3DCCCCCD#32 * g
/-- The new second moment of an entry. -/
def sqm (g v : EReal) : EReal := lit 0x3F7FBE77#32 * v + lit 0x3A83126F#32 * (g * g)
/-- The step of an entry: the corrected first moment over the root of the corrected second, with the decay of the weight. -/
def delta (w g m v : EReal) : EReal :=
  lit 0xBA83126F#32 * (Ideal.div (Ideal.div (mom g m) (lit 0x3F26BD02#32)) (Ideal.sqrt (Ideal.div (sqm g v) (lit 0x3C231ACC#32)) + lit 0x322BCC77#32)
    + lit 0x3C23D70A#32 * w)

/-- The four results of one update, at every entry: the step, the two new moments, and the gradient as it came. -/
structure Update {ι : Type} (w g m v d m' v' g' : ι → EReal) : Prop where
  step : d = fun i => delta (w i) (g i) (m i) (v i)
  first : m' = fun i => mom (g i) (m i)
  second : v' = fun i => sqm (g i) (v i)
  same : g' = g

/-- The same update, of equal arrays. -/
theorem Update.congr {ι : Type} {w g m v d m' v' g' w₁ g₁ m₁ v₁ d₁ m₁' v₁' g₁' : ι → EReal} (h : Update w g m v d m' v' g')
    (hw : w = w₁) (hg : g = g₁) (hm : m = m₁) (hv : v = v₁) (hd : d₁ = d) (hm' : m₁' = m') (hv' : v₁' = v') (hg' : g₁' = g') :
    Update w₁ g₁ m₁ v₁ d₁ m₁' v₁' g₁' := by
  subst hw hg hm hv hd hm' hv' hg'
  exact h

/-- Two updates of equal arrays have equal results. -/
theorem Update.unique {ι : Type} {w g m v d m' v' g' w₁ g₁ m₁ v₁ d₁ m₁' v₁' g₁' : ι → EReal} (h : Update w g m v d m' v' g')
    (h₁ : Update w₁ g₁ m₁ v₁ d₁ m₁' v₁' g₁') (hw : w₁ = w) (hg : g₁ = g) (hm : m₁ = m) (hv : v₁ = v) :
    d₁ = d ∧ m₁' = m' ∧ v₁' = v' ∧ g₁' = g' := by
  subst hw hg hm hv
  exact ⟨h₁.step.trans h.step.symm, h₁.first.trans h.first.symm, h₁.second.trans h.second.symm, h₁.same.trans h.same.symm⟩

end Cert.Opt

set_option maxHeartbeats 4000000

namespace Cert.Kernel5Ideal.Opt
open Cert.Kernel5Ideal Cert.Kernel5Ideal.Gen Cert.Opt

variable {V : (c : Dev nD) → (b : Ref sig .tc) → Buf (Elt Ideal) ((c : Thread nD τ).loc b)} {c : Dev nD}

/-- The call on `w_in`. -/
theorem o0 : Update (ι := S1024x3328.Idx) (V c (Pipeline.arrRef spec0 0)) (V c (Pipeline.arrRef spec0 1)) (V c (Pipeline.arrRef spec0 2)) (V c (Pipeline.arrRef spec0 3))
    ((dat0 V c).arrAt 4 cfg0.N) ((dat0 V c).arrAt 5 cfg0.N) ((dat0 V c).arrAt 6 cfg0.N) ((dat0 V c).arrAt 7 cfg0.N) := by
  refine ⟨?_, ?_, ?_, ?_⟩ <;> refine (dat0 V c).arrAt_eq_of_covers _ _ (by decide +kernel) fun t hf y => ?_ <;> blk_simp <;>
    simp only [after0_4, after0_5, after0_6, after0_7] <;> simp only [out0_4, out0_5, out0_6, out0_7] <;> frame_out <;> rfl

/-- The call on the weights of the shape of `w_mem_kv`. -/
theorem o1 : Update (ι := S256x1024.Idx) (V c (Pipeline.arrRef spec1 0)) (V c (Pipeline.arrRef spec1 1)) (V c (Pipeline.arrRef spec1 2)) (V c (Pipeline.arrRef spec1 3))
    ((dat1 V c).arrAt 4 cfg1.N) ((dat1 V c).arrAt 5 cfg1.N) ((dat1 V c).arrAt 6 cfg1.N) ((dat1 V c).arrAt 7 cfg1.N) := by
  refine ⟨?_, ?_, ?_, ?_⟩ <;> refine (dat1 V c).arrAt_eq_of_covers _ _ (by decide +kernel) fun t hf y => ?_ <;> blk_simp <;>
    simp only [after1_4, after1_5, after1_6, after1_7] <;> simp only [out1_4, out1_5, out1_6, out1_7] <;> frame_out <;> rfl

/-- The call on the weights of the shape of `w_proj_da`. -/
theorem o2 : Update (ι := S512x256.Idx) (V c (Pipeline.arrRef spec2 0)) (V c (Pipeline.arrRef spec2 1)) (V c (Pipeline.arrRef spec2 2)) (V c (Pipeline.arrRef spec2 3))
    ((dat2 V c).arrAt 4 cfg2.N) ((dat2 V c).arrAt 5 cfg2.N) ((dat2 V c).arrAt 6 cfg2.N) ((dat2 V c).arrAt 7 cfg2.N) := by
  refine ⟨?_, ?_, ?_, ?_⟩ <;> refine (dat2 V c).arrAt_eq_of_covers _ _ (by decide +kernel) fun t hf y => ?_ <;> blk_simp <;>
    simp only [after2_4, after2_5, after2_6, after2_7] <;> simp only [out2_4, out2_5, out2_6, out2_7] <;> frame_out <;> rfl

/-- The call on `w_ffn_in`. -/
theorem o3 : Update (ι := S1024x1408.Idx) (V c (Pipeline.arrRef spec3 0)) (V c (Pipeline.arrRef spec3 1)) (V c (Pipeline.arrRef spec3 2)) (V c (Pipeline.arrRef spec3 3))
    ((dat3 V c).arrAt 4 cfg3.N) ((dat3 V c).arrAt 5 cfg3.N) ((dat3 V c).arrAt 6 cfg3.N) ((dat3 V c).arrAt 7 cfg3.N) := by
  refine ⟨?_, ?_, ?_, ?_⟩ <;> refine (dat3 V c).arrAt_eq_of_covers _ _ (by decide +kernel) fun t hf y => ?_ <;> blk_simp <;>
    simp only [after3_4, after3_5, after3_6, after3_7] <;> simp only [out3_4, out3_5, out3_6, out3_7] <;> frame_out <;> rfl

/-- The call on `w_ffn_out`. -/
theorem o4 : Update (ι := S704x1024.Idx) (V c (Pipeline.arrRef spec4 0)) (V c (Pipeline.arrRef spec4 1)) (V c (Pipeline.arrRef spec4 2)) (V c (Pipeline.arrRef spec4 3))
    ((dat4 V c).arrAt 4 cfg4.N) ((dat4 V c).arrAt 5 cfg4.N) ((dat4 V c).arrAt 6 cfg4.N) ((dat4 V c).arrAt 7 cfg4.N) := by
  refine ⟨?_, ?_, ?_, ?_⟩ <;> refine (dat4 V c).arrAt_eq_of_covers _ _ (by decide +kernel) fun t hf y => ?_ <;> blk_simp <;>
    simp only [after4_4, after4_5, after4_6, after4_7] <;> simp only [out4_4, out4_5, out4_6, out4_7] <;> frame_out <;> rfl

/-- The call on the packed small parameters. -/
theorem o5 : Update (ι := S8x1024.Idx) (V c (Pipeline.arrRef spec5 0)) (V c (Pipeline.arrRef spec5 1)) (V c (Pipeline.arrRef spec5 2)) (V c (Pipeline.arrRef spec5 3))
    ((dat5 V c).arrAt 4 cfg5.N) ((dat5 V c).arrAt 5 cfg5.N) ((dat5 V c).arrAt 6 cfg5.N) ((dat5 V c).arrAt 7 cfg5.N) := by
  refine ⟨?_, ?_, ?_, ?_⟩ <;> refine (dat5 V c).arrAt_eq_of_covers _ _ (by decide +kernel) fun t hf y => ?_ <;> blk_simp <;>
    simp only [after5_4, after5_5, after5_6, after5_7] <;> simp only [out5_4, out5_5, out5_6, out5_7] <;> frame_out <;> rfl

end Cert.Kernel5Ideal.Opt

end
-- ==== Proof.OptRun.lean ====
/- The run of the optimiser's calls, every result read at the end of the run.

   The launch follows the generated frame certificate; the conclusion adds the results to the arguments. -/
module

public import proofs.«01_k».proof.Proof.Gen.Kernel5Ideal.Frame

@[expose] public section

set_option maxRecDepth 16384

noncomputable section

namespace Cert.Kernel5Ideal.Run

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] (m : (ℓ : Loc nD τ sig) → Buf (Elt F) ℓ) (ρ : Dev nD → PrngReg)

set_option backward.isDefEq.respectTransparency.types false in
/-- Every execution ends with each result at the contents of the last boundary and each argument as launched. -/
theorem run_results : θ_run defs (onTc (τ := τ) (main (F := F))) ⟨m, fun _ => 0, ρ⟩ (fun r => ∀ c : Dev nD,
      r.2.mem ((c.tc : Thread nD τ).loc main_v0_0) = W6 m ρ c (Proc.devRef .tc main_v0_0)
      ∧ r.2.mem ((c.tc : Thread nD τ).loc main_v0_1) = W6 m ρ c (Proc.devRef .tc main_v0_1)
      ∧ r.2.mem ((c.tc : Thread nD τ).loc main_v0_2) = W6 m ρ c (Proc.devRef .tc main_v0_2)
      ∧ r.2.mem ((c.tc : Thread nD τ).loc main_v0_3) = W6 m ρ c (Proc.devRef .tc main_v0_3)
      ∧ r.2.mem ((c.tc : Thread nD τ).loc main_v1_0) = W6 m ρ c (Proc.devRef .tc main_v1_0)
      ∧ r.2.mem ((c.tc : Thread nD τ).loc main_v1_1) = W6 m ρ c (Proc.devRef .tc main_v1_1)
      ∧ r.2.mem ((c.tc : Thread nD τ).loc main_v1_2) = W6 m ρ c (Proc.devRef .tc main_v1_2)
      ∧ r.2.mem ((c.tc : Thread nD τ).loc main_v1_3) = W6 m ρ c (Proc.devRef .tc main_v1_3)
      ∧ r.2.mem ((c.tc : Thread nD τ).loc main_v2_0) = W6 m ρ c (Proc.devRef .tc main_v2_0)
      ∧ r.2.mem ((c.tc : Thread nD τ).loc main_v2_1) = W6 m ρ c (Proc.devRef .tc main_v2_1)
      ∧ r.2.mem ((c.tc : Thread nD τ).loc main_v2_2) = W6 m ρ c (Proc.devRef .tc main_v2_2)
      ∧ r.2.mem ((c.tc : Thread nD τ).loc main_v2_3) = W6 m ρ c (Proc.devRef .tc main_v2_3)
      ∧ r.2.mem ((c.tc : Thread nD τ).loc main_v3_0) = W6 m ρ c (Proc.devRef .tc main_v3_0)
      ∧ r.2.mem ((c.tc : Thread nD τ).loc main_v3_1) = W6 m ρ c (Proc.devRef .tc main_v3_1)
      ∧ r.2.mem ((c.tc : Thread nD τ).loc main_v3_2) = W6 m ρ c (Proc.devRef .tc main_v3_2)
      ∧ r.2.mem ((c.tc : Thread nD τ).loc main_v3_3) = W6 m ρ c (Proc.devRef .tc main_v3_3)
      ∧ r.2.mem ((c.tc : Thread nD τ).loc main_v4_0) = W6 m ρ c (Proc.devRef .tc main_v4_0)
      ∧ r.2.mem ((c.tc : Thread nD τ).loc main_v4_1) = W6 m ρ c (Proc.devRef .tc main_v4_1)
      ∧ r.2.mem ((c.tc : Thread nD τ).loc main_v4_2) = W6 m ρ c (Proc.devRef .tc main_v4_2)
      ∧ r.2.mem ((c.tc : Thread nD τ).loc main_v4_3) = W6 m ρ c (Proc.devRef .tc main_v4_3)
      ∧ r.2.mem ((c.tc : Thread nD τ).loc main_v5_0) = W6 m ρ c (Proc.devRef .tc main_v5_0)
      ∧ r.2.mem ((c.tc : Thread nD τ).loc main_v5_1) = W6 m ρ c (Proc.devRef .tc main_v5_1)
      ∧ r.2.mem ((c.tc : Thread nD τ).loc main_v5_2) = W6 m ρ c (Proc.devRef .tc main_v5_2)
      ∧ r.2.mem ((c.tc : Thread nD τ).loc main_v5_3) = W6 m ρ c (Proc.devRef .tc main_v5_3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => fun c =>
      ⟨h c _ (mem_uc main_v0_0 (by decide)),
       h c _ (mem_uc main_v0_1 (by decide)),
       h c _ (mem_uc main_v0_2 (by decide)),
       h c _ (mem_uc main_v0_3 (by decide)),
       h c _ (mem_uc main_v1_0 (by decide)),
       h c _ (mem_uc main_v1_1 (by decide)),
       h c _ (mem_uc main_v1_2 (by decide)),
       h c _ (mem_uc main_v1_3 (by decide)),
       h c _ (mem_uc main_v2_0 (by decide)),
       h c _ (mem_uc main_v2_1 (by decide)),
       h c _ (mem_uc main_v2_2 (by decide)),
       h c _ (mem_uc main_v2_3 (by decide)),
       h c _ (mem_uc main_v3_0 (by decide)),
       h c _ (mem_uc main_v3_1 (by decide)),
       h c _ (mem_uc main_v3_2 (by decide)),
       h c _ (mem_uc main_v3_3 (by decide)),
       h c _ (mem_uc main_v4_0 (by decide)),
       h c _ (mem_uc main_v4_1 (by decide)),
       h c _ (mem_uc main_v4_2 (by decide)),
       h c _ (mem_uc main_v4_3 (by decide)),
       h c _ (mem_uc main_v5_0 (by decide)),
       h c _ (mem_uc main_v5_1 (by decide)),
       h c _ (mem_uc main_v5_2 (by decide)),
       h c _ (mem_uc main_v5_3 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c),
       (h c _ (mem_uc main_arg18 (by decide))).trans (W6_main_arg18 m ρ c),
       (h c _ (mem_uc main_arg19 (by decide))).trans (W6_main_arg19 m ρ c),
       (h c _ (mem_uc main_arg20 (by decide))).trans (W6_main_arg20 m ρ c),
       (h c _ (mem_uc main_arg21 (by decide))).trans (W6_main_arg21 m ρ c),
       (h c _ (mem_uc main_arg22 (by decide))).trans (W6_main_arg22 m ρ c),
       (h c _ (mem_uc main_arg23 (by decide))).trans (W6_main_arg23 m ρ c)⟩)

end Cert.Kernel5Ideal.Run

end
-- ==== Proof.OptClaim.lean ====
module

public import proofs.«01_k».proof.Defs
public import proofs.«01_k».proof.Proof.OptRegions
public import proofs.«01_k».proof.Proof.OptRun
public import proofs.«01_k».proof.Proof.Gen.Reference5Ideal.Read

@[expose] public section

set_option maxRecDepth 16384

noncomputable section

open Idealize.ShloMosaic Idealize.ShloMosaic.TcCoe Idealize.SL.Sem

set_option maxHeartbeats 4000000

namespace Cert.Kernel5Ideal.Opt
open Cert.Kernel5Ideal Cert.Kernel5Ideal.Gen Cert.Opt

variable (m : (ℓ : Loc nD τ sig) → Buf (Elt Ideal) ℓ) (ρ : Dev nD → PrngReg) (c : Dev nD)

/-- The end of the run at the results of the call on `w_in`. -/
theorem w0 : Update (ι := S1024x3328.Idx) (m ((c : Thread nD τ).loc main_arg0)) (m ((c : Thread nD τ).loc main_arg1)) (m ((c : Thread nD τ).loc main_arg2)) (m ((c : Thread nD τ).loc main_arg3))
    (W6 m ρ c (Proc.devRef .tc main_v0_0)) (W6 m ρ c (Proc.devRef .tc main_v0_1)) (W6 m ρ c (Proc.devRef .tc main_v0_2)) (W6 m ρ c (Proc.devRef .tc main_v0_3)) := by
  refine (o0 (V := V0 m ρ) (c := c)).congr (W0_args m ρ c main_arg0 (by decide)) (W0_args m ρ c main_arg1 (by decide)) (W0_args m ρ c main_arg2 (by decide)) (W0_args m ρ c main_arg3 (by decide)) ?_ ?_ ?_ ?_
  all_goals refine (W6_of m ρ c _ (by decide +kernel)).trans ?_
  all_goals refine (W5_of m ρ c _ (by decide +kernel)).trans ?_
  all_goals refine (W4_of m ρ c _ (by decide +kernel)).trans ?_
  all_goals refine (W3_of m ρ c _ (by decide +kernel)).trans ?_
  all_goals refine (W2_of m ρ c _ (by decide +kernel)).trans ?_
  exacts [W1_arr m ρ c 4, W1_arr m ρ c 5, W1_arr m ρ c 6, W1_arr m ρ c 7]

/-- The end of the run at the results of the call on the weights of the shape of `w_mem_kv`. -/
theorem w1 : Update (ι := S256x1024.Idx) (m ((c : Thread nD τ).loc main_arg4)) (m ((c : Thread nD τ).loc main_arg5)) (m ((c : Thread nD τ).loc main_arg6)) (m ((c : Thread nD τ).loc main_arg7))
    (W6 m ρ c (Proc.devRef .tc main_v1_0)) (W6 m ρ c (Proc.devRef .tc main_v1_1)) (W6 m ρ c (Proc.devRef .tc main_v1_2)) (W6 m ρ c (Proc.devRef .tc main_v1_3)) := by
  refine (o1 (V := V1 m ρ) (c := c)).congr (W1_args m ρ c main_arg4 (by decide)) (W1_args m ρ c main_arg5 (by decide)) (W1_args m ρ c main_arg6 (by decide)) (W1_args m ρ c main_arg7 (by decide)) ?_ ?_ ?_ ?_
  all_goals refine (W6_of m ρ c _ (by decide +kernel)).trans ?_
  all_goals refine (W5_of m ρ c _ (by decide +kernel)).trans ?_
  all_goals refine (W4_of m ρ c _ (by decide +kernel)).trans ?_
  all_goals refine (W3_of m ρ c _ (by decide +kernel)).trans ?_
  exacts [W2_arr m ρ c 4, W2_arr m ρ c 5, W2_arr m ρ c 6, W2_arr m ρ c 7]

/-- The end of the run at the results of the call on the weights of the shape of `w_proj_da`. -/
theorem w2 : Update (ι := S512x256.Idx) (m ((c : Thread nD τ).loc main_arg8)) (m ((c : Thread nD τ).loc main_arg9)) (m ((c : Thread nD τ).loc main_arg10)) (m ((c : Thread nD τ).loc main_arg11))
    (W6 m ρ c (Proc.devRef .tc main_v2_0)) (W6 m ρ c (Proc.devRef .tc main_v2_1)) (W6 m ρ c (Proc.devRef .tc main_v2_2)) (W6 m ρ c (Proc.devRef .tc main_v2_3)) := by
  refine (o2 (V := V2 m ρ) (c := c)).congr (W2_args m ρ c main_arg8 (by decide)) (W2_args m ρ c main_arg9 (by decide)) (W2_args m ρ c main_arg10 (by decide)) (W2_args m ρ c main_arg11 (by decide)) ?_ ?_ ?_ ?_
  all_goals refine (W6_of m ρ c _ (by decide +kernel)).trans ?_
  all_goals refine (W5_of m ρ c _ (by decide +kernel)).trans ?_
  all_goals refine (W4_of m ρ c _ (by decide +kernel)).trans ?_
  exacts [W3_arr m ρ c 4, W3_arr m ρ c 5, W3_arr m ρ c 6, W3_arr m ρ c 7]

/-- The end of the run at the results of the call on `w_ffn_in`. -/
theorem w3 : Update (ι := S1024x1408.Idx) (m ((c : Thread nD τ).loc main_arg12)) (m ((c : Thread nD τ).loc main_arg13)) (m ((c : Thread nD τ).loc main_arg14)) (m ((c : Thread nD τ).loc main_arg15))
    (W6 m ρ c (Proc.devRef .tc main_v3_0)) (W6 m ρ c (Proc.devRef .tc main_v3_1)) (W6 m ρ c (Proc.devRef .tc main_v3_2)) (W6 m ρ c (Proc.devRef .tc main_v3_3)) := by
  refine (o3 (V := V3 m ρ) (c := c)).congr (W3_args m ρ c main_arg12 (by decide)) (W3_args m ρ c main_arg13 (by decide)) (W3_args m ρ c main_arg14 (by decide)) (W3_args m ρ c main_arg15 (by decide)) ?_ ?_ ?_ ?_
  all_goals refine (W6_of m ρ c _ (by decide +kernel)).trans ?_
  all_goals refine (W5_of m ρ c _ (by decide +kernel)).trans ?_
  exacts [W4_arr m ρ c 4, W4_arr m ρ c 5, W4_arr m ρ c 6, W4_arr m ρ c 7]

/-- The end of the run at the results of the call on `w_ffn_out`. -/
theorem w4 : Update (ι := S704x1024.Idx) (m ((c : Thread nD τ).loc main_arg16)) (m ((c : Thread nD τ).loc main_arg17)) (m ((c : Thread nD τ).loc main_arg18)) (m ((c : Thread nD τ).loc main_arg19))
    (W6 m ρ c (Proc.devRef .tc main_v4_0)) (W6 m ρ c (Proc.devRef .tc main_v4_1)) (W6 m ρ c (Proc.devRef .tc main_v4_2)) (W6 m ρ c (Proc.devRef .tc main_v4_3)) := by
  refine (o4 (V := V4 m ρ) (c := c)).congr (W4_args m ρ c main_arg16 (by decide)) (W4_args m ρ c main_arg17 (by decide)) (W4_args m ρ c main_arg18 (by decide)) (W4_args m ρ c main_arg19 (by decide)) ?_ ?_ ?_ ?_
  all_goals refine (W6_of m ρ c _ (by decide +kernel)).trans ?_
  exacts [W5_arr m ρ c 4, W5_arr m ρ c 5, W5_arr m ρ c 6, W5_arr m ρ c 7]

/-- The end of the run at the results of the call on the packed small parameters. -/
theorem w5 : Update (ι := S8x1024.Idx) (m ((c : Thread nD τ).loc main_arg20)) (m ((c : Thread nD τ).loc main_arg21)) (m ((c : Thread nD τ).loc main_arg22)) (m ((c : Thread nD τ).loc main_arg23))
    (W6 m ρ c (Proc.devRef .tc main_v5_0)) (W6 m ρ c (Proc.devRef .tc main_v5_1)) (W6 m ρ c (Proc.devRef .tc main_v5_2)) (W6 m ρ c (Proc.devRef .tc main_v5_3)) := by
  refine (o5 (V := V5 m ρ) (c := c)).congr (W5_args m ρ c main_arg20 (by decide)) (W5_args m ρ c main_arg21 (by decide)) (W5_args m ρ c main_arg22 (by decide)) (W5_args m ρ c main_arg23 (by decide)) ?_ ?_ ?_ ?_
  exacts [W6_arr m ρ c 4, W6_arr m ρ c 5, W6_arr m ρ c 6, W6_arr m ρ c 7]

end Cert.Kernel5Ideal.Opt

namespace Cert.Reference5Ideal.Opt
open Cert.Reference5Ideal Cert.Reference5Ideal.Gen Cert.Reference5Ideal.Read Cert.Opt

/-- The reference's update of `w_in`. -/
theorem r0 (w g m v : FVec Ideal S1024x3328 .f32) :
    Update (ι := S1024x3328.Idx) w g m v (val_main_v23 (F := Ideal) w g m v) (val_main_v4 (F := Ideal) g m) (val_main_v10 (F := Ideal) g v) g :=
  ⟨rfl, rfl, rfl, rfl⟩
/-- The reference's update of the weights of the shape of `w_mem_kv`. -/
theorem r1 (w g m v : FVec Ideal S256x1024 .f32) :
    Update (ι := S256x1024.Idx) w g m v (val_main_v47 (F := Ideal) w g m v) (val_main_v28 (F := Ideal) g m) (val_main_v34 (F := Ideal) g v) g :=
  ⟨rfl, rfl, rfl, rfl⟩
/-- The reference's update of the weights of the shape of `w_proj_da`. -/
theorem r2 (w g m v : FVec Ideal S512x256 .f32) :
    Update (ι := S512x256.Idx) w g m v (val_main_v71 (F := Ideal) w g m v) (val_main_v52 (F := Ideal) g m) (val_main_v58 (F := Ideal) g v) g :=
  ⟨rfl, rfl, rfl, rfl⟩
/-- The reference's update of `w_ffn_in`. -/
theorem r3 (w g m v : FVec Ideal S1024x1408 .f32) :
    Update (ι := S1024x1408.Idx) w g m v (val_main_v95 (F := Ideal) w g m v) (val_main_v76 (F := Ideal) g m) (val_main_v82 (F := Ideal) g v) g :=
  ⟨rfl, rfl, rfl, rfl⟩
/-- The reference's update of `w_ffn_out`. -/
theorem r4 (w g m v : FVec Ideal S704x1024 .f32) :
    Update (ι := S704x1024.Idx) w g m v (val_main_v119 (F := Ideal) w g m v) (val_main_v100 (F := Ideal) g m) (val_main_v106 (F := Ideal) g v) g :=
  ⟨rfl, rfl, rfl, rfl⟩
/-- The reference's update of the packed small parameters. -/
theorem r5 (w g m v : FVec Ideal S8x1024 .f32) :
    Update (ι := S8x1024.Idx) w g m v (val_main_v143 (F := Ideal) w g m v) (val_main_v124 (F := Ideal) g m) (val_main_v130 (F := Ideal) g v) g :=
  ⟨rfl, rfl, rfl, rfl⟩

end Cert.Reference5Ideal.Opt

namespace Cert.Proof.Opt

theorem algebraic : Cert.algebraic_Kernel5Ideal_Reference5Ideal := by
  intro m g m' g' hpre hag
  refine ⟨_, _, _, _, _, _, _, _, _, _, _, _, _, _, _, _, _, _, _, _, _, _, _, _, Cert.Kernel5Ideal.Run.run_results m g, ?_⟩
  refine (θ_run _ _ _).mono (fun r h c => ?_) (Cert.Reference5Ideal.Value.run m' g')
  obtain ⟨a0, a1, a2, a3, a4, a5, a6, a7, a8, a9, a10, a11, a12, a13, a14, a15, a16, a17, a18, a19, a20, a21, a22, a23⟩ := hag c
  obtain ⟨e0_0, e0_1, e0_2, e0_3, e1_0, e1_1, e1_2, e1_3, e2_0, e2_1, e2_2, e2_3, e3_0, e3_1, e3_2, e3_3, e4_0, e4_1, e4_2, e4_3, e5_0, e5_1, e5_2, e5_3, k⟩ := h c
  have u0 := (Cert.Kernel5Ideal.Opt.w0 m g c).unique (Cert.Reference5Ideal.Opt.r0 (m' (c.tc.loc Cert.Reference5Ideal.main_arg0)) (m' (c.tc.loc Cert.Reference5Ideal.main_arg1)) (m' (c.tc.loc Cert.Reference5Ideal.main_arg2)) (m' (c.tc.loc Cert.Reference5Ideal.main_arg3))) a0 a1 a2 a3
  have u1 := (Cert.Kernel5Ideal.Opt.w1 m g c).unique (Cert.Reference5Ideal.Opt.r1 (m' (c.tc.loc Cert.Reference5Ideal.main_arg4)) (m' (c.tc.loc Cert.Reference5Ideal.main_arg5)) (m' (c.tc.loc Cert.Reference5Ideal.main_arg6)) (m' (c.tc.loc Cert.Reference5Ideal.main_arg7))) a4 a5 a6 a7
  have u2 := (Cert.Kernel5Ideal.Opt.w2 m g c).unique (Cert.Reference5Ideal.Opt.r2 (m' (c.tc.loc Cert.Reference5Ideal.main_arg8)) (m' (c.tc.loc Cert.Reference5Ideal.main_arg9)) (m' (c.tc.loc Cert.Reference5Ideal.main_arg10)) (m' (c.tc.loc Cert.Reference5Ideal.main_arg11))) a8 a9 a10 a11
  have u3 := (Cert.Kernel5Ideal.Opt.w3 m g c).unique (Cert.Reference5Ideal.Opt.r3 (m' (c.tc.loc Cert.Reference5Ideal.main_arg12)) (m' (c.tc.loc Cert.Reference5Ideal.main_arg13)) (m' (c.tc.loc Cert.Reference5Ideal.main_arg14)) (m' (c.tc.loc Cert.Reference5Ideal.main_arg15))) a12 a13 a14 a15
  have u4 := (Cert.Kernel5Ideal.Opt.w4 m g c).unique (Cert.Reference5Ideal.Opt.r4 (m' (c.tc.loc Cert.Reference5Ideal.main_arg16)) (m' (c.tc.loc Cert.Reference5Ideal.main_arg17)) (m' (c.tc.loc Cert.Reference5Ideal.main_arg18)) (m' (c.tc.loc Cert.Reference5Ideal.main_arg19))) a16 a17 a18 a19
  have u5 := (Cert.Kernel5Ideal.Opt.w5 m g c).unique (Cert.Reference5Ideal.Opt.r5 (m' (c.tc.loc Cert.Reference5Ideal.main_arg20)) (m' (c.tc.loc Cert.Reference5Ideal.main_arg21)) (m' (c.tc.loc Cert.Reference5Ideal.main_arg22)) (m' (c.tc.loc Cert.Reference5Ideal.main_arg23))) a20 a21 a22 a23
  exact ⟨e0_0.trans ((Cert.Reference5Ideal.Read.val_main_v23_eq (F := Ideal) _).trans u0.1),
    e0_1.trans ((Cert.Reference5Ideal.Read.val_main_v4_eq (F := Ideal) _).trans u0.2.1),
    e0_2.trans ((Cert.Reference5Ideal.Read.val_main_v10_eq (F := Ideal) _).trans u0.2.2.1),
    e0_3.trans u0.2.2.2,
    e1_0.trans ((Cert.Reference5Ideal.Read.val_main_v47_eq (F := Ideal) _).trans u1.1),
    e1_1.trans ((Cert.Reference5Ideal.Read.val_main_v28_eq (F := Ideal) _).trans u1.2.1),
    e1_2.trans ((Cert.Reference5Ideal.Read.val_main_v34_eq (F := Ideal) _).trans u1.2.2.1),
    e1_3.trans u1.2.2.2,
    e2_0.trans ((Cert.Reference5Ideal.Read.val_main_v71_eq (F := Ideal) _).trans u2.1),
    e2_1.trans ((Cert.Reference5Ideal.Read.val_main_v52_eq (F := Ideal) _).trans u2.2.1),
    e2_2.trans ((Cert.Reference5Ideal.Read.val_main_v58_eq (F := Ideal) _).trans u2.2.2.1),
    e2_3.trans u2.2.2.2,
    e3_0.trans ((Cert.Reference5Ideal.Read.val_main_v95_eq (F := Ideal) _).trans u3.1),
    e3_1.trans ((Cert.Reference5Ideal.Read.val_main_v76_eq (F := Ideal) _).trans u3.2.1),
    e3_2.trans ((Cert.Reference5Ideal.Read.val_main_v82_eq (F := Ideal) _).trans u3.2.2.1),
    e3_3.trans u3.2.2.2,
    e4_0.trans ((Cert.Reference5Ideal.Read.val_main_v119_eq (F := Ideal) _).trans u4.1),
    e4_1.trans ((Cert.Reference5Ideal.Read.val_main_v100_eq (F := Ideal) _).trans u4.2.1),
    e4_2.trans ((Cert.Reference5Ideal.Read.val_main_v106_eq (F := Ideal) _).trans u4.2.2.1),
    e4_3.trans u4.2.2.2,
    e5_0.trans ((Cert.Reference5Ideal.Read.val_main_v143_eq (F := Ideal) _).trans u5.1),
    e5_1.trans ((Cert.Reference5Ideal.Read.val_main_v124_eq (F := Ideal) _).trans u5.2.1),
    e5_2.trans ((Cert.Reference5Ideal.Read.val_main_v130_eq (F := Ideal) _).trans u5.2.2.1),
    e5_3.trans u5.2.2.2, k⟩

end Cert.Proof.Opt

end
-- ==== Proof.GlaMath.lean ====
/- The gated recurrence of one head as matrices of extended reals: chunks of 64 rows, the running sums of the gates' logarithms
   inside a chunk, the state before each chunk, and the rows a chunk puts out. -/
module

public import proofs.«01_k».proof.Proof.InMath

@[expose] public section

noncomputable section

open Idealize.ShloMosaic

namespace Cert.Gla
open Cert.Lift Cert.In

/-- The forget gate: row 0 of `L` is its lower bound. -/
def fg (F L : EMat) : EMat := fun r c => L 0 c + (1 - L 0 c) * Ideal.logistic (F r c)
/-- The keys. -/
def ky (F L : EMat) : EMat := fun r c => 1 - fg F L r c
def lf (F L : EMat) : EMat := fun r c => Ideal.log (fg F L r c)
/-- The sum over the rows of the chunk up to this one. -/
def cum (X : EMat) : EMat := fun r c => ∑ u ∈ Finset.range (r % 64 + 1), X (r / 64 * 64 + u) c
/-- The sum over the last `w` rows of the chunk up to this one. -/
def win (w : ℕ) (X : EMat) : EMat := fun r c => ∑ u ∈ Finset.range (min w (r % 64 + 1)), X (r - u) c

theorem win_one (X : EMat) : win 1 X = X := by
  funext r c
  unfold win
  rw [min_eq_left (by omega)]
  simp

theorem win_full (X : EMat) : win 64 X = cum X := by
  funext r c
  unfold win cum
  rw [min_eq_right (by omega), ← Finset.sum_range_reflect]
  refine Finset.sum_congr rfl fun u hu => ?_
  have := Finset.mem_range.mp hu
  congr 1
  omega

/-- Twice the window: the window, and the one before it if the chunk reaches so far back. -/
theorem win_double (w : ℕ) (X : EMat) (r c : ℕ) : win (w + w) X r c = win w X r c + if w ≤ r % 64 then win w X (r - w) c else 0 := by
  unfold win
  split
  · next h =>
    have e1 : min (w + w) (r % 64 + 1) = w + min w ((r - w) % 64 + 1) := by
      have e0 : (r - w) % 64 = r % 64 - w := by omega
      rw [e0]
      have : ∀ a : ℕ, w ≤ a → min (w + w) (a + 1) = w + min w (a - w + 1) := fun a _ => by
        rcases Nat.le_total w (a - w + 1) with h1 | h1
        · rw [min_eq_left h1, min_eq_left (by omega)]
        · rw [min_eq_right h1, min_eq_right (by omega)]; omega
      exact this _ h
    rw [e1, Finset.sum_range_add, min_eq_left (show w ≤ r % 64 + 1 by omega)]
    refine congrArg₂ (· + ·) rfl (Finset.sum_congr rfl fun u _ => ?_)
    rw [show r - (w + u) = r - w - u by omega]
  · next h =>
    rw [add_zero, min_eq_right (show r % 64 + 1 ≤ w + w by omega), min_eq_right (show r % 64 + 1 ≤ w by omega)]

/-- The queries times their decay since the chunk's start, and the keys over theirs. -/
def qd (Q F L : EMat) : EMat := fun r c => Q r c * Ideal.logistic (Q r c) * ((sc : ℝ) : EReal) * Ideal.exp (cum (lf F L) r c)
def kd (F L : EMat) : EMat := fun r c => ky F L r c * Ideal.exp (0 - cum (lf F L) r c)
/-- The decay of chunk `n` as a whole. -/
def dc (F L : EMat) (n c : ℕ) : EReal := Ideal.exp (cum (lf F L) (n * 64 + 63) c)
/-- What the rows of the same chunk contribute to row `r`. -/
def intra (Q F V L : EMat) : EMat := fun r j =>
  ∑ s : Fin 64, (if s.val ≤ r % 64 then ∑ i : Fin 128, qd Q F L r i * kd F L (r / 64 * 64 + s) i else 0) * V (r / 64 * 64 + s) j
/-- What chunk `n` adds to the state, value coordinate first. -/
def kv (F V L : EMat) (n : ℕ) : EMat := fun j i =>
  ∑ s : Fin 64, V (n * 64 + s) j * (ky F L (n * 64 + s) i * Ideal.exp (cum (lf F L) (n * 64 + 63) i - cum (lf F L) (n * 64 + s) i))
/-- The state after chunk `n`, from the state before it. -/
def nxt (F V L : EMat) (n : ℕ) (S : EMat) : EMat := fun j i => dc F L n i * S j i + kv F V L n j i
/-- The rows put out, from the state before the chunk. -/
def out (Q F V L S : EMat) : EMat := fun r j => intra Q F V L r j + ∑ i : Fin 128, qd Q F L r i * S j i
/-- The state before chunk `n`. -/
def st (F V L : EMat) : ℕ → EMat
  | 0 => fun _ _ => 0
  | n + 1 => nxt F V L n (st F V L n)

/-- The state before chunk `n`, from the state `S` before the first. -/
def stf (F V L S : EMat) : ℕ → EMat
  | 0 => S
  | n + 1 => nxt F V L n (stf F V L S n)

/-- The columns from `o` on. -/
def cols (o : ℕ) (X : EMat) : EMat := fun r c => X r (o + c)
/-- The rows from block `t` of 256 on. -/
def blk (t : ℕ) (X : EMat) : EMat := fun r c => X (t * 256 + r) c

section
variable (t : ℕ) (Q F V L : EMat) (r c n : ℕ)
theorem cum_blk (X : EMat) : cum (blk t X) r c = cum X (t * 256 + r) c := by
  unfold cum blk
  have e : (t * 256 + r) % 64 = r % 64 := by omega
  rw [e]
  refine Finset.sum_congr rfl fun u _ => ?_
  congr 1
  omega
theorem lf_blk : lf (blk t F) L = blk t (lf F L) := rfl
theorem qd_blk : qd (blk t Q) (blk t F) L r c = qd Q F L (t * 256 + r) c := by
  unfold qd; rw [lf_blk, cum_blk]; rfl
theorem kd_blk : kd (blk t F) L r c = kd F L (t * 256 + r) c := by
  unfold kd; rw [lf_blk, cum_blk]; rfl
theorem dc_blk : dc (blk t F) L n c = dc F L (t * 4 + n) c := by
  unfold dc; rw [lf_blk, cum_blk, show t * 256 + (n * 64 + 63) = (t * 4 + n) * 64 + 63 by omega]
theorem kv_blk : kv (blk t F) (blk t V) L n r c = kv F V L (t * 4 + n) r c := by
  unfold kv
  refine Finset.sum_congr rfl fun s _ => ?_
  rw [lf_blk, cum_blk, cum_blk, show t * 256 + (n * 64 + 63) = (t * 4 + n) * 64 + 63 by omega,
    show t * 256 + (n * 64 + s) = (t * 4 + n) * 64 + s by omega,
    show ky (blk t F) L (n * 64 + s) c = ky F L (t * 256 + (n * 64 + s)) c from rfl,
    show blk t V (n * 64 + s) r = V (t * 256 + (n * 64 + s)) r from rfl,
    show t * 256 + (n * 64 + s) = (t * 4 + n) * 64 + s by omega]
theorem nxt_blk (S : EMat) : nxt (blk t F) (blk t V) L n S = nxt F V L (t * 4 + n) S := by
  funext j i
  unfold nxt
  rw [dc_blk, kv_blk]
theorem intra_blk : intra (blk t Q) (blk t F) (blk t V) L r c = intra Q F V L (t * 256 + r) c := by
  unfold intra
  have e : (t * 256 + r) % 64 = r % 64 := by omega
  rw [e]
  refine Finset.sum_congr rfl fun s _ => ?_
  have e2 : t * 256 + (r / 64 * 64 + s) = (t * 256 + r) / 64 * 64 + s := by omega
  simp only [qd_blk, kd_blk, e2, show blk t V (r / 64 * 64 + s) c = V (t * 256 + (r / 64 * 64 + s)) c from rfl]
theorem out_blk (S : EMat) : out (blk t Q) (blk t F) (blk t V) L S r c = out Q F V L S (t * 256 + r) c := by
  unfold out
  simp only [intra_blk, qd_blk]
end

/-- The states inside block `t`, of four chunks, are those of the sequence. -/
theorem stf_blk (t : ℕ) (F V L : EMat) : ∀ n : ℕ, stf (blk t F) (blk t V) L (st F V L (t * 4)) n = st F V L (t * 4 + n)
  | 0 => rfl
  | n + 1 => by
    show nxt (blk t F) (blk t V) L n (stf (blk t F) (blk t V) L (st F V L (t * 4)) n) = nxt F V L (t * 4 + n) (st F V L (t * 4 + n))
    rw [stf_blk t F V L n, nxt_blk]

/-- Row `r`, column `j` of the eight heads' rows put out, head `h` from the state `S h`. -/
def row (Q F V L : EMat) (S : ℕ → EMat) : EMat := fun r j =>
  out (cols (128 * (j / 128)) Q) (cols (128 * (j / 128)) F) (cols (128 * (j / 128)) V) (cols (128 * (j / 128)) L)
    (stf (cols (128 * (j / 128)) F) (cols (128 * (j / 128)) V) (cols (128 * (j / 128)) L) (S (j / 128)) (r / 64)) r (j % 128)
theorem row_at (Q F V L : EMat) (S : ℕ → EMat) (r h c : ℕ) (hc : c < 128) : row Q F V L S r (128 * h + c)
    = out (cols (128 * h) Q) (cols (128 * h) F) (cols (128 * h) V) (cols (128 * h) L)
      (stf (cols (128 * h) F) (cols (128 * h) V) (cols (128 * h) L) (S h) (r / 64)) r c := by
  unfold row
  rw [show (128 * h + c) / 128 = h by omega, show (128 * h + c) % 128 = c by omega]

/-- A sum over 256 rows of which only those of the chunk of `r` count. -/
theorem sum_chunk (r : ℕ) (hr : r < 256) (f : ℕ → EReal) :
    ∑ s : Fin 256, (if s.val / 64 = r / 64 then f s else 0) = ∑ s : Fin 64, f (r / 64 * 64 + s) := by
  rw [← Fin.sum_univ_univ_mul_add 4 64 (fun s => if s / 64 = r / 64 then f s else 0)]
  rw [Finset.sum_eq_single (⟨r / 64, by omega⟩ : Fin 4)]
  · refine Finset.sum_congr rfl fun s _ => ?_
    rw [if_pos]
    show (r / 64 * 64 + s.val) / 64 = r / 64
    omega
  · intro b _ hb
    refine Finset.sum_eq_zero fun s _ => if_neg fun h => hb (Fin.ext ?_)
    show b.val = r / 64
    omega
  · intro h; exact absurd (Finset.mem_univ _) h

end Cert.Gla

end
-- ==== Proof.GlaPay.lean ====
/- What the launch computes of one head in one block of 256 rows, from the block of each argument and the state it starts from. -/
module

public import proofs.«01_k».proof.Proof.Gen.Kernel6Ideal.Skeleton
public import proofs.«01_k».proof.Proof.GlaMath

@[expose] public section

set_option maxRecDepth 16384

noncomputable section

open Idealize.ShloMosaic Idealize.ShloMosaic.TcCoe Idealize.SL.Sem

namespace Cert.Kernel6Ideal.Gla
open Cert.Kernel6Ideal Cert.Kernel6Ideal.Gen Cert.Lift Cert.In Cert.Gla

/-- One doubling step of the running sum. -/
theorem step (w : ℕ) (hw : w < 256) (word : ∀ r : Fin 256, IntOp.cmpi CmpIPredicate.sge (IntOp.andi (BitVec.ofNat 32 r) 63#32) (BitVec.ofNat 32 w)
      = if w ≤ r.val % 64 then 1#1 else 0#1)
    {x : FVec Ideal S256x128 .f32} {X : EMat} (hx : He x (win w X)) :
    He (addf x (select (cmpi .sge k0_pay7 (broadcast S256x128 (BitVec.ofNat 32 w)))
      (dynamicRotate 0 (BitVec.ofNat 32 w) none x rotates_S256x128_d0)
      (broadcast S256x128 (Scalar.ofBits .f32 0x00000000#32)))) (win (w + w) X) := fun r l => by
  have e : (BitVec.ofNat 32 w).toNat = w := by
    rw [BitVec.toNat_ofNat, Nat.mod_eq_of_lt]; omega
  rw [win_double]
  pointwise [k0_pay7]
  simp only [word r, e, hx _ _]
  split
  · next h =>
    have e2 : (r.val + 256 - w % 256) % 256 = r.val - w := by
      rw [Nat.mod_eq_of_lt hw]; omega
    rw [e2]; rfl
  · rfl

section
variable {q f v : FVec Ideal S256x128 .bf16} {l : FVec Ideal S1x128 .f32} {Q F V L : EMat}
  (hq : He q Q) (hf : He f F) (hv : He v V) (hl : He l L)

include hq in
theorem pay4 : He (k0_pay4 (F := Ideal) q) Q := fun r c => by
  pointwise [k0_pay4]
  exact hq _ _

include hf hl in
theorem pay5 : He (k0_pay5 (F := Ideal) f l) (fg F L) := fun r c => by
  pointwise [k0_pay5]
  simp only [hf _ _, hl _ _]
  rfl

include hf hl in
theorem pay6 : He (k0_pay6 (F := Ideal) f l) (ky F L) := fun r c => by
  have e := pay5 hf hl
  pointwise [k0_pay6]
  simp only [e _ _]
  rfl

include hf hl in
theorem pay_log : He (log (k0_pay5 (F := Ideal) f l)) (win 1 (lf F L)) := fun r c => by
  have e := pay5 hf hl
  rw [win_one]
  pointwise
  simp only [e _ _]
  rfl

/-- The running sums of the gates' logarithms. -/
def bs (f : FVec Ideal S256x128 .bf16) (l : FVec Ideal S1x128 .f32) : FVec Ideal S256x128 .f32 :=
  k0_pay12 k0_pay7 (k0_pay8 f l) (k0_pay9 f l) k0_pay10 k0_pay11

include hf hl in
theorem pay12 : He (bs f l) (cum (lf F L)) := by
  rw [← win_full]
  exact step 32 (by decide) (by decide +kernel) (step 16 (by decide) (by decide +kernel) (step 8 (by decide) (by decide +kernel)
    (step 4 (by decide) (by decide +kernel) (step 2 (by decide) (by decide +kernel) (step 1 (by decide) (by decide +kernel) (pay_log hf hl))))))

/-- The queries with their decay. -/
def qs (q f : FVec Ideal S256x128 .bf16) (l : FVec Ideal S1x128 .f32) : FVec Ideal S256x128 .bf16 :=
  k0_pay13 (k0_pay4 q) k0_pay7 (k0_pay8 f l) (k0_pay9 f l) k0_pay10 k0_pay11

include hq hf hl in
theorem pay13 : He (qs q f l) (qd Q F L) := fun r c => by
  have e := pay12 hf hl
  have e4 := pay4 hq
  unfold qs
  pointwise [k0_pay13]
  change _ * Ideal.exp (bs f l (ix2 r c)) = _
  simp only [e _ _, e4 _ _, bits_sc]
  rfl

/-- The mask: row `r` sees the rows of its own chunk up to itself. -/
def Tri (T : FVec Ideal S256x256 .f32) : Prop := ∀ r s : Fin 256, T (ix2 r s) = if s.val / 64 = r.val / 64 ∧ s.val ≤ r.val then 1 else 0

theorem pay3 {T : FVec Ideal S256x256 .f32} (hT : Tri T) (r s : Fin 256) :
    k0_pay3 (F := Ideal) T (ix2 r s) = if s.val / 64 = r.val / 64 ∧ s.val ≤ r.val then 1#1 else 0#1 := by
  pointwise [k0_pay3]
  rw [hT r s, show Ideal.ofBits FTy.f32 1056964608#32 = ((1 / 2 : ℝ) : EReal) by simp [Ideal.ofBits, Ideal.ieee, -EReal.coe_mul]; norm_num]
  split
  · rw [show decide (((1 / 2 : ℝ) : EReal) < 1) = true from decide_eq_true (by exact_mod_cast (by norm_num : (1 / 2 : ℝ) < 1))]; rfl
  · rw [show decide (((1 / 2 : ℝ) : EReal) < 0) = false from decide_eq_false (by rw [not_lt]; exact_mod_cast (by norm_num : (0 : ℝ) ≤ 1 / 2))]; rfl

/-- What the rows of a chunk contribute to one another. -/
def os (T : FVec Ideal S256x256 .f32) (q f v : FVec Ideal S256x128 .bf16) (l : FVec Ideal S1x128 .f32) : FVec Ideal S256x128 .f32 :=
  k0_pay14 (k0_pay3 (F := Ideal) T) v (k0_pay4 q) (k0_pay6 f l) k0_pay7 (k0_pay8 f l) (k0_pay9 f l) k0_pay10 k0_pay11

include hq hf hv hl in
theorem pay14 {T : FVec Ideal S256x256 .f32} (hT : Tri T) : He (os T q f v l) (intra Q F V L) := fun r c => by
  have e := pay12 hf hl
  have eq := pay13 hq hf hl
  have e6 := pay6 hf hl
  have e3 := pay3 hT
  unfold os
  pointwise [k0_pay14]
  change ∑ s, Scalar.select _ ((∑ i, qs q f l (ix2 r i) * (_ * Ideal.exp (0 - bs f l (ix2 s i)))) * _) _ = _
  simp only [e _ _, eq _ _, e6 _ _, e3, hv _ _]
  refine Eq.trans (Finset.sum_congr rfl fun s _ => ?_) ((sum_chunk r.val r.isLt fun s =>
    (if s % 64 ≤ r.val % 64 then ∑ i : Fin 128, qd Q F L r i * kd F L s i else 0) * V s c).trans (Finset.sum_congr rfl fun s _ => ?_))
  · by_cases h1 : s.val / 64 = r.val / 64
    · rw [if_pos h1]
      by_cases h2 : s.val ≤ r.val
      · rw [if_pos ⟨h1, h2⟩, if_pos (show s.val % 64 ≤ r.val % 64 by omega)]; rfl
      · rw [if_neg (fun h => h2 h.2), if_neg (show ¬ s.val % 64 ≤ r.val % 64 by omega), zero_mul]; rfl
    · rw [if_neg h1, if_neg (fun h => h1 h.1)]; rfl
  · simp only [show (r.val / 64 * 64 + s.val) % 64 = s.val by omega]

end

section
variable {v : FVec Ideal S256x128 .bf16} {k b : FVec Ideal S256x128 .f32} {F V L : EMat}
  (hv : He v V) (hk : He k (ky F L)) (hb : He b (cum (lf F L)))
include hb in
theorem decays : He (k0_pay16 b) (fun _ => dc F L 0) ∧ He (k0_pay19 b) (fun _ => dc F L 1) ∧ He (k0_pay22 b) (fun _ => dc F L 2)
    ∧ He (k0_pay25 b) (fun _ => dc F L 3) := by
  refine ⟨fun r c => ?_, fun r c => ?_, fun r c => ?_, fun r c => ?_⟩ <;>
    (pointwise [k0_pay16, k0_pay19, k0_pay22, k0_pay25, k0_pay15, k0_pay18, k0_pay21, k0_pay24]
     simp only [hb _ _]
     rfl)
include hv hk hb in
theorem kvs : He (k0_pay17 v k b) (kv F V L 0) ∧ He (k0_pay20 v k b) (kv F V L 1) ∧ He (k0_pay23 v k b) (kv F V L 2)
    ∧ He (k0_pay26 v k b) (kv F V L 3) := by
  refine ⟨fun r c => ?_, fun r c => ?_, fun r c => ?_, fun r c => ?_⟩ <;>
    (pointwise [k0_pay17, k0_pay20, k0_pay23, k0_pay26, k0_pay15, k0_pay18, k0_pay21, k0_pay24]
     simp only [hv _ _, hk _ _, hb _ _, zero_mul, zero_add, kv]
     rfl)
end

section
variable {a : FVec Ideal S256x128 .bf16} {o : FVec Ideal S256x128 .f32} {e0 e1 e2 e3 : FVec Ideal S1x128 .f32}
  {k0 k1 k2 k3 s : FVec Ideal S128x128 .f32} {Q F V L S : EMat}
  (h0 : He e0 (fun _ => dc F L 0)) (h1 : He e1 (fun _ => dc F L 1)) (h2 : He e2 (fun _ => dc F L 2)) (h3 : He e3 (fun _ => dc F L 3))
  (g0 : He k0 (kv F V L 0)) (g1 : He k1 (kv F V L 1)) (g2 : He k2 (kv F V L 2)) (g3 : He k3 (kv F V L 3)) (hs : He s S)
  (ha : He a (qd Q F L)) (ho : He o (intra Q F V L))
include hs h0 g0
theorem pay30 : He (k0_pay30 e0 k0 s) (nxt F V L 0 S) := fun j i => by
  pointwise [k0_pay30]
  simp only [hs _ _, h0 _ _, g0 _ _]
  rfl
include h1 g1
theorem pay33 : He (k0_pay33 e0 k0 e1 k1 s) (nxt F V L 1 (nxt F V L 0 S)) := fun j i => by
  have e := pay30 h0 g0 hs
  pointwise [k0_pay33]
  simp only [e _ _, h1 _ _, g1 _ _]
  rfl
include h2 g2
theorem pay36 : He (k0_pay36 e0 k0 e1 k1 e2 k2 s) (nxt F V L 2 (nxt F V L 1 (nxt F V L 0 S))) := fun j i => by
  have e := pay33 h0 h1 g0 g1 hs
  pointwise [k0_pay36]
  simp only [e _ _, h2 _ _, g2 _ _]
  rfl
end

section
variable {a : FVec Ideal S256x128 .bf16} {o : FVec Ideal S256x128 .f32} {s : FVec Ideal S128x128 .f32} {Q F V L S : EMat}
  (hs : He s S) (ha : He a (qd Q F L)) (ho : He o (intra Q F V L))
include hs ha ho
theorem outs : (∀ (r : Fin 64) (c : Fin 128), k0_pay29 a o s (ix2 r c) = out Q F V L S r c)
    ∧ ∀ (r : Fin 64) (c : Fin 128), k0_pay38 a o s (ix2 r c) = out Q F V L S (192 + r) c := by
  refine ⟨fun r c => ?_, fun r c => ?_⟩ <;>
    (pointwise [k0_pay29, k0_pay38]
     simp only [hs _ _, ha _ _, ho _ _, zero_add]
     rfl)
end

section
variable {a : FVec Ideal S256x128 .bf16} {o : FVec Ideal S256x128 .f32} {e0 e1 : FVec Ideal S1x128 .f32}
  {k0 k1 s : FVec Ideal S128x128 .f32} {Q F V L S S' : EMat} (ha : He a (qd Q F L)) (ho : He o (intra Q F V L))
include ha ho
theorem pay32 (h : He (k0_pay30 e0 k0 s) S) (r : Fin 64) (c : Fin 128) : k0_pay32 a o e0 k0 s (ix2 r c) = out Q F V L S (64 + r) c := by
  pointwise [k0_pay32]
  simp only [h _ _, ha _ _, ho _ _, zero_add]
  rfl
theorem pay35 (h : He (k0_pay33 e0 k0 e1 k1 s) S) (r : Fin 64) (c : Fin 128) :
    k0_pay35 a o e0 k0 e1 k1 s (ix2 r c) = out Q F V L S (128 + r) c := by
  pointwise [k0_pay35]
  simp only [h _ _, ha _ _, ho _ _, zero_add]
  rfl
end

/-- The first of the arrays in a pile holds the matrix. -/
def He3 (x : FVec Ideal S1x128x128 .f32) (M : EMat) : Prop := ∀ r l, x (ix3 0 r l) = M r l

section
variable {x : FVec Ideal S1x128x128 .f32} {e0 e1 : FVec Ideal S1x128 .f32} {k0 k1 s : FVec Ideal S128x128 .f32} {S : EMat}
theorem pay27 (h : He3 x S) : He (k0_pay27 (F := Ideal) x) S := fun r l => by
  pointwise [k0_pay27]
  exact h _ _
theorem pay28 (h : He3 x S) (r l : Fin 128) : k0_pay28 (F := Ideal) x (ix4 0 0 r l) = S r l := by
  have e := pay27 h
  pointwise [k0_pay28]
  exact e _ _
theorem pay31 (h : He (k0_pay30 e0 k0 s) S) (r l : Fin 128) : k0_pay31 e0 k0 s (ix4 0 0 r l) = S r l := by
  pointwise [k0_pay31]
  exact h _ _
theorem pay34 (h : He (k0_pay33 e0 k0 e1 k1 s) S) (r l : Fin 128) : k0_pay34 e0 k0 e1 k1 s (ix4 0 0 r l) = S r l := by
  pointwise [k0_pay34]
  exact h _ _
theorem pay37 (h : He s S) (r l : Fin 128) : k0_pay37 s (ix4 0 0 r l) = S r l := by
  pointwise [k0_pay37]
  exact h _ _
theorem pay39 {F V L : EMat} (h : He s S) (h3 : He e0 (fun _ => dc F L 3)) (g3 : He k0 (kv F V L 3)) : He3 (k0_pay39 e0 k0 s) (nxt F V L 3 S) := fun r l => by
  pointwise [k0_pay39]
  simp only [h _ _, h3 _ _, g3 _ _]
  rfl
end

end Cert.Kernel6Ideal.Gla

end
-- ==== Proof.GlaHeads.lean ====
/- The eight heads of a block of 256 rows: the pieces the launch writes are, head by head, those of one head from its own columns. -/
module

public import proofs.«01_k».proof.Proof.Gen.Kernel6Ideal.Value
public import proofs.«01_k».proof.Proof.GlaPay

@[expose] public section

set_option maxRecDepth 65536
set_option maxHeartbeats 400000

noncomputable section

open Idealize.ShloMosaic Idealize.ShloMosaic.TcCoe Idealize.SL.Sem

namespace Cert.Kernel6Ideal.Gla
open Cert.Kernel6Ideal Cert.Kernel6Ideal.Gen Cert.Lift Cert.In Cert.Gla

theorem inb4 (h n : ℕ) (hh : h < 8) (hn : n < 4) : ∀ a, (![h, n, 0, 0] : Fin S8x4x128x128.rank → ℕ) a + (![1, 1, 128, 128] : Fin S8x4x128x128.rank → ℕ) a ≤ S8x4x128x128.size a := by
  intro a; fin_cases a <;> simp [S8x4x128x128] <;> omega

section
variable (T : FVec Ideal S256x256 .f32) (q f v : FVec Ideal S256x128 .bf16) (l : FVec Ideal S1x128 .f32) (s : FVec Ideal S1x128x128 .f32)

/-- The state after one, two and three chunks of the block. -/
def s1 : FVec Ideal S128x128 .f32 := k0_pay30 (k0_pay16 (bs f l)) (k0_pay17 v (k0_pay6 f l) (bs f l)) (k0_pay27 s)
def s2 : FVec Ideal S128x128 .f32 := k0_pay33 (k0_pay16 (bs f l)) (k0_pay17 v (k0_pay6 f l) (bs f l)) (k0_pay19 (bs f l))
  (k0_pay20 v (k0_pay6 f l) (bs f l)) (k0_pay27 s)
def s3 : FVec Ideal S128x128 .f32 := k0_pay36 (k0_pay16 (bs f l)) (k0_pay17 v (k0_pay6 f l) (bs f l)) (k0_pay19 (bs f l))
  (k0_pay20 v (k0_pay6 f l) (bs f l)) (k0_pay22 (bs f l)) (k0_pay23 v (k0_pay6 f l) (bs f l)) (k0_pay27 s)

/-- One head's pieces of the rows put out, in the columns from `o` on, the last written first. -/
def oP (o : ℕ) (ho : o + 128 ≤ 1024) : List (View.Piece (Elt Ideal) S256x1024 .f32) :=
  [⟨Rect.unit ![192, o] ![64, 128] (by intro a; fin_cases a <;> simp [S256x1024] <;> omega), k0_pay38 (qs q f l) (os T q f v l) (s3 f v l s)⟩,
   ⟨Rect.unit ![128, o] ![64, 128] (by intro a; fin_cases a <;> simp [S256x1024] <;> omega), k0_pay35 (qs q f l) (os T q f v l)
      (k0_pay16 (bs f l)) (k0_pay17 v (k0_pay6 f l) (bs f l)) (k0_pay19 (bs f l)) (k0_pay20 v (k0_pay6 f l) (bs f l)) (k0_pay27 s)⟩,
   ⟨Rect.unit ![64, o] ![64, 128] (by intro a; fin_cases a <;> simp [S256x1024] <;> omega), k0_pay32 (qs q f l) (os T q f v l)
      (k0_pay16 (bs f l)) (k0_pay17 v (k0_pay6 f l) (bs f l)) (k0_pay27 s)⟩,
   ⟨Rect.unit ![0, o] ![64, 128] (by intro a; fin_cases a <;> simp [S256x1024] <;> omega), k0_pay29 (qs q f l) (os T q f v l) (k0_pay27 s)⟩]

/-- One head's pieces of the states before its chunks, and its piece of the carried state. -/
def tP (h : ℕ) (hh : h < 8) : List (View.Piece (Elt Ideal) S8x4x128x128 .f32) :=
  [⟨Rect.unit ![h, 3, 0, 0] ![1, 1, 128, 128] (by intro a; fin_cases a <;> simp [S8x4x128x128] <;> omega), k0_pay37 (s3 f v l s)⟩,
   ⟨Rect.unit ![h, 2, 0, 0] ![1, 1, 128, 128] (by intro a; fin_cases a <;> simp [S8x4x128x128] <;> omega), k0_pay34
      (k0_pay16 (bs f l)) (k0_pay17 v (k0_pay6 f l) (bs f l)) (k0_pay19 (bs f l)) (k0_pay20 v (k0_pay6 f l) (bs f l)) (k0_pay27 s)⟩,
   ⟨Rect.unit ![h, 1, 0, 0] ![1, 1, 128, 128] (by intro a; fin_cases a <;> simp [S8x4x128x128] <;> omega), k0_pay31
      (k0_pay16 (bs f l)) (k0_pay17 v (k0_pay6 f l) (bs f l)) (k0_pay27 s)⟩,
   ⟨Rect.unit ![h, 0, 0, 0] ![1, 1, 128, 128] (by intro a; fin_cases a <;> simp [S8x4x128x128] <;> omega), k0_pay28 (F := Ideal) s⟩]
def cP (h : ℕ) (hh : h < 8) : View.Piece (Elt Ideal) S8x128x128 .f32 :=
  ⟨Rect.unit ![h, 0, 0] ![1, 128, 128] (by intro a; fin_cases a <;> simp [S8x128x128] <;> omega),
    k0_pay39 (k0_pay25 (bs f l)) (k0_pay26 v (k0_pay6 f l) (bs f l)) (s3 f v l s)⟩
end

/-- The lists of the eight heads, the last head's first. -/
def all8 {α : Type} (P : ∀ h, h < 8 → List α) : List α :=
  P 7 (by decide) ++ (P 6 (by decide) ++ (P 5 (by decide) ++ (P 4 (by decide) ++ (P 3 (by decide) ++ (P 2 (by decide) ++ (P 1 (by decide) ++ P 0 (by decide)))))))

theorem mem_all8 {α : Type} {P : ∀ h, h < 8 → List α} {p : α} (hp : p ∈ all8 P) : ∃ h hh, p ∈ P h hh := by
  unfold all8 at hp
  simp only [List.mem_append] at hp
  rcases hp with h | h | h | h | h | h | h | h <;> exact ⟨_, _, h⟩

section
variable {T : FVec Ideal S256x256 .f32} {q f v : ∀ h, h < 8 → FVec Ideal S256x128 .bf16} {l : ∀ h, h < 8 → FVec Ideal S1x128 .f32}
  {s : ∀ h, h < 8 → FVec Ideal S1x128x128 .f32} {Q F V L : EMat} {S : ℕ → EMat}
  (hT : Tri T) (hq : ∀ h hh, He (q h hh) (cols (128 * h) Q)) (hf : ∀ h hh, He (f h hh) (cols (128 * h) F))
  (hv : ∀ h hh, He (v h hh) (cols (128 * h) V)) (hl : ∀ h hh, He (l h hh) (cols (128 * h) L)) (hs : ∀ h hh, He3 (s h hh) (S h))

include hf hv hl hs in
theorem states (h : ℕ) (hh : h < 8) :
    He (s1 (f h hh) (v h hh) (l h hh) (s h hh)) (stf (cols (128 * h) F) (cols (128 * h) V) (cols (128 * h) L) (S h) 1)
    ∧ He (s2 (f h hh) (v h hh) (l h hh) (s h hh)) (stf (cols (128 * h) F) (cols (128 * h) V) (cols (128 * h) L) (S h) 2)
    ∧ He (s3 (f h hh) (v h hh) (l h hh) (s h hh)) (stf (cols (128 * h) F) (cols (128 * h) V) (cols (128 * h) L) (S h) 3) := by
  obtain ⟨d0, d1, d2, _⟩ := decays (pay12 (hf h hh) (hl h hh))
  obtain ⟨g0, g1, g2, _⟩ := kvs (hv h hh) (pay6 (hf h hh) (hl h hh)) (pay12 (hf h hh) (hl h hh))
  exact ⟨pay30 d0 g0 (pay27 (hs h hh)), pay33 d0 d1 g0 g1 (pay27 (hs h hh)), pay36 d0 d1 d2 g0 g1 g2 (pay27 (hs h hh))⟩

include hT hq hf hv hl hs in
theorem o_spec : ∀ p ∈ all8 (fun h hh => oP T (q h hh) (f h hh) (v h hh) (l h hh) (s h hh) (128 * h) (by omega)), ∀ x,
    p.2 x = (fun y : S256x1024.Idx => row Q F V L S (y 0).val (y 1).val) (p.1.emb x) := by
  intro p hp
  obtain ⟨h, hh, hp⟩ := mem_all8 hp
  obtain ⟨e1, e2, e3⟩ := states hf hv hl hs h hh
  have ha := pay13 (hq h hh) (hf h hh) (hl h hh)
  have ho := pay14 (hq h hh) (hf h hh) (hv h hh) (hl h hh) hT
  have row' : ∀ (n : ℕ) (r : Fin 64) (c : Fin 128), row Q F V L S (64 * n + 1 * r.val) (128 * h + 1 * c.val)
      = out (cols (128 * h) Q) (cols (128 * h) F) (cols (128 * h) V) (cols (128 * h) L)
        (stf (cols (128 * h) F) (cols (128 * h) V) (cols (128 * h) L) (S h) n) (64 * n + r) c := fun n r c => by
    rw [one_mul, one_mul, row_at _ _ _ _ _ _ _ _ c.isLt, show (64 * n + r.val) / 64 = n by omega]
  simp only [oP, List.mem_cons, List.not_mem_nil, or_false] at hp
  rcases hp with rfl | rfl | rfl | rfl <;> intro x <;>
    obtain ⟨r, c, rfl⟩ : ∃ (r : Fin 64) (c : Fin 128), x = ix2 r c := ⟨x 0, x 1, eq_ix2 x⟩
  · exact ((outs e3 ha ho).2 r c).trans (row' 3 r c).symm
  · exact (pay35 ha ho e2 r c).trans (row' 2 r c).symm
  · exact (pay32 ha ho e1 r c).trans (row' 1 r c).symm
  · have := row' 0 r c
    simp only [Nat.mul_zero, Nat.zero_add] at this
    exact ((outs (pay27 (hs h hh)) ha ho).1 r c).trans (this.symm.trans (by simp only [Rect.emb_apply]; simp))

include hf hv hl hs in
theorem t_spec : ∀ p ∈ all8 (fun h hh => tP (f h hh) (v h hh) (l h hh) (s h hh) h hh), ∀ x,
    p.2 x = (fun y : S8x4x128x128.Idx => stf (cols (128 * (y 0).val) F) (cols (128 * (y 0).val) V) (cols (128 * (y 0).val) L) (S (y 0).val) (y 1).val (y 2).val (y 3).val) (p.1.emb x) := by
  intro p hp
  obtain ⟨h, hh, hp⟩ := mem_all8 hp
  obtain ⟨e1, e2, e3⟩ := states hf hv hl hs h hh
  simp only [tP, List.mem_cons, List.not_mem_nil, or_false] at hp
  have key : ∀ (n : ℕ) (hn : n < 4) (r c : Fin 128) (inb), stf (cols (128 * h) F) (cols (128 * h) V) (cols (128 * h) L) (S h) n r c
      = (fun y : S8x4x128x128.Idx => stf (cols (128 * (y 0).val) F) (cols (128 * (y 0).val) V) (cols (128 * (y 0).val) L) (S (y 0).val) (y 1).val (y 2).val (y 3).val)
        ((Rect.unit (s := S8x4x128x128) ![h, n, 0, 0] ![1, 1, 128, 128] inb).emb (ix4 0 0 r c)) := fun n hn r c inb => by
    show _ = stf (cols (128 * (h + 1 * 0)) F) (cols (128 * (h + 1 * 0)) V) (cols (128 * (h + 1 * 0)) L) (S (h + 1 * 0)) (n + 1 * 0) (0 + 1 * r.val) (0 + 1 * c.val)
    simp only [one_mul, zero_add, add_zero, mul_zero]
  rcases hp with rfl | rfl | rfl | rfl <;> intro x <;>
    obtain ⟨r, c, rfl⟩ : ∃ (r c : Fin 128), x = ix4 0 0 r c := ⟨x 2, x 3, by
      refine (eq_ix4 x).trans ?_
      have h0 : x 0 = (0 : Fin 1) := @Subsingleton.elim (Fin 1) _ _ _
      have h1 : x 1 = (0 : Fin 1) := @Subsingleton.elim (Fin 1) _ _ _
      rw [h0, h1]⟩
  · exact (pay37 e3 r c).trans (key 3 (by decide) r c (inb4 h _ hh (by decide)))
  · exact (pay34 e2 r c).trans (key 2 (by decide) r c (inb4 h _ hh (by decide)))
  · exact (pay31 e1 r c).trans (key 1 (by decide) r c (inb4 h _ hh (by decide)))
  · exact (pay28 (hs h hh) r c).trans (key 0 (by decide) r c (inb4 h _ hh (by decide)))

include hf hv hl hs in
theorem c_spec : ∀ p ∈ all8 (fun h hh => [cP (f h hh) (v h hh) (l h hh) (s h hh) h hh]), ∀ x,
    p.2 x = (fun y : S8x128x128.Idx => stf (cols (128 * (y 0).val) F) (cols (128 * (y 0).val) V) (cols (128 * (y 0).val) L) (S (y 0).val) 4 (y 1).val (y 2).val) (p.1.emb x) := by
  intro p hp
  obtain ⟨h, hh, hp⟩ := mem_all8 hp
  obtain ⟨_, _, e3⟩ := states hf hv hl hs h hh
  obtain ⟨_, _, _, d3⟩ := decays (pay12 (hf h hh) (hl h hh))
  obtain ⟨_, _, _, g3⟩ := kvs (hv h hh) (pay6 (hf h hh) (hl h hh)) (pay12 (hf h hh) (hl h hh))
  obtain rfl := List.mem_singleton.mp hp
  intro x
  obtain ⟨r, c, rfl⟩ : ∃ (r c : Fin 128), x = ix3 0 r c := ⟨x 1, x 2, by
    refine (eq_ix3 x).trans ?_
    have h0 : x 0 = (0 : Fin 1) := @Subsingleton.elim (Fin 1) _ _ _
    rw [h0]⟩
  refine (pay39 e3 d3 g3 r c).trans ?_
  show stf (cols (128 * h) F) (cols (128 * h) V) (cols (128 * h) L) (S h) 4 r c
    = stf (cols (128 * (h + 1 * 0)) F) (cols (128 * (h + 1 * 0)) V) (cols (128 * (h + 1 * 0)) L) (S (h + 1 * 0)) 4 (0 + 1 * r.val) (0 + 1 * c.val)
  simp only [one_mul, zero_add, add_zero, mul_zero]
end

end Cert.Kernel6Ideal.Gla

end
-- ==== Proof.GlaRunB.lean ====
/- The pieces the launch writes are, head by head, those of one head from its own columns. -/
module

public import proofs.«01_k».proof.Proof.Gen.Kernel6Ideal.Value
public import proofs.«01_k».proof.Proof.GlaHeads

@[expose] public section

set_option maxRecDepth 65536
set_option maxHeartbeats 400000

noncomputable section

open Idealize.ShloMosaic Idealize.ShloMosaic.TcCoe Idealize.SL.Sem

namespace Cert.Kernel6Ideal.Gla
open Cert.Kernel6Ideal Cert.Kernel6Ideal.Gen Cert.Lift Cert.In Cert.Gla

section
variable (c : Dev nD) (i : grid0.Coords) (arg2 : Memref sig .tc .vmem S256x256 .f32) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S8x4x128x128 .f32) (harg8 : arg8.IsWhole) (arg9 : Memref sig .tc .vmem S8x128x128 .f32) (harg9 : arg9.IsWhole)
    (x0 : Vec Ideal S256x256 .f32) (x1 : Vec Ideal S256x1024 .bf16) (x2 : Vec Ideal S256x1024 .bf16) (x3 : Vec Ideal S256x1024 .bf16) (x4 : Vec Ideal S1x1024 .f32) (xs0 : Vec Ideal S8x128x128 .f32)

/-- The mask as loaded, the columns from `o` on of a block, and of the bounds' row; the state of head `h`. -/
def ldT : FVec Ideal S256x256 .f32 := arg2.view.readAt (Elt Ideal) (Rect.unit (s := S256x256) ![0, 0] ![256, 256] (by decide)).toLoadRect (harg2.unread x0)
def ldX (arg3 : Memref sig .tc .vmem S256x1024 .bf16) (harg3 : arg3.IsWhole) (x1 : Vec Ideal S256x1024 .bf16) (o : ℕ) (ho : o + 128 ≤ 1024) : FVec Ideal S256x128 .bf16 :=
  arg3.view.readAt (Elt Ideal) (Rect.unit (s := S256x1024) ![0, o] ![256, 128] (by intro a; fin_cases a <;> simp [S256x1024] <;> omega)).toLoadRect (harg3.unread x1)
def ldL (o : ℕ) (ho : o + 128 ≤ 1024) : FVec Ideal S1x128 .f32 :=
  arg6.view.readAt (Elt Ideal) (Rect.unit (s := S1x1024) ![0, o] ![1, 128] (by intro a; fin_cases a <;> simp [S1x1024] <;> omega)).toLoadRect (harg6.unread x4)
def ldS (h : ℕ) (hh : h < 8) : FVec Ideal S1x128x128 .f32 :=
  arg9.view.readAt (Elt Ideal) (Rect.unit (s := S8x128x128) ![h, 0, 0] ![1, 128, 128] (by intro a; fin_cases a <;> simp [S8x128x128] <;> omega)).toLoadRect (harg9.unread xs0)

section
variable (hc0 : ¬ cond0_0 i)
theorem run5B : (kernelRun0_B c i arg2 harg2 arg3 harg3 arg4 harg4 arg5 harg5 arg6 harg6 arg7 harg7 arg8 harg8 arg9 harg9 hc0 x0 x1 x2 x3 x4 xs0).1
    = all8 (fun h hh => oP (ldT arg2 harg2 x0) (ldX arg3 harg3 x1 (128 * h) (by omega)) (ldX arg4 harg4 x2 (128 * h) (by omega))
      (ldX arg5 harg5 x3 (128 * h) (by omega)) (ldL arg6 harg6 x4 (128 * h) (by omega)) (ldS arg9 harg9 xs0 h hh) (128 * h) (by omega)) := rfl
theorem run6B : (kernelRun0_B c i arg2 harg2 arg3 harg3 arg4 harg4 arg5 harg5 arg6 harg6 arg7 harg7 arg8 harg8 arg9 harg9 hc0 x0 x1 x2 x3 x4 xs0).2.1
    = all8 (fun h hh => tP (ldX arg4 harg4 x2 (128 * h) (by omega))
      (ldX arg5 harg5 x3 (128 * h) (by omega)) (ldL arg6 harg6 x4 (128 * h) (by omega)) (ldS arg9 harg9 xs0 h hh) h hh) := rfl
theorem runCB : (kernelRun0_B c i arg2 harg2 arg3 harg3 arg4 harg4 arg5 harg5 arg6 harg6 arg7 harg7 arg8 harg8 arg9 harg9 hc0 x0 x1 x2 x3 x4 xs0).2.2.1
    = all8 (fun h hh => [cP (ldX arg4 harg4 x2 (128 * h) (by omega))
      (ldX arg5 harg5 x3 (128 * h) (by omega)) (ldL arg6 harg6 x4 (128 * h) (by omega)) (ldS arg9 harg9 xs0 h hh) h hh]) := rfl
end
end

end Cert.Kernel6Ideal.Gla

end
-- ==== Proof.GlaRunA.lean ====
/- The pieces the launch writes are, head by head, those of one head from its own columns. -/
module

public import proofs.«01_k».proof.Proof.Gen.Kernel6Ideal.Value
public import proofs.«01_k».proof.Proof.GlaRunB

@[expose] public section

set_option maxRecDepth 65536
set_option maxHeartbeats 400000

noncomputable section

open Idealize.ShloMosaic Idealize.ShloMosaic.TcCoe Idealize.SL.Sem

namespace Cert.Kernel6Ideal.Gla
open Cert.Kernel6Ideal Cert.Kernel6Ideal.Gen Cert.Lift Cert.In Cert.Gla

section
variable (c : Dev nD) (i : grid0.Coords) (arg2 : Memref sig .tc .vmem S256x256 .f32) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S8x4x128x128 .f32) (harg8 : arg8.IsWhole) (arg9 : Memref sig .tc .vmem S8x128x128 .f32) (harg9 : arg9.IsWhole)
    (x0 : Vec Ideal S256x256 .f32) (x1 : Vec Ideal S256x1024 .bf16) (x2 : Vec Ideal S256x1024 .bf16) (x3 : Vec Ideal S256x1024 .bf16) (x4 : Vec Ideal S1x1024 .f32) (xs0 : Vec Ideal S8x128x128 .f32)

/-- What is stored in the carried state before head `h` of the first block. -/
def hsA : ℕ → List (View.Piece (Elt Ideal) S8x128x128 .f32)
  | 0 => kernelRun0_A.sl.HS0_1
  | 1 => kernelRun0_A.sl.HS0_2 c arg4 harg4 arg5 harg5 arg6 harg6 arg9 x2 x3 x4
  | 2 => kernelRun0_A.sl.HS0_3 c arg4 harg4 arg5 harg5 arg6 harg6 arg9 x2 x3 x4
  | 3 => kernelRun0_A.sl.HS0_4 c arg4 harg4 arg5 harg5 arg6 harg6 arg9 x2 x3 x4
  | 4 => kernelRun0_A.sl.HS0_5 c arg4 harg4 arg5 harg5 arg6 harg6 arg9 x2 x3 x4
  | 5 => kernelRun0_A.sl.HS0_6 c arg4 harg4 arg5 harg5 arg6 harg6 arg9 x2 x3 x4
  | 6 => kernelRun0_A.sl.HS0_7 c arg4 harg4 arg5 harg5 arg6 harg6 arg9 x2 x3 x4
  | _ => kernelRun0_A.sl.HS0_8 c arg4 harg4 arg5 harg5 arg6 harg6 arg9 x2 x3 x4
def ldA (h : ℕ) (hh : h < 8) : FVec Ideal S1x128x128 .f32 :=
  arg9.view.readCov (hsA c arg4 harg4 arg5 harg5 arg6 harg6 arg9 x2 x3 x4 h)
    (Rect.unit (s := S8x128x128) ![h, 0, 0] ![1, 128, 128] (by intro a; fin_cases a <;> simp [S8x128x128] <;> omega)).toLoadRect

section
variable (hc0 : cond0_0 i)
theorem run5A : (kernelRun0_A c i arg2 harg2 arg3 harg3 arg4 harg4 arg5 harg5 arg6 harg6 arg7 harg7 arg8 harg8 arg9 harg9 hc0 x0 x1 x2 x3 x4).1
    = all8 (fun h hh => oP (ldT arg2 harg2 x0) (ldX arg3 harg3 x1 (128 * h) (by omega)) (ldX arg4 harg4 x2 (128 * h) (by omega))
      (ldX arg5 harg5 x3 (128 * h) (by omega)) (ldL arg6 harg6 x4 (128 * h) (by omega)) (ldA c arg4 harg4 arg5 harg5 arg6 harg6 arg9 x2 x3 x4 h hh) (128 * h) (by omega)) := rfl
theorem run6A : (kernelRun0_A c i arg2 harg2 arg3 harg3 arg4 harg4 arg5 harg5 arg6 harg6 arg7 harg7 arg8 harg8 arg9 harg9 hc0 x0 x1 x2 x3 x4).2.1
    = all8 (fun h hh => tP (ldX arg4 harg4 x2 (128 * h) (by omega))
      (ldX arg5 harg5 x3 (128 * h) (by omega)) (ldL arg6 harg6 x4 (128 * h) (by omega)) (ldA c arg4 harg4 arg5 harg5 arg6 harg6 arg9 x2 x3 x4 h hh) h hh) := rfl
theorem runCA : (kernelRun0_A c i arg2 harg2 arg3 harg3 arg4 harg4 arg5 harg5 arg6 harg6 arg7 harg7 arg8 harg8 arg9 harg9 hc0 x0 x1 x2 x3 x4).2.2.1
    = all8 (fun h hh => [cP (ldX arg4 harg4 x2 (128 * h) (by omega))
      (ldX arg5 harg5 x3 (128 * h) (by omega)) (ldL arg6 harg6 x4 (128 * h) (by omega)) (ldA c arg4 harg4 arg5 harg5 arg6 harg6 arg9 x2 x3 x4 h hh) h hh])
      ++ [⟨Rect.unit ![0, 0, 0] ![8, 128, 128] (by decide), k0_pay2 (F := Ideal)⟩] := rfl
end
end

end Cert.Kernel6Ideal.Gla

end
-- ==== Proof.GlaBlock.lean ====
/- What one block of the launch leaves in its two results and in the carried state, as matrices. -/
module

public import proofs.«01_k».proof.Proof.Gen.Kernel6Ideal.Value
public import proofs.«01_k».proof.Proof.GlaRunA
public import Idealize.ShloMosaic.Lib.WholeRead
public import Idealize.ShloMosaic.Lib.Pipeline.ReadBack

@[expose] public section

set_option maxRecDepth 65536
set_option maxHeartbeats 400000

noncomputable section

open Idealize.ShloMosaic Idealize.ShloMosaic.TcCoe Idealize.SL.Sem

namespace Cert.Kernel6Ideal.Gla
open Cert.Kernel6Ideal Cert.Kernel6Ideal.Gen Cert.Lift Cert.In Cert.Gla

section
variable (c : Dev nD) (i : grid0.Coords) (arg2 : Memref sig .tc .vmem S256x256 .f32) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S1x1024 .f32) (harg6 : arg6.IsWhole) (arg7 : Memref sig .tc .vmem S256x1024 .f32) (harg7 : arg7.IsWhole) (arg8 : Memref sig .tc .vmem S8x4x128x128 .f32) (harg8 : arg8.IsWhole) (arg9 : Memref sig .tc .vmem S8x128x128 .f32) (harg9 : arg9.IsWhole)
    (x0 : Vec Ideal S256x256 .f32) (x1 : Vec Ideal S256x1024 .bf16) (x2 : Vec Ideal S256x1024 .bf16) (x3 : Vec Ideal S256x1024 .bf16) (x4 : Vec Ideal S1x1024 .f32) (xs0 : Vec Ideal S8x128x128 .f32)

variable {Q F V L : EMat} {S : ℕ → EMat} (hT : Tri x0) (h1 : He (a := 256) (b := 1024) (φ := .bf16) x1 Q) (h2 : He (a := 256) (b := 1024) (φ := .bf16) x2 F)
  (h3 : He (a := 256) (b := 1024) (φ := .bf16) x3 V) (h4 : He (a := 1) (b := 1024) (φ := .f32) x4 L)

include hT in
theorem ldT_tri : Tri (ldT arg2 harg2 x0) := fun r s => by
  refine (harg2.readAt_unread x0 _ _).trans ((congrArg x0 (funext fun a => ?_)).trans (hT r s))
  fin_cases a <;> exact Fin.ext (show 0 + 1 * _ = _ by rw [one_mul, zero_add])

theorem ldX_he {X : EMat} (hX : He (a := 256) (b := 1024) (φ := .bf16) x1 X) (o : ℕ) (ho : o + 128 ≤ 1024) : He (ldX arg3 harg3 x1 o ho) (cols o X) := fun r l => by
  refine (harg3.readAt_unread x1 _ _).trans ((congrArg x1 (funext fun a => ?_)).trans (hX r ⟨o + l, by omega⟩))
  fin_cases a
  · exact Fin.ext (show 0 + 1 * r.val = r.val by omega)
  · exact Fin.ext (show o + 1 * l.val = o + l.val by omega)

include h4 in
theorem ldL_he (o : ℕ) (ho : o + 128 ≤ 1024) : He (ldL arg6 harg6 x4 o ho) (cols o L) := fun r l => by
  refine (harg6.readAt_unread x4 _ _).trans ((congrArg x4 (funext fun a => ?_)).trans ((h4 r ⟨o + l, by omega⟩).trans ?_))
  · fin_cases a
    · exact Fin.ext (show 0 + 1 * r.val = r.val by omega)
    · exact Fin.ext (show o + 1 * l.val = o + l.val by omega)
  · rfl

/-- The carried state's array `h` holds the matrix `S h`. -/
def HeS (x : Vec Ideal S8x128x128 .f32) (S : ℕ → EMat) : Prop := ∀ (h : Fin 8) (r l : Fin 128), x (ix3 h r l) = S h r l

theorem ldS_he (hS : HeS xs0 S) (h : ℕ) (hh : h < 8) : He3 (ldS arg9 harg9 xs0 h hh) (S h) := fun r l => by
  refine (harg9.readAt_unread xs0 _ _).trans ((congrArg xs0 (funext fun a => ?_)).trans (hS ⟨h, hh⟩ r l))
  fin_cases a
  · exact Fin.ext (show h + 1 * 0 = h by omega)
  · exact Fin.ext (show 0 + 1 * r.val = r.val by omega)
  · exact Fin.ext (show 0 + 1 * l.val = l.val by omega)

/-- What is stored in another head's place is not read. -/
theorem skip {n h : ℕ} (hne : n ≠ h) (w : FVec Ideal S1x128x128 .f32) (P : List (View.Piece (Elt Ideal) S8x128x128 .f32)) (ib jb) :
    arg9.view.readCov (⟨Rect.unit (s := S8x128x128) ![n, 0, 0] ![1, 128, 128] ib, w⟩ :: P) (Rect.unit (s := S8x128x128) ![h, 0, 0] ![1, 128, 128] jb).toLoadRect
      = arg9.view.readCov P (Rect.unit (s := S8x128x128) ![h, 0, 0] ![1, 128, 128] jb).toLoadRect :=
  View.readCov_skip _ _ _ _ _ (decide_eq_true ⟨0, by
    show 1 = 0 ∨ 1 = 0 ∨ n + 1 * (1 - 1) < h ∨ h + 1 * (1 - 1) < n
    omega⟩)

theorem fill (h : ℕ) (jb) (y) : arg9.view.readCov (kernelRun0_A.sl.HS0_1 (F := Ideal)) (Rect.unit (s := S8x128x128) ![h, 0, 0] ![1, 128, 128] jb).toLoadRect y = 0 := by
  unfold kernelRun0_A.sl.HS0_1
  refine (congrFun (View.readCov_fill _ _ _ _ _ (by decide)) y).trans ?_
  exact (show k0_pay2 (F := Ideal) _ = 0 by pointwise [k0_pay2])

/-- A head of the first block starts from zeros: the heads before it store elsewhere. -/
theorem ldA_he (h : ℕ) (hh : h < 8) : He3 (ldA c arg4 harg4 arg5 harg5 arg6 harg6 arg9 x2 x3 x4 h hh) (fun _ _ => 0) := fun r l => by
  refine Eq.trans (congrFun (g := arg9.view.readCov (kernelRun0_A.sl.HS0_1 (F := Ideal)) (Rect.unit (s := S8x128x128) ![h, 0, 0] ![1, 128, 128]
    (by intro a; fin_cases a <;> simp [S8x128x128] <;> omega)).toLoadRect) ?_ (ix3 0 r l)) (fill arg9 h _ _)
  unfold ldA
  have z := fun (n : ℕ) (hn : n < h) => skip arg9 (n := n) (h := h) (by omega)
  rcases h with _ | _ | _ | _ | _ | _ | _ | _ | h
  · rfl
  · exact z 0 (by omega) _ _ _ _
  · exact (z 1 (by omega) _ _ _ _).trans (z 0 (by omega) _ _ _ _)
  · exact (z 2 (by omega) _ _ _ _).trans ((z 1 (by omega) _ _ _ _).trans (z 0 (by omega) _ _ _ _))
  · exact (z 3 (by omega) _ _ _ _).trans ((z 2 (by omega) _ _ _ _).trans ((z 1 (by omega) _ _ _ _).trans (z 0 (by omega) _ _ _ _)))
  · exact (z 4 (by omega) _ _ _ _).trans ((z 3 (by omega) _ _ _ _).trans ((z 2 (by omega) _ _ _ _).trans ((z 1 (by omega) _ _ _ _).trans
      (z 0 (by omega) _ _ _ _))))
  · exact (z 5 (by omega) _ _ _ _).trans ((z 4 (by omega) _ _ _ _).trans ((z 3 (by omega) _ _ _ _).trans ((z 2 (by omega) _ _ _ _).trans
      ((z 1 (by omega) _ _ _ _).trans (z 0 (by omega) _ _ _ _)))))
  · exact (z 6 (by omega) _ _ _ _).trans ((z 5 (by omega) _ _ _ _).trans ((z 4 (by omega) _ _ _ _).trans ((z 3 (by omega) _ _ _ _).trans
      ((z 2 (by omega) _ _ _ _).trans ((z 1 (by omega) _ _ _ _).trans (z 0 (by omega) _ _ _ _))))))
  · omega

/-- What a block leaves: its rows, the states before its four chunks, and the state after them. -/
def rows (Q F V L : EMat) (S : ℕ → EMat) : S256x1024.Idx → EReal := fun y => row Q F V L S (y 0).val (y 1).val
def sts (F V L : EMat) (S : ℕ → EMat) : S8x4x128x128.Idx → EReal :=
  fun y => stf (cols (128 * (y 0).val) F) (cols (128 * (y 0).val) V) (cols (128 * (y 0).val) L) (S (y 0).val) (y 1).val (y 2).val (y 3).val
def carry (F V L : EMat) (S : ℕ → EMat) : S8x128x128.Idx → EReal :=
  fun y => stf (cols (128 * (y 0).val) F) (cols (128 * (y 0).val) V) (cols (128 * (y 0).val) L) (S (y 0).val) 4 (y 1).val (y 2).val

section
variable (hc0 : ¬ cond0_0 i) (hS : HeS xs0 S)
include hT h1 h2 h3 h4 hS
theorem out5B : out0_B_5 c i arg2 harg2 arg3 harg3 arg4 harg4 arg5 harg5 arg6 harg6 arg7 harg7 arg8 harg8 arg9 harg9 hc0 x0 x1 x2 x3 x4 xs0 = rows Q F V L S := funext fun y =>
  View.read_writes_apply_of_pieces _ _ _ _
    (run5B c i arg2 harg2 arg3 harg3 arg4 harg4 arg5 harg5 arg6 harg6 arg7 harg7 arg8 harg8 arg9 harg9 x0 x1 x2 x3 x4 xs0 hc0 ▸ o_spec (ldT_tri arg2 harg2 x0 hT) (fun h hh => ldX_he arg3 harg3 x1 h1 _ _) (fun h hh => ldX_he arg4 harg4 x2 h2 _ _)
      (fun h hh => ldX_he arg5 harg5 x3 h3 _ _) (fun h hh => ldL_he arg6 harg6 x4 h4 _ _) (fun h hh => ldS_he arg9 harg9 xs0 hS h hh))
    y (cover0_B_5 c i arg2 harg2 arg3 harg3 arg4 harg4 arg5 harg5 arg6 harg6 arg7 harg7 arg8 harg8 arg9 harg9 hc0 x0 x1 x2 x3 x4 xs0 _)
end

section
variable (hc0 : ¬ cond0_0 i) (hS : HeS xs0 S)
include h2 h3 h4 hS
theorem out6B : out0_B_6 c i arg2 harg2 arg3 harg3 arg4 harg4 arg5 harg5 arg6 harg6 arg7 harg7 arg8 harg8 arg9 harg9 hc0 x0 x1 x2 x3 x4 xs0 = sts F V L S := funext fun y =>
  View.read_writes_apply_of_pieces _ _ _ _
    (run6B c i arg2 harg2 arg3 harg3 arg4 harg4 arg5 harg5 arg6 harg6 arg7 harg7 arg8 harg8 arg9 harg9 x0 x1 x2 x3 x4 xs0 hc0 ▸ t_spec (fun h hh => ldX_he arg4 harg4 x2 h2 _ _)
      (fun h hh => ldX_he arg5 harg5 x3 h3 _ _) (fun h hh => ldL_he arg6 harg6 x4 h4 _ _) (fun h hh => ldS_he arg9 harg9 xs0 hS h hh))
    y (cover0_B_6 c i arg2 harg2 arg3 harg3 arg4 harg4 arg5 harg5 arg6 harg6 arg7 harg7 arg8 harg8 arg9 harg9 hc0 x0 x1 x2 x3 x4 xs0 _)

theorem soutB : sout0_B_0 c i arg2 harg2 arg3 harg3 arg4 harg4 arg5 harg5 arg6 harg6 arg7 harg7 arg8 harg8 arg9 harg9 hc0 x0 x1 x2 x3 x4 xs0 = carry F V L S := funext fun y =>
  View.read_writes_apply_of_pieces _ _ _ _
    (runCB c i arg2 harg2 arg3 harg3 arg4 harg4 arg5 harg5 arg6 harg6 arg7 harg7 arg8 harg8 arg9 harg9 x0 x1 x2 x3 x4 xs0 hc0 ▸ c_spec (fun h hh => ldX_he arg4 harg4 x2 h2 _ _)
      (fun h hh => ldX_he arg5 harg5 x3 h3 _ _) (fun h hh => ldL_he arg6 harg6 x4 h4 _ _) (fun h hh => ldS_he arg9 harg9 xs0 hS h hh))
    y (scover0_B_0 c i arg2 harg2 arg3 harg3 arg4 harg4 arg5 harg5 arg6 harg6 arg7 harg7 arg8 harg8 arg9 harg9 hc0 x0 x1 x2 x3 x4 xs0 _)
end

section
variable (hc0 : cond0_0 i)
include hT h1 h2 h3 h4
theorem out5A : out0_A_5 c i arg2 harg2 arg3 harg3 arg4 harg4 arg5 harg5 arg6 harg6 arg7 harg7 arg8 harg8 arg9 harg9 hc0 x0 x1 x2 x3 x4 = rows Q F V L (fun _ _ _ => 0) := funext fun y =>
  View.read_writes_apply_of_pieces _ _ _ _
    (run5A c i arg2 harg2 arg3 harg3 arg4 harg4 arg5 harg5 arg6 harg6 arg7 harg7 arg8 harg8 arg9 harg9 x0 x1 x2 x3 x4 hc0 ▸ o_spec (ldT_tri arg2 harg2 x0 hT) (fun h hh => ldX_he arg3 harg3 x1 h1 _ _) (fun h hh => ldX_he arg4 harg4 x2 h2 _ _)
      (fun h hh => ldX_he arg5 harg5 x3 h3 _ _) (fun h hh => ldL_he arg6 harg6 x4 h4 _ _) (fun h hh => ldA_he c arg4 harg4 arg5 harg5 arg6 harg6 arg9 x2 x3 x4 h hh))
    y (cover0_A_5 c i arg2 harg2 arg3 harg3 arg4 harg4 arg5 harg5 arg6 harg6 arg7 harg7 arg8 harg8 arg9 harg9 hc0 x0 x1 x2 x3 x4 _)
end

section
variable (hc0 : cond0_0 i)
include h2 h3 h4
theorem out6A : out0_A_6 c i arg2 harg2 arg3 harg3 arg4 harg4 arg5 harg5 arg6 harg6 arg7 harg7 arg8 harg8 arg9 harg9 hc0 x0 x1 x2 x3 x4 = sts F V L (fun _ _ _ => 0) := funext fun y =>
  View.read_writes_apply_of_pieces _ _ _ _
    (run6A c i arg2 harg2 arg3 harg3 arg4 harg4 arg5 harg5 arg6 harg6 arg7 harg7 arg8 harg8 arg9 harg9 x0 x1 x2 x3 x4 hc0 ▸ t_spec (fun h hh => ldX_he arg4 harg4 x2 h2 _ _)
      (fun h hh => ldX_he arg5 harg5 x3 h3 _ _) (fun h hh => ldL_he arg6 harg6 x4 h4 _ _) (fun h hh => ldA_he c arg4 harg4 arg5 harg5 arg6 harg6 arg9 x2 x3 x4 h hh))
    y (cover0_A_6 c i arg2 harg2 arg3 harg3 arg4 harg4 arg5 harg5 arg6 harg6 arg7 harg7 arg8 harg8 arg9 harg9 hc0 x0 x1 x2 x3 x4 _)

theorem soutA : sout0_A_0 c i arg2 harg2 arg3 harg3 arg4 harg4 arg5 harg5 arg6 harg6 arg7 harg7 arg8 harg8 arg9 harg9 hc0 x0 x1 x2 x3 x4 = carry F V L (fun _ _ _ => 0) := funext fun y => by
  refine (View.read_writes_apply_eq_canon _ _ y _ (scover0_A_0 c i arg2 harg2 arg3 harg3 arg4 harg4 arg5 harg5 arg6 harg6 arg7 harg7 arg8 harg8 arg9 harg9 hc0 x0 x1 x2 x3 x4 y)).trans ?_
  rw [runCA]
  refine View.canon_append_of_pieces _ _ _ (c_spec (fun h hh => ldX_he arg4 harg4 x2 h2 _ _)
      (fun h hh => ldX_he arg5 harg5 x3 h3 _ _) (fun h hh => ldL_he arg6 harg6 x4 h4 _ _) (fun h hh => ldA_he c arg4 harg4 arg5 harg5 arg6 harg6 arg9 x2 x3 x4 h hh)) y ?_
  have hm : ∀ h (hh : h < 8) {α : Type} (P : ∀ h, h < 8 → List α) (p : α), p ∈ P h hh → p ∈ all8 P := fun h hh α P p hp => by
    unfold all8
    simp only [List.mem_append]
    interval_cases h <;> tauto
  refine ⟨_, hm (y 0).val (y 0).isLt _ _ (List.mem_singleton.mpr rfl), ?_⟩
  have h8 : (y 0).val < 8 := (y 0).isLt
  have ib : ∀ a, (![(y 0).val, 0, 0] : Fin S8x128x128.rank → ℕ) a + (![1, 128, 128] : Fin S8x128x128.rank → ℕ) a ≤ S8x128x128.size a := by
    intro a; fin_cases a <;> simp [S8x128x128] <;> omega
  refine (Rect.mem_set_unit (inb := ib)).mpr fun a => ?_
  fin_cases a
  · exact ⟨le_refl _, show (y 0).val < (y 0).val + 1 by omega⟩
  · exact ⟨Nat.zero_le _, show (y 1).val < 0 + 128 by have : (y 1).val < 128 := (y 1).isLt; omega⟩
  · exact ⟨Nat.zero_le _, show (y 2).val < 0 + 128 by have : (y 2).val < 128 := (y 2).isLt; omega⟩
end

end

end Cert.Kernel6Ideal.Gla

end
-- ==== Proof.GlaTri.lean ====
/- The mask's entries: its tables hold one exactly at the earlier rows of the same chunk. -/
module

public import proofs.«01_k».proof.Proof.Gen.Kernel6Ideal
public import Idealize.ShloMosaic.Lib.Pipeline.ValueKit

@[expose] public section

set_option maxRecDepth 65536

set_option maxHeartbeats 4000000

noncomputable section

open Idealize.ShloMosaic

namespace Cert.Kernel6Ideal.Gla
open Cert.Kernel6Ideal

/-- The mask's entry at row `r`, column `s`. -/
abbrev bit (r s : ℕ) : BitVec 32 := if s / 64 = r / 64 ∧ s ≤ r then 0x3F800000#32 else 0#32

/-- The list holds the values of `g` from `n` on. -/
def holds (g : ℕ → BitVec 32) : ℕ → List (BitVec 32) → Bool
  | _, [] => true
  | n, a :: l => decide (a = g n) && holds g (n + 1) l

theorem holds_at (g : ℕ → BitVec 32) : ∀ (l : List (BitVec 32)) (n : ℕ), holds g n l = true → ∀ k (hk : k < l.length), l[k] = g (n + k)
  | [], _, _, k, hk => absurd hk (Nat.not_lt_zero k)
  | a :: l, n, h, 0, _ => of_decide_eq_true (Bool.and_eq_true_iff.mp h).1
  | a :: l, n, h, k + 1, hk => by
    rw [show n + (k + 1) = n + 1 + k by omega]
    exact holds_at g l (n + 1) (Bool.and_eq_true_iff.mp h).2 k (Nat.lt_of_succ_lt_succ hk)

/-- A choice among 128 values is the list's. -/
theorem pick (g : ℕ → BitVec 32) {h0 h1 h2 h3 h4 h5 h6 h7 h8 h9 h10 h11 h12 h13 h14 h15 h16 h17 h18 h19 h20 h21 h22 h23 h24 h25 h26 h27 h28 h29 h30 h31 h32 h33 h34 h35 h36 h37 h38 h39 h40 h41 h42 h43 h44 h45 h46 h47 h48 h49 h50 h51 h52 h53 h54 h55 h56 h57 h58 h59 h60 h61 h62 h63 h64 h65 h66 h67 h68 h69 h70 h71 h72 h73 h74 h75 h76 h77 h78 h79 h80 h81 h82 h83 h84 h85 h86 h87 h88 h89 h90 h91 h92 h93 h94 h95 h96 h97 h98 h99 h100 h101 h102 h103 h104 h105 h106 h107 h108 h109 h110 h111 h112 h113 h114 h115 h116 h117 h118 h119 h120 h121 h122 h123 h124 h125 h126 h127 d : BitVec 32} (e : holds g 0 [h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51, h52, h53, h54, h55, h56, h57, h58, h59, h60, h61, h62, h63, h64, h65, h66, h67, h68, h69, h70, h71, h72, h73, h74, h75, h76, h77, h78, h79, h80, h81, h82, h83, h84, h85, h86, h87, h88, h89, h90, h91, h92, h93, h94, h95, h96, h97, h98, h99, h100, h101, h102, h103, h104, h105, h106, h107, h108, h109, h110, h111, h112, h113, h114, h115, h116, h117, h118, h119, h120, h121, h122, h123, h124, h125, h126, h127] = true) (x : ℕ) (hx : x < 128) :
    (match (generalizing := false) x with
    | 0 => h0 | 1 => h1 | 2 => h2 | 3 => h3 | 4 => h4 | 5 => h5 | 6 => h6 | 7 => h7
    | 8 => h8 | 9 => h9 | 10 => h10 | 11 => h11 | 12 => h12 | 13 => h13 | 14 => h14 | 15 => h15
    | 16 => h16 | 17 => h17 | 18 => h18 | 19 => h19 | 20 => h20 | 21 => h21 | 22 => h22 | 23 => h23
    | 24 => h24 | 25 => h25 | 26 => h26 | 27 => h27 | 28 => h28 | 29 => h29 | 30 => h30 | 31 => h31
    | 32 => h32 | 33 => h33 | 34 => h34 | 35 => h35 | 36 => h36 | 37 => h37 | 38 => h38 | 39 => h39
    | 40 => h40 | 41 => h41 | 42 => h42 | 43 => h43 | 44 => h44 | 45 => h45 | 46 => h46 | 47 => h47
    | 48 => h48 | 49 => h49 | 50 => h50 | 51 => h51 | 52 => h52 | 53 => h53 | 54 => h54 | 55 => h55
    | 56 => h56 | 57 => h57 | 58 => h58 | 59 => h59 | 60 => h60 | 61 => h61 | 62 => h62 | 63 => h63
    | 64 => h64 | 65 => h65 | 66 => h66 | 67 => h67 | 68 => h68 | 69 => h69 | 70 => h70 | 71 => h71
    | 72 => h72 | 73 => h73 | 74 => h74 | 75 => h75 | 76 => h76 | 77 => h77 | 78 => h78 | 79 => h79
    | 80 => h80 | 81 => h81 | 82 => h82 | 83 => h83 | 84 => h84 | 85 => h85 | 86 => h86 | 87 => h87
    | 88 => h88 | 89 => h89 | 90 => h90 | 91 => h91 | 92 => h92 | 93 => h93 | 94 => h94 | 95 => h95
    | 96 => h96 | 97 => h97 | 98 => h98 | 99 => h99 | 100 => h100 | 101 => h101 | 102 => h102 | 103 => h103
    | 104 => h104 | 105 => h105 | 106 => h106 | 107 => h107 | 108 => h108 | 109 => h109 | 110 => h110 | 111 => h111
    | 112 => h112 | 113 => h113 | 114 => h114 | 115 => h115 | 116 => h116 | 117 => h117 | 118 => h118 | 119 => h119
    | 120 => h120 | 121 => h121 | 122 => h122 | 123 => h123 | 124 => h124 | 125 => h125 | 126 => h126 | 127 => h127
    | _ => d) = g x := by
  have key := holds_at g _ 0 e x hx
  rw [Nat.zero_add] at key
  refine Eq.trans ?_ key
  interval_cases x <;> rfl

/-- A quarter of the tables. -/
theorem quarters (i : ℕ) : (i / 16384 = 0 → lit0t1_0 i = bit (i / 256) (i % 256)) ∧ (i / 16384 = 1 → lit0t1_1 i = bit (i / 256) (i % 256))
    ∧ (i / 16384 = 2 → lit0t1_2 i = bit (i / 256) (i % 256)) ∧ (i / 16384 = 3 → lit0t1_3 i = bit (i / 256) (i % 256)) := by
  have hj : i / 128 % 128 < 128 := Nat.mod_lt _ (by decide)
  rw [show i / 256 = i / 16384 * 64 + i / 128 % 128 / 2 by omega, show i % 256 = i / 128 % 128 % 2 * 128 + i % 128 by omega]
  refine ⟨?_, ?_, ?_, ?_⟩ <;> intro hi <;> rw [hi] <;> clear hi
  all_goals
    first | unfold lit0t1_0 | unfold lit0t1_1 | unfold lit0t1_2 | unfold lit0t1_3
    generalize i / 128 % 128 = j at hj ⊢
    interval_cases j <;> exact pick (fun x => bit _ (_ + x)) (by decide +kernel) (i % 128) (Nat.mod_lt _ (by decide))

theorem lit_tri (r s : Fin 256) : lit0 (S256x256.rowMajor (ix2 r s)) = bit r s := by
  have e : (S256x256.rowMajor (ix2 r s)).val = r.val * 256 + s.val := by
    rw [show (S256x256.rowMajor (ix2 r s)).val = _ from rowMajor_val2 (ix2 r s) 256 rfl]; rfl
  refine (show lit0 (S256x256.rowMajor (ix2 r s)) = lit0t (S256x256.rowMajor (ix2 r s)).val from rfl).trans ?_
  obtain ⟨h0, h1, h2, h3⟩ := quarters (r.val * 256 + s.val)
  rw [e, show bit r s = bit ((r.val * 256 + s.val) / 256) ((r.val * 256 + s.val) % 256) by congr 1 <;> omega]
  have hr := r.isLt
  have hs := s.isLt
  have hi : r.val * 256 + s.val < 65536 := by omega
  generalize r.val * 256 + s.val = i at hi h0 h1 h2 h3 ⊢
  unfold lit0t
  have h4 : i / 16384 < 4 := by omega
  generalize i / 16384 = q at h4 h0 h1 h2 h3 ⊢
  interval_cases q
  · exact h0 rfl
  · exact h1 rfl
  · exact h2 rfl
  · exact h3 rfl

end Cert.Kernel6Ideal.Gla

end
-- ==== Proof.GlaSeq.lean ====
/- The states before every chunk and the rows put out, of all eight heads, from the projected rows and the gates' bounds. -/
module

public import proofs.«01_k».proof.Proof.GlaMath

@[expose] public section

noncomputable section

namespace Cert.Gla
open Cert.Lift Cert.In

/-- The state of head `h` before chunk `n`. -/
def hst (P L : EMat) (n h : ℕ) : EMat := st (cols (128 * h) (cols 1024 P)) (cols (128 * h) (cols 3072 P)) (cols (128 * h) L) n
/-- Row `r`, column `j` of the rows put out. -/
def hout (P L : EMat) : EMat := fun r j =>
  out (cols (128 * (j / 128)) (cols 0 P)) (cols (128 * (j / 128)) (cols 1024 P)) (cols (128 * (j / 128)) (cols 3072 P)) (cols (128 * (j / 128)) L)
    (hst P L (r / 64) (j / 128)) r (j % 128)

end Cert.Gla

end
-- ==== Proof.GlaFold.lean ====
/- What the launch leaves in its two result arrays: block `t` is rows `256 t` on, and the carried state before it is the state
   before chunk `4 t`. -/
module

public import proofs.«01_k».proof.Proof.Gen.Kernel6Ideal.Value
public import proofs.«01_k».proof.Proof.GlaBlock
public import proofs.«01_k».proof.Proof.GlaTri
public import proofs.«01_k».proof.Proof.GlaSeq

@[expose] public section

set_option maxRecDepth 65536
set_option maxHeartbeats 400000

noncomputable section

open Idealize.ShloMosaic Idealize.ShloMosaic.TcCoe Idealize.SL.Sem

namespace Cert.Kernel6Ideal.Gla
open Cert.Kernel6Ideal Cert.Kernel6Ideal.Gen Cert.Lift Cert.In Cert.Gla

theorem idx : ∀ t : Fin cfg0.N, win0_0.index t = ![0, 0] ∧ win0_1.index t = ![t.val, 0] ∧ win0_2.index t = ![t.val, 1]
    ∧ win0_3.index t = ![t.val, 3] ∧ win0_4.index t = ![0, 0] ∧ win0_5.index t = ![t.val, 0] ∧ win0_6.index t = ![0, t.val, 0, 0] ∧ t.val < 16 :=
  (by decide +kernel : ∀ t : Fin grid0.N, _)

variable {m : (ℓ : Loc nD τ sig) → Buf (Elt Ideal) ℓ} {c : Dev nD} {P L : EMat}
  (h0 : He (a := 4096) (b := 13312) (φ := .bf16) (m ((c : Thread nD τ).loc main_arg0)) P)
  (h1 : He (a := 1) (b := 1024) (φ := .f32) (m ((c : Thread nD τ).loc main_arg1)) L)

theorem blk0 (t : Fin cfg0.N) : Tri (iblk m c 0 t) := fun r s => by
  have e : (show FVec Ideal S256x256 .f32 from iblk m c 0 t) (ix2 r s) = Ideal.ofBits .f32 (lit0 (S256x256.rowMajor (ix2 r s))) := by
    blk_ext [iblk, V, idx t]
  refine e.trans ?_
  rw [lit_tri]
  split
  · exact (by simp [Ideal.ofBits, Ideal.ieee]; rw [← EReal.coe_mul, ← EReal.coe_one]; norm_num : Ideal.ofBits FTy.f32 0x3F800000#32 = 1)
  · exact (by simp [Ideal.ofBits, Ideal.ieee] : Ideal.ofBits FTy.f32 0#32 = 0)

include h0 in
theorem blk1 (t : Fin cfg0.N) : He (a := 256) (b := 1024) (φ := .bf16) (iblk m c 1 t) (blk t (cols 0 P)) := fun r l => by
  have hh := (idx t).2.2.2.2.2.2.2
  have e : (show FVec Ideal S256x1024 .bf16 from iblk m c 1 t) (ix2 r l)
      = (show FVec Ideal S4096x13312 .bf16 from m ((c : Thread nD τ).loc main_arg0)) (ix2 ⟨t.val * 256 + r, by omega⟩ ⟨0 + l.val, by omega⟩) := by
    blk_ext [iblk, V, idx t]
  exact e.trans (h0 _ _)
include h0 in
theorem blk2 (t : Fin cfg0.N) : He (a := 256) (b := 1024) (φ := .bf16) (iblk m c 2 t) (blk t (cols 1024 P)) := fun r l => by
  have hh := (idx t).2.2.2.2.2.2.2
  have e : (show FVec Ideal S256x1024 .bf16 from iblk m c 2 t) (ix2 r l)
      = (show FVec Ideal S4096x13312 .bf16 from m ((c : Thread nD τ).loc main_arg0)) (ix2 ⟨t.val * 256 + r, by omega⟩ ⟨1024 + l.val, by omega⟩) := by
    blk_ext [iblk, V, idx t]
  exact e.trans (h0 _ _)
include h0 in
theorem blk3 (t : Fin cfg0.N) : He (a := 256) (b := 1024) (φ := .bf16) (iblk m c 3 t) (blk t (cols 3072 P)) := fun r l => by
  have hh := (idx t).2.2.2.2.2.2.2
  have e : (show FVec Ideal S256x1024 .bf16 from iblk m c 3 t) (ix2 r l)
      = (show FVec Ideal S4096x13312 .bf16 from m ((c : Thread nD τ).loc main_arg0)) (ix2 ⟨t.val * 256 + r, by omega⟩ ⟨3072 + l.val, by omega⟩) := by
    blk_ext [iblk, V, idx t]
  exact e.trans (h0 _ _)
include h1 in
theorem blk4 (t : Fin cfg0.N) : He (a := 1) (b := 1024) (φ := .f32) (iblk m c 4 t) L := fun r l => by
  have e : (show FVec Ideal S1x1024 .f32 from iblk m c 4 t) (ix2 r l)
      = (show FVec Ideal S1x1024 .f32 from m ((c : Thread nD τ).loc main_arg1)) (ix2 r l) := by
    blk_ext [iblk, V, idx t]
  exact e.trans (h1 _ _)

theorem stf_hst (P L : EMat) (t n h : ℕ) : stf (cols (128 * h) (blk t (cols 1024 P))) (cols (128 * h) (blk t (cols 3072 P))) (cols (128 * h) L) (hst P L (t * 4) h) n
    = hst P L (t * 4 + n) h :=
  stf_blk t (cols (128 * h) (cols 1024 P)) (cols (128 * h) (cols 3072 P)) (cols (128 * h) L) n

theorem row_hout (P L : EMat) (t r j : ℕ) : row (blk t (cols 0 P)) (blk t (cols 1024 P)) (blk t (cols 3072 P)) L (fun h => hst P L (t * 4) h) r j
    = Cert.Gla.hout P L (t * 256 + r) j := by
  unfold row Cert.Gla.hout
  rw [stf_hst, show (t * 256 + r) / 64 = t * 4 + r / 64 by omega]
  exact out_blk t (cols (128 * (j / 128)) (cols 0 P)) (cols (128 * (j / 128)) (cols 1024 P)) (cols (128 * (j / 128)) (cols 3072 P)) (cols (128 * (j / 128)) L) r (j % 128) _

theorem hst_zero (P L : EMat) : (fun _ _ _ => 0 : ℕ → EMat) = fun h => hst P L (0 * 4) h := rfl

theorem point (P L : EMat) (n : ℕ) (S : ℕ → EMat) (hS : S = fun h => hst P L (n * 4) h) :
    rows (blk n (cols 0 P)) (blk n (cols 1024 P)) (blk n (cols 3072 P)) L S
      = (fun y : S256x1024.Idx => Cert.Gla.hout P L (n * 256 + (y 0).val) (y 1).val)
    ∧ sts (blk n (cols 1024 P)) (blk n (cols 3072 P)) L S = (fun y : S8x4x128x128.Idx => hst P L (n * 4 + (y 1).val) (y 0).val (y 2).val (y 3).val)
    ∧ carry (blk n (cols 1024 P)) (blk n (cols 3072 P)) L S = (fun y : S8x128x128.Idx => hst P L (n * 4 + 4) (y 0).val (y 1).val (y 2).val) := by
  subst hS
  refine ⟨funext fun y => row_hout P L n _ _, funext fun y => ?_, funext fun y => ?_⟩
  · exact congrFun (congrFun (stf_hst P L n _ _) _) _
  · exact congrFun (congrFun (stf_hst P L n 4 _) _) _

theorem ncond (t : Fin cfg0.N) (ht : ¬ t.val % 16 = 0) : ¬ cond0_0 (grid0.coords t) := fun h => ht ((hcond0_0 t).mp h)

include h0 h1
/-- What a point leaves: its rows, its states, and the state it hands on. -/
theorem pointA (t : Fin cfg0.N) (ht : t.val % 16 = 0) : outsAt0 m c t.val t.isLt
    = (rows (blk t (cols 0 P)) (blk t (cols 1024 P)) (blk t (cols 3072 P)) L (fun _ _ _ => 0), sts (blk t (cols 1024 P)) (blk t (cols 3072 P)) L (fun _ _ _ => 0),
      carry (blk t (cols 1024 P)) (blk t (cols 3072 P)) L (fun _ _ _ => 0)) := by
  have k5 := out5A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
      (iblk m c 0 t) (iblk m c 1 t) (iblk m c 2 t) (iblk m c 3 t) (iblk m c 4 t) (blk0 t) (blk1 h0 t) (blk2 h0 t) (blk3 h0 t) (blk4 h1 t) ((hcond0_0 t).mpr ht)
  have k6 := out6A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
      (iblk m c 0 t) (iblk m c 1 t) (iblk m c 2 t) (iblk m c 3 t) (iblk m c 4 t) (blk2 h0 t) (blk3 h0 t) (blk4 h1 t) ((hcond0_0 t).mpr ht)
  have kS := soutA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
      (iblk m c 0 t) (iblk m c 1 t) (iblk m c 2 t) (iblk m c 3 t) (iblk m c 4 t) (blk2 h0 t) (blk3 h0 t) (blk4 h1 t) ((hcond0_0 t).mpr ht)
  rw [outsAt0_A m c t ht, k5, k6, kS]
theorem pointB (t : Fin cfg0.N) (ht : ¬ t.val % 16 = 0) {S : ℕ → EMat} (hS : HeS (outsAt0 m c (t.val - 1) (by omega)).2.2 S) : outsAt0 m c t.val t.isLt
    = (rows (blk t (cols 0 P)) (blk t (cols 1024 P)) (blk t (cols 3072 P)) L S, sts (blk t (cols 1024 P)) (blk t (cols 3072 P)) L S,
      carry (blk t (cols 1024 P)) (blk t (cols 3072 P)) L S) :=
  (outsAt0_B m c t ht).trans (Prod.ext
    (out5B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
      (iblk m c 0 t) (iblk m c 1 t) (iblk m c 2 t) (iblk m c 3 t) (iblk m c 4 t) (outsAt0 m c (t.val - 1) (by omega)).2.2 (blk0 t) (blk1 h0 t) (blk2 h0 t) (blk3 h0 t) (blk4 h1 t) (ncond t ht) hS)
    (Prod.ext (out6B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
      (iblk m c 0 t) (iblk m c 1 t) (iblk m c 2 t) (iblk m c 3 t) (iblk m c 4 t) (outsAt0 m c (t.val - 1) (by omega)).2.2 (blk2 h0 t) (blk3 h0 t) (blk4 h1 t) (ncond t ht) hS)
    (soutB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
      (iblk m c 0 t) (iblk m c 1 t) (iblk m c 2 t) (iblk m c 3 t) (iblk m c 4 t) (outsAt0 m c (t.val - 1) (by omega)).2.2 (blk2 h0 t) (blk3 h0 t) (blk4 h1 t) (ncond t ht) hS)))

/-- What every point leaves, over the whole sequence. -/
theorem points : ∀ (n : ℕ) (hn : n < cfg0.N), (outsAt0 m c n hn).1 = (fun y : S256x1024.Idx => Cert.Gla.hout P L (n * 256 + (y 0).val) (y 1).val)
    ∧ (outsAt0 m c n hn).2.1 = (fun y : S8x4x128x128.Idx => hst P L (n * 4 + (y 1).val) (y 0).val (y 2).val (y 3).val)
    ∧ (outsAt0 m c n hn).2.2 = (fun y : S8x128x128.Idx => hst P L (n * 4 + 4) (y 0).val (y 1).val (y 2).val)
  | 0, hn => by
    have e := pointA h0 h1 ⟨0, hn⟩ (Nat.zero_mod 16)
    obtain ⟨e1, e2, e3⟩ := point P L 0 _ (hst_zero P L)
    exact ⟨(congrArg (fun x => x.1) e).trans e1, (congrArg (fun x => x.2.1) e).trans e2, (congrArg (fun x => x.2.2) e).trans e3⟩
  | n + 1, hn => by
    have hN : n + 1 < 16 := (idx ⟨n + 1, hn⟩).2.2.2.2.2.2.2
    have hS : HeS (outsAt0 m c n (by omega)).2.2 (fun h => hst P L ((n + 1) * 4) h) := fun h r l => by
      rw [(points n (by omega)).2.2, show (n + 1) * 4 = n * 4 + 4 by omega]
      rfl
    have e := pointB h0 h1 ⟨n + 1, hn⟩ (show ¬ (n + 1) % 16 = 0 by omega) hS
    obtain ⟨e1, e2, e3⟩ := point P L (n + 1) _ rfl
    exact ⟨(congrArg (fun x => x.1) e).trans e1, (congrArg (fun x => x.2.1) e).trans e2, (congrArg (fun x => x.2.2) e).trans e3⟩

theorem final5 : He (a := 4096) (b := 1024) (φ := .f32) ((dats m 0 c).arrAt 5 cfg0.N) (Cert.Gla.hout P L) := by
  have e : (dats m 0 c).arrAt 5 cfg0.N = fun i => Cert.Gla.hout P L (i 0).val (i 1).val := by
    refine (dats m 0 c).arrAt_eq_of_covers 5 _ (by decide +kernel) fun t hf y => ?_
    blk_simp
    rw [after0_5, (points h0 h1 t.val t.isLt).1]
    blk_simp [idx t]
  exact fun r l => congrFun e (ix2 r l)

theorem final6 : (dats m 0 c).arrAt 6 cfg0.N = fun i => hst P L (i 1).val (i 0).val (i 2).val (i 3).val := by
  refine (dats m 0 c).arrAt_eq_of_covers 6 _ (by decide +kernel) fun t hf y => ?_
  blk_simp
  rw [after0_6, (points h0 h1 t.val t.isLt).2.1]
  blk_simp [idx t]

end Cert.Kernel6Ideal.Gla

end
-- ==== Proof.GlaStep.lean ====
/- The reference's loop, one trip at a time: what the loop's buffers hold at each trip is the state of that trip. -/
module

public import proofs.«01_k».proof.Proof.Gen.Reference6Ideal.Run
public import proofs.«01_k».proof.Proof.Gen.Reference6Ideal.Step

@[expose] public section

noncomputable section

namespace Cert.Reference6Ideal.Trip

open Idealize.ShloMosaic Idealize.ShloMosaic.TcCoe Idealize.SL.Sem Idealize.ShloMosaic.StableHlo
open Cert.Reference6Ideal Cert.Reference6Ideal.Gen Cert.Reference6Ideal.Value
open Cert.Reference6Ideal.Step (State step init)

variable {F : FTy → Type} [FloatOps F] {V0 : Valuation τ sig (Elt F)} {s : State F} {j : ℕ}

/-- The loop's buffers hold the state `s`, its counter the trip's number, and its constant the lower triangle. -/
structure Holds (V0 : Valuation τ sig (Elt F)) (s : State F) (j : ℕ) : Prop where
  S : V0 (Proc.devRef .tc main_v35_6) = s.main_v35_6
  o : V0 (Proc.devRef .tc main_v35_7) = s.main_v35_7
  t : V0 (Proc.devRef .tc main_v35_8) = s.main_v35_8
  q : V0 (Proc.devRef .tc main_v35_0) = s.main_v35_0
  k : V0 (Proc.devRef .tc main_v35_1) = s.main_v35_1
  v : V0 (Proc.devRef .tc main_v35_2) = s.main_v35_2
  f : V0 (Proc.devRef .tc main_v35_3) = s.main_v35_3
  n : V0 (Proc.devRef .tc main_v35_5) = constantI S_ 32 (BitVec.ofNat 32 j)
  m : V0 (Proc.devRef .tc main_v35_4) = Step.K_main_v31 (F := F)

set_option maxRecDepth 8192 in
theorem trip_S (h : Holds V0 s j) : step_main_v35_6 V0 = Step.b48 j s := by
  unfold step_main_v35_6 res_main_while0b_v41 res_main_while0b_v42 res_main_while0b_v45 res_main_while0b_v44
  rw [h.k, h.v, h.f, h.n, h.S]
  rfl
set_option maxRecDepth 8192 in
theorem trip_o (h : Holds V0 s j) : step_main_v35_7 V0 = Step.b53 j s := by
  unfold step_main_v35_7 res_main_while0b_v47 res_main_while0b_v41 res_main_while0b_v42 res_main_while0b_v44
  rw [h.q, h.k, h.v, h.f, h.n, h.m, h.S, h.o]
  rfl
set_option maxRecDepth 8192 in
theorem trip_t (h : Holds V0 s j) : step_main_v35_8 V0 = Step.b58 j s := by
  unfold step_main_v35_8
  rw [h.n, h.S, h.t]
  rfl
theorem trip_n (h : Holds V0 s j) : step_main_v35_5 V0 = constantI S_ 32 (BitVec.ofNat 32 (j + 1)) := by
  unfold step_main_v35_5
  rw [h.n]
  funext i
  show BitVec.ofNat 32 j + 1#32 = BitVec.ofNat 32 (j + 1)
  rw [BitVec.ofNat_add]

theorem trip (h : Holds V0 s j) : Holds (STEP V0) (step j s) (j + 1) where
  S := (STEP_main_v35_6 V0).trans (trip_S h)
  o := (STEP_main_v35_7 V0).trans (trip_o h)
  t := (STEP_main_v35_8 V0).trans (trip_t h)
  q := (STEP_main_v35_0 V0).trans h.q
  k := (STEP_main_v35_1 V0).trans h.k
  v := (STEP_main_v35_2 V0).trans h.v
  f := (STEP_main_v35_3 V0).trans h.f
  n := (STEP_main_v35_5 V0).trans (trip_n h)
  m := (STEP_main_v35_4 V0).trans h.m

variable (m : (ℓ : Loc nD τ sig) → Buf (Elt F) ℓ) (c : Dev nD)

/-- The state before trip `k`. -/
def iter (m : (ℓ : Loc nD τ sig) → Buf (Elt F) ℓ) (c : Dev nD) : ℕ → State F
  | 0 => init (m ((c.tc : Thread nD τ).loc main_arg0)) (m ((c.tc : Thread nD τ).loc main_arg1))
  | k + 1 => step k (iter m c k)

set_option maxRecDepth 65536 in
set_option maxHeartbeats 500000 in
theorem entry : Holds (entryContents preI m c) (iter m c 0) 0 := by
  constructor <;> (simp only [entryContents, afterL_cons, afterL_nil]; after_reads_simp) <;> rfl

theorem iters : ∀ k, Holds (STEP^[k] (entryContents preI m c)) (iter m c k) k
  | 0 => entry m c
  | k + 1 => by
    rw [Function.iterate_succ_apply']
    exact trip (iters k)

set_option maxRecDepth 8192 in
theorem out_o (h : Holds V0 s j) : out_main_v37 V0 = Step.R_main_v37 s := by
  unfold out_main_v37 Step.R_main_v37
  rw [h.o]
  rfl
set_option maxRecDepth 8192 in
theorem out_t (h : Holds V0 s j) : out_main_v39 V0 = Step.R_main_v39 s := by
  unfold out_main_v39 Step.R_main_v39
  rw [h.t]

/-- Every execution ends with the results at the state after the last trip, and the arguments unchanged. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v37) = Step.R_main_v37 (iter m c 64)
      ∧ r.2.mem ((c.tc : Thread nD τ).loc main_v39) = Step.R_main_v39 (iter m c 64)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(h c).1.trans (out_o (iters m c 64)), (h c).2.1.trans (out_t (iters m c 64)), (h c).2.2.1, (h c).2.2.2⟩) (Value.run m ρ)

end Cert.Reference6Ideal.Trip

end
-- ==== Proof.GlaRefA.lean ====
/- The reference's arrays before its loop, and one trip's values, entry by entry. -/
module

public import proofs.«01_k».proof.Proof.GlaStep
public import proofs.«01_k».proof.Proof.GlaSeq
public import Idealize.ShloMosaic.Lib.Pointwise

@[expose] public section

set_option maxRecDepth 16384

noncomputable section

open Idealize.ShloMosaic Idealize.ShloMosaic.TcCoe Idealize.SL.Sem

namespace Cert.Reference6Ideal.Gla
open Cert.Reference6Ideal Cert.Reference6Ideal.Gen Cert.Reference6Ideal.Step Cert.Lift Cert.In Cert.Gla

variable {x0 : (⟨S4096x13312, .bf16⟩ : BufTy).Contents (Elt Ideal)} {x1 : (⟨S1x1024, .f32⟩ : BufTy).Contents (Elt Ideal)} {P L : EMat}
  (h0 : He (a := 4096) (b := 13312) (φ := .bf16) x0 P) (h1 : He (a := 1) (b := 1024) (φ := .f32) x1 L)

variable {s : State Ideal} {n : Fin 64}

/-! The trip's number as a start of a slice: the slice starts at it, and at zero on the other axes. -/
section
variable (n : Fin 64) {t : Shape} (hs : S64x8x64x128.Slices (fun _ => 0) S1x8x64x128) (ht : S64x8x128x128.Slices (fun _ => 0) S1x8x128x128)
abbrev at4 (n : Fin 64) : Fin 4 → Int := fun k => BitVec.toInt ((![constantI S_ 32 (BitVec.ofNat 32 n.val), constantI S_ 32 0#32, constantI S_ 32 0#32,
    constantI S_ 32 0#32] : Fin 4 → (⟨S_, .i32⟩ : BufTy).Contents (Elt Ideal)) k (Shape.Idx.first h_S_))
theorem num (n : Fin 64) : (BitVec.ofNat 32 n.val).toInt = (n.val : Int) := (by decide +kernel : ∀ n : Fin 64, (BitVec.ofNat 32 n.val).toInt = (n.val : Int)) n
theorem cl0 : Host.clampedStart S64x8x64x128 S1x8x64x128 hs.1 (at4 n) 0 = n.val :=
  Host.clampedStart_of_le hs.1 (at4 n) 0 n.val (num n) (show n.val + 1 ≤ 64 by omega)
theorem cl1 : Host.clampedStart S64x8x64x128 S1x8x64x128 hs.1 (at4 n) 1 = 0 := Host.clampedStart_of_le hs.1 (at4 n) 1 0 rfl (show 0 + 8 ≤ 8 by omega)
theorem cl2 : Host.clampedStart S64x8x64x128 S1x8x64x128 hs.1 (at4 n) 2 = 0 := Host.clampedStart_of_le hs.1 (at4 n) 2 0 rfl (show 0 + 64 ≤ 64 by omega)
theorem cl3 : Host.clampedStart S64x8x64x128 S1x8x64x128 hs.1 (at4 n) 3 = 0 := Host.clampedStart_of_le hs.1 (at4 n) 3 0 rfl (show 0 + 128 ≤ 128 by omega)
theorem ct0 : Host.clampedStart S64x8x128x128 S1x8x128x128 ht.1 (at4 n) 0 = n.val :=
  Host.clampedStart_of_le ht.1 (at4 n) 0 n.val (num n) (show n.val + 1 ≤ 64 by omega)
theorem ct1 : Host.clampedStart S64x8x128x128 S1x8x128x128 ht.1 (at4 n) 1 = 0 := Host.clampedStart_of_le ht.1 (at4 n) 1 0 rfl (show 0 + 8 ≤ 8 by omega)
theorem ct2 : Host.clampedStart S64x8x128x128 S1x8x128x128 ht.1 (at4 n) 2 = 0 := Host.clampedStart_of_le ht.1 (at4 n) 2 0 rfl (show 0 + 128 ≤ 128 by omega)
theorem ct3 : Host.clampedStart S64x8x128x128 S1x8x128x128 ht.1 (at4 n) 3 = 0 := Host.clampedStart_of_le ht.1 (at4 n) 3 0 rfl (show 0 + 128 ≤ 128 by omega)

/-- Slice `n` of a stack. -/
theorem slice (x : FVec Ideal S64x8x64x128 .f32) (h : Fin 8) (t : Fin 64) (i : Fin 128) :
    shapeCast S8x64x128 (Host.dynamicSlice S1x8x64x128 x (at4 n) hs) shapeCasts_S1x8x64x128_S8x64x128 (ix3 h t i) = x (ix4 n h t i) := by
  pointwise
  simp only [cl0 n hs, cl1 n hs, cl2 n hs, cl3 n hs, zero_add]
/-- A stack with its slice `n` replaced. -/
theorem upd (x : FVec Ideal S64x8x64x128 .f32) (y : FVec Ideal S8x64x128 .f32) (a : Fin 64) (h : Fin 8) (t : Fin 64) (i : Fin 128) :
    Host.dynamicUpdateSlice x (broadcastInDim S1x8x64x128 ![1, 2, 3] bcast_S8x64x128_S1x8x64x128_1_2_3 y) (at4 n) hs (ix4 a h t i)
      = if a = n then y (ix3 h t i) else x (ix4 a h t i) := by
  pointwise
  simp only [cl0 n hs, cl1 n hs, cl2 n hs, cl3 n hs, Nat.sub_zero, Nat.zero_le, and_true]
  by_cases e : a = n
  · subst e
    rw [dif_pos ⟨le_rfl, by omega⟩, if_pos rfl]
  · rw [dif_neg (fun hh => e (Fin.ext (by omega))), if_neg e]
theorem updt (x : FVec Ideal S64x8x128x128 .f32) (y : FVec Ideal S8x128x128 .f32) (a : Fin 64) (h : Fin 8) (t : Fin 128) (i : Fin 128) :
    Host.dynamicUpdateSlice x (broadcastInDim S1x8x128x128 ![1, 2, 3] bcast_S8x128x128_S1x8x128x128_1_2_3 y) (at4 n) ht (ix4 a h t i)
      = if a = n then y (ix3 h t i) else x (ix4 a h t i) := by
  pointwise
  simp only [ct0 n ht, ct1 n ht, ct2 n ht, ct3 n ht, Nat.sub_zero, Nat.zero_le, and_true]
  by_cases e : a = n
  · subst e
    rw [dif_pos ⟨le_rfl, by omega⟩, if_pos rfl]
  · rw [dif_neg (fun hh => e (Fin.ext (by omega))), if_neg e]
end

/-! The running sum of a chunk: a window of 64 rows that ends at the row. -/
theorem fold_add {N : ℕ} (f : Fin N → EReal) (v : EReal) : (List.finRange N).foldl (fun r n => r + f n) v = v + ∑ n, f n := by
  have g : ∀ (l : List (Fin N)) (v : EReal), l.foldl (fun r n => r + f n) v = v + (l.map f).sum := by
    intro l
    induction l with
    | nil => intro v; simp
    | cons a l ih => intro v; rw [List.foldl_cons, ih, List.map_cons, List.sum_cons, add_assoc]
  rw [g, Fin.sum_univ_def]

def wide : (⟨3, ![1, 64, 1]⟩ : Shape).Idx ≃ Fin 64 where
  toFun w := w 1
  invFun u := ix3 0 u 0
  left_inv w := funext fun k => match k with
    | ⟨0, _⟩ => Subsingleton.elim (α := Fin 1) _ _
    | ⟨1, _⟩ => rfl
    | ⟨2, _⟩ => Subsingleton.elim (α := Fin 1) _ _
  right_inv u := rfl

theorem last (t : ℕ) (ht : t < 64) (f : ℕ → EReal) : (∑ u : Fin 64, if 63 ≤ t + u.val then f (t + u.val - 63) else 0) = ∑ u ∈ Finset.range (t + 1), f u := by
  rw [Fin.sum_univ_eq_sum_range (fun u => if 63 ≤ t + u then f (t + u - 63) else 0) 64, show 64 = (63 - t) + (t + 1) by omega, Finset.sum_range_add,
    Finset.sum_eq_zero, zero_add]
  · refine Finset.sum_congr rfl fun u _ => ?_
    rw [if_pos (by omega), show t + (63 - t + u) - 63 = u by omega]
  · intro u hu
    have := Finset.mem_range.mp hu
    rw [if_neg (by omega)]

theorem running (x : FVec Ideal S8x64x128 .f32) (z : FVec Ideal S_ .f32) (hz : z (Shape.Idx.first h_S_) = 0) (X : EMat) (h : Fin 8) (t : Fin 64) (i : Fin 128)
    (n : ℕ) (hx : ∀ u : Fin 64, x (ix3 h u i) = X (n * 64 + u) i) :
    Host.reduceWindowAdd ![1, 64, 1] ![1, 1, 1] ![0, 63, 0] ![0, 0, 0] x z reduceWindows_S8x64x128_S8x64x128_w1s1p0_0_w64s1p63_0_w1s1p0_0 h_S_ (ix3 h t i)
      = cum X (n * 64 + t) i := by
  unfold Host.reduceWindowAdd
  rw [Ideal.hostReduceWindowAdd_def]
  unfold Ideal.hostReduceWindowAdd Host.reduceWindow
  dsimp only
  refine (fold_add _ _).trans ?_
  rw [hz, zero_add]
  have e2 := last t.val t.isLt (fun u => X (n * 64 + u) i)
  unfold cum
  rw [show (n * 64 + t.val) % 64 = t.val by omega, show (n * 64 + t.val) / 64 * 64 = n * 64 by omega, ← e2]
  let G : (⟨3, ![1, 64, 1]⟩ : Shape).Idx → EReal := fun w => if 63 ≤ t.val + (w 1).val then X (n * 64 + (t.val + (w 1).val - 63)) i else 0
  refine (Finset.sum_congr rfl (g := fun k => G ((Shape.rowMajor ⟨3, ![1, 64, 1]⟩).symm k)) fun k _ => ?_).trans
    ((Equiv.sum_comp (Shape.rowMajor ⟨3, ![1, 64, 1]⟩).symm G).trans (Equiv.sum_comp wide.symm G).symm)
  let w : (⟨3, ![1, 64, 1]⟩ : Shape).Idx := (Shape.rowMajor ⟨3, ![1, 64, 1]⟩).symm k
  have w0 : (w 0).val = 0 := Nat.lt_one_iff.mp (w 0).isLt
  have w2 : (w 2).val = 0 := Nat.lt_one_iff.mp (w 2).isLt
  have w1 : (w 1).val < 64 := (w 1).isLt
  have h1 := h.isLt
  have h2 := i.isLt
  have h3 := t.isLt
  show _ = if 63 ≤ t.val + (w 1).val then X (n * 64 + (t.val + (w 1).val - 63)) i else 0
  by_cases c : 63 ≤ t.val + (w 1).val
  · rw [if_pos c, dif_pos]
    · have := hx ⟨t.val + (w 1).val - 63, by omega⟩
      refine Eq.trans (congrArg x (funext fun a => ?_)) this
      match a with
      | ⟨0, _⟩ => exact Fin.ext (show h.val * 1 + (w 0).val - 0 = h.val by omega)
      | ⟨1, _⟩ => exact Fin.ext (show t.val * 1 + (w 1).val - 63 = t.val + (w 1).val - 63 by omega)
      | ⟨2, _⟩ => exact Fin.ext (show i.val * 1 + (w 2).val - 0 = i.val by omega)
    · intro a
      match a with
      | ⟨0, _⟩ => exact (show 0 ≤ h.val * 1 + (w 0).val ∧ h.val * 1 + (w 0).val - 0 < 8 by omega)
      | ⟨1, _⟩ => exact (show 63 ≤ t.val * 1 + (w 1).val ∧ t.val * 1 + (w 1).val - 63 < 64 by omega)
      | ⟨2, _⟩ => exact (show 0 ≤ i.val * 1 + (w 2).val ∧ i.val * 1 + (w 2).val - 0 < 128 by omega)
  · rw [if_neg c, dif_neg]
    intro hh
    have q : 63 ≤ t.val * 1 + (w 1).val := (hh 1).1
    omega

end Cert.Reference6Ideal.Gla
end
-- ==== Proof.GlaRefB.lean ====
/- The reference's states and rows are those of the gated recurrence: its arrays before the loop, one trip, and all the trips. -/
module

public import proofs.«01_k».proof.Proof.GlaRefA

@[expose] public section

set_option maxRecDepth 16384

noncomputable section

open Idealize.ShloMosaic Idealize.ShloMosaic.TcCoe Idealize.SL.Sem

namespace Cert.Reference6Ideal.Gla
open Cert.Reference6Ideal Cert.Reference6Ideal.Gen Cert.Reference6Ideal.Step Cert.Lift Cert.In Cert.Gla

/-- The queries, gates, values and bounds of head `h`. -/
abbrev hq (P : EMat) (h : ℕ) : EMat := cols (128 * h) (cols 0 P)
abbrev hf (P : EMat) (h : ℕ) : EMat := cols (128 * h) (cols 1024 P)
abbrev hv (P : EMat) (h : ℕ) : EMat := cols (128 * h) (cols 3072 P)
abbrev hl (L : EMat) (h : ℕ) : EMat := cols (128 * h) L

section
variable {x0 : (⟨S4096x13312, .bf16⟩ : BufTy).Contents (Elt Ideal)} {x1 : (⟨S1x1024, .f32⟩ : BufTy).Contents (Elt Ideal)} {P L : EMat}
  (h0 : He (a := 4096) (b := 13312) (φ := .bf16) x0 P) (h1 : He (a := 1) (b := 1024) (φ := .f32) x1 L)
  (n : Fin 64) (h : Fin 8) (t : Fin 64) (i : Fin 128)

include h0 in
theorem ent_q : A_main_v20 x0 x1 (ix4 n h t i)
    = hq P h (n * 64 + t) i * Ideal.logistic (hq P h (n * 64 + t) i) * ((sc : ℝ) : EReal) := by
  have e : x0 (ix2 ⟨n.val * 64 + t.val, by omega⟩ ⟨h.val * 128 + i.val, by omega⟩) = hq P h (n * 64 + t) i :=
    (h0 _ _).trans (congrArg (P _) (show h.val * 128 + i.val = 0 + (128 * h.val + i.val) by omega))
  rw [← e, ← bits_sc]
  pointwise [A_main_v20, A_main_v18, A_main_v17, A_main_v16, A_main_call0_v5, A_main_call0_v3, A_main_call0_v1, A_main_call0_v0, A_main_v1, A_main_v0,
    K_main_v19, K_main_cst_2, K_main_call0_v4, K_main_call0_v2, K_main_call0_cst, K_main_call0_cst_0]
  rfl
include h0 in
theorem ent_v : A_main_v29 x0 x1 (ix4 n h t i) = hv P h (n * 64 + t) i := by
  have e : x0 (ix2 ⟨n.val * 64 + t.val, by omega⟩ ⟨3072 + (h.val * 128 + i.val), by omega⟩) = hv P h (n * 64 + t) i :=
    (h0 _ _).trans (congrArg (P _) (show 3072 + (h.val * 128 + i.val) = 3072 + (128 * h.val + i.val) by omega))
  rw [← e]
  pointwise [A_main_v29, A_main_v28, A_main_v3, A_main_v0]
include h0 h1 in
theorem gate (r : Fin 4096) (l : Fin 1024) : A_main_v15 x0 x1 (ix2 r l) = fg (cols 1024 P) L r l := by
  have e : x0 (ix2 r ⟨1024 + l.val, by omega⟩) = P r (1024 + l) := h0 r ⟨1024 + l.val, by omega⟩
  have e1 : x1 (ix2 0 l) = L 0 l := h1 0 l
  unfold fg cols
  rw [← e, ← e1]
  pointwise [A_main_v15, A_main_v14, A_main_v13, A_main_v12, A_main_v11, A_main_v9, A_main_v7, A_main_v6, A_main_v5, A_main_v2, A_main_v0, K_main_v4,
    K_main_cst, K_main_v8, K_main_cst_0, K_main_v10, K_main_cst_1]
  rfl
include h0 h1 in
theorem gate_h : A_main_v15 x0 x1 (ix2 ⟨n.val * 64 + t.val, by omega⟩ ⟨h.val * 128 + i.val, by omega⟩) = fg (hf P h) (hl L h) (n * 64 + t) i :=
  (gate h0 h1 _ _).trans (by
    show fg (cols 1024 P) L (n.val * 64 + t.val) (h.val * 128 + i.val) = _
    rw [Nat.mul_comm h.val 128]
    rfl)
include h0 h1 in
theorem ent_k : A_main_v24 x0 x1 (ix4 n h t i) = ky (hf P h) (hl L h) (n * 64 + t) i := by
  unfold ky
  rw [← gate_h h0 h1]
  pointwise [A_main_v24, A_main_v23, A_main_v22, K_main_v21, K_main_cst_3]
include h0 h1 in
theorem ent_f : A_main_v27 x0 x1 (ix4 n h t i) = lf (hf P h) (hl L h) (n * 64 + t) i := by
  unfold lf
  rw [← gate_h h0 h1]
  pointwise [A_main_v27, A_main_v26, A_main_v25]
end

/-- What a state holds before trip `n`. -/
structure Inv (P L : EMat) (s : State Ideal) (n : ℕ) : Prop where
  q : ∀ (a : Fin 64) (h : Fin 8) (t : Fin 64) (i : Fin 128), s.main_v35_0 (ix4 a h t i) = hq P h (a * 64 + t) i * Ideal.logistic (hq P h (a * 64 + t) i) * ((sc : ℝ) : EReal)
  k : ∀ (a : Fin 64) (h : Fin 8) (t : Fin 64) (i : Fin 128), s.main_v35_1 (ix4 a h t i) = ky (hf P h) (hl L h) (a * 64 + t) i
  v : ∀ (a : Fin 64) (h : Fin 8) (t : Fin 64) (i : Fin 128), s.main_v35_2 (ix4 a h t i) = hv P h (a * 64 + t) i
  f : ∀ (a : Fin 64) (h : Fin 8) (t : Fin 64) (i : Fin 128), s.main_v35_3 (ix4 a h t i) = lf (hf P h) (hl L h) (a * 64 + t) i
  S : ∀ (h : Fin 8) (i j : Fin 128), s.main_v35_6 (ix3 h i j) = hst P L n h j i
  o : ∀ (a : Fin 64) (h : Fin 8) (t : Fin 64) (j : Fin 128), a.val < n → s.main_v35_7 (ix4 a h t j) = hout P L (a * 64 + t) (128 * h + j)
  t : ∀ (a : Fin 64) (h : Fin 8) (i j : Fin 128), a.val < n → s.main_v35_8 (ix4 a h i j) = hst P L a h j i

theorem mask (t i : Fin 64) : Scalar.select (IntOp.cmpi CmpIPredicate.sge (IntOp.addi (BitVec.ofNat 32 t.val) 0#32) (BitVec.ofNat 32 i.val)) 1#1 0#1
    = if i.val ≤ t.val then 1#1 else 0#1 :=
  (by decide +kernel : ∀ t i : Fin 64, Scalar.select (IntOp.cmpi CmpIPredicate.sge (IntOp.addi (BitVec.ofNat 32 t.val) 0#32) (BitVec.ofNat 32 i.val)) 1#1 0#1
    = if i.val ≤ t.val then 1#1 else 0#1) t i

section
variable {P L : EMat} {s : State Ideal} {n : Fin 64} (H : Inv P L s n) (h : Fin 8) (t : Fin 64)
include H

theorem t_q (i : Fin 128) : b4 n.val s (ix3 h t i) = hq P h (n * 64 + t) i * Ideal.logistic (hq P h (n * 64 + t) i) * ((sc : ℝ) : EReal) :=
  (slice n _ s.main_v35_0 h t i).trans (H.q n h t i)
theorem t_k (i : Fin 128) : b9 n.val s (ix3 h t i) = ky (hf P h) (hl L h) (n * 64 + t) i :=
  (slice n _ s.main_v35_1 h t i).trans (H.k n h t i)
theorem t_v (i : Fin 128) : b14 n.val s (ix3 h t i) = hv P h (n * 64 + t) i :=
  (slice n _ s.main_v35_2 h t i).trans (H.v n h t i)
theorem t_f (i : Fin 128) : b19 n.val s (ix3 h t i) = lf (hf P h) (hl L h) (n * 64 + t) i :=
  (slice n _ s.main_v35_3 h t i).trans (H.f n h t i)
theorem t_b (i : Fin 128) : b22 n.val s (ix3 h t i) = cum (lf (hf P h) (hl L h)) (n * 64 + t) i :=
  running (b19 n.val s) (b21 n.val s) (by pointwise [b21, b20]) _ h t i n (fun u => t_f H h u i)
theorem t_qd (i : Fin 128) : b25 n.val s (ix3 h t i) = qd (hq P h) (hf P h) (hl L h) (n * 64 + t) i := by
  unfold qd
  rw [← t_q H h t i, ← t_b H h t i]
  pointwise [b25, b24]
theorem t_kd (i : Fin 128) : b28 n.val s (ix3 h t i) = kd (hf P h) (hl L h) (n * 64 + t) i := by
  unfold kd
  rw [← t_k H h t i, ← t_b H h t i, zero_sub]
  pointwise [b28, b27, b26]
theorem t_ks (i : Fin 128) : b32 n.val s (ix3 h t i) = ky (hf P h) (hl L h) (n * 64 + t) i
    * Ideal.exp (cum (lf (hf P h) (hl L h)) (n * 64 + 63) i - cum (lf (hf P h) (hl L h)) (n * 64 + t) i) := by
  have e := t_b H h 63 i
  rw [← t_k H h t i, ← t_b H h t i, show n.val * 64 + 63 = n.val * 64 + (63 : Fin 64).val from rfl, ← e]
  pointwise [b32, b31, b30, b29, b23]
theorem t_a (u : Fin 64) : b38 n.val s (ix3 h t u)
    = if u.val ≤ t.val then ∑ i : Fin 128, qd (hq P h) (hf P h) (hl L h) (n * 64 + t) i * kd (hf P h) (hl L h) (n * 64 + u) i else 0 := by
  have e : b33 n.val s (ix3 h t u) = ∑ i : Fin 128, qd (hq P h) (hf P h) (hl L h) (n * 64 + t) i * kd (hf P h) (hl L h) (n * 64 + u) i := by
    simp only [← t_qd H h t, ← t_kd H h u]
    pointwise [b33]
  rw [← e]
  pointwise [b38, b36, b37, b35, b34, K_main_v31, K_main_call1_v4, K_main_v30, K_main_call1_v5, K_main_c, K_main_call1_c_0, K_main_call1_v2, K_main_call1_v3,
    K_main_call1_v0, K_main_call1_v1, K_main_call1_c]
  rw [mask]
  split <;> rfl
theorem t_o (j : Fin 128) : b41 n.val s (ix3 h t j) = hout P L (n * 64 + t) (128 * h + j) := by
  have e : hout P L (n.val * 64 + t.val) (128 * h.val + j.val) = out (hq P h) (hf P h) (hv P h) (hl L h) (hst P L n h) (n * 64 + t) j := by
    unfold hout
    rw [show (128 * h.val + j.val) / 128 = h.val by omega, show (128 * h.val + j.val) % 128 = j.val by omega, show (n.val * 64 + t.val) / 64 = n.val by omega]
  rw [e]
  unfold out intra
  rw [show (n.val * 64 + t.val) / 64 * 64 = n.val * 64 by omega, show (n.val * 64 + t.val) % 64 = t.val by omega]
  simp only [← t_a H h t]
  simp only [← t_v H h, ← t_qd H h t, ← H.S h]
  pointwise [b41, b40, b39]
omit t in
theorem t_S (i j : Fin 128) : b48 n.val s (ix3 h i j) = hst P L (n + 1) h j i := by
  have e : hst P L (n.val + 1) h j i = dc (hf P h) (hl L h) n i * hst P L n h j i + kv (hf P h) (hv P h) (hl L h) n j i := rfl
  rw [e]
  unfold dc kv
  rw [← H.S h, show n.val * 64 + 63 = n.val * 64 + (63 : Fin 64).val from rfl]
  have e2 : ∀ x : Fin 64, hv P h (n * 64 + x) j * (ky (hf P h) (hl L h) (n * 64 + x) i
      * Ideal.exp (cum (lf (hf P h) (hl L h)) (n.val * 64 + (63 : Fin 64).val) i - cum (lf (hf P h) (hl L h)) (n * 64 + x) i))
      = b32 n.val s (ix3 h x i) * b14 n.val s (ix3 h x j) := fun x => by
    rw [t_ks H h x i, t_v H h x j, mul_comm]
    rfl
  simp only [e2]
  simp only [← t_b H h]
  pointwise [b48, b47, b46, b45, b44, b43, b42, b23]

theorem trip : Inv P L (step n s) (n + 1) where
  q := H.q
  k := H.k
  v := H.v
  f := H.f
  S := fun h i j => t_S H h i j
  o := fun a h t j ha => by
    refine (upd n updateFits_S64x8x64x128_S1x8x64x128 s.main_v35_7 (b41 n.val s) a h t j).trans ?_
    split
    · next e => subst e; exact t_o H h t j
    · next e => exact H.o a h t j (by have : a.val ≠ n.val := fun x => e (Fin.ext x); omega)
  t := fun a h i j ha => by
    refine (updt n updateFits_S64x8x128x128_S1x8x128x128 s.main_v35_8 s.main_v35_6 a h i j).trans ?_
    split
    · next e => subst e; exact H.S h i j
    · next e => exact H.t a h i j (by have : a.val ≠ n.val := fun x => e (Fin.ext x); omega)
end

section
variable {m : (ℓ : Loc nD τ sig) → Buf (Elt Ideal) ℓ} {c : Dev nD} {P L : EMat}
  (h0 : He (a := 4096) (b := 13312) (φ := .bf16) (m ((c : Thread nD τ).loc main_arg0)) P)
  (h1 : He (a := 1) (b := 1024) (φ := .f32) (m ((c : Thread nD τ).loc main_arg1)) L)
include h0 h1

theorem trips : ∀ n : ℕ, n ≤ 64 → Inv P L (Trip.iter m c n) n
  | 0, _ => {
      q := fun a h t i => ent_q (x1 := m ((c : Thread nD τ).loc main_arg1)) h0 a h t i
      k := fun a h t i => ent_k h0 h1 a h t i
      v := fun a h t i => ent_v (x1 := m ((c : Thread nD τ).loc main_arg1)) h0 a h t i
      f := fun a h t i => ent_f h0 h1 a h t i
      S := fun h i j => (show K_main_v32 (F := Ideal) (ix3 h i j) = 0 by pointwise [K_main_v32, K_main_cst_4])
      o := fun a h t j ha => absurd ha (Nat.not_lt_zero _)
      t := fun a h t j ha => absurd ha (Nat.not_lt_zero _) }
  | n + 1, hn => trip (n := ⟨n, by omega⟩) (trips n (by omega))

theorem rows : He (a := 4096) (b := 1024) (φ := .f32) (R_main_v37 (Trip.iter m c 64)) (hout P L) := fun r l => by
  have e := (trips h0 h1 64 le_rfl).o ⟨r.val / 64, by omega⟩ ⟨l.val / 128, by omega⟩ ⟨r.val % 64, by omega⟩ ⟨l.val % 128, by omega⟩ (show r.val / 64 < 64 by omega)
  have e2 : hout P L (r.val / 64 * 64 + r.val % 64) (128 * (l.val / 128) + l.val % 128) = hout P L r l := by
    rw [Nat.div_add_mod' r.val 64, Nat.div_add_mod l.val 128]
  refine Eq.trans ?_ (e.trans e2)
  pointwise [R_main_v37]
theorem states : R_main_v39 (Trip.iter m c 64) = fun i : S8x64x128x128.Idx => hst P L (i 1).val (i 0).val (i 2).val (i 3).val := funext fun i => by
  have e := (trips h0 h1 64 le_rfl).t (i 1) (i 0) (i 3) (i 2) (i 1).isLt
  refine Eq.trans ?_ e
  pointwise [R_main_v39]
end

end Cert.Reference6Ideal.Gla
end
-- ==== Proof.GlaClaim.lean ====
module

public import proofs.«01_k».proof.Defs
public import proofs.«01_k».proof.Proof.GlaFold
public import proofs.«01_k».proof.Proof.GlaRefB

@[expose] public section

noncomputable section

open Idealize.ShloMosaic Idealize.ShloMosaic.TcCoe Idealize.SL.Sem

set_option maxHeartbeats 4000000

namespace Cert.Proof.Gla

open Cert.In

theorem algebraic : Cert.algebraic_Kernel6Ideal_Reference6Ideal := by
  intro m g m' g' hpre hag
  refine ⟨_, _, Cert.Kernel6Ideal.Value.run_blocks (F := Ideal) m g, ?_⟩
  refine (θ_run _ _ _).mono (fun r h c => ?_) (Cert.Reference6Ideal.Trip.run m' g')
  obtain ⟨a0, a1⟩ := hag c
  obtain ⟨e0, e1, k⟩ := h c
  obtain ⟨P, h0⟩ : ∃ P, He (a := 4096) (b := 13312) (φ := .bf16) (m ((c.tc : Thread Cert.Kernel6Ideal.nD Cert.Kernel6Ideal.τ).loc Cert.Kernel6Ideal.main_arg0)) P := ⟨_, mat_at _⟩
  obtain ⟨L, h1⟩ : ∃ L, He (a := 1) (b := 1024) (φ := .f32) (m ((c.tc : Thread Cert.Kernel6Ideal.nD Cert.Kernel6Ideal.τ).loc Cert.Kernel6Ideal.main_arg1)) L := ⟨_, mat_at _⟩
  have r0 := h0
  have r1 := h1
  rw [← a0] at r0
  rw [← a1] at r1
  exact ⟨e0.trans ((Cert.Reference6Ideal.Gla.rows r0 r1).ext (Cert.Kernel6Ideal.Gla.final5 h0 h1)),
    e1.trans ((Cert.Reference6Ideal.Gla.states r0 r1).trans (Cert.Kernel6Ideal.Gla.final6 h0 h1).symm), k⟩

end Cert.Proof.Gla

end
-- ==== Proof.lean ====
/- The claims. The programs run to the end and leave their arguments as they were; the kernels' results are
   the references', the first two programs' at arguments that are real numbers, the others' at any arguments. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_finite2
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.MemClaim
public import proofs.«01_k».proof.Proof.TailClaim
public import proofs.«01_k».proof.Proof.DhClaim
public import proofs.«01_k».proof.Proof.InClaim
public import proofs.«01_k».proof.Proof.OptClaim
public import proofs.«01_k».proof.Proof.GlaClaim
public import Idealize.ShloMosaic.Adequacy
public import Idealize.ShloMosaic.Init

@[expose] public section

noncomputable section

namespace Cert.Proof

open Idealize.ShloMosaic Idealize.SL.Sem Cert.Kernel

theorem frame_r : Cert.quiescent_ReferenceIdeal := fun m g _ => (θ_run Cert.ReferenceIdeal.defs _ _).mono
  (fun r h => ⟨fun c => (h c).2.2.2.2.2, Idealize.ShloMosaic.sem_eq_zero_of_no_sems (by decide) r.2⟩)
  (Cert.ReferenceIdeal.Value.run (F := Ideal) m g)

theorem frame_r_pre : Cert.quiescent_ReferenceIdeal_pre_finite := fun m g _ => (θ_run Cert.ReferenceIdeal.defs _ _).mono
  (fun r h => ⟨fun c => (h c).2.2.2.2.2, Idealize.ShloMosaic.sem_eq_zero_of_no_sems (by decide) r.2⟩)
  (Cert.ReferenceIdeal.Value.run (F := Ideal) m g)

theorem frame_r2 : Cert.quiescent_Reference2Ideal := fun m g _ => (θ_run Cert.Reference2Ideal.defs _ _).mono
  (fun r h => ⟨fun c => (h c).2.2.2.2.2.2.2.2.2.2.2.2.2.2.2.2.2.2.2.2, Idealize.ShloMosaic.sem_eq_zero_of_no_sems (by decide) r.2⟩)
  (Cert.Reference2Ideal.Value.run (F := Ideal) m g)

theorem frame_r2_pre : Cert.quiescent_Reference2Ideal_pre_finite2 := fun m g _ => frame_r2 m g trivial

theorem frame_r3 : Cert.quiescent_Reference3Ideal := fun m g _ => (θ_run Cert.Reference3Ideal.defs _ _).mono
  (fun r h => ⟨fun c => (h c).2, Idealize.ShloMosaic.sem_eq_zero_of_no_sems (by decide) r.2⟩)
  (Cert.Reference3Ideal.Value.run (F := Ideal) m g)

theorem frame_r4 : Cert.quiescent_Reference4Ideal := fun m g _ => (θ_run Cert.Reference4Ideal.defs _ _).mono
  (fun r h => ⟨fun c => (h c).2.2.2.2.2, Idealize.ShloMosaic.sem_eq_zero_of_no_sems (by decide) r.2⟩)
  (Cert.Reference4Ideal.Value.run (F := Ideal) m g)

theorem frame_r5 : Cert.quiescent_Reference5Ideal := fun m g _ => (θ_run Cert.Reference5Ideal.defs _ _).mono
  (fun r h => ⟨fun c => (h c).2.2.2.2.2.2.2.2.2.2.2.2.2.2.2.2.2.2.2.2.2.2.2.2, Idealize.ShloMosaic.sem_eq_zero_of_no_sems (by decide) r.2⟩)
  (Cert.Reference5Ideal.Value.run (F := Ideal) m g)

theorem frame_r6 : Cert.quiescent_Reference6Ideal := fun m g _ => (θ_run Cert.Reference6Ideal.defs _ _).mono
  (fun r h => ⟨fun c => (h c).2.2, Idealize.ShloMosaic.sem_eq_zero_of_no_sems (by decide) r.2⟩)
  (Cert.Reference6Ideal.Trip.run m g)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Pre_finite.Gen.facts, Cert.Pre_finite2.Gen.facts,
    fun m ρ _ => Cert.Kernel.Gen.frame m ρ, fun m ρ _ => Cert.KernelIdeal.Gen.frame m ρ, fun m ρ _ => Cert.KernelIdeal.Gen.frame m ρ,
    frame_r, frame_r_pre,
    fun m ρ _ => Cert.Kernel2.Gen.frame m ρ, fun m ρ _ => Cert.Kernel2Ideal.Gen.frame m ρ, fun m ρ _ => Cert.Kernel2Ideal.Gen.frame m ρ,
    frame_r2, frame_r2_pre,
    fun m ρ _ => Cert.Kernel3.Gen.frame m ρ, fun m ρ _ => Cert.Kernel3Ideal.Gen.frame m ρ, frame_r3,
    fun m ρ _ => Cert.Kernel4.Gen.frame m ρ, fun m ρ _ => Cert.Kernel4Ideal.Gen.frame m ρ, frame_r4,
    fun m ρ _ => Cert.Kernel5.Gen.frame m ρ, fun m ρ _ => Cert.Kernel5Ideal.Gen.frame m ρ, frame_r5,
    fun m ρ _ => Cert.Kernel6.Gen.frame m ρ, fun m ρ _ => Cert.Kernel6Ideal.Gen.frame m ρ, frame_r6,
    trivial, Cert.Proof.Mem.algebraic, trivial, Cert.Proof.Tail.algebraic,
    trivial, Cert.Proof.Dh.algebraic, trivial, Cert.Proof.In.algebraic, trivial, Cert.Proof.Opt.algebraic,
    trivial, Cert.Proof.Gla.algebraic⟩

end Cert.Proof

end
